-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S100000x128 : Shape := ⟨2, ![100000, 128]⟩
abbrev S1000x128 : Shape := ⟨2, ![1000, 128]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn_part3 {F : FTy → Type} [FloatOps F] (main_arg6 : IVec S16384 32) (main_v46 : IVec S_ 1) (main_c_23 : IVec S_ 32) : IVec S_ 1 :=
  let main_v47 : IVec S16384 32 := broadcastInDim S16384 ![] bcast_S_S16384 main_c_23
  let main_v48 : IVec S16384 1 := cmpi .sge main_arg6 main_v47
  let main_c_24 : IVec S_ 1 := constantI S_ 1 1#1
  let main_v49 : IVec S_ 1 := (fun x v => Host.reduce IntOp.andi x v reducesTo_S16384_S_d0 h_S_) main_v48 main_c_24
  let main_v50 : IVec S_ 1 := andi main_v46 main_v49
  let main_c_25 : IVec S_ 32 := constantI S_ 32 100000#32
  let main_v51 : IVec S16384 32 := broadcastInDim S16384 ![] bcast_S_S16384 main_c_25
  let main_v52 : IVec S16384 1 := cmpi .slt main_arg6 main_v51
  let main_c_26 : IVec S_ 1 := constantI S_ 1 1#1
  let main_v53 : IVec S_ 1 := (fun x v => Host.reduce IntOp.andi x v reducesTo_S16384_S_d0 h_S_) main_v52 main_c_26
  let main_v54 : IVec S_ 1 := andi main_v50 main_v53
  main_v54

def fn_part2 {F : FTy → Type} [FloatOps F] (main_arg4 : IVec S16384 32) (main_arg5 : IVec S16384 32) (main_arg6 : IVec S16384 32) (main_v30 : IVec S_ 1) (main_c_15 : IVec S_ 32) : IVec S_ 1 :=
  let main_v31 : IVec S16384 32 := broadcastInDim S16384 ![] bcast_S_S16384 main_c_15
  let main_v32 : IVec S16384 1 := cmpi .sge main_arg4 main_v31
  let main_c_16 : IVec S_ 1 := constantI S_ 1 1#1
  let main_v33 : IVec S_ 1 := (fun x v => Host.reduce IntOp.andi x v reducesTo_S16384_S_d0 h_S_) main_v32 main_c_16
  let main_v34 : IVec S_ 1 := andi main_v30 main_v33
  let main_c_17 : IVec S_ 32 := constantI S_ 32 100000#32
  let main_v35 : IVec S16384 32 := broadcastInDim S16384 ![] bcast_S_S16384 main_c_17
  let main_v36 : IVec S16384 1 := cmpi .slt main_arg4 main_v35
  let main_c_18 : IVec S_ 1 := constantI S_ 1 1#1
  let main_v37 : IVec S_ 1 := (fun x v => Host.reduce IntOp.andi x v reducesTo_S16384_S_d0 h_S_) main_v36 main_c_18
  let main_v38 : IVec S_ 1 := andi main_v34 main_v37
  let main_c_19 : IVec S_ 32 := constantI S_ 32 0#32
  let main_v39 : IVec S16384 32 := broadcastInDim S16384 ![] bcast_S_S16384 main_c_19
  let main_v40 : IVec S16384 1 := cmpi .sge main_arg5 main_v39
  let main_c_20 : IVec S_ 1 := constantI S_ 1 1#1
  let main_v41 : IVec S_ 1 := (fun x v => Host.reduce IntOp.andi x v reducesTo_S16384_S_d0 h_S_) main_v40 main_c_20
  let main_v42 : IVec S_ 1 := andi main_v38 main_v41
  let main_c_21 : IVec S_ 32 := constantI S_ 32 100000#32
  let main_v43 : IVec S16384 32 := broadcastInDim S16384 ![] bcast_S_S16384 main_c_21
  let main_v44 : IVec S16384 1 := cmpi .slt main_arg5 main_v43
  let main_c_22 : IVec S_ 1 := constantI S_ 1 1#1
  let main_v45 : IVec S_ 1 := (fun x v => Host.reduce IntOp.andi x v reducesTo_S16384_S_d0 h_S_) main_v44 main_c_22
  let main_v46 : IVec S_ 1 := andi main_v42 main_v45
  let main_c_23 : IVec S_ 32 := constantI S_ 32 0#32
  fn_part3 (F := F) main_arg6 main_v46 main_c_23

def fn_part1 {F : FTy → Type} [FloatOps F] (main_arg2 : IVec S16384 32) (main_arg3 : IVec S16384 32) (main_arg4 : IVec S16384 32) (main_arg5 : IVec S16384 32) (main_arg6 : IVec S16384 32) (main_v14 : IVec S_ 1) (main_c_7 : IVec S_ 32) : IVec S_ 1 :=
  let main_v15 : IVec S16384 32 := broadcastInDim S16384 ![] bcast_S_S16384 main_c_7
  let main_v16 : IVec S16384 1 := cmpi .sge main_arg2 main_v15
  let main_c_8 : IVec S_ 1 := constantI S_ 1 1#1
  let main_v17 : IVec S_ 1 := (fun x v => Host.reduce IntOp.andi x v reducesTo_S16384_S_d0 h_S_) main_v16 main_c_8
  let main_v18 : IVec S_ 1 := andi main_v14 main_v17
  let main_c_9 : IVec S_ 32 := constantI S_ 32 100000#32
  let main_v19 : IVec S16384 32 := broadcastInDim S16384 ![] bcast_S_S16384 main_c_9
  let main_v20 : IVec S16384 1 := cmpi .slt main_arg2 main_v19
  let main_c_10 : IVec S_ 1 := constantI S_ 1 1#1
  let main_v21 : IVec S_ 1 := (fun x v => Host.reduce IntOp.andi x v reducesTo_S16384_S_d0 h_S_) main_v20 main_c_10
  let main_v22 : IVec S_ 1 := andi main_v18 main_v21
  let main_c_11 : IVec S_ 32 := constantI S_ 32 0#32
  let main_v23 : IVec S16384 32 := broadcastInDim S16384 ![] bcast_S_S16384 main_c_11
  let main_v24 : IVec S16384 1 := cmpi .sge main_arg3 main_v23
  let main_c_12 : IVec S_ 1 := constantI S_ 1 1#1
  let main_v25 : IVec S_ 1 := (fun x v => Host.reduce IntOp.andi x v reducesTo_S16384_S_d0 h_S_) main_v24 main_c_12
  let main_v26 : IVec S_ 1 := andi main_v22 main_v25
  let main_c_13 : IVec S_ 32 := constantI S_ 32 100000#32
  let main_v27 : IVec S16384 32 := broadcastInDim S16384 ![] bcast_S_S16384 main_c_13
  let main_v28 : IVec S16384 1 := cmpi .slt main_arg3 main_v27
  let main_c_14 : IVec S_ 1 := constantI S_ 1 1#1
  let main_v29 : IVec S_ 1 := (fun x v => Host.reduce IntOp.andi x v reducesTo_S16384_S_d0 h_S_) main_v28 main_c_14
  let main_v30 : IVec S_ 1 := andi main_v26 main_v29
  let main_c_15 : IVec S_ 32 := constantI S_ 32 0#32
  fn_part2 (F := F) main_arg4 main_arg5 main_arg6 main_v30 main_c_15

def fn {F : FTy → Type} [FloatOps F] (main_arg0 : IVec S16384 32) (main_arg1 : IVec S16384 32) (main_arg2 : IVec S16384 32) (main_arg3 : IVec S16384 32) (main_arg4 : IVec S16384 32) (main_arg5 : IVec S16384 32) (main_arg6 : IVec S16384 32) (main_arg7 : FVec F S100000x128 .f32) (main_arg8 : FVec F S1000x128 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 1000#32
  let main_v3 : IVec S16384 32 := broadcastInDim S16384 ![] bcast_S_S16384 main_c_1
  let main_v4 : IVec S16384 1 := cmpi .slt main_arg0 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_c_3 : IVec S_ 32 := constantI S_ 32 0#32
  let main_v7 : IVec S16384 32 := broadcastInDim S16384 ![] bcast_S_S16384 main_c_3
  let main_v8 : IVec S16384 1 := cmpi .sge main_arg1 main_v7
  let main_c_4 : IVec S_ 1 := constantI S_ 1 1#1
  let main_v9 : IVec S_ 1 := (fun x v => Host.reduce IntOp.andi x v reducesTo_S16384_S_d0 h_S_) main_v8 main_c_4
  let main_v10 : IVec S_ 1 := andi main_v6 main_v9
  let main_c_5 : IVec S_ 32 := constantI S_ 32 100000#32
  let main_v11 : IVec S16384 32 := broadcastInDim S16384 ![] bcast_S_S16384 main_c_5
  let main_v12 : IVec S16384 1 := cmpi .slt main_arg1 main_v11
  let main_c_6 : IVec S_ 1 := constantI S_ 1 1#1
  let main_v13 : IVec S_ 1 := (fun x v => Host.reduce IntOp.andi x v reducesTo_S16384_S_d0 h_S_) main_v12 main_c_6
  let main_v14 : IVec S_ 1 := andi main_v10 main_v13
  let main_c_7 : IVec S_ 32 := constantI S_ 32 0#32
  fn_part1 (F := F) main_arg2 main_arg3 main_arg4 main_arg5 main_arg6 main_v14 main_c_7
-- ==== Kernel.lean ====
abbrev S16384 : Shape := ⟨1, ![16384]⟩
abbrev S100000x128 : Shape := ⟨2, ![100000, 128]⟩
abbrev S1000x128 : Shape := ⟨2, ![1000, 128]⟩
abbrev S7x8x64 : Shape := ⟨3, ![7, 8, 64]⟩
abbrev S2x7x64x128 : Shape := ⟨4, ![2, 7, 64, 128]⟩
abbrev S1088 : Shape := ⟨1, ![1088]⟩
abbrev S512 : Shape := ⟨1, ![512]⟩
abbrev S_ : Shape := ⟨0, ![]⟩
abbrev S1x1x64 : Shape := ⟨3, ![1, 1, 64]⟩
abbrev S64 : Shape := ⟨1, ![64]⟩
abbrev S16 : Shape := ⟨1, ![16]⟩
abbrev S1x1x64x128 : Shape := ⟨4, ![1, 1, 64, 128]⟩
abbrev S64x128 : Shape := ⟨2, ![64, 128]⟩
abbrev S1x1x1x128 : Shape := ⟨4, ![1, 1, 1, 128]⟩
abbrev S128 : Shape := ⟨1, ![128]⟩

abbrev nBuf : Table → Nat
  | .hbm => 10
  | .local .scVector .vmem => 4
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S16384, .i32⟩
  | .hbm, ⟨6, _⟩ => ⟨S16384, .i32⟩
  | .hbm, ⟨7, _⟩ => ⟨S100000x128, .f32⟩
  | .hbm, ⟨8, _⟩ => ⟨S1000x128, .f32⟩
  | .hbm, ⟨9, _⟩ => ⟨S16384, .f32⟩
  | .local .scVector .vmem, ⟨0, _⟩ => ⟨S7x8x64, .i32⟩
  | .local .scVector .vmem, ⟨1, _⟩ => ⟨S2x7x64x128, .f32⟩
  | .local .scVector .vmem, ⟨2, _⟩ => ⟨S1088, .f32⟩
  | .local .scVector .vmem, ⟨3, _⟩ => ⟨S512, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_arg5_scv : Ref sig .scVector := ⟨.hbm, 5, rfl⟩
abbrev main_arg6_scv : Ref sig .scVector := ⟨.hbm, 6, rfl⟩
abbrev main_arg7_scv : Ref sig .scVector := ⟨.hbm, 7, rfl⟩
abbrev main_arg8_scv : Ref sig .scVector := ⟨.hbm, 8, rfl⟩
abbrev main_v0_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) (c64_i32_189 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v349 : BitVec 32 := Scalar.addi v2 c64_i32_189
  ![v349.toNat]
@[reducible] def k0_t1_loop : Scf.Loop 32 :=
  let c0_i32_759 : BitVec 32 := 0#32
  let c32_i32_760 : BitVec 32 := 32#32
  let v1064 : BitVec 32 := Scalar.addi c0_i32_759 c32_i32_760
  let c1_i32_761 : BitVec 32 := 1#32
  ⟨c0_i32_759, v1064, c1_i32_761⟩
def k0_off3 (k0_t1 : Fin k0_t1_loop.trips) : Fin 4 → Nat :=
  let c0_i32_2130 : BitVec 32 := 0#32
  let c0_i32_2131 : BitVec 32 := 0#32
  let c0_i32_759 : BitVec 32 := 0#32
  let c1_i32_761 : BitVec 32 := 1#32
  let arg19 : BitVec 32 := Scf.iv c0_i32_759 c1_i32_761 k0_t1
  let c2_i32_2129 : BitVec 32 := 2#32
  let v3631 : BitVec 32 := Scalar.muli arg19 c2_i32_2129
  let c0_i32_2132 : BitVec 32 := 0#32
  ![0, 0, v3631.toNat, 0]
def k0_off4 (k0_t1 : Fin k0_t1_loop.trips) : Fin 4 → Nat :=
  let c0_i32_2134 : BitVec 32 := 0#32
  let c1_i32_2135 : BitVec 32 := 1#32
  let c0_i32_759 : BitVec 32 := 0#32
  let c1_i32_761 : BitVec 32 := 1#32
  let arg19 : BitVec 32 := Scf.iv c0_i32_759 c1_i32_761 k0_t1
  let c2_i32_2129 : BitVec 32 := 2#32
  let v3631 : BitVec 32 := Scalar.muli arg19 c2_i32_2129
  let c0_i32_2136 : BitVec 32 := 0#32
  ![0, 1, v3631.toNat, 0]
def k0_off5 (k0_t1 : Fin k0_t1_loop.trips) : Fin 4 → Nat :=
  let c0_i32_2194 : BitVec 32 := 0#32
  let c2_i32_2195 : BitVec 32 := 2#32
  let c0_i32_759 : BitVec 32 := 0#32
  let c1_i32_761 : BitVec 32 := 1#32
  let arg19 : BitVec 32 := Scf.iv c0_i32_759 c1_i32_761 k0_t1
  let c2_i32_2129 : BitVec 32 := 2#32
  let v3631 : BitVec 32 := Scalar.muli arg19 c2_i32_2129
  let c0_i32_2196 : BitVec 32 := 0#32
  ![0, 2, v3631.toNat, 0]
def k0_off6 (k0_t1 : Fin k0_t1_loop.trips) : Fin 4 → Nat :=
  let c0_i32_2212 : BitVec 32 := 0#32
  let c2_i32_2213 : BitVec 32 := 2#32
  let c0_i32_759 : BitVec 32 := 0#32
  let c1_i32_761 : BitVec 32 := 1#32
  let arg19 : BitVec 32 := Scf.iv c0_i32_759 c1_i32_761 k0_t1
  let c2_i32_2129 : BitVec 32 := 2#32
  let v3631 : BitVec 32 := Scalar.muli arg19 c2_i32_2129
  let c0_i32_2214 : BitVec 32 := 0#32
  ![0, 2, v3631.toNat, 0]
def k0_off7 (k0_t1 : Fin k0_t1_loop.trips) : Fin 4 → Nat :=
  let c0_i32_2215 : BitVec 32 := 0#32
  let c3_i32_2216 : BitVec 32 := 3#32
  let c0_i32_759 : BitVec 32 := 0#32
  let c1_i32_761 : BitVec 32 := 1#32
  let arg19 : BitVec 32 := Scf.iv c0_i32_759 c1_i32_761 k0_t1
  let c2_i32_2129 : BitVec 32 := 2#32
  let v3631 : BitVec 32 := Scalar.muli arg19 c2_i32_2129
  let c0_i32_2217 : BitVec 32 := 0#32
  ![0, 3, v3631.toNat, 0]
def k0_off8 (k0_t1 : Fin k0_t1_loop.trips) : Fin 4 → Nat :=
  let c0_i32_2230 : BitVec 32 := 0#32
  let c3_i32_2231 : BitVec 32 := 3#32
  let c0_i32_759 : BitVec 32 := 0#32
  let c1_i32_761 : BitVec 32 := 1#32
  let arg19 : BitVec 32 := Scf.iv c0_i32_759 c1_i32_761 k0_t1
  let c2_i32_2129 : BitVec 32 := 2#32
  let v3631 : BitVec 32 := Scalar.muli arg19 c2_i32_2129
  let c0_i32_2232 : BitVec 32 := 0#32
  ![0, 3, v3631.toNat, 0]
def k0_off9 (k0_t1 : Fin k0_t1_loop.trips) : Fin 4 → Nat :=
  let c0_i32_2236 : BitVec 32 := 0#32
  let c4_i32_2237 : BitVec 32 := 4#32
  let c0_i32_759 : BitVec 32 := 0#32
  let c1_i32_761 : BitVec 32 := 1#32
  let arg19 : BitVec 32 := Scf.iv c0_i32_759 c1_i32_761 k0_t1
  let c2_i32_2129 : BitVec 32 := 2#32
  let v3631 : BitVec 32 := Scalar.muli arg19 c2_i32_2129
  let c0_i32_2238 : BitVec 32 := 0#32
  ![0, 4, v3631.toNat, 0]
def k0_off10 (k0_t1 : Fin k0_t1_loop.trips) : Fin 4 → Nat :=
  let c0_i32_2268 : BitVec 32 := 0#32
  let c5_i32_2269 : BitVec 32 := 5#32
  let c0_i32_759 : BitVec 32 := 0#32
  let c1_i32_761 : BitVec 32 := 1#32
  let arg19 : BitVec 32 := Scf.iv c0_i32_759 c1_i32_761 k0_t1
  let c2_i32_2129 : BitVec 32 := 2#32
  let v3631 : BitVec 32 := Scalar.muli arg19 c2_i32_2129
  let c0_i32_2270 : BitVec 32 := 0#32
  ![0, 5, v3631.toNat, 0]
def k0_off11 (k0_t1 : Fin k0_t1_loop.trips) : Fin 4 → Nat :=
  let c0_i32_2276 : BitVec 32 := 0#32
  let c5_i32_2277 : BitVec 32 := 5#32
  let c0_i32_759 : BitVec 32 := 0#32
  let c1_i32_761 : BitVec 32 := 1#32
  let arg19 : BitVec 32 := Scf.iv c0_i32_759 c1_i32_761 k0_t1
  let c2_i32_2129 : BitVec 32 := 2#32
  let v3631 : BitVec 32 := Scalar.muli arg19 c2_i32_2129
  let c0_i32_2278 : BitVec 32 := 0#32
  ![0, 5, v3631.toNat, 0]
def k0_off12 (k0_t1 : Fin k0_t1_loop.trips) : Fin 4 → Nat :=
  let c0_i32_2296 : BitVec 32 := 0#32
  let c6_i32_2297 : BitVec 32 := 6#32
  let c0_i32_759 : BitVec 32 := 0#32
  let c1_i32_761 : BitVec 32 := 1#32
  let arg19 : BitVec 32 := Scf.iv c0_i32_759 c1_i32_761 k0_t1
  let c2_i32_2129 : BitVec 32 := 2#32
  let v3631 : BitVec 32 := Scalar.muli arg19 c2_i32_2129
  let c0_i32_2298 : BitVec 32 := 0#32
  ![0, 6, v3631.toNat, 0]

def k0_chk1 (v179 : IVec S16 32) (v207 : IVec S16 32) (v259 : IVec S16 32) (v287 : IVec S16 32) (v1056 : IVec S16 32) (v1059 : IVec S16 32) (v1060 : IVec S16 32) (v1062 : IVec S16 32) (v1063 : IVec S16 32) (v3632 : IVec S16 32) : Prop :=
  (∀ a x, ((![v1056, v1059, v3632, v179] : Fin 4 → IVec S16 32) a x).toNat < S2x7x64x128.size a) ∧
  (∀ a x, ((![v1056, v1060, v3632, v207] : Fin 4 → IVec S16 32) a x).toNat < S2x7x64x128.size a) ∧
  (∀ a x, ((![v1056, v1062, v3632, v259] : Fin 4 → IVec S16 32) a x).toNat < S2x7x64x128.size a) ∧
  (∀ a x, ((![v1056, v1063, v3632, v287] : Fin 4 → IVec S16 32) a x).toNat < S2x7x64x128.size a)
theorem k0_idx1_inb : ∀ (v179 : IVec S16 32) (v207 : IVec S16 32) (v259 : IVec S16 32) (v287 : IVec S16 32) (v1056 : IVec S16 32) (v1059 : IVec S16 32) (v1060 : IVec S16 32) (v1062 : IVec S16 32) (v1063 : IVec S16 32) (v3632 : IVec S16 32) (k0_hw1 : k0_chk1 v179 v207 v259 v287 v1056 v1059 v1060 v1062 v1063 v3632), ∀ a x, ((![v1056, v1059, v3632, v179] : Fin 4 → IVec S16 32) a x).toNat < S2x7x64x128.size a := fun v179 v207 v259 v287 v1056 v1059 v1060 v1062 v1063 v3632 k0_hw1 => k0_hw1.1
theorem k0_idx2_inb : ∀ (v179 : IVec S16 32) (v207 : IVec S16 32) (v259 : IVec S16 32) (v287 : IVec S16 32) (v1056 : IVec S16 32) (v1059 : IVec S16 32) (v1060 : IVec S16 32) (v1062 : IVec S16 32) (v1063 : IVec S16 32) (v3632 : IVec S16 32) (k0_hw1 : k0_chk1 v179 v207 v259 v287 v1056 v1059 v1060 v1062 v1063 v3632), ∀ a x, ((![v1056, v1060, v3632, v207] : Fin 4 → IVec S16 32) a x).toNat < S2x7x64x128.size a := fun v179 v207 v259 v287 v1056 v1059 v1060 v1062 v1063 v3632 k0_hw1 => k0_hw1.2.1
theorem k0_idx3_inb : ∀ (v179 : IVec S16 32) (v207 : IVec S16 32) (v259 : IVec S16 32) (v287 : IVec S16 32) (v1056 : IVec S16 32) (v1059 : IVec S16 32) (v1060 : IVec S16 32) (v1062 : IVec S16 32) (v1063 : IVec S16 32) (v3632 : IVec S16 32) (k0_hw1 : k0_chk1 v179 v207 v259 v287 v1056 v1059 v1060 v1062 v1063 v3632), ∀ a x, ((![v1056, v1062, v3632, v259] : Fin 4 → IVec S16 32) a x).toNat < S2x7x64x128.size a := fun v179 v207 v259 v287 v1056 v1059 v1060 v1062 v1063 v3632 k0_hw1 => k0_hw1.2.2.1
theorem k0_idx4_inb : ∀ (v179 : IVec S16 32) (v207 : IVec S16 32) (v259 : IVec S16 32) (v287 : IVec S16 32) (v1056 : IVec S16 32) (v1059 : IVec S16 32) (v1060 : IVec S16 32) (v1062 : IVec S16 32) (v1063 : IVec S16 32) (v3632 : IVec S16 32) (k0_hw1 : k0_chk1 v179 v207 v259 v287 v1056 v1059 v1060 v1062 v1063 v3632), ∀ a x, ((![v1056, v1063, v3632, v287] : Fin 4 → IVec S16 32) a x).toNat < S2x7x64x128.size a := fun v179 v207 v259 v287 v1056 v1059 v1060 v1062 v1063 v3632 k0_hw1 => k0_hw1.2.2.2
def k0_off13 (k0_t1 : Fin k0_t1_loop.trips) : Fin 4 → Nat :=
  let c0_i32_2300 : BitVec 32 := 0#32
  let c6_i32_2301 : BitVec 32 := 6#32
  let c0_i32_759 : BitVec 32 := 0#32
  let c1_i32_761 : BitVec 32 := 1#32
  let arg19 : BitVec 32 := Scf.iv c0_i32_759 c1_i32_761 k0_t1
  let c2_i32_2129 : BitVec 32 := 2#32
  let v3631 : BitVec 32 := Scalar.muli arg19 c2_i32_2129
  let c0_i32_2302 : BitVec 32 := 0#32
  ![0, 6, v3631.toNat, 0]
def k0_off14 (k0_t1 : Fin k0_t1_loop.trips) : Fin 1 → Nat :=
  let c0_i32_759 : BitVec 32 := 0#32
  let c1_i32_761 : BitVec 32 := 1#32
  let arg19 : BitVec 32 := Scf.iv c0_i32_759 c1_i32_761 k0_t1
  let c2_i32_2129 : BitVec 32 := 2#32
  let v3631 : BitVec 32 := Scalar.muli arg19 c2_i32_2129
  let c17_i32_2324 : BitVec 32 := 17#32
  let v3848 : BitVec 32 := Scalar.muli v3631 c17_i32_2324
  let v3849 : Index := Scalar.indexCast v3848
  ![v3849.toNat]
def k0_off15 (k0_t1 : Fin k0_t1_loop.trips) : Fin 4 → Nat :=
  let c0_i32_2327 : BitVec 32 := 0#32
  let c0_i32_2328 : BitVec 32 := 0#32
  let c0_i32_759 : BitVec 32 := 0#32
  let c1_i32_761 : BitVec 32 := 1#32
  let arg19 : BitVec 32 := Scf.iv c0_i32_759 c1_i32_761 k0_t1
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2329 : BitVec 32 := 0#32
  ![0, 0, v3851.toNat, 0]
def k0_off16 (k0_t1 : Fin k0_t1_loop.trips) : Fin 4 → Nat :=
  let c0_i32_2331 : BitVec 32 := 0#32
  let c1_i32_2332 : BitVec 32 := 1#32
  let c0_i32_759 : BitVec 32 := 0#32
  let c1_i32_761 : BitVec 32 := 1#32
  let arg19 : BitVec 32 := Scf.iv c0_i32_759 c1_i32_761 k0_t1
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2333 : BitVec 32 := 0#32
  ![0, 1, v3851.toNat, 0]
def k0_off17 (k0_t1 : Fin k0_t1_loop.trips) : Fin 4 → Nat :=
  let c0_i32_2391 : BitVec 32 := 0#32
  let c2_i32_2392 : BitVec 32 := 2#32
  let c0_i32_759 : BitVec 32 := 0#32
  let c1_i32_761 : BitVec 32 := 1#32
  let arg19 : BitVec 32 := Scf.iv c0_i32_759 c1_i32_761 k0_t1
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2393 : BitVec 32 := 0#32
  ![0, 2, v3851.toNat, 0]
def k0_off18 (k0_t1 : Fin k0_t1_loop.trips) : Fin 4 → Nat :=
  let c0_i32_2415 : BitVec 32 := 0#32
  let c2_i32_2416 : BitVec 32 := 2#32
  let c0_i32_759 : BitVec 32 := 0#32
  let c1_i32_761 : BitVec 32 := 1#32
  let arg19 : BitVec 32 := Scf.iv c0_i32_759 c1_i32_761 k0_t1
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2417 : BitVec 32 := 0#32
  ![0, 2, v3851.toNat, 0]
def k0_off19 (k0_t1 : Fin k0_t1_loop.trips) : Fin 4 → Nat :=
  let c0_i32_2419 : BitVec 32 := 0#32
  let c3_i32_2420 : BitVec 32 := 3#32
  let c0_i32_759 : BitVec 32 := 0#32
  let c1_i32_761 : BitVec 32 := 1#32
  let arg19 : BitVec 32 := Scf.iv c0_i32_759 c1_i32_761 k0_t1
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2421 : BitVec 32 := 0#32
  ![0, 3, v3851.toNat, 0]
def k0_off20 (k0_t1 : Fin k0_t1_loop.trips) : Fin 4 → Nat :=
  let c0_i32_2447 : BitVec 32 := 0#32
  let c4_i32_2448 : BitVec 32 := 4#32
  let c0_i32_759 : BitVec 32 := 0#32
  let c1_i32_761 : BitVec 32 := 1#32
  let arg19 : BitVec 32 := Scf.iv c0_i32_759 c1_i32_761 k0_t1
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2449 : BitVec 32 := 0#32
  ![0, 4, v3851.toNat, 0]
def k0_off21 (k0_t1 : Fin k0_t1_loop.trips) : Fin 4 → Nat :=
  let c0_i32_2479 : BitVec 32 := 0#32
  let c5_i32_2480 : BitVec 32 := 5#32
  let c0_i32_759 : BitVec 32 := 0#32
  let c1_i32_761 : BitVec 32 := 1#32
  let arg19 : BitVec 32 := Scf.iv c0_i32_759 c1_i32_761 k0_t1
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2481 : BitVec 32 := 0#32
  ![0, 5, v3851.toNat, 0]
def k0_off22 (k0_t1 : Fin k0_t1_loop.trips) : Fin 4 → Nat :=
  let c0_i32_2507 : BitVec 32 := 0#32
  let c6_i32_2508 : BitVec 32 := 6#32
  let c0_i32_759 : BitVec 32 := 0#32
  let c1_i32_761 : BitVec 32 := 1#32
  let arg19 : BitVec 32 := Scf.iv c0_i32_759 c1_i32_761 k0_t1
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2509 : BitVec 32 := 0#32
  ![0, 6, v3851.toNat, 0]

def k0_chk2 (v179 : IVec S16 32) (v207 : IVec S16 32) (v259 : IVec S16 32) (v287 : IVec S16 32) (v1056 : IVec S16 32) (v1059 : IVec S16 32) (v1060 : IVec S16 32) (v1062 : IVec S16 32) (v1063 : IVec S16 32) (v3853 : IVec S16 32) : Prop :=
  (∀ a x, ((![v1056, v1059, v3853, v179] : Fin 4 → IVec S16 32) a x).toNat < S2x7x64x128.size a) ∧
  (∀ a x, ((![v1056, v1060, v3853, v207] : Fin 4 → IVec S16 32) a x).toNat < S2x7x64x128.size a) ∧
  (∀ a x, ((![v1056, v1062, v3853, v259] : Fin 4 → IVec S16 32) a x).toNat < S2x7x64x128.size a) ∧
  (∀ a x, ((![v1056, v1063, v3853, v287] : Fin 4 → IVec S16 32) a x).toNat < S2x7x64x128.size a)
theorem k0_idx5_inb : ∀ (v179 : IVec S16 32) (v207 : IVec S16 32) (v259 : IVec S16 32) (v287 : IVec S16 32) (v1056 : IVec S16 32) (v1059 : IVec S16 32) (v1060 : IVec S16 32) (v1062 : IVec S16 32) (v1063 : IVec S16 32) (v3853 : IVec S16 32) (k0_hw2 : k0_chk2 v179 v207 v259 v287 v1056 v1059 v1060 v1062 v1063 v3853), ∀ a x, ((![v1056, v1059, v3853, v179] : Fin 4 → IVec S16 32) a x).toNat < S2x7x64x128.size a := fun v179 v207 v259 v287 v1056 v1059 v1060 v1062 v1063 v3853 k0_hw2 => k0_hw2.1
theorem k0_idx6_inb : ∀ (v179 : IVec S16 32) (v207 : IVec S16 32) (v259 : IVec S16 32) (v287 : IVec S16 32) (v1056 : IVec S16 32) (v1059 : IVec S16 32) (v1060 : IVec S16 32) (v1062 : IVec S16 32) (v1063 : IVec S16 32) (v3853 : IVec S16 32) (k0_hw2 : k0_chk2 v179 v207 v259 v287 v1056 v1059 v1060 v1062 v1063 v3853), ∀ a x, ((![v1056, v1060, v3853, v207] : Fin 4 → IVec S16 32) a x).toNat < S2x7x64x128.size a := fun v179 v207 v259 v287 v1056 v1059 v1060 v1062 v1063 v3853 k0_hw2 => k0_hw2.2.1
theorem k0_idx7_inb : ∀ (v179 : IVec S16 32) (v207 : IVec S16 32) (v259 : IVec S16 32) (v287 : IVec S16 32) (v1056 : IVec S16 32) (v1059 : IVec S16 32) (v1060 : IVec S16 32) (v1062 : IVec S16 32) (v1063 : IVec S16 32) (v3853 : IVec S16 32) (k0_hw2 : k0_chk2 v179 v207 v259 v287 v1056 v1059 v1060 v1062 v1063 v3853), ∀ a x, ((![v1056, v1062, v3853, v259] : Fin 4 → IVec S16 32) a x).toNat < S2x7x64x128.size a := fun v179 v207 v259 v287 v1056 v1059 v1060 v1062 v1063 v3853 k0_hw2 => k0_hw2.2.2.1
theorem k0_idx8_inb : ∀ (v179 : IVec S16 32) (v207 : IVec S16 32) (v259 : IVec S16 32) (v287 : IVec S16 32) (v1056 : IVec S16 32) (v1059 : IVec S16 32) (v1060 : IVec S16 32) (v1062 : IVec S16 32) (v1063 : IVec S16 32) (v3853 : IVec S16 32) (k0_hw2 : k0_chk2 v179 v207 v259 v287 v1056 v1059 v1060 v1062 v1063 v3853), ∀ a x, ((![v1056, v1063, v3853, v287] : Fin 4 → IVec S16 32) a x).toNat < S2x7x64x128.size a := fun v179 v207 v259 v287 v1056 v1059 v1060 v1062 v1063 v3853 k0_hw2 => k0_hw2.2.2.2
def k0_off23 (k0_t1 : Fin k0_t1_loop.trips) : Fin 1 → Nat :=
  let c0_i32_759 : BitVec 32 := 0#32
  let c1_i32_761 : BitVec 32 := 1#32
  let arg19 : BitVec 32 := Scf.iv c0_i32_759 c1_i32_761 k0_t1
  let c2_i32_2129 : BitVec 32 := 2#32
  let v3631 : BitVec 32 := Scalar.muli arg19 c2_i32_2129
  let c1_i32_2325 : BitVec 32 := 1#32
  let v3851 : BitVec 32 := Scalar.addi v3631 c1_i32_2325
  let c17_i32_2535 : BitVec 32 := 17#32
  let v4069 : BitVec 32 := Scalar.muli v3851 c17_i32_2535
  let v4070 : Index := Scalar.indexCast v4069
  ![v4070.toNat]

def k0_chk3 (v1066 : IVec S16 32) : Prop :=
  (∀ a x, ((![v1066] : Fin 1 → IVec S16 32) a x).toNat < S1088.size a)
theorem k0_idx9_inb : ∀ (v1066 : IVec S16 32) (k0_hw3 : k0_chk3 v1066), ∀ a x, ((![v1066] : Fin 1 → IVec S16 32) a x).toNat < S1088.size a := fun v1066 k0_hw3 => k0_hw3

def k0_chk4 (v1069 : IVec S16 32) : Prop :=
  (∀ a x, ((![v1069] : Fin 1 → IVec S16 32) a x).toNat < S1088.size a)
theorem k0_idx10_inb : ∀ (v1069 : IVec S16 32) (k0_hw4 : k0_chk4 v1069), ∀ a x, ((![v1069] : Fin 1 → IVec S16 32) a x).toNat < S1088.size a := fun v1069 k0_hw4 => k0_hw4

def k0_chk5 (v1073 : IVec S16 32) : Prop :=
  (∀ a x, ((![v1073] : Fin 1 → IVec S16 32) a x).toNat < S1088.size a)
theorem k0_idx11_inb : ∀ (v1073 : IVec S16 32) (k0_hw5 : k0_chk5 v1073), ∀ a x, ((![v1073] : Fin 1 → IVec S16 32) a x).toNat < S1088.size a := fun v1073 k0_hw5 => k0_hw5

def k0_chk6 (v1077 : IVec S16 32) : Prop :=
  (∀ a x, ((![v1077] : Fin 1 → IVec S16 32) a x).toNat < S1088.size a)
theorem k0_idx12_inb : ∀ (v1077 : IVec S16 32) (k0_hw6 : k0_chk6 v1077), ∀ a x, ((![v1077] : Fin 1 → IVec S16 32) a x).toNat < S1088.size a := fun v1077 k0_hw6 => k0_hw6

def k0_chk7 (v1081 : IVec S16 32) : Prop :=
  (∀ a x, ((![v1081] : Fin 1 → IVec S16 32) a x).toNat < S1088.size a)
theorem k0_idx13_inb : ∀ (v1081 : IVec S16 32) (k0_hw7 : k0_chk7 v1081), ∀ a x, ((![v1081] : Fin 1 → IVec S16 32) a x).toNat < S1088.size a := fun v1081 k0_hw7 => k0_hw7

def k0_chk8 (v1085 : IVec S16 32) : Prop :=
  (∀ a x, ((![v1085] : Fin 1 → IVec S16 32) a x).toNat < S1088.size a)
theorem k0_idx14_inb : ∀ (v1085 : IVec S16 32) (k0_hw8 : k0_chk8 v1085), ∀ a x, ((![v1085] : Fin 1 → IVec S16 32) a x).toNat < S1088.size a := fun v1085 k0_hw8 => k0_hw8

def k0_chk9 (v1089 : IVec S16 32) : Prop :=
  (∀ a x, ((![v1089] : Fin 1 → IVec S16 32) a x).toNat < S1088.size a)
theorem k0_idx15_inb : ∀ (v1089 : IVec S16 32) (k0_hw9 : k0_chk9 v1089), ∀ a x, ((![v1089] : Fin 1 → IVec S16 32) a x).toNat < S1088.size a := fun v1089 k0_hw9 => k0_hw9

def k0_chk10 (v1093 : IVec S16 32) : Prop :=
  (∀ a x, ((![v1093] : Fin 1 → IVec S16 32) a x).toNat < S1088.size a)
theorem k0_idx16_inb : ∀ (v1093 : IVec S16 32) (k0_hw10 : k0_chk10 v1093), ∀ a x, ((![v1093] : Fin 1 → IVec S16 32) a x).toNat < S1088.size a := fun v1093 k0_hw10 => k0_hw10

def k0_chk11 (v1097 : IVec S16 32) : Prop :=
  (∀ a x, ((![v1097] : Fin 1 → IVec S16 32) a x).toNat < S1088.size a)
theorem k0_idx17_inb : ∀ (v1097 : IVec S16 32) (k0_hw11 : k0_chk11 v1097), ∀ a x, ((![v1097] : Fin 1 → IVec S16 32) a x).toNat < S1088.size a := fun v1097 k0_hw11 => k0_hw11

def k0_chk12 (v1101 : IVec S16 32) : Prop :=
  (∀ a x, ((![v1101] : Fin 1 → IVec S16 32) a x).toNat < S1088.size a)
theorem k0_idx18_inb : ∀ (v1101 : IVec S16 32) (k0_hw12 : k0_chk12 v1101), ∀ a x, ((![v1101] : Fin 1 → IVec S16 32) a x).toNat < S1088.size a := fun v1101 k0_hw12 => k0_hw12

def k0_chk13 (v1105 : IVec S16 32) : Prop :=
  (∀ a x, ((![v1105] : Fin 1 → IVec S16 32) a x).toNat < S1088.size a)
theorem k0_idx19_inb : ∀ (v1105 : IVec S16 32) (k0_hw13 : k0_chk13 v1105), ∀ a x, ((![v1105] : Fin 1 → IVec S16 32) a x).toNat < S1088.size a := fun v1105 k0_hw13 => k0_hw13

def k0_chk14 (v1109 : IVec S16 32) : Prop :=
  (∀ a x, ((![v1109] : Fin 1 → IVec S16 32) a x).toNat < S1088.size a)
theorem k0_idx20_inb : ∀ (v1109 : IVec S16 32) (k0_hw14 : k0_chk14 v1109), ∀ a x, ((![v1109] : Fin 1 → IVec S16 32) a x).toNat < S1088.size a := fun v1109 k0_hw14 => k0_hw14

def k0_chk15 (v1113 : IVec S16 32) : Prop :=
  (∀ a x, ((![v1113] : Fin 1 → IVec S16 32) a x).toNat < S1088.size a)
theorem k0_idx21_inb : ∀ (v1113 : IVec S16 32) (k0_hw15 : k0_chk15 v1113), ∀ a x, ((![v1113] : Fin 1 → IVec S16 32) a x).toNat < S1088.size a := fun v1113 k0_hw15 => k0_hw15

def k0_chk16 (v1117 : IVec S16 32) : Prop :=
  (∀ a x, ((![v1117] : Fin 1 → IVec S16 32) a x).toNat < S1088.size a)
theorem k0_idx22_inb : ∀ (v1117 : IVec S16 32) (k0_hw16 : k0_chk16 v1117), ∀ a x, ((![v1117] : Fin 1 → IVec S16 32) a x).toNat < S1088.size a := fun v1117 k0_hw16 => k0_hw16

def k0_chk17 (v1121 : IVec S16 32) : Prop :=
  (∀ a x, ((![v1121] : Fin 1 → IVec S16 32) a x).toNat < S1088.size a)
theorem k0_idx23_inb : ∀ (v1121 : IVec S16 32) (k0_hw17 : k0_chk17 v1121), ∀ a x, ((![v1121] : Fin 1 → IVec S16 32) a x).toNat < S1088.size a := fun v1121 k0_hw17 => k0_hw17

def k0_chk18 (v1125 : IVec S16 32) : Prop :=
  (∀ a x, ((![v1125] : Fin 1 → IVec S16 32) a x).toNat < S1088.size a)
theorem k0_idx24_inb : ∀ (v1125 : IVec S16 32) (k0_hw18 : k0_chk18 v1125), ∀ a x, ((![v1125] : Fin 1 → IVec S16 32) a x).toNat < S1088.size a := fun v1125 k0_hw18 => k0_hw18

def k0_chk19 (v1130 : IVec S16 32) : Prop :=
  (∀ a x, ((![v1130] : Fin 1 → IVec S16 32) a x).toNat < S1088.size a)
theorem k0_idx25_inb : ∀ (v1130 : IVec S16 32) (k0_hw19 : k0_chk19 v1130), ∀ a x, ((![v1130] : Fin 1 → IVec S16 32) a x).toNat < S1088.size a := fun v1130 k0_hw19 => k0_hw19

def k0_chk20 (v1133 : IVec S16 32) : Prop :=
  (∀ a x, ((![v1133] : Fin 1 → IVec S16 32) a x).toNat < S1088.size a)
theorem k0_idx26_inb : ∀ (v1133 : IVec S16 32) (k0_hw20 : k0_chk20 v1133), ∀ a x, ((![v1133] : Fin 1 → IVec S16 32) a x).toNat < S1088.size a := fun v1133 k0_hw20 => k0_hw20

def k0_chk21 (v1137 : IVec S16 32) : Prop :=
  (∀ a x, ((![v1137] : Fin 1 → IVec S16 32) a x).toNat < S1088.size a)
theorem k0_idx27_inb : ∀ (v1137 : IVec S16 32) (k0_hw21 : k0_chk21 v1137), ∀ a x, ((![v1137] : Fin 1 → IVec S16 32) a x).toNat < S1088.size a := fun v1137 k0_hw21 => k0_hw21

def k0_chk22 (v1141 : IVec S16 32) : Prop :=
  (∀ a x, ((![v1141] : Fin 1 → IVec S16 32) a x).toNat < S1088.size a)
theorem k0_idx28_inb : ∀ (v1141 : IVec S16 32) (k0_hw22 : k0_chk22 v1141), ∀ a x, ((![v1141] : Fin 1 → IVec S16 32) a x).toNat < S1088.size a := fun v1141 k0_hw22 => k0_hw22

def k0_chk23 (v1145 : IVec S16 32) : Prop :=
  (∀ a x, ((![v1145] : Fin 1 → IVec S16 32) a x).toNat < S1088.size a)
theorem k0_idx29_inb : ∀ (v1145 : IVec S16 32) (k0_hw23 : k0_chk23 v1145), ∀ a x, ((![v1145] : Fin 1 → IVec S16 32) a x).toNat < S1088.size a := fun v1145 k0_hw23 => k0_hw23

def k0_chk24 (v1149 : IVec S16 32) : Prop :=
  (∀ a x, ((![v1149] : Fin 1 → IVec S16 32) a x).toNat < S1088.size a)
theorem k0_idx30_inb : ∀ (v1149 : IVec S16 32) (k0_hw24 : k0_chk24 v1149), ∀ a x, ((![v1149] : Fin 1 → IVec S16 32) a x).toNat < S1088.size a := fun v1149 k0_hw24 => k0_hw24

def k0_chk25 (v1153 : IVec S16 32) : Prop :=
  (∀ a x, ((![v1153] : Fin 1 → IVec S16 32) a x).toNat < S1088.size a)
theorem k0_idx31_inb : ∀ (v1153 : IVec S16 32) (k0_hw25 : k0_chk25 v1153), ∀ a x, ((![v1153] : Fin 1 → IVec S16 32) a x).toNat < S1088.size a := fun v1153 k0_hw25 => k0_hw25

def k0_chk26 (v1157 : IVec S16 32) : Prop :=
  (∀ a x, ((![v1157] : Fin 1 → IVec S16 32) a x).toNat < S1088.size a)
theorem k0_idx32_inb : ∀ (v1157 : IVec S16 32) (k0_hw26 : k0_chk26 v1157), ∀ a x, ((![v1157] : Fin 1 → IVec S16 32) a x).toNat < S1088.size a := fun v1157 k0_hw26 => k0_hw26

def k0_chk27 (v1161 : IVec S16 32) : Prop :=
  (∀ a x, ((![v1161] : Fin 1 → IVec S16 32) a x).toNat < S1088.size a)
theorem k0_idx33_inb : ∀ (v1161 : IVec S16 32) (k0_hw27 : k0_chk27 v1161), ∀ a x, ((![v1161] : Fin 1 → IVec S16 32) a x).toNat < S1088.size a := fun v1161 k0_hw27 => k0_hw27

def k0_chk28 (v1165 : IVec S16 32) : Prop :=
  (∀ a x, ((![v1165] : Fin 1 → IVec S16 32) a x).toNat < S1088.size a)
theorem k0_idx34_inb : ∀ (v1165 : IVec S16 32) (k0_hw28 : k0_chk28 v1165), ∀ a x, ((![v1165] : Fin 1 → IVec S16 32) a x).toNat < S1088.size a := fun v1165 k0_hw28 => k0_hw28

def k0_chk29 (v1169 : IVec S16 32) : Prop :=
  (∀ a x, ((![v1169] : Fin 1 → IVec S16 32) a x).toNat < S1088.size a)
theorem k0_idx35_inb : ∀ (v1169 : IVec S16 32) (k0_hw29 : k0_chk29 v1169), ∀ a x, ((![v1169] : Fin 1 → IVec S16 32) a x).toNat < S1088.size a := fun v1169 k0_hw29 => k0_hw29

def k0_chk30 (v1173 : IVec S16 32) : Prop :=
  (∀ a x, ((![v1173] : Fin 1 → IVec S16 32) a x).toNat < S1088.size a)
theorem k0_idx36_inb : ∀ (v1173 : IVec S16 32) (k0_hw30 : k0_chk30 v1173), ∀ a x, ((![v1173] : Fin 1 → IVec S16 32) a x).toNat < S1088.size a := fun v1173 k0_hw30 => k0_hw30

def k0_chk31 (v1177 : IVec S16 32) : Prop :=
  (∀ a x, ((![v1177] : Fin 1 → IVec S16 32) a x).toNat < S1088.size a)
theorem k0_idx37_inb : ∀ (v1177 : IVec S16 32) (k0_hw31 : k0_chk31 v1177), ∀ a x, ((![v1177] : Fin 1 → IVec S16 32) a x).toNat < S1088.size a := fun v1177 k0_hw31 => k0_hw31

def k0_chk32 (v1181 : IVec S16 32) : Prop :=
  (∀ a x, ((![v1181] : Fin 1 → IVec S16 32) a x).toNat < S1088.size a)
theorem k0_idx38_inb : ∀ (v1181 : IVec S16 32) (k0_hw32 : k0_chk32 v1181), ∀ a x, ((![v1181] : Fin 1 → IVec S16 32) a x).toNat < S1088.size a := fun v1181 k0_hw32 => k0_hw32

def k0_chk33 (v1185 : IVec S16 32) : Prop :=
  (∀ a x, ((![v1185] : Fin 1 → IVec S16 32) a x).toNat < S1088.size a)
theorem k0_idx39_inb : ∀ (v1185 : IVec S16 32) (k0_hw33 : k0_chk33 v1185), ∀ a x, ((![v1185] : Fin 1 → IVec S16 32) a x).toNat < S1088.size a := fun v1185 k0_hw33 => k0_hw33

def k0_chk34 (v1189 : IVec S16 32) : Prop :=
  (∀ a x, ((![v1189] : Fin 1 → IVec S16 32) a x).toNat < S1088.size a)
theorem k0_idx40_inb : ∀ (v1189 : IVec S16 32) (k0_hw34 : k0_chk34 v1189), ∀ a x, ((![v1189] : Fin 1 → IVec S16 32) a x).toNat < S1088.size a := fun v1189 k0_hw34 => k0_hw34

def k0_chk35 (v1194 : IVec S16 32) : Prop :=
  (∀ a x, ((![v1194] : Fin 1 → IVec S16 32) a x).toNat < S1088.size a)
theorem k0_idx41_inb : ∀ (v1194 : IVec S16 32) (k0_hw35 : k0_chk35 v1194), ∀ a x, ((![v1194] : Fin 1 → IVec S16 32) a x).toNat < S1088.size a := fun v1194 k0_hw35 => k0_hw35

def k0_chk36 (v1197 : IVec S16 32) : Prop :=
  (∀ a x, ((![v1197] : Fin 1 → IVec S16 32) a x).toNat < S1088.size a)
theorem k0_idx42_inb : ∀ (v1197 : IVec S16 32) (k0_hw36 : k0_chk36 v1197), ∀ a x, ((![v1197] : Fin 1 → IVec S16 32) a x).toNat < S1088.size a := fun v1197 k0_hw36 => k0_hw36

def k0_chk37 (v1201 : IVec S16 32) : Prop :=
  (∀ a x, ((![v1201] : Fin 1 → IVec S16 32) a x).toNat < S1088.size a)
theorem k0_idx43_inb : ∀ (v1201 : IVec S16 32) (k0_hw37 : k0_chk37 v1201), ∀ a x, ((![v1201] : Fin 1 → IVec S16 32) a x).toNat < S1088.size a := fun v1201 k0_hw37 => k0_hw37

def k0_chk38 (v1205 : IVec S16 32) : Prop :=
  (∀ a x, ((![v1205] : Fin 1 → IVec S16 32) a x).toNat < S1088.size a)
theorem k0_idx44_inb : ∀ (v1205 : IVec S16 32) (k0_hw38 : k0_chk38 v1205), ∀ a x, ((![v1205] : Fin 1 → IVec S16 32) a x).toNat < S1088.size a := fun v1205 k0_hw38 => k0_hw38

def k0_chk39 (v1209 : IVec S16 32) : Prop :=
  (∀ a x, ((![v1209] : Fin 1 → IVec S16 32) a x).toNat < S1088.size a)
theorem k0_idx45_inb : ∀ (v1209 : IVec S16 32) (k0_hw39 : k0_chk39 v1209), ∀ a x, ((![v1209] : Fin 1 → IVec S16 32) a x).toNat < S1088.size a := fun v1209 k0_hw39 => k0_hw39

def k0_chk40 (v1213 : IVec S16 32) : Prop :=
  (∀ a x, ((![v1213] : Fin 1 → IVec S16 32) a x).toNat < S1088.size a)
theorem k0_idx46_inb : ∀ (v1213 : IVec S16 32) (k0_hw40 : k0_chk40 v1213), ∀ a x, ((![v1213] : Fin 1 → IVec S16 32) a x).toNat < S1088.size a := fun v1213 k0_hw40 => k0_hw40

def k0_chk41 (v1217 : IVec S16 32) : Prop :=
  (∀ a x, ((![v1217] : Fin 1 → IVec S16 32) a x).toNat < S1088.size a)
theorem k0_idx47_inb : ∀ (v1217 : IVec S16 32) (k0_hw41 : k0_chk41 v1217), ∀ a x, ((![v1217] : Fin 1 → IVec S16 32) a x).toNat < S1088.size a := fun v1217 k0_hw41 => k0_hw41

def k0_chk42 (v1221 : IVec S16 32) : Prop :=
  (∀ a x, ((![v1221] : Fin 1 → IVec S16 32) a x).toNat < S1088.size a)
theorem k0_idx48_inb : ∀ (v1221 : IVec S16 32) (k0_hw42 : k0_chk42 v1221), ∀ a x, ((![v1221] : Fin 1 → IVec S16 32) a x).toNat < S1088.size a := fun v1221 k0_hw42 => k0_hw42

def k0_chk43 (v1225 : IVec S16 32) : Prop :=
  (∀ a x, ((![v1225] : Fin 1 → IVec S16 32) a x).toNat < S1088.size a)
theorem k0_idx49_inb : ∀ (v1225 : IVec S16 32) (k0_hw43 : k0_chk43 v1225), ∀ a x, ((![v1225] : Fin 1 → IVec S16 32) a x).toNat < S1088.size a := fun v1225 k0_hw43 => k0_hw43

def k0_chk44 (v1229 : IVec S16 32) : Prop :=
  (∀ a x, ((![v1229] : Fin 1 → IVec S16 32) a x).toNat < S1088.size a)
theorem k0_idx50_inb : ∀ (v1229 : IVec S16 32) (k0_hw44 : k0_chk44 v1229), ∀ a x, ((![v1229] : Fin 1 → IVec S16 32) a x).toNat < S1088.size a := fun v1229 k0_hw44 => k0_hw44

def k0_chk45 (v1233 : IVec S16 32) : Prop :=
  (∀ a x, ((![v1233] : Fin 1 → IVec S16 32) a x).toNat < S1088.size a)
theorem k0_idx51_inb : ∀ (v1233 : IVec S16 32) (k0_hw45 : k0_chk45 v1233), ∀ a x, ((![v1233] : Fin 1 → IVec S16 32) a x).toNat < S1088.size a := fun v1233 k0_hw45 => k0_hw45

def k0_chk46 (v1237 : IVec S16 32) : Prop :=
  (∀ a x, ((![v1237] : Fin 1 → IVec S16 32) a x).toNat < S1088.size a)
theorem k0_idx52_inb : ∀ (v1237 : IVec S16 32) (k0_hw46 : k0_chk46 v1237), ∀ a x, ((![v1237] : Fin 1 → IVec S16 32) a x).toNat < S1088.size a := fun v1237 k0_hw46 => k0_hw46

def k0_chk47 (v1241 : IVec S16 32) : Prop :=
  (∀ a x, ((![v1241] : Fin 1 → IVec S16 32) a x).toNat < S1088.size a)
theorem k0_idx53_inb : ∀ (v1241 : IVec S16 32) (k0_hw47 : k0_chk47 v1241), ∀ a x, ((![v1241] : Fin 1 → IVec S16 32) a x).toNat < S1088.size a := fun v1241 k0_hw47 => k0_hw47

def k0_chk48 (v1245 : IVec S16 32) : Prop :=
  (∀ a x, ((![v1245] : Fin 1 → IVec S16 32) a x).toNat < S1088.size a)
theorem k0_idx54_inb : ∀ (v1245 : IVec S16 32) (k0_hw48 : k0_chk48 v1245), ∀ a x, ((![v1245] : Fin 1 → IVec S16 32) a x).toNat < S1088.size a := fun v1245 k0_hw48 => k0_hw48

def k0_chk49 (v1249 : IVec S16 32) : Prop :=
  (∀ a x, ((![v1249] : Fin 1 → IVec S16 32) a x).toNat < S1088.size a)
theorem k0_idx55_inb : ∀ (v1249 : IVec S16 32) (k0_hw49 : k0_chk49 v1249), ∀ a x, ((![v1249] : Fin 1 → IVec S16 32) a x).toNat < S1088.size a := fun v1249 k0_hw49 => k0_hw49

def k0_chk50 (v1253 : IVec S16 32) : Prop :=
  (∀ a x, ((![v1253] : Fin 1 → IVec S16 32) a x).toNat < S1088.size a)
theorem k0_idx56_inb : ∀ (v1253 : IVec S16 32) (k0_hw50 : k0_chk50 v1253), ∀ a x, ((![v1253] : Fin 1 → IVec S16 32) a x).toNat < S1088.size a := fun v1253 k0_hw50 => k0_hw50

def k0_chk51 (v1258 : IVec S16 32) : Prop :=
  (∀ a x, ((![v1258] : Fin 1 → IVec S16 32) a x).toNat < S1088.size a)
theorem k0_idx57_inb : ∀ (v1258 : IVec S16 32) (k0_hw51 : k0_chk51 v1258), ∀ a x, ((![v1258] : Fin 1 → IVec S16 32) a x).toNat < S1088.size a := fun v1258 k0_hw51 => k0_hw51

def k0_chk52 (v1261 : IVec S16 32) : Prop :=
  (∀ a x, ((![v1261] : Fin 1 → IVec S16 32) a x).toNat < S1088.size a)
theorem k0_idx58_inb : ∀ (v1261 : IVec S16 32) (k0_hw52 : k0_chk52 v1261), ∀ a x, ((![v1261] : Fin 1 → IVec S16 32) a x).toNat < S1088.size a := fun v1261 k0_hw52 => k0_hw52

def k0_chk53 (v1265 : IVec S16 32) : Prop :=
  (∀ a x, ((![v1265] : Fin 1 → IVec S16 32) a x).toNat < S1088.size a)
theorem k0_idx59_inb : ∀ (v1265 : IVec S16 32) (k0_hw53 : k0_chk53 v1265), ∀ a x, ((![v1265] : Fin 1 → IVec S16 32) a x).toNat < S1088.size a := fun v1265 k0_hw53 => k0_hw53

def k0_chk54 (v1269 : IVec S16 32) : Prop :=
  (∀ a x, ((![v1269] : Fin 1 → IVec S16 32) a x).toNat < S1088.size a)
theorem k0_idx60_inb : ∀ (v1269 : IVec S16 32) (k0_hw54 : k0_chk54 v1269), ∀ a x, ((![v1269] : Fin 1 → IVec S16 32) a x).toNat < S1088.size a := fun v1269 k0_hw54 => k0_hw54

def k0_chk55 (v1273 : IVec S16 32) : Prop :=
  (∀ a x, ((![v1273] : Fin 1 → IVec S16 32) a x).toNat < S1088.size a)
theorem k0_idx61_inb : ∀ (v1273 : IVec S16 32) (k0_hw55 : k0_chk55 v1273), ∀ a x, ((![v1273] : Fin 1 → IVec S16 32) a x).toNat < S1088.size a := fun v1273 k0_hw55 => k0_hw55

def k0_chk56 (v1277 : IVec S16 32) : Prop :=
  (∀ a x, ((![v1277] : Fin 1 → IVec S16 32) a x).toNat < S1088.size a)
theorem k0_idx62_inb : ∀ (v1277 : IVec S16 32) (k0_hw56 : k0_chk56 v1277), ∀ a x, ((![v1277] : Fin 1 → IVec S16 32) a x).toNat < S1088.size a := fun v1277 k0_hw56 => k0_hw56

def k0_chk57 (v1281 : IVec S16 32) : Prop :=
  (∀ a x, ((![v1281] : Fin 1 → IVec S16 32) a x).toNat < S1088.size a)
theorem k0_idx63_inb : ∀ (v1281 : IVec S16 32) (k0_hw57 : k0_chk57 v1281), ∀ a x, ((![v1281] : Fin 1 → IVec S16 32) a x).toNat < S1088.size a := fun v1281 k0_hw57 => k0_hw57

def k0_chk58 (v1285 : IVec S16 32) : Prop :=
  (∀ a x, ((![v1285] : Fin 1 → IVec S16 32) a x).toNat < S1088.size a)
theorem k0_idx64_inb : ∀ (v1285 : IVec S16 32) (k0_hw58 : k0_chk58 v1285), ∀ a x, ((![v1285] : Fin 1 → IVec S16 32) a x).toNat < S1088.size a := fun v1285 k0_hw58 => k0_hw58

def k0_chk59 (v1289 : IVec S16 32) : Prop :=
  (∀ a x, ((![v1289] : Fin 1 → IVec S16 32) a x).toNat < S1088.size a)
theorem k0_idx65_inb : ∀ (v1289 : IVec S16 32) (k0_hw59 : k0_chk59 v1289), ∀ a x, ((![v1289] : Fin 1 → IVec S16 32) a x).toNat < S1088.size a := fun v1289 k0_hw59 => k0_hw59

def k0_chk60 (v1293 : IVec S16 32) : Prop :=
  (∀ a x, ((![v1293] : Fin 1 → IVec S16 32) a x).toNat < S1088.size a)
theorem k0_idx66_inb : ∀ (v1293 : IVec S16 32) (k0_hw60 : k0_chk60 v1293), ∀ a x, ((![v1293] : Fin 1 → IVec S16 32) a x).toNat < S1088.size a := fun v1293 k0_hw60 => k0_hw60

def k0_chk61 (v1297 : IVec S16 32) : Prop :=
  (∀ a x, ((![v1297] : Fin 1 → IVec S16 32) a x).toNat < S1088.size a)
theorem k0_idx67_inb : ∀ (v1297 : IVec S16 32) (k0_hw61 : k0_chk61 v1297), ∀ a x, ((![v1297] : Fin 1 → IVec S16 32) a x).toNat < S1088.size a := fun v1297 k0_hw61 => k0_hw61

def k0_chk62 (v1301 : IVec S16 32) : Prop :=
  (∀ a x, ((![v1301] : Fin 1 → IVec S16 32) a x).toNat < S1088.size a)
theorem k0_idx68_inb : ∀ (v1301 : IVec S16 32) (k0_hw62 : k0_chk62 v1301), ∀ a x, ((![v1301] : Fin 1 → IVec S16 32) a x).toNat < S1088.size a := fun v1301 k0_hw62 => k0_hw62

def k0_chk63 (v1305 : IVec S16 32) : Prop :=
  (∀ a x, ((![v1305] : Fin 1 → IVec S16 32) a x).toNat < S1088.size a)
theorem k0_idx69_inb : ∀ (v1305 : IVec S16 32) (k0_hw63 : k0_chk63 v1305), ∀ a x, ((![v1305] : Fin 1 → IVec S16 32) a x).toNat < S1088.size a := fun v1305 k0_hw63 => k0_hw63

def k0_chk64 (v1309 : IVec S16 32) : Prop :=
  (∀ a x, ((![v1309] : Fin 1 → IVec S16 32) a x).toNat < S1088.size a)
theorem k0_idx70_inb : ∀ (v1309 : IVec S16 32) (k0_hw64 : k0_chk64 v1309), ∀ a x, ((![v1309] : Fin 1 → IVec S16 32) a x).toNat < S1088.size a := fun v1309 k0_hw64 => k0_hw64

def k0_chk65 (v1313 : IVec S16 32) : Prop :=
  (∀ a x, ((![v1313] : Fin 1 → IVec S16 32) a x).toNat < S1088.size a)
theorem k0_idx71_inb : ∀ (v1313 : IVec S16 32) (k0_hw65 : k0_chk65 v1313), ∀ a x, ((![v1313] : Fin 1 → IVec S16 32) a x).toNat < S1088.size a := fun v1313 k0_hw65 => k0_hw65

def k0_chk66 (v1317 : IVec S16 32) : Prop :=
  (∀ a x, ((![v1317] : Fin 1 → IVec S16 32) a x).toNat < S1088.size a)
theorem k0_idx72_inb : ∀ (v1317 : IVec S16 32) (k0_hw66 : k0_chk66 v1317), ∀ a x, ((![v1317] : Fin 1 → IVec S16 32) a x).toNat < S1088.size a := fun v1317 k0_hw66 => k0_hw66
@[reducible] def k0_t2_loop : Scf.Loop 32 :=
  let c0_i32_906 : BitVec 32 := 0#32
  let c32_i32_907 : BitVec 32 := 32#32
  let v1399 : BitVec 32 := Scalar.addi c0_i32_906 c32_i32_907
  let c1_i32_908 : BitVec 32 := 1#32
  ⟨c0_i32_906, v1399, c1_i32_908⟩
def k0_off24 (k0_t2 : Fin k0_t2_loop.trips) : Fin 4 → Nat :=
  let c1_i32_2130 : BitVec 32 := 1#32
  let c0_i32_2131 : BitVec 32 := 0#32
  let c0_i32_906 : BitVec 32 := 0#32
  let c1_i32_908 : BitVec 32 := 1#32
  let arg19 : BitVec 32 := Scf.iv c0_i32_906 c1_i32_908 k0_t2
  let c2_i32_2129 : BitVec 32 := 2#32
  let v3631 : BitVec 32 := Scalar.muli arg19 c2_i32_2129
  let c0_i32_2132 : BitVec 32 := 0#32
  ![1, 0, v3631.toNat, 0]
def k0_off25 (k0_t2 : Fin k0_t2_loop.trips) : Fin 4 → Nat :=
  let c1_i32_2134 : BitVec 32 := 1#32
  let c1_i32_2135 : BitVec 32 := 1#32
  let c0_i32_906 : BitVec 32 := 0#32
  let c1_i32_908 : BitVec 32 := 1#32
  let arg19 : BitVec 32 := Scf.iv c0_i32_906 c1_i32_908 k0_t2
  let c2_i32_2129 : BitVec 32 := 2#32
  let v3631 : BitVec 32 := Scalar.muli arg19 c2_i32_2129
  let c0_i32_2136 : BitVec 32 := 0#32
  ![1, 1, v3631.toNat, 0]
def k0_off26 (k0_t2 : Fin k0_t2_loop.trips) : Fin 4 → Nat :=
  let c1_i32_2194 : BitVec 32 := 1#32
  let c2_i32_2195 : BitVec 32 := 2#32
  let c0_i32_906 : BitVec 32 := 0#32
  let c1_i32_908 : BitVec 32 := 1#32
  let arg19 : BitVec 32 := Scf.iv c0_i32_906 c1_i32_908 k0_t2
  let c2_i32_2129 : BitVec 32 := 2#32
  let v3631 : BitVec 32 := Scalar.muli arg19 c2_i32_2129
  let c0_i32_2196 : BitVec 32 := 0#32
  ![1, 2, v3631.toNat, 0]
def k0_off27 (k0_t2 : Fin k0_t2_loop.trips) : Fin 4 → Nat :=
  let c1_i32_2212 : BitVec 32 := 1#32
  let c2_i32_2213 : BitVec 32 := 2#32
  let c0_i32_906 : BitVec 32 := 0#32
  let c1_i32_908 : BitVec 32 := 1#32
  let arg19 : BitVec 32 := Scf.iv c0_i32_906 c1_i32_908 k0_t2
  let c2_i32_2129 : BitVec 32 := 2#32
  let v3631 : BitVec 32 := Scalar.muli arg19 c2_i32_2129
  let c0_i32_2214 : BitVec 32 := 0#32
  ![1, 2, v3631.toNat, 0]
def k0_off28 (k0_t2 : Fin k0_t2_loop.trips) : Fin 4 → Nat :=
  let c1_i32_2215 : BitVec 32 := 1#32
  let c3_i32_2216 : BitVec 32 := 3#32
  let c0_i32_906 : BitVec 32 := 0#32
  let c1_i32_908 : BitVec 32 := 1#32
  let arg19 : BitVec 32 := Scf.iv c0_i32_906 c1_i32_908 k0_t2
  let c2_i32_2129 : BitVec 32 := 2#32
  let v3631 : BitVec 32 := Scalar.muli arg19 c2_i32_2129
  let c0_i32_2217 : BitVec 32 := 0#32
  ![1, 3, v3631.toNat, 0]
def k0_off29 (k0_t2 : Fin k0_t2_loop.trips) : Fin 4 → Nat :=
  let c1_i32_2230 : BitVec 32 := 1#32
  let c3_i32_2231 : BitVec 32 := 3#32
  let c0_i32_906 : BitVec 32 := 0#32
  let c1_i32_908 : BitVec 32 := 1#32
  let arg19 : BitVec 32 := Scf.iv c0_i32_906 c1_i32_908 k0_t2
  let c2_i32_2129 : BitVec 32 := 2#32
  let v3631 : BitVec 32 := Scalar.muli arg19 c2_i32_2129
  let c0_i32_2232 : BitVec 32 := 0#32
  ![1, 3, v3631.toNat, 0]
def k0_off30 (k0_t2 : Fin k0_t2_loop.trips) : Fin 4 → Nat :=
  let c1_i32_2236 : BitVec 32 := 1#32
  let c4_i32_2237 : BitVec 32 := 4#32
  let c0_i32_906 : BitVec 32 := 0#32
  let c1_i32_908 : BitVec 32 := 1#32
  let arg19 : BitVec 32 := Scf.iv c0_i32_906 c1_i32_908 k0_t2
  let c2_i32_2129 : BitVec 32 := 2#32
  let v3631 : BitVec 32 := Scalar.muli arg19 c2_i32_2129
  let c0_i32_2238 : BitVec 32 := 0#32
  ![1, 4, v3631.toNat, 0]
def k0_off31 (k0_t2 : Fin k0_t2_loop.trips) : Fin 4 → Nat :=
  let c1_i32_2268 : BitVec 32 := 1#32
  let c5_i32_2269 : BitVec 32 := 5#32
  let c0_i32_906 : BitVec 32 := 0#32
  let c1_i32_908 : BitVec 32 := 1#32
  let arg19 : BitVec 32 := Scf.iv c0_i32_906 c1_i32_908 k0_t2
  let c2_i32_2129 : BitVec 32 := 2#32
  let v3631 : BitVec 32 := Scalar.muli arg19 c2_i32_2129
  let c0_i32_2270 : BitVec 32 := 0#32
  ![1, 5, v3631.toNat, 0]
def k0_off32 (k0_t2 : Fin k0_t2_loop.trips) : Fin 4 → Nat :=
  let c1_i32_2276 : BitVec 32 := 1#32
  let c5_i32_2277 : BitVec 32 := 5#32
  let c0_i32_906 : BitVec 32 := 0#32
  let c1_i32_908 : BitVec 32 := 1#32
  let arg19 : BitVec 32 := Scf.iv c0_i32_906 c1_i32_908 k0_t2
  let c2_i32_2129 : BitVec 32 := 2#32
  let v3631 : BitVec 32 := Scalar.muli arg19 c2_i32_2129
  let c0_i32_2278 : BitVec 32 := 0#32
  ![1, 5, v3631.toNat, 0]
def k0_off33 (k0_t2 : Fin k0_t2_loop.trips) : Fin 4 → Nat :=
  let c1_i32_2296 : BitVec 32 := 1#32
  let c6_i32_2297 : BitVec 32 := 6#32
  let c0_i32_906 : BitVec 32 := 0#32
  let c1_i32_908 : BitVec 32 := 1#32
  let arg19 : BitVec 32 := Scf.iv c0_i32_906 c1_i32_908 k0_t2
  let c2_i32_2129 : BitVec 32 := 2#32
  let v3631 : BitVec 32 := Scalar.muli arg19 c2_i32_2129
  let c0_i32_2298 : BitVec 32 := 0#32
  ![1, 6, v3631.toNat, 0]

def k0_chk67 (v179 : IVec S16 32) (v207 : IVec S16 32) (v259 : IVec S16 32) (v287 : IVec S16 32) (v1391 : IVec S16 32) (v1394 : IVec S16 32) (v1395 : IVec S16 32) (v1397 : IVec S16 32) (v1398 : IVec S16 32) (v3632 : IVec S16 32) : Prop :=
  (∀ a x, ((![v1391, v1394, v3632, v179] : Fin 4 → IVec S16 32) a x).toNat < S2x7x64x128.size a) ∧
  (∀ a x, ((![v1391, v1395, v3632, v207] : Fin 4 → IVec S16 32) a x).toNat < S2x7x64x128.size a) ∧
  (∀ a x, ((![v1391, v1397, v3632, v259] : Fin 4 → IVec S16 32) a x).toNat < S2x7x64x128.size a) ∧
  (∀ a x, ((![v1391, v1398, v3632, v287] : Fin 4 → IVec S16 32) a x).toNat < S2x7x64x128.size a)
theorem k0_idx73_inb : ∀ (v179 : IVec S16 32) (v207 : IVec S16 32) (v259 : IVec S16 32) (v287 : IVec S16 32) (v1391 : IVec S16 32) (v1394 : IVec S16 32) (v1395 : IVec S16 32) (v1397 : IVec S16 32) (v1398 : IVec S16 32) (v3632 : IVec S16 32) (k0_hw67 : k0_chk67 v179 v207 v259 v287 v1391 v1394 v1395 v1397 v1398 v3632), ∀ a x, ((![v1391, v1394, v3632, v179] : Fin 4 → IVec S16 32) a x).toNat < S2x7x64x128.size a := fun v179 v207 v259 v287 v1391 v1394 v1395 v1397 v1398 v3632 k0_hw67 => k0_hw67.1
theorem k0_idx74_inb : ∀ (v179 : IVec S16 32) (v207 : IVec S16 32) (v259 : IVec S16 32) (v287 : IVec S16 32) (v1391 : IVec S16 32) (v1394 : IVec S16 32) (v1395 : IVec S16 32) (v1397 : IVec S16 32) (v1398 : IVec S16 32) (v3632 : IVec S16 32) (k0_hw67 : k0_chk67 v179 v207 v259 v287 v1391 v1394 v1395 v1397 v1398 v3632), ∀ a x, ((![v1391, v1395, v3632, v207] : Fin 4 → IVec S16 32) a x).toNat < S2x7x64x128.size a := fun v179 v207 v259 v287 v1391 v1394 v1395 v1397 v1398 v3632 k0_hw67 => k0_hw67.2.1
theorem k0_idx75_inb : ∀ (v179 : IVec S16 32) (v207 : IVec S16 32) (v259 : IVec S16 32) (v287 : IVec S16 32) (v1391 : IVec S16 32) (v1394 : IVec S16 32) (v1395 : IVec S16 32) (v1397 : IVec S16 32) (v1398 : IVec S16 32) (v3632 : IVec S16 32) (k0_hw67 : k0_chk67 v179 v207 v259 v287 v1391 v1394 v1395 v1397 v1398 v3632), ∀ a x, ((![v1391, v1397, v3632, v259] : Fin 4 → IVec S16 32) a x).toNat < S2x7x64x128.size a := fun v179 v207 v259 v287 v1391 v1394 v1395 v1397 v1398 v3632 k0_hw67 => k0_hw67.2.2.1
theorem k0_idx76_inb : ∀ (v179 : IVec S16 32) (v207 : IVec S16 32) (v259 : IVec S16 32) (v287 : IVec S16 32) (v1391 : IVec S16 32) (v1394 : IVec S16 32) (v1395 : IVec S16 32) (v1397 : IVec S16 32) (v1398 : IVec S16 32) (v3632 : IVec S16 32) (k0_hw67 : k0_chk67 v179 v207 v259 v287 v1391 v1394 v1395 v1397 v1398 v3632), ∀ a x, ((![v1391, v1398, v3632, v287] : Fin 4 → IVec S16 32) a x).toNat < S2x7x64x128.size a := fun v179 v207 v259 v287 v1391 v1394 v1395 v1397 v1398 v3632 k0_hw67 => k0_hw67.2.2.2
def k0_off34 (k0_t2 : Fin k0_t2_loop.trips) : Fin 4 → Nat :=
  let c1_i32_2300 : BitVec 32 := 1#32
  let c6_i32_2301 : BitVec 32 := 6#32
  let c0_i32_906 : BitVec 32 := 0#32
  let c1_i32_908 : BitVec 32 := 1#32
  let arg19 : BitVec 32 := Scf.iv c0_i32_906 c1_i32_908 k0_t2
  let c2_i32_2129 : BitVec 32 := 2#32
  let v3631 : BitVec 32 := Scalar.muli arg19 c2_i32_2129
  let c0_i32_2302 : BitVec 32 := 0#32
  ![1, 6, v3631.toNat, 0]
def k0_off35 (k0_t2 : Fin k0_t2_loop.trips) : Fin 1 → Nat :=
  let c0_i32_906 : BitVec 32 := 0#32
  let c1_i32_908 : BitVec 32 := 1#32
  let arg19 : BitVec 32 := Scf.iv c0_i32_906 c1_i32_908 k0_t2
  let c2_i32_2129 : BitVec 32 := 2#32
  let v3631 : BitVec 32 := Scalar.muli arg19 c2_i32_2129
  let c17_i32_2324 : BitVec 32 := 17#32
  let v3848 : BitVec 32 := Scalar.muli v3631 c17_i32_2324
  let v3849 : Index := Scalar.indexCast v3848
  ![v3849.toNat]
def k0_off36 (k0_t2 : Fin k0_t2_loop.trips) : Fin 4 → Nat :=
  let c1_i32_2327 : BitVec 32 := 1#32
  let c0_i32_2328 : BitVec 32 := 0#32
  let c0_i32_906 : BitVec 32 := 0#32
  let c1_i32_908 : BitVec 32 := 1#32
  let arg19 : BitVec 32 := Scf.iv c0_i32_906 c1_i32_908 k0_t2
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2329 : BitVec 32 := 0#32
  ![1, 0, v3851.toNat, 0]
def k0_off37 (k0_t2 : Fin k0_t2_loop.trips) : Fin 4 → Nat :=
  let c1_i32_2331 : BitVec 32 := 1#32
  let c1_i32_2332 : BitVec 32 := 1#32
  let c0_i32_906 : BitVec 32 := 0#32
  let c1_i32_908 : BitVec 32 := 1#32
  let arg19 : BitVec 32 := Scf.iv c0_i32_906 c1_i32_908 k0_t2
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2333 : BitVec 32 := 0#32
  ![1, 1, v3851.toNat, 0]
def k0_off38 (k0_t2 : Fin k0_t2_loop.trips) : Fin 4 → Nat :=
  let c1_i32_2391 : BitVec 32 := 1#32
  let c2_i32_2392 : BitVec 32 := 2#32
  let c0_i32_906 : BitVec 32 := 0#32
  let c1_i32_908 : BitVec 32 := 1#32
  let arg19 : BitVec 32 := Scf.iv c0_i32_906 c1_i32_908 k0_t2
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2393 : BitVec 32 := 0#32
  ![1, 2, v3851.toNat, 0]
def k0_off39 (k0_t2 : Fin k0_t2_loop.trips) : Fin 4 → Nat :=
  let c1_i32_2415 : BitVec 32 := 1#32
  let c2_i32_2416 : BitVec 32 := 2#32
  let c0_i32_906 : BitVec 32 := 0#32
  let c1_i32_908 : BitVec 32 := 1#32
  let arg19 : BitVec 32 := Scf.iv c0_i32_906 c1_i32_908 k0_t2
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2417 : BitVec 32 := 0#32
  ![1, 2, v3851.toNat, 0]
def k0_off40 (k0_t2 : Fin k0_t2_loop.trips) : Fin 4 → Nat :=
  let c1_i32_2419 : BitVec 32 := 1#32
  let c3_i32_2420 : BitVec 32 := 3#32
  let c0_i32_906 : BitVec 32 := 0#32
  let c1_i32_908 : BitVec 32 := 1#32
  let arg19 : BitVec 32 := Scf.iv c0_i32_906 c1_i32_908 k0_t2
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2421 : BitVec 32 := 0#32
  ![1, 3, v3851.toNat, 0]
def k0_off41 (k0_t2 : Fin k0_t2_loop.trips) : Fin 4 → Nat :=
  let c1_i32_2447 : BitVec 32 := 1#32
  let c4_i32_2448 : BitVec 32 := 4#32
  let c0_i32_906 : BitVec 32 := 0#32
  let c1_i32_908 : BitVec 32 := 1#32
  let arg19 : BitVec 32 := Scf.iv c0_i32_906 c1_i32_908 k0_t2
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2449 : BitVec 32 := 0#32
  ![1, 4, v3851.toNat, 0]
def k0_off42 (k0_t2 : Fin k0_t2_loop.trips) : Fin 4 → Nat :=
  let c1_i32_2479 : BitVec 32 := 1#32
  let c5_i32_2480 : BitVec 32 := 5#32
  let c0_i32_906 : BitVec 32 := 0#32
  let c1_i32_908 : BitVec 32 := 1#32
  let arg19 : BitVec 32 := Scf.iv c0_i32_906 c1_i32_908 k0_t2
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2481 : BitVec 32 := 0#32
  ![1, 5, v3851.toNat, 0]
def k0_off43 (k0_t2 : Fin k0_t2_loop.trips) : Fin 4 → Nat :=
  let c1_i32_2507 : BitVec 32 := 1#32
  let c6_i32_2508 : BitVec 32 := 6#32
  let c0_i32_906 : BitVec 32 := 0#32
  let c1_i32_908 : BitVec 32 := 1#32
  let arg19 : BitVec 32 := Scf.iv c0_i32_906 c1_i32_908 k0_t2
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2509 : BitVec 32 := 0#32
  ![1, 6, v3851.toNat, 0]

def k0_chk68 (v179 : IVec S16 32) (v207 : IVec S16 32) (v259 : IVec S16 32) (v287 : IVec S16 32) (v1391 : IVec S16 32) (v1394 : IVec S16 32) (v1395 : IVec S16 32) (v1397 : IVec S16 32) (v1398 : IVec S16 32) (v3853 : IVec S16 32) : Prop :=
  (∀ a x, ((![v1391, v1394, v3853, v179] : Fin 4 → IVec S16 32) a x).toNat < S2x7x64x128.size a) ∧
  (∀ a x, ((![v1391, v1395, v3853, v207] : Fin 4 → IVec S16 32) a x).toNat < S2x7x64x128.size a) ∧
  (∀ a x, ((![v1391, v1397, v3853, v259] : Fin 4 → IVec S16 32) a x).toNat < S2x7x64x128.size a) ∧
  (∀ a x, ((![v1391, v1398, v3853, v287] : Fin 4 → IVec S16 32) a x).toNat < S2x7x64x128.size a)
theorem k0_idx77_inb : ∀ (v179 : IVec S16 32) (v207 : IVec S16 32) (v259 : IVec S16 32) (v287 : IVec S16 32) (v1391 : IVec S16 32) (v1394 : IVec S16 32) (v1395 : IVec S16 32) (v1397 : IVec S16 32) (v1398 : IVec S16 32) (v3853 : IVec S16 32) (k0_hw68 : k0_chk68 v179 v207 v259 v287 v1391 v1394 v1395 v1397 v1398 v3853), ∀ a x, ((![v1391, v1394, v3853, v179] : Fin 4 → IVec S16 32) a x).toNat < S2x7x64x128.size a := fun v179 v207 v259 v287 v1391 v1394 v1395 v1397 v1398 v3853 k0_hw68 => k0_hw68.1
theorem k0_idx78_inb : ∀ (v179 : IVec S16 32) (v207 : IVec S16 32) (v259 : IVec S16 32) (v287 : IVec S16 32) (v1391 : IVec S16 32) (v1394 : IVec S16 32) (v1395 : IVec S16 32) (v1397 : IVec S16 32) (v1398 : IVec S16 32) (v3853 : IVec S16 32) (k0_hw68 : k0_chk68 v179 v207 v259 v287 v1391 v1394 v1395 v1397 v1398 v3853), ∀ a x, ((![v1391, v1395, v3853, v207] : Fin 4 → IVec S16 32) a x).toNat < S2x7x64x128.size a := fun v179 v207 v259 v287 v1391 v1394 v1395 v1397 v1398 v3853 k0_hw68 => k0_hw68.2.1
theorem k0_idx79_inb : ∀ (v179 : IVec S16 32) (v207 : IVec S16 32) (v259 : IVec S16 32) (v287 : IVec S16 32) (v1391 : IVec S16 32) (v1394 : IVec S16 32) (v1395 : IVec S16 32) (v1397 : IVec S16 32) (v1398 : IVec S16 32) (v3853 : IVec S16 32) (k0_hw68 : k0_chk68 v179 v207 v259 v287 v1391 v1394 v1395 v1397 v1398 v3853), ∀ a x, ((![v1391, v1397, v3853, v259] : Fin 4 → IVec S16 32) a x).toNat < S2x7x64x128.size a := fun v179 v207 v259 v287 v1391 v1394 v1395 v1397 v1398 v3853 k0_hw68 => k0_hw68.2.2.1
theorem k0_idx80_inb : ∀ (v179 : IVec S16 32) (v207 : IVec S16 32) (v259 : IVec S16 32) (v287 : IVec S16 32) (v1391 : IVec S16 32) (v1394 : IVec S16 32) (v1395 : IVec S16 32) (v1397 : IVec S16 32) (v1398 : IVec S16 32) (v3853 : IVec S16 32) (k0_hw68 : k0_chk68 v179 v207 v259 v287 v1391 v1394 v1395 v1397 v1398 v3853), ∀ a x, ((![v1391, v1398, v3853, v287] : Fin 4 → IVec S16 32) a x).toNat < S2x7x64x128.size a := fun v179 v207 v259 v287 v1391 v1394 v1395 v1397 v1398 v3853 k0_hw68 => k0_hw68.2.2.2
def k0_off44 (k0_t2 : Fin k0_t2_loop.trips) : Fin 1 → Nat :=
  let c0_i32_906 : BitVec 32 := 0#32
  let c1_i32_908 : BitVec 32 := 1#32
  let arg19 : BitVec 32 := Scf.iv c0_i32_906 c1_i32_908 k0_t2
  let c2_i32_2129 : BitVec 32 := 2#32
  let v3631 : BitVec 32 := Scalar.muli arg19 c2_i32_2129
  let c1_i32_2325 : BitVec 32 := 1#32
  let v3851 : BitVec 32 := Scalar.addi v3631 c1_i32_2325
  let c17_i32_2535 : BitVec 32 := 17#32
  let v4069 : BitVec 32 := Scalar.muli v3851 c17_i32_2535
  let v4070 : Index := Scalar.indexCast v4069
  ![v4070.toNat]

def k0_chk69 (v1401 : IVec S16 32) : Prop :=
  (∀ a x, ((![v1401] : Fin 1 → IVec S16 32) a x).toNat < S1088.size a)
theorem k0_idx81_inb : ∀ (v1401 : IVec S16 32) (k0_hw69 : k0_chk69 v1401), ∀ a x, ((![v1401] : Fin 1 → IVec S16 32) a x).toNat < S1088.size a := fun v1401 k0_hw69 => k0_hw69

def k0_chk70 (v1404 : IVec S16 32) : Prop :=
  (∀ a x, ((![v1404] : Fin 1 → IVec S16 32) a x).toNat < S1088.size a)
theorem k0_idx82_inb : ∀ (v1404 : IVec S16 32) (k0_hw70 : k0_chk70 v1404), ∀ a x, ((![v1404] : Fin 1 → IVec S16 32) a x).toNat < S1088.size a := fun v1404 k0_hw70 => k0_hw70

def k0_chk71 (v1408 : IVec S16 32) : Prop :=
  (∀ a x, ((![v1408] : Fin 1 → IVec S16 32) a x).toNat < S1088.size a)
theorem k0_idx83_inb : ∀ (v1408 : IVec S16 32) (k0_hw71 : k0_chk71 v1408), ∀ a x, ((![v1408] : Fin 1 → IVec S16 32) a x).toNat < S1088.size a := fun v1408 k0_hw71 => k0_hw71

def k0_chk72 (v1412 : IVec S16 32) : Prop :=
  (∀ a x, ((![v1412] : Fin 1 → IVec S16 32) a x).toNat < S1088.size a)
theorem k0_idx84_inb : ∀ (v1412 : IVec S16 32) (k0_hw72 : k0_chk72 v1412), ∀ a x, ((![v1412] : Fin 1 → IVec S16 32) a x).toNat < S1088.size a := fun v1412 k0_hw72 => k0_hw72

def k0_chk73 (v1416 : IVec S16 32) : Prop :=
  (∀ a x, ((![v1416] : Fin 1 → IVec S16 32) a x).toNat < S1088.size a)
theorem k0_idx85_inb : ∀ (v1416 : IVec S16 32) (k0_hw73 : k0_chk73 v1416), ∀ a x, ((![v1416] : Fin 1 → IVec S16 32) a x).toNat < S1088.size a := fun v1416 k0_hw73 => k0_hw73

def k0_chk74 (v1420 : IVec S16 32) : Prop :=
  (∀ a x, ((![v1420] : Fin 1 → IVec S16 32) a x).toNat < S1088.size a)
theorem k0_idx86_inb : ∀ (v1420 : IVec S16 32) (k0_hw74 : k0_chk74 v1420), ∀ a x, ((![v1420] : Fin 1 → IVec S16 32) a x).toNat < S1088.size a := fun v1420 k0_hw74 => k0_hw74

def k0_chk75 (v1424 : IVec S16 32) : Prop :=
  (∀ a x, ((![v1424] : Fin 1 → IVec S16 32) a x).toNat < S1088.size a)
theorem k0_idx87_inb : ∀ (v1424 : IVec S16 32) (k0_hw75 : k0_chk75 v1424), ∀ a x, ((![v1424] : Fin 1 → IVec S16 32) a x).toNat < S1088.size a := fun v1424 k0_hw75 => k0_hw75

def k0_chk76 (v1428 : IVec S16 32) : Prop :=
  (∀ a x, ((![v1428] : Fin 1 → IVec S16 32) a x).toNat < S1088.size a)
theorem k0_idx88_inb : ∀ (v1428 : IVec S16 32) (k0_hw76 : k0_chk76 v1428), ∀ a x, ((![v1428] : Fin 1 → IVec S16 32) a x).toNat < S1088.size a := fun v1428 k0_hw76 => k0_hw76

def k0_chk77 (v1432 : IVec S16 32) : Prop :=
  (∀ a x, ((![v1432] : Fin 1 → IVec S16 32) a x).toNat < S1088.size a)
theorem k0_idx89_inb : ∀ (v1432 : IVec S16 32) (k0_hw77 : k0_chk77 v1432), ∀ a x, ((![v1432] : Fin 1 → IVec S16 32) a x).toNat < S1088.size a := fun v1432 k0_hw77 => k0_hw77

def k0_chk78 (v1436 : IVec S16 32) : Prop :=
  (∀ a x, ((![v1436] : Fin 1 → IVec S16 32) a x).toNat < S1088.size a)
theorem k0_idx90_inb : ∀ (v1436 : IVec S16 32) (k0_hw78 : k0_chk78 v1436), ∀ a x, ((![v1436] : Fin 1 → IVec S16 32) a x).toNat < S1088.size a := fun v1436 k0_hw78 => k0_hw78

def k0_chk79 (v1440 : IVec S16 32) : Prop :=
  (∀ a x, ((![v1440] : Fin 1 → IVec S16 32) a x).toNat < S1088.size a)
theorem k0_idx91_inb : ∀ (v1440 : IVec S16 32) (k0_hw79 : k0_chk79 v1440), ∀ a x, ((![v1440] : Fin 1 → IVec S16 32) a x).toNat < S1088.size a := fun v1440 k0_hw79 => k0_hw79

def k0_chk80 (v1444 : IVec S16 32) : Prop :=
  (∀ a x, ((![v1444] : Fin 1 → IVec S16 32) a x).toNat < S1088.size a)
theorem k0_idx92_inb : ∀ (v1444 : IVec S16 32) (k0_hw80 : k0_chk80 v1444), ∀ a x, ((![v1444] : Fin 1 → IVec S16 32) a x).toNat < S1088.size a := fun v1444 k0_hw80 => k0_hw80

def k0_chk81 (v1448 : IVec S16 32) : Prop :=
  (∀ a x, ((![v1448] : Fin 1 → IVec S16 32) a x).toNat < S1088.size a)
theorem k0_idx93_inb : ∀ (v1448 : IVec S16 32) (k0_hw81 : k0_chk81 v1448), ∀ a x, ((![v1448] : Fin 1 → IVec S16 32) a x).toNat < S1088.size a := fun v1448 k0_hw81 => k0_hw81

def k0_chk82 (v1452 : IVec S16 32) : Prop :=
  (∀ a x, ((![v1452] : Fin 1 → IVec S16 32) a x).toNat < S1088.size a)
theorem k0_idx94_inb : ∀ (v1452 : IVec S16 32) (k0_hw82 : k0_chk82 v1452), ∀ a x, ((![v1452] : Fin 1 → IVec S16 32) a x).toNat < S1088.size a := fun v1452 k0_hw82 => k0_hw82

def k0_chk83 (v1456 : IVec S16 32) : Prop :=
  (∀ a x, ((![v1456] : Fin 1 → IVec S16 32) a x).toNat < S1088.size a)
theorem k0_idx95_inb : ∀ (v1456 : IVec S16 32) (k0_hw83 : k0_chk83 v1456), ∀ a x, ((![v1456] : Fin 1 → IVec S16 32) a x).toNat < S1088.size a := fun v1456 k0_hw83 => k0_hw83

def k0_chk84 (v1460 : IVec S16 32) : Prop :=
  (∀ a x, ((![v1460] : Fin 1 → IVec S16 32) a x).toNat < S1088.size a)
theorem k0_idx96_inb : ∀ (v1460 : IVec S16 32) (k0_hw84 : k0_chk84 v1460), ∀ a x, ((![v1460] : Fin 1 → IVec S16 32) a x).toNat < S1088.size a := fun v1460 k0_hw84 => k0_hw84

def k0_chk85 (v1465 : IVec S16 32) : Prop :=
  (∀ a x, ((![v1465] : Fin 1 → IVec S16 32) a x).toNat < S1088.size a)
theorem k0_idx97_inb : ∀ (v1465 : IVec S16 32) (k0_hw85 : k0_chk85 v1465), ∀ a x, ((![v1465] : Fin 1 → IVec S16 32) a x).toNat < S1088.size a := fun v1465 k0_hw85 => k0_hw85

def k0_chk86 (v1468 : IVec S16 32) : Prop :=
  (∀ a x, ((![v1468] : Fin 1 → IVec S16 32) a x).toNat < S1088.size a)
theorem k0_idx98_inb : ∀ (v1468 : IVec S16 32) (k0_hw86 : k0_chk86 v1468), ∀ a x, ((![v1468] : Fin 1 → IVec S16 32) a x).toNat < S1088.size a := fun v1468 k0_hw86 => k0_hw86

def k0_chk87 (v1472 : IVec S16 32) : Prop :=
  (∀ a x, ((![v1472] : Fin 1 → IVec S16 32) a x).toNat < S1088.size a)
theorem k0_idx99_inb : ∀ (v1472 : IVec S16 32) (k0_hw87 : k0_chk87 v1472), ∀ a x, ((![v1472] : Fin 1 → IVec S16 32) a x).toNat < S1088.size a := fun v1472 k0_hw87 => k0_hw87

def k0_chk88 (v1476 : IVec S16 32) : Prop :=
  (∀ a x, ((![v1476] : Fin 1 → IVec S16 32) a x).toNat < S1088.size a)
theorem k0_idx100_inb : ∀ (v1476 : IVec S16 32) (k0_hw88 : k0_chk88 v1476), ∀ a x, ((![v1476] : Fin 1 → IVec S16 32) a x).toNat < S1088.size a := fun v1476 k0_hw88 => k0_hw88

def k0_chk89 (v1480 : IVec S16 32) : Prop :=
  (∀ a x, ((![v1480] : Fin 1 → IVec S16 32) a x).toNat < S1088.size a)
theorem k0_idx101_inb : ∀ (v1480 : IVec S16 32) (k0_hw89 : k0_chk89 v1480), ∀ a x, ((![v1480] : Fin 1 → IVec S16 32) a x).toNat < S1088.size a := fun v1480 k0_hw89 => k0_hw89

def k0_chk90 (v1484 : IVec S16 32) : Prop :=
  (∀ a x, ((![v1484] : Fin 1 → IVec S16 32) a x).toNat < S1088.size a)
theorem k0_idx102_inb : ∀ (v1484 : IVec S16 32) (k0_hw90 : k0_chk90 v1484), ∀ a x, ((![v1484] : Fin 1 → IVec S16 32) a x).toNat < S1088.size a := fun v1484 k0_hw90 => k0_hw90

def k0_chk91 (v1488 : IVec S16 32) : Prop :=
  (∀ a x, ((![v1488] : Fin 1 → IVec S16 32) a x).toNat < S1088.size a)
theorem k0_idx103_inb : ∀ (v1488 : IVec S16 32) (k0_hw91 : k0_chk91 v1488), ∀ a x, ((![v1488] : Fin 1 → IVec S16 32) a x).toNat < S1088.size a := fun v1488 k0_hw91 => k0_hw91

def k0_chk92 (v1492 : IVec S16 32) : Prop :=
  (∀ a x, ((![v1492] : Fin 1 → IVec S16 32) a x).toNat < S1088.size a)
theorem k0_idx104_inb : ∀ (v1492 : IVec S16 32) (k0_hw92 : k0_chk92 v1492), ∀ a x, ((![v1492] : Fin 1 → IVec S16 32) a x).toNat < S1088.size a := fun v1492 k0_hw92 => k0_hw92

def k0_chk93 (v1496 : IVec S16 32) : Prop :=
  (∀ a x, ((![v1496] : Fin 1 → IVec S16 32) a x).toNat < S1088.size a)
theorem k0_idx105_inb : ∀ (v1496 : IVec S16 32) (k0_hw93 : k0_chk93 v1496), ∀ a x, ((![v1496] : Fin 1 → IVec S16 32) a x).toNat < S1088.size a := fun v1496 k0_hw93 => k0_hw93

def k0_chk94 (v1500 : IVec S16 32) : Prop :=
  (∀ a x, ((![v1500] : Fin 1 → IVec S16 32) a x).toNat < S1088.size a)
theorem k0_idx106_inb : ∀ (v1500 : IVec S16 32) (k0_hw94 : k0_chk94 v1500), ∀ a x, ((![v1500] : Fin 1 → IVec S16 32) a x).toNat < S1088.size a := fun v1500 k0_hw94 => k0_hw94

def k0_chk95 (v1504 : IVec S16 32) : Prop :=
  (∀ a x, ((![v1504] : Fin 1 → IVec S16 32) a x).toNat < S1088.size a)
theorem k0_idx107_inb : ∀ (v1504 : IVec S16 32) (k0_hw95 : k0_chk95 v1504), ∀ a x, ((![v1504] : Fin 1 → IVec S16 32) a x).toNat < S1088.size a := fun v1504 k0_hw95 => k0_hw95

def k0_chk96 (v1508 : IVec S16 32) : Prop :=
  (∀ a x, ((![v1508] : Fin 1 → IVec S16 32) a x).toNat < S1088.size a)
theorem k0_idx108_inb : ∀ (v1508 : IVec S16 32) (k0_hw96 : k0_chk96 v1508), ∀ a x, ((![v1508] : Fin 1 → IVec S16 32) a x).toNat < S1088.size a := fun v1508 k0_hw96 => k0_hw96

def k0_chk97 (v1512 : IVec S16 32) : Prop :=
  (∀ a x, ((![v1512] : Fin 1 → IVec S16 32) a x).toNat < S1088.size a)
theorem k0_idx109_inb : ∀ (v1512 : IVec S16 32) (k0_hw97 : k0_chk97 v1512), ∀ a x, ((![v1512] : Fin 1 → IVec S16 32) a x).toNat < S1088.size a := fun v1512 k0_hw97 => k0_hw97

def k0_chk98 (v1516 : IVec S16 32) : Prop :=
  (∀ a x, ((![v1516] : Fin 1 → IVec S16 32) a x).toNat < S1088.size a)
theorem k0_idx110_inb : ∀ (v1516 : IVec S16 32) (k0_hw98 : k0_chk98 v1516), ∀ a x, ((![v1516] : Fin 1 → IVec S16 32) a x).toNat < S1088.size a := fun v1516 k0_hw98 => k0_hw98

def k0_chk99 (v1520 : IVec S16 32) : Prop :=
  (∀ a x, ((![v1520] : Fin 1 → IVec S16 32) a x).toNat < S1088.size a)
theorem k0_idx111_inb : ∀ (v1520 : IVec S16 32) (k0_hw99 : k0_chk99 v1520), ∀ a x, ((![v1520] : Fin 1 → IVec S16 32) a x).toNat < S1088.size a := fun v1520 k0_hw99 => k0_hw99

def k0_chk100 (v1524 : IVec S16 32) : Prop :=
  (∀ a x, ((![v1524] : Fin 1 → IVec S16 32) a x).toNat < S1088.size a)
theorem k0_idx112_inb : ∀ (v1524 : IVec S16 32) (k0_hw100 : k0_chk100 v1524), ∀ a x, ((![v1524] : Fin 1 → IVec S16 32) a x).toNat < S1088.size a := fun v1524 k0_hw100 => k0_hw100

def k0_chk101 (v1529 : IVec S16 32) : Prop :=
  (∀ a x, ((![v1529] : Fin 1 → IVec S16 32) a x).toNat < S1088.size a)
theorem k0_idx113_inb : ∀ (v1529 : IVec S16 32) (k0_hw101 : k0_chk101 v1529), ∀ a x, ((![v1529] : Fin 1 → IVec S16 32) a x).toNat < S1088.size a := fun v1529 k0_hw101 => k0_hw101

def k0_chk102 (v1532 : IVec S16 32) : Prop :=
  (∀ a x, ((![v1532] : Fin 1 → IVec S16 32) a x).toNat < S1088.size a)
theorem k0_idx114_inb : ∀ (v1532 : IVec S16 32) (k0_hw102 : k0_chk102 v1532), ∀ a x, ((![v1532] : Fin 1 → IVec S16 32) a x).toNat < S1088.size a := fun v1532 k0_hw102 => k0_hw102

def k0_chk103 (v1536 : IVec S16 32) : Prop :=
  (∀ a x, ((![v1536] : Fin 1 → IVec S16 32) a x).toNat < S1088.size a)
theorem k0_idx115_inb : ∀ (v1536 : IVec S16 32) (k0_hw103 : k0_chk103 v1536), ∀ a x, ((![v1536] : Fin 1 → IVec S16 32) a x).toNat < S1088.size a := fun v1536 k0_hw103 => k0_hw103

def k0_chk104 (v1540 : IVec S16 32) : Prop :=
  (∀ a x, ((![v1540] : Fin 1 → IVec S16 32) a x).toNat < S1088.size a)
theorem k0_idx116_inb : ∀ (v1540 : IVec S16 32) (k0_hw104 : k0_chk104 v1540), ∀ a x, ((![v1540] : Fin 1 → IVec S16 32) a x).toNat < S1088.size a := fun v1540 k0_hw104 => k0_hw104

def k0_chk105 (v1544 : IVec S16 32) : Prop :=
  (∀ a x, ((![v1544] : Fin 1 → IVec S16 32) a x).toNat < S1088.size a)
theorem k0_idx117_inb : ∀ (v1544 : IVec S16 32) (k0_hw105 : k0_chk105 v1544), ∀ a x, ((![v1544] : Fin 1 → IVec S16 32) a x).toNat < S1088.size a := fun v1544 k0_hw105 => k0_hw105

def k0_chk106 (v1548 : IVec S16 32) : Prop :=
  (∀ a x, ((![v1548] : Fin 1 → IVec S16 32) a x).toNat < S1088.size a)
theorem k0_idx118_inb : ∀ (v1548 : IVec S16 32) (k0_hw106 : k0_chk106 v1548), ∀ a x, ((![v1548] : Fin 1 → IVec S16 32) a x).toNat < S1088.size a := fun v1548 k0_hw106 => k0_hw106

def k0_chk107 (v1552 : IVec S16 32) : Prop :=
  (∀ a x, ((![v1552] : Fin 1 → IVec S16 32) a x).toNat < S1088.size a)
theorem k0_idx119_inb : ∀ (v1552 : IVec S16 32) (k0_hw107 : k0_chk107 v1552), ∀ a x, ((![v1552] : Fin 1 → IVec S16 32) a x).toNat < S1088.size a := fun v1552 k0_hw107 => k0_hw107

def k0_chk108 (v1556 : IVec S16 32) : Prop :=
  (∀ a x, ((![v1556] : Fin 1 → IVec S16 32) a x).toNat < S1088.size a)
theorem k0_idx120_inb : ∀ (v1556 : IVec S16 32) (k0_hw108 : k0_chk108 v1556), ∀ a x, ((![v1556] : Fin 1 → IVec S16 32) a x).toNat < S1088.size a := fun v1556 k0_hw108 => k0_hw108

def k0_chk109 (v1560 : IVec S16 32) : Prop :=
  (∀ a x, ((![v1560] : Fin 1 → IVec S16 32) a x).toNat < S1088.size a)
theorem k0_idx121_inb : ∀ (v1560 : IVec S16 32) (k0_hw109 : k0_chk109 v1560), ∀ a x, ((![v1560] : Fin 1 → IVec S16 32) a x).toNat < S1088.size a := fun v1560 k0_hw109 => k0_hw109

def k0_chk110 (v1564 : IVec S16 32) : Prop :=
  (∀ a x, ((![v1564] : Fin 1 → IVec S16 32) a x).toNat < S1088.size a)
theorem k0_idx122_inb : ∀ (v1564 : IVec S16 32) (k0_hw110 : k0_chk110 v1564), ∀ a x, ((![v1564] : Fin 1 → IVec S16 32) a x).toNat < S1088.size a := fun v1564 k0_hw110 => k0_hw110

def k0_chk111 (v1568 : IVec S16 32) : Prop :=
  (∀ a x, ((![v1568] : Fin 1 → IVec S16 32) a x).toNat < S1088.size a)
theorem k0_idx123_inb : ∀ (v1568 : IVec S16 32) (k0_hw111 : k0_chk111 v1568), ∀ a x, ((![v1568] : Fin 1 → IVec S16 32) a x).toNat < S1088.size a := fun v1568 k0_hw111 => k0_hw111

def k0_chk112 (v1572 : IVec S16 32) : Prop :=
  (∀ a x, ((![v1572] : Fin 1 → IVec S16 32) a x).toNat < S1088.size a)
theorem k0_idx124_inb : ∀ (v1572 : IVec S16 32) (k0_hw112 : k0_chk112 v1572), ∀ a x, ((![v1572] : Fin 1 → IVec S16 32) a x).toNat < S1088.size a := fun v1572 k0_hw112 => k0_hw112

def k0_chk113 (v1576 : IVec S16 32) : Prop :=
  (∀ a x, ((![v1576] : Fin 1 → IVec S16 32) a x).toNat < S1088.size a)
theorem k0_idx125_inb : ∀ (v1576 : IVec S16 32) (k0_hw113 : k0_chk113 v1576), ∀ a x, ((![v1576] : Fin 1 → IVec S16 32) a x).toNat < S1088.size a := fun v1576 k0_hw113 => k0_hw113

def k0_chk114 (v1580 : IVec S16 32) : Prop :=
  (∀ a x, ((![v1580] : Fin 1 → IVec S16 32) a x).toNat < S1088.size a)
theorem k0_idx126_inb : ∀ (v1580 : IVec S16 32) (k0_hw114 : k0_chk114 v1580), ∀ a x, ((![v1580] : Fin 1 → IVec S16 32) a x).toNat < S1088.size a := fun v1580 k0_hw114 => k0_hw114

def k0_chk115 (v1584 : IVec S16 32) : Prop :=
  (∀ a x, ((![v1584] : Fin 1 → IVec S16 32) a x).toNat < S1088.size a)
theorem k0_idx127_inb : ∀ (v1584 : IVec S16 32) (k0_hw115 : k0_chk115 v1584), ∀ a x, ((![v1584] : Fin 1 → IVec S16 32) a x).toNat < S1088.size a := fun v1584 k0_hw115 => k0_hw115

def k0_chk116 (v1588 : IVec S16 32) : Prop :=
  (∀ a x, ((![v1588] : Fin 1 → IVec S16 32) a x).toNat < S1088.size a)
theorem k0_idx128_inb : ∀ (v1588 : IVec S16 32) (k0_hw116 : k0_chk116 v1588), ∀ a x, ((![v1588] : Fin 1 → IVec S16 32) a x).toNat < S1088.size a := fun v1588 k0_hw116 => k0_hw116

def k0_chk117 (v1593 : IVec S16 32) : Prop :=
  (∀ a x, ((![v1593] : Fin 1 → IVec S16 32) a x).toNat < S1088.size a)
theorem k0_idx129_inb : ∀ (v1593 : IVec S16 32) (k0_hw117 : k0_chk117 v1593), ∀ a x, ((![v1593] : Fin 1 → IVec S16 32) a x).toNat < S1088.size a := fun v1593 k0_hw117 => k0_hw117

def k0_chk118 (v1596 : IVec S16 32) : Prop :=
  (∀ a x, ((![v1596] : Fin 1 → IVec S16 32) a x).toNat < S1088.size a)
theorem k0_idx130_inb : ∀ (v1596 : IVec S16 32) (k0_hw118 : k0_chk118 v1596), ∀ a x, ((![v1596] : Fin 1 → IVec S16 32) a x).toNat < S1088.size a := fun v1596 k0_hw118 => k0_hw118

def k0_chk119 (v1600 : IVec S16 32) : Prop :=
  (∀ a x, ((![v1600] : Fin 1 → IVec S16 32) a x).toNat < S1088.size a)
theorem k0_idx131_inb : ∀ (v1600 : IVec S16 32) (k0_hw119 : k0_chk119 v1600), ∀ a x, ((![v1600] : Fin 1 → IVec S16 32) a x).toNat < S1088.size a := fun v1600 k0_hw119 => k0_hw119

def k0_chk120 (v1604 : IVec S16 32) : Prop :=
  (∀ a x, ((![v1604] : Fin 1 → IVec S16 32) a x).toNat < S1088.size a)
theorem k0_idx132_inb : ∀ (v1604 : IVec S16 32) (k0_hw120 : k0_chk120 v1604), ∀ a x, ((![v1604] : Fin 1 → IVec S16 32) a x).toNat < S1088.size a := fun v1604 k0_hw120 => k0_hw120

def k0_chk121 (v1608 : IVec S16 32) : Prop :=
  (∀ a x, ((![v1608] : Fin 1 → IVec S16 32) a x).toNat < S1088.size a)
theorem k0_idx133_inb : ∀ (v1608 : IVec S16 32) (k0_hw121 : k0_chk121 v1608), ∀ a x, ((![v1608] : Fin 1 → IVec S16 32) a x).toNat < S1088.size a := fun v1608 k0_hw121 => k0_hw121

def k0_chk122 (v1612 : IVec S16 32) : Prop :=
  (∀ a x, ((![v1612] : Fin 1 → IVec S16 32) a x).toNat < S1088.size a)
theorem k0_idx134_inb : ∀ (v1612 : IVec S16 32) (k0_hw122 : k0_chk122 v1612), ∀ a x, ((![v1612] : Fin 1 → IVec S16 32) a x).toNat < S1088.size a := fun v1612 k0_hw122 => k0_hw122

def k0_chk123 (v1616 : IVec S16 32) : Prop :=
  (∀ a x, ((![v1616] : Fin 1 → IVec S16 32) a x).toNat < S1088.size a)
theorem k0_idx135_inb : ∀ (v1616 : IVec S16 32) (k0_hw123 : k0_chk123 v1616), ∀ a x, ((![v1616] : Fin 1 → IVec S16 32) a x).toNat < S1088.size a := fun v1616 k0_hw123 => k0_hw123

def k0_chk124 (v1620 : IVec S16 32) : Prop :=
  (∀ a x, ((![v1620] : Fin 1 → IVec S16 32) a x).toNat < S1088.size a)
theorem k0_idx136_inb : ∀ (v1620 : IVec S16 32) (k0_hw124 : k0_chk124 v1620), ∀ a x, ((![v1620] : Fin 1 → IVec S16 32) a x).toNat < S1088.size a := fun v1620 k0_hw124 => k0_hw124

def k0_chk125 (v1624 : IVec S16 32) : Prop :=
  (∀ a x, ((![v1624] : Fin 1 → IVec S16 32) a x).toNat < S1088.size a)
theorem k0_idx137_inb : ∀ (v1624 : IVec S16 32) (k0_hw125 : k0_chk125 v1624), ∀ a x, ((![v1624] : Fin 1 → IVec S16 32) a x).toNat < S1088.size a := fun v1624 k0_hw125 => k0_hw125

def k0_chk126 (v1628 : IVec S16 32) : Prop :=
  (∀ a x, ((![v1628] : Fin 1 → IVec S16 32) a x).toNat < S1088.size a)
theorem k0_idx138_inb : ∀ (v1628 : IVec S16 32) (k0_hw126 : k0_chk126 v1628), ∀ a x, ((![v1628] : Fin 1 → IVec S16 32) a x).toNat < S1088.size a := fun v1628 k0_hw126 => k0_hw126

def k0_chk127 (v1632 : IVec S16 32) : Prop :=
  (∀ a x, ((![v1632] : Fin 1 → IVec S16 32) a x).toNat < S1088.size a)
theorem k0_idx139_inb : ∀ (v1632 : IVec S16 32) (k0_hw127 : k0_chk127 v1632), ∀ a x, ((![v1632] : Fin 1 → IVec S16 32) a x).toNat < S1088.size a := fun v1632 k0_hw127 => k0_hw127

def k0_chk128 (v1636 : IVec S16 32) : Prop :=
  (∀ a x, ((![v1636] : Fin 1 → IVec S16 32) a x).toNat < S1088.size a)
theorem k0_idx140_inb : ∀ (v1636 : IVec S16 32) (k0_hw128 : k0_chk128 v1636), ∀ a x, ((![v1636] : Fin 1 → IVec S16 32) a x).toNat < S1088.size a := fun v1636 k0_hw128 => k0_hw128

def k0_chk129 (v1640 : IVec S16 32) : Prop :=
  (∀ a x, ((![v1640] : Fin 1 → IVec S16 32) a x).toNat < S1088.size a)
theorem k0_idx141_inb : ∀ (v1640 : IVec S16 32) (k0_hw129 : k0_chk129 v1640), ∀ a x, ((![v1640] : Fin 1 → IVec S16 32) a x).toNat < S1088.size a := fun v1640 k0_hw129 => k0_hw129

def k0_chk130 (v1644 : IVec S16 32) : Prop :=
  (∀ a x, ((![v1644] : Fin 1 → IVec S16 32) a x).toNat < S1088.size a)
theorem k0_idx142_inb : ∀ (v1644 : IVec S16 32) (k0_hw130 : k0_chk130 v1644), ∀ a x, ((![v1644] : Fin 1 → IVec S16 32) a x).toNat < S1088.size a := fun v1644 k0_hw130 => k0_hw130

def k0_chk131 (v1648 : IVec S16 32) : Prop :=
  (∀ a x, ((![v1648] : Fin 1 → IVec S16 32) a x).toNat < S1088.size a)
theorem k0_idx143_inb : ∀ (v1648 : IVec S16 32) (k0_hw131 : k0_chk131 v1648), ∀ a x, ((![v1648] : Fin 1 → IVec S16 32) a x).toNat < S1088.size a := fun v1648 k0_hw131 => k0_hw131

def k0_chk132 (v1652 : IVec S16 32) : Prop :=
  (∀ a x, ((![v1652] : Fin 1 → IVec S16 32) a x).toNat < S1088.size a)
theorem k0_idx144_inb : ∀ (v1652 : IVec S16 32) (k0_hw132 : k0_chk132 v1652), ∀ a x, ((![v1652] : Fin 1 → IVec S16 32) a x).toNat < S1088.size a := fun v1652 k0_hw132 => k0_hw132
@[reducible] def k0_t3_loop : Scf.Loop 32 :=
  let c0_i32_1109 : BitVec 32 := 0#32
  let c32_i32_1110 : BitVec 32 := 32#32
  let v1734 : BitVec 32 := Scalar.addi c0_i32_1109 c32_i32_1110
  let c1_i32_1111 : BitVec 32 := 1#32
  ⟨c0_i32_1109, v1734, c1_i32_1111⟩
def k0_off45 (k0_t3 : Fin k0_t3_loop.trips) : Fin 4 → Nat :=
  let c0_i32_2130 : BitVec 32 := 0#32
  let c0_i32_2131 : BitVec 32 := 0#32
  let c0_i32_1109 : BitVec 32 := 0#32
  let c1_i32_1111 : BitVec 32 := 1#32
  let arg19 : BitVec 32 := Scf.iv c0_i32_1109 c1_i32_1111 k0_t3
  let c2_i32_2129 : BitVec 32 := 2#32
  let v3631 : BitVec 32 := Scalar.muli arg19 c2_i32_2129
  let c0_i32_2132 : BitVec 32 := 0#32
  ![0, 0, v3631.toNat, 0]
def k0_off46 (k0_t3 : Fin k0_t3_loop.trips) : Fin 4 → Nat :=
  let c0_i32_2134 : BitVec 32 := 0#32
  let c1_i32_2135 : BitVec 32 := 1#32
  let c0_i32_1109 : BitVec 32 := 0#32
  let c1_i32_1111 : BitVec 32 := 1#32
  let arg19 : BitVec 32 := Scf.iv c0_i32_1109 c1_i32_1111 k0_t3
  let c2_i32_2129 : BitVec 32 := 2#32
  let v3631 : BitVec 32 := Scalar.muli arg19 c2_i32_2129
  let c0_i32_2136 : BitVec 32 := 0#32
  ![0, 1, v3631.toNat, 0]
def k0_off47 (k0_t3 : Fin k0_t3_loop.trips) : Fin 4 → Nat :=
  let c0_i32_2194 : BitVec 32 := 0#32
  let c2_i32_2195 : BitVec 32 := 2#32
  let c0_i32_1109 : BitVec 32 := 0#32
  let c1_i32_1111 : BitVec 32 := 1#32
  let arg19 : BitVec 32 := Scf.iv c0_i32_1109 c1_i32_1111 k0_t3
  let c2_i32_2129 : BitVec 32 := 2#32
  let v3631 : BitVec 32 := Scalar.muli arg19 c2_i32_2129
  let c0_i32_2196 : BitVec 32 := 0#32
  ![0, 2, v3631.toNat, 0]
def k0_off48 (k0_t3 : Fin k0_t3_loop.trips) : Fin 4 → Nat :=
  let c0_i32_2212 : BitVec 32 := 0#32
  let c2_i32_2213 : BitVec 32 := 2#32
  let c0_i32_1109 : BitVec 32 := 0#32
  let c1_i32_1111 : BitVec 32 := 1#32
  let arg19 : BitVec 32 := Scf.iv c0_i32_1109 c1_i32_1111 k0_t3
  let c2_i32_2129 : BitVec 32 := 2#32
  let v3631 : BitVec 32 := Scalar.muli arg19 c2_i32_2129
  let c0_i32_2214 : BitVec 32 := 0#32
  ![0, 2, v3631.toNat, 0]
def k0_off49 (k0_t3 : Fin k0_t3_loop.trips) : Fin 4 → Nat :=
  let c0_i32_2215 : BitVec 32 := 0#32
  let c3_i32_2216 : BitVec 32 := 3#32
  let c0_i32_1109 : BitVec 32 := 0#32
  let c1_i32_1111 : BitVec 32 := 1#32
  let arg19 : BitVec 32 := Scf.iv c0_i32_1109 c1_i32_1111 k0_t3
  let c2_i32_2129 : BitVec 32 := 2#32
  let v3631 : BitVec 32 := Scalar.muli arg19 c2_i32_2129
  let c0_i32_2217 : BitVec 32 := 0#32
  ![0, 3, v3631.toNat, 0]
def k0_off50 (k0_t3 : Fin k0_t3_loop.trips) : Fin 4 → Nat :=
  let c0_i32_2230 : BitVec 32 := 0#32
  let c3_i32_2231 : BitVec 32 := 3#32
  let c0_i32_1109 : BitVec 32 := 0#32
  let c1_i32_1111 : BitVec 32 := 1#32
  let arg19 : BitVec 32 := Scf.iv c0_i32_1109 c1_i32_1111 k0_t3
  let c2_i32_2129 : BitVec 32 := 2#32
  let v3631 : BitVec 32 := Scalar.muli arg19 c2_i32_2129
  let c0_i32_2232 : BitVec 32 := 0#32
  ![0, 3, v3631.toNat, 0]
def k0_off51 (k0_t3 : Fin k0_t3_loop.trips) : Fin 4 → Nat :=
  let c0_i32_2236 : BitVec 32 := 0#32
  let c4_i32_2237 : BitVec 32 := 4#32
  let c0_i32_1109 : BitVec 32 := 0#32
  let c1_i32_1111 : BitVec 32 := 1#32
  let arg19 : BitVec 32 := Scf.iv c0_i32_1109 c1_i32_1111 k0_t3
  let c2_i32_2129 : BitVec 32 := 2#32
  let v3631 : BitVec 32 := Scalar.muli arg19 c2_i32_2129
  let c0_i32_2238 : BitVec 32 := 0#32
  ![0, 4, v3631.toNat, 0]
def k0_off52 (k0_t3 : Fin k0_t3_loop.trips) : Fin 4 → Nat :=
  let c0_i32_2268 : BitVec 32 := 0#32
  let c5_i32_2269 : BitVec 32 := 5#32
  let c0_i32_1109 : BitVec 32 := 0#32
  let c1_i32_1111 : BitVec 32 := 1#32
  let arg19 : BitVec 32 := Scf.iv c0_i32_1109 c1_i32_1111 k0_t3
  let c2_i32_2129 : BitVec 32 := 2#32
  let v3631 : BitVec 32 := Scalar.muli arg19 c2_i32_2129
  let c0_i32_2270 : BitVec 32 := 0#32
  ![0, 5, v3631.toNat, 0]
def k0_off53 (k0_t3 : Fin k0_t3_loop.trips) : Fin 4 → Nat :=
  let c0_i32_2276 : BitVec 32 := 0#32
  let c5_i32_2277 : BitVec 32 := 5#32
  let c0_i32_1109 : BitVec 32 := 0#32
  let c1_i32_1111 : BitVec 32 := 1#32
  let arg19 : BitVec 32 := Scf.iv c0_i32_1109 c1_i32_1111 k0_t3
  let c2_i32_2129 : BitVec 32 := 2#32
  let v3631 : BitVec 32 := Scalar.muli arg19 c2_i32_2129
  let c0_i32_2278 : BitVec 32 := 0#32
  ![0, 5, v3631.toNat, 0]
def k0_off54 (k0_t3 : Fin k0_t3_loop.trips) : Fin 4 → Nat :=
  let c0_i32_2296 : BitVec 32 := 0#32
  let c6_i32_2297 : BitVec 32 := 6#32
  let c0_i32_1109 : BitVec 32 := 0#32
  let c1_i32_1111 : BitVec 32 := 1#32
  let arg19 : BitVec 32 := Scf.iv c0_i32_1109 c1_i32_1111 k0_t3
  let c2_i32_2129 : BitVec 32 := 2#32
  let v3631 : BitVec 32 := Scalar.muli arg19 c2_i32_2129
  let c0_i32_2298 : BitVec 32 := 0#32
  ![0, 6, v3631.toNat, 0]

def k0_chk133 (v179 : IVec S16 32) (v207 : IVec S16 32) (v259 : IVec S16 32) (v287 : IVec S16 32) (v1726 : IVec S16 32) (v1729 : IVec S16 32) (v1730 : IVec S16 32) (v1732 : IVec S16 32) (v1733 : IVec S16 32) (v3632 : IVec S16 32) : Prop :=
  (∀ a x, ((![v1726, v1729, v3632, v179] : Fin 4 → IVec S16 32) a x).toNat < S2x7x64x128.size a) ∧
  (∀ a x, ((![v1726, v1730, v3632, v207] : Fin 4 → IVec S16 32) a x).toNat < S2x7x64x128.size a) ∧
  (∀ a x, ((![v1726, v1732, v3632, v259] : Fin 4 → IVec S16 32) a x).toNat < S2x7x64x128.size a) ∧
  (∀ a x, ((![v1726, v1733, v3632, v287] : Fin 4 → IVec S16 32) a x).toNat < S2x7x64x128.size a)
theorem k0_idx145_inb : ∀ (v179 : IVec S16 32) (v207 : IVec S16 32) (v259 : IVec S16 32) (v287 : IVec S16 32) (v1726 : IVec S16 32) (v1729 : IVec S16 32) (v1730 : IVec S16 32) (v1732 : IVec S16 32) (v1733 : IVec S16 32) (v3632 : IVec S16 32) (k0_hw133 : k0_chk133 v179 v207 v259 v287 v1726 v1729 v1730 v1732 v1733 v3632), ∀ a x, ((![v1726, v1729, v3632, v179] : Fin 4 → IVec S16 32) a x).toNat < S2x7x64x128.size a := fun v179 v207 v259 v287 v1726 v1729 v1730 v1732 v1733 v3632 k0_hw133 => k0_hw133.1
theorem k0_idx146_inb : ∀ (v179 : IVec S16 32) (v207 : IVec S16 32) (v259 : IVec S16 32) (v287 : IVec S16 32) (v1726 : IVec S16 32) (v1729 : IVec S16 32) (v1730 : IVec S16 32) (v1732 : IVec S16 32) (v1733 : IVec S16 32) (v3632 : IVec S16 32) (k0_hw133 : k0_chk133 v179 v207 v259 v287 v1726 v1729 v1730 v1732 v1733 v3632), ∀ a x, ((![v1726, v1730, v3632, v207] : Fin 4 → IVec S16 32) a x).toNat < S2x7x64x128.size a := fun v179 v207 v259 v287 v1726 v1729 v1730 v1732 v1733 v3632 k0_hw133 => k0_hw133.2.1
theorem k0_idx147_inb : ∀ (v179 : IVec S16 32) (v207 : IVec S16 32) (v259 : IVec S16 32) (v287 : IVec S16 32) (v1726 : IVec S16 32) (v1729 : IVec S16 32) (v1730 : IVec S16 32) (v1732 : IVec S16 32) (v1733 : IVec S16 32) (v3632 : IVec S16 32) (k0_hw133 : k0_chk133 v179 v207 v259 v287 v1726 v1729 v1730 v1732 v1733 v3632), ∀ a x, ((![v1726, v1732, v3632, v259] : Fin 4 → IVec S16 32) a x).toNat < S2x7x64x128.size a := fun v179 v207 v259 v287 v1726 v1729 v1730 v1732 v1733 v3632 k0_hw133 => k0_hw133.2.2.1
theorem k0_idx148_inb : ∀ (v179 : IVec S16 32) (v207 : IVec S16 32) (v259 : IVec S16 32) (v287 : IVec S16 32) (v1726 : IVec S16 32) (v1729 : IVec S16 32) (v1730 : IVec S16 32) (v1732 : IVec S16 32) (v1733 : IVec S16 32) (v3632 : IVec S16 32) (k0_hw133 : k0_chk133 v179 v207 v259 v287 v1726 v1729 v1730 v1732 v1733 v3632), ∀ a x, ((![v1726, v1733, v3632, v287] : Fin 4 → IVec S16 32) a x).toNat < S2x7x64x128.size a := fun v179 v207 v259 v287 v1726 v1729 v1730 v1732 v1733 v3632 k0_hw133 => k0_hw133.2.2.2
def k0_off55 (k0_t3 : Fin k0_t3_loop.trips) : Fin 4 → Nat :=
  let c0_i32_2300 : BitVec 32 := 0#32
  let c6_i32_2301 : BitVec 32 := 6#32
  let c0_i32_1109 : BitVec 32 := 0#32
  let c1_i32_1111 : BitVec 32 := 1#32
  let arg19 : BitVec 32 := Scf.iv c0_i32_1109 c1_i32_1111 k0_t3
  let c2_i32_2129 : BitVec 32 := 2#32
  let v3631 : BitVec 32 := Scalar.muli arg19 c2_i32_2129
  let c0_i32_2302 : BitVec 32 := 0#32
  ![0, 6, v3631.toNat, 0]
def k0_off56 (k0_t3 : Fin k0_t3_loop.trips) : Fin 1 → Nat :=
  let c0_i32_1109 : BitVec 32 := 0#32
  let c1_i32_1111 : BitVec 32 := 1#32
  let arg19 : BitVec 32 := Scf.iv c0_i32_1109 c1_i32_1111 k0_t3
  let c2_i32_2129 : BitVec 32 := 2#32
  let v3631 : BitVec 32 := Scalar.muli arg19 c2_i32_2129
  let c17_i32_2324 : BitVec 32 := 17#32
  let v3848 : BitVec 32 := Scalar.muli v3631 c17_i32_2324
  let v3849 : Index := Scalar.indexCast v3848
  ![v3849.toNat]
def k0_off57 (k0_t3 : Fin k0_t3_loop.trips) : Fin 4 → Nat :=
  let c0_i32_2327 : BitVec 32 := 0#32
  let c0_i32_2328 : BitVec 32 := 0#32
  let c0_i32_1109 : BitVec 32 := 0#32
  let c1_i32_1111 : BitVec 32 := 1#32
  let arg19 : BitVec 32 := Scf.iv c0_i32_1109 c1_i32_1111 k0_t3
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2329 : BitVec 32 := 0#32
  ![0, 0, v3851.toNat, 0]
def k0_off58 (k0_t3 : Fin k0_t3_loop.trips) : Fin 4 → Nat :=
  let c0_i32_2331 : BitVec 32 := 0#32
  let c1_i32_2332 : BitVec 32 := 1#32
  let c0_i32_1109 : BitVec 32 := 0#32
  let c1_i32_1111 : BitVec 32 := 1#32
  let arg19 : BitVec 32 := Scf.iv c0_i32_1109 c1_i32_1111 k0_t3
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2333 : BitVec 32 := 0#32
  ![0, 1, v3851.toNat, 0]
def k0_off59 (k0_t3 : Fin k0_t3_loop.trips) : Fin 4 → Nat :=
  let c0_i32_2391 : BitVec 32 := 0#32
  let c2_i32_2392 : BitVec 32 := 2#32
  let c0_i32_1109 : BitVec 32 := 0#32
  let c1_i32_1111 : BitVec 32 := 1#32
  let arg19 : BitVec 32 := Scf.iv c0_i32_1109 c1_i32_1111 k0_t3
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2393 : BitVec 32 := 0#32
  ![0, 2, v3851.toNat, 0]
def k0_off60 (k0_t3 : Fin k0_t3_loop.trips) : Fin 4 → Nat :=
  let c0_i32_2415 : BitVec 32 := 0#32
  let c2_i32_2416 : BitVec 32 := 2#32
  let c0_i32_1109 : BitVec 32 := 0#32
  let c1_i32_1111 : BitVec 32 := 1#32
  let arg19 : BitVec 32 := Scf.iv c0_i32_1109 c1_i32_1111 k0_t3
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2417 : BitVec 32 := 0#32
  ![0, 2, v3851.toNat, 0]
def k0_off61 (k0_t3 : Fin k0_t3_loop.trips) : Fin 4 → Nat :=
  let c0_i32_2419 : BitVec 32 := 0#32
  let c3_i32_2420 : BitVec 32 := 3#32
  let c0_i32_1109 : BitVec 32 := 0#32
  let c1_i32_1111 : BitVec 32 := 1#32
  let arg19 : BitVec 32 := Scf.iv c0_i32_1109 c1_i32_1111 k0_t3
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2421 : BitVec 32 := 0#32
  ![0, 3, v3851.toNat, 0]
def k0_off62 (k0_t3 : Fin k0_t3_loop.trips) : Fin 4 → Nat :=
  let c0_i32_2447 : BitVec 32 := 0#32
  let c4_i32_2448 : BitVec 32 := 4#32
  let c0_i32_1109 : BitVec 32 := 0#32
  let c1_i32_1111 : BitVec 32 := 1#32
  let arg19 : BitVec 32 := Scf.iv c0_i32_1109 c1_i32_1111 k0_t3
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2449 : BitVec 32 := 0#32
  ![0, 4, v3851.toNat, 0]
def k0_off63 (k0_t3 : Fin k0_t3_loop.trips) : Fin 4 → Nat :=
  let c0_i32_2479 : BitVec 32 := 0#32
  let c5_i32_2480 : BitVec 32 := 5#32
  let c0_i32_1109 : BitVec 32 := 0#32
  let c1_i32_1111 : BitVec 32 := 1#32
  let arg19 : BitVec 32 := Scf.iv c0_i32_1109 c1_i32_1111 k0_t3
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2481 : BitVec 32 := 0#32
  ![0, 5, v3851.toNat, 0]
def k0_off64 (k0_t3 : Fin k0_t3_loop.trips) : Fin 4 → Nat :=
  let c0_i32_2507 : BitVec 32 := 0#32
  let c6_i32_2508 : BitVec 32 := 6#32
  let c0_i32_1109 : BitVec 32 := 0#32
  let c1_i32_1111 : BitVec 32 := 1#32
  let arg19 : BitVec 32 := Scf.iv c0_i32_1109 c1_i32_1111 k0_t3
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2509 : BitVec 32 := 0#32
  ![0, 6, v3851.toNat, 0]

def k0_chk134 (v179 : IVec S16 32) (v207 : IVec S16 32) (v259 : IVec S16 32) (v287 : IVec S16 32) (v1726 : IVec S16 32) (v1729 : IVec S16 32) (v1730 : IVec S16 32) (v1732 : IVec S16 32) (v1733 : IVec S16 32) (v3853 : IVec S16 32) : Prop :=
  (∀ a x, ((![v1726, v1729, v3853, v179] : Fin 4 → IVec S16 32) a x).toNat < S2x7x64x128.size a) ∧
  (∀ a x, ((![v1726, v1730, v3853, v207] : Fin 4 → IVec S16 32) a x).toNat < S2x7x64x128.size a) ∧
  (∀ a x, ((![v1726, v1732, v3853, v259] : Fin 4 → IVec S16 32) a x).toNat < S2x7x64x128.size a) ∧
  (∀ a x, ((![v1726, v1733, v3853, v287] : Fin 4 → IVec S16 32) a x).toNat < S2x7x64x128.size a)
theorem k0_idx149_inb : ∀ (v179 : IVec S16 32) (v207 : IVec S16 32) (v259 : IVec S16 32) (v287 : IVec S16 32) (v1726 : IVec S16 32) (v1729 : IVec S16 32) (v1730 : IVec S16 32) (v1732 : IVec S16 32) (v1733 : IVec S16 32) (v3853 : IVec S16 32) (k0_hw134 : k0_chk134 v179 v207 v259 v287 v1726 v1729 v1730 v1732 v1733 v3853), ∀ a x, ((![v1726, v1729, v3853, v179] : Fin 4 → IVec S16 32) a x).toNat < S2x7x64x128.size a := fun v179 v207 v259 v287 v1726 v1729 v1730 v1732 v1733 v3853 k0_hw134 => k0_hw134.1
theorem k0_idx150_inb : ∀ (v179 : IVec S16 32) (v207 : IVec S16 32) (v259 : IVec S16 32) (v287 : IVec S16 32) (v1726 : IVec S16 32) (v1729 : IVec S16 32) (v1730 : IVec S16 32) (v1732 : IVec S16 32) (v1733 : IVec S16 32) (v3853 : IVec S16 32) (k0_hw134 : k0_chk134 v179 v207 v259 v287 v1726 v1729 v1730 v1732 v1733 v3853), ∀ a x, ((![v1726, v1730, v3853, v207] : Fin 4 → IVec S16 32) a x).toNat < S2x7x64x128.size a := fun v179 v207 v259 v287 v1726 v1729 v1730 v1732 v1733 v3853 k0_hw134 => k0_hw134.2.1
theorem k0_idx151_inb : ∀ (v179 : IVec S16 32) (v207 : IVec S16 32) (v259 : IVec S16 32) (v287 : IVec S16 32) (v1726 : IVec S16 32) (v1729 : IVec S16 32) (v1730 : IVec S16 32) (v1732 : IVec S16 32) (v1733 : IVec S16 32) (v3853 : IVec S16 32) (k0_hw134 : k0_chk134 v179 v207 v259 v287 v1726 v1729 v1730 v1732 v1733 v3853), ∀ a x, ((![v1726, v1732, v3853, v259] : Fin 4 → IVec S16 32) a x).toNat < S2x7x64x128.size a := fun v179 v207 v259 v287 v1726 v1729 v1730 v1732 v1733 v3853 k0_hw134 => k0_hw134.2.2.1
theorem k0_idx152_inb : ∀ (v179 : IVec S16 32) (v207 : IVec S16 32) (v259 : IVec S16 32) (v287 : IVec S16 32) (v1726 : IVec S16 32) (v1729 : IVec S16 32) (v1730 : IVec S16 32) (v1732 : IVec S16 32) (v1733 : IVec S16 32) (v3853 : IVec S16 32) (k0_hw134 : k0_chk134 v179 v207 v259 v287 v1726 v1729 v1730 v1732 v1733 v3853), ∀ a x, ((![v1726, v1733, v3853, v287] : Fin 4 → IVec S16 32) a x).toNat < S2x7x64x128.size a := fun v179 v207 v259 v287 v1726 v1729 v1730 v1732 v1733 v3853 k0_hw134 => k0_hw134.2.2.2
def k0_off65 (k0_t3 : Fin k0_t3_loop.trips) : Fin 1 → Nat :=
  let c0_i32_1109 : BitVec 32 := 0#32
  let c1_i32_1111 : BitVec 32 := 1#32
  let arg19 : BitVec 32 := Scf.iv c0_i32_1109 c1_i32_1111 k0_t3
  let c2_i32_2129 : BitVec 32 := 2#32
  let v3631 : BitVec 32 := Scalar.muli arg19 c2_i32_2129
  let c1_i32_2325 : BitVec 32 := 1#32
  let v3851 : BitVec 32 := Scalar.addi v3631 c1_i32_2325
  let c17_i32_2535 : BitVec 32 := 17#32
  let v4069 : BitVec 32 := Scalar.muli v3851 c17_i32_2535
  let v4070 : Index := Scalar.indexCast v4069
  ![v4070.toNat]

def k0_chk135 (v1736 : IVec S16 32) : Prop :=
  (∀ a x, ((![v1736] : Fin 1 → IVec S16 32) a x).toNat < S1088.size a)
theorem k0_idx153_inb : ∀ (v1736 : IVec S16 32) (k0_hw135 : k0_chk135 v1736), ∀ a x, ((![v1736] : Fin 1 → IVec S16 32) a x).toNat < S1088.size a := fun v1736 k0_hw135 => k0_hw135

def k0_chk136 (v1739 : IVec S16 32) : Prop :=
  (∀ a x, ((![v1739] : Fin 1 → IVec S16 32) a x).toNat < S1088.size a)
theorem k0_idx154_inb : ∀ (v1739 : IVec S16 32) (k0_hw136 : k0_chk136 v1739), ∀ a x, ((![v1739] : Fin 1 → IVec S16 32) a x).toNat < S1088.size a := fun v1739 k0_hw136 => k0_hw136

def k0_chk137 (v1743 : IVec S16 32) : Prop :=
  (∀ a x, ((![v1743] : Fin 1 → IVec S16 32) a x).toNat < S1088.size a)
theorem k0_idx155_inb : ∀ (v1743 : IVec S16 32) (k0_hw137 : k0_chk137 v1743), ∀ a x, ((![v1743] : Fin 1 → IVec S16 32) a x).toNat < S1088.size a := fun v1743 k0_hw137 => k0_hw137

def k0_chk138 (v1747 : IVec S16 32) : Prop :=
  (∀ a x, ((![v1747] : Fin 1 → IVec S16 32) a x).toNat < S1088.size a)
theorem k0_idx156_inb : ∀ (v1747 : IVec S16 32) (k0_hw138 : k0_chk138 v1747), ∀ a x, ((![v1747] : Fin 1 → IVec S16 32) a x).toNat < S1088.size a := fun v1747 k0_hw138 => k0_hw138

def k0_chk139 (v1751 : IVec S16 32) : Prop :=
  (∀ a x, ((![v1751] : Fin 1 → IVec S16 32) a x).toNat < S1088.size a)
theorem k0_idx157_inb : ∀ (v1751 : IVec S16 32) (k0_hw139 : k0_chk139 v1751), ∀ a x, ((![v1751] : Fin 1 → IVec S16 32) a x).toNat < S1088.size a := fun v1751 k0_hw139 => k0_hw139

def k0_chk140 (v1755 : IVec S16 32) : Prop :=
  (∀ a x, ((![v1755] : Fin 1 → IVec S16 32) a x).toNat < S1088.size a)
theorem k0_idx158_inb : ∀ (v1755 : IVec S16 32) (k0_hw140 : k0_chk140 v1755), ∀ a x, ((![v1755] : Fin 1 → IVec S16 32) a x).toNat < S1088.size a := fun v1755 k0_hw140 => k0_hw140

def k0_chk141 (v1759 : IVec S16 32) : Prop :=
  (∀ a x, ((![v1759] : Fin 1 → IVec S16 32) a x).toNat < S1088.size a)
theorem k0_idx159_inb : ∀ (v1759 : IVec S16 32) (k0_hw141 : k0_chk141 v1759), ∀ a x, ((![v1759] : Fin 1 → IVec S16 32) a x).toNat < S1088.size a := fun v1759 k0_hw141 => k0_hw141

def k0_chk142 (v1763 : IVec S16 32) : Prop :=
  (∀ a x, ((![v1763] : Fin 1 → IVec S16 32) a x).toNat < S1088.size a)
theorem k0_idx160_inb : ∀ (v1763 : IVec S16 32) (k0_hw142 : k0_chk142 v1763), ∀ a x, ((![v1763] : Fin 1 → IVec S16 32) a x).toNat < S1088.size a := fun v1763 k0_hw142 => k0_hw142

def k0_chk143 (v1767 : IVec S16 32) : Prop :=
  (∀ a x, ((![v1767] : Fin 1 → IVec S16 32) a x).toNat < S1088.size a)
theorem k0_idx161_inb : ∀ (v1767 : IVec S16 32) (k0_hw143 : k0_chk143 v1767), ∀ a x, ((![v1767] : Fin 1 → IVec S16 32) a x).toNat < S1088.size a := fun v1767 k0_hw143 => k0_hw143

def k0_chk144 (v1771 : IVec S16 32) : Prop :=
  (∀ a x, ((![v1771] : Fin 1 → IVec S16 32) a x).toNat < S1088.size a)
theorem k0_idx162_inb : ∀ (v1771 : IVec S16 32) (k0_hw144 : k0_chk144 v1771), ∀ a x, ((![v1771] : Fin 1 → IVec S16 32) a x).toNat < S1088.size a := fun v1771 k0_hw144 => k0_hw144

def k0_chk145 (v1775 : IVec S16 32) : Prop :=
  (∀ a x, ((![v1775] : Fin 1 → IVec S16 32) a x).toNat < S1088.size a)
theorem k0_idx163_inb : ∀ (v1775 : IVec S16 32) (k0_hw145 : k0_chk145 v1775), ∀ a x, ((![v1775] : Fin 1 → IVec S16 32) a x).toNat < S1088.size a := fun v1775 k0_hw145 => k0_hw145

def k0_chk146 (v1779 : IVec S16 32) : Prop :=
  (∀ a x, ((![v1779] : Fin 1 → IVec S16 32) a x).toNat < S1088.size a)
theorem k0_idx164_inb : ∀ (v1779 : IVec S16 32) (k0_hw146 : k0_chk146 v1779), ∀ a x, ((![v1779] : Fin 1 → IVec S16 32) a x).toNat < S1088.size a := fun v1779 k0_hw146 => k0_hw146

def k0_chk147 (v1783 : IVec S16 32) : Prop :=
  (∀ a x, ((![v1783] : Fin 1 → IVec S16 32) a x).toNat < S1088.size a)
theorem k0_idx165_inb : ∀ (v1783 : IVec S16 32) (k0_hw147 : k0_chk147 v1783), ∀ a x, ((![v1783] : Fin 1 → IVec S16 32) a x).toNat < S1088.size a := fun v1783 k0_hw147 => k0_hw147

def k0_chk148 (v1787 : IVec S16 32) : Prop :=
  (∀ a x, ((![v1787] : Fin 1 → IVec S16 32) a x).toNat < S1088.size a)
theorem k0_idx166_inb : ∀ (v1787 : IVec S16 32) (k0_hw148 : k0_chk148 v1787), ∀ a x, ((![v1787] : Fin 1 → IVec S16 32) a x).toNat < S1088.size a := fun v1787 k0_hw148 => k0_hw148

def k0_chk149 (v1791 : IVec S16 32) : Prop :=
  (∀ a x, ((![v1791] : Fin 1 → IVec S16 32) a x).toNat < S1088.size a)
theorem k0_idx167_inb : ∀ (v1791 : IVec S16 32) (k0_hw149 : k0_chk149 v1791), ∀ a x, ((![v1791] : Fin 1 → IVec S16 32) a x).toNat < S1088.size a := fun v1791 k0_hw149 => k0_hw149

def k0_chk150 (v1795 : IVec S16 32) : Prop :=
  (∀ a x, ((![v1795] : Fin 1 → IVec S16 32) a x).toNat < S1088.size a)
theorem k0_idx168_inb : ∀ (v1795 : IVec S16 32) (k0_hw150 : k0_chk150 v1795), ∀ a x, ((![v1795] : Fin 1 → IVec S16 32) a x).toNat < S1088.size a := fun v1795 k0_hw150 => k0_hw150

def k0_chk151 (v1800 : IVec S16 32) : Prop :=
  (∀ a x, ((![v1800] : Fin 1 → IVec S16 32) a x).toNat < S1088.size a)
theorem k0_idx169_inb : ∀ (v1800 : IVec S16 32) (k0_hw151 : k0_chk151 v1800), ∀ a x, ((![v1800] : Fin 1 → IVec S16 32) a x).toNat < S1088.size a := fun v1800 k0_hw151 => k0_hw151

def k0_chk152 (v1803 : IVec S16 32) : Prop :=
  (∀ a x, ((![v1803] : Fin 1 → IVec S16 32) a x).toNat < S1088.size a)
theorem k0_idx170_inb : ∀ (v1803 : IVec S16 32) (k0_hw152 : k0_chk152 v1803), ∀ a x, ((![v1803] : Fin 1 → IVec S16 32) a x).toNat < S1088.size a := fun v1803 k0_hw152 => k0_hw152

def k0_chk153 (v1807 : IVec S16 32) : Prop :=
  (∀ a x, ((![v1807] : Fin 1 → IVec S16 32) a x).toNat < S1088.size a)
theorem k0_idx171_inb : ∀ (v1807 : IVec S16 32) (k0_hw153 : k0_chk153 v1807), ∀ a x, ((![v1807] : Fin 1 → IVec S16 32) a x).toNat < S1088.size a := fun v1807 k0_hw153 => k0_hw153

def k0_chk154 (v1811 : IVec S16 32) : Prop :=
  (∀ a x, ((![v1811] : Fin 1 → IVec S16 32) a x).toNat < S1088.size a)
theorem k0_idx172_inb : ∀ (v1811 : IVec S16 32) (k0_hw154 : k0_chk154 v1811), ∀ a x, ((![v1811] : Fin 1 → IVec S16 32) a x).toNat < S1088.size a := fun v1811 k0_hw154 => k0_hw154

def k0_chk155 (v1815 : IVec S16 32) : Prop :=
  (∀ a x, ((![v1815] : Fin 1 → IVec S16 32) a x).toNat < S1088.size a)
theorem k0_idx173_inb : ∀ (v1815 : IVec S16 32) (k0_hw155 : k0_chk155 v1815), ∀ a x, ((![v1815] : Fin 1 → IVec S16 32) a x).toNat < S1088.size a := fun v1815 k0_hw155 => k0_hw155

def k0_chk156 (v1819 : IVec S16 32) : Prop :=
  (∀ a x, ((![v1819] : Fin 1 → IVec S16 32) a x).toNat < S1088.size a)
theorem k0_idx174_inb : ∀ (v1819 : IVec S16 32) (k0_hw156 : k0_chk156 v1819), ∀ a x, ((![v1819] : Fin 1 → IVec S16 32) a x).toNat < S1088.size a := fun v1819 k0_hw156 => k0_hw156

def k0_chk157 (v1823 : IVec S16 32) : Prop :=
  (∀ a x, ((![v1823] : Fin 1 → IVec S16 32) a x).toNat < S1088.size a)
theorem k0_idx175_inb : ∀ (v1823 : IVec S16 32) (k0_hw157 : k0_chk157 v1823), ∀ a x, ((![v1823] : Fin 1 → IVec S16 32) a x).toNat < S1088.size a := fun v1823 k0_hw157 => k0_hw157

def k0_chk158 (v1827 : IVec S16 32) : Prop :=
  (∀ a x, ((![v1827] : Fin 1 → IVec S16 32) a x).toNat < S1088.size a)
theorem k0_idx176_inb : ∀ (v1827 : IVec S16 32) (k0_hw158 : k0_chk158 v1827), ∀ a x, ((![v1827] : Fin 1 → IVec S16 32) a x).toNat < S1088.size a := fun v1827 k0_hw158 => k0_hw158

def k0_chk159 (v1831 : IVec S16 32) : Prop :=
  (∀ a x, ((![v1831] : Fin 1 → IVec S16 32) a x).toNat < S1088.size a)
theorem k0_idx177_inb : ∀ (v1831 : IVec S16 32) (k0_hw159 : k0_chk159 v1831), ∀ a x, ((![v1831] : Fin 1 → IVec S16 32) a x).toNat < S1088.size a := fun v1831 k0_hw159 => k0_hw159

def k0_chk160 (v1835 : IVec S16 32) : Prop :=
  (∀ a x, ((![v1835] : Fin 1 → IVec S16 32) a x).toNat < S1088.size a)
theorem k0_idx178_inb : ∀ (v1835 : IVec S16 32) (k0_hw160 : k0_chk160 v1835), ∀ a x, ((![v1835] : Fin 1 → IVec S16 32) a x).toNat < S1088.size a := fun v1835 k0_hw160 => k0_hw160

def k0_chk161 (v1839 : IVec S16 32) : Prop :=
  (∀ a x, ((![v1839] : Fin 1 → IVec S16 32) a x).toNat < S1088.size a)
theorem k0_idx179_inb : ∀ (v1839 : IVec S16 32) (k0_hw161 : k0_chk161 v1839), ∀ a x, ((![v1839] : Fin 1 → IVec S16 32) a x).toNat < S1088.size a := fun v1839 k0_hw161 => k0_hw161

def k0_chk162 (v1843 : IVec S16 32) : Prop :=
  (∀ a x, ((![v1843] : Fin 1 → IVec S16 32) a x).toNat < S1088.size a)
theorem k0_idx180_inb : ∀ (v1843 : IVec S16 32) (k0_hw162 : k0_chk162 v1843), ∀ a x, ((![v1843] : Fin 1 → IVec S16 32) a x).toNat < S1088.size a := fun v1843 k0_hw162 => k0_hw162

def k0_chk163 (v1847 : IVec S16 32) : Prop :=
  (∀ a x, ((![v1847] : Fin 1 → IVec S16 32) a x).toNat < S1088.size a)
theorem k0_idx181_inb : ∀ (v1847 : IVec S16 32) (k0_hw163 : k0_chk163 v1847), ∀ a x, ((![v1847] : Fin 1 → IVec S16 32) a x).toNat < S1088.size a := fun v1847 k0_hw163 => k0_hw163

def k0_chk164 (v1851 : IVec S16 32) : Prop :=
  (∀ a x, ((![v1851] : Fin 1 → IVec S16 32) a x).toNat < S1088.size a)
theorem k0_idx182_inb : ∀ (v1851 : IVec S16 32) (k0_hw164 : k0_chk164 v1851), ∀ a x, ((![v1851] : Fin 1 → IVec S16 32) a x).toNat < S1088.size a := fun v1851 k0_hw164 => k0_hw164

def k0_chk165 (v1855 : IVec S16 32) : Prop :=
  (∀ a x, ((![v1855] : Fin 1 → IVec S16 32) a x).toNat < S1088.size a)
theorem k0_idx183_inb : ∀ (v1855 : IVec S16 32) (k0_hw165 : k0_chk165 v1855), ∀ a x, ((![v1855] : Fin 1 → IVec S16 32) a x).toNat < S1088.size a := fun v1855 k0_hw165 => k0_hw165

def k0_chk166 (v1859 : IVec S16 32) : Prop :=
  (∀ a x, ((![v1859] : Fin 1 → IVec S16 32) a x).toNat < S1088.size a)
theorem k0_idx184_inb : ∀ (v1859 : IVec S16 32) (k0_hw166 : k0_chk166 v1859), ∀ a x, ((![v1859] : Fin 1 → IVec S16 32) a x).toNat < S1088.size a := fun v1859 k0_hw166 => k0_hw166

def k0_chk167 (v1864 : IVec S16 32) : Prop :=
  (∀ a x, ((![v1864] : Fin 1 → IVec S16 32) a x).toNat < S1088.size a)
theorem k0_idx185_inb : ∀ (v1864 : IVec S16 32) (k0_hw167 : k0_chk167 v1864), ∀ a x, ((![v1864] : Fin 1 → IVec S16 32) a x).toNat < S1088.size a := fun v1864 k0_hw167 => k0_hw167

def k0_chk168 (v1867 : IVec S16 32) : Prop :=
  (∀ a x, ((![v1867] : Fin 1 → IVec S16 32) a x).toNat < S1088.size a)
theorem k0_idx186_inb : ∀ (v1867 : IVec S16 32) (k0_hw168 : k0_chk168 v1867), ∀ a x, ((![v1867] : Fin 1 → IVec S16 32) a x).toNat < S1088.size a := fun v1867 k0_hw168 => k0_hw168

def k0_chk169 (v1871 : IVec S16 32) : Prop :=
  (∀ a x, ((![v1871] : Fin 1 → IVec S16 32) a x).toNat < S1088.size a)
theorem k0_idx187_inb : ∀ (v1871 : IVec S16 32) (k0_hw169 : k0_chk169 v1871), ∀ a x, ((![v1871] : Fin 1 → IVec S16 32) a x).toNat < S1088.size a := fun v1871 k0_hw169 => k0_hw169

def k0_chk170 (v1875 : IVec S16 32) : Prop :=
  (∀ a x, ((![v1875] : Fin 1 → IVec S16 32) a x).toNat < S1088.size a)
theorem k0_idx188_inb : ∀ (v1875 : IVec S16 32) (k0_hw170 : k0_chk170 v1875), ∀ a x, ((![v1875] : Fin 1 → IVec S16 32) a x).toNat < S1088.size a := fun v1875 k0_hw170 => k0_hw170

def k0_chk171 (v1879 : IVec S16 32) : Prop :=
  (∀ a x, ((![v1879] : Fin 1 → IVec S16 32) a x).toNat < S1088.size a)
theorem k0_idx189_inb : ∀ (v1879 : IVec S16 32) (k0_hw171 : k0_chk171 v1879), ∀ a x, ((![v1879] : Fin 1 → IVec S16 32) a x).toNat < S1088.size a := fun v1879 k0_hw171 => k0_hw171

def k0_chk172 (v1883 : IVec S16 32) : Prop :=
  (∀ a x, ((![v1883] : Fin 1 → IVec S16 32) a x).toNat < S1088.size a)
theorem k0_idx190_inb : ∀ (v1883 : IVec S16 32) (k0_hw172 : k0_chk172 v1883), ∀ a x, ((![v1883] : Fin 1 → IVec S16 32) a x).toNat < S1088.size a := fun v1883 k0_hw172 => k0_hw172

def k0_chk173 (v1887 : IVec S16 32) : Prop :=
  (∀ a x, ((![v1887] : Fin 1 → IVec S16 32) a x).toNat < S1088.size a)
theorem k0_idx191_inb : ∀ (v1887 : IVec S16 32) (k0_hw173 : k0_chk173 v1887), ∀ a x, ((![v1887] : Fin 1 → IVec S16 32) a x).toNat < S1088.size a := fun v1887 k0_hw173 => k0_hw173

def k0_chk174 (v1891 : IVec S16 32) : Prop :=
  (∀ a x, ((![v1891] : Fin 1 → IVec S16 32) a x).toNat < S1088.size a)
theorem k0_idx192_inb : ∀ (v1891 : IVec S16 32) (k0_hw174 : k0_chk174 v1891), ∀ a x, ((![v1891] : Fin 1 → IVec S16 32) a x).toNat < S1088.size a := fun v1891 k0_hw174 => k0_hw174

def k0_chk175 (v1895 : IVec S16 32) : Prop :=
  (∀ a x, ((![v1895] : Fin 1 → IVec S16 32) a x).toNat < S1088.size a)
theorem k0_idx193_inb : ∀ (v1895 : IVec S16 32) (k0_hw175 : k0_chk175 v1895), ∀ a x, ((![v1895] : Fin 1 → IVec S16 32) a x).toNat < S1088.size a := fun v1895 k0_hw175 => k0_hw175

def k0_chk176 (v1899 : IVec S16 32) : Prop :=
  (∀ a x, ((![v1899] : Fin 1 → IVec S16 32) a x).toNat < S1088.size a)
theorem k0_idx194_inb : ∀ (v1899 : IVec S16 32) (k0_hw176 : k0_chk176 v1899), ∀ a x, ((![v1899] : Fin 1 → IVec S16 32) a x).toNat < S1088.size a := fun v1899 k0_hw176 => k0_hw176

def k0_chk177 (v1903 : IVec S16 32) : Prop :=
  (∀ a x, ((![v1903] : Fin 1 → IVec S16 32) a x).toNat < S1088.size a)
theorem k0_idx195_inb : ∀ (v1903 : IVec S16 32) (k0_hw177 : k0_chk177 v1903), ∀ a x, ((![v1903] : Fin 1 → IVec S16 32) a x).toNat < S1088.size a := fun v1903 k0_hw177 => k0_hw177

def k0_chk178 (v1907 : IVec S16 32) : Prop :=
  (∀ a x, ((![v1907] : Fin 1 → IVec S16 32) a x).toNat < S1088.size a)
theorem k0_idx196_inb : ∀ (v1907 : IVec S16 32) (k0_hw178 : k0_chk178 v1907), ∀ a x, ((![v1907] : Fin 1 → IVec S16 32) a x).toNat < S1088.size a := fun v1907 k0_hw178 => k0_hw178

def k0_chk179 (v1911 : IVec S16 32) : Prop :=
  (∀ a x, ((![v1911] : Fin 1 → IVec S16 32) a x).toNat < S1088.size a)
theorem k0_idx197_inb : ∀ (v1911 : IVec S16 32) (k0_hw179 : k0_chk179 v1911), ∀ a x, ((![v1911] : Fin 1 → IVec S16 32) a x).toNat < S1088.size a := fun v1911 k0_hw179 => k0_hw179

def k0_chk180 (v1915 : IVec S16 32) : Prop :=
  (∀ a x, ((![v1915] : Fin 1 → IVec S16 32) a x).toNat < S1088.size a)
theorem k0_idx198_inb : ∀ (v1915 : IVec S16 32) (k0_hw180 : k0_chk180 v1915), ∀ a x, ((![v1915] : Fin 1 → IVec S16 32) a x).toNat < S1088.size a := fun v1915 k0_hw180 => k0_hw180

def k0_chk181 (v1919 : IVec S16 32) : Prop :=
  (∀ a x, ((![v1919] : Fin 1 → IVec S16 32) a x).toNat < S1088.size a)
theorem k0_idx199_inb : ∀ (v1919 : IVec S16 32) (k0_hw181 : k0_chk181 v1919), ∀ a x, ((![v1919] : Fin 1 → IVec S16 32) a x).toNat < S1088.size a := fun v1919 k0_hw181 => k0_hw181

def k0_chk182 (v1923 : IVec S16 32) : Prop :=
  (∀ a x, ((![v1923] : Fin 1 → IVec S16 32) a x).toNat < S1088.size a)
theorem k0_idx200_inb : ∀ (v1923 : IVec S16 32) (k0_hw182 : k0_chk182 v1923), ∀ a x, ((![v1923] : Fin 1 → IVec S16 32) a x).toNat < S1088.size a := fun v1923 k0_hw182 => k0_hw182

def k0_chk183 (v1928 : IVec S16 32) : Prop :=
  (∀ a x, ((![v1928] : Fin 1 → IVec S16 32) a x).toNat < S1088.size a)
theorem k0_idx201_inb : ∀ (v1928 : IVec S16 32) (k0_hw183 : k0_chk183 v1928), ∀ a x, ((![v1928] : Fin 1 → IVec S16 32) a x).toNat < S1088.size a := fun v1928 k0_hw183 => k0_hw183

def k0_chk184 (v1931 : IVec S16 32) : Prop :=
  (∀ a x, ((![v1931] : Fin 1 → IVec S16 32) a x).toNat < S1088.size a)
theorem k0_idx202_inb : ∀ (v1931 : IVec S16 32) (k0_hw184 : k0_chk184 v1931), ∀ a x, ((![v1931] : Fin 1 → IVec S16 32) a x).toNat < S1088.size a := fun v1931 k0_hw184 => k0_hw184

def k0_chk185 (v1935 : IVec S16 32) : Prop :=
  (∀ a x, ((![v1935] : Fin 1 → IVec S16 32) a x).toNat < S1088.size a)
theorem k0_idx203_inb : ∀ (v1935 : IVec S16 32) (k0_hw185 : k0_chk185 v1935), ∀ a x, ((![v1935] : Fin 1 → IVec S16 32) a x).toNat < S1088.size a := fun v1935 k0_hw185 => k0_hw185

def k0_chk186 (v1939 : IVec S16 32) : Prop :=
  (∀ a x, ((![v1939] : Fin 1 → IVec S16 32) a x).toNat < S1088.size a)
theorem k0_idx204_inb : ∀ (v1939 : IVec S16 32) (k0_hw186 : k0_chk186 v1939), ∀ a x, ((![v1939] : Fin 1 → IVec S16 32) a x).toNat < S1088.size a := fun v1939 k0_hw186 => k0_hw186

def k0_chk187 (v1943 : IVec S16 32) : Prop :=
  (∀ a x, ((![v1943] : Fin 1 → IVec S16 32) a x).toNat < S1088.size a)
theorem k0_idx205_inb : ∀ (v1943 : IVec S16 32) (k0_hw187 : k0_chk187 v1943), ∀ a x, ((![v1943] : Fin 1 → IVec S16 32) a x).toNat < S1088.size a := fun v1943 k0_hw187 => k0_hw187

def k0_chk188 (v1947 : IVec S16 32) : Prop :=
  (∀ a x, ((![v1947] : Fin 1 → IVec S16 32) a x).toNat < S1088.size a)
theorem k0_idx206_inb : ∀ (v1947 : IVec S16 32) (k0_hw188 : k0_chk188 v1947), ∀ a x, ((![v1947] : Fin 1 → IVec S16 32) a x).toNat < S1088.size a := fun v1947 k0_hw188 => k0_hw188

def k0_chk189 (v1951 : IVec S16 32) : Prop :=
  (∀ a x, ((![v1951] : Fin 1 → IVec S16 32) a x).toNat < S1088.size a)
theorem k0_idx207_inb : ∀ (v1951 : IVec S16 32) (k0_hw189 : k0_chk189 v1951), ∀ a x, ((![v1951] : Fin 1 → IVec S16 32) a x).toNat < S1088.size a := fun v1951 k0_hw189 => k0_hw189

def k0_chk190 (v1955 : IVec S16 32) : Prop :=
  (∀ a x, ((![v1955] : Fin 1 → IVec S16 32) a x).toNat < S1088.size a)
theorem k0_idx208_inb : ∀ (v1955 : IVec S16 32) (k0_hw190 : k0_chk190 v1955), ∀ a x, ((![v1955] : Fin 1 → IVec S16 32) a x).toNat < S1088.size a := fun v1955 k0_hw190 => k0_hw190

def k0_chk191 (v1959 : IVec S16 32) : Prop :=
  (∀ a x, ((![v1959] : Fin 1 → IVec S16 32) a x).toNat < S1088.size a)
theorem k0_idx209_inb : ∀ (v1959 : IVec S16 32) (k0_hw191 : k0_chk191 v1959), ∀ a x, ((![v1959] : Fin 1 → IVec S16 32) a x).toNat < S1088.size a := fun v1959 k0_hw191 => k0_hw191

def k0_chk192 (v1963 : IVec S16 32) : Prop :=
  (∀ a x, ((![v1963] : Fin 1 → IVec S16 32) a x).toNat < S1088.size a)
theorem k0_idx210_inb : ∀ (v1963 : IVec S16 32) (k0_hw192 : k0_chk192 v1963), ∀ a x, ((![v1963] : Fin 1 → IVec S16 32) a x).toNat < S1088.size a := fun v1963 k0_hw192 => k0_hw192

def k0_chk193 (v1967 : IVec S16 32) : Prop :=
  (∀ a x, ((![v1967] : Fin 1 → IVec S16 32) a x).toNat < S1088.size a)
theorem k0_idx211_inb : ∀ (v1967 : IVec S16 32) (k0_hw193 : k0_chk193 v1967), ∀ a x, ((![v1967] : Fin 1 → IVec S16 32) a x).toNat < S1088.size a := fun v1967 k0_hw193 => k0_hw193

def k0_chk194 (v1971 : IVec S16 32) : Prop :=
  (∀ a x, ((![v1971] : Fin 1 → IVec S16 32) a x).toNat < S1088.size a)
theorem k0_idx212_inb : ∀ (v1971 : IVec S16 32) (k0_hw194 : k0_chk194 v1971), ∀ a x, ((![v1971] : Fin 1 → IVec S16 32) a x).toNat < S1088.size a := fun v1971 k0_hw194 => k0_hw194

def k0_chk195 (v1975 : IVec S16 32) : Prop :=
  (∀ a x, ((![v1975] : Fin 1 → IVec S16 32) a x).toNat < S1088.size a)
theorem k0_idx213_inb : ∀ (v1975 : IVec S16 32) (k0_hw195 : k0_chk195 v1975), ∀ a x, ((![v1975] : Fin 1 → IVec S16 32) a x).toNat < S1088.size a := fun v1975 k0_hw195 => k0_hw195

def k0_chk196 (v1979 : IVec S16 32) : Prop :=
  (∀ a x, ((![v1979] : Fin 1 → IVec S16 32) a x).toNat < S1088.size a)
theorem k0_idx214_inb : ∀ (v1979 : IVec S16 32) (k0_hw196 : k0_chk196 v1979), ∀ a x, ((![v1979] : Fin 1 → IVec S16 32) a x).toNat < S1088.size a := fun v1979 k0_hw196 => k0_hw196

def k0_chk197 (v1983 : IVec S16 32) : Prop :=
  (∀ a x, ((![v1983] : Fin 1 → IVec S16 32) a x).toNat < S1088.size a)
theorem k0_idx215_inb : ∀ (v1983 : IVec S16 32) (k0_hw197 : k0_chk197 v1983), ∀ a x, ((![v1983] : Fin 1 → IVec S16 32) a x).toNat < S1088.size a := fun v1983 k0_hw197 => k0_hw197

def k0_chk198 (v1987 : IVec S16 32) : Prop :=
  (∀ a x, ((![v1987] : Fin 1 → IVec S16 32) a x).toNat < S1088.size a)
theorem k0_idx216_inb : ∀ (v1987 : IVec S16 32) (k0_hw198 : k0_chk198 v1987), ∀ a x, ((![v1987] : Fin 1 → IVec S16 32) a x).toNat < S1088.size a := fun v1987 k0_hw198 => k0_hw198
@[reducible] def k0_t4_loop : Scf.Loop 32 :=
  let c0_i32_1312 : BitVec 32 := 0#32
  let c32_i32_1313 : BitVec 32 := 32#32
  let v2069 : BitVec 32 := Scalar.addi c0_i32_1312 c32_i32_1313
  let c1_i32_1314 : BitVec 32 := 1#32
  ⟨c0_i32_1312, v2069, c1_i32_1314⟩
def k0_off66 (k0_t4 : Fin k0_t4_loop.trips) : Fin 4 → Nat :=
  let c1_i32_2130 : BitVec 32 := 1#32
  let c0_i32_2131 : BitVec 32 := 0#32
  let c0_i32_1312 : BitVec 32 := 0#32
  let c1_i32_1314 : BitVec 32 := 1#32
  let arg19 : BitVec 32 := Scf.iv c0_i32_1312 c1_i32_1314 k0_t4
  let c2_i32_2129 : BitVec 32 := 2#32
  let v3631 : BitVec 32 := Scalar.muli arg19 c2_i32_2129
  let c0_i32_2132 : BitVec 32 := 0#32
  ![1, 0, v3631.toNat, 0]
def k0_off67 (k0_t4 : Fin k0_t4_loop.trips) : Fin 4 → Nat :=
  let c1_i32_2134 : BitVec 32 := 1#32
  let c1_i32_2135 : BitVec 32 := 1#32
  let c0_i32_1312 : BitVec 32 := 0#32
  let c1_i32_1314 : BitVec 32 := 1#32
  let arg19 : BitVec 32 := Scf.iv c0_i32_1312 c1_i32_1314 k0_t4
  let c2_i32_2129 : BitVec 32 := 2#32
  let v3631 : BitVec 32 := Scalar.muli arg19 c2_i32_2129
  let c0_i32_2136 : BitVec 32 := 0#32
  ![1, 1, v3631.toNat, 0]
def k0_off68 (k0_t4 : Fin k0_t4_loop.trips) : Fin 4 → Nat :=
  let c1_i32_2194 : BitVec 32 := 1#32
  let c2_i32_2195 : BitVec 32 := 2#32
  let c0_i32_1312 : BitVec 32 := 0#32
  let c1_i32_1314 : BitVec 32 := 1#32
  let arg19 : BitVec 32 := Scf.iv c0_i32_1312 c1_i32_1314 k0_t4
  let c2_i32_2129 : BitVec 32 := 2#32
  let v3631 : BitVec 32 := Scalar.muli arg19 c2_i32_2129
  let c0_i32_2196 : BitVec 32 := 0#32
  ![1, 2, v3631.toNat, 0]
def k0_off69 (k0_t4 : Fin k0_t4_loop.trips) : Fin 4 → Nat :=
  let c1_i32_2212 : BitVec 32 := 1#32
  let c2_i32_2213 : BitVec 32 := 2#32
  let c0_i32_1312 : BitVec 32 := 0#32
  let c1_i32_1314 : BitVec 32 := 1#32
  let arg19 : BitVec 32 := Scf.iv c0_i32_1312 c1_i32_1314 k0_t4
  let c2_i32_2129 : BitVec 32 := 2#32
  let v3631 : BitVec 32 := Scalar.muli arg19 c2_i32_2129
  let c0_i32_2214 : BitVec 32 := 0#32
  ![1, 2, v3631.toNat, 0]
def k0_off70 (k0_t4 : Fin k0_t4_loop.trips) : Fin 4 → Nat :=
  let c1_i32_2215 : BitVec 32 := 1#32
  let c3_i32_2216 : BitVec 32 := 3#32
  let c0_i32_1312 : BitVec 32 := 0#32
  let c1_i32_1314 : BitVec 32 := 1#32
  let arg19 : BitVec 32 := Scf.iv c0_i32_1312 c1_i32_1314 k0_t4
  let c2_i32_2129 : BitVec 32 := 2#32
  let v3631 : BitVec 32 := Scalar.muli arg19 c2_i32_2129
  let c0_i32_2217 : BitVec 32 := 0#32
  ![1, 3, v3631.toNat, 0]
def k0_off71 (k0_t4 : Fin k0_t4_loop.trips) : Fin 4 → Nat :=
  let c1_i32_2230 : BitVec 32 := 1#32
  let c3_i32_2231 : BitVec 32 := 3#32
  let c0_i32_1312 : BitVec 32 := 0#32
  let c1_i32_1314 : BitVec 32 := 1#32
  let arg19 : BitVec 32 := Scf.iv c0_i32_1312 c1_i32_1314 k0_t4
  let c2_i32_2129 : BitVec 32 := 2#32
  let v3631 : BitVec 32 := Scalar.muli arg19 c2_i32_2129
  let c0_i32_2232 : BitVec 32 := 0#32
  ![1, 3, v3631.toNat, 0]
def k0_off72 (k0_t4 : Fin k0_t4_loop.trips) : Fin 4 → Nat :=
  let c1_i32_2236 : BitVec 32 := 1#32
  let c4_i32_2237 : BitVec 32 := 4#32
  let c0_i32_1312 : BitVec 32 := 0#32
  let c1_i32_1314 : BitVec 32 := 1#32
  let arg19 : BitVec 32 := Scf.iv c0_i32_1312 c1_i32_1314 k0_t4
  let c2_i32_2129 : BitVec 32 := 2#32
  let v3631 : BitVec 32 := Scalar.muli arg19 c2_i32_2129
  let c0_i32_2238 : BitVec 32 := 0#32
  ![1, 4, v3631.toNat, 0]
def k0_off73 (k0_t4 : Fin k0_t4_loop.trips) : Fin 4 → Nat :=
  let c1_i32_2268 : BitVec 32 := 1#32
  let c5_i32_2269 : BitVec 32 := 5#32
  let c0_i32_1312 : BitVec 32 := 0#32
  let c1_i32_1314 : BitVec 32 := 1#32
  let arg19 : BitVec 32 := Scf.iv c0_i32_1312 c1_i32_1314 k0_t4
  let c2_i32_2129 : BitVec 32 := 2#32
  let v3631 : BitVec 32 := Scalar.muli arg19 c2_i32_2129
  let c0_i32_2270 : BitVec 32 := 0#32
  ![1, 5, v3631.toNat, 0]
def k0_off74 (k0_t4 : Fin k0_t4_loop.trips) : Fin 4 → Nat :=
  let c1_i32_2276 : BitVec 32 := 1#32
  let c5_i32_2277 : BitVec 32 := 5#32
  let c0_i32_1312 : BitVec 32 := 0#32
  let c1_i32_1314 : BitVec 32 := 1#32
  let arg19 : BitVec 32 := Scf.iv c0_i32_1312 c1_i32_1314 k0_t4
  let c2_i32_2129 : BitVec 32 := 2#32
  let v3631 : BitVec 32 := Scalar.muli arg19 c2_i32_2129
  let c0_i32_2278 : BitVec 32 := 0#32
  ![1, 5, v3631.toNat, 0]
def k0_off75 (k0_t4 : Fin k0_t4_loop.trips) : Fin 4 → Nat :=
  let c1_i32_2296 : BitVec 32 := 1#32
  let c6_i32_2297 : BitVec 32 := 6#32
  let c0_i32_1312 : BitVec 32 := 0#32
  let c1_i32_1314 : BitVec 32 := 1#32
  let arg19 : BitVec 32 := Scf.iv c0_i32_1312 c1_i32_1314 k0_t4
  let c2_i32_2129 : BitVec 32 := 2#32
  let v3631 : BitVec 32 := Scalar.muli arg19 c2_i32_2129
  let c0_i32_2298 : BitVec 32 := 0#32
  ![1, 6, v3631.toNat, 0]

def k0_chk199 (v179 : IVec S16 32) (v207 : IVec S16 32) (v259 : IVec S16 32) (v287 : IVec S16 32) (v2061 : IVec S16 32) (v2064 : IVec S16 32) (v2065 : IVec S16 32) (v2067 : IVec S16 32) (v2068 : IVec S16 32) (v3632 : IVec S16 32) : Prop :=
  (∀ a x, ((![v2061, v2064, v3632, v179] : Fin 4 → IVec S16 32) a x).toNat < S2x7x64x128.size a) ∧
  (∀ a x, ((![v2061, v2065, v3632, v207] : Fin 4 → IVec S16 32) a x).toNat < S2x7x64x128.size a) ∧
  (∀ a x, ((![v2061, v2067, v3632, v259] : Fin 4 → IVec S16 32) a x).toNat < S2x7x64x128.size a) ∧
  (∀ a x, ((![v2061, v2068, v3632, v287] : Fin 4 → IVec S16 32) a x).toNat < S2x7x64x128.size a)
theorem k0_idx217_inb : ∀ (v179 : IVec S16 32) (v207 : IVec S16 32) (v259 : IVec S16 32) (v287 : IVec S16 32) (v2061 : IVec S16 32) (v2064 : IVec S16 32) (v2065 : IVec S16 32) (v2067 : IVec S16 32) (v2068 : IVec S16 32) (v3632 : IVec S16 32) (k0_hw199 : k0_chk199 v179 v207 v259 v287 v2061 v2064 v2065 v2067 v2068 v3632), ∀ a x, ((![v2061, v2064, v3632, v179] : Fin 4 → IVec S16 32) a x).toNat < S2x7x64x128.size a := fun v179 v207 v259 v287 v2061 v2064 v2065 v2067 v2068 v3632 k0_hw199 => k0_hw199.1
theorem k0_idx218_inb : ∀ (v179 : IVec S16 32) (v207 : IVec S16 32) (v259 : IVec S16 32) (v287 : IVec S16 32) (v2061 : IVec S16 32) (v2064 : IVec S16 32) (v2065 : IVec S16 32) (v2067 : IVec S16 32) (v2068 : IVec S16 32) (v3632 : IVec S16 32) (k0_hw199 : k0_chk199 v179 v207 v259 v287 v2061 v2064 v2065 v2067 v2068 v3632), ∀ a x, ((![v2061, v2065, v3632, v207] : Fin 4 → IVec S16 32) a x).toNat < S2x7x64x128.size a := fun v179 v207 v259 v287 v2061 v2064 v2065 v2067 v2068 v3632 k0_hw199 => k0_hw199.2.1
theorem k0_idx219_inb : ∀ (v179 : IVec S16 32) (v207 : IVec S16 32) (v259 : IVec S16 32) (v287 : IVec S16 32) (v2061 : IVec S16 32) (v2064 : IVec S16 32) (v2065 : IVec S16 32) (v2067 : IVec S16 32) (v2068 : IVec S16 32) (v3632 : IVec S16 32) (k0_hw199 : k0_chk199 v179 v207 v259 v287 v2061 v2064 v2065 v2067 v2068 v3632), ∀ a x, ((![v2061, v2067, v3632, v259] : Fin 4 → IVec S16 32) a x).toNat < S2x7x64x128.size a := fun v179 v207 v259 v287 v2061 v2064 v2065 v2067 v2068 v3632 k0_hw199 => k0_hw199.2.2.1
theorem k0_idx220_inb : ∀ (v179 : IVec S16 32) (v207 : IVec S16 32) (v259 : IVec S16 32) (v287 : IVec S16 32) (v2061 : IVec S16 32) (v2064 : IVec S16 32) (v2065 : IVec S16 32) (v2067 : IVec S16 32) (v2068 : IVec S16 32) (v3632 : IVec S16 32) (k0_hw199 : k0_chk199 v179 v207 v259 v287 v2061 v2064 v2065 v2067 v2068 v3632), ∀ a x, ((![v2061, v2068, v3632, v287] : Fin 4 → IVec S16 32) a x).toNat < S2x7x64x128.size a := fun v179 v207 v259 v287 v2061 v2064 v2065 v2067 v2068 v3632 k0_hw199 => k0_hw199.2.2.2
def k0_off76 (k0_t4 : Fin k0_t4_loop.trips) : Fin 4 → Nat :=
  let c1_i32_2300 : BitVec 32 := 1#32
  let c6_i32_2301 : BitVec 32 := 6#32
  let c0_i32_1312 : BitVec 32 := 0#32
  let c1_i32_1314 : BitVec 32 := 1#32
  let arg19 : BitVec 32 := Scf.iv c0_i32_1312 c1_i32_1314 k0_t4
  let c2_i32_2129 : BitVec 32 := 2#32
  let v3631 : BitVec 32 := Scalar.muli arg19 c2_i32_2129
  let c0_i32_2302 : BitVec 32 := 0#32
  ![1, 6, v3631.toNat, 0]
def k0_off77 (k0_t4 : Fin k0_t4_loop.trips) : Fin 1 → Nat :=
  let c0_i32_1312 : BitVec 32 := 0#32
  let c1_i32_1314 : BitVec 32 := 1#32
  let arg19 : BitVec 32 := Scf.iv c0_i32_1312 c1_i32_1314 k0_t4
  let c2_i32_2129 : BitVec 32 := 2#32
  let v3631 : BitVec 32 := Scalar.muli arg19 c2_i32_2129
  let c17_i32_2324 : BitVec 32 := 17#32
  let v3848 : BitVec 32 := Scalar.muli v3631 c17_i32_2324
  let v3849 : Index := Scalar.indexCast v3848
  ![v3849.toNat]
def k0_off78 (k0_t4 : Fin k0_t4_loop.trips) : Fin 4 → Nat :=
  let c1_i32_2327 : BitVec 32 := 1#32
  let c0_i32_2328 : BitVec 32 := 0#32
  let c0_i32_1312 : BitVec 32 := 0#32
  let c1_i32_1314 : BitVec 32 := 1#32
  let arg19 : BitVec 32 := Scf.iv c0_i32_1312 c1_i32_1314 k0_t4
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2329 : BitVec 32 := 0#32
  ![1, 0, v3851.toNat, 0]
def k0_off79 (k0_t4 : Fin k0_t4_loop.trips) : Fin 4 → Nat :=
  let c1_i32_2331 : BitVec 32 := 1#32
  let c1_i32_2332 : BitVec 32 := 1#32
  let c0_i32_1312 : BitVec 32 := 0#32
  let c1_i32_1314 : BitVec 32 := 1#32
  let arg19 : BitVec 32 := Scf.iv c0_i32_1312 c1_i32_1314 k0_t4
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2333 : BitVec 32 := 0#32
  ![1, 1, v3851.toNat, 0]
def k0_off80 (k0_t4 : Fin k0_t4_loop.trips) : Fin 4 → Nat :=
  let c1_i32_2391 : BitVec 32 := 1#32
  let c2_i32_2392 : BitVec 32 := 2#32
  let c0_i32_1312 : BitVec 32 := 0#32
  let c1_i32_1314 : BitVec 32 := 1#32
  let arg19 : BitVec 32 := Scf.iv c0_i32_1312 c1_i32_1314 k0_t4
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2393 : BitVec 32 := 0#32
  ![1, 2, v3851.toNat, 0]
def k0_off81 (k0_t4 : Fin k0_t4_loop.trips) : Fin 4 → Nat :=
  let c1_i32_2415 : BitVec 32 := 1#32
  let c2_i32_2416 : BitVec 32 := 2#32
  let c0_i32_1312 : BitVec 32 := 0#32
  let c1_i32_1314 : BitVec 32 := 1#32
  let arg19 : BitVec 32 := Scf.iv c0_i32_1312 c1_i32_1314 k0_t4
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2417 : BitVec 32 := 0#32
  ![1, 2, v3851.toNat, 0]
def k0_off82 (k0_t4 : Fin k0_t4_loop.trips) : Fin 4 → Nat :=
  let c1_i32_2419 : BitVec 32 := 1#32
  let c3_i32_2420 : BitVec 32 := 3#32
  let c0_i32_1312 : BitVec 32 := 0#32
  let c1_i32_1314 : BitVec 32 := 1#32
  let arg19 : BitVec 32 := Scf.iv c0_i32_1312 c1_i32_1314 k0_t4
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2421 : BitVec 32 := 0#32
  ![1, 3, v3851.toNat, 0]
def k0_off83 (k0_t4 : Fin k0_t4_loop.trips) : Fin 4 → Nat :=
  let c1_i32_2447 : BitVec 32 := 1#32
  let c4_i32_2448 : BitVec 32 := 4#32
  let c0_i32_1312 : BitVec 32 := 0#32
  let c1_i32_1314 : BitVec 32 := 1#32
  let arg19 : BitVec 32 := Scf.iv c0_i32_1312 c1_i32_1314 k0_t4
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2449 : BitVec 32 := 0#32
  ![1, 4, v3851.toNat, 0]
def k0_off84 (k0_t4 : Fin k0_t4_loop.trips) : Fin 4 → Nat :=
  let c1_i32_2479 : BitVec 32 := 1#32
  let c5_i32_2480 : BitVec 32 := 5#32
  let c0_i32_1312 : BitVec 32 := 0#32
  let c1_i32_1314 : BitVec 32 := 1#32
  let arg19 : BitVec 32 := Scf.iv c0_i32_1312 c1_i32_1314 k0_t4
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2481 : BitVec 32 := 0#32
  ![1, 5, v3851.toNat, 0]
def k0_off85 (k0_t4 : Fin k0_t4_loop.trips) : Fin 4 → Nat :=
  let c1_i32_2507 : BitVec 32 := 1#32
  let c6_i32_2508 : BitVec 32 := 6#32
  let c0_i32_1312 : BitVec 32 := 0#32
  let c1_i32_1314 : BitVec 32 := 1#32
  let arg19 : BitVec 32 := Scf.iv c0_i32_1312 c1_i32_1314 k0_t4
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2509 : BitVec 32 := 0#32
  ![1, 6, v3851.toNat, 0]

def k0_chk200 (v179 : IVec S16 32) (v207 : IVec S16 32) (v259 : IVec S16 32) (v287 : IVec S16 32) (v2061 : IVec S16 32) (v2064 : IVec S16 32) (v2065 : IVec S16 32) (v2067 : IVec S16 32) (v2068 : IVec S16 32) (v3853 : IVec S16 32) : Prop :=
  (∀ a x, ((![v2061, v2064, v3853, v179] : Fin 4 → IVec S16 32) a x).toNat < S2x7x64x128.size a) ∧
  (∀ a x, ((![v2061, v2065, v3853, v207] : Fin 4 → IVec S16 32) a x).toNat < S2x7x64x128.size a) ∧
  (∀ a x, ((![v2061, v2067, v3853, v259] : Fin 4 → IVec S16 32) a x).toNat < S2x7x64x128.size a) ∧
  (∀ a x, ((![v2061, v2068, v3853, v287] : Fin 4 → IVec S16 32) a x).toNat < S2x7x64x128.size a)
theorem k0_idx221_inb : ∀ (v179 : IVec S16 32) (v207 : IVec S16 32) (v259 : IVec S16 32) (v287 : IVec S16 32) (v2061 : IVec S16 32) (v2064 : IVec S16 32) (v2065 : IVec S16 32) (v2067 : IVec S16 32) (v2068 : IVec S16 32) (v3853 : IVec S16 32) (k0_hw200 : k0_chk200 v179 v207 v259 v287 v2061 v2064 v2065 v2067 v2068 v3853), ∀ a x, ((![v2061, v2064, v3853, v179] : Fin 4 → IVec S16 32) a x).toNat < S2x7x64x128.size a := fun v179 v207 v259 v287 v2061 v2064 v2065 v2067 v2068 v3853 k0_hw200 => k0_hw200.1
theorem k0_idx222_inb : ∀ (v179 : IVec S16 32) (v207 : IVec S16 32) (v259 : IVec S16 32) (v287 : IVec S16 32) (v2061 : IVec S16 32) (v2064 : IVec S16 32) (v2065 : IVec S16 32) (v2067 : IVec S16 32) (v2068 : IVec S16 32) (v3853 : IVec S16 32) (k0_hw200 : k0_chk200 v179 v207 v259 v287 v2061 v2064 v2065 v2067 v2068 v3853), ∀ a x, ((![v2061, v2065, v3853, v207] : Fin 4 → IVec S16 32) a x).toNat < S2x7x64x128.size a := fun v179 v207 v259 v287 v2061 v2064 v2065 v2067 v2068 v3853 k0_hw200 => k0_hw200.2.1
theorem k0_idx223_inb : ∀ (v179 : IVec S16 32) (v207 : IVec S16 32) (v259 : IVec S16 32) (v287 : IVec S16 32) (v2061 : IVec S16 32) (v2064 : IVec S16 32) (v2065 : IVec S16 32) (v2067 : IVec S16 32) (v2068 : IVec S16 32) (v3853 : IVec S16 32) (k0_hw200 : k0_chk200 v179 v207 v259 v287 v2061 v2064 v2065 v2067 v2068 v3853), ∀ a x, ((![v2061, v2067, v3853, v259] : Fin 4 → IVec S16 32) a x).toNat < S2x7x64x128.size a := fun v179 v207 v259 v287 v2061 v2064 v2065 v2067 v2068 v3853 k0_hw200 => k0_hw200.2.2.1
theorem k0_idx224_inb : ∀ (v179 : IVec S16 32) (v207 : IVec S16 32) (v259 : IVec S16 32) (v287 : IVec S16 32) (v2061 : IVec S16 32) (v2064 : IVec S16 32) (v2065 : IVec S16 32) (v2067 : IVec S16 32) (v2068 : IVec S16 32) (v3853 : IVec S16 32) (k0_hw200 : k0_chk200 v179 v207 v259 v287 v2061 v2064 v2065 v2067 v2068 v3853), ∀ a x, ((![v2061, v2068, v3853, v287] : Fin 4 → IVec S16 32) a x).toNat < S2x7x64x128.size a := fun v179 v207 v259 v287 v2061 v2064 v2065 v2067 v2068 v3853 k0_hw200 => k0_hw200.2.2.2
def k0_off86 (k0_t4 : Fin k0_t4_loop.trips) : Fin 1 → Nat :=
  let c0_i32_1312 : BitVec 32 := 0#32
  let c1_i32_1314 : BitVec 32 := 1#32
  let arg19 : BitVec 32 := Scf.iv c0_i32_1312 c1_i32_1314 k0_t4
  let c2_i32_2129 : BitVec 32 := 2#32
  let v3631 : BitVec 32 := Scalar.muli arg19 c2_i32_2129
  let c1_i32_2325 : BitVec 32 := 1#32
  let v3851 : BitVec 32 := Scalar.addi v3631 c1_i32_2325
  let c17_i32_2535 : BitVec 32 := 17#32
  let v4069 : BitVec 32 := Scalar.muli v3851 c17_i32_2535
  let v4070 : Index := Scalar.indexCast v4069
  ![v4070.toNat]

def k0_chk201 (v2071 : IVec S16 32) : Prop :=
  (∀ a x, ((![v2071] : Fin 1 → IVec S16 32) a x).toNat < S1088.size a)
theorem k0_idx225_inb : ∀ (v2071 : IVec S16 32) (k0_hw201 : k0_chk201 v2071), ∀ a x, ((![v2071] : Fin 1 → IVec S16 32) a x).toNat < S1088.size a := fun v2071 k0_hw201 => k0_hw201

def k0_chk202 (v2074 : IVec S16 32) : Prop :=
  (∀ a x, ((![v2074] : Fin 1 → IVec S16 32) a x).toNat < S1088.size a)
theorem k0_idx226_inb : ∀ (v2074 : IVec S16 32) (k0_hw202 : k0_chk202 v2074), ∀ a x, ((![v2074] : Fin 1 → IVec S16 32) a x).toNat < S1088.size a := fun v2074 k0_hw202 => k0_hw202

def k0_chk203 (v2078 : IVec S16 32) : Prop :=
  (∀ a x, ((![v2078] : Fin 1 → IVec S16 32) a x).toNat < S1088.size a)
theorem k0_idx227_inb : ∀ (v2078 : IVec S16 32) (k0_hw203 : k0_chk203 v2078), ∀ a x, ((![v2078] : Fin 1 → IVec S16 32) a x).toNat < S1088.size a := fun v2078 k0_hw203 => k0_hw203

def k0_chk204 (v2082 : IVec S16 32) : Prop :=
  (∀ a x, ((![v2082] : Fin 1 → IVec S16 32) a x).toNat < S1088.size a)
theorem k0_idx228_inb : ∀ (v2082 : IVec S16 32) (k0_hw204 : k0_chk204 v2082), ∀ a x, ((![v2082] : Fin 1 → IVec S16 32) a x).toNat < S1088.size a := fun v2082 k0_hw204 => k0_hw204

def k0_chk205 (v2086 : IVec S16 32) : Prop :=
  (∀ a x, ((![v2086] : Fin 1 → IVec S16 32) a x).toNat < S1088.size a)
theorem k0_idx229_inb : ∀ (v2086 : IVec S16 32) (k0_hw205 : k0_chk205 v2086), ∀ a x, ((![v2086] : Fin 1 → IVec S16 32) a x).toNat < S1088.size a := fun v2086 k0_hw205 => k0_hw205

def k0_chk206 (v2090 : IVec S16 32) : Prop :=
  (∀ a x, ((![v2090] : Fin 1 → IVec S16 32) a x).toNat < S1088.size a)
theorem k0_idx230_inb : ∀ (v2090 : IVec S16 32) (k0_hw206 : k0_chk206 v2090), ∀ a x, ((![v2090] : Fin 1 → IVec S16 32) a x).toNat < S1088.size a := fun v2090 k0_hw206 => k0_hw206

def k0_chk207 (v2094 : IVec S16 32) : Prop :=
  (∀ a x, ((![v2094] : Fin 1 → IVec S16 32) a x).toNat < S1088.size a)
theorem k0_idx231_inb : ∀ (v2094 : IVec S16 32) (k0_hw207 : k0_chk207 v2094), ∀ a x, ((![v2094] : Fin 1 → IVec S16 32) a x).toNat < S1088.size a := fun v2094 k0_hw207 => k0_hw207

def k0_chk208 (v2098 : IVec S16 32) : Prop :=
  (∀ a x, ((![v2098] : Fin 1 → IVec S16 32) a x).toNat < S1088.size a)
theorem k0_idx232_inb : ∀ (v2098 : IVec S16 32) (k0_hw208 : k0_chk208 v2098), ∀ a x, ((![v2098] : Fin 1 → IVec S16 32) a x).toNat < S1088.size a := fun v2098 k0_hw208 => k0_hw208

def k0_chk209 (v2102 : IVec S16 32) : Prop :=
  (∀ a x, ((![v2102] : Fin 1 → IVec S16 32) a x).toNat < S1088.size a)
theorem k0_idx233_inb : ∀ (v2102 : IVec S16 32) (k0_hw209 : k0_chk209 v2102), ∀ a x, ((![v2102] : Fin 1 → IVec S16 32) a x).toNat < S1088.size a := fun v2102 k0_hw209 => k0_hw209

def k0_chk210 (v2106 : IVec S16 32) : Prop :=
  (∀ a x, ((![v2106] : Fin 1 → IVec S16 32) a x).toNat < S1088.size a)
theorem k0_idx234_inb : ∀ (v2106 : IVec S16 32) (k0_hw210 : k0_chk210 v2106), ∀ a x, ((![v2106] : Fin 1 → IVec S16 32) a x).toNat < S1088.size a := fun v2106 k0_hw210 => k0_hw210

def k0_chk211 (v2110 : IVec S16 32) : Prop :=
  (∀ a x, ((![v2110] : Fin 1 → IVec S16 32) a x).toNat < S1088.size a)
theorem k0_idx235_inb : ∀ (v2110 : IVec S16 32) (k0_hw211 : k0_chk211 v2110), ∀ a x, ((![v2110] : Fin 1 → IVec S16 32) a x).toNat < S1088.size a := fun v2110 k0_hw211 => k0_hw211

def k0_chk212 (v2114 : IVec S16 32) : Prop :=
  (∀ a x, ((![v2114] : Fin 1 → IVec S16 32) a x).toNat < S1088.size a)
theorem k0_idx236_inb : ∀ (v2114 : IVec S16 32) (k0_hw212 : k0_chk212 v2114), ∀ a x, ((![v2114] : Fin 1 → IVec S16 32) a x).toNat < S1088.size a := fun v2114 k0_hw212 => k0_hw212

def k0_chk213 (v2118 : IVec S16 32) : Prop :=
  (∀ a x, ((![v2118] : Fin 1 → IVec S16 32) a x).toNat < S1088.size a)
theorem k0_idx237_inb : ∀ (v2118 : IVec S16 32) (k0_hw213 : k0_chk213 v2118), ∀ a x, ((![v2118] : Fin 1 → IVec S16 32) a x).toNat < S1088.size a := fun v2118 k0_hw213 => k0_hw213

def k0_chk214 (v2122 : IVec S16 32) : Prop :=
  (∀ a x, ((![v2122] : Fin 1 → IVec S16 32) a x).toNat < S1088.size a)
theorem k0_idx238_inb : ∀ (v2122 : IVec S16 32) (k0_hw214 : k0_chk214 v2122), ∀ a x, ((![v2122] : Fin 1 → IVec S16 32) a x).toNat < S1088.size a := fun v2122 k0_hw214 => k0_hw214

def k0_chk215 (v2126 : IVec S16 32) : Prop :=
  (∀ a x, ((![v2126] : Fin 1 → IVec S16 32) a x).toNat < S1088.size a)
theorem k0_idx239_inb : ∀ (v2126 : IVec S16 32) (k0_hw215 : k0_chk215 v2126), ∀ a x, ((![v2126] : Fin 1 → IVec S16 32) a x).toNat < S1088.size a := fun v2126 k0_hw215 => k0_hw215

def k0_chk216 (v2130 : IVec S16 32) : Prop :=
  (∀ a x, ((![v2130] : Fin 1 → IVec S16 32) a x).toNat < S1088.size a)
theorem k0_idx240_inb : ∀ (v2130 : IVec S16 32) (k0_hw216 : k0_chk216 v2130), ∀ a x, ((![v2130] : Fin 1 → IVec S16 32) a x).toNat < S1088.size a := fun v2130 k0_hw216 => k0_hw216

def k0_chk217 (v2135 : IVec S16 32) : Prop :=
  (∀ a x, ((![v2135] : Fin 1 → IVec S16 32) a x).toNat < S1088.size a)
theorem k0_idx241_inb : ∀ (v2135 : IVec S16 32) (k0_hw217 : k0_chk217 v2135), ∀ a x, ((![v2135] : Fin 1 → IVec S16 32) a x).toNat < S1088.size a := fun v2135 k0_hw217 => k0_hw217

def k0_chk218 (v2138 : IVec S16 32) : Prop :=
  (∀ a x, ((![v2138] : Fin 1 → IVec S16 32) a x).toNat < S1088.size a)
theorem k0_idx242_inb : ∀ (v2138 : IVec S16 32) (k0_hw218 : k0_chk218 v2138), ∀ a x, ((![v2138] : Fin 1 → IVec S16 32) a x).toNat < S1088.size a := fun v2138 k0_hw218 => k0_hw218

def k0_chk219 (v2142 : IVec S16 32) : Prop :=
  (∀ a x, ((![v2142] : Fin 1 → IVec S16 32) a x).toNat < S1088.size a)
theorem k0_idx243_inb : ∀ (v2142 : IVec S16 32) (k0_hw219 : k0_chk219 v2142), ∀ a x, ((![v2142] : Fin 1 → IVec S16 32) a x).toNat < S1088.size a := fun v2142 k0_hw219 => k0_hw219

def k0_chk220 (v2146 : IVec S16 32) : Prop :=
  (∀ a x, ((![v2146] : Fin 1 → IVec S16 32) a x).toNat < S1088.size a)
theorem k0_idx244_inb : ∀ (v2146 : IVec S16 32) (k0_hw220 : k0_chk220 v2146), ∀ a x, ((![v2146] : Fin 1 → IVec S16 32) a x).toNat < S1088.size a := fun v2146 k0_hw220 => k0_hw220

def k0_chk221 (v2150 : IVec S16 32) : Prop :=
  (∀ a x, ((![v2150] : Fin 1 → IVec S16 32) a x).toNat < S1088.size a)
theorem k0_idx245_inb : ∀ (v2150 : IVec S16 32) (k0_hw221 : k0_chk221 v2150), ∀ a x, ((![v2150] : Fin 1 → IVec S16 32) a x).toNat < S1088.size a := fun v2150 k0_hw221 => k0_hw221

def k0_chk222 (v2154 : IVec S16 32) : Prop :=
  (∀ a x, ((![v2154] : Fin 1 → IVec S16 32) a x).toNat < S1088.size a)
theorem k0_idx246_inb : ∀ (v2154 : IVec S16 32) (k0_hw222 : k0_chk222 v2154), ∀ a x, ((![v2154] : Fin 1 → IVec S16 32) a x).toNat < S1088.size a := fun v2154 k0_hw222 => k0_hw222

def k0_chk223 (v2158 : IVec S16 32) : Prop :=
  (∀ a x, ((![v2158] : Fin 1 → IVec S16 32) a x).toNat < S1088.size a)
theorem k0_idx247_inb : ∀ (v2158 : IVec S16 32) (k0_hw223 : k0_chk223 v2158), ∀ a x, ((![v2158] : Fin 1 → IVec S16 32) a x).toNat < S1088.size a := fun v2158 k0_hw223 => k0_hw223

def k0_chk224 (v2162 : IVec S16 32) : Prop :=
  (∀ a x, ((![v2162] : Fin 1 → IVec S16 32) a x).toNat < S1088.size a)
theorem k0_idx248_inb : ∀ (v2162 : IVec S16 32) (k0_hw224 : k0_chk224 v2162), ∀ a x, ((![v2162] : Fin 1 → IVec S16 32) a x).toNat < S1088.size a := fun v2162 k0_hw224 => k0_hw224

def k0_chk225 (v2166 : IVec S16 32) : Prop :=
  (∀ a x, ((![v2166] : Fin 1 → IVec S16 32) a x).toNat < S1088.size a)
theorem k0_idx249_inb : ∀ (v2166 : IVec S16 32) (k0_hw225 : k0_chk225 v2166), ∀ a x, ((![v2166] : Fin 1 → IVec S16 32) a x).toNat < S1088.size a := fun v2166 k0_hw225 => k0_hw225

def k0_chk226 (v2170 : IVec S16 32) : Prop :=
  (∀ a x, ((![v2170] : Fin 1 → IVec S16 32) a x).toNat < S1088.size a)
theorem k0_idx250_inb : ∀ (v2170 : IVec S16 32) (k0_hw226 : k0_chk226 v2170), ∀ a x, ((![v2170] : Fin 1 → IVec S16 32) a x).toNat < S1088.size a := fun v2170 k0_hw226 => k0_hw226

def k0_chk227 (v2174 : IVec S16 32) : Prop :=
  (∀ a x, ((![v2174] : Fin 1 → IVec S16 32) a x).toNat < S1088.size a)
theorem k0_idx251_inb : ∀ (v2174 : IVec S16 32) (k0_hw227 : k0_chk227 v2174), ∀ a x, ((![v2174] : Fin 1 → IVec S16 32) a x).toNat < S1088.size a := fun v2174 k0_hw227 => k0_hw227

def k0_chk228 (v2178 : IVec S16 32) : Prop :=
  (∀ a x, ((![v2178] : Fin 1 → IVec S16 32) a x).toNat < S1088.size a)
theorem k0_idx252_inb : ∀ (v2178 : IVec S16 32) (k0_hw228 : k0_chk228 v2178), ∀ a x, ((![v2178] : Fin 1 → IVec S16 32) a x).toNat < S1088.size a := fun v2178 k0_hw228 => k0_hw228

def k0_chk229 (v2182 : IVec S16 32) : Prop :=
  (∀ a x, ((![v2182] : Fin 1 → IVec S16 32) a x).toNat < S1088.size a)
theorem k0_idx253_inb : ∀ (v2182 : IVec S16 32) (k0_hw229 : k0_chk229 v2182), ∀ a x, ((![v2182] : Fin 1 → IVec S16 32) a x).toNat < S1088.size a := fun v2182 k0_hw229 => k0_hw229

def k0_chk230 (v2186 : IVec S16 32) : Prop :=
  (∀ a x, ((![v2186] : Fin 1 → IVec S16 32) a x).toNat < S1088.size a)
theorem k0_idx254_inb : ∀ (v2186 : IVec S16 32) (k0_hw230 : k0_chk230 v2186), ∀ a x, ((![v2186] : Fin 1 → IVec S16 32) a x).toNat < S1088.size a := fun v2186 k0_hw230 => k0_hw230

def k0_chk231 (v2190 : IVec S16 32) : Prop :=
  (∀ a x, ((![v2190] : Fin 1 → IVec S16 32) a x).toNat < S1088.size a)
theorem k0_idx255_inb : ∀ (v2190 : IVec S16 32) (k0_hw231 : k0_chk231 v2190), ∀ a x, ((![v2190] : Fin 1 → IVec S16 32) a x).toNat < S1088.size a := fun v2190 k0_hw231 => k0_hw231

def k0_chk232 (v2194 : IVec S16 32) : Prop :=
  (∀ a x, ((![v2194] : Fin 1 → IVec S16 32) a x).toNat < S1088.size a)
theorem k0_idx256_inb : ∀ (v2194 : IVec S16 32) (k0_hw232 : k0_chk232 v2194), ∀ a x, ((![v2194] : Fin 1 → IVec S16 32) a x).toNat < S1088.size a := fun v2194 k0_hw232 => k0_hw232

def k0_chk233 (v2199 : IVec S16 32) : Prop :=
  (∀ a x, ((![v2199] : Fin 1 → IVec S16 32) a x).toNat < S1088.size a)
theorem k0_idx257_inb : ∀ (v2199 : IVec S16 32) (k0_hw233 : k0_chk233 v2199), ∀ a x, ((![v2199] : Fin 1 → IVec S16 32) a x).toNat < S1088.size a := fun v2199 k0_hw233 => k0_hw233

def k0_chk234 (v2202 : IVec S16 32) : Prop :=
  (∀ a x, ((![v2202] : Fin 1 → IVec S16 32) a x).toNat < S1088.size a)
theorem k0_idx258_inb : ∀ (v2202 : IVec S16 32) (k0_hw234 : k0_chk234 v2202), ∀ a x, ((![v2202] : Fin 1 → IVec S16 32) a x).toNat < S1088.size a := fun v2202 k0_hw234 => k0_hw234

def k0_chk235 (v2206 : IVec S16 32) : Prop :=
  (∀ a x, ((![v2206] : Fin 1 → IVec S16 32) a x).toNat < S1088.size a)
theorem k0_idx259_inb : ∀ (v2206 : IVec S16 32) (k0_hw235 : k0_chk235 v2206), ∀ a x, ((![v2206] : Fin 1 → IVec S16 32) a x).toNat < S1088.size a := fun v2206 k0_hw235 => k0_hw235

def k0_chk236 (v2210 : IVec S16 32) : Prop :=
  (∀ a x, ((![v2210] : Fin 1 → IVec S16 32) a x).toNat < S1088.size a)
theorem k0_idx260_inb : ∀ (v2210 : IVec S16 32) (k0_hw236 : k0_chk236 v2210), ∀ a x, ((![v2210] : Fin 1 → IVec S16 32) a x).toNat < S1088.size a := fun v2210 k0_hw236 => k0_hw236

def k0_chk237 (v2214 : IVec S16 32) : Prop :=
  (∀ a x, ((![v2214] : Fin 1 → IVec S16 32) a x).toNat < S1088.size a)
theorem k0_idx261_inb : ∀ (v2214 : IVec S16 32) (k0_hw237 : k0_chk237 v2214), ∀ a x, ((![v2214] : Fin 1 → IVec S16 32) a x).toNat < S1088.size a := fun v2214 k0_hw237 => k0_hw237

def k0_chk238 (v2218 : IVec S16 32) : Prop :=
  (∀ a x, ((![v2218] : Fin 1 → IVec S16 32) a x).toNat < S1088.size a)
theorem k0_idx262_inb : ∀ (v2218 : IVec S16 32) (k0_hw238 : k0_chk238 v2218), ∀ a x, ((![v2218] : Fin 1 → IVec S16 32) a x).toNat < S1088.size a := fun v2218 k0_hw238 => k0_hw238

def k0_chk239 (v2222 : IVec S16 32) : Prop :=
  (∀ a x, ((![v2222] : Fin 1 → IVec S16 32) a x).toNat < S1088.size a)
theorem k0_idx263_inb : ∀ (v2222 : IVec S16 32) (k0_hw239 : k0_chk239 v2222), ∀ a x, ((![v2222] : Fin 1 → IVec S16 32) a x).toNat < S1088.size a := fun v2222 k0_hw239 => k0_hw239

def k0_chk240 (v2226 : IVec S16 32) : Prop :=
  (∀ a x, ((![v2226] : Fin 1 → IVec S16 32) a x).toNat < S1088.size a)
theorem k0_idx264_inb : ∀ (v2226 : IVec S16 32) (k0_hw240 : k0_chk240 v2226), ∀ a x, ((![v2226] : Fin 1 → IVec S16 32) a x).toNat < S1088.size a := fun v2226 k0_hw240 => k0_hw240

def k0_chk241 (v2230 : IVec S16 32) : Prop :=
  (∀ a x, ((![v2230] : Fin 1 → IVec S16 32) a x).toNat < S1088.size a)
theorem k0_idx265_inb : ∀ (v2230 : IVec S16 32) (k0_hw241 : k0_chk241 v2230), ∀ a x, ((![v2230] : Fin 1 → IVec S16 32) a x).toNat < S1088.size a := fun v2230 k0_hw241 => k0_hw241

def k0_chk242 (v2234 : IVec S16 32) : Prop :=
  (∀ a x, ((![v2234] : Fin 1 → IVec S16 32) a x).toNat < S1088.size a)
theorem k0_idx266_inb : ∀ (v2234 : IVec S16 32) (k0_hw242 : k0_chk242 v2234), ∀ a x, ((![v2234] : Fin 1 → IVec S16 32) a x).toNat < S1088.size a := fun v2234 k0_hw242 => k0_hw242

def k0_chk243 (v2238 : IVec S16 32) : Prop :=
  (∀ a x, ((![v2238] : Fin 1 → IVec S16 32) a x).toNat < S1088.size a)
theorem k0_idx267_inb : ∀ (v2238 : IVec S16 32) (k0_hw243 : k0_chk243 v2238), ∀ a x, ((![v2238] : Fin 1 → IVec S16 32) a x).toNat < S1088.size a := fun v2238 k0_hw243 => k0_hw243

def k0_chk244 (v2242 : IVec S16 32) : Prop :=
  (∀ a x, ((![v2242] : Fin 1 → IVec S16 32) a x).toNat < S1088.size a)
theorem k0_idx268_inb : ∀ (v2242 : IVec S16 32) (k0_hw244 : k0_chk244 v2242), ∀ a x, ((![v2242] : Fin 1 → IVec S16 32) a x).toNat < S1088.size a := fun v2242 k0_hw244 => k0_hw244

def k0_chk245 (v2246 : IVec S16 32) : Prop :=
  (∀ a x, ((![v2246] : Fin 1 → IVec S16 32) a x).toNat < S1088.size a)
theorem k0_idx269_inb : ∀ (v2246 : IVec S16 32) (k0_hw245 : k0_chk245 v2246), ∀ a x, ((![v2246] : Fin 1 → IVec S16 32) a x).toNat < S1088.size a := fun v2246 k0_hw245 => k0_hw245

def k0_chk246 (v2250 : IVec S16 32) : Prop :=
  (∀ a x, ((![v2250] : Fin 1 → IVec S16 32) a x).toNat < S1088.size a)
theorem k0_idx270_inb : ∀ (v2250 : IVec S16 32) (k0_hw246 : k0_chk246 v2250), ∀ a x, ((![v2250] : Fin 1 → IVec S16 32) a x).toNat < S1088.size a := fun v2250 k0_hw246 => k0_hw246

def k0_chk247 (v2254 : IVec S16 32) : Prop :=
  (∀ a x, ((![v2254] : Fin 1 → IVec S16 32) a x).toNat < S1088.size a)
theorem k0_idx271_inb : ∀ (v2254 : IVec S16 32) (k0_hw247 : k0_chk247 v2254), ∀ a x, ((![v2254] : Fin 1 → IVec S16 32) a x).toNat < S1088.size a := fun v2254 k0_hw247 => k0_hw247

def k0_chk248 (v2258 : IVec S16 32) : Prop :=
  (∀ a x, ((![v2258] : Fin 1 → IVec S16 32) a x).toNat < S1088.size a)
theorem k0_idx272_inb : ∀ (v2258 : IVec S16 32) (k0_hw248 : k0_chk248 v2258), ∀ a x, ((![v2258] : Fin 1 → IVec S16 32) a x).toNat < S1088.size a := fun v2258 k0_hw248 => k0_hw248

def k0_chk249 (v2263 : IVec S16 32) : Prop :=
  (∀ a x, ((![v2263] : Fin 1 → IVec S16 32) a x).toNat < S1088.size a)
theorem k0_idx273_inb : ∀ (v2263 : IVec S16 32) (k0_hw249 : k0_chk249 v2263), ∀ a x, ((![v2263] : Fin 1 → IVec S16 32) a x).toNat < S1088.size a := fun v2263 k0_hw249 => k0_hw249

def k0_chk250 (v2266 : IVec S16 32) : Prop :=
  (∀ a x, ((![v2266] : Fin 1 → IVec S16 32) a x).toNat < S1088.size a)
theorem k0_idx274_inb : ∀ (v2266 : IVec S16 32) (k0_hw250 : k0_chk250 v2266), ∀ a x, ((![v2266] : Fin 1 → IVec S16 32) a x).toNat < S1088.size a := fun v2266 k0_hw250 => k0_hw250

def k0_chk251 (v2270 : IVec S16 32) : Prop :=
  (∀ a x, ((![v2270] : Fin 1 → IVec S16 32) a x).toNat < S1088.size a)
theorem k0_idx275_inb : ∀ (v2270 : IVec S16 32) (k0_hw251 : k0_chk251 v2270), ∀ a x, ((![v2270] : Fin 1 → IVec S16 32) a x).toNat < S1088.size a := fun v2270 k0_hw251 => k0_hw251

def k0_chk252 (v2274 : IVec S16 32) : Prop :=
  (∀ a x, ((![v2274] : Fin 1 → IVec S16 32) a x).toNat < S1088.size a)
theorem k0_idx276_inb : ∀ (v2274 : IVec S16 32) (k0_hw252 : k0_chk252 v2274), ∀ a x, ((![v2274] : Fin 1 → IVec S16 32) a x).toNat < S1088.size a := fun v2274 k0_hw252 => k0_hw252

def k0_chk253 (v2278 : IVec S16 32) : Prop :=
  (∀ a x, ((![v2278] : Fin 1 → IVec S16 32) a x).toNat < S1088.size a)
theorem k0_idx277_inb : ∀ (v2278 : IVec S16 32) (k0_hw253 : k0_chk253 v2278), ∀ a x, ((![v2278] : Fin 1 → IVec S16 32) a x).toNat < S1088.size a := fun v2278 k0_hw253 => k0_hw253

def k0_chk254 (v2282 : IVec S16 32) : Prop :=
  (∀ a x, ((![v2282] : Fin 1 → IVec S16 32) a x).toNat < S1088.size a)
theorem k0_idx278_inb : ∀ (v2282 : IVec S16 32) (k0_hw254 : k0_chk254 v2282), ∀ a x, ((![v2282] : Fin 1 → IVec S16 32) a x).toNat < S1088.size a := fun v2282 k0_hw254 => k0_hw254

def k0_chk255 (v2286 : IVec S16 32) : Prop :=
  (∀ a x, ((![v2286] : Fin 1 → IVec S16 32) a x).toNat < S1088.size a)
theorem k0_idx279_inb : ∀ (v2286 : IVec S16 32) (k0_hw255 : k0_chk255 v2286), ∀ a x, ((![v2286] : Fin 1 → IVec S16 32) a x).toNat < S1088.size a := fun v2286 k0_hw255 => k0_hw255

def k0_chk256 (v2290 : IVec S16 32) : Prop :=
  (∀ a x, ((![v2290] : Fin 1 → IVec S16 32) a x).toNat < S1088.size a)
theorem k0_idx280_inb : ∀ (v2290 : IVec S16 32) (k0_hw256 : k0_chk256 v2290), ∀ a x, ((![v2290] : Fin 1 → IVec S16 32) a x).toNat < S1088.size a := fun v2290 k0_hw256 => k0_hw256

def k0_chk257 (v2294 : IVec S16 32) : Prop :=
  (∀ a x, ((![v2294] : Fin 1 → IVec S16 32) a x).toNat < S1088.size a)
theorem k0_idx281_inb : ∀ (v2294 : IVec S16 32) (k0_hw257 : k0_chk257 v2294), ∀ a x, ((![v2294] : Fin 1 → IVec S16 32) a x).toNat < S1088.size a := fun v2294 k0_hw257 => k0_hw257

def k0_chk258 (v2298 : IVec S16 32) : Prop :=
  (∀ a x, ((![v2298] : Fin 1 → IVec S16 32) a x).toNat < S1088.size a)
theorem k0_idx282_inb : ∀ (v2298 : IVec S16 32) (k0_hw258 : k0_chk258 v2298), ∀ a x, ((![v2298] : Fin 1 → IVec S16 32) a x).toNat < S1088.size a := fun v2298 k0_hw258 => k0_hw258

def k0_chk259 (v2302 : IVec S16 32) : Prop :=
  (∀ a x, ((![v2302] : Fin 1 → IVec S16 32) a x).toNat < S1088.size a)
theorem k0_idx283_inb : ∀ (v2302 : IVec S16 32) (k0_hw259 : k0_chk259 v2302), ∀ a x, ((![v2302] : Fin 1 → IVec S16 32) a x).toNat < S1088.size a := fun v2302 k0_hw259 => k0_hw259

def k0_chk260 (v2306 : IVec S16 32) : Prop :=
  (∀ a x, ((![v2306] : Fin 1 → IVec S16 32) a x).toNat < S1088.size a)
theorem k0_idx284_inb : ∀ (v2306 : IVec S16 32) (k0_hw260 : k0_chk260 v2306), ∀ a x, ((![v2306] : Fin 1 → IVec S16 32) a x).toNat < S1088.size a := fun v2306 k0_hw260 => k0_hw260

def k0_chk261 (v2310 : IVec S16 32) : Prop :=
  (∀ a x, ((![v2310] : Fin 1 → IVec S16 32) a x).toNat < S1088.size a)
theorem k0_idx285_inb : ∀ (v2310 : IVec S16 32) (k0_hw261 : k0_chk261 v2310), ∀ a x, ((![v2310] : Fin 1 → IVec S16 32) a x).toNat < S1088.size a := fun v2310 k0_hw261 => k0_hw261

def k0_chk262 (v2314 : IVec S16 32) : Prop :=
  (∀ a x, ((![v2314] : Fin 1 → IVec S16 32) a x).toNat < S1088.size a)
theorem k0_idx286_inb : ∀ (v2314 : IVec S16 32) (k0_hw262 : k0_chk262 v2314), ∀ a x, ((![v2314] : Fin 1 → IVec S16 32) a x).toNat < S1088.size a := fun v2314 k0_hw262 => k0_hw262

def k0_chk263 (v2318 : IVec S16 32) : Prop :=
  (∀ a x, ((![v2318] : Fin 1 → IVec S16 32) a x).toNat < S1088.size a)
theorem k0_idx287_inb : ∀ (v2318 : IVec S16 32) (k0_hw263 : k0_chk263 v2318), ∀ a x, ((![v2318] : Fin 1 → IVec S16 32) a x).toNat < S1088.size a := fun v2318 k0_hw263 => k0_hw263

def k0_chk264 (v2322 : IVec S16 32) : Prop :=
  (∀ a x, ((![v2322] : Fin 1 → IVec S16 32) a x).toNat < S1088.size a)
theorem k0_idx288_inb : ∀ (v2322 : IVec S16 32) (k0_hw264 : k0_chk264 v2322), ∀ a x, ((![v2322] : Fin 1 → IVec S16 32) a x).toNat < S1088.size a := fun v2322 k0_hw264 => k0_hw264
@[reducible] def k0_t5_loop : Scf.Loop 32 :=
  let c0_i32_1515 : BitVec 32 := 0#32
  let c32_i32_1516 : BitVec 32 := 32#32
  let v2404 : BitVec 32 := Scalar.addi c0_i32_1515 c32_i32_1516
  let c1_i32_1517 : BitVec 32 := 1#32
  ⟨c0_i32_1515, v2404, c1_i32_1517⟩
def k0_off87 (k0_t5 : Fin k0_t5_loop.trips) : Fin 4 → Nat :=
  let c0_i32_2130 : BitVec 32 := 0#32
  let c0_i32_2131 : BitVec 32 := 0#32
  let c0_i32_1515 : BitVec 32 := 0#32
  let c1_i32_1517 : BitVec 32 := 1#32
  let arg19 : BitVec 32 := Scf.iv c0_i32_1515 c1_i32_1517 k0_t5
  let c2_i32_2129 : BitVec 32 := 2#32
  let v3631 : BitVec 32 := Scalar.muli arg19 c2_i32_2129
  let c0_i32_2132 : BitVec 32 := 0#32
  ![0, 0, v3631.toNat, 0]
def k0_off88 (k0_t5 : Fin k0_t5_loop.trips) : Fin 4 → Nat :=
  let c0_i32_2134 : BitVec 32 := 0#32
  let c1_i32_2135 : BitVec 32 := 1#32
  let c0_i32_1515 : BitVec 32 := 0#32
  let c1_i32_1517 : BitVec 32 := 1#32
  let arg19 : BitVec 32 := Scf.iv c0_i32_1515 c1_i32_1517 k0_t5
  let c2_i32_2129 : BitVec 32 := 2#32
  let v3631 : BitVec 32 := Scalar.muli arg19 c2_i32_2129
  let c0_i32_2136 : BitVec 32 := 0#32
  ![0, 1, v3631.toNat, 0]
def k0_off89 (k0_t5 : Fin k0_t5_loop.trips) : Fin 4 → Nat :=
  let c0_i32_2194 : BitVec 32 := 0#32
  let c2_i32_2195 : BitVec 32 := 2#32
  let c0_i32_1515 : BitVec 32 := 0#32
  let c1_i32_1517 : BitVec 32 := 1#32
  let arg19 : BitVec 32 := Scf.iv c0_i32_1515 c1_i32_1517 k0_t5
  let c2_i32_2129 : BitVec 32 := 2#32
  let v3631 : BitVec 32 := Scalar.muli arg19 c2_i32_2129
  let c0_i32_2196 : BitVec 32 := 0#32
  ![0, 2, v3631.toNat, 0]
def k0_off90 (k0_t5 : Fin k0_t5_loop.trips) : Fin 4 → Nat :=
  let c0_i32_2212 : BitVec 32 := 0#32
  let c2_i32_2213 : BitVec 32 := 2#32
  let c0_i32_1515 : BitVec 32 := 0#32
  let c1_i32_1517 : BitVec 32 := 1#32
  let arg19 : BitVec 32 := Scf.iv c0_i32_1515 c1_i32_1517 k0_t5
  let c2_i32_2129 : BitVec 32 := 2#32
  let v3631 : BitVec 32 := Scalar.muli arg19 c2_i32_2129
  let c0_i32_2214 : BitVec 32 := 0#32
  ![0, 2, v3631.toNat, 0]
def k0_off91 (k0_t5 : Fin k0_t5_loop.trips) : Fin 4 → Nat :=
  let c0_i32_2215 : BitVec 32 := 0#32
  let c3_i32_2216 : BitVec 32 := 3#32
  let c0_i32_1515 : BitVec 32 := 0#32
  let c1_i32_1517 : BitVec 32 := 1#32
  let arg19 : BitVec 32 := Scf.iv c0_i32_1515 c1_i32_1517 k0_t5
  let c2_i32_2129 : BitVec 32 := 2#32
  let v3631 : BitVec 32 := Scalar.muli arg19 c2_i32_2129
  let c0_i32_2217 : BitVec 32 := 0#32
  ![0, 3, v3631.toNat, 0]
def k0_off92 (k0_t5 : Fin k0_t5_loop.trips) : Fin 4 → Nat :=
  let c0_i32_2230 : BitVec 32 := 0#32
  let c3_i32_2231 : BitVec 32 := 3#32
  let c0_i32_1515 : BitVec 32 := 0#32
  let c1_i32_1517 : BitVec 32 := 1#32
  let arg19 : BitVec 32 := Scf.iv c0_i32_1515 c1_i32_1517 k0_t5
  let c2_i32_2129 : BitVec 32 := 2#32
  let v3631 : BitVec 32 := Scalar.muli arg19 c2_i32_2129
  let c0_i32_2232 : BitVec 32 := 0#32
  ![0, 3, v3631.toNat, 0]
def k0_off93 (k0_t5 : Fin k0_t5_loop.trips) : Fin 4 → Nat :=
  let c0_i32_2236 : BitVec 32 := 0#32
  let c4_i32_2237 : BitVec 32 := 4#32
  let c0_i32_1515 : BitVec 32 := 0#32
  let c1_i32_1517 : BitVec 32 := 1#32
  let arg19 : BitVec 32 := Scf.iv c0_i32_1515 c1_i32_1517 k0_t5
  let c2_i32_2129 : BitVec 32 := 2#32
  let v3631 : BitVec 32 := Scalar.muli arg19 c2_i32_2129
  let c0_i32_2238 : BitVec 32 := 0#32
  ![0, 4, v3631.toNat, 0]
def k0_off94 (k0_t5 : Fin k0_t5_loop.trips) : Fin 4 → Nat :=
  let c0_i32_2268 : BitVec 32 := 0#32
  let c5_i32_2269 : BitVec 32 := 5#32
  let c0_i32_1515 : BitVec 32 := 0#32
  let c1_i32_1517 : BitVec 32 := 1#32
  let arg19 : BitVec 32 := Scf.iv c0_i32_1515 c1_i32_1517 k0_t5
  let c2_i32_2129 : BitVec 32 := 2#32
  let v3631 : BitVec 32 := Scalar.muli arg19 c2_i32_2129
  let c0_i32_2270 : BitVec 32 := 0#32
  ![0, 5, v3631.toNat, 0]
def k0_off95 (k0_t5 : Fin k0_t5_loop.trips) : Fin 4 → Nat :=
  let c0_i32_2276 : BitVec 32 := 0#32
  let c5_i32_2277 : BitVec 32 := 5#32
  let c0_i32_1515 : BitVec 32 := 0#32
  let c1_i32_1517 : BitVec 32 := 1#32
  let arg19 : BitVec 32 := Scf.iv c0_i32_1515 c1_i32_1517 k0_t5
  let c2_i32_2129 : BitVec 32 := 2#32
  let v3631 : BitVec 32 := Scalar.muli arg19 c2_i32_2129
  let c0_i32_2278 : BitVec 32 := 0#32
  ![0, 5, v3631.toNat, 0]
def k0_off96 (k0_t5 : Fin k0_t5_loop.trips) : Fin 4 → Nat :=
  let c0_i32_2296 : BitVec 32 := 0#32
  let c6_i32_2297 : BitVec 32 := 6#32
  let c0_i32_1515 : BitVec 32 := 0#32
  let c1_i32_1517 : BitVec 32 := 1#32
  let arg19 : BitVec 32 := Scf.iv c0_i32_1515 c1_i32_1517 k0_t5
  let c2_i32_2129 : BitVec 32 := 2#32
  let v3631 : BitVec 32 := Scalar.muli arg19 c2_i32_2129
  let c0_i32_2298 : BitVec 32 := 0#32
  ![0, 6, v3631.toNat, 0]

def k0_chk265 (v179 : IVec S16 32) (v207 : IVec S16 32) (v259 : IVec S16 32) (v287 : IVec S16 32) (v2396 : IVec S16 32) (v2399 : IVec S16 32) (v2400 : IVec S16 32) (v2402 : IVec S16 32) (v2403 : IVec S16 32) (v3632 : IVec S16 32) : Prop :=
  (∀ a x, ((![v2396, v2399, v3632, v179] : Fin 4 → IVec S16 32) a x).toNat < S2x7x64x128.size a) ∧
  (∀ a x, ((![v2396, v2400, v3632, v207] : Fin 4 → IVec S16 32) a x).toNat < S2x7x64x128.size a) ∧
  (∀ a x, ((![v2396, v2402, v3632, v259] : Fin 4 → IVec S16 32) a x).toNat < S2x7x64x128.size a) ∧
  (∀ a x, ((![v2396, v2403, v3632, v287] : Fin 4 → IVec S16 32) a x).toNat < S2x7x64x128.size a)
theorem k0_idx289_inb : ∀ (v179 : IVec S16 32) (v207 : IVec S16 32) (v259 : IVec S16 32) (v287 : IVec S16 32) (v2396 : IVec S16 32) (v2399 : IVec S16 32) (v2400 : IVec S16 32) (v2402 : IVec S16 32) (v2403 : IVec S16 32) (v3632 : IVec S16 32) (k0_hw265 : k0_chk265 v179 v207 v259 v287 v2396 v2399 v2400 v2402 v2403 v3632), ∀ a x, ((![v2396, v2399, v3632, v179] : Fin 4 → IVec S16 32) a x).toNat < S2x7x64x128.size a := fun v179 v207 v259 v287 v2396 v2399 v2400 v2402 v2403 v3632 k0_hw265 => k0_hw265.1
theorem k0_idx290_inb : ∀ (v179 : IVec S16 32) (v207 : IVec S16 32) (v259 : IVec S16 32) (v287 : IVec S16 32) (v2396 : IVec S16 32) (v2399 : IVec S16 32) (v2400 : IVec S16 32) (v2402 : IVec S16 32) (v2403 : IVec S16 32) (v3632 : IVec S16 32) (k0_hw265 : k0_chk265 v179 v207 v259 v287 v2396 v2399 v2400 v2402 v2403 v3632), ∀ a x, ((![v2396, v2400, v3632, v207] : Fin 4 → IVec S16 32) a x).toNat < S2x7x64x128.size a := fun v179 v207 v259 v287 v2396 v2399 v2400 v2402 v2403 v3632 k0_hw265 => k0_hw265.2.1
theorem k0_idx291_inb : ∀ (v179 : IVec S16 32) (v207 : IVec S16 32) (v259 : IVec S16 32) (v287 : IVec S16 32) (v2396 : IVec S16 32) (v2399 : IVec S16 32) (v2400 : IVec S16 32) (v2402 : IVec S16 32) (v2403 : IVec S16 32) (v3632 : IVec S16 32) (k0_hw265 : k0_chk265 v179 v207 v259 v287 v2396 v2399 v2400 v2402 v2403 v3632), ∀ a x, ((![v2396, v2402, v3632, v259] : Fin 4 → IVec S16 32) a x).toNat < S2x7x64x128.size a := fun v179 v207 v259 v287 v2396 v2399 v2400 v2402 v2403 v3632 k0_hw265 => k0_hw265.2.2.1
theorem k0_idx292_inb : ∀ (v179 : IVec S16 32) (v207 : IVec S16 32) (v259 : IVec S16 32) (v287 : IVec S16 32) (v2396 : IVec S16 32) (v2399 : IVec S16 32) (v2400 : IVec S16 32) (v2402 : IVec S16 32) (v2403 : IVec S16 32) (v3632 : IVec S16 32) (k0_hw265 : k0_chk265 v179 v207 v259 v287 v2396 v2399 v2400 v2402 v2403 v3632), ∀ a x, ((![v2396, v2403, v3632, v287] : Fin 4 → IVec S16 32) a x).toNat < S2x7x64x128.size a := fun v179 v207 v259 v287 v2396 v2399 v2400 v2402 v2403 v3632 k0_hw265 => k0_hw265.2.2.2
def k0_off97 (k0_t5 : Fin k0_t5_loop.trips) : Fin 4 → Nat :=
  let c0_i32_2300 : BitVec 32 := 0#32
  let c6_i32_2301 : BitVec 32 := 6#32
  let c0_i32_1515 : BitVec 32 := 0#32
  let c1_i32_1517 : BitVec 32 := 1#32
  let arg19 : BitVec 32 := Scf.iv c0_i32_1515 c1_i32_1517 k0_t5
  let c2_i32_2129 : BitVec 32 := 2#32
  let v3631 : BitVec 32 := Scalar.muli arg19 c2_i32_2129
  let c0_i32_2302 : BitVec 32 := 0#32
  ![0, 6, v3631.toNat, 0]
def k0_off98 (k0_t5 : Fin k0_t5_loop.trips) : Fin 1 → Nat :=
  let c0_i32_1515 : BitVec 32 := 0#32
  let c1_i32_1517 : BitVec 32 := 1#32
  let arg19 : BitVec 32 := Scf.iv c0_i32_1515 c1_i32_1517 k0_t5
  let c2_i32_2129 : BitVec 32 := 2#32
  let v3631 : BitVec 32 := Scalar.muli arg19 c2_i32_2129
  let c17_i32_2324 : BitVec 32 := 17#32
  let v3848 : BitVec 32 := Scalar.muli v3631 c17_i32_2324
  let v3849 : Index := Scalar.indexCast v3848
  ![v3849.toNat]
def k0_off99 (k0_t5 : Fin k0_t5_loop.trips) : Fin 4 → Nat :=
  let c0_i32_2327 : BitVec 32 := 0#32
  let c0_i32_2328 : BitVec 32 := 0#32
  let c0_i32_1515 : BitVec 32 := 0#32
  let c1_i32_1517 : BitVec 32 := 1#32
  let arg19 : BitVec 32 := Scf.iv c0_i32_1515 c1_i32_1517 k0_t5
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2329 : BitVec 32 := 0#32
  ![0, 0, v3851.toNat, 0]
def k0_off100 (k0_t5 : Fin k0_t5_loop.trips) : Fin 4 → Nat :=
  let c0_i32_2331 : BitVec 32 := 0#32
  let c1_i32_2332 : BitVec 32 := 1#32
  let c0_i32_1515 : BitVec 32 := 0#32
  let c1_i32_1517 : BitVec 32 := 1#32
  let arg19 : BitVec 32 := Scf.iv c0_i32_1515 c1_i32_1517 k0_t5
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2333 : BitVec 32 := 0#32
  ![0, 1, v3851.toNat, 0]
def k0_off101 (k0_t5 : Fin k0_t5_loop.trips) : Fin 4 → Nat :=
  let c0_i32_2391 : BitVec 32 := 0#32
  let c2_i32_2392 : BitVec 32 := 2#32
  let c0_i32_1515 : BitVec 32 := 0#32
  let c1_i32_1517 : BitVec 32 := 1#32
  let arg19 : BitVec 32 := Scf.iv c0_i32_1515 c1_i32_1517 k0_t5
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2393 : BitVec 32 := 0#32
  ![0, 2, v3851.toNat, 0]
def k0_off102 (k0_t5 : Fin k0_t5_loop.trips) : Fin 4 → Nat :=
  let c0_i32_2415 : BitVec 32 := 0#32
  let c2_i32_2416 : BitVec 32 := 2#32
  let c0_i32_1515 : BitVec 32 := 0#32
  let c1_i32_1517 : BitVec 32 := 1#32
  let arg19 : BitVec 32 := Scf.iv c0_i32_1515 c1_i32_1517 k0_t5
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2417 : BitVec 32 := 0#32
  ![0, 2, v3851.toNat, 0]
def k0_off103 (k0_t5 : Fin k0_t5_loop.trips) : Fin 4 → Nat :=
  let c0_i32_2419 : BitVec 32 := 0#32
  let c3_i32_2420 : BitVec 32 := 3#32
  let c0_i32_1515 : BitVec 32 := 0#32
  let c1_i32_1517 : BitVec 32 := 1#32
  let arg19 : BitVec 32 := Scf.iv c0_i32_1515 c1_i32_1517 k0_t5
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2421 : BitVec 32 := 0#32
  ![0, 3, v3851.toNat, 0]
def k0_off104 (k0_t5 : Fin k0_t5_loop.trips) : Fin 4 → Nat :=
  let c0_i32_2447 : BitVec 32 := 0#32
  let c4_i32_2448 : BitVec 32 := 4#32
  let c0_i32_1515 : BitVec 32 := 0#32
  let c1_i32_1517 : BitVec 32 := 1#32
  let arg19 : BitVec 32 := Scf.iv c0_i32_1515 c1_i32_1517 k0_t5
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2449 : BitVec 32 := 0#32
  ![0, 4, v3851.toNat, 0]
def k0_off105 (k0_t5 : Fin k0_t5_loop.trips) : Fin 4 → Nat :=
  let c0_i32_2479 : BitVec 32 := 0#32
  let c5_i32_2480 : BitVec 32 := 5#32
  let c0_i32_1515 : BitVec 32 := 0#32
  let c1_i32_1517 : BitVec 32 := 1#32
  let arg19 : BitVec 32 := Scf.iv c0_i32_1515 c1_i32_1517 k0_t5
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2481 : BitVec 32 := 0#32
  ![0, 5, v3851.toNat, 0]
def k0_off106 (k0_t5 : Fin k0_t5_loop.trips) : Fin 4 → Nat :=
  let c0_i32_2507 : BitVec 32 := 0#32
  let c6_i32_2508 : BitVec 32 := 6#32
  let c0_i32_1515 : BitVec 32 := 0#32
  let c1_i32_1517 : BitVec 32 := 1#32
  let arg19 : BitVec 32 := Scf.iv c0_i32_1515 c1_i32_1517 k0_t5
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2509 : BitVec 32 := 0#32
  ![0, 6, v3851.toNat, 0]

def k0_chk266 (v179 : IVec S16 32) (v207 : IVec S16 32) (v259 : IVec S16 32) (v287 : IVec S16 32) (v2396 : IVec S16 32) (v2399 : IVec S16 32) (v2400 : IVec S16 32) (v2402 : IVec S16 32) (v2403 : IVec S16 32) (v3853 : IVec S16 32) : Prop :=
  (∀ a x, ((![v2396, v2399, v3853, v179] : Fin 4 → IVec S16 32) a x).toNat < S2x7x64x128.size a) ∧
  (∀ a x, ((![v2396, v2400, v3853, v207] : Fin 4 → IVec S16 32) a x).toNat < S2x7x64x128.size a) ∧
  (∀ a x, ((![v2396, v2402, v3853, v259] : Fin 4 → IVec S16 32) a x).toNat < S2x7x64x128.size a) ∧
  (∀ a x, ((![v2396, v2403, v3853, v287] : Fin 4 → IVec S16 32) a x).toNat < S2x7x64x128.size a)
theorem k0_idx293_inb : ∀ (v179 : IVec S16 32) (v207 : IVec S16 32) (v259 : IVec S16 32) (v287 : IVec S16 32) (v2396 : IVec S16 32) (v2399 : IVec S16 32) (v2400 : IVec S16 32) (v2402 : IVec S16 32) (v2403 : IVec S16 32) (v3853 : IVec S16 32) (k0_hw266 : k0_chk266 v179 v207 v259 v287 v2396 v2399 v2400 v2402 v2403 v3853), ∀ a x, ((![v2396, v2399, v3853, v179] : Fin 4 → IVec S16 32) a x).toNat < S2x7x64x128.size a := fun v179 v207 v259 v287 v2396 v2399 v2400 v2402 v2403 v3853 k0_hw266 => k0_hw266.1
theorem k0_idx294_inb : ∀ (v179 : IVec S16 32) (v207 : IVec S16 32) (v259 : IVec S16 32) (v287 : IVec S16 32) (v2396 : IVec S16 32) (v2399 : IVec S16 32) (v2400 : IVec S16 32) (v2402 : IVec S16 32) (v2403 : IVec S16 32) (v3853 : IVec S16 32) (k0_hw266 : k0_chk266 v179 v207 v259 v287 v2396 v2399 v2400 v2402 v2403 v3853), ∀ a x, ((![v2396, v2400, v3853, v207] : Fin 4 → IVec S16 32) a x).toNat < S2x7x64x128.size a := fun v179 v207 v259 v287 v2396 v2399 v2400 v2402 v2403 v3853 k0_hw266 => k0_hw266.2.1
theorem k0_idx295_inb : ∀ (v179 : IVec S16 32) (v207 : IVec S16 32) (v259 : IVec S16 32) (v287 : IVec S16 32) (v2396 : IVec S16 32) (v2399 : IVec S16 32) (v2400 : IVec S16 32) (v2402 : IVec S16 32) (v2403 : IVec S16 32) (v3853 : IVec S16 32) (k0_hw266 : k0_chk266 v179 v207 v259 v287 v2396 v2399 v2400 v2402 v2403 v3853), ∀ a x, ((![v2396, v2402, v3853, v259] : Fin 4 → IVec S16 32) a x).toNat < S2x7x64x128.size a := fun v179 v207 v259 v287 v2396 v2399 v2400 v2402 v2403 v3853 k0_hw266 => k0_hw266.2.2.1
theorem k0_idx296_inb : ∀ (v179 : IVec S16 32) (v207 : IVec S16 32) (v259 : IVec S16 32) (v287 : IVec S16 32) (v2396 : IVec S16 32) (v2399 : IVec S16 32) (v2400 : IVec S16 32) (v2402 : IVec S16 32) (v2403 : IVec S16 32) (v3853 : IVec S16 32) (k0_hw266 : k0_chk266 v179 v207 v259 v287 v2396 v2399 v2400 v2402 v2403 v3853), ∀ a x, ((![v2396, v2403, v3853, v287] : Fin 4 → IVec S16 32) a x).toNat < S2x7x64x128.size a := fun v179 v207 v259 v287 v2396 v2399 v2400 v2402 v2403 v3853 k0_hw266 => k0_hw266.2.2.2
def k0_off107 (k0_t5 : Fin k0_t5_loop.trips) : Fin 1 → Nat :=
  let c0_i32_1515 : BitVec 32 := 0#32
  let c1_i32_1517 : BitVec 32 := 1#32
  let arg19 : BitVec 32 := Scf.iv c0_i32_1515 c1_i32_1517 k0_t5
  let c2_i32_2129 : BitVec 32 := 2#32
  let v3631 : BitVec 32 := Scalar.muli arg19 c2_i32_2129
  let c1_i32_2325 : BitVec 32 := 1#32
  let v3851 : BitVec 32 := Scalar.addi v3631 c1_i32_2325
  let c17_i32_2535 : BitVec 32 := 17#32
  let v4069 : BitVec 32 := Scalar.muli v3851 c17_i32_2535
  let v4070 : Index := Scalar.indexCast v4069
  ![v4070.toNat]

def k0_chk267 (v2406 : IVec S16 32) : Prop :=
  (∀ a x, ((![v2406] : Fin 1 → IVec S16 32) a x).toNat < S1088.size a)
theorem k0_idx297_inb : ∀ (v2406 : IVec S16 32) (k0_hw267 : k0_chk267 v2406), ∀ a x, ((![v2406] : Fin 1 → IVec S16 32) a x).toNat < S1088.size a := fun v2406 k0_hw267 => k0_hw267

def k0_chk268 (v2409 : IVec S16 32) : Prop :=
  (∀ a x, ((![v2409] : Fin 1 → IVec S16 32) a x).toNat < S1088.size a)
theorem k0_idx298_inb : ∀ (v2409 : IVec S16 32) (k0_hw268 : k0_chk268 v2409), ∀ a x, ((![v2409] : Fin 1 → IVec S16 32) a x).toNat < S1088.size a := fun v2409 k0_hw268 => k0_hw268

def k0_chk269 (v2413 : IVec S16 32) : Prop :=
  (∀ a x, ((![v2413] : Fin 1 → IVec S16 32) a x).toNat < S1088.size a)
theorem k0_idx299_inb : ∀ (v2413 : IVec S16 32) (k0_hw269 : k0_chk269 v2413), ∀ a x, ((![v2413] : Fin 1 → IVec S16 32) a x).toNat < S1088.size a := fun v2413 k0_hw269 => k0_hw269

def k0_chk270 (v2417 : IVec S16 32) : Prop :=
  (∀ a x, ((![v2417] : Fin 1 → IVec S16 32) a x).toNat < S1088.size a)
theorem k0_idx300_inb : ∀ (v2417 : IVec S16 32) (k0_hw270 : k0_chk270 v2417), ∀ a x, ((![v2417] : Fin 1 → IVec S16 32) a x).toNat < S1088.size a := fun v2417 k0_hw270 => k0_hw270

def k0_chk271 (v2421 : IVec S16 32) : Prop :=
  (∀ a x, ((![v2421] : Fin 1 → IVec S16 32) a x).toNat < S1088.size a)
theorem k0_idx301_inb : ∀ (v2421 : IVec S16 32) (k0_hw271 : k0_chk271 v2421), ∀ a x, ((![v2421] : Fin 1 → IVec S16 32) a x).toNat < S1088.size a := fun v2421 k0_hw271 => k0_hw271

def k0_chk272 (v2425 : IVec S16 32) : Prop :=
  (∀ a x, ((![v2425] : Fin 1 → IVec S16 32) a x).toNat < S1088.size a)
theorem k0_idx302_inb : ∀ (v2425 : IVec S16 32) (k0_hw272 : k0_chk272 v2425), ∀ a x, ((![v2425] : Fin 1 → IVec S16 32) a x).toNat < S1088.size a := fun v2425 k0_hw272 => k0_hw272

def k0_chk273 (v2429 : IVec S16 32) : Prop :=
  (∀ a x, ((![v2429] : Fin 1 → IVec S16 32) a x).toNat < S1088.size a)
theorem k0_idx303_inb : ∀ (v2429 : IVec S16 32) (k0_hw273 : k0_chk273 v2429), ∀ a x, ((![v2429] : Fin 1 → IVec S16 32) a x).toNat < S1088.size a := fun v2429 k0_hw273 => k0_hw273

def k0_chk274 (v2433 : IVec S16 32) : Prop :=
  (∀ a x, ((![v2433] : Fin 1 → IVec S16 32) a x).toNat < S1088.size a)
theorem k0_idx304_inb : ∀ (v2433 : IVec S16 32) (k0_hw274 : k0_chk274 v2433), ∀ a x, ((![v2433] : Fin 1 → IVec S16 32) a x).toNat < S1088.size a := fun v2433 k0_hw274 => k0_hw274

def k0_chk275 (v2437 : IVec S16 32) : Prop :=
  (∀ a x, ((![v2437] : Fin 1 → IVec S16 32) a x).toNat < S1088.size a)
theorem k0_idx305_inb : ∀ (v2437 : IVec S16 32) (k0_hw275 : k0_chk275 v2437), ∀ a x, ((![v2437] : Fin 1 → IVec S16 32) a x).toNat < S1088.size a := fun v2437 k0_hw275 => k0_hw275

def k0_chk276 (v2441 : IVec S16 32) : Prop :=
  (∀ a x, ((![v2441] : Fin 1 → IVec S16 32) a x).toNat < S1088.size a)
theorem k0_idx306_inb : ∀ (v2441 : IVec S16 32) (k0_hw276 : k0_chk276 v2441), ∀ a x, ((![v2441] : Fin 1 → IVec S16 32) a x).toNat < S1088.size a := fun v2441 k0_hw276 => k0_hw276

def k0_chk277 (v2445 : IVec S16 32) : Prop :=
  (∀ a x, ((![v2445] : Fin 1 → IVec S16 32) a x).toNat < S1088.size a)
theorem k0_idx307_inb : ∀ (v2445 : IVec S16 32) (k0_hw277 : k0_chk277 v2445), ∀ a x, ((![v2445] : Fin 1 → IVec S16 32) a x).toNat < S1088.size a := fun v2445 k0_hw277 => k0_hw277

def k0_chk278 (v2449 : IVec S16 32) : Prop :=
  (∀ a x, ((![v2449] : Fin 1 → IVec S16 32) a x).toNat < S1088.size a)
theorem k0_idx308_inb : ∀ (v2449 : IVec S16 32) (k0_hw278 : k0_chk278 v2449), ∀ a x, ((![v2449] : Fin 1 → IVec S16 32) a x).toNat < S1088.size a := fun v2449 k0_hw278 => k0_hw278

def k0_chk279 (v2453 : IVec S16 32) : Prop :=
  (∀ a x, ((![v2453] : Fin 1 → IVec S16 32) a x).toNat < S1088.size a)
theorem k0_idx309_inb : ∀ (v2453 : IVec S16 32) (k0_hw279 : k0_chk279 v2453), ∀ a x, ((![v2453] : Fin 1 → IVec S16 32) a x).toNat < S1088.size a := fun v2453 k0_hw279 => k0_hw279

def k0_chk280 (v2457 : IVec S16 32) : Prop :=
  (∀ a x, ((![v2457] : Fin 1 → IVec S16 32) a x).toNat < S1088.size a)
theorem k0_idx310_inb : ∀ (v2457 : IVec S16 32) (k0_hw280 : k0_chk280 v2457), ∀ a x, ((![v2457] : Fin 1 → IVec S16 32) a x).toNat < S1088.size a := fun v2457 k0_hw280 => k0_hw280

def k0_chk281 (v2461 : IVec S16 32) : Prop :=
  (∀ a x, ((![v2461] : Fin 1 → IVec S16 32) a x).toNat < S1088.size a)
theorem k0_idx311_inb : ∀ (v2461 : IVec S16 32) (k0_hw281 : k0_chk281 v2461), ∀ a x, ((![v2461] : Fin 1 → IVec S16 32) a x).toNat < S1088.size a := fun v2461 k0_hw281 => k0_hw281

def k0_chk282 (v2465 : IVec S16 32) : Prop :=
  (∀ a x, ((![v2465] : Fin 1 → IVec S16 32) a x).toNat < S1088.size a)
theorem k0_idx312_inb : ∀ (v2465 : IVec S16 32) (k0_hw282 : k0_chk282 v2465), ∀ a x, ((![v2465] : Fin 1 → IVec S16 32) a x).toNat < S1088.size a := fun v2465 k0_hw282 => k0_hw282

def k0_chk283 (v2470 : IVec S16 32) : Prop :=
  (∀ a x, ((![v2470] : Fin 1 → IVec S16 32) a x).toNat < S1088.size a)
theorem k0_idx313_inb : ∀ (v2470 : IVec S16 32) (k0_hw283 : k0_chk283 v2470), ∀ a x, ((![v2470] : Fin 1 → IVec S16 32) a x).toNat < S1088.size a := fun v2470 k0_hw283 => k0_hw283

def k0_chk284 (v2473 : IVec S16 32) : Prop :=
  (∀ a x, ((![v2473] : Fin 1 → IVec S16 32) a x).toNat < S1088.size a)
theorem k0_idx314_inb : ∀ (v2473 : IVec S16 32) (k0_hw284 : k0_chk284 v2473), ∀ a x, ((![v2473] : Fin 1 → IVec S16 32) a x).toNat < S1088.size a := fun v2473 k0_hw284 => k0_hw284

def k0_chk285 (v2477 : IVec S16 32) : Prop :=
  (∀ a x, ((![v2477] : Fin 1 → IVec S16 32) a x).toNat < S1088.size a)
theorem k0_idx315_inb : ∀ (v2477 : IVec S16 32) (k0_hw285 : k0_chk285 v2477), ∀ a x, ((![v2477] : Fin 1 → IVec S16 32) a x).toNat < S1088.size a := fun v2477 k0_hw285 => k0_hw285

def k0_chk286 (v2481 : IVec S16 32) : Prop :=
  (∀ a x, ((![v2481] : Fin 1 → IVec S16 32) a x).toNat < S1088.size a)
theorem k0_idx316_inb : ∀ (v2481 : IVec S16 32) (k0_hw286 : k0_chk286 v2481), ∀ a x, ((![v2481] : Fin 1 → IVec S16 32) a x).toNat < S1088.size a := fun v2481 k0_hw286 => k0_hw286

def k0_chk287 (v2485 : IVec S16 32) : Prop :=
  (∀ a x, ((![v2485] : Fin 1 → IVec S16 32) a x).toNat < S1088.size a)
theorem k0_idx317_inb : ∀ (v2485 : IVec S16 32) (k0_hw287 : k0_chk287 v2485), ∀ a x, ((![v2485] : Fin 1 → IVec S16 32) a x).toNat < S1088.size a := fun v2485 k0_hw287 => k0_hw287

def k0_chk288 (v2489 : IVec S16 32) : Prop :=
  (∀ a x, ((![v2489] : Fin 1 → IVec S16 32) a x).toNat < S1088.size a)
theorem k0_idx318_inb : ∀ (v2489 : IVec S16 32) (k0_hw288 : k0_chk288 v2489), ∀ a x, ((![v2489] : Fin 1 → IVec S16 32) a x).toNat < S1088.size a := fun v2489 k0_hw288 => k0_hw288

def k0_chk289 (v2493 : IVec S16 32) : Prop :=
  (∀ a x, ((![v2493] : Fin 1 → IVec S16 32) a x).toNat < S1088.size a)
theorem k0_idx319_inb : ∀ (v2493 : IVec S16 32) (k0_hw289 : k0_chk289 v2493), ∀ a x, ((![v2493] : Fin 1 → IVec S16 32) a x).toNat < S1088.size a := fun v2493 k0_hw289 => k0_hw289

def k0_chk290 (v2497 : IVec S16 32) : Prop :=
  (∀ a x, ((![v2497] : Fin 1 → IVec S16 32) a x).toNat < S1088.size a)
theorem k0_idx320_inb : ∀ (v2497 : IVec S16 32) (k0_hw290 : k0_chk290 v2497), ∀ a x, ((![v2497] : Fin 1 → IVec S16 32) a x).toNat < S1088.size a := fun v2497 k0_hw290 => k0_hw290

def k0_chk291 (v2501 : IVec S16 32) : Prop :=
  (∀ a x, ((![v2501] : Fin 1 → IVec S16 32) a x).toNat < S1088.size a)
theorem k0_idx321_inb : ∀ (v2501 : IVec S16 32) (k0_hw291 : k0_chk291 v2501), ∀ a x, ((![v2501] : Fin 1 → IVec S16 32) a x).toNat < S1088.size a := fun v2501 k0_hw291 => k0_hw291

def k0_chk292 (v2505 : IVec S16 32) : Prop :=
  (∀ a x, ((![v2505] : Fin 1 → IVec S16 32) a x).toNat < S1088.size a)
theorem k0_idx322_inb : ∀ (v2505 : IVec S16 32) (k0_hw292 : k0_chk292 v2505), ∀ a x, ((![v2505] : Fin 1 → IVec S16 32) a x).toNat < S1088.size a := fun v2505 k0_hw292 => k0_hw292

def k0_chk293 (v2509 : IVec S16 32) : Prop :=
  (∀ a x, ((![v2509] : Fin 1 → IVec S16 32) a x).toNat < S1088.size a)
theorem k0_idx323_inb : ∀ (v2509 : IVec S16 32) (k0_hw293 : k0_chk293 v2509), ∀ a x, ((![v2509] : Fin 1 → IVec S16 32) a x).toNat < S1088.size a := fun v2509 k0_hw293 => k0_hw293

def k0_chk294 (v2513 : IVec S16 32) : Prop :=
  (∀ a x, ((![v2513] : Fin 1 → IVec S16 32) a x).toNat < S1088.size a)
theorem k0_idx324_inb : ∀ (v2513 : IVec S16 32) (k0_hw294 : k0_chk294 v2513), ∀ a x, ((![v2513] : Fin 1 → IVec S16 32) a x).toNat < S1088.size a := fun v2513 k0_hw294 => k0_hw294

def k0_chk295 (v2517 : IVec S16 32) : Prop :=
  (∀ a x, ((![v2517] : Fin 1 → IVec S16 32) a x).toNat < S1088.size a)
theorem k0_idx325_inb : ∀ (v2517 : IVec S16 32) (k0_hw295 : k0_chk295 v2517), ∀ a x, ((![v2517] : Fin 1 → IVec S16 32) a x).toNat < S1088.size a := fun v2517 k0_hw295 => k0_hw295

def k0_chk296 (v2521 : IVec S16 32) : Prop :=
  (∀ a x, ((![v2521] : Fin 1 → IVec S16 32) a x).toNat < S1088.size a)
theorem k0_idx326_inb : ∀ (v2521 : IVec S16 32) (k0_hw296 : k0_chk296 v2521), ∀ a x, ((![v2521] : Fin 1 → IVec S16 32) a x).toNat < S1088.size a := fun v2521 k0_hw296 => k0_hw296

def k0_chk297 (v2525 : IVec S16 32) : Prop :=
  (∀ a x, ((![v2525] : Fin 1 → IVec S16 32) a x).toNat < S1088.size a)
theorem k0_idx327_inb : ∀ (v2525 : IVec S16 32) (k0_hw297 : k0_chk297 v2525), ∀ a x, ((![v2525] : Fin 1 → IVec S16 32) a x).toNat < S1088.size a := fun v2525 k0_hw297 => k0_hw297

def k0_chk298 (v2529 : IVec S16 32) : Prop :=
  (∀ a x, ((![v2529] : Fin 1 → IVec S16 32) a x).toNat < S1088.size a)
theorem k0_idx328_inb : ∀ (v2529 : IVec S16 32) (k0_hw298 : k0_chk298 v2529), ∀ a x, ((![v2529] : Fin 1 → IVec S16 32) a x).toNat < S1088.size a := fun v2529 k0_hw298 => k0_hw298

def k0_chk299 (v2534 : IVec S16 32) : Prop :=
  (∀ a x, ((![v2534] : Fin 1 → IVec S16 32) a x).toNat < S1088.size a)
theorem k0_idx329_inb : ∀ (v2534 : IVec S16 32) (k0_hw299 : k0_chk299 v2534), ∀ a x, ((![v2534] : Fin 1 → IVec S16 32) a x).toNat < S1088.size a := fun v2534 k0_hw299 => k0_hw299

def k0_chk300 (v2537 : IVec S16 32) : Prop :=
  (∀ a x, ((![v2537] : Fin 1 → IVec S16 32) a x).toNat < S1088.size a)
theorem k0_idx330_inb : ∀ (v2537 : IVec S16 32) (k0_hw300 : k0_chk300 v2537), ∀ a x, ((![v2537] : Fin 1 → IVec S16 32) a x).toNat < S1088.size a := fun v2537 k0_hw300 => k0_hw300

def k0_chk301 (v2541 : IVec S16 32) : Prop :=
  (∀ a x, ((![v2541] : Fin 1 → IVec S16 32) a x).toNat < S1088.size a)
theorem k0_idx331_inb : ∀ (v2541 : IVec S16 32) (k0_hw301 : k0_chk301 v2541), ∀ a x, ((![v2541] : Fin 1 → IVec S16 32) a x).toNat < S1088.size a := fun v2541 k0_hw301 => k0_hw301

def k0_chk302 (v2545 : IVec S16 32) : Prop :=
  (∀ a x, ((![v2545] : Fin 1 → IVec S16 32) a x).toNat < S1088.size a)
theorem k0_idx332_inb : ∀ (v2545 : IVec S16 32) (k0_hw302 : k0_chk302 v2545), ∀ a x, ((![v2545] : Fin 1 → IVec S16 32) a x).toNat < S1088.size a := fun v2545 k0_hw302 => k0_hw302

def k0_chk303 (v2549 : IVec S16 32) : Prop :=
  (∀ a x, ((![v2549] : Fin 1 → IVec S16 32) a x).toNat < S1088.size a)
theorem k0_idx333_inb : ∀ (v2549 : IVec S16 32) (k0_hw303 : k0_chk303 v2549), ∀ a x, ((![v2549] : Fin 1 → IVec S16 32) a x).toNat < S1088.size a := fun v2549 k0_hw303 => k0_hw303

def k0_chk304 (v2553 : IVec S16 32) : Prop :=
  (∀ a x, ((![v2553] : Fin 1 → IVec S16 32) a x).toNat < S1088.size a)
theorem k0_idx334_inb : ∀ (v2553 : IVec S16 32) (k0_hw304 : k0_chk304 v2553), ∀ a x, ((![v2553] : Fin 1 → IVec S16 32) a x).toNat < S1088.size a := fun v2553 k0_hw304 => k0_hw304

def k0_chk305 (v2557 : IVec S16 32) : Prop :=
  (∀ a x, ((![v2557] : Fin 1 → IVec S16 32) a x).toNat < S1088.size a)
theorem k0_idx335_inb : ∀ (v2557 : IVec S16 32) (k0_hw305 : k0_chk305 v2557), ∀ a x, ((![v2557] : Fin 1 → IVec S16 32) a x).toNat < S1088.size a := fun v2557 k0_hw305 => k0_hw305

def k0_chk306 (v2561 : IVec S16 32) : Prop :=
  (∀ a x, ((![v2561] : Fin 1 → IVec S16 32) a x).toNat < S1088.size a)
theorem k0_idx336_inb : ∀ (v2561 : IVec S16 32) (k0_hw306 : k0_chk306 v2561), ∀ a x, ((![v2561] : Fin 1 → IVec S16 32) a x).toNat < S1088.size a := fun v2561 k0_hw306 => k0_hw306

def k0_chk307 (v2565 : IVec S16 32) : Prop :=
  (∀ a x, ((![v2565] : Fin 1 → IVec S16 32) a x).toNat < S1088.size a)
theorem k0_idx337_inb : ∀ (v2565 : IVec S16 32) (k0_hw307 : k0_chk307 v2565), ∀ a x, ((![v2565] : Fin 1 → IVec S16 32) a x).toNat < S1088.size a := fun v2565 k0_hw307 => k0_hw307

def k0_chk308 (v2569 : IVec S16 32) : Prop :=
  (∀ a x, ((![v2569] : Fin 1 → IVec S16 32) a x).toNat < S1088.size a)
theorem k0_idx338_inb : ∀ (v2569 : IVec S16 32) (k0_hw308 : k0_chk308 v2569), ∀ a x, ((![v2569] : Fin 1 → IVec S16 32) a x).toNat < S1088.size a := fun v2569 k0_hw308 => k0_hw308

def k0_chk309 (v2573 : IVec S16 32) : Prop :=
  (∀ a x, ((![v2573] : Fin 1 → IVec S16 32) a x).toNat < S1088.size a)
theorem k0_idx339_inb : ∀ (v2573 : IVec S16 32) (k0_hw309 : k0_chk309 v2573), ∀ a x, ((![v2573] : Fin 1 → IVec S16 32) a x).toNat < S1088.size a := fun v2573 k0_hw309 => k0_hw309

def k0_chk310 (v2577 : IVec S16 32) : Prop :=
  (∀ a x, ((![v2577] : Fin 1 → IVec S16 32) a x).toNat < S1088.size a)
theorem k0_idx340_inb : ∀ (v2577 : IVec S16 32) (k0_hw310 : k0_chk310 v2577), ∀ a x, ((![v2577] : Fin 1 → IVec S16 32) a x).toNat < S1088.size a := fun v2577 k0_hw310 => k0_hw310

def k0_chk311 (v2581 : IVec S16 32) : Prop :=
  (∀ a x, ((![v2581] : Fin 1 → IVec S16 32) a x).toNat < S1088.size a)
theorem k0_idx341_inb : ∀ (v2581 : IVec S16 32) (k0_hw311 : k0_chk311 v2581), ∀ a x, ((![v2581] : Fin 1 → IVec S16 32) a x).toNat < S1088.size a := fun v2581 k0_hw311 => k0_hw311

def k0_chk312 (v2585 : IVec S16 32) : Prop :=
  (∀ a x, ((![v2585] : Fin 1 → IVec S16 32) a x).toNat < S1088.size a)
theorem k0_idx342_inb : ∀ (v2585 : IVec S16 32) (k0_hw312 : k0_chk312 v2585), ∀ a x, ((![v2585] : Fin 1 → IVec S16 32) a x).toNat < S1088.size a := fun v2585 k0_hw312 => k0_hw312

def k0_chk313 (v2589 : IVec S16 32) : Prop :=
  (∀ a x, ((![v2589] : Fin 1 → IVec S16 32) a x).toNat < S1088.size a)
theorem k0_idx343_inb : ∀ (v2589 : IVec S16 32) (k0_hw313 : k0_chk313 v2589), ∀ a x, ((![v2589] : Fin 1 → IVec S16 32) a x).toNat < S1088.size a := fun v2589 k0_hw313 => k0_hw313

def k0_chk314 (v2593 : IVec S16 32) : Prop :=
  (∀ a x, ((![v2593] : Fin 1 → IVec S16 32) a x).toNat < S1088.size a)
theorem k0_idx344_inb : ∀ (v2593 : IVec S16 32) (k0_hw314 : k0_chk314 v2593), ∀ a x, ((![v2593] : Fin 1 → IVec S16 32) a x).toNat < S1088.size a := fun v2593 k0_hw314 => k0_hw314

def k0_chk315 (v2598 : IVec S16 32) : Prop :=
  (∀ a x, ((![v2598] : Fin 1 → IVec S16 32) a x).toNat < S1088.size a)
theorem k0_idx345_inb : ∀ (v2598 : IVec S16 32) (k0_hw315 : k0_chk315 v2598), ∀ a x, ((![v2598] : Fin 1 → IVec S16 32) a x).toNat < S1088.size a := fun v2598 k0_hw315 => k0_hw315

def k0_chk316 (v2601 : IVec S16 32) : Prop :=
  (∀ a x, ((![v2601] : Fin 1 → IVec S16 32) a x).toNat < S1088.size a)
theorem k0_idx346_inb : ∀ (v2601 : IVec S16 32) (k0_hw316 : k0_chk316 v2601), ∀ a x, ((![v2601] : Fin 1 → IVec S16 32) a x).toNat < S1088.size a := fun v2601 k0_hw316 => k0_hw316

def k0_chk317 (v2605 : IVec S16 32) : Prop :=
  (∀ a x, ((![v2605] : Fin 1 → IVec S16 32) a x).toNat < S1088.size a)
theorem k0_idx347_inb : ∀ (v2605 : IVec S16 32) (k0_hw317 : k0_chk317 v2605), ∀ a x, ((![v2605] : Fin 1 → IVec S16 32) a x).toNat < S1088.size a := fun v2605 k0_hw317 => k0_hw317

def k0_chk318 (v2609 : IVec S16 32) : Prop :=
  (∀ a x, ((![v2609] : Fin 1 → IVec S16 32) a x).toNat < S1088.size a)
theorem k0_idx348_inb : ∀ (v2609 : IVec S16 32) (k0_hw318 : k0_chk318 v2609), ∀ a x, ((![v2609] : Fin 1 → IVec S16 32) a x).toNat < S1088.size a := fun v2609 k0_hw318 => k0_hw318

def k0_chk319 (v2613 : IVec S16 32) : Prop :=
  (∀ a x, ((![v2613] : Fin 1 → IVec S16 32) a x).toNat < S1088.size a)
theorem k0_idx349_inb : ∀ (v2613 : IVec S16 32) (k0_hw319 : k0_chk319 v2613), ∀ a x, ((![v2613] : Fin 1 → IVec S16 32) a x).toNat < S1088.size a := fun v2613 k0_hw319 => k0_hw319

def k0_chk320 (v2617 : IVec S16 32) : Prop :=
  (∀ a x, ((![v2617] : Fin 1 → IVec S16 32) a x).toNat < S1088.size a)
theorem k0_idx350_inb : ∀ (v2617 : IVec S16 32) (k0_hw320 : k0_chk320 v2617), ∀ a x, ((![v2617] : Fin 1 → IVec S16 32) a x).toNat < S1088.size a := fun v2617 k0_hw320 => k0_hw320

def k0_chk321 (v2621 : IVec S16 32) : Prop :=
  (∀ a x, ((![v2621] : Fin 1 → IVec S16 32) a x).toNat < S1088.size a)
theorem k0_idx351_inb : ∀ (v2621 : IVec S16 32) (k0_hw321 : k0_chk321 v2621), ∀ a x, ((![v2621] : Fin 1 → IVec S16 32) a x).toNat < S1088.size a := fun v2621 k0_hw321 => k0_hw321

def k0_chk322 (v2625 : IVec S16 32) : Prop :=
  (∀ a x, ((![v2625] : Fin 1 → IVec S16 32) a x).toNat < S1088.size a)
theorem k0_idx352_inb : ∀ (v2625 : IVec S16 32) (k0_hw322 : k0_chk322 v2625), ∀ a x, ((![v2625] : Fin 1 → IVec S16 32) a x).toNat < S1088.size a := fun v2625 k0_hw322 => k0_hw322

def k0_chk323 (v2629 : IVec S16 32) : Prop :=
  (∀ a x, ((![v2629] : Fin 1 → IVec S16 32) a x).toNat < S1088.size a)
theorem k0_idx353_inb : ∀ (v2629 : IVec S16 32) (k0_hw323 : k0_chk323 v2629), ∀ a x, ((![v2629] : Fin 1 → IVec S16 32) a x).toNat < S1088.size a := fun v2629 k0_hw323 => k0_hw323

def k0_chk324 (v2633 : IVec S16 32) : Prop :=
  (∀ a x, ((![v2633] : Fin 1 → IVec S16 32) a x).toNat < S1088.size a)
theorem k0_idx354_inb : ∀ (v2633 : IVec S16 32) (k0_hw324 : k0_chk324 v2633), ∀ a x, ((![v2633] : Fin 1 → IVec S16 32) a x).toNat < S1088.size a := fun v2633 k0_hw324 => k0_hw324

def k0_chk325 (v2637 : IVec S16 32) : Prop :=
  (∀ a x, ((![v2637] : Fin 1 → IVec S16 32) a x).toNat < S1088.size a)
theorem k0_idx355_inb : ∀ (v2637 : IVec S16 32) (k0_hw325 : k0_chk325 v2637), ∀ a x, ((![v2637] : Fin 1 → IVec S16 32) a x).toNat < S1088.size a := fun v2637 k0_hw325 => k0_hw325

def k0_chk326 (v2641 : IVec S16 32) : Prop :=
  (∀ a x, ((![v2641] : Fin 1 → IVec S16 32) a x).toNat < S1088.size a)
theorem k0_idx356_inb : ∀ (v2641 : IVec S16 32) (k0_hw326 : k0_chk326 v2641), ∀ a x, ((![v2641] : Fin 1 → IVec S16 32) a x).toNat < S1088.size a := fun v2641 k0_hw326 => k0_hw326

def k0_chk327 (v2645 : IVec S16 32) : Prop :=
  (∀ a x, ((![v2645] : Fin 1 → IVec S16 32) a x).toNat < S1088.size a)
theorem k0_idx357_inb : ∀ (v2645 : IVec S16 32) (k0_hw327 : k0_chk327 v2645), ∀ a x, ((![v2645] : Fin 1 → IVec S16 32) a x).toNat < S1088.size a := fun v2645 k0_hw327 => k0_hw327

def k0_chk328 (v2649 : IVec S16 32) : Prop :=
  (∀ a x, ((![v2649] : Fin 1 → IVec S16 32) a x).toNat < S1088.size a)
theorem k0_idx358_inb : ∀ (v2649 : IVec S16 32) (k0_hw328 : k0_chk328 v2649), ∀ a x, ((![v2649] : Fin 1 → IVec S16 32) a x).toNat < S1088.size a := fun v2649 k0_hw328 => k0_hw328

def k0_chk329 (v2653 : IVec S16 32) : Prop :=
  (∀ a x, ((![v2653] : Fin 1 → IVec S16 32) a x).toNat < S1088.size a)
theorem k0_idx359_inb : ∀ (v2653 : IVec S16 32) (k0_hw329 : k0_chk329 v2653), ∀ a x, ((![v2653] : Fin 1 → IVec S16 32) a x).toNat < S1088.size a := fun v2653 k0_hw329 => k0_hw329

def k0_chk330 (v2657 : IVec S16 32) : Prop :=
  (∀ a x, ((![v2657] : Fin 1 → IVec S16 32) a x).toNat < S1088.size a)
theorem k0_idx360_inb : ∀ (v2657 : IVec S16 32) (k0_hw330 : k0_chk330 v2657), ∀ a x, ((![v2657] : Fin 1 → IVec S16 32) a x).toNat < S1088.size a := fun v2657 k0_hw330 => k0_hw330
@[reducible] def k0_t6_loop : Scf.Loop 32 :=
  let c0_i32_1718 : BitVec 32 := 0#32
  let c32_i32_1719 : BitVec 32 := 32#32
  let v2739 : BitVec 32 := Scalar.addi c0_i32_1718 c32_i32_1719
  let c1_i32_1720 : BitVec 32 := 1#32
  ⟨c0_i32_1718, v2739, c1_i32_1720⟩
def k0_off108 (k0_t6 : Fin k0_t6_loop.trips) : Fin 4 → Nat :=
  let c1_i32_2130 : BitVec 32 := 1#32
  let c0_i32_2131 : BitVec 32 := 0#32
  let c0_i32_1718 : BitVec 32 := 0#32
  let c1_i32_1720 : BitVec 32 := 1#32
  let arg19 : BitVec 32 := Scf.iv c0_i32_1718 c1_i32_1720 k0_t6
  let c2_i32_2129 : BitVec 32 := 2#32
  let v3631 : BitVec 32 := Scalar.muli arg19 c2_i32_2129
  let c0_i32_2132 : BitVec 32 := 0#32
  ![1, 0, v3631.toNat, 0]
def k0_off109 (k0_t6 : Fin k0_t6_loop.trips) : Fin 4 → Nat :=
  let c1_i32_2134 : BitVec 32 := 1#32
  let c1_i32_2135 : BitVec 32 := 1#32
  let c0_i32_1718 : BitVec 32 := 0#32
  let c1_i32_1720 : BitVec 32 := 1#32
  let arg19 : BitVec 32 := Scf.iv c0_i32_1718 c1_i32_1720 k0_t6
  let c2_i32_2129 : BitVec 32 := 2#32
  let v3631 : BitVec 32 := Scalar.muli arg19 c2_i32_2129
  let c0_i32_2136 : BitVec 32 := 0#32
  ![1, 1, v3631.toNat, 0]
def k0_off110 (k0_t6 : Fin k0_t6_loop.trips) : Fin 4 → Nat :=
  let c1_i32_2194 : BitVec 32 := 1#32
  let c2_i32_2195 : BitVec 32 := 2#32
  let c0_i32_1718 : BitVec 32 := 0#32
  let c1_i32_1720 : BitVec 32 := 1#32
  let arg19 : BitVec 32 := Scf.iv c0_i32_1718 c1_i32_1720 k0_t6
  let c2_i32_2129 : BitVec 32 := 2#32
  let v3631 : BitVec 32 := Scalar.muli arg19 c2_i32_2129
  let c0_i32_2196 : BitVec 32 := 0#32
  ![1, 2, v3631.toNat, 0]
def k0_off111 (k0_t6 : Fin k0_t6_loop.trips) : Fin 4 → Nat :=
  let c1_i32_2212 : BitVec 32 := 1#32
  let c2_i32_2213 : BitVec 32 := 2#32
  let c0_i32_1718 : BitVec 32 := 0#32
  let c1_i32_1720 : BitVec 32 := 1#32
  let arg19 : BitVec 32 := Scf.iv c0_i32_1718 c1_i32_1720 k0_t6
  let c2_i32_2129 : BitVec 32 := 2#32
  let v3631 : BitVec 32 := Scalar.muli arg19 c2_i32_2129
  let c0_i32_2214 : BitVec 32 := 0#32
  ![1, 2, v3631.toNat, 0]
def k0_off112 (k0_t6 : Fin k0_t6_loop.trips) : Fin 4 → Nat :=
  let c1_i32_2215 : BitVec 32 := 1#32
  let c3_i32_2216 : BitVec 32 := 3#32
  let c0_i32_1718 : BitVec 32 := 0#32
  let c1_i32_1720 : BitVec 32 := 1#32
  let arg19 : BitVec 32 := Scf.iv c0_i32_1718 c1_i32_1720 k0_t6
  let c2_i32_2129 : BitVec 32 := 2#32
  let v3631 : BitVec 32 := Scalar.muli arg19 c2_i32_2129
  let c0_i32_2217 : BitVec 32 := 0#32
  ![1, 3, v3631.toNat, 0]
def k0_off113 (k0_t6 : Fin k0_t6_loop.trips) : Fin 4 → Nat :=
  let c1_i32_2230 : BitVec 32 := 1#32
  let c3_i32_2231 : BitVec 32 := 3#32
  let c0_i32_1718 : BitVec 32 := 0#32
  let c1_i32_1720 : BitVec 32 := 1#32
  let arg19 : BitVec 32 := Scf.iv c0_i32_1718 c1_i32_1720 k0_t6
  let c2_i32_2129 : BitVec 32 := 2#32
  let v3631 : BitVec 32 := Scalar.muli arg19 c2_i32_2129
  let c0_i32_2232 : BitVec 32 := 0#32
  ![1, 3, v3631.toNat, 0]
def k0_off114 (k0_t6 : Fin k0_t6_loop.trips) : Fin 4 → Nat :=
  let c1_i32_2236 : BitVec 32 := 1#32
  let c4_i32_2237 : BitVec 32 := 4#32
  let c0_i32_1718 : BitVec 32 := 0#32
  let c1_i32_1720 : BitVec 32 := 1#32
  let arg19 : BitVec 32 := Scf.iv c0_i32_1718 c1_i32_1720 k0_t6
  let c2_i32_2129 : BitVec 32 := 2#32
  let v3631 : BitVec 32 := Scalar.muli arg19 c2_i32_2129
  let c0_i32_2238 : BitVec 32 := 0#32
  ![1, 4, v3631.toNat, 0]
def k0_off115 (k0_t6 : Fin k0_t6_loop.trips) : Fin 4 → Nat :=
  let c1_i32_2268 : BitVec 32 := 1#32
  let c5_i32_2269 : BitVec 32 := 5#32
  let c0_i32_1718 : BitVec 32 := 0#32
  let c1_i32_1720 : BitVec 32 := 1#32
  let arg19 : BitVec 32 := Scf.iv c0_i32_1718 c1_i32_1720 k0_t6
  let c2_i32_2129 : BitVec 32 := 2#32
  let v3631 : BitVec 32 := Scalar.muli arg19 c2_i32_2129
  let c0_i32_2270 : BitVec 32 := 0#32
  ![1, 5, v3631.toNat, 0]
def k0_off116 (k0_t6 : Fin k0_t6_loop.trips) : Fin 4 → Nat :=
  let c1_i32_2276 : BitVec 32 := 1#32
  let c5_i32_2277 : BitVec 32 := 5#32
  let c0_i32_1718 : BitVec 32 := 0#32
  let c1_i32_1720 : BitVec 32 := 1#32
  let arg19 : BitVec 32 := Scf.iv c0_i32_1718 c1_i32_1720 k0_t6
  let c2_i32_2129 : BitVec 32 := 2#32
  let v3631 : BitVec 32 := Scalar.muli arg19 c2_i32_2129
  let c0_i32_2278 : BitVec 32 := 0#32
  ![1, 5, v3631.toNat, 0]
def k0_off117 (k0_t6 : Fin k0_t6_loop.trips) : Fin 4 → Nat :=
  let c1_i32_2296 : BitVec 32 := 1#32
  let c6_i32_2297 : BitVec 32 := 6#32
  let c0_i32_1718 : BitVec 32 := 0#32
  let c1_i32_1720 : BitVec 32 := 1#32
  let arg19 : BitVec 32 := Scf.iv c0_i32_1718 c1_i32_1720 k0_t6
  let c2_i32_2129 : BitVec 32 := 2#32
  let v3631 : BitVec 32 := Scalar.muli arg19 c2_i32_2129
  let c0_i32_2298 : BitVec 32 := 0#32
  ![1, 6, v3631.toNat, 0]

def k0_chk331 (v179 : IVec S16 32) (v207 : IVec S16 32) (v259 : IVec S16 32) (v287 : IVec S16 32) (v2731 : IVec S16 32) (v2734 : IVec S16 32) (v2735 : IVec S16 32) (v2737 : IVec S16 32) (v2738 : IVec S16 32) (v3632 : IVec S16 32) : Prop :=
  (∀ a x, ((![v2731, v2734, v3632, v179] : Fin 4 → IVec S16 32) a x).toNat < S2x7x64x128.size a) ∧
  (∀ a x, ((![v2731, v2735, v3632, v207] : Fin 4 → IVec S16 32) a x).toNat < S2x7x64x128.size a) ∧
  (∀ a x, ((![v2731, v2737, v3632, v259] : Fin 4 → IVec S16 32) a x).toNat < S2x7x64x128.size a) ∧
  (∀ a x, ((![v2731, v2738, v3632, v287] : Fin 4 → IVec S16 32) a x).toNat < S2x7x64x128.size a)
theorem k0_idx361_inb : ∀ (v179 : IVec S16 32) (v207 : IVec S16 32) (v259 : IVec S16 32) (v287 : IVec S16 32) (v2731 : IVec S16 32) (v2734 : IVec S16 32) (v2735 : IVec S16 32) (v2737 : IVec S16 32) (v2738 : IVec S16 32) (v3632 : IVec S16 32) (k0_hw331 : k0_chk331 v179 v207 v259 v287 v2731 v2734 v2735 v2737 v2738 v3632), ∀ a x, ((![v2731, v2734, v3632, v179] : Fin 4 → IVec S16 32) a x).toNat < S2x7x64x128.size a := fun v179 v207 v259 v287 v2731 v2734 v2735 v2737 v2738 v3632 k0_hw331 => k0_hw331.1
theorem k0_idx362_inb : ∀ (v179 : IVec S16 32) (v207 : IVec S16 32) (v259 : IVec S16 32) (v287 : IVec S16 32) (v2731 : IVec S16 32) (v2734 : IVec S16 32) (v2735 : IVec S16 32) (v2737 : IVec S16 32) (v2738 : IVec S16 32) (v3632 : IVec S16 32) (k0_hw331 : k0_chk331 v179 v207 v259 v287 v2731 v2734 v2735 v2737 v2738 v3632), ∀ a x, ((![v2731, v2735, v3632, v207] : Fin 4 → IVec S16 32) a x).toNat < S2x7x64x128.size a := fun v179 v207 v259 v287 v2731 v2734 v2735 v2737 v2738 v3632 k0_hw331 => k0_hw331.2.1
theorem k0_idx363_inb : ∀ (v179 : IVec S16 32) (v207 : IVec S16 32) (v259 : IVec S16 32) (v287 : IVec S16 32) (v2731 : IVec S16 32) (v2734 : IVec S16 32) (v2735 : IVec S16 32) (v2737 : IVec S16 32) (v2738 : IVec S16 32) (v3632 : IVec S16 32) (k0_hw331 : k0_chk331 v179 v207 v259 v287 v2731 v2734 v2735 v2737 v2738 v3632), ∀ a x, ((![v2731, v2737, v3632, v259] : Fin 4 → IVec S16 32) a x).toNat < S2x7x64x128.size a := fun v179 v207 v259 v287 v2731 v2734 v2735 v2737 v2738 v3632 k0_hw331 => k0_hw331.2.2.1
theorem k0_idx364_inb : ∀ (v179 : IVec S16 32) (v207 : IVec S16 32) (v259 : IVec S16 32) (v287 : IVec S16 32) (v2731 : IVec S16 32) (v2734 : IVec S16 32) (v2735 : IVec S16 32) (v2737 : IVec S16 32) (v2738 : IVec S16 32) (v3632 : IVec S16 32) (k0_hw331 : k0_chk331 v179 v207 v259 v287 v2731 v2734 v2735 v2737 v2738 v3632), ∀ a x, ((![v2731, v2738, v3632, v287] : Fin 4 → IVec S16 32) a x).toNat < S2x7x64x128.size a := fun v179 v207 v259 v287 v2731 v2734 v2735 v2737 v2738 v3632 k0_hw331 => k0_hw331.2.2.2
def k0_off118 (k0_t6 : Fin k0_t6_loop.trips) : Fin 4 → Nat :=
  let c1_i32_2300 : BitVec 32 := 1#32
  let c6_i32_2301 : BitVec 32 := 6#32
  let c0_i32_1718 : BitVec 32 := 0#32
  let c1_i32_1720 : BitVec 32 := 1#32
  let arg19 : BitVec 32 := Scf.iv c0_i32_1718 c1_i32_1720 k0_t6
  let c2_i32_2129 : BitVec 32 := 2#32
  let v3631 : BitVec 32 := Scalar.muli arg19 c2_i32_2129
  let c0_i32_2302 : BitVec 32 := 0#32
  ![1, 6, v3631.toNat, 0]
def k0_off119 (k0_t6 : Fin k0_t6_loop.trips) : Fin 1 → Nat :=
  let c0_i32_1718 : BitVec 32 := 0#32
  let c1_i32_1720 : BitVec 32 := 1#32
  let arg19 : BitVec 32 := Scf.iv c0_i32_1718 c1_i32_1720 k0_t6
  let c2_i32_2129 : BitVec 32 := 2#32
  let v3631 : BitVec 32 := Scalar.muli arg19 c2_i32_2129
  let c17_i32_2324 : BitVec 32 := 17#32
  let v3848 : BitVec 32 := Scalar.muli v3631 c17_i32_2324
  let v3849 : Index := Scalar.indexCast v3848
  ![v3849.toNat]
def k0_off120 (k0_t6 : Fin k0_t6_loop.trips) : Fin 4 → Nat :=
  let c1_i32_2327 : BitVec 32 := 1#32
  let c0_i32_2328 : BitVec 32 := 0#32
  let c0_i32_1718 : BitVec 32 := 0#32
  let c1_i32_1720 : BitVec 32 := 1#32
  let arg19 : BitVec 32 := Scf.iv c0_i32_1718 c1_i32_1720 k0_t6
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2329 : BitVec 32 := 0#32
  ![1, 0, v3851.toNat, 0]
def k0_off121 (k0_t6 : Fin k0_t6_loop.trips) : Fin 4 → Nat :=
  let c1_i32_2331 : BitVec 32 := 1#32
  let c1_i32_2332 : BitVec 32 := 1#32
  let c0_i32_1718 : BitVec 32 := 0#32
  let c1_i32_1720 : BitVec 32 := 1#32
  let arg19 : BitVec 32 := Scf.iv c0_i32_1718 c1_i32_1720 k0_t6
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2333 : BitVec 32 := 0#32
  ![1, 1, v3851.toNat, 0]
def k0_off122 (k0_t6 : Fin k0_t6_loop.trips) : Fin 4 → Nat :=
  let c1_i32_2391 : BitVec 32 := 1#32
  let c2_i32_2392 : BitVec 32 := 2#32
  let c0_i32_1718 : BitVec 32 := 0#32
  let c1_i32_1720 : BitVec 32 := 1#32
  let arg19 : BitVec 32 := Scf.iv c0_i32_1718 c1_i32_1720 k0_t6
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2393 : BitVec 32 := 0#32
  ![1, 2, v3851.toNat, 0]
def k0_off123 (k0_t6 : Fin k0_t6_loop.trips) : Fin 4 → Nat :=
  let c1_i32_2415 : BitVec 32 := 1#32
  let c2_i32_2416 : BitVec 32 := 2#32
  let c0_i32_1718 : BitVec 32 := 0#32
  let c1_i32_1720 : BitVec 32 := 1#32
  let arg19 : BitVec 32 := Scf.iv c0_i32_1718 c1_i32_1720 k0_t6
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2417 : BitVec 32 := 0#32
  ![1, 2, v3851.toNat, 0]
def k0_off124 (k0_t6 : Fin k0_t6_loop.trips) : Fin 4 → Nat :=
  let c1_i32_2419 : BitVec 32 := 1#32
  let c3_i32_2420 : BitVec 32 := 3#32
  let c0_i32_1718 : BitVec 32 := 0#32
  let c1_i32_1720 : BitVec 32 := 1#32
  let arg19 : BitVec 32 := Scf.iv c0_i32_1718 c1_i32_1720 k0_t6
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2421 : BitVec 32 := 0#32
  ![1, 3, v3851.toNat, 0]
def k0_off125 (k0_t6 : Fin k0_t6_loop.trips) : Fin 4 → Nat :=
  let c1_i32_2447 : BitVec 32 := 1#32
  let c4_i32_2448 : BitVec 32 := 4#32
  let c0_i32_1718 : BitVec 32 := 0#32
  let c1_i32_1720 : BitVec 32 := 1#32
  let arg19 : BitVec 32 := Scf.iv c0_i32_1718 c1_i32_1720 k0_t6
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2449 : BitVec 32 := 0#32
  ![1, 4, v3851.toNat, 0]
def k0_off126 (k0_t6 : Fin k0_t6_loop.trips) : Fin 4 → Nat :=
  let c1_i32_2479 : BitVec 32 := 1#32
  let c5_i32_2480 : BitVec 32 := 5#32
  let c0_i32_1718 : BitVec 32 := 0#32
  let c1_i32_1720 : BitVec 32 := 1#32
  let arg19 : BitVec 32 := Scf.iv c0_i32_1718 c1_i32_1720 k0_t6
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2481 : BitVec 32 := 0#32
  ![1, 5, v3851.toNat, 0]
def k0_off127 (k0_t6 : Fin k0_t6_loop.trips) : Fin 4 → Nat :=
  let c1_i32_2507 : BitVec 32 := 1#32
  let c6_i32_2508 : BitVec 32 := 6#32
  let c0_i32_1718 : BitVec 32 := 0#32
  let c1_i32_1720 : BitVec 32 := 1#32
  let arg19 : BitVec 32 := Scf.iv c0_i32_1718 c1_i32_1720 k0_t6
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2509 : BitVec 32 := 0#32
  ![1, 6, v3851.toNat, 0]

def k0_chk332 (v179 : IVec S16 32) (v207 : IVec S16 32) (v259 : IVec S16 32) (v287 : IVec S16 32) (v2731 : IVec S16 32) (v2734 : IVec S16 32) (v2735 : IVec S16 32) (v2737 : IVec S16 32) (v2738 : IVec S16 32) (v3853 : IVec S16 32) : Prop :=
  (∀ a x, ((![v2731, v2734, v3853, v179] : Fin 4 → IVec S16 32) a x).toNat < S2x7x64x128.size a) ∧
  (∀ a x, ((![v2731, v2735, v3853, v207] : Fin 4 → IVec S16 32) a x).toNat < S2x7x64x128.size a) ∧
  (∀ a x, ((![v2731, v2737, v3853, v259] : Fin 4 → IVec S16 32) a x).toNat < S2x7x64x128.size a) ∧
  (∀ a x, ((![v2731, v2738, v3853, v287] : Fin 4 → IVec S16 32) a x).toNat < S2x7x64x128.size a)
theorem k0_idx365_inb : ∀ (v179 : IVec S16 32) (v207 : IVec S16 32) (v259 : IVec S16 32) (v287 : IVec S16 32) (v2731 : IVec S16 32) (v2734 : IVec S16 32) (v2735 : IVec S16 32) (v2737 : IVec S16 32) (v2738 : IVec S16 32) (v3853 : IVec S16 32) (k0_hw332 : k0_chk332 v179 v207 v259 v287 v2731 v2734 v2735 v2737 v2738 v3853), ∀ a x, ((![v2731, v2734, v3853, v179] : Fin 4 → IVec S16 32) a x).toNat < S2x7x64x128.size a := fun v179 v207 v259 v287 v2731 v2734 v2735 v2737 v2738 v3853 k0_hw332 => k0_hw332.1
theorem k0_idx366_inb : ∀ (v179 : IVec S16 32) (v207 : IVec S16 32) (v259 : IVec S16 32) (v287 : IVec S16 32) (v2731 : IVec S16 32) (v2734 : IVec S16 32) (v2735 : IVec S16 32) (v2737 : IVec S16 32) (v2738 : IVec S16 32) (v3853 : IVec S16 32) (k0_hw332 : k0_chk332 v179 v207 v259 v287 v2731 v2734 v2735 v2737 v2738 v3853), ∀ a x, ((![v2731, v2735, v3853, v207] : Fin 4 → IVec S16 32) a x).toNat < S2x7x64x128.size a := fun v179 v207 v259 v287 v2731 v2734 v2735 v2737 v2738 v3853 k0_hw332 => k0_hw332.2.1
theorem k0_idx367_inb : ∀ (v179 : IVec S16 32) (v207 : IVec S16 32) (v259 : IVec S16 32) (v287 : IVec S16 32) (v2731 : IVec S16 32) (v2734 : IVec S16 32) (v2735 : IVec S16 32) (v2737 : IVec S16 32) (v2738 : IVec S16 32) (v3853 : IVec S16 32) (k0_hw332 : k0_chk332 v179 v207 v259 v287 v2731 v2734 v2735 v2737 v2738 v3853), ∀ a x, ((![v2731, v2737, v3853, v259] : Fin 4 → IVec S16 32) a x).toNat < S2x7x64x128.size a := fun v179 v207 v259 v287 v2731 v2734 v2735 v2737 v2738 v3853 k0_hw332 => k0_hw332.2.2.1
theorem k0_idx368_inb : ∀ (v179 : IVec S16 32) (v207 : IVec S16 32) (v259 : IVec S16 32) (v287 : IVec S16 32) (v2731 : IVec S16 32) (v2734 : IVec S16 32) (v2735 : IVec S16 32) (v2737 : IVec S16 32) (v2738 : IVec S16 32) (v3853 : IVec S16 32) (k0_hw332 : k0_chk332 v179 v207 v259 v287 v2731 v2734 v2735 v2737 v2738 v3853), ∀ a x, ((![v2731, v2738, v3853, v287] : Fin 4 → IVec S16 32) a x).toNat < S2x7x64x128.size a := fun v179 v207 v259 v287 v2731 v2734 v2735 v2737 v2738 v3853 k0_hw332 => k0_hw332.2.2.2
def k0_off128 (k0_t6 : Fin k0_t6_loop.trips) : Fin 1 → Nat :=
  let c0_i32_1718 : BitVec 32 := 0#32
  let c1_i32_1720 : BitVec 32 := 1#32
  let arg19 : BitVec 32 := Scf.iv c0_i32_1718 c1_i32_1720 k0_t6
  let c2_i32_2129 : BitVec 32 := 2#32
  let v3631 : BitVec 32 := Scalar.muli arg19 c2_i32_2129
  let c1_i32_2325 : BitVec 32 := 1#32
  let v3851 : BitVec 32 := Scalar.addi v3631 c1_i32_2325
  let c17_i32_2535 : BitVec 32 := 17#32
  let v4069 : BitVec 32 := Scalar.muli v3851 c17_i32_2535
  let v4070 : Index := Scalar.indexCast v4069
  ![v4070.toNat]

def k0_chk333 (v2741 : IVec S16 32) : Prop :=
  (∀ a x, ((![v2741] : Fin 1 → IVec S16 32) a x).toNat < S1088.size a)
theorem k0_idx369_inb : ∀ (v2741 : IVec S16 32) (k0_hw333 : k0_chk333 v2741), ∀ a x, ((![v2741] : Fin 1 → IVec S16 32) a x).toNat < S1088.size a := fun v2741 k0_hw333 => k0_hw333

def k0_chk334 (v2744 : IVec S16 32) : Prop :=
  (∀ a x, ((![v2744] : Fin 1 → IVec S16 32) a x).toNat < S1088.size a)
theorem k0_idx370_inb : ∀ (v2744 : IVec S16 32) (k0_hw334 : k0_chk334 v2744), ∀ a x, ((![v2744] : Fin 1 → IVec S16 32) a x).toNat < S1088.size a := fun v2744 k0_hw334 => k0_hw334

def k0_chk335 (v2748 : IVec S16 32) : Prop :=
  (∀ a x, ((![v2748] : Fin 1 → IVec S16 32) a x).toNat < S1088.size a)
theorem k0_idx371_inb : ∀ (v2748 : IVec S16 32) (k0_hw335 : k0_chk335 v2748), ∀ a x, ((![v2748] : Fin 1 → IVec S16 32) a x).toNat < S1088.size a := fun v2748 k0_hw335 => k0_hw335

def k0_chk336 (v2752 : IVec S16 32) : Prop :=
  (∀ a x, ((![v2752] : Fin 1 → IVec S16 32) a x).toNat < S1088.size a)
theorem k0_idx372_inb : ∀ (v2752 : IVec S16 32) (k0_hw336 : k0_chk336 v2752), ∀ a x, ((![v2752] : Fin 1 → IVec S16 32) a x).toNat < S1088.size a := fun v2752 k0_hw336 => k0_hw336

def k0_chk337 (v2756 : IVec S16 32) : Prop :=
  (∀ a x, ((![v2756] : Fin 1 → IVec S16 32) a x).toNat < S1088.size a)
theorem k0_idx373_inb : ∀ (v2756 : IVec S16 32) (k0_hw337 : k0_chk337 v2756), ∀ a x, ((![v2756] : Fin 1 → IVec S16 32) a x).toNat < S1088.size a := fun v2756 k0_hw337 => k0_hw337

def k0_chk338 (v2760 : IVec S16 32) : Prop :=
  (∀ a x, ((![v2760] : Fin 1 → IVec S16 32) a x).toNat < S1088.size a)
theorem k0_idx374_inb : ∀ (v2760 : IVec S16 32) (k0_hw338 : k0_chk338 v2760), ∀ a x, ((![v2760] : Fin 1 → IVec S16 32) a x).toNat < S1088.size a := fun v2760 k0_hw338 => k0_hw338

def k0_chk339 (v2764 : IVec S16 32) : Prop :=
  (∀ a x, ((![v2764] : Fin 1 → IVec S16 32) a x).toNat < S1088.size a)
theorem k0_idx375_inb : ∀ (v2764 : IVec S16 32) (k0_hw339 : k0_chk339 v2764), ∀ a x, ((![v2764] : Fin 1 → IVec S16 32) a x).toNat < S1088.size a := fun v2764 k0_hw339 => k0_hw339

def k0_chk340 (v2768 : IVec S16 32) : Prop :=
  (∀ a x, ((![v2768] : Fin 1 → IVec S16 32) a x).toNat < S1088.size a)
theorem k0_idx376_inb : ∀ (v2768 : IVec S16 32) (k0_hw340 : k0_chk340 v2768), ∀ a x, ((![v2768] : Fin 1 → IVec S16 32) a x).toNat < S1088.size a := fun v2768 k0_hw340 => k0_hw340

def k0_chk341 (v2772 : IVec S16 32) : Prop :=
  (∀ a x, ((![v2772] : Fin 1 → IVec S16 32) a x).toNat < S1088.size a)
theorem k0_idx377_inb : ∀ (v2772 : IVec S16 32) (k0_hw341 : k0_chk341 v2772), ∀ a x, ((![v2772] : Fin 1 → IVec S16 32) a x).toNat < S1088.size a := fun v2772 k0_hw341 => k0_hw341

def k0_chk342 (v2776 : IVec S16 32) : Prop :=
  (∀ a x, ((![v2776] : Fin 1 → IVec S16 32) a x).toNat < S1088.size a)
theorem k0_idx378_inb : ∀ (v2776 : IVec S16 32) (k0_hw342 : k0_chk342 v2776), ∀ a x, ((![v2776] : Fin 1 → IVec S16 32) a x).toNat < S1088.size a := fun v2776 k0_hw342 => k0_hw342

def k0_chk343 (v2780 : IVec S16 32) : Prop :=
  (∀ a x, ((![v2780] : Fin 1 → IVec S16 32) a x).toNat < S1088.size a)
theorem k0_idx379_inb : ∀ (v2780 : IVec S16 32) (k0_hw343 : k0_chk343 v2780), ∀ a x, ((![v2780] : Fin 1 → IVec S16 32) a x).toNat < S1088.size a := fun v2780 k0_hw343 => k0_hw343

def k0_chk344 (v2784 : IVec S16 32) : Prop :=
  (∀ a x, ((![v2784] : Fin 1 → IVec S16 32) a x).toNat < S1088.size a)
theorem k0_idx380_inb : ∀ (v2784 : IVec S16 32) (k0_hw344 : k0_chk344 v2784), ∀ a x, ((![v2784] : Fin 1 → IVec S16 32) a x).toNat < S1088.size a := fun v2784 k0_hw344 => k0_hw344

def k0_chk345 (v2788 : IVec S16 32) : Prop :=
  (∀ a x, ((![v2788] : Fin 1 → IVec S16 32) a x).toNat < S1088.size a)
theorem k0_idx381_inb : ∀ (v2788 : IVec S16 32) (k0_hw345 : k0_chk345 v2788), ∀ a x, ((![v2788] : Fin 1 → IVec S16 32) a x).toNat < S1088.size a := fun v2788 k0_hw345 => k0_hw345

def k0_chk346 (v2792 : IVec S16 32) : Prop :=
  (∀ a x, ((![v2792] : Fin 1 → IVec S16 32) a x).toNat < S1088.size a)
theorem k0_idx382_inb : ∀ (v2792 : IVec S16 32) (k0_hw346 : k0_chk346 v2792), ∀ a x, ((![v2792] : Fin 1 → IVec S16 32) a x).toNat < S1088.size a := fun v2792 k0_hw346 => k0_hw346

def k0_chk347 (v2796 : IVec S16 32) : Prop :=
  (∀ a x, ((![v2796] : Fin 1 → IVec S16 32) a x).toNat < S1088.size a)
theorem k0_idx383_inb : ∀ (v2796 : IVec S16 32) (k0_hw347 : k0_chk347 v2796), ∀ a x, ((![v2796] : Fin 1 → IVec S16 32) a x).toNat < S1088.size a := fun v2796 k0_hw347 => k0_hw347

def k0_chk348 (v2800 : IVec S16 32) : Prop :=
  (∀ a x, ((![v2800] : Fin 1 → IVec S16 32) a x).toNat < S1088.size a)
theorem k0_idx384_inb : ∀ (v2800 : IVec S16 32) (k0_hw348 : k0_chk348 v2800), ∀ a x, ((![v2800] : Fin 1 → IVec S16 32) a x).toNat < S1088.size a := fun v2800 k0_hw348 => k0_hw348

def k0_chk349 (v2805 : IVec S16 32) : Prop :=
  (∀ a x, ((![v2805] : Fin 1 → IVec S16 32) a x).toNat < S1088.size a)
theorem k0_idx385_inb : ∀ (v2805 : IVec S16 32) (k0_hw349 : k0_chk349 v2805), ∀ a x, ((![v2805] : Fin 1 → IVec S16 32) a x).toNat < S1088.size a := fun v2805 k0_hw349 => k0_hw349

def k0_chk350 (v2808 : IVec S16 32) : Prop :=
  (∀ a x, ((![v2808] : Fin 1 → IVec S16 32) a x).toNat < S1088.size a)
theorem k0_idx386_inb : ∀ (v2808 : IVec S16 32) (k0_hw350 : k0_chk350 v2808), ∀ a x, ((![v2808] : Fin 1 → IVec S16 32) a x).toNat < S1088.size a := fun v2808 k0_hw350 => k0_hw350

def k0_chk351 (v2812 : IVec S16 32) : Prop :=
  (∀ a x, ((![v2812] : Fin 1 → IVec S16 32) a x).toNat < S1088.size a)
theorem k0_idx387_inb : ∀ (v2812 : IVec S16 32) (k0_hw351 : k0_chk351 v2812), ∀ a x, ((![v2812] : Fin 1 → IVec S16 32) a x).toNat < S1088.size a := fun v2812 k0_hw351 => k0_hw351

def k0_chk352 (v2816 : IVec S16 32) : Prop :=
  (∀ a x, ((![v2816] : Fin 1 → IVec S16 32) a x).toNat < S1088.size a)
theorem k0_idx388_inb : ∀ (v2816 : IVec S16 32) (k0_hw352 : k0_chk352 v2816), ∀ a x, ((![v2816] : Fin 1 → IVec S16 32) a x).toNat < S1088.size a := fun v2816 k0_hw352 => k0_hw352

def k0_chk353 (v2820 : IVec S16 32) : Prop :=
  (∀ a x, ((![v2820] : Fin 1 → IVec S16 32) a x).toNat < S1088.size a)
theorem k0_idx389_inb : ∀ (v2820 : IVec S16 32) (k0_hw353 : k0_chk353 v2820), ∀ a x, ((![v2820] : Fin 1 → IVec S16 32) a x).toNat < S1088.size a := fun v2820 k0_hw353 => k0_hw353

def k0_chk354 (v2824 : IVec S16 32) : Prop :=
  (∀ a x, ((![v2824] : Fin 1 → IVec S16 32) a x).toNat < S1088.size a)
theorem k0_idx390_inb : ∀ (v2824 : IVec S16 32) (k0_hw354 : k0_chk354 v2824), ∀ a x, ((![v2824] : Fin 1 → IVec S16 32) a x).toNat < S1088.size a := fun v2824 k0_hw354 => k0_hw354

def k0_chk355 (v2828 : IVec S16 32) : Prop :=
  (∀ a x, ((![v2828] : Fin 1 → IVec S16 32) a x).toNat < S1088.size a)
theorem k0_idx391_inb : ∀ (v2828 : IVec S16 32) (k0_hw355 : k0_chk355 v2828), ∀ a x, ((![v2828] : Fin 1 → IVec S16 32) a x).toNat < S1088.size a := fun v2828 k0_hw355 => k0_hw355

def k0_chk356 (v2832 : IVec S16 32) : Prop :=
  (∀ a x, ((![v2832] : Fin 1 → IVec S16 32) a x).toNat < S1088.size a)
theorem k0_idx392_inb : ∀ (v2832 : IVec S16 32) (k0_hw356 : k0_chk356 v2832), ∀ a x, ((![v2832] : Fin 1 → IVec S16 32) a x).toNat < S1088.size a := fun v2832 k0_hw356 => k0_hw356

def k0_chk357 (v2836 : IVec S16 32) : Prop :=
  (∀ a x, ((![v2836] : Fin 1 → IVec S16 32) a x).toNat < S1088.size a)
theorem k0_idx393_inb : ∀ (v2836 : IVec S16 32) (k0_hw357 : k0_chk357 v2836), ∀ a x, ((![v2836] : Fin 1 → IVec S16 32) a x).toNat < S1088.size a := fun v2836 k0_hw357 => k0_hw357

def k0_chk358 (v2840 : IVec S16 32) : Prop :=
  (∀ a x, ((![v2840] : Fin 1 → IVec S16 32) a x).toNat < S1088.size a)
theorem k0_idx394_inb : ∀ (v2840 : IVec S16 32) (k0_hw358 : k0_chk358 v2840), ∀ a x, ((![v2840] : Fin 1 → IVec S16 32) a x).toNat < S1088.size a := fun v2840 k0_hw358 => k0_hw358

def k0_chk359 (v2844 : IVec S16 32) : Prop :=
  (∀ a x, ((![v2844] : Fin 1 → IVec S16 32) a x).toNat < S1088.size a)
theorem k0_idx395_inb : ∀ (v2844 : IVec S16 32) (k0_hw359 : k0_chk359 v2844), ∀ a x, ((![v2844] : Fin 1 → IVec S16 32) a x).toNat < S1088.size a := fun v2844 k0_hw359 => k0_hw359

def k0_chk360 (v2848 : IVec S16 32) : Prop :=
  (∀ a x, ((![v2848] : Fin 1 → IVec S16 32) a x).toNat < S1088.size a)
theorem k0_idx396_inb : ∀ (v2848 : IVec S16 32) (k0_hw360 : k0_chk360 v2848), ∀ a x, ((![v2848] : Fin 1 → IVec S16 32) a x).toNat < S1088.size a := fun v2848 k0_hw360 => k0_hw360

def k0_chk361 (v2852 : IVec S16 32) : Prop :=
  (∀ a x, ((![v2852] : Fin 1 → IVec S16 32) a x).toNat < S1088.size a)
theorem k0_idx397_inb : ∀ (v2852 : IVec S16 32) (k0_hw361 : k0_chk361 v2852), ∀ a x, ((![v2852] : Fin 1 → IVec S16 32) a x).toNat < S1088.size a := fun v2852 k0_hw361 => k0_hw361

def k0_chk362 (v2856 : IVec S16 32) : Prop :=
  (∀ a x, ((![v2856] : Fin 1 → IVec S16 32) a x).toNat < S1088.size a)
theorem k0_idx398_inb : ∀ (v2856 : IVec S16 32) (k0_hw362 : k0_chk362 v2856), ∀ a x, ((![v2856] : Fin 1 → IVec S16 32) a x).toNat < S1088.size a := fun v2856 k0_hw362 => k0_hw362

def k0_chk363 (v2860 : IVec S16 32) : Prop :=
  (∀ a x, ((![v2860] : Fin 1 → IVec S16 32) a x).toNat < S1088.size a)
theorem k0_idx399_inb : ∀ (v2860 : IVec S16 32) (k0_hw363 : k0_chk363 v2860), ∀ a x, ((![v2860] : Fin 1 → IVec S16 32) a x).toNat < S1088.size a := fun v2860 k0_hw363 => k0_hw363

def k0_chk364 (v2864 : IVec S16 32) : Prop :=
  (∀ a x, ((![v2864] : Fin 1 → IVec S16 32) a x).toNat < S1088.size a)
theorem k0_idx400_inb : ∀ (v2864 : IVec S16 32) (k0_hw364 : k0_chk364 v2864), ∀ a x, ((![v2864] : Fin 1 → IVec S16 32) a x).toNat < S1088.size a := fun v2864 k0_hw364 => k0_hw364

def k0_chk365 (v2869 : IVec S16 32) : Prop :=
  (∀ a x, ((![v2869] : Fin 1 → IVec S16 32) a x).toNat < S1088.size a)
theorem k0_idx401_inb : ∀ (v2869 : IVec S16 32) (k0_hw365 : k0_chk365 v2869), ∀ a x, ((![v2869] : Fin 1 → IVec S16 32) a x).toNat < S1088.size a := fun v2869 k0_hw365 => k0_hw365

def k0_chk366 (v2872 : IVec S16 32) : Prop :=
  (∀ a x, ((![v2872] : Fin 1 → IVec S16 32) a x).toNat < S1088.size a)
theorem k0_idx402_inb : ∀ (v2872 : IVec S16 32) (k0_hw366 : k0_chk366 v2872), ∀ a x, ((![v2872] : Fin 1 → IVec S16 32) a x).toNat < S1088.size a := fun v2872 k0_hw366 => k0_hw366

def k0_chk367 (v2876 : IVec S16 32) : Prop :=
  (∀ a x, ((![v2876] : Fin 1 → IVec S16 32) a x).toNat < S1088.size a)
theorem k0_idx403_inb : ∀ (v2876 : IVec S16 32) (k0_hw367 : k0_chk367 v2876), ∀ a x, ((![v2876] : Fin 1 → IVec S16 32) a x).toNat < S1088.size a := fun v2876 k0_hw367 => k0_hw367

def k0_chk368 (v2880 : IVec S16 32) : Prop :=
  (∀ a x, ((![v2880] : Fin 1 → IVec S16 32) a x).toNat < S1088.size a)
theorem k0_idx404_inb : ∀ (v2880 : IVec S16 32) (k0_hw368 : k0_chk368 v2880), ∀ a x, ((![v2880] : Fin 1 → IVec S16 32) a x).toNat < S1088.size a := fun v2880 k0_hw368 => k0_hw368

def k0_chk369 (v2884 : IVec S16 32) : Prop :=
  (∀ a x, ((![v2884] : Fin 1 → IVec S16 32) a x).toNat < S1088.size a)
theorem k0_idx405_inb : ∀ (v2884 : IVec S16 32) (k0_hw369 : k0_chk369 v2884), ∀ a x, ((![v2884] : Fin 1 → IVec S16 32) a x).toNat < S1088.size a := fun v2884 k0_hw369 => k0_hw369

def k0_chk370 (v2888 : IVec S16 32) : Prop :=
  (∀ a x, ((![v2888] : Fin 1 → IVec S16 32) a x).toNat < S1088.size a)
theorem k0_idx406_inb : ∀ (v2888 : IVec S16 32) (k0_hw370 : k0_chk370 v2888), ∀ a x, ((![v2888] : Fin 1 → IVec S16 32) a x).toNat < S1088.size a := fun v2888 k0_hw370 => k0_hw370

def k0_chk371 (v2892 : IVec S16 32) : Prop :=
  (∀ a x, ((![v2892] : Fin 1 → IVec S16 32) a x).toNat < S1088.size a)
theorem k0_idx407_inb : ∀ (v2892 : IVec S16 32) (k0_hw371 : k0_chk371 v2892), ∀ a x, ((![v2892] : Fin 1 → IVec S16 32) a x).toNat < S1088.size a := fun v2892 k0_hw371 => k0_hw371

def k0_chk372 (v2896 : IVec S16 32) : Prop :=
  (∀ a x, ((![v2896] : Fin 1 → IVec S16 32) a x).toNat < S1088.size a)
theorem k0_idx408_inb : ∀ (v2896 : IVec S16 32) (k0_hw372 : k0_chk372 v2896), ∀ a x, ((![v2896] : Fin 1 → IVec S16 32) a x).toNat < S1088.size a := fun v2896 k0_hw372 => k0_hw372

def k0_chk373 (v2900 : IVec S16 32) : Prop :=
  (∀ a x, ((![v2900] : Fin 1 → IVec S16 32) a x).toNat < S1088.size a)
theorem k0_idx409_inb : ∀ (v2900 : IVec S16 32) (k0_hw373 : k0_chk373 v2900), ∀ a x, ((![v2900] : Fin 1 → IVec S16 32) a x).toNat < S1088.size a := fun v2900 k0_hw373 => k0_hw373

def k0_chk374 (v2904 : IVec S16 32) : Prop :=
  (∀ a x, ((![v2904] : Fin 1 → IVec S16 32) a x).toNat < S1088.size a)
theorem k0_idx410_inb : ∀ (v2904 : IVec S16 32) (k0_hw374 : k0_chk374 v2904), ∀ a x, ((![v2904] : Fin 1 → IVec S16 32) a x).toNat < S1088.size a := fun v2904 k0_hw374 => k0_hw374

def k0_chk375 (v2908 : IVec S16 32) : Prop :=
  (∀ a x, ((![v2908] : Fin 1 → IVec S16 32) a x).toNat < S1088.size a)
theorem k0_idx411_inb : ∀ (v2908 : IVec S16 32) (k0_hw375 : k0_chk375 v2908), ∀ a x, ((![v2908] : Fin 1 → IVec S16 32) a x).toNat < S1088.size a := fun v2908 k0_hw375 => k0_hw375

def k0_chk376 (v2912 : IVec S16 32) : Prop :=
  (∀ a x, ((![v2912] : Fin 1 → IVec S16 32) a x).toNat < S1088.size a)
theorem k0_idx412_inb : ∀ (v2912 : IVec S16 32) (k0_hw376 : k0_chk376 v2912), ∀ a x, ((![v2912] : Fin 1 → IVec S16 32) a x).toNat < S1088.size a := fun v2912 k0_hw376 => k0_hw376

def k0_chk377 (v2916 : IVec S16 32) : Prop :=
  (∀ a x, ((![v2916] : Fin 1 → IVec S16 32) a x).toNat < S1088.size a)
theorem k0_idx413_inb : ∀ (v2916 : IVec S16 32) (k0_hw377 : k0_chk377 v2916), ∀ a x, ((![v2916] : Fin 1 → IVec S16 32) a x).toNat < S1088.size a := fun v2916 k0_hw377 => k0_hw377

def k0_chk378 (v2920 : IVec S16 32) : Prop :=
  (∀ a x, ((![v2920] : Fin 1 → IVec S16 32) a x).toNat < S1088.size a)
theorem k0_idx414_inb : ∀ (v2920 : IVec S16 32) (k0_hw378 : k0_chk378 v2920), ∀ a x, ((![v2920] : Fin 1 → IVec S16 32) a x).toNat < S1088.size a := fun v2920 k0_hw378 => k0_hw378

def k0_chk379 (v2924 : IVec S16 32) : Prop :=
  (∀ a x, ((![v2924] : Fin 1 → IVec S16 32) a x).toNat < S1088.size a)
theorem k0_idx415_inb : ∀ (v2924 : IVec S16 32) (k0_hw379 : k0_chk379 v2924), ∀ a x, ((![v2924] : Fin 1 → IVec S16 32) a x).toNat < S1088.size a := fun v2924 k0_hw379 => k0_hw379

def k0_chk380 (v2928 : IVec S16 32) : Prop :=
  (∀ a x, ((![v2928] : Fin 1 → IVec S16 32) a x).toNat < S1088.size a)
theorem k0_idx416_inb : ∀ (v2928 : IVec S16 32) (k0_hw380 : k0_chk380 v2928), ∀ a x, ((![v2928] : Fin 1 → IVec S16 32) a x).toNat < S1088.size a := fun v2928 k0_hw380 => k0_hw380

def k0_chk381 (v2933 : IVec S16 32) : Prop :=
  (∀ a x, ((![v2933] : Fin 1 → IVec S16 32) a x).toNat < S1088.size a)
theorem k0_idx417_inb : ∀ (v2933 : IVec S16 32) (k0_hw381 : k0_chk381 v2933), ∀ a x, ((![v2933] : Fin 1 → IVec S16 32) a x).toNat < S1088.size a := fun v2933 k0_hw381 => k0_hw381

def k0_chk382 (v2936 : IVec S16 32) : Prop :=
  (∀ a x, ((![v2936] : Fin 1 → IVec S16 32) a x).toNat < S1088.size a)
theorem k0_idx418_inb : ∀ (v2936 : IVec S16 32) (k0_hw382 : k0_chk382 v2936), ∀ a x, ((![v2936] : Fin 1 → IVec S16 32) a x).toNat < S1088.size a := fun v2936 k0_hw382 => k0_hw382

def k0_chk383 (v2940 : IVec S16 32) : Prop :=
  (∀ a x, ((![v2940] : Fin 1 → IVec S16 32) a x).toNat < S1088.size a)
theorem k0_idx419_inb : ∀ (v2940 : IVec S16 32) (k0_hw383 : k0_chk383 v2940), ∀ a x, ((![v2940] : Fin 1 → IVec S16 32) a x).toNat < S1088.size a := fun v2940 k0_hw383 => k0_hw383

def k0_chk384 (v2944 : IVec S16 32) : Prop :=
  (∀ a x, ((![v2944] : Fin 1 → IVec S16 32) a x).toNat < S1088.size a)
theorem k0_idx420_inb : ∀ (v2944 : IVec S16 32) (k0_hw384 : k0_chk384 v2944), ∀ a x, ((![v2944] : Fin 1 → IVec S16 32) a x).toNat < S1088.size a := fun v2944 k0_hw384 => k0_hw384

def k0_chk385 (v2948 : IVec S16 32) : Prop :=
  (∀ a x, ((![v2948] : Fin 1 → IVec S16 32) a x).toNat < S1088.size a)
theorem k0_idx421_inb : ∀ (v2948 : IVec S16 32) (k0_hw385 : k0_chk385 v2948), ∀ a x, ((![v2948] : Fin 1 → IVec S16 32) a x).toNat < S1088.size a := fun v2948 k0_hw385 => k0_hw385

def k0_chk386 (v2952 : IVec S16 32) : Prop :=
  (∀ a x, ((![v2952] : Fin 1 → IVec S16 32) a x).toNat < S1088.size a)
theorem k0_idx422_inb : ∀ (v2952 : IVec S16 32) (k0_hw386 : k0_chk386 v2952), ∀ a x, ((![v2952] : Fin 1 → IVec S16 32) a x).toNat < S1088.size a := fun v2952 k0_hw386 => k0_hw386

def k0_chk387 (v2956 : IVec S16 32) : Prop :=
  (∀ a x, ((![v2956] : Fin 1 → IVec S16 32) a x).toNat < S1088.size a)
theorem k0_idx423_inb : ∀ (v2956 : IVec S16 32) (k0_hw387 : k0_chk387 v2956), ∀ a x, ((![v2956] : Fin 1 → IVec S16 32) a x).toNat < S1088.size a := fun v2956 k0_hw387 => k0_hw387

def k0_chk388 (v2960 : IVec S16 32) : Prop :=
  (∀ a x, ((![v2960] : Fin 1 → IVec S16 32) a x).toNat < S1088.size a)
theorem k0_idx424_inb : ∀ (v2960 : IVec S16 32) (k0_hw388 : k0_chk388 v2960), ∀ a x, ((![v2960] : Fin 1 → IVec S16 32) a x).toNat < S1088.size a := fun v2960 k0_hw388 => k0_hw388

def k0_chk389 (v2964 : IVec S16 32) : Prop :=
  (∀ a x, ((![v2964] : Fin 1 → IVec S16 32) a x).toNat < S1088.size a)
theorem k0_idx425_inb : ∀ (v2964 : IVec S16 32) (k0_hw389 : k0_chk389 v2964), ∀ a x, ((![v2964] : Fin 1 → IVec S16 32) a x).toNat < S1088.size a := fun v2964 k0_hw389 => k0_hw389

def k0_chk390 (v2968 : IVec S16 32) : Prop :=
  (∀ a x, ((![v2968] : Fin 1 → IVec S16 32) a x).toNat < S1088.size a)
theorem k0_idx426_inb : ∀ (v2968 : IVec S16 32) (k0_hw390 : k0_chk390 v2968), ∀ a x, ((![v2968] : Fin 1 → IVec S16 32) a x).toNat < S1088.size a := fun v2968 k0_hw390 => k0_hw390

def k0_chk391 (v2972 : IVec S16 32) : Prop :=
  (∀ a x, ((![v2972] : Fin 1 → IVec S16 32) a x).toNat < S1088.size a)
theorem k0_idx427_inb : ∀ (v2972 : IVec S16 32) (k0_hw391 : k0_chk391 v2972), ∀ a x, ((![v2972] : Fin 1 → IVec S16 32) a x).toNat < S1088.size a := fun v2972 k0_hw391 => k0_hw391

def k0_chk392 (v2976 : IVec S16 32) : Prop :=
  (∀ a x, ((![v2976] : Fin 1 → IVec S16 32) a x).toNat < S1088.size a)
theorem k0_idx428_inb : ∀ (v2976 : IVec S16 32) (k0_hw392 : k0_chk392 v2976), ∀ a x, ((![v2976] : Fin 1 → IVec S16 32) a x).toNat < S1088.size a := fun v2976 k0_hw392 => k0_hw392

def k0_chk393 (v2980 : IVec S16 32) : Prop :=
  (∀ a x, ((![v2980] : Fin 1 → IVec S16 32) a x).toNat < S1088.size a)
theorem k0_idx429_inb : ∀ (v2980 : IVec S16 32) (k0_hw393 : k0_chk393 v2980), ∀ a x, ((![v2980] : Fin 1 → IVec S16 32) a x).toNat < S1088.size a := fun v2980 k0_hw393 => k0_hw393

def k0_chk394 (v2984 : IVec S16 32) : Prop :=
  (∀ a x, ((![v2984] : Fin 1 → IVec S16 32) a x).toNat < S1088.size a)
theorem k0_idx430_inb : ∀ (v2984 : IVec S16 32) (k0_hw394 : k0_chk394 v2984), ∀ a x, ((![v2984] : Fin 1 → IVec S16 32) a x).toNat < S1088.size a := fun v2984 k0_hw394 => k0_hw394

def k0_chk395 (v2988 : IVec S16 32) : Prop :=
  (∀ a x, ((![v2988] : Fin 1 → IVec S16 32) a x).toNat < S1088.size a)
theorem k0_idx431_inb : ∀ (v2988 : IVec S16 32) (k0_hw395 : k0_chk395 v2988), ∀ a x, ((![v2988] : Fin 1 → IVec S16 32) a x).toNat < S1088.size a := fun v2988 k0_hw395 => k0_hw395

def k0_chk396 (v2992 : IVec S16 32) : Prop :=
  (∀ a x, ((![v2992] : Fin 1 → IVec S16 32) a x).toNat < S1088.size a)
theorem k0_idx432_inb : ∀ (v2992 : IVec S16 32) (k0_hw396 : k0_chk396 v2992), ∀ a x, ((![v2992] : Fin 1 → IVec S16 32) a x).toNat < S1088.size a := fun v2992 k0_hw396 => k0_hw396
@[reducible] def k0_t7_loop : Scf.Loop 32 :=
  let c0_i32_1921 : BitVec 32 := 0#32
  let c32_i32_1922 : BitVec 32 := 32#32
  let v3074 : BitVec 32 := Scalar.addi c0_i32_1921 c32_i32_1922
  let c1_i32_1923 : BitVec 32 := 1#32
  ⟨c0_i32_1921, v3074, c1_i32_1923⟩
def k0_off129 (k0_t7 : Fin k0_t7_loop.trips) : Fin 4 → Nat :=
  let c0_i32_2130 : BitVec 32 := 0#32
  let c0_i32_2131 : BitVec 32 := 0#32
  let c0_i32_1921 : BitVec 32 := 0#32
  let c1_i32_1923 : BitVec 32 := 1#32
  let arg19 : BitVec 32 := Scf.iv c0_i32_1921 c1_i32_1923 k0_t7
  let c2_i32_2129 : BitVec 32 := 2#32
  let v3631 : BitVec 32 := Scalar.muli arg19 c2_i32_2129
  let c0_i32_2132 : BitVec 32 := 0#32
  ![0, 0, v3631.toNat, 0]
def k0_off130 (k0_t7 : Fin k0_t7_loop.trips) : Fin 4 → Nat :=
  let c0_i32_2134 : BitVec 32 := 0#32
  let c1_i32_2135 : BitVec 32 := 1#32
  let c0_i32_1921 : BitVec 32 := 0#32
  let c1_i32_1923 : BitVec 32 := 1#32
  let arg19 : BitVec 32 := Scf.iv c0_i32_1921 c1_i32_1923 k0_t7
  let c2_i32_2129 : BitVec 32 := 2#32
  let v3631 : BitVec 32 := Scalar.muli arg19 c2_i32_2129
  let c0_i32_2136 : BitVec 32 := 0#32
  ![0, 1, v3631.toNat, 0]
def k0_off131 (k0_t7 : Fin k0_t7_loop.trips) : Fin 4 → Nat :=
  let c0_i32_2194 : BitVec 32 := 0#32
  let c2_i32_2195 : BitVec 32 := 2#32
  let c0_i32_1921 : BitVec 32 := 0#32
  let c1_i32_1923 : BitVec 32 := 1#32
  let arg19 : BitVec 32 := Scf.iv c0_i32_1921 c1_i32_1923 k0_t7
  let c2_i32_2129 : BitVec 32 := 2#32
  let v3631 : BitVec 32 := Scalar.muli arg19 c2_i32_2129
  let c0_i32_2196 : BitVec 32 := 0#32
  ![0, 2, v3631.toNat, 0]
def k0_off132 (k0_t7 : Fin k0_t7_loop.trips) : Fin 4 → Nat :=
  let c0_i32_2212 : BitVec 32 := 0#32
  let c2_i32_2213 : BitVec 32 := 2#32
  let c0_i32_1921 : BitVec 32 := 0#32
  let c1_i32_1923 : BitVec 32 := 1#32
  let arg19 : BitVec 32 := Scf.iv c0_i32_1921 c1_i32_1923 k0_t7
  let c2_i32_2129 : BitVec 32 := 2#32
  let v3631 : BitVec 32 := Scalar.muli arg19 c2_i32_2129
  let c0_i32_2214 : BitVec 32 := 0#32
  ![0, 2, v3631.toNat, 0]
def k0_off133 (k0_t7 : Fin k0_t7_loop.trips) : Fin 4 → Nat :=
  let c0_i32_2215 : BitVec 32 := 0#32
  let c3_i32_2216 : BitVec 32 := 3#32
  let c0_i32_1921 : BitVec 32 := 0#32
  let c1_i32_1923 : BitVec 32 := 1#32
  let arg19 : BitVec 32 := Scf.iv c0_i32_1921 c1_i32_1923 k0_t7
  let c2_i32_2129 : BitVec 32 := 2#32
  let v3631 : BitVec 32 := Scalar.muli arg19 c2_i32_2129
  let c0_i32_2217 : BitVec 32 := 0#32
  ![0, 3, v3631.toNat, 0]
def k0_off134 (k0_t7 : Fin k0_t7_loop.trips) : Fin 4 → Nat :=
  let c0_i32_2230 : BitVec 32 := 0#32
  let c3_i32_2231 : BitVec 32 := 3#32
  let c0_i32_1921 : BitVec 32 := 0#32
  let c1_i32_1923 : BitVec 32 := 1#32
  let arg19 : BitVec 32 := Scf.iv c0_i32_1921 c1_i32_1923 k0_t7
  let c2_i32_2129 : BitVec 32 := 2#32
  let v3631 : BitVec 32 := Scalar.muli arg19 c2_i32_2129
  let c0_i32_2232 : BitVec 32 := 0#32
  ![0, 3, v3631.toNat, 0]
def k0_off135 (k0_t7 : Fin k0_t7_loop.trips) : Fin 4 → Nat :=
  let c0_i32_2236 : BitVec 32 := 0#32
  let c4_i32_2237 : BitVec 32 := 4#32
  let c0_i32_1921 : BitVec 32 := 0#32
  let c1_i32_1923 : BitVec 32 := 1#32
  let arg19 : BitVec 32 := Scf.iv c0_i32_1921 c1_i32_1923 k0_t7
  let c2_i32_2129 : BitVec 32 := 2#32
  let v3631 : BitVec 32 := Scalar.muli arg19 c2_i32_2129
  let c0_i32_2238 : BitVec 32 := 0#32
  ![0, 4, v3631.toNat, 0]
def k0_off136 (k0_t7 : Fin k0_t7_loop.trips) : Fin 4 → Nat :=
  let c0_i32_2268 : BitVec 32 := 0#32
  let c5_i32_2269 : BitVec 32 := 5#32
  let c0_i32_1921 : BitVec 32 := 0#32
  let c1_i32_1923 : BitVec 32 := 1#32
  let arg19 : BitVec 32 := Scf.iv c0_i32_1921 c1_i32_1923 k0_t7
  let c2_i32_2129 : BitVec 32 := 2#32
  let v3631 : BitVec 32 := Scalar.muli arg19 c2_i32_2129
  let c0_i32_2270 : BitVec 32 := 0#32
  ![0, 5, v3631.toNat, 0]
def k0_off137 (k0_t7 : Fin k0_t7_loop.trips) : Fin 4 → Nat :=
  let c0_i32_2276 : BitVec 32 := 0#32
  let c5_i32_2277 : BitVec 32 := 5#32
  let c0_i32_1921 : BitVec 32 := 0#32
  let c1_i32_1923 : BitVec 32 := 1#32
  let arg19 : BitVec 32 := Scf.iv c0_i32_1921 c1_i32_1923 k0_t7
  let c2_i32_2129 : BitVec 32 := 2#32
  let v3631 : BitVec 32 := Scalar.muli arg19 c2_i32_2129
  let c0_i32_2278 : BitVec 32 := 0#32
  ![0, 5, v3631.toNat, 0]
def k0_off138 (k0_t7 : Fin k0_t7_loop.trips) : Fin 4 → Nat :=
  let c0_i32_2296 : BitVec 32 := 0#32
  let c6_i32_2297 : BitVec 32 := 6#32
  let c0_i32_1921 : BitVec 32 := 0#32
  let c1_i32_1923 : BitVec 32 := 1#32
  let arg19 : BitVec 32 := Scf.iv c0_i32_1921 c1_i32_1923 k0_t7
  let c2_i32_2129 : BitVec 32 := 2#32
  let v3631 : BitVec 32 := Scalar.muli arg19 c2_i32_2129
  let c0_i32_2298 : BitVec 32 := 0#32
  ![0, 6, v3631.toNat, 0]

def k0_chk397 (v179 : IVec S16 32) (v207 : IVec S16 32) (v259 : IVec S16 32) (v287 : IVec S16 32) (v3066 : IVec S16 32) (v3069 : IVec S16 32) (v3070 : IVec S16 32) (v3072 : IVec S16 32) (v3073 : IVec S16 32) (v3632 : IVec S16 32) : Prop :=
  (∀ a x, ((![v3066, v3069, v3632, v179] : Fin 4 → IVec S16 32) a x).toNat < S2x7x64x128.size a) ∧
  (∀ a x, ((![v3066, v3070, v3632, v207] : Fin 4 → IVec S16 32) a x).toNat < S2x7x64x128.size a) ∧
  (∀ a x, ((![v3066, v3072, v3632, v259] : Fin 4 → IVec S16 32) a x).toNat < S2x7x64x128.size a) ∧
  (∀ a x, ((![v3066, v3073, v3632, v287] : Fin 4 → IVec S16 32) a x).toNat < S2x7x64x128.size a)
theorem k0_idx433_inb : ∀ (v179 : IVec S16 32) (v207 : IVec S16 32) (v259 : IVec S16 32) (v287 : IVec S16 32) (v3066 : IVec S16 32) (v3069 : IVec S16 32) (v3070 : IVec S16 32) (v3072 : IVec S16 32) (v3073 : IVec S16 32) (v3632 : IVec S16 32) (k0_hw397 : k0_chk397 v179 v207 v259 v287 v3066 v3069 v3070 v3072 v3073 v3632), ∀ a x, ((![v3066, v3069, v3632, v179] : Fin 4 → IVec S16 32) a x).toNat < S2x7x64x128.size a := fun v179 v207 v259 v287 v3066 v3069 v3070 v3072 v3073 v3632 k0_hw397 => k0_hw397.1
theorem k0_idx434_inb : ∀ (v179 : IVec S16 32) (v207 : IVec S16 32) (v259 : IVec S16 32) (v287 : IVec S16 32) (v3066 : IVec S16 32) (v3069 : IVec S16 32) (v3070 : IVec S16 32) (v3072 : IVec S16 32) (v3073 : IVec S16 32) (v3632 : IVec S16 32) (k0_hw397 : k0_chk397 v179 v207 v259 v287 v3066 v3069 v3070 v3072 v3073 v3632), ∀ a x, ((![v3066, v3070, v3632, v207] : Fin 4 → IVec S16 32) a x).toNat < S2x7x64x128.size a := fun v179 v207 v259 v287 v3066 v3069 v3070 v3072 v3073 v3632 k0_hw397 => k0_hw397.2.1
theorem k0_idx435_inb : ∀ (v179 : IVec S16 32) (v207 : IVec S16 32) (v259 : IVec S16 32) (v287 : IVec S16 32) (v3066 : IVec S16 32) (v3069 : IVec S16 32) (v3070 : IVec S16 32) (v3072 : IVec S16 32) (v3073 : IVec S16 32) (v3632 : IVec S16 32) (k0_hw397 : k0_chk397 v179 v207 v259 v287 v3066 v3069 v3070 v3072 v3073 v3632), ∀ a x, ((![v3066, v3072, v3632, v259] : Fin 4 → IVec S16 32) a x).toNat < S2x7x64x128.size a := fun v179 v207 v259 v287 v3066 v3069 v3070 v3072 v3073 v3632 k0_hw397 => k0_hw397.2.2.1
theorem k0_idx436_inb : ∀ (v179 : IVec S16 32) (v207 : IVec S16 32) (v259 : IVec S16 32) (v287 : IVec S16 32) (v3066 : IVec S16 32) (v3069 : IVec S16 32) (v3070 : IVec S16 32) (v3072 : IVec S16 32) (v3073 : IVec S16 32) (v3632 : IVec S16 32) (k0_hw397 : k0_chk397 v179 v207 v259 v287 v3066 v3069 v3070 v3072 v3073 v3632), ∀ a x, ((![v3066, v3073, v3632, v287] : Fin 4 → IVec S16 32) a x).toNat < S2x7x64x128.size a := fun v179 v207 v259 v287 v3066 v3069 v3070 v3072 v3073 v3632 k0_hw397 => k0_hw397.2.2.2
def k0_off139 (k0_t7 : Fin k0_t7_loop.trips) : Fin 4 → Nat :=
  let c0_i32_2300 : BitVec 32 := 0#32
  let c6_i32_2301 : BitVec 32 := 6#32
  let c0_i32_1921 : BitVec 32 := 0#32
  let c1_i32_1923 : BitVec 32 := 1#32
  let arg19 : BitVec 32 := Scf.iv c0_i32_1921 c1_i32_1923 k0_t7
  let c2_i32_2129 : BitVec 32 := 2#32
  let v3631 : BitVec 32 := Scalar.muli arg19 c2_i32_2129
  let c0_i32_2302 : BitVec 32 := 0#32
  ![0, 6, v3631.toNat, 0]
def k0_off140 (k0_t7 : Fin k0_t7_loop.trips) : Fin 1 → Nat :=
  let c0_i32_1921 : BitVec 32 := 0#32
  let c1_i32_1923 : BitVec 32 := 1#32
  let arg19 : BitVec 32 := Scf.iv c0_i32_1921 c1_i32_1923 k0_t7
  let c2_i32_2129 : BitVec 32 := 2#32
  let v3631 : BitVec 32 := Scalar.muli arg19 c2_i32_2129
  let c17_i32_2324 : BitVec 32 := 17#32
  let v3848 : BitVec 32 := Scalar.muli v3631 c17_i32_2324
  let v3849 : Index := Scalar.indexCast v3848
  ![v3849.toNat]
def k0_off141 (k0_t7 : Fin k0_t7_loop.trips) : Fin 4 → Nat :=
  let c0_i32_2327 : BitVec 32 := 0#32
  let c0_i32_2328 : BitVec 32 := 0#32
  let c0_i32_1921 : BitVec 32 := 0#32
  let c1_i32_1923 : BitVec 32 := 1#32
  let arg19 : BitVec 32 := Scf.iv c0_i32_1921 c1_i32_1923 k0_t7
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2329 : BitVec 32 := 0#32
  ![0, 0, v3851.toNat, 0]
def k0_off142 (k0_t7 : Fin k0_t7_loop.trips) : Fin 4 → Nat :=
  let c0_i32_2331 : BitVec 32 := 0#32
  let c1_i32_2332 : BitVec 32 := 1#32
  let c0_i32_1921 : BitVec 32 := 0#32
  let c1_i32_1923 : BitVec 32 := 1#32
  let arg19 : BitVec 32 := Scf.iv c0_i32_1921 c1_i32_1923 k0_t7
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2333 : BitVec 32 := 0#32
  ![0, 1, v3851.toNat, 0]
def k0_off143 (k0_t7 : Fin k0_t7_loop.trips) : Fin 4 → Nat :=
  let c0_i32_2391 : BitVec 32 := 0#32
  let c2_i32_2392 : BitVec 32 := 2#32
  let c0_i32_1921 : BitVec 32 := 0#32
  let c1_i32_1923 : BitVec 32 := 1#32
  let arg19 : BitVec 32 := Scf.iv c0_i32_1921 c1_i32_1923 k0_t7
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2393 : BitVec 32 := 0#32
  ![0, 2, v3851.toNat, 0]
def k0_off144 (k0_t7 : Fin k0_t7_loop.trips) : Fin 4 → Nat :=
  let c0_i32_2415 : BitVec 32 := 0#32
  let c2_i32_2416 : BitVec 32 := 2#32
  let c0_i32_1921 : BitVec 32 := 0#32
  let c1_i32_1923 : BitVec 32 := 1#32
  let arg19 : BitVec 32 := Scf.iv c0_i32_1921 c1_i32_1923 k0_t7
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2417 : BitVec 32 := 0#32
  ![0, 2, v3851.toNat, 0]
def k0_off145 (k0_t7 : Fin k0_t7_loop.trips) : Fin 4 → Nat :=
  let c0_i32_2419 : BitVec 32 := 0#32
  let c3_i32_2420 : BitVec 32 := 3#32
  let c0_i32_1921 : BitVec 32 := 0#32
  let c1_i32_1923 : BitVec 32 := 1#32
  let arg19 : BitVec 32 := Scf.iv c0_i32_1921 c1_i32_1923 k0_t7
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2421 : BitVec 32 := 0#32
  ![0, 3, v3851.toNat, 0]
def k0_off146 (k0_t7 : Fin k0_t7_loop.trips) : Fin 4 → Nat :=
  let c0_i32_2447 : BitVec 32 := 0#32
  let c4_i32_2448 : BitVec 32 := 4#32
  let c0_i32_1921 : BitVec 32 := 0#32
  let c1_i32_1923 : BitVec 32 := 1#32
  let arg19 : BitVec 32 := Scf.iv c0_i32_1921 c1_i32_1923 k0_t7
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2449 : BitVec 32 := 0#32
  ![0, 4, v3851.toNat, 0]
def k0_off147 (k0_t7 : Fin k0_t7_loop.trips) : Fin 4 → Nat :=
  let c0_i32_2479 : BitVec 32 := 0#32
  let c5_i32_2480 : BitVec 32 := 5#32
  let c0_i32_1921 : BitVec 32 := 0#32
  let c1_i32_1923 : BitVec 32 := 1#32
  let arg19 : BitVec 32 := Scf.iv c0_i32_1921 c1_i32_1923 k0_t7
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2481 : BitVec 32 := 0#32
  ![0, 5, v3851.toNat, 0]
def k0_off148 (k0_t7 : Fin k0_t7_loop.trips) : Fin 4 → Nat :=
  let c0_i32_2507 : BitVec 32 := 0#32
  let c6_i32_2508 : BitVec 32 := 6#32
  let c0_i32_1921 : BitVec 32 := 0#32
  let c1_i32_1923 : BitVec 32 := 1#32
  let arg19 : BitVec 32 := Scf.iv c0_i32_1921 c1_i32_1923 k0_t7
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2509 : BitVec 32 := 0#32
  ![0, 6, v3851.toNat, 0]

def k0_chk398 (v179 : IVec S16 32) (v207 : IVec S16 32) (v259 : IVec S16 32) (v287 : IVec S16 32) (v3066 : IVec S16 32) (v3069 : IVec S16 32) (v3070 : IVec S16 32) (v3072 : IVec S16 32) (v3073 : IVec S16 32) (v3853 : IVec S16 32) : Prop :=
  (∀ a x, ((![v3066, v3069, v3853, v179] : Fin 4 → IVec S16 32) a x).toNat < S2x7x64x128.size a) ∧
  (∀ a x, ((![v3066, v3070, v3853, v207] : Fin 4 → IVec S16 32) a x).toNat < S2x7x64x128.size a) ∧
  (∀ a x, ((![v3066, v3072, v3853, v259] : Fin 4 → IVec S16 32) a x).toNat < S2x7x64x128.size a) ∧
  (∀ a x, ((![v3066, v3073, v3853, v287] : Fin 4 → IVec S16 32) a x).toNat < S2x7x64x128.size a)
theorem k0_idx437_inb : ∀ (v179 : IVec S16 32) (v207 : IVec S16 32) (v259 : IVec S16 32) (v287 : IVec S16 32) (v3066 : IVec S16 32) (v3069 : IVec S16 32) (v3070 : IVec S16 32) (v3072 : IVec S16 32) (v3073 : IVec S16 32) (v3853 : IVec S16 32) (k0_hw398 : k0_chk398 v179 v207 v259 v287 v3066 v3069 v3070 v3072 v3073 v3853), ∀ a x, ((![v3066, v3069, v3853, v179] : Fin 4 → IVec S16 32) a x).toNat < S2x7x64x128.size a := fun v179 v207 v259 v287 v3066 v3069 v3070 v3072 v3073 v3853 k0_hw398 => k0_hw398.1
theorem k0_idx438_inb : ∀ (v179 : IVec S16 32) (v207 : IVec S16 32) (v259 : IVec S16 32) (v287 : IVec S16 32) (v3066 : IVec S16 32) (v3069 : IVec S16 32) (v3070 : IVec S16 32) (v3072 : IVec S16 32) (v3073 : IVec S16 32) (v3853 : IVec S16 32) (k0_hw398 : k0_chk398 v179 v207 v259 v287 v3066 v3069 v3070 v3072 v3073 v3853), ∀ a x, ((![v3066, v3070, v3853, v207] : Fin 4 → IVec S16 32) a x).toNat < S2x7x64x128.size a := fun v179 v207 v259 v287 v3066 v3069 v3070 v3072 v3073 v3853 k0_hw398 => k0_hw398.2.1
theorem k0_idx439_inb : ∀ (v179 : IVec S16 32) (v207 : IVec S16 32) (v259 : IVec S16 32) (v287 : IVec S16 32) (v3066 : IVec S16 32) (v3069 : IVec S16 32) (v3070 : IVec S16 32) (v3072 : IVec S16 32) (v3073 : IVec S16 32) (v3853 : IVec S16 32) (k0_hw398 : k0_chk398 v179 v207 v259 v287 v3066 v3069 v3070 v3072 v3073 v3853), ∀ a x, ((![v3066, v3072, v3853, v259] : Fin 4 → IVec S16 32) a x).toNat < S2x7x64x128.size a := fun v179 v207 v259 v287 v3066 v3069 v3070 v3072 v3073 v3853 k0_hw398 => k0_hw398.2.2.1
theorem k0_idx440_inb : ∀ (v179 : IVec S16 32) (v207 : IVec S16 32) (v259 : IVec S16 32) (v287 : IVec S16 32) (v3066 : IVec S16 32) (v3069 : IVec S16 32) (v3070 : IVec S16 32) (v3072 : IVec S16 32) (v3073 : IVec S16 32) (v3853 : IVec S16 32) (k0_hw398 : k0_chk398 v179 v207 v259 v287 v3066 v3069 v3070 v3072 v3073 v3853), ∀ a x, ((![v3066, v3073, v3853, v287] : Fin 4 → IVec S16 32) a x).toNat < S2x7x64x128.size a := fun v179 v207 v259 v287 v3066 v3069 v3070 v3072 v3073 v3853 k0_hw398 => k0_hw398.2.2.2
def k0_off149 (k0_t7 : Fin k0_t7_loop.trips) : Fin 1 → Nat :=
  let c0_i32_1921 : BitVec 32 := 0#32
  let c1_i32_1923 : BitVec 32 := 1#32
  let arg19 : BitVec 32 := Scf.iv c0_i32_1921 c1_i32_1923 k0_t7
  let c2_i32_2129 : BitVec 32 := 2#32
  let v3631 : BitVec 32 := Scalar.muli arg19 c2_i32_2129
  let c1_i32_2325 : BitVec 32 := 1#32
  let v3851 : BitVec 32 := Scalar.addi v3631 c1_i32_2325
  let c17_i32_2535 : BitVec 32 := 17#32
  let v4069 : BitVec 32 := Scalar.muli v3851 c17_i32_2535
  let v4070 : Index := Scalar.indexCast v4069
  ![v4070.toNat]

def k0_chk399 (v3076 : IVec S16 32) : Prop :=
  (∀ a x, ((![v3076] : Fin 1 → IVec S16 32) a x).toNat < S1088.size a)
theorem k0_idx441_inb : ∀ (v3076 : IVec S16 32) (k0_hw399 : k0_chk399 v3076), ∀ a x, ((![v3076] : Fin 1 → IVec S16 32) a x).toNat < S1088.size a := fun v3076 k0_hw399 => k0_hw399

def k0_chk400 (v3079 : IVec S16 32) : Prop :=
  (∀ a x, ((![v3079] : Fin 1 → IVec S16 32) a x).toNat < S1088.size a)
theorem k0_idx442_inb : ∀ (v3079 : IVec S16 32) (k0_hw400 : k0_chk400 v3079), ∀ a x, ((![v3079] : Fin 1 → IVec S16 32) a x).toNat < S1088.size a := fun v3079 k0_hw400 => k0_hw400

def k0_chk401 (v3083 : IVec S16 32) : Prop :=
  (∀ a x, ((![v3083] : Fin 1 → IVec S16 32) a x).toNat < S1088.size a)
theorem k0_idx443_inb : ∀ (v3083 : IVec S16 32) (k0_hw401 : k0_chk401 v3083), ∀ a x, ((![v3083] : Fin 1 → IVec S16 32) a x).toNat < S1088.size a := fun v3083 k0_hw401 => k0_hw401

def k0_chk402 (v3087 : IVec S16 32) : Prop :=
  (∀ a x, ((![v3087] : Fin 1 → IVec S16 32) a x).toNat < S1088.size a)
theorem k0_idx444_inb : ∀ (v3087 : IVec S16 32) (k0_hw402 : k0_chk402 v3087), ∀ a x, ((![v3087] : Fin 1 → IVec S16 32) a x).toNat < S1088.size a := fun v3087 k0_hw402 => k0_hw402

def k0_chk403 (v3091 : IVec S16 32) : Prop :=
  (∀ a x, ((![v3091] : Fin 1 → IVec S16 32) a x).toNat < S1088.size a)
theorem k0_idx445_inb : ∀ (v3091 : IVec S16 32) (k0_hw403 : k0_chk403 v3091), ∀ a x, ((![v3091] : Fin 1 → IVec S16 32) a x).toNat < S1088.size a := fun v3091 k0_hw403 => k0_hw403

def k0_chk404 (v3095 : IVec S16 32) : Prop :=
  (∀ a x, ((![v3095] : Fin 1 → IVec S16 32) a x).toNat < S1088.size a)
theorem k0_idx446_inb : ∀ (v3095 : IVec S16 32) (k0_hw404 : k0_chk404 v3095), ∀ a x, ((![v3095] : Fin 1 → IVec S16 32) a x).toNat < S1088.size a := fun v3095 k0_hw404 => k0_hw404

def k0_chk405 (v3099 : IVec S16 32) : Prop :=
  (∀ a x, ((![v3099] : Fin 1 → IVec S16 32) a x).toNat < S1088.size a)
theorem k0_idx447_inb : ∀ (v3099 : IVec S16 32) (k0_hw405 : k0_chk405 v3099), ∀ a x, ((![v3099] : Fin 1 → IVec S16 32) a x).toNat < S1088.size a := fun v3099 k0_hw405 => k0_hw405

def k0_chk406 (v3103 : IVec S16 32) : Prop :=
  (∀ a x, ((![v3103] : Fin 1 → IVec S16 32) a x).toNat < S1088.size a)
theorem k0_idx448_inb : ∀ (v3103 : IVec S16 32) (k0_hw406 : k0_chk406 v3103), ∀ a x, ((![v3103] : Fin 1 → IVec S16 32) a x).toNat < S1088.size a := fun v3103 k0_hw406 => k0_hw406

def k0_chk407 (v3107 : IVec S16 32) : Prop :=
  (∀ a x, ((![v3107] : Fin 1 → IVec S16 32) a x).toNat < S1088.size a)
theorem k0_idx449_inb : ∀ (v3107 : IVec S16 32) (k0_hw407 : k0_chk407 v3107), ∀ a x, ((![v3107] : Fin 1 → IVec S16 32) a x).toNat < S1088.size a := fun v3107 k0_hw407 => k0_hw407

def k0_chk408 (v3111 : IVec S16 32) : Prop :=
  (∀ a x, ((![v3111] : Fin 1 → IVec S16 32) a x).toNat < S1088.size a)
theorem k0_idx450_inb : ∀ (v3111 : IVec S16 32) (k0_hw408 : k0_chk408 v3111), ∀ a x, ((![v3111] : Fin 1 → IVec S16 32) a x).toNat < S1088.size a := fun v3111 k0_hw408 => k0_hw408

def k0_chk409 (v3115 : IVec S16 32) : Prop :=
  (∀ a x, ((![v3115] : Fin 1 → IVec S16 32) a x).toNat < S1088.size a)
theorem k0_idx451_inb : ∀ (v3115 : IVec S16 32) (k0_hw409 : k0_chk409 v3115), ∀ a x, ((![v3115] : Fin 1 → IVec S16 32) a x).toNat < S1088.size a := fun v3115 k0_hw409 => k0_hw409

def k0_chk410 (v3119 : IVec S16 32) : Prop :=
  (∀ a x, ((![v3119] : Fin 1 → IVec S16 32) a x).toNat < S1088.size a)
theorem k0_idx452_inb : ∀ (v3119 : IVec S16 32) (k0_hw410 : k0_chk410 v3119), ∀ a x, ((![v3119] : Fin 1 → IVec S16 32) a x).toNat < S1088.size a := fun v3119 k0_hw410 => k0_hw410

def k0_chk411 (v3123 : IVec S16 32) : Prop :=
  (∀ a x, ((![v3123] : Fin 1 → IVec S16 32) a x).toNat < S1088.size a)
theorem k0_idx453_inb : ∀ (v3123 : IVec S16 32) (k0_hw411 : k0_chk411 v3123), ∀ a x, ((![v3123] : Fin 1 → IVec S16 32) a x).toNat < S1088.size a := fun v3123 k0_hw411 => k0_hw411

def k0_chk412 (v3127 : IVec S16 32) : Prop :=
  (∀ a x, ((![v3127] : Fin 1 → IVec S16 32) a x).toNat < S1088.size a)
theorem k0_idx454_inb : ∀ (v3127 : IVec S16 32) (k0_hw412 : k0_chk412 v3127), ∀ a x, ((![v3127] : Fin 1 → IVec S16 32) a x).toNat < S1088.size a := fun v3127 k0_hw412 => k0_hw412

def k0_chk413 (v3131 : IVec S16 32) : Prop :=
  (∀ a x, ((![v3131] : Fin 1 → IVec S16 32) a x).toNat < S1088.size a)
theorem k0_idx455_inb : ∀ (v3131 : IVec S16 32) (k0_hw413 : k0_chk413 v3131), ∀ a x, ((![v3131] : Fin 1 → IVec S16 32) a x).toNat < S1088.size a := fun v3131 k0_hw413 => k0_hw413

def k0_chk414 (v3135 : IVec S16 32) : Prop :=
  (∀ a x, ((![v3135] : Fin 1 → IVec S16 32) a x).toNat < S1088.size a)
theorem k0_idx456_inb : ∀ (v3135 : IVec S16 32) (k0_hw414 : k0_chk414 v3135), ∀ a x, ((![v3135] : Fin 1 → IVec S16 32) a x).toNat < S1088.size a := fun v3135 k0_hw414 => k0_hw414

def k0_chk415 (v3140 : IVec S16 32) : Prop :=
  (∀ a x, ((![v3140] : Fin 1 → IVec S16 32) a x).toNat < S1088.size a)
theorem k0_idx457_inb : ∀ (v3140 : IVec S16 32) (k0_hw415 : k0_chk415 v3140), ∀ a x, ((![v3140] : Fin 1 → IVec S16 32) a x).toNat < S1088.size a := fun v3140 k0_hw415 => k0_hw415

def k0_chk416 (v3143 : IVec S16 32) : Prop :=
  (∀ a x, ((![v3143] : Fin 1 → IVec S16 32) a x).toNat < S1088.size a)
theorem k0_idx458_inb : ∀ (v3143 : IVec S16 32) (k0_hw416 : k0_chk416 v3143), ∀ a x, ((![v3143] : Fin 1 → IVec S16 32) a x).toNat < S1088.size a := fun v3143 k0_hw416 => k0_hw416

def k0_chk417 (v3147 : IVec S16 32) : Prop :=
  (∀ a x, ((![v3147] : Fin 1 → IVec S16 32) a x).toNat < S1088.size a)
theorem k0_idx459_inb : ∀ (v3147 : IVec S16 32) (k0_hw417 : k0_chk417 v3147), ∀ a x, ((![v3147] : Fin 1 → IVec S16 32) a x).toNat < S1088.size a := fun v3147 k0_hw417 => k0_hw417

def k0_chk418 (v3151 : IVec S16 32) : Prop :=
  (∀ a x, ((![v3151] : Fin 1 → IVec S16 32) a x).toNat < S1088.size a)
theorem k0_idx460_inb : ∀ (v3151 : IVec S16 32) (k0_hw418 : k0_chk418 v3151), ∀ a x, ((![v3151] : Fin 1 → IVec S16 32) a x).toNat < S1088.size a := fun v3151 k0_hw418 => k0_hw418

def k0_chk419 (v3155 : IVec S16 32) : Prop :=
  (∀ a x, ((![v3155] : Fin 1 → IVec S16 32) a x).toNat < S1088.size a)
theorem k0_idx461_inb : ∀ (v3155 : IVec S16 32) (k0_hw419 : k0_chk419 v3155), ∀ a x, ((![v3155] : Fin 1 → IVec S16 32) a x).toNat < S1088.size a := fun v3155 k0_hw419 => k0_hw419

def k0_chk420 (v3159 : IVec S16 32) : Prop :=
  (∀ a x, ((![v3159] : Fin 1 → IVec S16 32) a x).toNat < S1088.size a)
theorem k0_idx462_inb : ∀ (v3159 : IVec S16 32) (k0_hw420 : k0_chk420 v3159), ∀ a x, ((![v3159] : Fin 1 → IVec S16 32) a x).toNat < S1088.size a := fun v3159 k0_hw420 => k0_hw420

def k0_chk421 (v3163 : IVec S16 32) : Prop :=
  (∀ a x, ((![v3163] : Fin 1 → IVec S16 32) a x).toNat < S1088.size a)
theorem k0_idx463_inb : ∀ (v3163 : IVec S16 32) (k0_hw421 : k0_chk421 v3163), ∀ a x, ((![v3163] : Fin 1 → IVec S16 32) a x).toNat < S1088.size a := fun v3163 k0_hw421 => k0_hw421

def k0_chk422 (v3167 : IVec S16 32) : Prop :=
  (∀ a x, ((![v3167] : Fin 1 → IVec S16 32) a x).toNat < S1088.size a)
theorem k0_idx464_inb : ∀ (v3167 : IVec S16 32) (k0_hw422 : k0_chk422 v3167), ∀ a x, ((![v3167] : Fin 1 → IVec S16 32) a x).toNat < S1088.size a := fun v3167 k0_hw422 => k0_hw422

def k0_chk423 (v3171 : IVec S16 32) : Prop :=
  (∀ a x, ((![v3171] : Fin 1 → IVec S16 32) a x).toNat < S1088.size a)
theorem k0_idx465_inb : ∀ (v3171 : IVec S16 32) (k0_hw423 : k0_chk423 v3171), ∀ a x, ((![v3171] : Fin 1 → IVec S16 32) a x).toNat < S1088.size a := fun v3171 k0_hw423 => k0_hw423

def k0_chk424 (v3175 : IVec S16 32) : Prop :=
  (∀ a x, ((![v3175] : Fin 1 → IVec S16 32) a x).toNat < S1088.size a)
theorem k0_idx466_inb : ∀ (v3175 : IVec S16 32) (k0_hw424 : k0_chk424 v3175), ∀ a x, ((![v3175] : Fin 1 → IVec S16 32) a x).toNat < S1088.size a := fun v3175 k0_hw424 => k0_hw424

def k0_chk425 (v3179 : IVec S16 32) : Prop :=
  (∀ a x, ((![v3179] : Fin 1 → IVec S16 32) a x).toNat < S1088.size a)
theorem k0_idx467_inb : ∀ (v3179 : IVec S16 32) (k0_hw425 : k0_chk425 v3179), ∀ a x, ((![v3179] : Fin 1 → IVec S16 32) a x).toNat < S1088.size a := fun v3179 k0_hw425 => k0_hw425

def k0_chk426 (v3183 : IVec S16 32) : Prop :=
  (∀ a x, ((![v3183] : Fin 1 → IVec S16 32) a x).toNat < S1088.size a)
theorem k0_idx468_inb : ∀ (v3183 : IVec S16 32) (k0_hw426 : k0_chk426 v3183), ∀ a x, ((![v3183] : Fin 1 → IVec S16 32) a x).toNat < S1088.size a := fun v3183 k0_hw426 => k0_hw426

def k0_chk427 (v3187 : IVec S16 32) : Prop :=
  (∀ a x, ((![v3187] : Fin 1 → IVec S16 32) a x).toNat < S1088.size a)
theorem k0_idx469_inb : ∀ (v3187 : IVec S16 32) (k0_hw427 : k0_chk427 v3187), ∀ a x, ((![v3187] : Fin 1 → IVec S16 32) a x).toNat < S1088.size a := fun v3187 k0_hw427 => k0_hw427

def k0_chk428 (v3191 : IVec S16 32) : Prop :=
  (∀ a x, ((![v3191] : Fin 1 → IVec S16 32) a x).toNat < S1088.size a)
theorem k0_idx470_inb : ∀ (v3191 : IVec S16 32) (k0_hw428 : k0_chk428 v3191), ∀ a x, ((![v3191] : Fin 1 → IVec S16 32) a x).toNat < S1088.size a := fun v3191 k0_hw428 => k0_hw428

def k0_chk429 (v3195 : IVec S16 32) : Prop :=
  (∀ a x, ((![v3195] : Fin 1 → IVec S16 32) a x).toNat < S1088.size a)
theorem k0_idx471_inb : ∀ (v3195 : IVec S16 32) (k0_hw429 : k0_chk429 v3195), ∀ a x, ((![v3195] : Fin 1 → IVec S16 32) a x).toNat < S1088.size a := fun v3195 k0_hw429 => k0_hw429

def k0_chk430 (v3199 : IVec S16 32) : Prop :=
  (∀ a x, ((![v3199] : Fin 1 → IVec S16 32) a x).toNat < S1088.size a)
theorem k0_idx472_inb : ∀ (v3199 : IVec S16 32) (k0_hw430 : k0_chk430 v3199), ∀ a x, ((![v3199] : Fin 1 → IVec S16 32) a x).toNat < S1088.size a := fun v3199 k0_hw430 => k0_hw430

def k0_chk431 (v3204 : IVec S16 32) : Prop :=
  (∀ a x, ((![v3204] : Fin 1 → IVec S16 32) a x).toNat < S1088.size a)
theorem k0_idx473_inb : ∀ (v3204 : IVec S16 32) (k0_hw431 : k0_chk431 v3204), ∀ a x, ((![v3204] : Fin 1 → IVec S16 32) a x).toNat < S1088.size a := fun v3204 k0_hw431 => k0_hw431

def k0_chk432 (v3207 : IVec S16 32) : Prop :=
  (∀ a x, ((![v3207] : Fin 1 → IVec S16 32) a x).toNat < S1088.size a)
theorem k0_idx474_inb : ∀ (v3207 : IVec S16 32) (k0_hw432 : k0_chk432 v3207), ∀ a x, ((![v3207] : Fin 1 → IVec S16 32) a x).toNat < S1088.size a := fun v3207 k0_hw432 => k0_hw432

def k0_chk433 (v3211 : IVec S16 32) : Prop :=
  (∀ a x, ((![v3211] : Fin 1 → IVec S16 32) a x).toNat < S1088.size a)
theorem k0_idx475_inb : ∀ (v3211 : IVec S16 32) (k0_hw433 : k0_chk433 v3211), ∀ a x, ((![v3211] : Fin 1 → IVec S16 32) a x).toNat < S1088.size a := fun v3211 k0_hw433 => k0_hw433

def k0_chk434 (v3215 : IVec S16 32) : Prop :=
  (∀ a x, ((![v3215] : Fin 1 → IVec S16 32) a x).toNat < S1088.size a)
theorem k0_idx476_inb : ∀ (v3215 : IVec S16 32) (k0_hw434 : k0_chk434 v3215), ∀ a x, ((![v3215] : Fin 1 → IVec S16 32) a x).toNat < S1088.size a := fun v3215 k0_hw434 => k0_hw434

def k0_chk435 (v3219 : IVec S16 32) : Prop :=
  (∀ a x, ((![v3219] : Fin 1 → IVec S16 32) a x).toNat < S1088.size a)
theorem k0_idx477_inb : ∀ (v3219 : IVec S16 32) (k0_hw435 : k0_chk435 v3219), ∀ a x, ((![v3219] : Fin 1 → IVec S16 32) a x).toNat < S1088.size a := fun v3219 k0_hw435 => k0_hw435

def k0_chk436 (v3223 : IVec S16 32) : Prop :=
  (∀ a x, ((![v3223] : Fin 1 → IVec S16 32) a x).toNat < S1088.size a)
theorem k0_idx478_inb : ∀ (v3223 : IVec S16 32) (k0_hw436 : k0_chk436 v3223), ∀ a x, ((![v3223] : Fin 1 → IVec S16 32) a x).toNat < S1088.size a := fun v3223 k0_hw436 => k0_hw436

def k0_chk437 (v3227 : IVec S16 32) : Prop :=
  (∀ a x, ((![v3227] : Fin 1 → IVec S16 32) a x).toNat < S1088.size a)
theorem k0_idx479_inb : ∀ (v3227 : IVec S16 32) (k0_hw437 : k0_chk437 v3227), ∀ a x, ((![v3227] : Fin 1 → IVec S16 32) a x).toNat < S1088.size a := fun v3227 k0_hw437 => k0_hw437

def k0_chk438 (v3231 : IVec S16 32) : Prop :=
  (∀ a x, ((![v3231] : Fin 1 → IVec S16 32) a x).toNat < S1088.size a)
theorem k0_idx480_inb : ∀ (v3231 : IVec S16 32) (k0_hw438 : k0_chk438 v3231), ∀ a x, ((![v3231] : Fin 1 → IVec S16 32) a x).toNat < S1088.size a := fun v3231 k0_hw438 => k0_hw438

def k0_chk439 (v3235 : IVec S16 32) : Prop :=
  (∀ a x, ((![v3235] : Fin 1 → IVec S16 32) a x).toNat < S1088.size a)
theorem k0_idx481_inb : ∀ (v3235 : IVec S16 32) (k0_hw439 : k0_chk439 v3235), ∀ a x, ((![v3235] : Fin 1 → IVec S16 32) a x).toNat < S1088.size a := fun v3235 k0_hw439 => k0_hw439

def k0_chk440 (v3239 : IVec S16 32) : Prop :=
  (∀ a x, ((![v3239] : Fin 1 → IVec S16 32) a x).toNat < S1088.size a)
theorem k0_idx482_inb : ∀ (v3239 : IVec S16 32) (k0_hw440 : k0_chk440 v3239), ∀ a x, ((![v3239] : Fin 1 → IVec S16 32) a x).toNat < S1088.size a := fun v3239 k0_hw440 => k0_hw440

def k0_chk441 (v3243 : IVec S16 32) : Prop :=
  (∀ a x, ((![v3243] : Fin 1 → IVec S16 32) a x).toNat < S1088.size a)
theorem k0_idx483_inb : ∀ (v3243 : IVec S16 32) (k0_hw441 : k0_chk441 v3243), ∀ a x, ((![v3243] : Fin 1 → IVec S16 32) a x).toNat < S1088.size a := fun v3243 k0_hw441 => k0_hw441

def k0_chk442 (v3247 : IVec S16 32) : Prop :=
  (∀ a x, ((![v3247] : Fin 1 → IVec S16 32) a x).toNat < S1088.size a)
theorem k0_idx484_inb : ∀ (v3247 : IVec S16 32) (k0_hw442 : k0_chk442 v3247), ∀ a x, ((![v3247] : Fin 1 → IVec S16 32) a x).toNat < S1088.size a := fun v3247 k0_hw442 => k0_hw442

def k0_chk443 (v3251 : IVec S16 32) : Prop :=
  (∀ a x, ((![v3251] : Fin 1 → IVec S16 32) a x).toNat < S1088.size a)
theorem k0_idx485_inb : ∀ (v3251 : IVec S16 32) (k0_hw443 : k0_chk443 v3251), ∀ a x, ((![v3251] : Fin 1 → IVec S16 32) a x).toNat < S1088.size a := fun v3251 k0_hw443 => k0_hw443

def k0_chk444 (v3255 : IVec S16 32) : Prop :=
  (∀ a x, ((![v3255] : Fin 1 → IVec S16 32) a x).toNat < S1088.size a)
theorem k0_idx486_inb : ∀ (v3255 : IVec S16 32) (k0_hw444 : k0_chk444 v3255), ∀ a x, ((![v3255] : Fin 1 → IVec S16 32) a x).toNat < S1088.size a := fun v3255 k0_hw444 => k0_hw444

def k0_chk445 (v3259 : IVec S16 32) : Prop :=
  (∀ a x, ((![v3259] : Fin 1 → IVec S16 32) a x).toNat < S1088.size a)
theorem k0_idx487_inb : ∀ (v3259 : IVec S16 32) (k0_hw445 : k0_chk445 v3259), ∀ a x, ((![v3259] : Fin 1 → IVec S16 32) a x).toNat < S1088.size a := fun v3259 k0_hw445 => k0_hw445

def k0_chk446 (v3263 : IVec S16 32) : Prop :=
  (∀ a x, ((![v3263] : Fin 1 → IVec S16 32) a x).toNat < S1088.size a)
theorem k0_idx488_inb : ∀ (v3263 : IVec S16 32) (k0_hw446 : k0_chk446 v3263), ∀ a x, ((![v3263] : Fin 1 → IVec S16 32) a x).toNat < S1088.size a := fun v3263 k0_hw446 => k0_hw446

def k0_chk447 (v3268 : IVec S16 32) : Prop :=
  (∀ a x, ((![v3268] : Fin 1 → IVec S16 32) a x).toNat < S1088.size a)
theorem k0_idx489_inb : ∀ (v3268 : IVec S16 32) (k0_hw447 : k0_chk447 v3268), ∀ a x, ((![v3268] : Fin 1 → IVec S16 32) a x).toNat < S1088.size a := fun v3268 k0_hw447 => k0_hw447

def k0_chk448 (v3271 : IVec S16 32) : Prop :=
  (∀ a x, ((![v3271] : Fin 1 → IVec S16 32) a x).toNat < S1088.size a)
theorem k0_idx490_inb : ∀ (v3271 : IVec S16 32) (k0_hw448 : k0_chk448 v3271), ∀ a x, ((![v3271] : Fin 1 → IVec S16 32) a x).toNat < S1088.size a := fun v3271 k0_hw448 => k0_hw448

def k0_chk449 (v3275 : IVec S16 32) : Prop :=
  (∀ a x, ((![v3275] : Fin 1 → IVec S16 32) a x).toNat < S1088.size a)
theorem k0_idx491_inb : ∀ (v3275 : IVec S16 32) (k0_hw449 : k0_chk449 v3275), ∀ a x, ((![v3275] : Fin 1 → IVec S16 32) a x).toNat < S1088.size a := fun v3275 k0_hw449 => k0_hw449

def k0_chk450 (v3279 : IVec S16 32) : Prop :=
  (∀ a x, ((![v3279] : Fin 1 → IVec S16 32) a x).toNat < S1088.size a)
theorem k0_idx492_inb : ∀ (v3279 : IVec S16 32) (k0_hw450 : k0_chk450 v3279), ∀ a x, ((![v3279] : Fin 1 → IVec S16 32) a x).toNat < S1088.size a := fun v3279 k0_hw450 => k0_hw450

def k0_chk451 (v3283 : IVec S16 32) : Prop :=
  (∀ a x, ((![v3283] : Fin 1 → IVec S16 32) a x).toNat < S1088.size a)
theorem k0_idx493_inb : ∀ (v3283 : IVec S16 32) (k0_hw451 : k0_chk451 v3283), ∀ a x, ((![v3283] : Fin 1 → IVec S16 32) a x).toNat < S1088.size a := fun v3283 k0_hw451 => k0_hw451

def k0_chk452 (v3287 : IVec S16 32) : Prop :=
  (∀ a x, ((![v3287] : Fin 1 → IVec S16 32) a x).toNat < S1088.size a)
theorem k0_idx494_inb : ∀ (v3287 : IVec S16 32) (k0_hw452 : k0_chk452 v3287), ∀ a x, ((![v3287] : Fin 1 → IVec S16 32) a x).toNat < S1088.size a := fun v3287 k0_hw452 => k0_hw452

def k0_chk453 (v3291 : IVec S16 32) : Prop :=
  (∀ a x, ((![v3291] : Fin 1 → IVec S16 32) a x).toNat < S1088.size a)
theorem k0_idx495_inb : ∀ (v3291 : IVec S16 32) (k0_hw453 : k0_chk453 v3291), ∀ a x, ((![v3291] : Fin 1 → IVec S16 32) a x).toNat < S1088.size a := fun v3291 k0_hw453 => k0_hw453

def k0_chk454 (v3295 : IVec S16 32) : Prop :=
  (∀ a x, ((![v3295] : Fin 1 → IVec S16 32) a x).toNat < S1088.size a)
theorem k0_idx496_inb : ∀ (v3295 : IVec S16 32) (k0_hw454 : k0_chk454 v3295), ∀ a x, ((![v3295] : Fin 1 → IVec S16 32) a x).toNat < S1088.size a := fun v3295 k0_hw454 => k0_hw454

def k0_chk455 (v3299 : IVec S16 32) : Prop :=
  (∀ a x, ((![v3299] : Fin 1 → IVec S16 32) a x).toNat < S1088.size a)
theorem k0_idx497_inb : ∀ (v3299 : IVec S16 32) (k0_hw455 : k0_chk455 v3299), ∀ a x, ((![v3299] : Fin 1 → IVec S16 32) a x).toNat < S1088.size a := fun v3299 k0_hw455 => k0_hw455

def k0_chk456 (v3303 : IVec S16 32) : Prop :=
  (∀ a x, ((![v3303] : Fin 1 → IVec S16 32) a x).toNat < S1088.size a)
theorem k0_idx498_inb : ∀ (v3303 : IVec S16 32) (k0_hw456 : k0_chk456 v3303), ∀ a x, ((![v3303] : Fin 1 → IVec S16 32) a x).toNat < S1088.size a := fun v3303 k0_hw456 => k0_hw456

def k0_chk457 (v3307 : IVec S16 32) : Prop :=
  (∀ a x, ((![v3307] : Fin 1 → IVec S16 32) a x).toNat < S1088.size a)
theorem k0_idx499_inb : ∀ (v3307 : IVec S16 32) (k0_hw457 : k0_chk457 v3307), ∀ a x, ((![v3307] : Fin 1 → IVec S16 32) a x).toNat < S1088.size a := fun v3307 k0_hw457 => k0_hw457

def k0_chk458 (v3311 : IVec S16 32) : Prop :=
  (∀ a x, ((![v3311] : Fin 1 → IVec S16 32) a x).toNat < S1088.size a)
theorem k0_idx500_inb : ∀ (v3311 : IVec S16 32) (k0_hw458 : k0_chk458 v3311), ∀ a x, ((![v3311] : Fin 1 → IVec S16 32) a x).toNat < S1088.size a := fun v3311 k0_hw458 => k0_hw458

def k0_chk459 (v3315 : IVec S16 32) : Prop :=
  (∀ a x, ((![v3315] : Fin 1 → IVec S16 32) a x).toNat < S1088.size a)
theorem k0_idx501_inb : ∀ (v3315 : IVec S16 32) (k0_hw459 : k0_chk459 v3315), ∀ a x, ((![v3315] : Fin 1 → IVec S16 32) a x).toNat < S1088.size a := fun v3315 k0_hw459 => k0_hw459

def k0_chk460 (v3319 : IVec S16 32) : Prop :=
  (∀ a x, ((![v3319] : Fin 1 → IVec S16 32) a x).toNat < S1088.size a)
theorem k0_idx502_inb : ∀ (v3319 : IVec S16 32) (k0_hw460 : k0_chk460 v3319), ∀ a x, ((![v3319] : Fin 1 → IVec S16 32) a x).toNat < S1088.size a := fun v3319 k0_hw460 => k0_hw460

def k0_chk461 (v3323 : IVec S16 32) : Prop :=
  (∀ a x, ((![v3323] : Fin 1 → IVec S16 32) a x).toNat < S1088.size a)
theorem k0_idx503_inb : ∀ (v3323 : IVec S16 32) (k0_hw461 : k0_chk461 v3323), ∀ a x, ((![v3323] : Fin 1 → IVec S16 32) a x).toNat < S1088.size a := fun v3323 k0_hw461 => k0_hw461

def k0_chk462 (v3327 : IVec S16 32) : Prop :=
  (∀ a x, ((![v3327] : Fin 1 → IVec S16 32) a x).toNat < S1088.size a)
theorem k0_idx504_inb : ∀ (v3327 : IVec S16 32) (k0_hw462 : k0_chk462 v3327), ∀ a x, ((![v3327] : Fin 1 → IVec S16 32) a x).toNat < S1088.size a := fun v3327 k0_hw462 => k0_hw462
@[reducible] def k0_t8_loop : Scf.Loop 32 :=
  let c0_i32_2061 : BitVec 32 := 0#32
  let c32_i32_2062 : BitVec 32 := 32#32
  let v3374 : BitVec 32 := Scalar.addi c0_i32_2061 c32_i32_2062
  let c1_i32_2063 : BitVec 32 := 1#32
  ⟨c0_i32_2061, v3374, c1_i32_2063⟩
def k0_off150 (k0_t8 : Fin k0_t8_loop.trips) : Fin 4 → Nat :=
  let c1_i32_2130 : BitVec 32 := 1#32
  let c0_i32_2131 : BitVec 32 := 0#32
  let c0_i32_2061 : BitVec 32 := 0#32
  let c1_i32_2063 : BitVec 32 := 1#32
  let arg19 : BitVec 32 := Scf.iv c0_i32_2061 c1_i32_2063 k0_t8
  let c2_i32_2129 : BitVec 32 := 2#32
  let v3631 : BitVec 32 := Scalar.muli arg19 c2_i32_2129
  let c0_i32_2132 : BitVec 32 := 0#32
  ![1, 0, v3631.toNat, 0]
def k0_off151 (k0_t8 : Fin k0_t8_loop.trips) : Fin 4 → Nat :=
  let c1_i32_2134 : BitVec 32 := 1#32
  let c1_i32_2135 : BitVec 32 := 1#32
  let c0_i32_2061 : BitVec 32 := 0#32
  let c1_i32_2063 : BitVec 32 := 1#32
  let arg19 : BitVec 32 := Scf.iv c0_i32_2061 c1_i32_2063 k0_t8
  let c2_i32_2129 : BitVec 32 := 2#32
  let v3631 : BitVec 32 := Scalar.muli arg19 c2_i32_2129
  let c0_i32_2136 : BitVec 32 := 0#32
  ![1, 1, v3631.toNat, 0]
def k0_off152 (k0_t8 : Fin k0_t8_loop.trips) : Fin 4 → Nat :=
  let c1_i32_2194 : BitVec 32 := 1#32
  let c2_i32_2195 : BitVec 32 := 2#32
  let c0_i32_2061 : BitVec 32 := 0#32
  let c1_i32_2063 : BitVec 32 := 1#32
  let arg19 : BitVec 32 := Scf.iv c0_i32_2061 c1_i32_2063 k0_t8
  let c2_i32_2129 : BitVec 32 := 2#32
  let v3631 : BitVec 32 := Scalar.muli arg19 c2_i32_2129
  let c0_i32_2196 : BitVec 32 := 0#32
  ![1, 2, v3631.toNat, 0]
def k0_off153 (k0_t8 : Fin k0_t8_loop.trips) : Fin 4 → Nat :=
  let c1_i32_2212 : BitVec 32 := 1#32
  let c2_i32_2213 : BitVec 32 := 2#32
  let c0_i32_2061 : BitVec 32 := 0#32
  let c1_i32_2063 : BitVec 32 := 1#32
  let arg19 : BitVec 32 := Scf.iv c0_i32_2061 c1_i32_2063 k0_t8
  let c2_i32_2129 : BitVec 32 := 2#32
  let v3631 : BitVec 32 := Scalar.muli arg19 c2_i32_2129
  let c0_i32_2214 : BitVec 32 := 0#32
  ![1, 2, v3631.toNat, 0]
def k0_off154 (k0_t8 : Fin k0_t8_loop.trips) : Fin 4 → Nat :=
  let c1_i32_2215 : BitVec 32 := 1#32
  let c3_i32_2216 : BitVec 32 := 3#32
  let c0_i32_2061 : BitVec 32 := 0#32
  let c1_i32_2063 : BitVec 32 := 1#32
  let arg19 : BitVec 32 := Scf.iv c0_i32_2061 c1_i32_2063 k0_t8
  let c2_i32_2129 : BitVec 32 := 2#32
  let v3631 : BitVec 32 := Scalar.muli arg19 c2_i32_2129
  let c0_i32_2217 : BitVec 32 := 0#32
  ![1, 3, v3631.toNat, 0]
def k0_off155 (k0_t8 : Fin k0_t8_loop.trips) : Fin 4 → Nat :=
  let c1_i32_2230 : BitVec 32 := 1#32
  let c3_i32_2231 : BitVec 32 := 3#32
  let c0_i32_2061 : BitVec 32 := 0#32
  let c1_i32_2063 : BitVec 32 := 1#32
  let arg19 : BitVec 32 := Scf.iv c0_i32_2061 c1_i32_2063 k0_t8
  let c2_i32_2129 : BitVec 32 := 2#32
  let v3631 : BitVec 32 := Scalar.muli arg19 c2_i32_2129
  let c0_i32_2232 : BitVec 32 := 0#32
  ![1, 3, v3631.toNat, 0]
def k0_off156 (k0_t8 : Fin k0_t8_loop.trips) : Fin 4 → Nat :=
  let c1_i32_2236 : BitVec 32 := 1#32
  let c4_i32_2237 : BitVec 32 := 4#32
  let c0_i32_2061 : BitVec 32 := 0#32
  let c1_i32_2063 : BitVec 32 := 1#32
  let arg19 : BitVec 32 := Scf.iv c0_i32_2061 c1_i32_2063 k0_t8
  let c2_i32_2129 : BitVec 32 := 2#32
  let v3631 : BitVec 32 := Scalar.muli arg19 c2_i32_2129
  let c0_i32_2238 : BitVec 32 := 0#32
  ![1, 4, v3631.toNat, 0]
def k0_off157 (k0_t8 : Fin k0_t8_loop.trips) : Fin 4 → Nat :=
  let c1_i32_2268 : BitVec 32 := 1#32
  let c5_i32_2269 : BitVec 32 := 5#32
  let c0_i32_2061 : BitVec 32 := 0#32
  let c1_i32_2063 : BitVec 32 := 1#32
  let arg19 : BitVec 32 := Scf.iv c0_i32_2061 c1_i32_2063 k0_t8
  let c2_i32_2129 : BitVec 32 := 2#32
  let v3631 : BitVec 32 := Scalar.muli arg19 c2_i32_2129
  let c0_i32_2270 : BitVec 32 := 0#32
  ![1, 5, v3631.toNat, 0]
def k0_off158 (k0_t8 : Fin k0_t8_loop.trips) : Fin 4 → Nat :=
  let c1_i32_2276 : BitVec 32 := 1#32
  let c5_i32_2277 : BitVec 32 := 5#32
  let c0_i32_2061 : BitVec 32 := 0#32
  let c1_i32_2063 : BitVec 32 := 1#32
  let arg19 : BitVec 32 := Scf.iv c0_i32_2061 c1_i32_2063 k0_t8
  let c2_i32_2129 : BitVec 32 := 2#32
  let v3631 : BitVec 32 := Scalar.muli arg19 c2_i32_2129
  let c0_i32_2278 : BitVec 32 := 0#32
  ![1, 5, v3631.toNat, 0]
def k0_off159 (k0_t8 : Fin k0_t8_loop.trips) : Fin 4 → Nat :=
  let c1_i32_2296 : BitVec 32 := 1#32
  let c6_i32_2297 : BitVec 32 := 6#32
  let c0_i32_2061 : BitVec 32 := 0#32
  let c1_i32_2063 : BitVec 32 := 1#32
  let arg19 : BitVec 32 := Scf.iv c0_i32_2061 c1_i32_2063 k0_t8
  let c2_i32_2129 : BitVec 32 := 2#32
  let v3631 : BitVec 32 := Scalar.muli arg19 c2_i32_2129
  let c0_i32_2298 : BitVec 32 := 0#32
  ![1, 6, v3631.toNat, 0]

def k0_chk463 (v179 : IVec S16 32) (v207 : IVec S16 32) (v259 : IVec S16 32) (v287 : IVec S16 32) (v3366 : IVec S16 32) (v3369 : IVec S16 32) (v3370 : IVec S16 32) (v3372 : IVec S16 32) (v3373 : IVec S16 32) (v3632 : IVec S16 32) : Prop :=
  (∀ a x, ((![v3366, v3369, v3632, v179] : Fin 4 → IVec S16 32) a x).toNat < S2x7x64x128.size a) ∧
  (∀ a x, ((![v3366, v3370, v3632, v207] : Fin 4 → IVec S16 32) a x).toNat < S2x7x64x128.size a) ∧
  (∀ a x, ((![v3366, v3372, v3632, v259] : Fin 4 → IVec S16 32) a x).toNat < S2x7x64x128.size a) ∧
  (∀ a x, ((![v3366, v3373, v3632, v287] : Fin 4 → IVec S16 32) a x).toNat < S2x7x64x128.size a)
theorem k0_idx505_inb : ∀ (v179 : IVec S16 32) (v207 : IVec S16 32) (v259 : IVec S16 32) (v287 : IVec S16 32) (v3366 : IVec S16 32) (v3369 : IVec S16 32) (v3370 : IVec S16 32) (v3372 : IVec S16 32) (v3373 : IVec S16 32) (v3632 : IVec S16 32) (k0_hw463 : k0_chk463 v179 v207 v259 v287 v3366 v3369 v3370 v3372 v3373 v3632), ∀ a x, ((![v3366, v3369, v3632, v179] : Fin 4 → IVec S16 32) a x).toNat < S2x7x64x128.size a := fun v179 v207 v259 v287 v3366 v3369 v3370 v3372 v3373 v3632 k0_hw463 => k0_hw463.1
theorem k0_idx506_inb : ∀ (v179 : IVec S16 32) (v207 : IVec S16 32) (v259 : IVec S16 32) (v287 : IVec S16 32) (v3366 : IVec S16 32) (v3369 : IVec S16 32) (v3370 : IVec S16 32) (v3372 : IVec S16 32) (v3373 : IVec S16 32) (v3632 : IVec S16 32) (k0_hw463 : k0_chk463 v179 v207 v259 v287 v3366 v3369 v3370 v3372 v3373 v3632), ∀ a x, ((![v3366, v3370, v3632, v207] : Fin 4 → IVec S16 32) a x).toNat < S2x7x64x128.size a := fun v179 v207 v259 v287 v3366 v3369 v3370 v3372 v3373 v3632 k0_hw463 => k0_hw463.2.1
theorem k0_idx507_inb : ∀ (v179 : IVec S16 32) (v207 : IVec S16 32) (v259 : IVec S16 32) (v287 : IVec S16 32) (v3366 : IVec S16 32) (v3369 : IVec S16 32) (v3370 : IVec S16 32) (v3372 : IVec S16 32) (v3373 : IVec S16 32) (v3632 : IVec S16 32) (k0_hw463 : k0_chk463 v179 v207 v259 v287 v3366 v3369 v3370 v3372 v3373 v3632), ∀ a x, ((![v3366, v3372, v3632, v259] : Fin 4 → IVec S16 32) a x).toNat < S2x7x64x128.size a := fun v179 v207 v259 v287 v3366 v3369 v3370 v3372 v3373 v3632 k0_hw463 => k0_hw463.2.2.1
theorem k0_idx508_inb : ∀ (v179 : IVec S16 32) (v207 : IVec S16 32) (v259 : IVec S16 32) (v287 : IVec S16 32) (v3366 : IVec S16 32) (v3369 : IVec S16 32) (v3370 : IVec S16 32) (v3372 : IVec S16 32) (v3373 : IVec S16 32) (v3632 : IVec S16 32) (k0_hw463 : k0_chk463 v179 v207 v259 v287 v3366 v3369 v3370 v3372 v3373 v3632), ∀ a x, ((![v3366, v3373, v3632, v287] : Fin 4 → IVec S16 32) a x).toNat < S2x7x64x128.size a := fun v179 v207 v259 v287 v3366 v3369 v3370 v3372 v3373 v3632 k0_hw463 => k0_hw463.2.2.2
def k0_off160 (k0_t8 : Fin k0_t8_loop.trips) : Fin 4 → Nat :=
  let c1_i32_2300 : BitVec 32 := 1#32
  let c6_i32_2301 : BitVec 32 := 6#32
  let c0_i32_2061 : BitVec 32 := 0#32
  let c1_i32_2063 : BitVec 32 := 1#32
  let arg19 : BitVec 32 := Scf.iv c0_i32_2061 c1_i32_2063 k0_t8
  let c2_i32_2129 : BitVec 32 := 2#32
  let v3631 : BitVec 32 := Scalar.muli arg19 c2_i32_2129
  let c0_i32_2302 : BitVec 32 := 0#32
  ![1, 6, v3631.toNat, 0]
def k0_off161 (k0_t8 : Fin k0_t8_loop.trips) : Fin 1 → Nat :=
  let c0_i32_2061 : BitVec 32 := 0#32
  let c1_i32_2063 : BitVec 32 := 1#32
  let arg19 : BitVec 32 := Scf.iv c0_i32_2061 c1_i32_2063 k0_t8
  let c2_i32_2129 : BitVec 32 := 2#32
  let v3631 : BitVec 32 := Scalar.muli arg19 c2_i32_2129
  let c17_i32_2324 : BitVec 32 := 17#32
  let v3848 : BitVec 32 := Scalar.muli v3631 c17_i32_2324
  let v3849 : Index := Scalar.indexCast v3848
  ![v3849.toNat]
def k0_off162 (k0_t8 : Fin k0_t8_loop.trips) : Fin 4 → Nat :=
  let c1_i32_2327 : BitVec 32 := 1#32
  let c0_i32_2328 : BitVec 32 := 0#32
  let c0_i32_2061 : BitVec 32 := 0#32
  let c1_i32_2063 : BitVec 32 := 1#32
  let arg19 : BitVec 32 := Scf.iv c0_i32_2061 c1_i32_2063 k0_t8
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2329 : BitVec 32 := 0#32
  ![1, 0, v3851.toNat, 0]
def k0_off163 (k0_t8 : Fin k0_t8_loop.trips) : Fin 4 → Nat :=
  let c1_i32_2331 : BitVec 32 := 1#32
  let c1_i32_2332 : BitVec 32 := 1#32
  let c0_i32_2061 : BitVec 32 := 0#32
  let c1_i32_2063 : BitVec 32 := 1#32
  let arg19 : BitVec 32 := Scf.iv c0_i32_2061 c1_i32_2063 k0_t8
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2333 : BitVec 32 := 0#32
  ![1, 1, v3851.toNat, 0]
def k0_off164 (k0_t8 : Fin k0_t8_loop.trips) : Fin 4 → Nat :=
  let c1_i32_2391 : BitVec 32 := 1#32
  let c2_i32_2392 : BitVec 32 := 2#32
  let c0_i32_2061 : BitVec 32 := 0#32
  let c1_i32_2063 : BitVec 32 := 1#32
  let arg19 : BitVec 32 := Scf.iv c0_i32_2061 c1_i32_2063 k0_t8
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2393 : BitVec 32 := 0#32
  ![1, 2, v3851.toNat, 0]
def k0_off165 (k0_t8 : Fin k0_t8_loop.trips) : Fin 4 → Nat :=
  let c1_i32_2415 : BitVec 32 := 1#32
  let c2_i32_2416 : BitVec 32 := 2#32
  let c0_i32_2061 : BitVec 32 := 0#32
  let c1_i32_2063 : BitVec 32 := 1#32
  let arg19 : BitVec 32 := Scf.iv c0_i32_2061 c1_i32_2063 k0_t8
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2417 : BitVec 32 := 0#32
  ![1, 2, v3851.toNat, 0]
def k0_off166 (k0_t8 : Fin k0_t8_loop.trips) : Fin 4 → Nat :=
  let c1_i32_2419 : BitVec 32 := 1#32
  let c3_i32_2420 : BitVec 32 := 3#32
  let c0_i32_2061 : BitVec 32 := 0#32
  let c1_i32_2063 : BitVec 32 := 1#32
  let arg19 : BitVec 32 := Scf.iv c0_i32_2061 c1_i32_2063 k0_t8
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2421 : BitVec 32 := 0#32
  ![1, 3, v3851.toNat, 0]
def k0_off167 (k0_t8 : Fin k0_t8_loop.trips) : Fin 4 → Nat :=
  let c1_i32_2447 : BitVec 32 := 1#32
  let c4_i32_2448 : BitVec 32 := 4#32
  let c0_i32_2061 : BitVec 32 := 0#32
  let c1_i32_2063 : BitVec 32 := 1#32
  let arg19 : BitVec 32 := Scf.iv c0_i32_2061 c1_i32_2063 k0_t8
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2449 : BitVec 32 := 0#32
  ![1, 4, v3851.toNat, 0]
def k0_off168 (k0_t8 : Fin k0_t8_loop.trips) : Fin 4 → Nat :=
  let c1_i32_2479 : BitVec 32 := 1#32
  let c5_i32_2480 : BitVec 32 := 5#32
  let c0_i32_2061 : BitVec 32 := 0#32
  let c1_i32_2063 : BitVec 32 := 1#32
  let arg19 : BitVec 32 := Scf.iv c0_i32_2061 c1_i32_2063 k0_t8
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2481 : BitVec 32 := 0#32
  ![1, 5, v3851.toNat, 0]
def k0_off169 (k0_t8 : Fin k0_t8_loop.trips) : Fin 4 → Nat :=
  let c1_i32_2507 : BitVec 32 := 1#32
  let c6_i32_2508 : BitVec 32 := 6#32
  let c0_i32_2061 : BitVec 32 := 0#32
  let c1_i32_2063 : BitVec 32 := 1#32
  let arg19 : BitVec 32 := Scf.iv c0_i32_2061 c1_i32_2063 k0_t8
  let c2_i32_2129 : BitVec 32 := 2#32
  let v3631 : BitVec 32 := Scalar.muli arg19 c2_i32_2129
  let c1_i32_2325 : BitVec 32 := 1#32
  let v3851 : BitVec 32 := Scalar.addi v3631 c1_i32_2325
  let c0_i32_2509 : BitVec 32 := 0#32
  ![1, 6, v3851.toNat, 0]

def k0_chk464 (v179 : IVec S16 32) (v207 : IVec S16 32) (v259 : IVec S16 32) (v287 : IVec S16 32) (v3366 : IVec S16 32) (v3369 : IVec S16 32) (v3370 : IVec S16 32) (v3372 : IVec S16 32) (v3373 : IVec S16 32) (v3853 : IVec S16 32) : Prop :=
  (∀ a x, ((![v3366, v3369, v3853, v179] : Fin 4 → IVec S16 32) a x).toNat < S2x7x64x128.size a) ∧
  (∀ a x, ((![v3366, v3370, v3853, v207] : Fin 4 → IVec S16 32) a x).toNat < S2x7x64x128.size a) ∧
  (∀ a x, ((![v3366, v3372, v3853, v259] : Fin 4 → IVec S16 32) a x).toNat < S2x7x64x128.size a) ∧
  (∀ a x, ((![v3366, v3373, v3853, v287] : Fin 4 → IVec S16 32) a x).toNat < S2x7x64x128.size a)
theorem k0_idx509_inb : ∀ (v179 : IVec S16 32) (v207 : IVec S16 32) (v259 : IVec S16 32) (v287 : IVec S16 32) (v3366 : IVec S16 32) (v3369 : IVec S16 32) (v3370 : IVec S16 32) (v3372 : IVec S16 32) (v3373 : IVec S16 32) (v3853 : IVec S16 32) (k0_hw464 : k0_chk464 v179 v207 v259 v287 v3366 v3369 v3370 v3372 v3373 v3853), ∀ a x, ((![v3366, v3369, v3853, v179] : Fin 4 → IVec S16 32) a x).toNat < S2x7x64x128.size a := fun v179 v207 v259 v287 v3366 v3369 v3370 v3372 v3373 v3853 k0_hw464 => k0_hw464.1
theorem k0_idx510_inb : ∀ (v179 : IVec S16 32) (v207 : IVec S16 32) (v259 : IVec S16 32) (v287 : IVec S16 32) (v3366 : IVec S16 32) (v3369 : IVec S16 32) (v3370 : IVec S16 32) (v3372 : IVec S16 32) (v3373 : IVec S16 32) (v3853 : IVec S16 32) (k0_hw464 : k0_chk464 v179 v207 v259 v287 v3366 v3369 v3370 v3372 v3373 v3853), ∀ a x, ((![v3366, v3370, v3853, v207] : Fin 4 → IVec S16 32) a x).toNat < S2x7x64x128.size a := fun v179 v207 v259 v287 v3366 v3369 v3370 v3372 v3373 v3853 k0_hw464 => k0_hw464.2.1
theorem k0_idx511_inb : ∀ (v179 : IVec S16 32) (v207 : IVec S16 32) (v259 : IVec S16 32) (v287 : IVec S16 32) (v3366 : IVec S16 32) (v3369 : IVec S16 32) (v3370 : IVec S16 32) (v3372 : IVec S16 32) (v3373 : IVec S16 32) (v3853 : IVec S16 32) (k0_hw464 : k0_chk464 v179 v207 v259 v287 v3366 v3369 v3370 v3372 v3373 v3853), ∀ a x, ((![v3366, v3372, v3853, v259] : Fin 4 → IVec S16 32) a x).toNat < S2x7x64x128.size a := fun v179 v207 v259 v287 v3366 v3369 v3370 v3372 v3373 v3853 k0_hw464 => k0_hw464.2.2.1
theorem k0_idx512_inb : ∀ (v179 : IVec S16 32) (v207 : IVec S16 32) (v259 : IVec S16 32) (v287 : IVec S16 32) (v3366 : IVec S16 32) (v3369 : IVec S16 32) (v3370 : IVec S16 32) (v3372 : IVec S16 32) (v3373 : IVec S16 32) (v3853 : IVec S16 32) (k0_hw464 : k0_chk464 v179 v207 v259 v287 v3366 v3369 v3370 v3372 v3373 v3853), ∀ a x, ((![v3366, v3373, v3853, v287] : Fin 4 → IVec S16 32) a x).toNat < S2x7x64x128.size a := fun v179 v207 v259 v287 v3366 v3369 v3370 v3372 v3373 v3853 k0_hw464 => k0_hw464.2.2.2
def k0_off170 (k0_t8 : Fin k0_t8_loop.trips) : Fin 1 → Nat :=
  let c0_i32_2061 : BitVec 32 := 0#32
  let c1_i32_2063 : BitVec 32 := 1#32
  let arg19 : BitVec 32 := Scf.iv c0_i32_2061 c1_i32_2063 k0_t8
  let c2_i32_2129 : BitVec 32 := 2#32
  let v3631 : BitVec 32 := Scalar.muli arg19 c2_i32_2129
  let c1_i32_2325 : BitVec 32 := 1#32
  let v3851 : BitVec 32 := Scalar.addi v3631 c1_i32_2325
  let c17_i32_2535 : BitVec 32 := 17#32
  let v4069 : BitVec 32 := Scalar.muli v3851 c17_i32_2535
  let v4070 : Index := Scalar.indexCast v4069
  ![v4070.toNat]

def k0_chk465 (v3376 : IVec S16 32) : Prop :=
  (∀ a x, ((![v3376] : Fin 1 → IVec S16 32) a x).toNat < S1088.size a)
theorem k0_idx513_inb : ∀ (v3376 : IVec S16 32) (k0_hw465 : k0_chk465 v3376), ∀ a x, ((![v3376] : Fin 1 → IVec S16 32) a x).toNat < S1088.size a := fun v3376 k0_hw465 => k0_hw465

def k0_chk466 (v3379 : IVec S16 32) : Prop :=
  (∀ a x, ((![v3379] : Fin 1 → IVec S16 32) a x).toNat < S1088.size a)
theorem k0_idx514_inb : ∀ (v3379 : IVec S16 32) (k0_hw466 : k0_chk466 v3379), ∀ a x, ((![v3379] : Fin 1 → IVec S16 32) a x).toNat < S1088.size a := fun v3379 k0_hw466 => k0_hw466

def k0_chk467 (v3383 : IVec S16 32) : Prop :=
  (∀ a x, ((![v3383] : Fin 1 → IVec S16 32) a x).toNat < S1088.size a)
theorem k0_idx515_inb : ∀ (v3383 : IVec S16 32) (k0_hw467 : k0_chk467 v3383), ∀ a x, ((![v3383] : Fin 1 → IVec S16 32) a x).toNat < S1088.size a := fun v3383 k0_hw467 => k0_hw467

def k0_chk468 (v3387 : IVec S16 32) : Prop :=
  (∀ a x, ((![v3387] : Fin 1 → IVec S16 32) a x).toNat < S1088.size a)
theorem k0_idx516_inb : ∀ (v3387 : IVec S16 32) (k0_hw468 : k0_chk468 v3387), ∀ a x, ((![v3387] : Fin 1 → IVec S16 32) a x).toNat < S1088.size a := fun v3387 k0_hw468 => k0_hw468

def k0_chk469 (v3391 : IVec S16 32) : Prop :=
  (∀ a x, ((![v3391] : Fin 1 → IVec S16 32) a x).toNat < S1088.size a)
theorem k0_idx517_inb : ∀ (v3391 : IVec S16 32) (k0_hw469 : k0_chk469 v3391), ∀ a x, ((![v3391] : Fin 1 → IVec S16 32) a x).toNat < S1088.size a := fun v3391 k0_hw469 => k0_hw469

def k0_chk470 (v3395 : IVec S16 32) : Prop :=
  (∀ a x, ((![v3395] : Fin 1 → IVec S16 32) a x).toNat < S1088.size a)
theorem k0_idx518_inb : ∀ (v3395 : IVec S16 32) (k0_hw470 : k0_chk470 v3395), ∀ a x, ((![v3395] : Fin 1 → IVec S16 32) a x).toNat < S1088.size a := fun v3395 k0_hw470 => k0_hw470

def k0_chk471 (v3399 : IVec S16 32) : Prop :=
  (∀ a x, ((![v3399] : Fin 1 → IVec S16 32) a x).toNat < S1088.size a)
theorem k0_idx519_inb : ∀ (v3399 : IVec S16 32) (k0_hw471 : k0_chk471 v3399), ∀ a x, ((![v3399] : Fin 1 → IVec S16 32) a x).toNat < S1088.size a := fun v3399 k0_hw471 => k0_hw471

def k0_chk472 (v3403 : IVec S16 32) : Prop :=
  (∀ a x, ((![v3403] : Fin 1 → IVec S16 32) a x).toNat < S1088.size a)
theorem k0_idx520_inb : ∀ (v3403 : IVec S16 32) (k0_hw472 : k0_chk472 v3403), ∀ a x, ((![v3403] : Fin 1 → IVec S16 32) a x).toNat < S1088.size a := fun v3403 k0_hw472 => k0_hw472

def k0_chk473 (v3407 : IVec S16 32) : Prop :=
  (∀ a x, ((![v3407] : Fin 1 → IVec S16 32) a x).toNat < S1088.size a)
theorem k0_idx521_inb : ∀ (v3407 : IVec S16 32) (k0_hw473 : k0_chk473 v3407), ∀ a x, ((![v3407] : Fin 1 → IVec S16 32) a x).toNat < S1088.size a := fun v3407 k0_hw473 => k0_hw473

def k0_chk474 (v3411 : IVec S16 32) : Prop :=
  (∀ a x, ((![v3411] : Fin 1 → IVec S16 32) a x).toNat < S1088.size a)
theorem k0_idx522_inb : ∀ (v3411 : IVec S16 32) (k0_hw474 : k0_chk474 v3411), ∀ a x, ((![v3411] : Fin 1 → IVec S16 32) a x).toNat < S1088.size a := fun v3411 k0_hw474 => k0_hw474

def k0_chk475 (v3415 : IVec S16 32) : Prop :=
  (∀ a x, ((![v3415] : Fin 1 → IVec S16 32) a x).toNat < S1088.size a)
theorem k0_idx523_inb : ∀ (v3415 : IVec S16 32) (k0_hw475 : k0_chk475 v3415), ∀ a x, ((![v3415] : Fin 1 → IVec S16 32) a x).toNat < S1088.size a := fun v3415 k0_hw475 => k0_hw475

def k0_chk476 (v3419 : IVec S16 32) : Prop :=
  (∀ a x, ((![v3419] : Fin 1 → IVec S16 32) a x).toNat < S1088.size a)
theorem k0_idx524_inb : ∀ (v3419 : IVec S16 32) (k0_hw476 : k0_chk476 v3419), ∀ a x, ((![v3419] : Fin 1 → IVec S16 32) a x).toNat < S1088.size a := fun v3419 k0_hw476 => k0_hw476

def k0_chk477 (v3423 : IVec S16 32) : Prop :=
  (∀ a x, ((![v3423] : Fin 1 → IVec S16 32) a x).toNat < S1088.size a)
theorem k0_idx525_inb : ∀ (v3423 : IVec S16 32) (k0_hw477 : k0_chk477 v3423), ∀ a x, ((![v3423] : Fin 1 → IVec S16 32) a x).toNat < S1088.size a := fun v3423 k0_hw477 => k0_hw477

def k0_chk478 (v3427 : IVec S16 32) : Prop :=
  (∀ a x, ((![v3427] : Fin 1 → IVec S16 32) a x).toNat < S1088.size a)
theorem k0_idx526_inb : ∀ (v3427 : IVec S16 32) (k0_hw478 : k0_chk478 v3427), ∀ a x, ((![v3427] : Fin 1 → IVec S16 32) a x).toNat < S1088.size a := fun v3427 k0_hw478 => k0_hw478

def k0_chk479 (v3431 : IVec S16 32) : Prop :=
  (∀ a x, ((![v3431] : Fin 1 → IVec S16 32) a x).toNat < S1088.size a)
theorem k0_idx527_inb : ∀ (v3431 : IVec S16 32) (k0_hw479 : k0_chk479 v3431), ∀ a x, ((![v3431] : Fin 1 → IVec S16 32) a x).toNat < S1088.size a := fun v3431 k0_hw479 => k0_hw479

def k0_chk480 (v3435 : IVec S16 32) : Prop :=
  (∀ a x, ((![v3435] : Fin 1 → IVec S16 32) a x).toNat < S1088.size a)
theorem k0_idx528_inb : ∀ (v3435 : IVec S16 32) (k0_hw480 : k0_chk480 v3435), ∀ a x, ((![v3435] : Fin 1 → IVec S16 32) a x).toNat < S1088.size a := fun v3435 k0_hw480 => k0_hw480

def k0_chk481 (v3440 : IVec S16 32) : Prop :=
  (∀ a x, ((![v3440] : Fin 1 → IVec S16 32) a x).toNat < S1088.size a)
theorem k0_idx529_inb : ∀ (v3440 : IVec S16 32) (k0_hw481 : k0_chk481 v3440), ∀ a x, ((![v3440] : Fin 1 → IVec S16 32) a x).toNat < S1088.size a := fun v3440 k0_hw481 => k0_hw481

def k0_chk482 (v3443 : IVec S16 32) : Prop :=
  (∀ a x, ((![v3443] : Fin 1 → IVec S16 32) a x).toNat < S1088.size a)
theorem k0_idx530_inb : ∀ (v3443 : IVec S16 32) (k0_hw482 : k0_chk482 v3443), ∀ a x, ((![v3443] : Fin 1 → IVec S16 32) a x).toNat < S1088.size a := fun v3443 k0_hw482 => k0_hw482

def k0_chk483 (v3447 : IVec S16 32) : Prop :=
  (∀ a x, ((![v3447] : Fin 1 → IVec S16 32) a x).toNat < S1088.size a)
theorem k0_idx531_inb : ∀ (v3447 : IVec S16 32) (k0_hw483 : k0_chk483 v3447), ∀ a x, ((![v3447] : Fin 1 → IVec S16 32) a x).toNat < S1088.size a := fun v3447 k0_hw483 => k0_hw483

def k0_chk484 (v3451 : IVec S16 32) : Prop :=
  (∀ a x, ((![v3451] : Fin 1 → IVec S16 32) a x).toNat < S1088.size a)
theorem k0_idx532_inb : ∀ (v3451 : IVec S16 32) (k0_hw484 : k0_chk484 v3451), ∀ a x, ((![v3451] : Fin 1 → IVec S16 32) a x).toNat < S1088.size a := fun v3451 k0_hw484 => k0_hw484

def k0_chk485 (v3455 : IVec S16 32) : Prop :=
  (∀ a x, ((![v3455] : Fin 1 → IVec S16 32) a x).toNat < S1088.size a)
theorem k0_idx533_inb : ∀ (v3455 : IVec S16 32) (k0_hw485 : k0_chk485 v3455), ∀ a x, ((![v3455] : Fin 1 → IVec S16 32) a x).toNat < S1088.size a := fun v3455 k0_hw485 => k0_hw485

def k0_chk486 (v3459 : IVec S16 32) : Prop :=
  (∀ a x, ((![v3459] : Fin 1 → IVec S16 32) a x).toNat < S1088.size a)
theorem k0_idx534_inb : ∀ (v3459 : IVec S16 32) (k0_hw486 : k0_chk486 v3459), ∀ a x, ((![v3459] : Fin 1 → IVec S16 32) a x).toNat < S1088.size a := fun v3459 k0_hw486 => k0_hw486

def k0_chk487 (v3463 : IVec S16 32) : Prop :=
  (∀ a x, ((![v3463] : Fin 1 → IVec S16 32) a x).toNat < S1088.size a)
theorem k0_idx535_inb : ∀ (v3463 : IVec S16 32) (k0_hw487 : k0_chk487 v3463), ∀ a x, ((![v3463] : Fin 1 → IVec S16 32) a x).toNat < S1088.size a := fun v3463 k0_hw487 => k0_hw487

def k0_chk488 (v3467 : IVec S16 32) : Prop :=
  (∀ a x, ((![v3467] : Fin 1 → IVec S16 32) a x).toNat < S1088.size a)
theorem k0_idx536_inb : ∀ (v3467 : IVec S16 32) (k0_hw488 : k0_chk488 v3467), ∀ a x, ((![v3467] : Fin 1 → IVec S16 32) a x).toNat < S1088.size a := fun v3467 k0_hw488 => k0_hw488

def k0_chk489 (v3471 : IVec S16 32) : Prop :=
  (∀ a x, ((![v3471] : Fin 1 → IVec S16 32) a x).toNat < S1088.size a)
theorem k0_idx537_inb : ∀ (v3471 : IVec S16 32) (k0_hw489 : k0_chk489 v3471), ∀ a x, ((![v3471] : Fin 1 → IVec S16 32) a x).toNat < S1088.size a := fun v3471 k0_hw489 => k0_hw489

def k0_chk490 (v3475 : IVec S16 32) : Prop :=
  (∀ a x, ((![v3475] : Fin 1 → IVec S16 32) a x).toNat < S1088.size a)
theorem k0_idx538_inb : ∀ (v3475 : IVec S16 32) (k0_hw490 : k0_chk490 v3475), ∀ a x, ((![v3475] : Fin 1 → IVec S16 32) a x).toNat < S1088.size a := fun v3475 k0_hw490 => k0_hw490

def k0_chk491 (v3479 : IVec S16 32) : Prop :=
  (∀ a x, ((![v3479] : Fin 1 → IVec S16 32) a x).toNat < S1088.size a)
theorem k0_idx539_inb : ∀ (v3479 : IVec S16 32) (k0_hw491 : k0_chk491 v3479), ∀ a x, ((![v3479] : Fin 1 → IVec S16 32) a x).toNat < S1088.size a := fun v3479 k0_hw491 => k0_hw491

def k0_chk492 (v3483 : IVec S16 32) : Prop :=
  (∀ a x, ((![v3483] : Fin 1 → IVec S16 32) a x).toNat < S1088.size a)
theorem k0_idx540_inb : ∀ (v3483 : IVec S16 32) (k0_hw492 : k0_chk492 v3483), ∀ a x, ((![v3483] : Fin 1 → IVec S16 32) a x).toNat < S1088.size a := fun v3483 k0_hw492 => k0_hw492

def k0_chk493 (v3487 : IVec S16 32) : Prop :=
  (∀ a x, ((![v3487] : Fin 1 → IVec S16 32) a x).toNat < S1088.size a)
theorem k0_idx541_inb : ∀ (v3487 : IVec S16 32) (k0_hw493 : k0_chk493 v3487), ∀ a x, ((![v3487] : Fin 1 → IVec S16 32) a x).toNat < S1088.size a := fun v3487 k0_hw493 => k0_hw493

def k0_chk494 (v3491 : IVec S16 32) : Prop :=
  (∀ a x, ((![v3491] : Fin 1 → IVec S16 32) a x).toNat < S1088.size a)
theorem k0_idx542_inb : ∀ (v3491 : IVec S16 32) (k0_hw494 : k0_chk494 v3491), ∀ a x, ((![v3491] : Fin 1 → IVec S16 32) a x).toNat < S1088.size a := fun v3491 k0_hw494 => k0_hw494

def k0_chk495 (v3495 : IVec S16 32) : Prop :=
  (∀ a x, ((![v3495] : Fin 1 → IVec S16 32) a x).toNat < S1088.size a)
theorem k0_idx543_inb : ∀ (v3495 : IVec S16 32) (k0_hw495 : k0_chk495 v3495), ∀ a x, ((![v3495] : Fin 1 → IVec S16 32) a x).toNat < S1088.size a := fun v3495 k0_hw495 => k0_hw495

def k0_chk496 (v3499 : IVec S16 32) : Prop :=
  (∀ a x, ((![v3499] : Fin 1 → IVec S16 32) a x).toNat < S1088.size a)
theorem k0_idx544_inb : ∀ (v3499 : IVec S16 32) (k0_hw496 : k0_chk496 v3499), ∀ a x, ((![v3499] : Fin 1 → IVec S16 32) a x).toNat < S1088.size a := fun v3499 k0_hw496 => k0_hw496

def k0_chk497 (v3504 : IVec S16 32) : Prop :=
  (∀ a x, ((![v3504] : Fin 1 → IVec S16 32) a x).toNat < S1088.size a)
theorem k0_idx545_inb : ∀ (v3504 : IVec S16 32) (k0_hw497 : k0_chk497 v3504), ∀ a x, ((![v3504] : Fin 1 → IVec S16 32) a x).toNat < S1088.size a := fun v3504 k0_hw497 => k0_hw497

def k0_chk498 (v3507 : IVec S16 32) : Prop :=
  (∀ a x, ((![v3507] : Fin 1 → IVec S16 32) a x).toNat < S1088.size a)
theorem k0_idx546_inb : ∀ (v3507 : IVec S16 32) (k0_hw498 : k0_chk498 v3507), ∀ a x, ((![v3507] : Fin 1 → IVec S16 32) a x).toNat < S1088.size a := fun v3507 k0_hw498 => k0_hw498

def k0_chk499 (v3511 : IVec S16 32) : Prop :=
  (∀ a x, ((![v3511] : Fin 1 → IVec S16 32) a x).toNat < S1088.size a)
theorem k0_idx547_inb : ∀ (v3511 : IVec S16 32) (k0_hw499 : k0_chk499 v3511), ∀ a x, ((![v3511] : Fin 1 → IVec S16 32) a x).toNat < S1088.size a := fun v3511 k0_hw499 => k0_hw499

def k0_chk500 (v3515 : IVec S16 32) : Prop :=
  (∀ a x, ((![v3515] : Fin 1 → IVec S16 32) a x).toNat < S1088.size a)
theorem k0_idx548_inb : ∀ (v3515 : IVec S16 32) (k0_hw500 : k0_chk500 v3515), ∀ a x, ((![v3515] : Fin 1 → IVec S16 32) a x).toNat < S1088.size a := fun v3515 k0_hw500 => k0_hw500

def k0_chk501 (v3519 : IVec S16 32) : Prop :=
  (∀ a x, ((![v3519] : Fin 1 → IVec S16 32) a x).toNat < S1088.size a)
theorem k0_idx549_inb : ∀ (v3519 : IVec S16 32) (k0_hw501 : k0_chk501 v3519), ∀ a x, ((![v3519] : Fin 1 → IVec S16 32) a x).toNat < S1088.size a := fun v3519 k0_hw501 => k0_hw501

def k0_chk502 (v3523 : IVec S16 32) : Prop :=
  (∀ a x, ((![v3523] : Fin 1 → IVec S16 32) a x).toNat < S1088.size a)
theorem k0_idx550_inb : ∀ (v3523 : IVec S16 32) (k0_hw502 : k0_chk502 v3523), ∀ a x, ((![v3523] : Fin 1 → IVec S16 32) a x).toNat < S1088.size a := fun v3523 k0_hw502 => k0_hw502

def k0_chk503 (v3527 : IVec S16 32) : Prop :=
  (∀ a x, ((![v3527] : Fin 1 → IVec S16 32) a x).toNat < S1088.size a)
theorem k0_idx551_inb : ∀ (v3527 : IVec S16 32) (k0_hw503 : k0_chk503 v3527), ∀ a x, ((![v3527] : Fin 1 → IVec S16 32) a x).toNat < S1088.size a := fun v3527 k0_hw503 => k0_hw503

def k0_chk504 (v3531 : IVec S16 32) : Prop :=
  (∀ a x, ((![v3531] : Fin 1 → IVec S16 32) a x).toNat < S1088.size a)
theorem k0_idx552_inb : ∀ (v3531 : IVec S16 32) (k0_hw504 : k0_chk504 v3531), ∀ a x, ((![v3531] : Fin 1 → IVec S16 32) a x).toNat < S1088.size a := fun v3531 k0_hw504 => k0_hw504

def k0_chk505 (v3535 : IVec S16 32) : Prop :=
  (∀ a x, ((![v3535] : Fin 1 → IVec S16 32) a x).toNat < S1088.size a)
theorem k0_idx553_inb : ∀ (v3535 : IVec S16 32) (k0_hw505 : k0_chk505 v3535), ∀ a x, ((![v3535] : Fin 1 → IVec S16 32) a x).toNat < S1088.size a := fun v3535 k0_hw505 => k0_hw505

def k0_chk506 (v3539 : IVec S16 32) : Prop :=
  (∀ a x, ((![v3539] : Fin 1 → IVec S16 32) a x).toNat < S1088.size a)
theorem k0_idx554_inb : ∀ (v3539 : IVec S16 32) (k0_hw506 : k0_chk506 v3539), ∀ a x, ((![v3539] : Fin 1 → IVec S16 32) a x).toNat < S1088.size a := fun v3539 k0_hw506 => k0_hw506

def k0_chk507 (v3543 : IVec S16 32) : Prop :=
  (∀ a x, ((![v3543] : Fin 1 → IVec S16 32) a x).toNat < S1088.size a)
theorem k0_idx555_inb : ∀ (v3543 : IVec S16 32) (k0_hw507 : k0_chk507 v3543), ∀ a x, ((![v3543] : Fin 1 → IVec S16 32) a x).toNat < S1088.size a := fun v3543 k0_hw507 => k0_hw507

def k0_chk508 (v3547 : IVec S16 32) : Prop :=
  (∀ a x, ((![v3547] : Fin 1 → IVec S16 32) a x).toNat < S1088.size a)
theorem k0_idx556_inb : ∀ (v3547 : IVec S16 32) (k0_hw508 : k0_chk508 v3547), ∀ a x, ((![v3547] : Fin 1 → IVec S16 32) a x).toNat < S1088.size a := fun v3547 k0_hw508 => k0_hw508

def k0_chk509 (v3551 : IVec S16 32) : Prop :=
  (∀ a x, ((![v3551] : Fin 1 → IVec S16 32) a x).toNat < S1088.size a)
theorem k0_idx557_inb : ∀ (v3551 : IVec S16 32) (k0_hw509 : k0_chk509 v3551), ∀ a x, ((![v3551] : Fin 1 → IVec S16 32) a x).toNat < S1088.size a := fun v3551 k0_hw509 => k0_hw509

def k0_chk510 (v3555 : IVec S16 32) : Prop :=
  (∀ a x, ((![v3555] : Fin 1 → IVec S16 32) a x).toNat < S1088.size a)
theorem k0_idx558_inb : ∀ (v3555 : IVec S16 32) (k0_hw510 : k0_chk510 v3555), ∀ a x, ((![v3555] : Fin 1 → IVec S16 32) a x).toNat < S1088.size a := fun v3555 k0_hw510 => k0_hw510

def k0_chk511 (v3559 : IVec S16 32) : Prop :=
  (∀ a x, ((![v3559] : Fin 1 → IVec S16 32) a x).toNat < S1088.size a)
theorem k0_idx559_inb : ∀ (v3559 : IVec S16 32) (k0_hw511 : k0_chk511 v3559), ∀ a x, ((![v3559] : Fin 1 → IVec S16 32) a x).toNat < S1088.size a := fun v3559 k0_hw511 => k0_hw511

def k0_chk512 (v3563 : IVec S16 32) : Prop :=
  (∀ a x, ((![v3563] : Fin 1 → IVec S16 32) a x).toNat < S1088.size a)
theorem k0_idx560_inb : ∀ (v3563 : IVec S16 32) (k0_hw512 : k0_chk512 v3563), ∀ a x, ((![v3563] : Fin 1 → IVec S16 32) a x).toNat < S1088.size a := fun v3563 k0_hw512 => k0_hw512

def k0_chk513 (v3568 : IVec S16 32) : Prop :=
  (∀ a x, ((![v3568] : Fin 1 → IVec S16 32) a x).toNat < S1088.size a)
theorem k0_idx561_inb : ∀ (v3568 : IVec S16 32) (k0_hw513 : k0_chk513 v3568), ∀ a x, ((![v3568] : Fin 1 → IVec S16 32) a x).toNat < S1088.size a := fun v3568 k0_hw513 => k0_hw513

def k0_chk514 (v3571 : IVec S16 32) : Prop :=
  (∀ a x, ((![v3571] : Fin 1 → IVec S16 32) a x).toNat < S1088.size a)
theorem k0_idx562_inb : ∀ (v3571 : IVec S16 32) (k0_hw514 : k0_chk514 v3571), ∀ a x, ((![v3571] : Fin 1 → IVec S16 32) a x).toNat < S1088.size a := fun v3571 k0_hw514 => k0_hw514

def k0_chk515 (v3575 : IVec S16 32) : Prop :=
  (∀ a x, ((![v3575] : Fin 1 → IVec S16 32) a x).toNat < S1088.size a)
theorem k0_idx563_inb : ∀ (v3575 : IVec S16 32) (k0_hw515 : k0_chk515 v3575), ∀ a x, ((![v3575] : Fin 1 → IVec S16 32) a x).toNat < S1088.size a := fun v3575 k0_hw515 => k0_hw515

def k0_chk516 (v3579 : IVec S16 32) : Prop :=
  (∀ a x, ((![v3579] : Fin 1 → IVec S16 32) a x).toNat < S1088.size a)
theorem k0_idx564_inb : ∀ (v3579 : IVec S16 32) (k0_hw516 : k0_chk516 v3579), ∀ a x, ((![v3579] : Fin 1 → IVec S16 32) a x).toNat < S1088.size a := fun v3579 k0_hw516 => k0_hw516

def k0_chk517 (v3583 : IVec S16 32) : Prop :=
  (∀ a x, ((![v3583] : Fin 1 → IVec S16 32) a x).toNat < S1088.size a)
theorem k0_idx565_inb : ∀ (v3583 : IVec S16 32) (k0_hw517 : k0_chk517 v3583), ∀ a x, ((![v3583] : Fin 1 → IVec S16 32) a x).toNat < S1088.size a := fun v3583 k0_hw517 => k0_hw517

def k0_chk518 (v3587 : IVec S16 32) : Prop :=
  (∀ a x, ((![v3587] : Fin 1 → IVec S16 32) a x).toNat < S1088.size a)
theorem k0_idx566_inb : ∀ (v3587 : IVec S16 32) (k0_hw518 : k0_chk518 v3587), ∀ a x, ((![v3587] : Fin 1 → IVec S16 32) a x).toNat < S1088.size a := fun v3587 k0_hw518 => k0_hw518

def k0_chk519 (v3591 : IVec S16 32) : Prop :=
  (∀ a x, ((![v3591] : Fin 1 → IVec S16 32) a x).toNat < S1088.size a)
theorem k0_idx567_inb : ∀ (v3591 : IVec S16 32) (k0_hw519 : k0_chk519 v3591), ∀ a x, ((![v3591] : Fin 1 → IVec S16 32) a x).toNat < S1088.size a := fun v3591 k0_hw519 => k0_hw519

def k0_chk520 (v3595 : IVec S16 32) : Prop :=
  (∀ a x, ((![v3595] : Fin 1 → IVec S16 32) a x).toNat < S1088.size a)
theorem k0_idx568_inb : ∀ (v3595 : IVec S16 32) (k0_hw520 : k0_chk520 v3595), ∀ a x, ((![v3595] : Fin 1 → IVec S16 32) a x).toNat < S1088.size a := fun v3595 k0_hw520 => k0_hw520

def k0_chk521 (v3599 : IVec S16 32) : Prop :=
  (∀ a x, ((![v3599] : Fin 1 → IVec S16 32) a x).toNat < S1088.size a)
theorem k0_idx569_inb : ∀ (v3599 : IVec S16 32) (k0_hw521 : k0_chk521 v3599), ∀ a x, ((![v3599] : Fin 1 → IVec S16 32) a x).toNat < S1088.size a := fun v3599 k0_hw521 => k0_hw521

def k0_chk522 (v3603 : IVec S16 32) : Prop :=
  (∀ a x, ((![v3603] : Fin 1 → IVec S16 32) a x).toNat < S1088.size a)
theorem k0_idx570_inb : ∀ (v3603 : IVec S16 32) (k0_hw522 : k0_chk522 v3603), ∀ a x, ((![v3603] : Fin 1 → IVec S16 32) a x).toNat < S1088.size a := fun v3603 k0_hw522 => k0_hw522

def k0_chk523 (v3607 : IVec S16 32) : Prop :=
  (∀ a x, ((![v3607] : Fin 1 → IVec S16 32) a x).toNat < S1088.size a)
theorem k0_idx571_inb : ∀ (v3607 : IVec S16 32) (k0_hw523 : k0_chk523 v3607), ∀ a x, ((![v3607] : Fin 1 → IVec S16 32) a x).toNat < S1088.size a := fun v3607 k0_hw523 => k0_hw523

def k0_chk524 (v3611 : IVec S16 32) : Prop :=
  (∀ a x, ((![v3611] : Fin 1 → IVec S16 32) a x).toNat < S1088.size a)
theorem k0_idx572_inb : ∀ (v3611 : IVec S16 32) (k0_hw524 : k0_chk524 v3611), ∀ a x, ((![v3611] : Fin 1 → IVec S16 32) a x).toNat < S1088.size a := fun v3611 k0_hw524 => k0_hw524

def k0_chk525 (v3615 : IVec S16 32) : Prop :=
  (∀ a x, ((![v3615] : Fin 1 → IVec S16 32) a x).toNat < S1088.size a)
theorem k0_idx573_inb : ∀ (v3615 : IVec S16 32) (k0_hw525 : k0_chk525 v3615), ∀ a x, ((![v3615] : Fin 1 → IVec S16 32) a x).toNat < S1088.size a := fun v3615 k0_hw525 => k0_hw525

def k0_chk526 (v3619 : IVec S16 32) : Prop :=
  (∀ a x, ((![v3619] : Fin 1 → IVec S16 32) a x).toNat < S1088.size a)
theorem k0_idx574_inb : ∀ (v3619 : IVec S16 32) (k0_hw526 : k0_chk526 v3619), ∀ a x, ((![v3619] : Fin 1 → IVec S16 32) a x).toNat < S1088.size a := fun v3619 k0_hw526 => k0_hw526

def k0_chk527 (v3623 : IVec S16 32) : Prop :=
  (∀ a x, ((![v3623] : Fin 1 → IVec S16 32) a x).toNat < S1088.size a)
theorem k0_idx575_inb : ∀ (v3623 : IVec S16 32) (k0_hw527 : k0_chk527 v3623), ∀ a x, ((![v3623] : Fin 1 → IVec S16 32) a x).toNat < S1088.size a := fun v3623 k0_hw527 => k0_hw527

def k0_chk528 (v3627 : IVec S16 32) : Prop :=
  (∀ a x, ((![v3627] : Fin 1 → IVec S16 32) a x).toNat < S1088.size a)
theorem k0_idx576_inb : ∀ (v3627 : IVec S16 32) (k0_hw528 : k0_chk528 v3627), ∀ a x, ((![v3627] : Fin 1 → IVec S16 32) a x).toNat < S1088.size a := fun v3627 k0_hw528 => k0_hw528
def k0_off171 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S100000x128 : Shape := ⟨2, ![100000, 128]⟩
abbrev S1000x128 : Shape := ⟨2, ![1000, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩
abbrev S16384x107 : Shape := ⟨2, ![16384, 107]⟩
abbrev S16384x21 : Shape := ⟨2, ![16384, 21]⟩
abbrev S16384x86 : Shape := ⟨2, ![16384, 86]⟩
abbrev S16384x42 : Shape := ⟨2, ![16384, 42]⟩
abbrev S16384x64 : Shape := ⟨2, ![16384, 64]⟩
abbrev S16384x43 : Shape := ⟨2, ![16384, 43]⟩
abbrev S16384x85 : Shape := ⟨2, ![16384, 85]⟩
abbrev S16384x22 : Shape := ⟨2, ![16384, 22]⟩
abbrev S16384x106 : Shape := ⟨2, ![16384, 106]⟩

abbrev nBuf : Space → Nat
  | .hbm => 193
  | .vmem => 0
  | .smem => 0
  | _ => 0

abbrev hbmTy0_0 (i : Nat) : BufTy := match i % 128 with
  | 0 => ⟨S16384, .i32⟩
  | 1 => ⟨S16384, .i32⟩
  | 2 => ⟨S16384, .i32⟩
  | 3 => ⟨S16384, .i32⟩
  | 4 => ⟨S16384, .i32⟩
  | 5 => ⟨S16384, .i32⟩
  | 6 => ⟨S16384, .i32⟩
  | 7 => ⟨S100000x128, .f32⟩
  | 8 => ⟨S1000x128, .f32⟩
  | 9 => ⟨S_, .i32⟩
  | 10 => ⟨S16384, .i32⟩
  | 11 => ⟨S16384, .i1⟩
  | 12 => ⟨S_, .i32⟩
  | 13 => ⟨S16384, .i32⟩
  | 14 => ⟨S16384, .i32⟩
  | 15 => ⟨S16384, .i32⟩
  | 16 => ⟨S16384x1, .i32⟩
  | 17 => ⟨S1, .i32⟩
  | 18 => ⟨S_, .i32⟩
  | 19 => ⟨S16384x1, .i32⟩
  | 20 => ⟨S16384x1, .i1⟩
  | 21 => ⟨S1x1, .i32⟩
  | 22 => ⟨S16384x1, .i32⟩
  | 23 => ⟨S16384x1, .i1⟩
  | 24 => ⟨S16384x1, .i1⟩
  | 25 => ⟨S_, .i1⟩
  | 26 => ⟨S16384, .i1⟩
  | 27 => ⟨S16384x128, .f32⟩
  | 28 => ⟨S16384x128, .i1⟩
  | 29 => ⟨S_, .f32⟩
  | 30 => ⟨S16384x128, .f32⟩
  | 31 => ⟨S16384x128, .f32⟩
  | 32 => ⟨S_, .i32⟩
  | 33 => ⟨S16384, .i32⟩
  | 34 => ⟨S16384, .i1⟩
  | 35 => ⟨S_, .i32⟩
  | 36 => ⟨S16384, .i32⟩
  | 37 => ⟨S16384, .i32⟩
  | 38 => ⟨S16384, .i32⟩
  | 39 => ⟨S16384x1, .i32⟩
  | 40 => ⟨S1, .i32⟩
  | 41 => ⟨S_, .i32⟩
  | 42 => ⟨S16384x1, .i32⟩
  | 43 => ⟨S16384x1, .i1⟩
  | 44 => ⟨S1x1, .i32⟩
  | 45 => ⟨S16384x1, .i32⟩
  | 46 => ⟨S16384x1, .i1⟩
  | 47 => ⟨S16384x1, .i1⟩
  | 48 => ⟨S_, .i1⟩
  | 49 => ⟨S16384, .i1⟩
  | 50 => ⟨S16384x128, .f32⟩
  | 51 => ⟨S16384x128, .i1⟩
  | 52 => ⟨S_, .f32⟩
  | 53 => ⟨S16384x128, .f32⟩
  | 54 => ⟨S16384x128, .f32⟩
  | 55 => ⟨S_, .i32⟩
  | 56 => ⟨S16384, .i32⟩
  | 57 => ⟨S16384, .i1⟩
  | 58 => ⟨S_, .i32⟩
  | 59 => ⟨S16384, .i32⟩
  | 60 => ⟨S16384, .i32⟩
  | 61 => ⟨S16384, .i32⟩
  | 62 => ⟨S16384x1, .i32⟩
  | 63 => ⟨S1, .i32⟩
  | 64 => ⟨S_, .i32⟩
  | 65 => ⟨S16384x1, .i32⟩
  | 66 => ⟨S16384x1, .i1⟩
  | 67 => ⟨S1x1, .i32⟩
  | 68 => ⟨S16384x1, .i32⟩
  | 69 => ⟨S16384x1, .i1⟩
  | 70 => ⟨S16384x1, .i1⟩
  | 71 => ⟨S_, .i1⟩
  | 72 => ⟨S16384, .i1⟩
  | 73 => ⟨S16384x128, .f32⟩
  | 74 => ⟨S16384x128, .i1⟩
  | 75 => ⟨S_, .f32⟩
  | 76 => ⟨S16384x128, .f32⟩
  | 77 => ⟨S16384x128, .f32⟩
  | 78 => ⟨S16384x107, .f32⟩
  | 79 => ⟨S16384x21, .f32⟩
  | 80 => ⟨S16384x128, .f32⟩
  | 81 => ⟨S_, .i32⟩
  | 82 => ⟨S16384, .i32⟩
  | 83 => ⟨S16384, .i1⟩
  | 84 => ⟨S_, .i32⟩
  | 85 => ⟨S16384, .i32⟩
  | 86 => ⟨S16384, .i32⟩
  | 87 => ⟨S16384, .i32⟩
  | 88 => ⟨S16384x1, .i32⟩
  | 89 => ⟨S1, .i32⟩
  | 90 => ⟨S_, .i32⟩
  | 91 => ⟨S16384x1, .i32⟩
  | 92 => ⟨S16384x1, .i1⟩
  | 93 => ⟨S1x1, .i32⟩
  | 94 => ⟨S16384x1, .i32⟩
  | 95 => ⟨S16384x1, .i1⟩
  | 96 => ⟨S16384x1, .i1⟩
  | 97 => ⟨S_, .i1⟩
  | 98 => ⟨S16384, .i1⟩
  | 99 => ⟨S16384x128, .f32⟩
  | 100 => ⟨S16384x128, .i1⟩
  | 101 => ⟨S_, .f32⟩
  | 102 => ⟨S16384x128, .f32⟩
  | 103 => ⟨S16384x128, .f32⟩
  | 104 => ⟨S16384x86, .f32⟩
  | 105 => ⟨S16384x42, .f32⟩
  | 106 => ⟨S16384x128, .f32⟩
  | 107 => ⟨S_, .i32⟩
  | 108 => ⟨S16384, .i32⟩
  | 109 => ⟨S16384, .i1⟩
  | 110 => ⟨S_, .i32⟩
  | 111 => ⟨S16384, .i32⟩
  | 112 => ⟨S16384, .i32⟩
  | 113 => ⟨S16384, .i32⟩
  | 114 => ⟨S16384x1, .i32⟩
  | 115 => ⟨S1, .i32⟩
  | 116 => ⟨S_, .i32⟩
  | 117 => ⟨S16384x1, .i32⟩
  | 118 => ⟨S16384x1, .i1⟩
  | 119 => ⟨S1x1, .i32⟩
  | 120 => ⟨S16384x1, .i32⟩
  | 121 => ⟨S16384x1, .i1⟩
  | 122 => ⟨S16384x1, .i1⟩
  | 123 => ⟨S_, .i1⟩
  | 124 => ⟨S16384, .i1⟩
  | 125 => ⟨S16384x128, .f32⟩
  | 126 => ⟨S16384x128, .i1⟩
  | 127 => ⟨S_, .f32⟩
  | _ => ⟨S16384, .i32⟩

abbrev hbmTy0_1 (i : Nat) : BufTy := match i % 128 with
  | 0 => ⟨S16384x128, .f32⟩
  | 1 => ⟨S16384x128, .f32⟩
  | 2 => ⟨S16384x64, .f32⟩
  | 3 => ⟨S16384x64, .f32⟩
  | 4 => ⟨S16384x128, .f32⟩
  | 5 => ⟨S_, .i32⟩
  | 6 => ⟨S16384, .i32⟩
  | 7 => ⟨S16384, .i1⟩
  | 8 => ⟨S_, .i32⟩
  | 9 => ⟨S16384, .i32⟩
  | 10 => ⟨S16384, .i32⟩
  | 11 => ⟨S16384, .i32⟩
  | 12 => ⟨S16384x1, .i32⟩
  | 13 => ⟨S1, .i32⟩
  | 14 => ⟨S_, .i32⟩
  | 15 => ⟨S16384x1, .i32⟩
  | 16 => ⟨S16384x1, .i1⟩
  | 17 => ⟨S1x1, .i32⟩
  | 18 => ⟨S16384x1, .i32⟩
  | 19 => ⟨S16384x1, .i1⟩
  | 20 => ⟨S16384x1, .i1⟩
  | 21 => ⟨S_, .i1⟩
  | 22 => ⟨S16384, .i1⟩
  | 23 => ⟨S16384x128, .f32⟩
  | 24 => ⟨S16384x128, .i1⟩
  | 25 => ⟨S_, .f32⟩
  | 26 => ⟨S16384x128, .f32⟩
  | 27 => ⟨S16384x128, .f32⟩
  | 28 => ⟨S16384x43, .f32⟩
  | 29 => ⟨S16384x85, .f32⟩
  | 30 => ⟨S16384x128, .f32⟩
  | 31 => ⟨S_, .i32⟩
  | 32 => ⟨S16384, .i32⟩
  | 33 => ⟨S16384, .i1⟩
  | 34 => ⟨S_, .i32⟩
  | 35 => ⟨S16384, .i32⟩
  | 36 => ⟨S16384, .i32⟩
  | 37 => ⟨S16384, .i32⟩
  | 38 => ⟨S16384x1, .i32⟩
  | 39 => ⟨S1, .i32⟩
  | 40 => ⟨S_, .i32⟩
  | 41 => ⟨S16384x1, .i32⟩
  | 42 => ⟨S16384x1, .i1⟩
  | 43 => ⟨S1x1, .i32⟩
  | 44 => ⟨S16384x1, .i32⟩
  | 45 => ⟨S16384x1, .i1⟩
  | 46 => ⟨S16384x1, .i1⟩
  | 47 => ⟨S_, .i1⟩
  | 48 => ⟨S16384, .i1⟩
  | 49 => ⟨S16384x128, .f32⟩
  | 50 => ⟨S16384x128, .i1⟩
  | 51 => ⟨S_, .f32⟩
  | 52 => ⟨S16384x128, .f32⟩
  | 53 => ⟨S16384x128, .f32⟩
  | 54 => ⟨S16384x22, .f32⟩
  | 55 => ⟨S16384x106, .f32⟩
  | 56 => ⟨S16384x128, .f32⟩
  | 57 => ⟨S16384x128, .f32⟩
  | 58 => ⟨S16384x128, .f32⟩
  | 59 => ⟨S16384x128, .f32⟩
  | 60 => ⟨S16384x128, .f32⟩
  | 61 => ⟨S16384x128, .f32⟩
  | 62 => ⟨S16384x128, .f32⟩
  | 63 => ⟨S_, .f32⟩
  | 64 => ⟨S16384, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v1 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v2 : Ref sig .tc := ⟨.hbm, 77, rfl⟩
abbrev main_v3 : Ref sig .tc := ⟨.hbm, 78, rfl⟩
abbrev main_v4 : Ref sig .tc := ⟨.hbm, 79, rfl⟩
abbrev main_v5 : Ref sig .tc := ⟨.hbm, 80, rfl⟩
abbrev main_call3_c : Ref sig .tc := ⟨.hbm, 81, rfl⟩
abbrev main_call3_v0 : Ref sig .tc := ⟨.hbm, 82, rfl⟩
abbrev main_call3_v1 : Ref sig .tc := ⟨.hbm, 83, rfl⟩
abbrev main_call3_c_0 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_c_1 : Ref sig .tc := ⟨.hbm, 89, rfl⟩
abbrev main_call3_c_2 : Ref sig .tc := ⟨.hbm, 90, rfl⟩
abbrev main_call3_v6 : Ref sig .tc := ⟨.hbm, 91, rfl⟩
abbrev main_call3_v7 : Ref sig .tc := ⟨.hbm, 92, rfl⟩
abbrev main_call3_v8 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_c_3 : Ref sig .tc := ⟨.hbm, 97, rfl⟩
abbrev main_call3_v12 : Ref sig .tc := ⟨.hbm, 98, rfl⟩
abbrev main_call3_v13 : Ref sig .tc := ⟨.hbm, 99, rfl⟩
abbrev main_call3_v14 : Ref sig .tc := ⟨.hbm, 100, rfl⟩
abbrev main_call3_cst : Ref sig .tc := ⟨.hbm, 101, rfl⟩
abbrev main_call3_v15 : Ref sig .tc := ⟨.hbm, 102, rfl⟩
abbrev main_v6 : Ref sig .tc := ⟨.hbm, 103, rfl⟩
abbrev main_v7 : Ref sig .tc := ⟨.hbm, 104, rfl⟩
abbrev main_v8 : Ref sig .tc := ⟨.hbm, 105, rfl⟩
abbrev main_v9 : Ref sig .tc := ⟨.hbm, 106, rfl⟩
abbrev main_call4_c : Ref sig .tc := ⟨.hbm, 107, rfl⟩
abbrev main_call4_v0 : Ref sig .tc := ⟨.hbm, 108, rfl⟩
abbrev main_call4_v1 : Ref sig .tc := ⟨.hbm, 109, rfl⟩
abbrev main_call4_c_0 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_call4_v5 : Ref sig .tc := ⟨.hbm, 114, rfl⟩
abbrev main_call4_c_1 : Ref sig .tc := ⟨.hbm, 115, rfl⟩
abbrev main_call4_c_2 : Ref sig .tc := ⟨.hbm, 116, rfl⟩
abbrev main_call4_v6 : Ref sig .tc := ⟨.hbm, 117, rfl⟩
abbrev main_call4_v7 : Ref sig .tc := ⟨.hbm, 118, rfl⟩
abbrev main_call4_v8 : Ref sig .tc := ⟨.hbm, 119, rfl⟩
abbrev main_call4_v9 : Ref sig .tc := ⟨.hbm, 120, rfl⟩
abbrev main_call4_v10 : Ref sig .tc := ⟨.hbm, 121, rfl⟩
abbrev main_call4_v11 : Ref sig .tc := ⟨.hbm, 122, rfl⟩
abbrev main_call4_c_3 : Ref sig .tc := ⟨.hbm, 123, rfl⟩
abbrev main_call4_v12 : Ref sig .tc := ⟨.hbm, 124, rfl⟩
abbrev main_call4_v13 : Ref sig .tc := ⟨.hbm, 125, rfl⟩
abbrev main_call4_v14 : Ref sig .tc := ⟨.hbm, 126, rfl⟩
abbrev main_call4_cst : Ref sig .tc := ⟨.hbm, 127, rfl⟩
abbrev main_call4_v15 : Ref sig .tc := ⟨.hbm, 128, rfl⟩
abbrev main_v10 : Ref sig .tc := ⟨.hbm, 129, rfl⟩
abbrev main_v11 : Ref sig .tc := ⟨.hbm, 130, rfl⟩
abbrev main_v12 : Ref sig .tc := ⟨.hbm, 131, rfl⟩
abbrev main_v13 : Ref sig .tc := ⟨.hbm, 132, rfl⟩
abbrev main_call5_c : Ref sig .tc := ⟨.hbm, 133, rfl⟩
abbrev main_call5_v0 : Ref sig .tc := ⟨.hbm, 134, rfl⟩
abbrev main_call5_v1 : Ref sig .tc := ⟨.hbm, 135, rfl⟩
abbrev main_call5_c_0 : Ref sig .tc := ⟨.hbm, 136, rfl⟩
abbrev main_call5_v2 : Ref sig .tc := ⟨.hbm, 137, rfl⟩
abbrev main_call5_v3 : Ref sig .tc := ⟨.hbm, 138, rfl⟩
abbrev main_call5_v4 : Ref sig .tc := ⟨.hbm, 139, rfl⟩
abbrev main_call5_v5 : Ref sig .tc := ⟨.hbm, 140, rfl⟩
abbrev main_call5_c_1 : Ref sig .tc := ⟨.hbm, 141, rfl⟩
abbrev main_call5_c_2 : Ref sig .tc := ⟨.hbm, 142, rfl⟩
abbrev main_call5_v6 : Ref sig .tc := ⟨.hbm, 143, rfl⟩
abbrev main_call5_v7 : Ref sig .tc := ⟨.hbm, 144, rfl⟩
abbrev main_call5_v8 : Ref sig .tc := ⟨.hbm, 145, rfl⟩
abbrev main_call5_v9 : Ref sig .tc := ⟨.hbm, 146, rfl⟩
abbrev main_call5_v10 : Ref sig .tc := ⟨.hbm, 147, rfl⟩
abbrev main_call5_v11 : Ref sig .tc := ⟨.hbm, 148, rfl⟩
abbrev main_call5_c_3 : Ref sig .tc := ⟨.hbm, 149, rfl⟩
abbrev main_call5_v12 : Ref sig .tc := ⟨.hbm, 150, rfl⟩
abbrev main_call5_v13 : Ref sig .tc := ⟨.hbm, 151, rfl⟩
abbrev main_call5_v14 : Ref sig .tc := ⟨.hbm, 152, rfl⟩
abbrev main_call5_cst : Ref sig .tc := ⟨.hbm, 153, rfl⟩
abbrev main_call5_v15 : Ref sig .tc := ⟨.hbm, 154, rfl⟩
abbrev main_v14 : Ref sig .tc := ⟨.hbm, 155, rfl⟩
abbrev main_v15 : Ref sig .tc := ⟨.hbm, 156, rfl⟩
abbrev main_v16 : Ref sig .tc := ⟨.hbm, 157, rfl⟩
abbrev main_v17 : Ref sig .tc := ⟨.hbm, 158, rfl⟩
abbrev main_call6_c : Ref sig .tc := ⟨.hbm, 159, rfl⟩
abbrev main_call6_v0 : Ref sig .tc := ⟨.hbm, 160, rfl⟩
abbrev main_call6_v1 : Ref sig .tc := ⟨.hbm, 161, rfl⟩
abbrev main_call6_c_0 : Ref sig .tc := ⟨.hbm, 162, rfl⟩
abbrev main_call6_v2 : Ref sig .tc := ⟨.hbm, 163, rfl⟩
abbrev main_call6_v3 : Ref sig .tc := ⟨.hbm, 164, rfl⟩
abbrev main_call6_v4 : Ref sig .tc := ⟨.hbm, 165, rfl⟩
abbrev main_call6_v5 : Ref sig .tc := ⟨.hbm, 166, rfl⟩
abbrev main_call6_c_1 : Ref sig .tc := ⟨.hbm, 167, rfl⟩
abbrev main_call6_c_2 : Ref sig .tc := ⟨.hbm, 168, rfl⟩
abbrev main_call6_v6 : Ref sig .tc := ⟨.hbm, 169, rfl⟩
abbrev main_call6_v7 : Ref sig .tc := ⟨.hbm, 170, rfl⟩
abbrev main_call6_v8 : Ref sig .tc := ⟨.hbm, 171, rfl⟩
abbrev main_call6_v9 : Ref sig .tc := ⟨.hbm, 172, rfl⟩
abbrev main_call6_v10 : Ref sig .tc := ⟨.hbm, 173, rfl⟩
abbrev main_call6_v11 : Ref sig .tc := ⟨.hbm, 174, rfl⟩
abbrev main_call6_c_3 : Ref sig .tc := ⟨.hbm, 175, rfl⟩
abbrev main_call6_v12 : Ref sig .tc := ⟨.hbm, 176, rfl⟩
abbrev main_call6_v13 : Ref sig .tc := ⟨.hbm, 177, rfl⟩
abbrev main_call6_v14 : Ref sig .tc := ⟨.hbm, 178, rfl⟩
abbrev main_call6_cst : Ref sig .tc := ⟨.hbm, 179, rfl⟩
abbrev main_call6_v15 : Ref sig .tc := ⟨.hbm, 180, rfl⟩
abbrev main_v18 : Ref sig .tc := ⟨.hbm, 181, rfl⟩
abbrev main_v19 : Ref sig .tc := ⟨.hbm, 182, rfl⟩
abbrev main_v20 : Ref sig .tc := ⟨.hbm, 183, rfl⟩
abbrev main_v21 : Ref sig .tc := ⟨.hbm, 184, rfl⟩
abbrev main_v22 : Ref sig .tc := ⟨.hbm, 185, rfl⟩
abbrev main_v23 : Ref sig .tc := ⟨.hbm, 186, rfl⟩
abbrev main_v24 : Ref sig .tc := ⟨.hbm, 187, rfl⟩
abbrev main_v25 : Ref sig .tc := ⟨.hbm, 188, rfl⟩
abbrev main_v26 : Ref sig .tc := ⟨.hbm, 189, rfl⟩
abbrev main_v27 : Ref sig .tc := ⟨.hbm, 190, rfl⟩
abbrev main_cst : Ref sig .tc := ⟨.hbm, 191, rfl⟩
abbrev main_v28 : Ref sig .tc := ⟨.hbm, 192, rfl⟩

abbrev nD : Nat := 1
abbrev τ : Topo := Topo.v7x

variable {F : FTy → Type} [FloatOps F]
-- ==== Proof.Held.lean ====
/-
  A buffer whose reads and writes overlap.

  The kernel's row buffer has two slabs. While the rows of one slab are on their way, the tile reads the
  other slab, and some of those reads go through the whole buffer at once. So no split of the buffer by
  element serves: here it is split by share. The left half of every element lies in an invariant; the right
  half of a slab is with whoever uses the slab, the tile or the rows on their way. A row's write opens the
  invariant to have its elements whole; the tile's read through the whole buffer opens it too, and learns
  from its own right half what it reads of its slab. A token for each row and one for the tile let the tile
  close the invariant for good and have the buffer whole again.
-/
module

public import Idealize.ShloMosaic.Lib.Transfers
public import Idealize.ShloMosaic.Lib.SparseCore.Ops
public import Idealize.ShloMosaic.Lib.SparseCore.Stream
public import Idealize.ShloMosaic.Lib.Batch

@[expose] public section

noncomputable section

namespace Cert.Proof.Held

open Idealize.ShloMosaic Idealize.ShloMosaic.Transfers
open Idealize.SL
open Idealize.SL.BI (sProp Storable bigSep bigSep_insert)
open scoped Idealize.SL.BI
open Idealize.SL.BI.BIBase Idealize.SL.BI.Laws Idealize.SL.Sem Idealize.SL.ProofMode
open Idealize.SL.RA

section Held

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

variable (EC : UEmb Counters (MT nD τ sig Ix Val Name U Lvl))
variable {K : Type} [Fintype K]

/-- The two halves of the full share. -/
abbrev lhalf : PosShare TreeShare := (fullShare : PosShare TreeShare).left
abbrev rhalf : PosShare TreeShare := (fullShare : PosShare TreeShare).right

/-- What the invariant of a held buffer says: the left half of every element, or every token. -/
def heldBody (ℓ : Loc nD τ sig) (δ : ℕ) (γ : K → ℕ) : sProp 𝕄 :=
  iprop((∃ f : Buf Val ℓ, ℓ ↦[Finset.univ]{lhalf} f) ∨ (tok EC δ ∗ bigSep Finset.univ fun k => tok EC (γ k)))

instance heldBody_storable [EC.LandsIn (upEmb : UEmb _ 𝕄)] (ℓ : Loc nD τ sig) (δ : ℕ) (γ : K → ℕ) :
    Storable (upEmb : UEmb _ 𝕄) (heldBody (Val := Val) EC ℓ δ γ) := by
  unfold heldBody tok count; infer_instance

omit [Fintype K] [Preorder Lvl] in
/-- A buffer at the full share is its two halves. -/
theorem halves {ℓ : Loc nD τ sig} (S : Finset (Idx ℓ)) (f : Buf Val ℓ) :
    (ℓ ↦[S]{fullShare} f : sProp 𝕄) = iprop((ℓ ↦[S]{lhalf} f) ∗ ℓ ↦[S]{rhalf} f) :=
  BI.Entails.antisymm (pointsTo_share (PosShare.mem_left_op_right fullShare)).1 (pointsTo_share (PosShare.mem_left_op_right fullShare)).2

omit [Fintype K] [Preorder Lvl] in
/-- A buffer is some of its elements and the others. -/
theorem split_univ {ℓ : Loc nD τ sig} (S : Finset (Idx ℓ)) (q : PosShare TreeShare) (f : Buf Val ℓ) :
    (ℓ ↦[Finset.univ]{q} f : sProp 𝕄) = iprop((ℓ ↦[S]{q} f) ∗ ℓ ↦[Finset.univ \ S]{q} f) :=
  BI.Entails.antisymm (pointsTo_split_subset (Finset.subset_univ S)).1 (pointsTo_split_subset (Finset.subset_univ S)).2

omit [Fintype K] [Preorder Lvl] in
/-- The halves of the same elements say the same, and join. -/
theorem join_halves {ℓ : Loc nD τ sig} (S : Finset (Idx ℓ)) (f g : Buf Val ℓ) :
    iprop((ℓ ↦[S]{lhalf} f) ∗ ℓ ↦[S]{rhalf} g) ⊢ (ℓ ↦[S]{fullShare} g : sProp 𝕄) := by
  iintro H
  ihave %h := (pointsTo_agree) $$ H
  have h' : ∀ i ∈ S, f i = g i := fun i hi => (h i (Finset.mem_inter.mpr ⟨hi, hi⟩)).1
  rw [halves S g, pointsTo_congr h']
  iexact H

/-- Giving a whole buffer to the invariant: its right half stays, with every token. -/
theorem held_alloc [Infinite Name] [EC.LandsIn (upEmb : UEmb _ 𝕄)] {ℓ : Loc nD τ sig} (f : Buf Val ℓ) {E : Set Name} :
    (ℓ ↦[Finset.univ]{fullShare} f : sProp 𝕄) ⊢ |={E}=> ∃ δ, ∃ γ : K → ℕ, ∃ ι, inv ι (heldBody (Val := Val) EC ℓ δ γ) ∗ tok EC δ
      ∗ (bigSep Finset.univ fun k => tok EC (γ k)) ∗ ℓ ↦[Finset.univ]{rhalf} f := by
  rw [halves]
  iintro ⟨HL, HR⟩
  imod (counts_alloc_family EC (Finset.univ (α := K))) $$ [] with ⟨%γ, -, Hγ⟩; · iempintro
  imod (count_alloc EC ∅) $$ [] with ⟨%δ, -, -, Hδ⟩; · iempintro
  imod (inv_alloc (P := heldBody (Val := Val) EC ℓ δ γ) (E := E)) $$ [HL] with ⟨%ι, Hinv⟩
  · unfold heldBody
    ileft; iexists f; iexact HL
  imodintro
  iexists δ, γ, ι
  isplitl [Hinv]; · iexact Hinv
  isplitl [Hδ]; · iexact Hδ
  isplitl [Hγ]; · iexact Hγ
  iexact HR

/-- With every token and the right half back, the buffer is whole again. -/
theorem held_close {ℓ : Loc nD τ sig} {δ : ℕ} {γ : K → ℕ} {ι : Name} (f : Buf Val ℓ) :
    iprop(inv ι (heldBody (Val := Val) EC ℓ δ γ) ∗ tok EC δ ∗ (bigSep Finset.univ fun k => tok EC (γ k)) ∗ ℓ ↦[Finset.univ]{rhalf} f)
      ⊢ (|={Set.univ}=> (ℓ ↦[Finset.univ]{fullShare} f) : sProp 𝕄) := by
  iintro ⟨#Hinv, Hδ, Hγ, HR⟩
  imod (inv_acc (Set.mem_univ ι)) $$ Hinv with ⟨HB, Hclose⟩
  unfold heldBody
  icases HB with (⟨%f', HL⟩ | ⟨Hδ', -⟩)
  · ispecialize Hclose $$ [Hδ Hγ]
    · iright
      isplitl [Hδ]; · iexact Hδ
      iexact Hγ
    imod Hclose
    imodintro
    iapply (join_halves Finset.univ f' f)
    isplitl [HL] <;> iassumption
  · iexfalso
    iapply (tok_tok_false EC δ)
    isplitl [Hδ] <;> iassumption

omit [Fintype K] [Preorder Lvl] in
/-- Elements of a buffer rewritten are the buffer at some contents. -/
theorem rejoin {ℓ : Loc nD τ sig} (S : Finset (Idx ℓ)) (q : PosShare TreeShare) (f g : Buf Val ℓ) :
    iprop((ℓ ↦[S]{q} g) ∗ ℓ ↦[Finset.univ \ S]{q} f) ⊢ (∃ f' : Buf Val ℓ, ℓ ↦[Finset.univ]{q} f' : sProp 𝕄) := by
  classical
  have hg : (ℓ ↦[S]{q} g : sProp 𝕄) = ℓ ↦[S]{q} (fun i => if i ∈ S then g i else f i) :=
    pointsTo_congr fun i hi => by rw [if_pos hi]
  have hf : (ℓ ↦[Finset.univ \ S]{q} f : sProp 𝕄) = ℓ ↦[Finset.univ \ S]{q} (fun i => if i ∈ S then g i else f i) :=
    pointsTo_congr fun i hi => by rw [if_neg (Finset.mem_sdiff.mp hi).2]
  rw [hg, hf]
  iintro H
  iexists fun i => if i ∈ S then g i else f i
  rw [split_univ S]
  iexact H

variable (c : Thread nD τ) {sp : Space} {s : Shape} {e : EltTy}

/-- The write of a row of a held buffer: from the row's right half and its token, at each part of the write the
    invariant gives the left half, and takes it back. -/
theorem held_writeUpdate [DecidableEq K] {v : View sig c.2.kind sp s e} {w : s.Idx → Val e} {fd : Buf Val (v.loc c)}
    {δ : ℕ} {γ : K → ℕ} {ι : Name} (k : K) :
    iprop(inv ι (heldBody (Val := Val) EC (v.loc c) δ γ) ∗ (v.loc c ↦[v.set]{rhalf} fd) ∗ tok EC (γ k))
      ⊢ (writeUpdate c v w iprop((v.loc c ↦[v.set]{rhalf} (v.write Val fd w Finset.univ)) ∗ tok EC (γ k)) : sProp 𝕄) := by
  rw [writeUpdate, writeUpdateFrom_def]
  iintro ⟨#Hinv, HR, Hγ⟩
  iexists (fun M => iprop((v.loc c ↦[v.set]{rhalf} (v.write Val fd w M)) ∗ tok EC (γ k)))
  simp only [View.write_empty]
  isplitl [HR Hγ]; · isplitl [HR] <;> iassumption
  isplitr
  · rw [writeSteps_def]
    imodintro
    iintro %M %M' ⟨HR, Hγ⟩
    iapply (atomically_intro_at frame Set.univ (Set.univ \ {ι}) (storeSpec c v w M') _)
    imod (inv_acc (Set.mem_univ ι)) $$ Hinv with ⟨HB, Hclose⟩
    unfold heldBody
    icases HB with (⟨%f, HL⟩ | ⟨-, HT⟩)
    · imodintro
      rw [storeSpec_apply]
      ihave HL := (Entails.of_eq (split_univ v.set lhalf f)) $$ HL
      icases HL with ⟨HL, Hrest⟩
      ihave HF := (join_halves v.set f (v.write Val fd w M)) $$ [HL HR]; · isplitl [HL] <;> iassumption
      iexists v.set, (v.write Val fd w M)
      isplitl [HF]; · iexact HF
      isplitr; · ipureintro; exact v.setOn_subset_set _
      rw [View.write_write_union, halves]
      iintro HF
      icases HF with ⟨HL, HR⟩
      ihave HL := (rejoin v.set lhalf f (v.write Val fd w (M ∪ M'))) $$ [HL Hrest]; · isplitl [HL] <;> iassumption
      ispecialize Hclose $$ [HL]
      · ileft; iexact HL
      imod Hclose
      imodintro
      isplitl [HR] <;> iassumption
    · iexfalso
      ihave HT := (show (bigSep Finset.univ fun k => tok EC (γ k) : sProp 𝕄) ⊢ iprop(tok EC (γ k) ∗ bigSep (Finset.univ.erase k) fun k => tok EC (γ k))
        from Entails.of_eq (BI.bigSep_erase (Finset.mem_univ k))) $$ HT
      icases HT with ⟨Hγ', -⟩
      iapply (tok_tok_false EC (γ k))
      isplitl [Hγ] <;> iassumption
  · iintro H; iexact H

end Held

section Read

variable {nD : Nat} {τ : Topo} {sig : RefSig} {Ix : Type} [DecidableEq Ix] {F : FTy → Type} {Name : Type} [DecidableEq Name]
variable {U : Type} [URA U] {Lvl : Type} [Preorder Lvl] {Λ : Labels}

local notation "𝕄" => MT nD τ sig Ix (Elt F) Name U Lvl

variable (EC : UEmb Counters (MT nD τ sig Ix (Elt F) Name U Lvl))
variable {K : Type} [Fintype K]
variable {defs : Defs nD τ sig (Elt F) Λ} (𝒱 : Variants) (c : Thread nD τ) (bd : Option 𝒱.V)
variable {s t : Shape} {e : EltTy} {α : Type} {Q : α → sProp (MT nD τ sig Ix (Elt F) Name U Lvl)}

/-- A read of a held buffer at a vector of indices, by the tile: what it reads is read off SOME contents of the buffer
    that are, on the elements whose right half the tile has, the ones it knows. -/
theorem held_vectorLoadIdx {base : Memref sig c.2.kind .vmem s e} {idxs : Fin s.rank → IVec t 32}
    {h : ∀ a x, (idxs a x).toNat < s.size a} {hl : base.view.Loads} {k : Vec F t e → Prog (TpuEff nD τ sig (Elt F) Λ c.2) α}
    {S : Finset (Idx (base.view.loc c))} {g : Buf (Elt F) (base.view.loc c)} {δ : ℕ} {γ : K → ℕ} {ι : Name} :
    iprop(inv ι (heldBody (Val := Elt F) EC (base.view.loc c) δ γ) ∗ tok EC δ ∗ (base.view.loc c ↦[S]{rhalf} g))
      ⊢ iprop((∀ f : Buf (Elt F) (base.view.loc c), ⌜∀ i ∈ S, f i = g i⌝ -∗ (tok EC δ ∗ (base.view.loc c ↦[S]{rhalf} g))
          -∗ wp frame (wpE defs 𝒱 c bd) Set.univ (k (loadIdx ((base.access (.whole s)).read (Elt F) f) idxs h)) Q)
        -∗ wp frame (wpE defs 𝒱 c bd) Set.univ (SparseCore.vectorLoadIdx base idxs h hl >>= k) Q) := by
  rw [SparseCore.vectorLoadIdx_bind]
  iintro ⟨#Hinv, Hδ, HR⟩ Hk
  imod (inv_acc (Set.mem_univ ι)) $$ Hinv with ⟨HB, Hclose⟩
  unfold heldBody
  icases HB with (⟨%f, HL⟩ | ⟨Hδ', -⟩)
  · ihave %hag := (pointsTo_agree (I := Finset.univ) (J := S) (q₁ := lhalf) (q₂ := rhalf) (f := f) (g := g)) $$ [HL HR]
    · isplitl [HL] <;> iassumption
    iapply (atomically_intro frame _ _ _)
    iapply (fp_load c (m := base) (r := (Rect.whole s).toLoadRect) (S := Finset.univ) (q := lhalf) (f := f) (Finset.subset_univ _)) $$ HL
    iintro HL
    ispecialize Hclose $$ [HL]
    · ileft; iexists f; iexact HL
    imod Hclose
    imodintro
    ispecialize Hk $$ %f
    ispecialize Hk $$ []
    · ipureintro; exact fun i hi => (hag i (Finset.mem_inter.mpr ⟨Finset.mem_univ i, hi⟩)).1
    iapply Hk
    isplitl [Hδ] <;> iassumption
  · iexfalso
    iapply (tok_tok_false EC δ)
    isplitl [Hδ] <;> iassumption

end Read

end Cert.Proof.Held
-- ==== Proof.GatherBatch.lean ====
/-
  Several gathers in flight on one semaphore.

  The tile starts seven gathers on one semaphore, and then waits on it seven times, each time for one
  gather's amount. No wait but the last says which rows have landed. So the rows of all seven gathers are
  the members of one batch: a wait takes its units out of the batch, and after the seventh the batch gives
  every row at once. This file has the rule that starts a gather whose rows are the next members of a batch.
-/
module

public import proofs.«01_k».proof.Proof.Held

@[expose] public section

noncomputable section

namespace Cert.Proof.GatherBatch

open Idealize.ShloMosaic Idealize.ShloMosaic.Transfers Idealize.ShloMosaic.SparseCore
open Idealize.SL
open Idealize.SL.BI (sProp Storable bigSep bigSep_insert)
open scoped Idealize.SL.BI
open Idealize.SL.BI.BIBase Idealize.SL.BI.Laws Idealize.SL.Sem Idealize.SL.ProofMode
open Idealize.SL.RA

section Pending

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

omit [Preorder Lvl] in
/-- Nothing besides. -/
theorem eq_emp_sep (P : sProp 𝕄) : P = iprop(emp ∗ P) :=
  BI.Entails.antisymm (show P ⊢ iprop(emp ∗ P) from emp_sep.2) (show iprop(emp ∗ P) ⊢ P from emp_sep.1)

omit [Preorder Lvl] in
/-- Grouping does not matter. -/
theorem sep_assoc_eq (P P' P'' : sProp 𝕄) : iprop(P ∗ (P' ∗ P'')) = iprop((P ∗ P') ∗ P'') :=
  BI.Entails.antisymm (show iprop(P ∗ (P' ∗ P'')) ⊢ iprop((P ∗ P') ∗ P'') from sep_assoc.2)
    (show iprop((P ∗ P') ∗ P'') ⊢ iprop(P ∗ (P' ∗ P'')) from sep_assoc.1)

/-- The members of a batch from the `j₀`-th on are the next `o` and those after. -/
theorem pending_take {n o j₀ : ℕ} (hj : j₀ + o ≤ n) (Φ : Fin n → sProp 𝕄) :
    bigSep (pending j₀) Φ = iprop(bigSep Finset.univ (fun j : Fin o => Φ ⟨j₀ + j.val, by omega⟩) ∗ bigSep (pending (j₀ + o)) Φ) := by
  induction o generalizing j₀ with
  | zero =>
    rw [Finset.univ_eq_empty, BI.bigSep_empty]
    exact eq_emp_sep _
  | succ o ih =>
    rw [bigSep_pending_step Φ j₀ (by omega), ih (j₀ := j₀ + 1) (by omega), bigSep_univ_succ]
    have e : (fun j : Fin o => Φ ⟨j₀ + 1 + j.val, by omega⟩) = fun j : Fin o => Φ ⟨j₀ + (Fin.succ j).val, by simp; omega⟩ := by
      funext j; congr 2; simp; omega
    have e' : pending (n := n) (j₀ + 1 + o) = pending (j₀ + (o + 1)) := congrArg pending (by omega)
    rw [e, e']
    exact sep_assoc_eq _ _ _

end Pending

section Issue

variable {nD : Nat} {τ : Topo} {sig : RefSig} {Ix : Type} [DecidableEq Ix] {F : FTy → Type} {Name : Type} [DecidableEq Name]
variable {U : Type} [URA U] {Lvl : Type} [Preorder Lvl] {Λ : Labels}

local notation "𝕄" => MT nD τ sig Ix (Elt F) Name U Lvl

variable (EC : UEmb Counters (MT nD τ sig Ix (Elt F) Name U Lvl))
variable {defs : Defs nD τ sig (Elt F) Λ} (𝒱 : Variants) (c : Thread nD τ) (bd : Option 𝒱.V)
variable {sp : Space} {s₀ s si : Shape} {e : EltTy} {a : Nat} {α : Type} {Q : α → sProp (MT nD τ sig Ix (Elt F) Name U Lvl)}

/-- The element of an offset list's buffer that holds the list's entry `j`. -/
def entryAt {o : ℕ} (offs : Memref sig c.2.kind .vmem si .i32) (hn : si.numel = o) (j : Fin o) : Idx (offs.view.loc c) :=
  offs.view.emb (si.rowMajor.symm (j.cast hn.symm))

/-- Starting a gather whose rows are the next members of a batch. Each row brings what its write needs (`Wr`), and the
    batch is told what the row delivers (`D`) once its write (`R`), its offset's entry and its piece of the source are
    in. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fo : Buf (Elt F) (offs.view.loc c)}
    (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    {n j₀ u : ℕ} (hj : j₀ + s.size hg.axis' ≤ n) (hu : u ≤ j₀ * N) {D : Fin n → sProp 𝕄}
    (Wr R : Fin (s.size hg.axis') → sProp 𝕄)
    (hWr : ∀ j, Wr j ⊢ writeUpdate c (dst.view.slice (s.rowRect hg.axis' j))
      (fun i => src.view.read (Elt F) fs (hg.rowIdx (rows (offs.view.read (Elt F) fo) hn hin j) i)) (R j))
    (hD : ∀ j : Fin (s.size hg.axis'), iprop((R j ∗ offs.view.loc c ↦[{entryAt c offs hn j}]{qo} fo)
      ∗ src.view.loc c ↦[src.view.set]{pieceOf q _ ho j} fs) ⊢ D ⟨j₀ + j.val, by omega⟩) :
    iprop((src.view.loc c ↦[src.view.set]{q} fs) ∗ bigSep Finset.univ Wr
        ∗ (offs.view.loc c ↦[offs.view.set]{qo} fo) ∗ Batch EC c (.dma sem) ι N D j₀ u)
      ⊢ iprop((Batch EC c (.dma sem) ι N D (j₀ + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective S.entry := si.rowMajor.symm.bijective.comp (finCongr hn.symm).bijective
  have hsum : ∑ j, (rd j).dst.view.dmaCredit = s.size hg.axis' * N := by
    rw [Finset.sum_congr rfl fun j _ => show (rd j).dst.view.dmaCredit = N from hN j]
    simp
  unfold Batch
  iintro ⟨Hs, Hd, Ho, ⟨%γ, %γ₀, %κ, #Hinv, HI, H0, Hcred⟩⟩ Hk
  ihave HI := (Entails.of_eq (pending_take hj (fun t => count EC (γ t) 0))) $$ HI
  icases HI with ⟨Hγ, HI⟩
  ihave Ho' := (Entails.of_eq (pointsTo_entries c offs.view S.entry hen qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd Ho' Hs' Hγ]
  · have hrow : ∀ j : Fin (s.size hg.axis'), iprop(inv κ (batchBody EC (c, SemLoc.dma sem) N D γ γ₀)
          ∗ (((Wr j ∗ S.heldEntry qo fo j)
          ∗ (src.view.loc c ↦[src.view.set]{pieceOf q _ ho j} fs)) ∗ count EC (γ ⟨j₀ + j.val, by omega⟩) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists pieceOf q _ ho j, fs, iprop(R j ∗ S.heldEntry qo fo j)
      isplitl [Hsq]; · iexact Hsq
      isplitl [Hr He]
      · iapply writeUpdate_frame
        isplitl [Hr]
        · iapply (hWr j) $$ Hr
        · iexact He
      · have hc := batch_creditUpdate EC (g := (c, SemLoc.dma sem)) (N := N) (D := D) (γ := γ) (γ₀ := γ₀) (ι := κ) ⟨j₀ + j.val, by omega⟩ (hD j)
        rw [← hN j] at hc
        iapply hc
        isplitr
        · rw [hN j]; iexact Hinv
        iexact Hγj
    unfold Stream.res
    ihave H1 := bigSep_sep_in _ _ _ $$ [Hd Ho']; · isplitl [Hd] <;> iassumption
    ihave H2 := bigSep_sep_in _ _ _ $$ [H1 Hs']; · isplitl [H1] <;> iassumption
    ihave H3 := bigSep_sep_in _ _ _ $$ [H2 Hγ]; · isplitl [H2] <;> iassumption
    iapply (bigSep_mono_pers Finset.univ _ _ _ fun j _ => hrow j)
    isplitr; · iexact Hinv
    iexact H3
  · iintro Hcred'
    iapply Hk
    iexists γ, γ₀, κ
    isplitr; · iexact Hinv
    isplitl [HI]; · iexact HI
    isplitl [H0]; · iexact H0
    rw [show (j₀ + s.size hg.axis') * N - u = (j₀ * N - u) + s.size hg.axis' * N by rw [Nat.add_mul]; omega, ← tallyAt_add]
    icombine Hcred Hcred' as H
    iexact H

end Issue

end Cert.Proof.GatherBatch
-- ==== Proof.Geo.lean ====
/-
  Where the kernel's windows lie.

  Each window is a rectangle of one of the buffers, its unit axes dropped. This file says which element of the
  buffer an index of the window is.
-/
module

public import proofs.«01_k».proof.Proof.Gen.KernelIdeal
public import Idealize.ShloMosaic.Lib.Pointwise.Index

@[expose] public section

noncomputable section

namespace Cert.Proof.Geo

open Cert.KernelIdeal Cert.KernelIdeal.Gen
open Idealize.ShloMosaic

/-- The tile's memory for indices: seven tables' eight chunks of 64. -/
abbrev idxM : Memref sig .scVector .vmem S7x8x64 .i32 := Memref.whole cc0_scratch0
/-- The tile's memory for table rows: two slabs of seven tables' 64 rows. -/
abbrev rowsM : Memref sig .scVector .vmem S2x7x64x128 .f32 := Memref.whole cc0_scratch1
/-- The tile's memory for the rows' partial sums. -/
abbrev sumsM : Memref sig .scVector .vmem S1088 .f32 := Memref.whole cc0_scratch2
/-- The tile's memory for its results. -/
abbrev outM : Memref sig .scVector .vmem S512 .f32 := Memref.whole cc0_scratch3

/-- One row of the row memory. -/
abbrev rowW (o : Fin 4 → ℕ) (ho : ∀ a, o a + S1x1x1x128.size a ≤ S2x7x64x128.size a) : Memref sig .scVector .vmem S128 .f32 :=
  (rowsM.slice (Rect.unit (s := S2x7x64x128) o S1x1x1x128.size ho) (fun _ => rfl)).squeeze S128 squeezes_S1x1x1x128_S128
/-- One table's rows in one slab of the row memory. -/
abbrev slabW (o : Fin 4 → ℕ) (ho : ∀ a, o a + S1x1x64x128.size a ≤ S2x7x64x128.size a) : Memref sig .scVector .vmem S64x128 .f32 :=
  (rowsM.slice (Rect.unit (s := S2x7x64x128) o S1x1x64x128.size ho) (fun _ => rfl)).squeeze S64x128 squeezes_S1x1x64x128_S64x128
/-- One table's indices of one chunk. -/
abbrev idxW (o : Fin 3 → ℕ) (ho : ∀ a, o a + S1x1x64.size a ≤ S7x8x64.size a) : Memref sig .scVector .vmem S64 .i32 :=
  (idxM.slice (Rect.unit (s := S7x8x64) o S1x1x64.size ho) (fun _ => rfl)).squeeze S64 squeezes_S1x1x64_S64

/-- A row's index with its three leading places. -/
theorem unsqueeze_row (h : S128.numel = S1x1x1x128.numel) (x : S128.Idx) :
    Shape.reshapeEquiv h x = ix4 (n0 := 1) (n1 := 1) (n2 := 1) (n3 := 128) 0 0 0 (x 0) :=
  Shape.reshapeEquiv_eq_of_rowMajor h (by
    rw [Shape.rowMajor_val_four, Shape.rowMajor_val_one]
    show (((0 * 1 + 0) * 1 + 0) * 128 + (x 0).val) = (x 0).val
    omega)

/-- A block of rows' index with its two leading places. -/
theorem unsqueeze_slab (h : S64x128.numel = S1x1x64x128.numel) (x : S64x128.Idx) :
    Shape.reshapeEquiv h x = ix4 (n0 := 1) (n1 := 1) (n2 := 64) (n3 := 128) 0 0 (x 0) (x 1) :=
  Shape.reshapeEquiv_eq_of_rowMajor h (by
    rw [Shape.rowMajor_val_four, Shape.rowMajor_val_two]
    show (((0 * 1 + 0) * 64 + (x 0).val) * 128 + (x 1).val) = (x 0).val * 128 + (x 1).val
    omega)

/-- An index vector's place with its two leading places. -/
theorem unsqueeze_idx (h : S64.numel = S1x1x64.numel) (x : S64.Idx) :
    Shape.reshapeEquiv h x = ix3 (n0 := 1) (n1 := 1) (n2 := 64) 0 0 (x 0) :=
  Shape.reshapeEquiv_eq_of_rowMajor h (by
    rw [Shape.rowMajor_val_three, Shape.rowMajor_val_one]
    show ((0 * 1 + 0) * 64 + (x 0).val) = (x 0).val
    omega)

/-- An element of a row, by coordinates. -/
theorem rowW_emb {o : Fin 4 → ℕ} {q k j : ℕ} (e : o = ![q, k, j, 0]) (ho : ∀ a, o a + S1x1x1x128.size a ≤ S2x7x64x128.size a) (x : S128.Idx) :
    ((((rowW o ho).view.emb x : S2x7x64x128.Idx) 0).val = q ∧ (((rowW o ho).view.emb x : S2x7x64x128.Idx) 1).val = k)
      ∧ (((rowW o ho).view.emb x : S2x7x64x128.Idx) 2).val = j ∧ (((rowW o ho).view.emb x : S2x7x64x128.Idx) 3).val = (x 0).val := by
  subst e
  have h : ∀ a, (((rowW ![q, k, j, 0] ho).view.emb x : S2x7x64x128.Idx) a).val
      = (![q, k, j, 0] : Fin 4 → ℕ) a + 1 * ((Shape.reshapeEquiv (squeezes_S1x1x1x128_S128).numel_eq x : S1x1x1x128.Idx) a).val := fun a => rfl
  rw [h, h, h, h, unsqueeze_row]
  show (q + 1 * 0 = q ∧ k + 1 * 0 = k) ∧ j + 1 * 0 = j ∧ 0 + 1 * (x 0).val = (x 0).val
  omega

/-- An element of one table's rows in one slab, by coordinates. -/
theorem slabW_emb {o : Fin 4 → ℕ} {q k : ℕ} (e : o = ![q, k, 0, 0]) (ho : ∀ a, o a + S1x1x64x128.size a ≤ S2x7x64x128.size a) (x : S64x128.Idx) :
    ((((slabW o ho).view.emb x : S2x7x64x128.Idx) 0).val = q ∧ (((slabW o ho).view.emb x : S2x7x64x128.Idx) 1).val = k)
      ∧ (((slabW o ho).view.emb x : S2x7x64x128.Idx) 2).val = (x 0).val ∧ (((slabW o ho).view.emb x : S2x7x64x128.Idx) 3).val = (x 1).val := by
  subst e
  have h : ∀ a, (((slabW ![q, k, 0, 0] ho).view.emb x : S2x7x64x128.Idx) a).val
      = (![q, k, 0, 0] : Fin 4 → ℕ) a + 1 * ((Shape.reshapeEquiv (squeezes_S1x1x64x128_S64x128).numel_eq x : S1x1x64x128.Idx) a).val := fun a => rfl
  rw [h, h, h, h, unsqueeze_slab]
  show (q + 1 * 0 = q ∧ k + 1 * 0 = k) ∧ 0 + 1 * (x 0).val = (x 0).val ∧ 0 + 1 * (x 1).val = (x 1).val
  omega

/-- An element of one table's indices of one chunk, by coordinates. -/
theorem idxW_emb {o : Fin 3 → ℕ} {k c : ℕ} (e : o = ![k, c, 0]) (ho : ∀ a, o a + S1x1x64.size a ≤ S7x8x64.size a) (x : S64.Idx) :
    (((idxW o ho).view.emb x : S7x8x64.Idx) 0).val = k ∧ (((idxW o ho).view.emb x : S7x8x64.Idx) 1).val = c
      ∧ (((idxW o ho).view.emb x : S7x8x64.Idx) 2).val = (x 0).val := by
  subst e
  have h : ∀ a, (((idxW ![k, c, 0] ho).view.emb x : S7x8x64.Idx) a).val
      = (![k, c, 0] : Fin 3 → ℕ) a + 1 * ((Shape.reshapeEquiv (squeezes_S1x1x64_S64).numel_eq x : S1x1x64.Idx) a).val := fun a => rfl
  rw [h, h, h, unsqueeze_idx]
  show k + 1 * 0 = k ∧ c + 1 * 0 = c ∧ 0 + 1 * (x 0).val = (x 0).val
  omega

end Cert.Proof.Geo
-- ==== Proof.Rows.lean ====
/-
  One row of the kernel.

  A row is one of a chunk's 64 lookups: seven table rows in the row memory, each after the second shifted, their
  products taken sixteen elements at a time and the eight products added up. A shifted read that crosses the row's end
  goes through a vector of indices. The kernel's loops hold two rows each. This file has a row as a program, whatever
  the offsets its reads go by, and what it does: the sixteen partial sums of the row, put in place.
-/
module

public import proofs.«01_k».proof.Proof.GatherBatch
public import proofs.«01_k».proof.Proof.Geo

@[expose] public section

noncomputable section

namespace Cert.Proof.Rows

open Cert.KernelIdeal Cert.KernelIdeal.Gen
open Idealize.ShloMosaic Idealize.SL.Sem Cert.Proof.Geo

variable {F : FTy → Type} [FloatOps F]

/-- A program of a tile. -/
abbrev TP (F : FTy → Type) [FloatOps F] (cv : Fin τ.nSC) (jv : Fin τ.nSub) (α : Type) :=
  Prog (TpuEff nD τ sig (Elt F) Λ₀ (.scVector cv jv)) α

section Text
variable {cv : Fin τ.nSC} {jv : Fin τ.nSub}

/-- Sixteen elements of the row at `o`, from the column `col` on. -/
def ld (o : Fin 4 → ℕ) (ho : ∀ a, o a + S1x1x1x128.size a ≤ S2x7x64x128.size a) (col : ℕ)
    (hc : ∀ a, (![col] : Fin 1 → ℕ) a + S16.size a ≤ S128.size a) : TP F cv jv (Vec F S16 .f32) :=
  Prog.lift (.load (rowW o ho)
    (Rect.unit (s := S128) ![col] S16.size hc).toLoadRect (View.loadsAt_vmem h_S16))

/-- Sixteen elements of the row memory at the places four vectors name. -/
def gat (a b r v : IVec S16 32) (h : ∀ x y, ((![a, b, r, v] : Fin 4 → IVec S16 32) x y).toNat < S2x7x64x128.size x) :
    TP F cv jv (Vec F S16 .f32) :=
  SparseCore.vectorLoadIdx rowsM ![a, b, r, v] h (View.loads_vmem h_S2x7x64x128)

/-- Eight reads in turn, each multiplied into its accumulator. -/
def mulRow (g : Fin 8 → TP F cv jv (Vec F S16 .f32)) (a : Fin 8 → FVec F S16 .f32) : TP F cv jv (Fin 8 → FVec F S16 .f32) := do
  let x0 ← g 0
  let x1 ← g 1
  let x2 ← g 2
  let x3 ← g 3
  let x4 ← g 4
  let x5 ← g 5
  let x6 ← g 6
  let x7 ← g 7
  pure ![mulf (a 0) x0, mulf (a 1) x1, mulf (a 2) x2, mulf (a 3) x3, mulf (a 4) x4, mulf (a 5) x5, mulf (a 6) x6, mulf (a 7) x7]

/-- Sixteen elements from a place up to 112 lie in a row. -/
theorem col_inb (n : ℕ) (h : n ≤ 112) : ∀ a, (![n] : Fin 1 → ℕ) a + S16.size a ≤ S128.size a := by
  intro a; obtain rfl : a = 0 := Subsingleton.elim _ _
  show n + 16 ≤ 128; omega

/-- A row's first two tables, read in turn. -/
def mulFirst (g h : Fin 8 → TP F cv jv (Vec F S16 .f32)) : TP F cv jv (Fin 8 → FVec F S16 .f32) := do
  let x0 ← g 0
  let y0 ← h 0
  let x1 ← g 1
  let y1 ← h 1
  let x2 ← g 2
  let y2 ← h 2
  let x3 ← g 3
  let y3 ← h 3
  let x4 ← g 4
  let y4 ← h 4
  let x5 ← g 5
  let y5 ← h 5
  let x6 ← g 6
  let y6 ← h 6
  let x7 ← g 7
  let y7 ← h 7
  pure ![mulf x0 y0, mulf x1 y1, mulf x2 y2, mulf x3 y3, mulf x4 y4, mulf x5 y5, mulf x6 y6, mulf x7 y7]

/-- The eight products of a row added up in pairs. -/
def tree (p : Fin 8 → FVec F S16 .f32) : FVec F S16 .f32 :=
  addf (addf (addf (p 0) (p 1)) (addf (p 2) (p 3))) (addf (addf (p 4) (p 5)) (addf (p 6) (p 7)))

/-- A row's products. -/
def rowVals (o0 o1 o2 o2b o3 o3b o4 o5 o5b o6 o6b : Fin 4 → ℕ)
    (h0 : ∀ a, o0 a + S1x1x1x128.size a ≤ S2x7x64x128.size a)
    (h1 : ∀ a, o1 a + S1x1x1x128.size a ≤ S2x7x64x128.size a)
    (h2 : ∀ a, o2 a + S1x1x1x128.size a ≤ S2x7x64x128.size a)
    (h2b : ∀ a, o2b a + S1x1x1x128.size a ≤ S2x7x64x128.size a)
    (h3 : ∀ a, o3 a + S1x1x1x128.size a ≤ S2x7x64x128.size a)
    (h3b : ∀ a, o3b a + S1x1x1x128.size a ≤ S2x7x64x128.size a)
    (h4 : ∀ a, o4 a + S1x1x1x128.size a ≤ S2x7x64x128.size a)
    (h5 : ∀ a, o5 a + S1x1x1x128.size a ≤ S2x7x64x128.size a)
    (h5b : ∀ a, o5b a + S1x1x1x128.size a ≤ S2x7x64x128.size a)
    (h6 : ∀ a, o6 a + S1x1x1x128.size a ≤ S2x7x64x128.size a)
    (h6b : ∀ a, o6b a + S1x1x1x128.size a ≤ S2x7x64x128.size a)
    (a b2 b3 b5 b6 r v2 v3 v5 v6 : IVec S16 32)
    (g2 : ∀ x y, ((![a, b2, r, v2] : Fin 4 → IVec S16 32) x y).toNat < S2x7x64x128.size x)
    (g3 : ∀ x y, ((![a, b3, r, v3] : Fin 4 → IVec S16 32) x y).toNat < S2x7x64x128.size x)
    (g5 : ∀ x y, ((![a, b5, r, v5] : Fin 4 → IVec S16 32) x y).toNat < S2x7x64x128.size x)
    (g6 : ∀ x y, ((![a, b6, r, v6] : Fin 4 → IVec S16 32) x y).toNat < S2x7x64x128.size x) :
    TP F cv jv (Fin 8 → FVec F S16 .f32) := do
  let p1 ← mulFirst
    ![ld o0 h0 0 (col_inb _ (by omega)), ld o0 h0 16 (col_inb _ (by omega)), ld o0 h0 32 (col_inb _ (by omega)), ld o0 h0 48 (col_inb _ (by omega)),
      ld o0 h0 64 (col_inb _ (by omega)), ld o0 h0 80 (col_inb _ (by omega)), ld o0 h0 96 (col_inb _ (by omega)), ld o0 h0 112 (col_inb _ (by omega))]
    ![ld o1 h1 0 (col_inb _ (by omega)), ld o1 h1 16 (col_inb _ (by omega)), ld o1 h1 32 (col_inb _ (by omega)), ld o1 h1 48 (col_inb _ (by omega)),
      ld o1 h1 64 (col_inb _ (by omega)), ld o1 h1 80 (col_inb _ (by omega)), ld o1 h1 96 (col_inb _ (by omega)), ld o1 h1 112 (col_inb _ (by omega))]
  let p2 ← mulRow
    ![ld o2 h2 21 (col_inb _ (by omega)), ld o2 h2 37 (col_inb _ (by omega)), ld o2 h2 53 (col_inb _ (by omega)), ld o2 h2 69 (col_inb _ (by omega)),
      ld o2 h2 85 (col_inb _ (by omega)), ld o2 h2 101 (col_inb _ (by omega)), gat a b2 r v2 g2, ld o2b h2b 5 (col_inb _ (by omega))] p1
  let p3 ← mulRow
    ![ld o3 h3 42 (col_inb _ (by omega)), ld o3 h3 58 (col_inb _ (by omega)), ld o3 h3 74 (col_inb _ (by omega)), ld o3 h3 90 (col_inb _ (by omega)),
      ld o3 h3 106 (col_inb _ (by omega)), gat a b3 r v3 g3, ld o3b h3b 10 (col_inb _ (by omega)), ld o3b h3b 26 (col_inb _ (by omega))] p2
  let p4 ← mulRow
    ![ld o4 h4 64 (col_inb _ (by omega)), ld o4 h4 80 (col_inb _ (by omega)), ld o4 h4 96 (col_inb _ (by omega)), ld o4 h4 112 (col_inb _ (by omega)),
      ld o4 h4 0 (col_inb _ (by omega)), ld o4 h4 16 (col_inb _ (by omega)), ld o4 h4 32 (col_inb _ (by omega)), ld o4 h4 48 (col_inb _ (by omega))] p3
  let p5 ← mulRow
    ![ld o5 h5 85 (col_inb _ (by omega)), ld o5 h5 101 (col_inb _ (by omega)), gat a b5 r v5 g5, ld o5b h5b 5 (col_inb _ (by omega)),
      ld o5b h5b 21 (col_inb _ (by omega)), ld o5b h5b 37 (col_inb _ (by omega)), ld o5b h5b 53 (col_inb _ (by omega)), ld o5b h5b 69 (col_inb _ (by omega))] p4
  mulRow
    ![ld o6 h6 106 (col_inb _ (by omega)), gat a b6 r v6 g6, ld o6b h6b 10 (col_inb _ (by omega)), ld o6b h6b 26 (col_inb _ (by omega)),
      ld o6b h6b 42 (col_inb _ (by omega)), ld o6b h6b 58 (col_inb _ (by omega)), ld o6b h6b 74 (col_inb _ (by omega)), ld o6b h6b 90 (col_inb _ (by omega))] p5

/-- A row's partial sums put in place. -/
def putRow (o : Fin 1 → ℕ) (ho : ∀ a, o a + S16.size a ≤ S1088.size a) (v : FVec F S16 .f32) : TP F cv jv PUnit := do
  let _ ← Prog.lift (.load sumsM (Rect.unit (s := S1088) o S16.size ho).toLoadRect (View.loadsAt_vmem h_S16))
  Prog.lift (.store sumsM (Rect.unit (s := S1088) o S16.size ho) v Finset.univ (View.stores_vmem_bits_univ h_S16 rfl) (.inl rfl))

/-- That the four reads across the row's end are in range. -/
def Inb (a b2 b3 b5 b6 r v2 v3 v5 v6 : IVec S16 32) : Prop :=
  (∀ x y, ((![a, b2, r, v2] : Fin 4 → IVec S16 32) x y).toNat < S2x7x64x128.size x) ∧
  (∀ x y, ((![a, b3, r, v3] : Fin 4 → IVec S16 32) x y).toNat < S2x7x64x128.size x) ∧
  (∀ x y, ((![a, b5, r, v5] : Fin 4 → IVec S16 32) x y).toNat < S2x7x64x128.size x) ∧
  (∀ x y, ((![a, b6, r, v6] : Fin 4 → IVec S16 32) x y).toNat < S2x7x64x128.size x)

/-- A row: its products, added up, the sixteen sums put in place. -/
def row (o0 o1 o2 o2b o3 o3b o4 o5 o5b o6 o6b : Fin 4 → ℕ)
    (h0 : ∀ a, o0 a + S1x1x1x128.size a ≤ S2x7x64x128.size a)
    (h1 : ∀ a, o1 a + S1x1x1x128.size a ≤ S2x7x64x128.size a)
    (h2 : ∀ a, o2 a + S1x1x1x128.size a ≤ S2x7x64x128.size a)
    (h2b : ∀ a, o2b a + S1x1x1x128.size a ≤ S2x7x64x128.size a)
    (h3 : ∀ a, o3 a + S1x1x1x128.size a ≤ S2x7x64x128.size a)
    (h3b : ∀ a, o3b a + S1x1x1x128.size a ≤ S2x7x64x128.size a)
    (h4 : ∀ a, o4 a + S1x1x1x128.size a ≤ S2x7x64x128.size a)
    (h5 : ∀ a, o5 a + S1x1x1x128.size a ≤ S2x7x64x128.size a)
    (h5b : ∀ a, o5b a + S1x1x1x128.size a ≤ S2x7x64x128.size a)
    (h6 : ∀ a, o6 a + S1x1x1x128.size a ≤ S2x7x64x128.size a)
    (h6b : ∀ a, o6b a + S1x1x1x128.size a ≤ S2x7x64x128.size a)
    (a b2 b3 b5 b6 r v2 v3 v5 v6 : IVec S16 32) (dec : Decidable (Inb a b2 b3 b5 b6 r v2 v3 v5 v6))
    (o : Fin 1 → ℕ) (ho : ∀ a, o a + S16.size a ≤ S1088.size a) : TP F cv jv PUnit :=
  Prog.lift (TpuEff.assume (Inb a b2 b3 b5 b6 r v2 v3 v5 v6) dec) >>= fun h =>
    rowVals o0 o1 o2 o2b o3 o3b o4 o5 o5b o6 o6b h0 h1 h2 h2b h3 h3b h4 h5 h5b h6 h6b a b2 b3 b5 b6 r v2 v3 v5 v6 h.down.1 h.down.2.1 h.down.2.2.1 h.down.2.2.2 >>= fun p =>
      putRow o ho (tree p)

end Text

section Values

/-- The table elements a row's products are over, `T k j l` the element `l` of the row `j` in table `k`: sixteen of
    them, from `n` on, the row read around. -/
def around (T : ℕ → ℕ → ℕ → F .f32) (k j n : ℕ) : FVec F S16 .f32 := fun x => T k j ((n + (x 0).val) % 128)

/-- The eight products of a row. -/
def prods (T : ℕ → ℕ → ℕ → F .f32) (j : ℕ) : Fin 8 → FVec F S16 .f32 := fun i =>
  mulf (mulf (mulf (mulf (mulf (mulf (around T 0 j (16 * i)) (around T 1 j (16 * i))) (around T 2 j (16 * i + 21)))
    (around T 3 j (16 * i + 42))) (around T 4 j (16 * i + 64))) (around T 5 j (16 * i + 85))) (around T 6 j (16 * i + 106))

/-- A row's sixteen partial sums. -/
def rowVec (T : ℕ → ℕ → ℕ → F .f32) (j : ℕ) : FVec F S16 .f32 := tree (prods T j)

/-- A read around a row's end depends on its start modulo the row's length. -/
theorem around_mod (T : ℕ → ℕ → ℕ → F .f32) (k j : ℕ) {n m : ℕ} (h : n % 128 = m % 128) : around T k j n = around T k j m := by
  funext x
  show T k j ((n + _) % 128) = T k j ((m + _) % 128)
  rw [Nat.add_mod n, Nat.add_mod m, h]

/-- The first `m` rows' partial sums are in place. -/
def Filled (T : ℕ → ℕ → ℕ → F .f32) (m : ℕ) (f : S1088.Idx → Elt F .f32) : Prop :=
  ∀ (i : S1088.Idx) (x : S16.Idx) (j : ℕ), j < m → (i 0).val = 17 * j + (x 0).val → f i = rowVec T j x

/-- The elements of a slab of the row memory. -/
def slab (q : ℕ) : Finset S2x7x64x128.Idx := Finset.univ.filter fun i => (i 0).val = q

/-- A slab's elements. -/
theorem mem_slab {q : ℕ} {i : S2x7x64x128.Idx} : i ∈ slab q ↔ (i 0).val = q := by simp [slab]

end Values

section Run

open Idealize.ShloMosaic.Transfers Idealize.ShloMosaic.SparseCore
open Idealize.SL
open Idealize.SL.BI (sProp Storable bigSep bigSep_insert)
open scoped Idealize.SL.BI
open Idealize.SL.BI.BIBase Idealize.SL.BI.Laws Idealize.SL.ProofMode
open Idealize.SL.RA
open Cert.Proof.Held

variable {Ix : Type} [DecidableEq Ix] {Name : Type} [DecidableEq Name] {U : Type} [URA U] {Lvl : Type} [Preorder Lvl]

local notation "𝕄" => MT nD τ sig Ix (Elt F) Name U Lvl

variable (EC : UEmb Counters (MT nD τ sig Ix (Elt F) Name U Lvl))
variable {K : Type} [Fintype K]
variable {defs : Defs nD τ sig (Elt F) Λ₀} (𝒱 : Variants) (d : Dev nD) {cv : Fin τ.nSC} {jv : Fin τ.nSub} (bd : Option 𝒱.V)

/-- The tile's thread. -/
abbrev thr (d : Dev nD) (cv : Fin τ.nSC) (jv : Fin τ.nSub) : Thread nD τ := (d, .scVector cv jv)

/-- A program that, holding `H`, comes to `v` and holds `H` again. -/
def Reads (defs : Defs nD τ sig (Elt F) Λ₀) (𝒱 : Variants) (d : Dev nD) (bd : Option 𝒱.V) (H : sProp 𝕄) {β : Type}
    (p : TP F cv jv β) (v : β) : Prop :=
  ∀ (α : Type) (k : β → TP F cv jv α) (Q : α → sProp 𝕄),
    H ⊢ iprop((H -∗ wp frame (wpE defs 𝒱 (thr d cv jv) bd) Set.univ (k v) Q) -∗ wp frame (wpE defs 𝒱 (thr d cv jv) bd) Set.univ (p >>= k) Q)

/-- A value read before. -/
theorem Reads.pure {H : sProp 𝕄} {β : Type} (v : β) : Reads (cv := cv) (jv := jv) defs 𝒱 d bd H (pure v) v := by
  intro α k Q
  iintro H Hk
  iapply Hk
  iexact H

/-- One read after another. -/
theorem Reads.bind {H : sProp 𝕄} {β β' : Type} {p : TP F cv jv β} {v : β} {f : β → TP F cv jv β'} {w : β'}
    (hp : Reads defs 𝒱 d bd H p v) (hf : Reads defs 𝒱 d bd H (f v) w) : Reads defs 𝒱 d bd H (p >>= f) w := by
  intro α k Q
  rw [Prog.bind_assoc]
  iintro H Hk
  iapply (hp α (fun a => f a >>= k) Q) $$ H
  iintro H
  iapply (hf α k Q) $$ H
  iexact Hk

variable {δ : ℕ} {γ : K → ℕ} {ι : Name} {q : ℕ} {g : Buf (Elt F) (rowsM.view.loc (thr d cv jv))}

/-- The tile's hold of a slab of the row memory. -/
def HoldRows (EC : UEmb Counters (MT nD τ sig Ix (Elt F) Name U Lvl)) (d : Dev nD) (cv : Fin τ.nSC) (jv : Fin τ.nSub) (δ : ℕ) (γ : K → ℕ) (ι : Name) (q : ℕ)
    (g : Buf (Elt F) (rowsM.view.loc (thr d cv jv))) : sProp 𝕄 :=
  iprop(inv ι (heldBody (Val := Elt F) EC (rowsM.view.loc (thr d cv jv)) δ γ) ∗ tok EC δ ∗ (rowsM.view.loc (thr d cv jv) ↦[slab q]{rhalf} g))

variable {T : ℕ → ℕ → ℕ → F .f32} (hg : ∀ i ∈ slab q, g i = T (i 1).val (i 2).val (i 3).val)
include hg

/-- A slice of a row is read. -/
theorem reads_ld {o : Fin 4 → ℕ} {k j : ℕ} (e : o = ![q, k, j, 0]) (ho : ∀ a, o a + S1x1x1x128.size a ≤ S2x7x64x128.size a) {col n : ℕ}
    (hn : n % 128 = col) (hc : ∀ a, (![col] : Fin 1 → ℕ) a + S16.size a ≤ S128.size a) :
    Reads (cv := cv) (jv := jv) defs 𝒱 d bd (HoldRows EC d cv jv δ γ ι q g) (ld o ho col hc) (around T k j n) := by
  intro α kk Q
  unfold HoldRows
  have hc0 : col + 16 ≤ 128 := hc 0
  have hmem : ∀ x : S16.Idx, ((rowW o ho).access (Rect.unit (s := S128) ![col] S16.size hc)).emb x ∈ slab q := fun x =>
    mem_slab.mpr (rowW_emb e ho _).1.1
  have hS : ((rowW o ho).access (Rect.unit (s := S128) ![col] S16.size hc)).set ⊆ slab q := by
    intro i hi
    obtain ⟨x, -, rfl⟩ := Finset.mem_map.mp hi
    exact hmem x
  have hv : ((rowW o ho).access (Rect.unit (s := S128) ![col] S16.size hc)).read (Elt F) g = around T k j n := by
    funext x
    have h1 : ((rowW o ho).access (Rect.unit (s := S128) ![col] S16.size hc)).read (Elt F) g x
        = g (((rowW o ho).access (Rect.unit (s := S128) ![col] S16.size hc)).emb x) := rfl
    rw [h1, hg _ (hmem x)]
    obtain ⟨⟨-, e1⟩, e2, e3⟩ := rowW_emb e ho ((Rect.unit (s := S128) ![col] S16.size hc).emb x)
    have e3' : ((Rect.unit (s := S128) ![col] S16.size hc).emb x 0).val = col + 1 * (x 0).val := rfl
    have hx : (x 0).val < 16 := (x 0).isLt
    show T ((rowW o ho).view.emb _ 1).val ((rowW o ho).view.emb _ 2).val ((rowW o ho).view.emb _ 3).val = T k j ((n + (x 0).val) % 128)
    rw [e1, e2, e3, e3', Nat.add_mod, hn]
    congr 1
    omega
  iintro ⟨#Hinv, Hδ, HR⟩ Hk
  iapply (wp_load_rect 𝒱 (thr d cv jv) bd Set.univ (m := rowW o ho) (r := Rect.unit (s := S128) ![col] S16.size hc) hS) $$ HR
  iintro HR
  rw [hv]
  iapply Hk
  isplitr; · iexact Hinv
  isplitl [Hδ] <;> iassumption

/-- Sixteen elements of a row are read through a vector of places, around the row's end. -/
theorem reads_gat {a b r v : IVec S16 32} {k j n : ℕ} (ha : ∀ x, (a x).toNat = q) (hb : ∀ x, (b x).toNat = k) (hr : ∀ x, (r x).toNat = j)
    (hv : ∀ x, (v x).toNat = (n + (x 0).val) % 128)
    (h : ∀ x y, ((![a, b, r, v] : Fin 4 → IVec S16 32) x y).toNat < S2x7x64x128.size x) :
    Reads (cv := cv) (jv := jv) defs 𝒱 d bd (HoldRows EC d cv jv δ γ ι q g) (gat a b r v h) (around T k j n) := by
  intro α kk Q
  unfold HoldRows gat
  iintro ⟨#Hinv, Hδ, HR⟩ Hk
  iapply (held_vectorLoadIdx EC 𝒱 (thr d cv jv) bd (base := rowsM) (γ := γ)) $$ [Hδ HR]
  · isplitr; · iexact Hinv
    isplitl [Hδ] <;> iassumption
  iintro %f %hf ⟨Hδ, HR⟩
  have e : loadIdx ((rowsM.access (.whole S2x7x64x128)).read (Elt F) f) ![a, b, r, v] h = around T k j n := by
    funext x
    have h1 : loadIdx ((rowsM.access (.whole S2x7x64x128)).read (Elt F) f) ![a, b, r, v] h x
        = f ((rowsM.access (.whole S2x7x64x128)).emb (idxAt ![a, b, r, v] h x)) := rfl
    have e' : ∀ y : S2x7x64x128.Idx, ((rowsM.access (.whole S2x7x64x128)).emb y : S2x7x64x128.Idx) = y := fun y =>
      funext fun t => Fin.ext (by show 0 + 1 * (y t).val = (y t).val; omega)
    rw [h1, e']
    have m : (idxAt ![a, b, r, v] h x : S2x7x64x128.Idx) ∈ slab q := mem_slab.mpr (ha x)
    rw [hf _ m, hg _ m]
    show T (b x).toNat (r x).toNat (v x).toNat = T k j ((n + (x 0).val) % 128)
    rw [hb, hr, hv]
  rw [e]
  iapply Hk
  isplitr; · iexact Hinv
  isplitl [Hδ] <;> iassumption

omit [FloatOps F] hg in
/-- A fact of each of eight. -/
theorem fin8 {p : Fin 8 → Prop} (h0 : p 0) (h1 : p 1) (h2 : p 2) (h3 : p 3) (h4 : p 4) (h5 : p 5) (h6 : p 6) (h7 : p 7) : ∀ i, p i := by
  intro i; fin_cases i <;> assumption

omit hg in
/-- The products so far, times a further row. -/
theorem reads_mulRow {H : sProp 𝕄} {p : Fin 8 → TP F cv jv (Vec F S16 .f32)} {y a : Fin 8 → FVec F S16 .f32}
    (h : ∀ i, Reads defs 𝒱 d bd H (p i) (y i)) : Reads defs 𝒱 d bd H (mulRow p a) (fun i => mulf (a i) (y i)) := by
  have e : (fun i => mulf (a i) (y i)) = ![mulf (a 0) (y 0), mulf (a 1) (y 1), mulf (a 2) (y 2), mulf (a 3) (y 3), mulf (a 4) (y 4),
      mulf (a 5) (y 5), mulf (a 6) (y 6), mulf (a 7) (y 7)] := by
    funext i; fin_cases i <;> rfl
  rw [e]
  unfold mulRow
  refine Reads.bind 𝒱 d bd (h 0) ?_
  refine Reads.bind 𝒱 d bd (h 1) ?_
  refine Reads.bind 𝒱 d bd (h 2) ?_
  refine Reads.bind 𝒱 d bd (h 3) ?_
  refine Reads.bind 𝒱 d bd (h 4) ?_
  refine Reads.bind 𝒱 d bd (h 5) ?_
  refine Reads.bind 𝒱 d bd (h 6) ?_
  refine Reads.bind 𝒱 d bd (h 7) ?_
  exact Reads.pure 𝒱 d bd _

omit hg in
/-- The products of the first two rows. -/
theorem reads_mulFirst {H : sProp 𝕄} {p r : Fin 8 → TP F cv jv (Vec F S16 .f32)} {y z : Fin 8 → FVec F S16 .f32}
    (h : ∀ i, Reads defs 𝒱 d bd H (p i) (y i)) (g : ∀ i, Reads defs 𝒱 d bd H (r i) (z i)) :
    Reads defs 𝒱 d bd H (mulFirst p r) (fun i => mulf (y i) (z i)) := by
  have e : (fun i => mulf (y i) (z i)) = ![mulf (y 0) (z 0), mulf (y 1) (z 1), mulf (y 2) (z 2), mulf (y 3) (z 3), mulf (y 4) (z 4),
      mulf (y 5) (z 5), mulf (y 6) (z 6), mulf (y 7) (z 7)] := by
    funext i; fin_cases i <;> rfl
  rw [e]
  unfold mulFirst
  refine Reads.bind 𝒱 d bd (h 0) ?_
  refine Reads.bind 𝒱 d bd (g 0) ?_
  refine Reads.bind 𝒱 d bd (h 1) ?_
  refine Reads.bind 𝒱 d bd (g 1) ?_
  refine Reads.bind 𝒱 d bd (h 2) ?_
  refine Reads.bind 𝒱 d bd (g 2) ?_
  refine Reads.bind 𝒱 d bd (h 3) ?_
  refine Reads.bind 𝒱 d bd (g 3) ?_
  refine Reads.bind 𝒱 d bd (h 4) ?_
  refine Reads.bind 𝒱 d bd (g 4) ?_
  refine Reads.bind 𝒱 d bd (h 5) ?_
  refine Reads.bind 𝒱 d bd (g 5) ?_
  refine Reads.bind 𝒱 d bd (h 6) ?_
  refine Reads.bind 𝒱 d bd (g 6) ?_
  refine Reads.bind 𝒱 d bd (h 7) ?_
  refine Reads.bind 𝒱 d bd (g 7) ?_
  exact Reads.pure 𝒱 d bd _

/-- A row's products are what they should be. -/
theorem reads_rowVals {o0 o1 o2 o2b o3 o3b o4 o5 o5b o6 o6b : Fin 4 → ℕ} {j : ℕ}
    (e0 : o0 = ![q, 0, j, 0]) (e1 : o1 = ![q, 1, j, 0]) (e2 : o2 = ![q, 2, j, 0]) (e2b : o2b = ![q, 2, j, 0])
    (e3 : o3 = ![q, 3, j, 0]) (e3b : o3b = ![q, 3, j, 0]) (e4 : o4 = ![q, 4, j, 0]) (e5 : o5 = ![q, 5, j, 0])
    (e5b : o5b = ![q, 5, j, 0]) (e6 : o6 = ![q, 6, j, 0]) (e6b : o6b = ![q, 6, j, 0])
    (h0 h1 h2 h2b h3 h3b h4 h5 h5b h6 h6b)
    {a b2 b3 b5 b6 r v2 v3 v5 v6 : IVec S16 32} (ha : ∀ x, (a x).toNat = q) (hb2 : ∀ x, (b2 x).toNat = 2) (hb3 : ∀ x, (b3 x).toNat = 3)
    (hb5 : ∀ x, (b5 x).toNat = 5) (hb6 : ∀ x, (b6 x).toNat = 6) (hr : ∀ x, (r x).toNat = j)
    (hv2 : ∀ x, (v2 x).toNat = (117 + (x 0).val) % 128) (hv3 : ∀ x, (v3 x).toNat = (122 + (x 0).val) % 128)
    (hv5 : ∀ x, (v5 x).toNat = (117 + (x 0).val) % 128) (hv6 : ∀ x, (v6 x).toNat = (122 + (x 0).val) % 128)
    (g2 g3 g5 g6) :
    Reads (cv := cv) (jv := jv) defs 𝒱 d bd (HoldRows EC d cv jv δ γ ι q g)
      (rowVals o0 o1 o2 o2b o3 o3b o4 o5 o5b o6 o6b h0 h1 h2 h2b h3 h3b h4 h5 h5b h6 h6b a b2 b3 b5 b6 r v2 v3 v5 v6 g2 g3 g5 g6) (prods T j) := by
  unfold rowVals
  refine Reads.bind 𝒱 d bd (reads_mulFirst 𝒱 d bd (y := fun i => around T 0 j (16 * i)) (z := fun i => around T 1 j (16 * i)) ?_ ?_) ?_
  · exact fin8 (reads_ld EC 𝒱 d bd hg e0 _ (by rfl) _) (reads_ld EC 𝒱 d bd hg e0 _ (by rfl) _) (reads_ld EC 𝒱 d bd hg e0 _ (by rfl) _) (reads_ld EC 𝒱 d bd hg e0 _ (by rfl) _) (reads_ld EC 𝒱 d bd hg e0 _ (by rfl) _) (reads_ld EC 𝒱 d bd hg e0 _ (by rfl) _) (reads_ld EC 𝒱 d bd hg e0 _ (by rfl) _) (reads_ld EC 𝒱 d bd hg e0 _ (by rfl) _)
  · exact fin8 (reads_ld EC 𝒱 d bd hg e1 _ (by rfl) _) (reads_ld EC 𝒱 d bd hg e1 _ (by rfl) _) (reads_ld EC 𝒱 d bd hg e1 _ (by rfl) _) (reads_ld EC 𝒱 d bd hg e1 _ (by rfl) _) (reads_ld EC 𝒱 d bd hg e1 _ (by rfl) _) (reads_ld EC 𝒱 d bd hg e1 _ (by rfl) _) (reads_ld EC 𝒱 d bd hg e1 _ (by rfl) _) (reads_ld EC 𝒱 d bd hg e1 _ (by rfl) _)
  refine Reads.bind 𝒱 d bd (reads_mulRow 𝒱 d bd (y := fun i => around T 2 j (16 * i + 21)) ?_) ?_
  · exact fin8 (reads_ld EC 𝒱 d bd hg e2 _ (by rfl) _) (reads_ld EC 𝒱 d bd hg e2 _ (by rfl) _) (reads_ld EC 𝒱 d bd hg e2 _ (by rfl) _) (reads_ld EC 𝒱 d bd hg e2 _ (by rfl) _) (reads_ld EC 𝒱 d bd hg e2 _ (by rfl) _) (reads_ld EC 𝒱 d bd hg e2 _ (by rfl) _) (reads_gat EC 𝒱 d bd hg ha hb2 hr hv2 _) (reads_ld EC 𝒱 d bd hg e2b _ (by rfl) _)
  refine Reads.bind 𝒱 d bd (reads_mulRow 𝒱 d bd (y := fun i => around T 3 j (16 * i + 42)) ?_) ?_
  · exact fin8 (reads_ld EC 𝒱 d bd hg e3 _ (by rfl) _) (reads_ld EC 𝒱 d bd hg e3 _ (by rfl) _) (reads_ld EC 𝒱 d bd hg e3 _ (by rfl) _) (reads_ld EC 𝒱 d bd hg e3 _ (by rfl) _) (reads_ld EC 𝒱 d bd hg e3 _ (by rfl) _) (reads_gat EC 𝒱 d bd hg ha hb3 hr hv3 _) (reads_ld EC 𝒱 d bd hg e3b _ (by rfl) _) (reads_ld EC 𝒱 d bd hg e3b _ (by rfl) _)
  refine Reads.bind 𝒱 d bd (reads_mulRow 𝒱 d bd (y := fun i => around T 4 j (16 * i + 64)) ?_) ?_
  · exact fin8 (reads_ld EC 𝒱 d bd hg e4 _ (by rfl) _) (reads_ld EC 𝒱 d bd hg e4 _ (by rfl) _) (reads_ld EC 𝒱 d bd hg e4 _ (by rfl) _) (reads_ld EC 𝒱 d bd hg e4 _ (by rfl) _) (reads_ld EC 𝒱 d bd hg e4 _ (by rfl) _) (reads_ld EC 𝒱 d bd hg e4 _ (by rfl) _) (reads_ld EC 𝒱 d bd hg e4 _ (by rfl) _) (reads_ld EC 𝒱 d bd hg e4 _ (by rfl) _)
  refine Reads.bind 𝒱 d bd (reads_mulRow 𝒱 d bd (y := fun i => around T 5 j (16 * i + 85)) ?_) ?_
  · exact fin8 (reads_ld EC 𝒱 d bd hg e5 _ (by rfl) _) (reads_ld EC 𝒱 d bd hg e5 _ (by rfl) _) (reads_gat EC 𝒱 d bd hg ha hb5 hr hv5 _) (reads_ld EC 𝒱 d bd hg e5b _ (by rfl) _) (reads_ld EC 𝒱 d bd hg e5b _ (by rfl) _) (reads_ld EC 𝒱 d bd hg e5b _ (by rfl) _) (reads_ld EC 𝒱 d bd hg e5b _ (by rfl) _) (reads_ld EC 𝒱 d bd hg e5b _ (by rfl) _)
  refine reads_mulRow 𝒱 d bd (y := fun i => around T 6 j (16 * i + 106)) ?_
  exact fin8 (reads_ld EC 𝒱 d bd hg e6 _ (by rfl) _) (reads_gat EC 𝒱 d bd hg ha hb6 hr hv6 _) (reads_ld EC 𝒱 d bd hg e6b _ (by rfl) _) (reads_ld EC 𝒱 d bd hg e6b _ (by rfl) _) (reads_ld EC 𝒱 d bd hg e6b _ (by rfl) _) (reads_ld EC 𝒱 d bd hg e6b _ (by rfl) _) (reads_ld EC 𝒱 d bd hg e6b _ (by rfl) _) (reads_ld EC 𝒱 d bd hg e6b _ (by rfl) _)

omit hg in
/-- A row's sums in place. -/
theorem putRow_run {o : Fin 1 → ℕ} {j : ℕ} (e : o = ![17 * j]) (ho : ∀ a, o a + S16.size a ≤ S1088.size a)
    {f : Buf (Elt F) (sumsM.view.loc (thr d cv jv))} (hf : Filled T j f) {α : Type} (k : PUnit → TP F cv jv α) (Q : α → sProp 𝕄) :
    (sumsM.view.loc (thr d cv jv) ↦[Finset.univ]{fullShare} f)
      ⊢ iprop((∀ f' : Buf (Elt F) (sumsM.view.loc (thr d cv jv)), ⌜Filled T (j + 1) f'⌝ -∗ (sumsM.view.loc (thr d cv jv) ↦[Finset.univ]{fullShare} f')
          -∗ wp frame (wpE defs 𝒱 (thr d cv jv) bd) Set.univ (k ⟨⟩) Q)
        -∗ wp frame (wpE defs 𝒱 (thr d cv jv) bd) Set.univ (putRow o ho (rowVec T j) >>= k) Q) := by
  subst e
  have hemb : ∀ x : S16.Idx, ((((sumsM.access (Rect.unit (s := S1088) ![17 * j] S16.size ho)).emb x : S1088.Idx)) 0).val = 17 * j + (x 0).val := fun x => by
    show 17 * j + 1 * (x 0).val = _; omega
  have hfill : Filled T (j + 1) ((sumsM.access (Rect.unit (s := S1088) ![17 * j] S16.size ho)).write (Elt F) f (rowVec T j) Finset.univ) := by
    intro i x j' hj' hi
    by_cases hjj : j' = j
    · subst hjj
      have hx : i = (sumsM.access (Rect.unit (s := S1088) ![17 * j'] S16.size ho)).emb x :=
        funext fun a => by
          obtain rfl : a = 0 := Subsingleton.elim _ _
          exact Fin.ext (hi.trans (hemb x).symm)
      rw [hx, View.write_emb_of_mem _ _ (Finset.mem_univ x)]
      rfl
    · rw [View.write_of_not_mem]
      · exact hf i x j' (by omega) hi
      · intro hm
        obtain ⟨y, -, rfl⟩ := Finset.mem_map.mp hm
        have h1 : 17 * j + (y 0).val = 17 * j' + (x 0).val := (hemb y).symm.trans hi
        have hx : (x 0).val < 16 := (x 0).isLt
        have hy : (y 0).val < 16 := (y 0).isLt
        omega
  iintro H Hk
  unfold putRow
  iapply (wp_load_rect 𝒱 (thr d cv jv) bd Set.univ (m := sumsM) (r := Rect.unit (s := S1088) ![17 * j] S16.size ho) (Finset.subset_univ _)) $$ H
  iintro H
  iapply (wp_store 𝒱 (thr d cv jv) bd Set.univ (m := sumsM) (r := Rect.unit (s := S1088) ![17 * j] S16.size ho) (Finset.subset_univ _)) $$ H
  iintro H
  ispecialize Hk $$ %_ %hfill H
  iexact Hk

/-- A row's run. -/
theorem row_run {o0 o1 o2 o2b o3 o3b o4 o5 o5b o6 o6b : Fin 4 → ℕ} {o : Fin 1 → ℕ} {j : ℕ}
    (e0 : o0 = ![q, 0, j, 0]) (e1 : o1 = ![q, 1, j, 0]) (e2 : o2 = ![q, 2, j, 0]) (e2b : o2b = ![q, 2, j, 0])
    (e3 : o3 = ![q, 3, j, 0]) (e3b : o3b = ![q, 3, j, 0]) (e4 : o4 = ![q, 4, j, 0]) (e5 : o5 = ![q, 5, j, 0])
    (e5b : o5b = ![q, 5, j, 0]) (e6 : o6 = ![q, 6, j, 0]) (e6b : o6b = ![q, 6, j, 0]) (e : o = ![17 * j])
    (h0 h1 h2 h2b h3 h3b h4 h5 h5b h6 h6b)
    {a b2 b3 b5 b6 r v2 v3 v5 v6 : IVec S16 32} (hq : q < 2) (hj : j < 64) (ha : ∀ x, (a x).toNat = q) (hb2 : ∀ x, (b2 x).toNat = 2) (hb3 : ∀ x, (b3 x).toNat = 3)
    (hb5 : ∀ x, (b5 x).toNat = 5) (hb6 : ∀ x, (b6 x).toNat = 6) (hr : ∀ x, (r x).toNat = j)
    (hv2 : ∀ x, (v2 x).toNat = (117 + (x 0).val) % 128) (hv3 : ∀ x, (v3 x).toNat = (122 + (x 0).val) % 128)
    (hv5 : ∀ x, (v5 x).toNat = (117 + (x 0).val) % 128) (hv6 : ∀ x, (v6 x).toNat = (122 + (x 0).val) % 128) (dec ho)
    {α : Type} (k : PUnit → TP F cv jv α) (Q : α → sProp 𝕄) :
    iprop(HoldRows EC d cv jv δ γ ι q g ∗ ∃ f : Buf (Elt F) (sumsM.view.loc (thr d cv jv)), ⌜Filled T j f⌝ ∗ sumsM.view.loc (thr d cv jv) ↦[Finset.univ]{fullShare} f)
      ⊢ iprop(((HoldRows EC d cv jv δ γ ι q g ∗ ∃ f : Buf (Elt F) (sumsM.view.loc (thr d cv jv)), ⌜Filled T (j + 1) f⌝ ∗ sumsM.view.loc (thr d cv jv) ↦[Finset.univ]{fullShare} f)
          -∗ wp frame (wpE defs 𝒱 (thr d cv jv) bd) Set.univ (k ⟨⟩) Q)
        -∗ wp frame (wpE defs 𝒱 (thr d cv jv) bd) Set.univ
            (row o0 o1 o2 o2b o3 o3b o4 o5 o5b o6 o6b h0 h1 h2 h2b h3 h3b h4 h5 h5b h6 h6b a b2 b3 b5 b6 r v2 v3 v5 v6 dec o ho >>= k) Q) := by
  have hin : Inb a b2 b3 b5 b6 r v2 v3 v5 v6 := by
    have key : ∀ (b v : IVec S16 32) (n m : ℕ), n < 7 → (∀ x, (b x).toNat = n) → (∀ x, (v x).toNat = (m + (x 0).val) % 128) →
        ∀ x y, ((![a, b, r, v] : Fin 4 → IVec S16 32) x y).toNat < S2x7x64x128.size x := by
      intro b v n m hn hb hv x y
      fin_cases x
      · show (a y).toNat < 2; rw [ha]; exact hq
      · show (b y).toNat < 7; rw [hb]; exact hn
      · show (r y).toNat < 64; rw [hr]; exact hj
      · show (v y).toNat < 128; rw [hv]; omega
    exact ⟨key b2 v2 2 117 (by omega) hb2 hv2, key b3 v3 3 122 (by omega) hb3 hv3, key b5 v5 5 117 (by omega) hb5 hv5, key b6 v6 6 122 (by omega) hb6 hv6⟩
  iintro ⟨HR, %f, %hf, HS⟩ Hk
  unfold row
  iapply (wp_assume 𝒱 (thr d cv jv) bd Set.univ (d := dec) (k := fun h =>
    (rowVals o0 o1 o2 o2b o3 o3b o4 o5 o5b o6 o6b h0 h1 h2 h2b h3 h3b h4 h5 h5b h6 h6b a b2 b3 b5 b6 r v2 v3 v5 v6 h.down.1 h.down.2.1 h.down.2.2.1 h.down.2.2.2
      >>= fun p => putRow o ho (tree p)) >>= k) hin)
  rw [Prog.bind_assoc]
  iapply (reads_rowVals EC 𝒱 d bd hg e0 e1 e2 e2b e3 e3b e4 e5 e5b e6 e6b h0 h1 h2 h2b h3 h3b h4 h5 h5b h6 h6b ha hb2 hb3 hb5 hb6 hr hv2 hv3 hv5 hv6 _ _ _ _ α _ Q) $$ HR
  iintro HR
  iapply (putRow_run 𝒱 d bd e ho hf k Q) $$ HS
  iintro %f' %hf' HS
  iapply Hk
  isplitl [HR]; · iexact HR
  iexists f'
  isplitr; · ipureintro; exact hf'
  iexact HS

end Run

end Cert.Proof.Rows
-- ==== Proof.Loop.lean ====
/-
  The kernel's loops over a chunk's rows, and the sums that follow them.

  A loop goes over the rows two at a time; after it the partial sums of all 64 rows are in place, row `j`'s sixteen
  from the place `17 * j` on. The sums that follow go down the rows' partial sums sixteen rows at a time, the places
  again named by vectors of indices, and put sixteen results in place.
-/
module

public import proofs.«01_k».proof.Proof.Rows
public import Idealize.ShloMosaic.Lib.Scf
public import Idealize.ShloMosaic.Lib.SparseCore.Ops

@[expose] public section

set_option maxHeartbeats 1000000

noncomputable section

namespace Cert.Proof.Loop

open Cert.KernelIdeal Cert.KernelIdeal.Gen
open Idealize.ShloMosaic Idealize.ShloMosaic.Transfers Idealize.ShloMosaic.SparseCore Idealize.SL.Sem Cert.Proof.Geo Cert.Proof.Rows Cert.Proof.Held
open Idealize.SL
open Idealize.SL.BI (sProp Storable bigSep bigSep_insert)
open scoped Idealize.SL.BI
open Idealize.SL.BI.BIBase Idealize.SL.BI.Laws Idealize.SL.ProofMode
open Idealize.SL.RA

variable {F : FTy → Type} [FloatOps F]

/-- Each lane's number. -/
abbrev lane : IVec S16 32 := iota .scVector S16 32 [0] iota_S16_d0_w32_scVector

/-- A lane's number. -/
theorem lane_toNat (x : S16.Idx) : (lane x).toNat = (x 0).val := by
  have hx : (x 0).val < 16 := (x 0).isLt
  show (BitVec.ofNat 32 _).toNat = _
  rw [BitVec.toNat_ofNat]
  show ((0 * _ + (x 0).val) % _) = _
  omega

/-- Sixteen columns from `n` on, around a row of 128. -/
theorem wrap_toNat {n : BitVec 32} {m : ℕ} (hn : n.toNat = m) (hm : m < 128) (x : S16.Idx) :
    ((andi (addi lane (broadcast S16 n)) (broadcast S16 127#32) : IVec S16 32) x).toNat = (m + (x 0).val) % 128 := by
  have hx : (x 0).val < 16 := (x 0).isLt
  show ((lane x + n) &&& 127#32).toNat = _
  rw [BitVec.toNat_and, BitVec.toNat_add, lane_toNat, hn]
  show (((x 0).val + m) % 2 ^ 32) &&& (2 ^ 7 - 1) = _
  rw [Nat.and_two_pow_sub_one_eq_mod]
  omega

/-- The places of the sums' column `l` in the rows from `16 * g` on. -/
theorem col_toNat {n : BitVec 32} {g l : ℕ} (hn : n = BitVec.ofNat 32 (272 * g + l)) (hg : g < 4) (hl : l < 16) (x : S16.Idx) :
    ((addi (muli lane (broadcast S16 17#32)) (broadcast S16 n) : IVec S16 32) x).toNat = 17 * (16 * g + (x 0).val) + l := by
  have hx : (x 0).val < 16 := (x 0).isLt
  show (lane x * 17#32 + n).toNat = _
  rw [hn, BitVec.toNat_add, BitVec.toNat_mul, lane_toNat, BitVec.toNat_ofNat (272 * g + l)]
  show ((x 0).val * 17 % 2 ^ 32 + (272 * g + l) % 2 ^ 32) % 2 ^ 32 = _
  omega

/-- The first row of an iteration. -/
theorem row_even {n : ℕ} (hn : n < 32) : ∀ x, ((broadcast S16 (Scalar.muli (Scf.iv 0#32 1#32 n) 2#32) : IVec S16 32) x).toNat = 2 * n := by
  intro x
  show ((0#32 + BitVec.ofNat 32 n * 1#32) * 2#32).toNat = _
  rw [BitVec.toNat_mul, BitVec.toNat_add, BitVec.toNat_mul, BitVec.toNat_ofNat]
  show ((0 + n % 2 ^ 32 * 1 % 2 ^ 32) % 2 ^ 32 * 2) % 2 ^ 32 = _
  omega

/-- And the second. -/
theorem row_odd {n : ℕ} (hn : n < 32) : ∀ x, ((broadcast S16 (Scalar.addi (Scalar.muli (Scf.iv 0#32 1#32 n) 2#32) 1#32) : IVec S16 32) x).toNat = 2 * n + 1 := by
  intro x
  have h := row_even hn x
  have h' : (Scalar.muli (Scf.iv 0#32 1#32 n) 2#32).toNat = 2 * n := h
  show (Scalar.muli (Scf.iv 0#32 1#32 n) 2#32 + 1#32).toNat = _
  rw [BitVec.toNat_add, h']
  show (2 * n + 1) % 2 ^ 32 = _
  omega

variable {Ix : Type} [DecidableEq Ix] {Name : Type} [DecidableEq Name] {U : Type} [URA U] {Lvl : Type} [Preorder Lvl]

local notation "𝕄" => MT nD τ sig Ix (Elt F) Name U Lvl

variable (EC : UEmb Counters (MT nD τ sig Ix (Elt F) Name U Lvl))
variable {K : Type} [Fintype K]
variable {defs : Defs nD τ sig (Elt F) Λ₀} (𝒱 : Variants) (d : Dev nD) {cv : Fin τ.nSC} {jv : Fin τ.nSub} (bd : Option 𝒱.V)
variable {δ : ℕ} {γ : K → ℕ} {ι : Name} {q : ℕ} {g : Buf (Elt F) (rowsM.view.loc (thr d cv jv))}
variable {T : ℕ → ℕ → ℕ → F .f32}

/-- The sums' memory, the first `m` rows' partial sums in place. -/
def Sums (T : ℕ → ℕ → ℕ → F .f32) (d : Dev nD) (cv : Fin τ.nSC) (jv : Fin τ.nSub) (m : ℕ) : sProp 𝕄 :=
  iprop(∃ f : Buf (Elt F) (sumsM.view.loc (thr d cv jv)), ⌜Filled T m f⌝ ∗ sumsM.view.loc (thr d cv jv) ↦[Finset.univ]{fullShare} f)

/-- The partial sums' memory is written anew for the next chunk. -/
theorem Sums.restart {T' : ℕ → ℕ → ℕ → F .f32} {m : ℕ} : (Sums T d cv jv m : sProp 𝕄) ⊢ Sums T' d cv jv 0 := by
  unfold Sums
  iintro ⟨%f, %hf, H⟩
  iexists f
  isplitr
  · ipureintro; intro i x j hj; exact absurd hj (Nat.not_lt_zero j)
  iexact H

/-- Two rows, a trip of the loop: the row memory held, two more rows' sums in place. -/
theorem pair_run (hg : ∀ i ∈ slab q, g i = T (i 1).val (i 2).val (i 3).val) {n : ℕ} (hn : n < 32) (hq : q < 2)
    {a0 a1 a2 a2b a3 a3b a4 a5 a5b a6 a6b b0 b1 b2 b2b b3 b3b b4 b5 b5b b6 b6b : Fin 4 → ℕ} {oa ob : Fin 1 → ℕ}
    [ca0 : ClosedOff a0] (ea0 : ca0.form = ![q, 0, 2 * n, 0])
    [ca1 : ClosedOff a1] (ea1 : ca1.form = ![q, 1, 2 * n, 0])
    [ca2 : ClosedOff a2] (ea2 : ca2.form = ![q, 2, 2 * n, 0])
    [ca2b : ClosedOff a2b] (ea2b : ca2b.form = ![q, 2, 2 * n, 0])
    [ca3 : ClosedOff a3] (ea3 : ca3.form = ![q, 3, 2 * n, 0])
    [ca3b : ClosedOff a3b] (ea3b : ca3b.form = ![q, 3, 2 * n, 0])
    [ca4 : ClosedOff a4] (ea4 : ca4.form = ![q, 4, 2 * n, 0])
    [ca5 : ClosedOff a5] (ea5 : ca5.form = ![q, 5, 2 * n, 0])
    [ca5b : ClosedOff a5b] (ea5b : ca5b.form = ![q, 5, 2 * n, 0])
    [ca6 : ClosedOff a6] (ea6 : ca6.form = ![q, 6, 2 * n, 0])
    [ca6b : ClosedOff a6b] (ea6b : ca6b.form = ![q, 6, 2 * n, 0])
    [cb0 : ClosedOff b0] (eb0 : cb0.form = ![q, 0, 2 * n + 1, 0])
    [cb1 : ClosedOff b1] (eb1 : cb1.form = ![q, 1, 2 * n + 1, 0])
    [cb2 : ClosedOff b2] (eb2 : cb2.form = ![q, 2, 2 * n + 1, 0])
    [cb2b : ClosedOff b2b] (eb2b : cb2b.form = ![q, 2, 2 * n + 1, 0])
    [cb3 : ClosedOff b3] (eb3 : cb3.form = ![q, 3, 2 * n + 1, 0])
    [cb3b : ClosedOff b3b] (eb3b : cb3b.form = ![q, 3, 2 * n + 1, 0])
    [cb4 : ClosedOff b4] (eb4 : cb4.form = ![q, 4, 2 * n + 1, 0])
    [cb5 : ClosedOff b5] (eb5 : cb5.form = ![q, 5, 2 * n + 1, 0])
    [cb5b : ClosedOff b5b] (eb5b : cb5b.form = ![q, 5, 2 * n + 1, 0])
    [cb6 : ClosedOff b6] (eb6 : cb6.form = ![q, 6, 2 * n + 1, 0])
    [cb6b : ClosedOff b6b] (eb6b : cb6b.form = ![q, 6, 2 * n + 1, 0])
    [coa : ClosedOff oa] (eoa : coa.form = ![34 * n]) [cob : ClosedOff ob] (eob : cob.form = ![34 * n + 17])
    {a v2 v3 v5 v6 : IVec S16 32} (ha : ∀ x, (a x).toNat = q)
    (hv2 : ∀ x, (v2 x).toNat = (117 + (x 0).val) % 128) (hv3 : ∀ x, (v3 x).toNat = (122 + (x 0).val) % 128)
    (hv5 : ∀ x, (v5 x).toNat = (117 + (x 0).val) % 128) (hv6 : ∀ x, (v6 x).toNat = (122 + (x 0).val) % 128)
    {h0 h1 h2 h2b h3 h3b h4 h5 h5b h6 h6b hoa dec k0 k1 k2 k2b k3 k3b k4 k5 k5b k6 k6b hob dec'} :
    iprop(HoldRows EC d cv jv δ γ ι q g ∗ Sums T d cv jv (2 * n))
      ⊢ wp frame (wpE defs 𝒱 (thr d cv jv) bd) Set.univ
          (row a0 a1 a2 a2b a3 a3b a4 a5 a5b a6 a6b h0 h1 h2 h2b h3 h3b h4 h5 h5b h6 h6b a (broadcast S16 2#32) (broadcast S16 3#32) (broadcast S16 5#32) (broadcast S16 6#32)
              (broadcast S16 (Scalar.muli (Scf.iv 0#32 1#32 n) 2#32)) v2 v3 v5 v6 dec oa hoa >>= fun _ =>
            row b0 b1 b2 b2b b3 b3b b4 b5 b5b b6 b6b k0 k1 k2 k2b k3 k3b k4 k5 k5b k6 k6b a (broadcast S16 2#32) (broadcast S16 3#32) (broadcast S16 5#32) (broadcast S16 6#32)
              (broadcast S16 (Scalar.addi (Scalar.muli (Scf.iv 0#32 1#32 n) 2#32) 1#32)) v2 v3 v5 v6 dec' ob hob >>= fun _ => pure ⟨⟩)
          (fun _ : PUnit => iprop(HoldRows EC d cv jv δ γ ι q g ∗ Sums T d cv jv (2 * (n + 1)))) := by
  have fa : oa = ![17 * (2 * n)] := coa.eq.trans (eoa.trans (by rw [show 17 * (2 * n) = 34 * n by omega]))
  have fb : ob = ![17 * (2 * n + 1)] := cob.eq.trans (eob.trans (by rw [show 17 * (2 * n + 1) = 34 * n + 17 by omega]))
  unfold Sums
  iintro H
  iapply (row_run EC 𝒱 d bd hg (ca0.eq.trans ea0) (ca1.eq.trans ea1) (ca2.eq.trans ea2) (ca2b.eq.trans ea2b) (ca3.eq.trans ea3) (ca3b.eq.trans ea3b) (ca4.eq.trans ea4) (ca5.eq.trans ea5) (ca5b.eq.trans ea5b) (ca6.eq.trans ea6) (ca6b.eq.trans ea6b) fa h0 h1 h2 h2b h3 h3b h4 h5 h5b h6 h6b hq (show 2 * n < 64 by omega) ha
    (fun _ => rfl) (fun _ => rfl) (fun _ => rfl) (fun _ => rfl) (row_even hn) hv2 hv3 hv5 hv6 dec hoa) $$ H
  iintro H
  iapply (row_run EC 𝒱 d bd hg (cb0.eq.trans eb0) (cb1.eq.trans eb1) (cb2.eq.trans eb2) (cb2b.eq.trans eb2b) (cb3.eq.trans eb3) (cb3b.eq.trans eb3b) (cb4.eq.trans eb4) (cb5.eq.trans eb5) (cb5b.eq.trans eb5b) (cb6.eq.trans eb6) (cb6b.eq.trans eb6b) fb k0 k1 k2 k2b k3 k3b k4 k5 k5b k6 k6b hq (show 2 * n + 1 < 64 by omega) ha
    (fun _ => rfl) (fun _ => rfl) (fun _ => rfl) (fun _ => rfl) (row_odd hn) hv2 hv3 hv5 hv6 dec' hob) $$ H
  iintro H
  iapply (le_wp_ret frame (wpE defs 𝒱 (thr d cv jv) bd) Set.univ)
  iexact H

/-- The loop: the row memory held, all 64 rows' sums in place. -/
theorem loop_run {l : Scf.Loop 32} (hok : l.OK) (hl : l.trips = 32) (body : Fin l.trips → PUnit → TP F cv jv PUnit)
    (hb : ∀ t : Fin l.trips, iprop(HoldRows EC d cv jv δ γ ι q g ∗ Sums T d cv jv (2 * t.val))
      ⊢ wp frame (wpE defs 𝒱 (thr d cv jv) bd) Set.univ (body t ⟨⟩)
          (fun _ : PUnit => iprop(HoldRows EC d cv jv δ γ ι q g ∗ Sums T d cv jv (2 * (t.val + 1)))))
    {α : Type} (k : PUnit → TP F cv jv α) (Q : α → sProp 𝕄) :
    iprop(HoldRows EC d cv jv δ γ ι q g ∗ Sums T d cv jv 0)
      ⊢ iprop((iprop(HoldRows EC d cv jv δ γ ι q g ∗ Sums T d cv jv 64) -∗ wp frame (wpE defs 𝒱 (thr d cv jv) bd) Set.univ (k ⟨⟩) Q)
        -∗ wp frame (wpE defs 𝒱 (thr d cv jv) bd) Set.univ (Scf.Loop.for l hok ⟨⟩ body >>= k) Q) := by
  iintro H Hk
  iapply (Scf.wp_for_bind frame (wpE defs 𝒱 (thr d cv jv) bd) Set.univ l.lb l.ub l.st hok PUnit.unit body
    (fun n _ => iprop(HoldRows EC d cv jv δ γ ι q g ∗ Sums T d cv jv (2 * n))) (fun t _ => hb t)) $$ H
  iintro %acc H
  rw [show 2 * Scf.trips l.lb l.ub l.st = 64 by rw [show Scf.trips l.lb l.ub l.st = 32 from hl]]
  iapply Hk
  iexact H

/-- That sixteen places of the sums are in range. -/
def Inb1 (w : IVec S16 32) : Prop := ∀ a x, ((![w] : Fin 1 → IVec S16 32) a x).toNat < S1088.size a

/-- Sixteen partial sums, at the places a vector names. -/
def col (w : IVec S16 32) (dec : Decidable (Inb1 w)) : TP F cv jv (Vec F S16 .f32) :=
  Prog.lift (TpuEff.assume (Inb1 w) dec) >>= fun h => SparseCore.vectorLoadIdx sumsM ![w] h.down (View.loads_vmem h_S1088)

/-- Sixteen vectors added up in turn. -/
def inTurn (v : Fin 16 → FVec F S16 .f32) : FVec F S16 .f32 :=
  addf (addf (addf (addf (addf (addf (addf (addf (addf (addf (addf (addf (addf (addf (addf (v 0) (v 1)) (v 2)) (v 3)) (v 4)) (v 5)) (v 6)) (v 7)) (v 8)) (v 9)) (v 10)) (v 11)) (v 12)) (v 13)) (v 14)) (v 15)

/-- Adding up lane by lane is place by place. -/
theorem inTurn_at {v w : Fin 16 → FVec F S16 .f32} {x y : S16.Idx} (h : ∀ l, v l x = w l y) : inTurn v x = inTurn w y := by
  have e : ∀ (a b a' b' : FVec F S16 .f32), a x = a' y → b x = b' y → addf a b x = addf a' b' y := by
    intro a b a' b' h1 h2
    show FloatOps.addf (a x) (b x) = FloatOps.addf (a' y) (b' y)
    rw [h1, h2]
  unfold inTurn
  exact e _ _ _ _ (e _ _ _ _ (e _ _ _ _ (e _ _ _ _ (e _ _ _ _ (e _ _ _ _ (e _ _ _ _ (e _ _ _ _ (e _ _ _ _ (e _ _ _ _ (e _ _ _ _ (e _ _ _ _ (e _ _ _ _ (e _ _ _ _ (e _ _ _ _ (h 0) (h 1)) (h 2)) (h 3)) (h 4)) (h 5)) (h 6)) (h 7)) (h 8)) (h 9)) (h 10)) (h 11)) (h 12)) (h 13)) (h 14)) (h 15)

/-- A row's partial sums added up in turn. -/
def total (T : ℕ → ℕ → ℕ → F .f32) (j : ℕ) : F .f32 := inTurn (fun l => fun _ : S16.Idx => rowVec T j (ix1 l)) (ix1 0)

/-- Sixteen results: the columns of sixteen rows' partial sums read and added up, the sums put in place. -/
def group (w0 w1 w2 w3 w4 w5 w6 w7 w8 w9 w10 w11 w12 w13 w14 w15 : IVec S16 32) (d0 : Decidable (Inb1 w0)) (d1 : Decidable (Inb1 w1)) (d2 : Decidable (Inb1 w2)) (d3 : Decidable (Inb1 w3)) (d4 : Decidable (Inb1 w4)) (d5 : Decidable (Inb1 w5)) (d6 : Decidable (Inb1 w6)) (d7 : Decidable (Inb1 w7)) (d8 : Decidable (Inb1 w8)) (d9 : Decidable (Inb1 w9)) (d10 : Decidable (Inb1 w10)) (d11 : Decidable (Inb1 w11)) (d12 : Decidable (Inb1 w12)) (d13 : Decidable (Inb1 w13)) (d14 : Decidable (Inb1 w14)) (d15 : Decidable (Inb1 w15)) (o : Fin 1 → ℕ)
    (ho : ∀ a, o a + S16.size a ≤ S512.size a) : TP F cv jv PUnit := do
  let y0 ← col w0 d0
  let y1 ← col w1 d1
  let y2 ← col w2 d2
  let y3 ← col w3 d3
  let y4 ← col w4 d4
  let y5 ← col w5 d5
  let y6 ← col w6 d6
  let y7 ← col w7 d7
  let y8 ← col w8 d8
  let y9 ← col w9 d9
  let y10 ← col w10 d10
  let y11 ← col w11 d11
  let y12 ← col w12 d12
  let y13 ← col w13 d13
  let y14 ← col w14 d14
  let y15 ← col w15 d15
  let _ ← Prog.lift (.load outM (Rect.unit (s := S512) o S16.size ho).toLoadRect (View.loadsAt_vmem h_S16))
  Prog.lift (.store outM (Rect.unit (s := S512) o S16.size ho) (inTurn ![y0, y1, y2, y3, y4, y5, y6, y7, y8, y9, y10, y11, y12, y13, y14, y15]) Finset.univ
    (View.stores_vmem_bits_univ h_S16 rfl) (.inl rfl))

/-- The results' memory, the first `m` results in place. -/
def Outs (Z : ℕ → F .f32) (d : Dev nD) (cv : Fin τ.nSC) (jv : Fin τ.nSub) (m : ℕ) : sProp 𝕄 :=
  iprop(∃ f : Buf (Elt F) (outM.view.loc (thr d cv jv)), ⌜∀ i : S512.Idx, (i 0).val < m → f i = Z (i 0).val⌝ ∗ outM.view.loc (thr d cv jv) ↦[Finset.univ]{fullShare} f)

/-- One column: sixteen rows' partial sums of the column `l`. -/
theorem col_run {w : IVec S16 32} (dec : Decidable (Inb1 w)) {g l : ℕ} (hg : g < 4) (hl : l < 16)
    (hw : ∀ x, (w x).toNat = 17 * (16 * g + (x 0).val) + l) {f : Buf (Elt F) (sumsM.view.loc (thr d cv jv))} (hf : Filled T 64 f) :
    Reads (cv := cv) (jv := jv) defs 𝒱 d bd (iprop(sumsM.view.loc (thr d cv jv) ↦[Finset.univ]{fullShare} f) : sProp 𝕄) (col w dec)
      (fun x => rowVec T (16 * g + (x 0).val) (ix1 ⟨l, hl⟩)) := by
  have hin : Inb1 w := by
    intro a x
    obtain rfl : a = 0 := Subsingleton.elim _ _
    show (w x).toNat < 1088
    have hx : (x 0).val < 16 := (x 0).isLt
    rw [hw]; omega
  intro α k Q
  iintro H Hk
  unfold col
  iapply (wp_assume 𝒱 (thr d cv jv) bd Set.univ (d := dec) (k := fun h =>
    (SparseCore.vectorLoadIdx sumsM ![w] h.down (View.loads_vmem h_S1088)) >>= k) hin)
  iapply (wp_vectorLoadIdx 𝒱 (thr d cv jv) bd Set.univ (base := sumsM) (Finset.subset_univ _)) $$ H
  iintro H
  have e : loadIdx ((sumsM.access (.whole S1088)).read (Elt F) f) ![w] hin = fun x => rowVec T (16 * g + (x 0).val) (ix1 ⟨l, hl⟩) := by
    funext x
    have h1 : loadIdx ((sumsM.access (.whole S1088)).read (Elt F) f) ![w] hin x
        = f ((sumsM.access (.whole S1088)).emb (idxAt ![w] hin x)) := rfl
    have e' : ∀ y : S1088.Idx, ((sumsM.access (.whole S1088)).emb y : S1088.Idx) = y := fun y =>
      funext fun t => Fin.ext (by show 0 + 1 * (y t).val = (y t).val; omega)
    have hx : (x 0).val < 16 := (x 0).isLt
    rw [h1, e']
    exact hf _ (ix1 ⟨l, hl⟩) _ (by omega) (hw x)
  rw [e]
  iapply Hk
  iexact H

/-- A group's run: sixteen more results in place. -/
theorem group_run {Z : ℕ → F .f32} (g : ℕ) (hg : g < 4) {m : ℕ} (hZ : ∀ x < 16, Z (m + x) = total T (16 * g + x))
    {n0 n1 n2 n3 n4 n5 n6 n7 n8 n9 n10 n11 n12 n13 n14 n15 : BitVec 32} (hn : ∀ l : Fin 16, (![n0, n1, n2, n3, n4, n5, n6, n7, n8, n9, n10, n11, n12, n13, n14, n15] : Fin 16 → BitVec 32) l = BitVec.ofNat 32 (272 * g + l.val))
    {d0 d1 d2 d3 d4 d5 d6 d7 d8 d9 d10 d11 d12 d13 d14 d15 ho} {α : Type} (k : PUnit → TP F cv jv α) (Q : α → sProp 𝕄) :
    iprop(Sums T d cv jv 64 ∗ Outs Z d cv jv m)
      ⊢ iprop((iprop(Sums T d cv jv 64 ∗ Outs Z d cv jv (m + 16)) -∗ wp frame (wpE defs 𝒱 (thr d cv jv) bd) Set.univ (k ⟨⟩) Q)
        -∗ wp frame (wpE defs 𝒱 (thr d cv jv) bd) Set.univ
          (group (addi (muli lane (broadcast S16 17#32)) (broadcast S16 n0)) (addi (muli lane (broadcast S16 17#32)) (broadcast S16 n1)) (addi (muli lane (broadcast S16 17#32)) (broadcast S16 n2)) (addi (muli lane (broadcast S16 17#32)) (broadcast S16 n3)) (addi (muli lane (broadcast S16 17#32)) (broadcast S16 n4)) (addi (muli lane (broadcast S16 17#32)) (broadcast S16 n5)) (addi (muli lane (broadcast S16 17#32)) (broadcast S16 n6)) (addi (muli lane (broadcast S16 17#32)) (broadcast S16 n7)) (addi (muli lane (broadcast S16 17#32)) (broadcast S16 n8)) (addi (muli lane (broadcast S16 17#32)) (broadcast S16 n9)) (addi (muli lane (broadcast S16 17#32)) (broadcast S16 n10)) (addi (muli lane (broadcast S16 17#32)) (broadcast S16 n11)) (addi (muli lane (broadcast S16 17#32)) (broadcast S16 n12)) (addi (muli lane (broadcast S16 17#32)) (broadcast S16 n13)) (addi (muli lane (broadcast S16 17#32)) (broadcast S16 n14)) (addi (muli lane (broadcast S16 17#32)) (broadcast S16 n15)) d0 d1 d2 d3 d4 d5 d6 d7 d8 d9 d10 d11 d12 d13 d14 d15 ![m] ho >>= k) Q) := by
  have key : ∀ (f : Buf (Elt F) (sumsM.view.loc (thr d cv jv))) (_ : Filled T 64 f) (n : BitVec 32) (l : Fin 16)
      (_ : n = BitVec.ofNat 32 (272 * g + l.val)) (dec : Decidable (Inb1 (addi (muli lane (broadcast S16 17#32)) (broadcast S16 n)))),
      Reads (cv := cv) (jv := jv) defs 𝒱 d bd (iprop(sumsM.view.loc (thr d cv jv) ↦[Finset.univ]{fullShare} f) : sProp 𝕄)
        (col (addi (muli lane (broadcast S16 17#32)) (broadcast S16 n)) dec) (fun x => rowVec T (16 * g + (x 0).val) (ix1 l)) :=
    fun f hf n l e dec => col_run 𝒱 d bd dec hg l.isLt (fun x => col_toNat e hg l.isLt x) hf
  have hemb : ∀ x : S16.Idx, ((((outM.access (Rect.unit (s := S512) ![m] S16.size ho)).emb x : S512.Idx)) 0).val = m + (x 0).val := fun x => by
    show m + 1 * (x 0).val = _; omega
  unfold Sums Outs
  iintro ⟨⟨%f, %hf, H⟩, %fo, %hfo, Ho⟩ Hk
  unfold group
  simp only [Prog.bind_assoc]
  iapply (key f hf n0 0 (hn 0) d0 α _ Q) $$ H
  iintro H
  iapply (key f hf n1 1 (hn 1) d1 α _ Q) $$ H
  iintro H
  iapply (key f hf n2 2 (hn 2) d2 α _ Q) $$ H
  iintro H
  iapply (key f hf n3 3 (hn 3) d3 α _ Q) $$ H
  iintro H
  iapply (key f hf n4 4 (hn 4) d4 α _ Q) $$ H
  iintro H
  iapply (key f hf n5 5 (hn 5) d5 α _ Q) $$ H
  iintro H
  iapply (key f hf n6 6 (hn 6) d6 α _ Q) $$ H
  iintro H
  iapply (key f hf n7 7 (hn 7) d7 α _ Q) $$ H
  iintro H
  iapply (key f hf n8 8 (hn 8) d8 α _ Q) $$ H
  iintro H
  iapply (key f hf n9 9 (hn 9) d9 α _ Q) $$ H
  iintro H
  iapply (key f hf n10 10 (hn 10) d10 α _ Q) $$ H
  iintro H
  iapply (key f hf n11 11 (hn 11) d11 α _ Q) $$ H
  iintro H
  iapply (key f hf n12 12 (hn 12) d12 α _ Q) $$ H
  iintro H
  iapply (key f hf n13 13 (hn 13) d13 α _ Q) $$ H
  iintro H
  iapply (key f hf n14 14 (hn 14) d14 α _ Q) $$ H
  iintro H
  iapply (key f hf n15 15 (hn 15) d15 α _ Q) $$ H
  iintro H
  iapply (wp_load_rect 𝒱 (thr d cv jv) bd Set.univ (m := outM) (r := Rect.unit (s := S512) ![m] S16.size ho) (Finset.subset_univ _)) $$ Ho
  iintro Ho
  iapply (wp_store 𝒱 (thr d cv jv) bd Set.univ (m := outM) (r := Rect.unit (s := S512) ![m] S16.size ho) (Finset.subset_univ _)) $$ Ho
  iintro Ho
  iapply Hk
  isplitl [H]
  · iexists f
    isplitr
    · ipureintro; exact hf
    iexact H
  iexists _
  isplitr
  rotate_left
  · iexact Ho
  ipureintro
  intro i hi
  by_cases him : (i 0).val < m
  · rw [View.write_of_not_mem]
    · exact hfo i him
    · intro hm
      obtain ⟨y, -, rfl⟩ := Finset.mem_map.mp hm
      rw [hemb y] at him
      omega
  · obtain ⟨x, hx⟩ : ∃ x : S16.Idx, m + (x 0).val = (i 0).val := ⟨ix1 ⟨(i 0).val - m, by show _ < 16; omega⟩, by show m + ((i 0).val - m) = _; omega⟩
    have hi' : i = (outM.access (Rect.unit (s := S512) ![m] S16.size ho)).emb x :=
      funext fun a => by
        obtain rfl : a = 0 := Subsingleton.elim _ _
        exact Fin.ext (hx.symm.trans (hemb x).symm)
    rw [← hx, hZ _ (x 0).isLt, hi', View.write_emb_of_mem _ _ (Finset.mem_univ x)]
    exact inTurn_at (fun l => by fin_cases l <;> rfl)

end Cert.Proof.Loop
-- ==== Proof.Segs.lean ====
/-
  The kernel's transfers, as programs.

  A chunk's indices are copied in by seven copies, one from each of the index arrays; its table rows are read in by
  seven indirect gathers, each by 64 of those indices, the first from the relations' table and the others from the
  entities'. Each is waited for in turn.
-/
module

public import proofs.«01_k».proof.Proof.Loop

@[expose] public section

noncomputable section

namespace Cert.Proof.Segs

open Cert.KernelIdeal Cert.KernelIdeal.Gen
open Idealize.ShloMosaic Idealize.SL.Sem Cert.Proof.Geo Cert.Proof.Rows

variable {F : FTy → Type} [FloatOps F] {cv : Fin τ.nSC} {jv : Fin τ.nSub}

/-- The index arrays. -/
abbrev argM : Fin 7 → Memref sig .scVector .hbm S16384 .i32 :=
  ![Memref.whole main_arg0_scv, Memref.whole main_arg1_scv, Memref.whole main_arg2_scv, Memref.whole main_arg3_scv,
    Memref.whole main_arg4_scv, Memref.whole main_arg5_scv, Memref.whole main_arg6_scv]
/-- The entities' table. -/
abbrev entM : Memref sig .scVector .hbm S100000x128 .f32 := Memref.whole main_arg7_scv
/-- The relations' table. -/
abbrev relM : Memref sig .scVector .hbm S1000x128 .f32 := Memref.whole main_arg8_scv
/-- The results' array. -/
abbrev resM : Memref sig .scVector .hbm S16384 .f32 := Memref.whole main_v0_scv

/-- That 64 of an index array from an offset on are in range. -/
abbrev InbArg (off : Fin 1 → ℕ) : Prop := ∀ a, off a + S64.size a ≤ S16384.size a
/-- That a table's indices of a chunk are in range. -/
abbrev InbIdx (k c : ℕ) : Prop := ∀ a, (![k, c, 0] : Fin 3 → ℕ) a + S1x1x64.size a ≤ S7x8x64.size a
/-- That a table's rows in a slab are in range. -/
abbrev InbSlab (q k : ℕ) : Prop := ∀ a, (![q, k, 0, 0] : Fin 4 → ℕ) a + S1x1x64x128.size a ≤ S2x7x64x128.size a
/-- That the entities' table is the whole of itself. -/
abbrev InbEnt : Prop := ∀ a, (![0, 0] : Fin 2 → ℕ) a + S100000x128.size a ≤ S100000x128.size a
/-- That the relations' table is the whole of itself. -/
abbrev InbRel : Prop := ∀ a, (![0, 0] : Fin 2 → ℕ) a + S1000x128.size a ≤ S1000x128.size a

/-- 64 of an index array. -/
abbrev argW (m : Memref sig .scVector .hbm S16384 .i32) (off : Fin 1 → ℕ) (h : ∀ a, off a + S64.size a ≤ S16384.size a) : Memref sig .scVector .hbm S64 .i32 :=
  m.slice (Rect.unit (s := S16384) off S64.size h) (fun _ => rfl)
/-- The entities' table, as the gathers name it. -/
abbrev entW (h : ∀ a, (![0, 0] : Fin 2 → ℕ) a + S100000x128.size a ≤ S100000x128.size a) : Memref sig .scVector .hbm S100000x128 .f32 :=
  entM.slice (Rect.unit (s := S100000x128) ![0, 0] S100000x128.size h) (fun _ => rfl)
/-- The relations' table, as the gather names it. -/
abbrev relW (h : ∀ a, (![0, 0] : Fin 2 → ℕ) a + S1000x128.size a ≤ S1000x128.size a) : Memref sig .scVector .hbm S1000x128 .f32 :=
  relM.slice (Rect.unit (s := S1000x128) ![0, 0] S1000x128.size h) (fun _ => rfl)

/-- A copy of 64 indices in. -/
def copy (m : Memref sig .scVector .hbm S16384 .i32) (off : Fin 1 → ℕ) (h : ∀ a, off a + S64.size a ≤ S16384.size a)
    (o : Fin 3 → ℕ) (ho : ∀ a, o a + S1x1x64.size a ≤ S7x8x64.size a) : TP F cv jv PUnit :=
  Prog.lift (.enqueueDma (argW m off h) (.here (idxW o ho)) (.dma cc0_scratch6.sem) (View.wordExact_bits rfl)
    ((View.wordExact_bits rfl).reshape _ _) ⟨Or.inl rfl, trivial⟩)

/-- A wait for one. -/
def copied (m : Memref sig .scVector .hbm S16384 .i32) (off : Fin 1 → ℕ) (h : ∀ a, off a + S64.size a ≤ S16384.size a)
    (o : Fin 3 → ℕ) (ho : ∀ a, o a + S1x1x64.size a ≤ S7x8x64.size a) : TP F cv jv PUnit :=
  Prog.lift (.waitDma2 cc0_scratch6.sem (argW m off h) (idxW o ho) (View.wordExact_bits rfl) ((View.wordExact_bits rfl).reshape _ _))

/-- The gather of a chunk's relation rows. -/
def gatherR (h : InbRel) (o : Fin 4 → ℕ) (ho : ∀ a, o a + S1x1x64x128.size a ≤ S2x7x64x128.size a)
    (p : Fin 3 → ℕ) (hp : ∀ a, p a + S1x1x64.size a ≤ S7x8x64.size a) (sem : DmaSem sig) : TP F cv jv PUnit :=
  SparseCore.enqueueIndirectGather rfl (relW h) (slabW o ho) gathers_S1000x128_S64x128 (idxW p hp) rfl sem
    (View.wordExact_bits rfl) rfl (Or.inl rfl)

/-- The gather of a chunk's rows of one of the entity tables. -/
def gatherE (h : InbEnt) (o : Fin 4 → ℕ) (ho : ∀ a, o a + S1x1x64x128.size a ≤ S2x7x64x128.size a)
    (p : Fin 3 → ℕ) (hp : ∀ a, p a + S1x1x64.size a ≤ S7x8x64.size a) (sem : DmaSem sig) : TP F cv jv PUnit :=
  SparseCore.enqueueIndirectGather rfl (entW h) (slabW o ho) gathers_S100000x128_S64x128 (idxW p hp) rfl sem
    (View.wordExact_bits rfl) rfl (Or.inl rfl)

/-- A wait for a gather of relation rows. -/
def gatheredR (h : InbRel) (o : Fin 4 → ℕ) (ho : ∀ a, o a + S1x1x64x128.size a ≤ S2x7x64x128.size a) (sem : DmaSem sig) : TP F cv jv PUnit :=
  SparseCore.waitIndirectGather sem (relW h) (slabW o ho) (View.wordExact_bits rfl) ((View.wordExact_bits rfl).reshape _ _)

/-- A wait for a gather of entity rows. -/
def gatheredE (h : InbEnt) (o : Fin 4 → ℕ) (ho : ∀ a, o a + S1x1x64x128.size a ≤ S2x7x64x128.size a) (sem : DmaSem sig) : TP F cv jv PUnit :=
  SparseCore.waitIndirectGather sem (entW h) (slabW o ho) (View.wordExact_bits rfl) ((View.wordExact_bits rfl).reshape _ _)

/-- A chunk's seven copies. -/
def copies (off : Fin 1 → ℕ) (hh : InbArg off) (c : ℕ) (o0 : InbIdx 0 c) (o1 : InbIdx 1 c) (o2 : InbIdx 2 c) (o3 : InbIdx 3 c) (o4 : InbIdx 4 c) (o5 : InbIdx 5 c) (o6 : InbIdx 6 c) : TP F cv jv PUnit := do
  copy (argM 0) off hh ![0, c, 0] o0
  copy (argM 1) off hh ![1, c, 0] o1
  copy (argM 2) off hh ![2, c, 0] o2
  copy (argM 3) off hh ![3, c, 0] o3
  copy (argM 4) off hh ![4, c, 0] o4
  copy (argM 5) off hh ![5, c, 0] o5
  copy (argM 6) off hh ![6, c, 0] o6

/-- The waits for them. -/
def copieds (off : Fin 1 → ℕ) (hh : InbArg off) (c : ℕ) (o0 : InbIdx 0 c) (o1 : InbIdx 1 c) (o2 : InbIdx 2 c) (o3 : InbIdx 3 c) (o4 : InbIdx 4 c) (o5 : InbIdx 5 c) (o6 : InbIdx 6 c) : TP F cv jv PUnit := do
  copied (argM 0) off hh ![0, c, 0] o0
  copied (argM 1) off hh ![1, c, 0] o1
  copied (argM 2) off hh ![2, c, 0] o2
  copied (argM 3) off hh ![3, c, 0] o3
  copied (argM 4) off hh ![4, c, 0] o4
  copied (argM 5) off hh ![5, c, 0] o5
  copied (argM 6) off hh ![6, c, 0] o6

/-- A chunk's seven gathers. -/
def gathers (q c : ℕ) (gR : InbRel) (gE : InbEnt) (s0 : InbSlab q 0) (s1 : InbSlab q 1) (s2 : InbSlab q 2) (s3 : InbSlab q 3) (s4 : InbSlab q 4) (s5 : InbSlab q 5) (s6 : InbSlab q 6) (o0 : InbIdx 0 c) (o1 : InbIdx 1 c) (o2 : InbIdx 2 c) (o3 : InbIdx 3 c) (o4 : InbIdx 4 c) (o5 : InbIdx 5 c) (o6 : InbIdx 6 c) (sem : DmaSem sig) : TP F cv jv PUnit := do
  gatherR gR ![q, 0, 0, 0] s0 ![0, c, 0] o0 sem
  gatherE gE ![q, 1, 0, 0] s1 ![1, c, 0] o1 sem
  gatherE gE ![q, 2, 0, 0] s2 ![2, c, 0] o2 sem
  gatherE gE ![q, 3, 0, 0] s3 ![3, c, 0] o3 sem
  gatherE gE ![q, 4, 0, 0] s4 ![4, c, 0] o4 sem
  gatherE gE ![q, 5, 0, 0] s5 ![5, c, 0] o5 sem
  gatherE gE ![q, 6, 0, 0] s6 ![6, c, 0] o6 sem

/-- The waits for them. -/
def gathereds (q : ℕ) (gR : InbRel) (gE : InbEnt) (s0 : InbSlab q 0) (s1 : InbSlab q 1) (s2 : InbSlab q 2) (s3 : InbSlab q 3) (s4 : InbSlab q 4) (s5 : InbSlab q 5) (s6 : InbSlab q 6) (sem : DmaSem sig) : TP F cv jv PUnit := do
  gatheredR gR ![q, 0, 0, 0] s0 sem
  gatheredE gE ![q, 1, 0, 0] s1 sem
  gatheredE gE ![q, 2, 0, 0] s2 sem
  gatheredE gE ![q, 3, 0, 0] s3 sem
  gatheredE gE ![q, 4, 0, 0] s4 sem
  gatheredE gE ![q, 5, 0, 0] s5 sem
  gatheredE gE ![q, 6, 0, 0] s6 sem

end Cert.Proof.Segs
-- ==== Proof.Stage.lean ====
/-
  A chunk's indices brought in.

  The copies of one batch are numbered chunk by chunk, the seven index arrays in turn. A copy takes its 64 indices'
  place in the tile's memory and leaves the indices there; the batch delivers them all once every copy is waited for.
-/
module

public import proofs.«01_k».proof.Proof.Segs
public import proofs.«01_k».proof.Proof.GatherBatch
public import Idealize.ShloMosaic.Lib.Batch

@[expose] public section

set_option maxHeartbeats 1000000

noncomputable section

namespace Cert.Proof.Stage

open Cert.KernelIdeal Cert.KernelIdeal.Gen
open Idealize.ShloMosaic Idealize.ShloMosaic.Transfers Idealize.ShloMosaic.SparseCore Idealize.SL.Sem Cert.Proof.Geo Cert.Proof.Rows Cert.Proof.Segs
open Idealize.SL
open Idealize.SL.BI (sProp Storable bigSep bigSep_insert)
open scoped Idealize.SL.BI
open Idealize.SL.BI.BIBase Idealize.SL.BI.Laws Idealize.SL.ProofMode
open Idealize.SL.RA

variable {F : FTy → Type} [FloatOps F]

/-- A chunk's place in the indices' memory. -/
theorem inbIdx (k : Fin 7) (c : Fin 8) : InbIdx k.val c.val := fun a => by
  have := k.isLt; have := c.isLt
  fin_cases a
  · show k.val + 1 ≤ 7; omega
  · show c.val + 1 ≤ 8; omega
  · show 0 + 64 ≤ 64; omega

/-- A chunk's place in an index array. -/
theorem inbArg {b : ℕ} (hb : b + 512 ≤ 16384) (c : Fin 8) : InbArg ![b + 64 * c.val] := fun a => by
  have := c.isLt
  fin_cases a
  show b + 64 * c.val + 64 ≤ 16384; omega

/-- Where a chunk's indices of one table lie in the tile's memory. -/
abbrev winI (k : Fin 7) (c : Fin 8) : Memref sig .scVector .vmem S64 .i32 := idxW ![k.val, c.val, 0] (inbIdx k c)
/-- Where they come from, in the index array. -/
abbrev winA {b : ℕ} (hb : b + 512 ≤ 16384) (k : Fin 7) (c : Fin 8) : Memref sig .scVector .hbm S64 .i32 :=
  argW (argM k) ![b + 64 * c.val] (inbArg hb c)

/-- The units one copy credits. -/
abbrev copyN : ℕ := (winI 0 0).view.dmaCredit

/-- Which table a batch's copy is of. -/
abbrev kOf {n : ℕ} (m : Fin n) : Fin 7 := ⟨m.val % 7, Nat.mod_lt _ (by decide)⟩
/-- Which chunk a batch's copy is of, the batch's first chunk being `c₀`. -/
abbrev cOf {n c₀ : ℕ} (hn : 7 * c₀ + n ≤ 56) (m : Fin n) : Fin 8 := ⟨c₀ + m.val / 7, by have := m.isLt; omega⟩

variable {Ix : Type} [DecidableEq Ix] {Name : Type} [DecidableEq Name] {U : Type} [URA U] {Lvl : Type} [Preorder Lvl]

local notation "𝕄" => MT nD τ sig Ix (Elt F) Name U Lvl

variable (EC : UEmb Counters (MT nD τ sig Ix (Elt F) Name U Lvl))
variable {b : ℕ} (hb : b + 512 ≤ 16384)
variable {defs : Defs nD τ sig (Elt F) Λ₀} (𝒱 : Variants) (d : Dev nD) {cv : Fin τ.nSC} {jv : Fin τ.nSub} (bd : Option 𝒱.V)

/-- The tile's memory of indices, all in place: the chunk's indices `X k n` of each table `k`. -/
def idxs (X : ℕ → ℕ → BitVec 32) : Buf (Elt F) (idxM.view.loc (thr d cv jv)) :=
  fun i : S7x8x64.Idx => X (i 0).val (64 * (i 1).val + (i 2).val)

/-- What a copy starts from. -/
def toGo (A : (k : Fin 7) → Buf (Elt F) ((argM k).view.loc (thr d cv jv))) (k : Fin 7) (c : Fin 8) : sProp 𝕄 :=
  iprop(((winA hb k c).view.loc (thr d cv jv) ↦[(winA hb k c).view.set]{fullShare} A k)
    ∗ ∃ f, (winI k c).view.loc (thr d cv jv) ↦[(winI k c).view.set]{fullShare} f)

/-- What a copy leaves. -/
def gone (A : (k : Fin 7) → Buf (Elt F) ((argM k).view.loc (thr d cv jv))) (X : ℕ → ℕ → BitVec 32) (k : Fin 7) (c : Fin 8) : sProp 𝕄 :=
  iprop(((winA hb k c).view.loc (thr d cv jv) ↦[(winA hb k c).view.set]{fullShare} A k)
    ∗ (winI k c).view.loc (thr d cv jv) ↦[(winI k c).view.set]{fullShare} idxs (F := F) d X)

instance (A : (k : Fin 7) → Buf (Elt F) ((argM k).view.loc (thr d cv jv))) (X : ℕ → ℕ → BitVec 32) (k : Fin 7) (c : Fin 8) :
    Storable (upEmb : UEmb _ 𝕄) (gone hb d A X k c) := by
  unfold gone; infer_instance

/-- What an index array holds for the tile. -/
def Holds (A : (k : Fin 7) → Buf (Elt F) ((argM k).view.loc (thr d cv jv))) (X : ℕ → ℕ → BitVec 32) : Prop :=
  ∀ (k : Fin 7) (c : Fin 8) (x : S64.Idx), (winA hb k c).view.read (Elt F) (A k) x = X k.val (64 * c.val + (x 0).val)

variable {A : (k : Fin 7) → Buf (Elt F) ((argM k).view.loc (thr d cv jv))} {X : ℕ → ℕ → BitVec 32}

/-- `m` of a batch's copies started. -/
def Started (A : (k : Fin 7) → Buf (Elt F) ((argM k).view.loc (thr d cv jv))) (X : ℕ → ℕ → BitVec 32) (ι : Ix) {n c₀ : ℕ} (hn : 7 * c₀ + n ≤ 56) (m : ℕ) : sProp 𝕄 :=
  iprop(bigSep (pending m) (fun t : Fin n => toGo hb d A (kOf t) (cOf hn t))
    ∗ Batch EC (thr d cv jv) (.dma cc0_scratch6.sem) ι copyN (fun t : Fin n => gone hb d A X (kOf t) (cOf hn t)) m 0)

/-- An index copy is started: it is the batch's next member. -/
theorem copy_run [Infinite Name] [EC.LandsIn (upEmb : UEmb _ 𝕄)] (hA : Holds hb d A X) (ι : Ix) {n c₀ : ℕ} (hn : 7 * c₀ + n ≤ 56)
    (r : ℕ) (k : Fin 7) (hm : 7 * r + k.val < n) {off : Fin 1 → ℕ} (hoff : off = ![b + 64 * (c₀ + r)]) {hh ok}
    {α : Type} (K : PUnit → TP F cv jv α) (Q : α → sProp 𝕄) :
    Started EC hb d A X ι hn (7 * r + k.val)
      ⊢ iprop((Started EC hb d A X ι hn (7 * r + k.val + 1) -∗ wp frame (wpE defs 𝒱 (thr d cv jv) bd) Set.univ (K ⟨⟩) Q)
        -∗ wp frame (wpE defs 𝒱 (thr d cv jv) bd) Set.univ (copy (argM k) off hh ![k.val, c₀ + r, 0] ok >>= K) Q) := by
  subst hoff
  have hk : kOf (⟨7 * r + k.val, hm⟩ : Fin n) = k := Fin.ext (by show (7 * r + k.val) % 7 = k.val; have := k.isLt; omega)
  have hc : cOf hn (⟨7 * r + k.val, hm⟩ : Fin n) = ⟨c₀ + r, by have := k.isLt; omega⟩ :=
    Fin.ext (by show c₀ + (7 * r + k.val) / 7 = c₀ + r; have := k.isLt; omega)
  unfold Started
  iintro ⟨Hp, HB⟩ Hk
  ihave Hp := (Entails.of_eq (bigSep_pending_step (fun t : Fin n => toGo (Ix := Ix) (Name := Name) (U := U) (Lvl := Lvl) hb d A (kOf t) (cOf hn t)) (7 * r + k.val) hm)) $$ Hp
  icases Hp with ⟨Ht, Hp⟩
  ihave Ht := (Entails.of_eq (show toGo (Ix := Ix) (Name := Name) (U := U) (Lvl := Lvl) hb d A (kOf (⟨7 * r + k.val, hm⟩ : Fin n)) (cOf hn ⟨7 * r + k.val, hm⟩)
    = toGo hb d A k ⟨c₀ + r, by have := k.isLt; omega⟩ by rw [hk, hc])) $$ Ht
  unfold toGo
  icases Ht with ⟨Hs, ⟨%f, Hd⟩⟩
  unfold copy
  iapply (wp_dmaBatch EC 𝒱 (thr d cv jv) bd ι copyN rfl (Finset.Subset.refl _) hm (Nat.zero_le _) (D := fun t : Fin n => gone hb d A X (kOf t) (cOf hn t)) (by
    rw [hk, hc]
    unfold gone
    iintro ⟨Hd, Hs⟩
    isplitl [Hs]
    · iexact Hs
    · ihave Hd := (Entails.of_eq (pointsTo_congr (g := idxs (F := F) d X) fun i hi => by
        obtain ⟨x, -, rfl⟩ := Finset.mem_map.mp hi
        rw [View.write_emb, if_pos (Finset.mem_univ _)]
        have h := idxW_emb rfl (inbIdx k ⟨c₀ + r, by have := k.isLt; omega⟩) x
        refine (hA k ⟨c₀ + r, by have := k.isLt; omega⟩ x).trans ?_
        show _ = X _ (64 * _ + _)
        rw [h.1, h.2.1, h.2.2])) $$ Hd
      iexact Hd)) $$ [Hs Hd HB]
  · isplitl [Hs]
    · iexact Hs
    isplitl [Hd]
    · iexact Hd
    · iexact HB
  iintro HB
  iapply Hk
  isplitl [Hp]
  · iexact Hp
  · iexact HB

/-- What a thread's waits have recorded: nothing but its transfers' ones, besides what was there. -/
def Owed (c : Thread nD τ) (ι : Ix) (O : CellTallies nD τ sig Ix) (W : Waits sig Ix) : sProp 𝕄 :=
  iprop(∃ W', ⌜∀ p ∈ W', p ∈ W ∨ p.2 = ι⌝ ∗ owes c O W')

/-- `m` of a batch's copies waited for. -/
def Waited (A : (k : Fin 7) → Buf (Elt F) ((argM k).view.loc (thr d cv jv))) (X : ℕ → ℕ → BitVec 32) (ι : Ix) (O : CellTallies nD τ sig Ix) (W : Waits sig Ix)
    {n c₀ : ℕ} (hn : 7 * c₀ + n ≤ 56) (m : ℕ) : sProp 𝕄 :=
  iprop((Batch EC (thr d cv jv) (.dma cc0_scratch6.sem) ι copyN (fun t : Fin n => gone hb d A X (kOf t) (cOf hn t)) n (m * copyN))
    ∗ Owed (thr d cv jv) ι O W ∗ MayWaits (thr d cv jv) ι O)

/-- One wait: a copy's amount is taken out of the batch. -/
theorem copied_run [EC.LandsIn (upEmb : UEmb _ 𝕄)] (ι : Ix) (O : CellTallies nD τ sig Ix) (W : Waits sig Ix) {n c₀ : ℕ} (hn : 7 * c₀ + n ≤ 56)
    (m : ℕ) (hm : m < n) (M : Memref sig .scVector .hbm S16384 .i32) {off : Fin 1 → ℕ} {hh} {o : Fin 3 → ℕ} {ok}
    {α : Type} (K : PUnit → TP F cv jv α) (Q : α → sProp 𝕄) :
    Waited EC hb d A X ι O W hn m
      ⊢ iprop((Waited EC hb d A X ι O W hn (m + 1) -∗ wp frame (wpE defs 𝒱 (thr d cv jv) bd) Set.univ (K ⟨⟩) Q)
        -∗ wp frame (wpE defs 𝒱 (thr d cv jv) bd) Set.univ (copied M off hh o ok >>= K) Q) := by
  unfold Waited Owed
  iintro ⟨HB, ⟨%W', %hW, HO⟩, #Hmw⟩ Hk
  unfold copied
  iapply (wp_waitBatchMulO EC 𝒱 (thr d cv jv) bd (srcw := argW M off hh) (dstw := idxW o ok) (hsrc := View.wordExact_bits rfl)
    (hdst := (View.wordExact_bits rfl).reshape _ _) ι (N := copyN) 1 (show (idxW o ok).view.dmaCredit = 1 * copyN from (Nat.one_mul _).symm) (j := n)
    (show m * copyN + 1 * copyN ≤ copyN * n by rw [← Nat.add_mul, Nat.mul_comm]; exact Nat.mul_le_mul_left _ hm)) $$ [HB HO]
  · isplitl [HB]
    · iexact HB
    isplitl [HO]
    · iexact HO
    · iapply (MayWaits.elim (SemLoc.dma cc0_scratch6.sem)) $$ Hmw
  iintro ⟨HB, HO⟩
  iapply Hk
  isplitl [HB]
  · rw [Nat.add_mul]; iexact HB
  isplitl [HO]
  · iexists _
    isplitr
    swap
    · iexact HO
    ipureintro
    intro p hp
    rcases Finset.mem_insert.mp hp with hp | hp
    · exact .inr (hp ▸ rfl)
    · exact hW p hp
  · iexact Hmw

end Cert.Proof.Stage
-- ==== Proof.Fetch.lean ====
/-
  A chunk's table rows brought in.

  A chunk's seven gathers are on one semaphore, and each row of each is one member of a batch. A row takes its place in
  the slab's right half, and the token the write needs; the batch delivers all the rows of the slab once the seven
  waits are over.
-/
module

public import proofs.«01_k».proof.Proof.Stage

@[expose] public section

set_option maxHeartbeats 1000000

noncomputable section

namespace Cert.Proof.Fetch

open Cert.KernelIdeal Cert.KernelIdeal.Gen
open Idealize.ShloMosaic Idealize.ShloMosaic.Transfers Idealize.ShloMosaic.SparseCore Idealize.SL.Sem Cert.Proof.Geo Cert.Proof.Rows Cert.Proof.Segs
open Cert.Proof.Held Cert.Proof.GatherBatch Cert.Proof.Stage
open Idealize.SL
open Idealize.SL.BI (sProp Storable bigSep bigSep_insert)
open scoped Idealize.SL.BI
open Idealize.SL.BI.BIBase Idealize.SL.BI.Laws Idealize.SL.ProofMode
open Idealize.SL.RA

variable {F : FTy → Type} [FloatOps F]

/-- A slab's seven blocks of rows lie in the row memory. -/
theorem inbSlab (q : Fin 2) (k : Fin 7) : InbSlab q.val k.val := fun a => by
  have := q.isLt; have := k.isLt
  fin_cases a
  · show q.val + 1 ≤ 2; omega
  · show k.val + 1 ≤ 7; omega
  · show 0 + 64 ≤ 64; omega
  · show 0 + 128 ≤ 128; omega

/-- One table's rows of a slab. -/
abbrev winS (q : Fin 2) (k : Fin 7) : Memref sig .scVector .vmem S64x128 .f32 := slabW ![q.val, k.val, 0, 0] (inbSlab q k)

/-- The elements of one row. -/
def rowSet (q : Fin 2) (k : Fin 7) (j : Fin 64) : Finset S2x7x64x128.Idx :=
  Finset.univ.filter fun i => (i 0).val = q.val ∧ (i 1).val = k.val ∧ (i 2).val = j.val

/-- One row of a table's rows, as a gather names it. -/
abbrev rowV (q : Fin 2) (k : Fin 7) (j : Fin 64) := (winS q k).view.slice (S64x128.rowRect (0 : Fin 2) j)

/-- Where a row's elements are. -/
theorem rowV_emb (q : Fin 2) (k : Fin 7) (j : Fin 64) (x : (S64x128.rowShape (0 : Fin 2)).Idx) :
    (((((rowV q k j).emb x : S2x7x64x128.Idx) 0).val = q.val ∧ (((rowV q k j).emb x : S2x7x64x128.Idx) 1).val = k.val)
      ∧ (((rowV q k j).emb x : S2x7x64x128.Idx) 2).val = j.val) ∧ (((rowV q k j).emb x : S2x7x64x128.Idx) 3).val = (x (1 : Fin 2)).val := by
  have h := slabW_emb rfl (inbSlab q k) ((S64x128.rowRect (0 : Fin 2) j).emb x)
  have hx : (x (0 : Fin 2)).val < 1 := (x (0 : Fin 2)).isLt
  have h0 : ((((S64x128.rowRect (0 : Fin 2) j).emb x : S64x128.Idx)) 0).val = j.val := by
    show j.val + 1 * (x (0 : Fin 2)).val = _; omega
  have h1 : ((((S64x128.rowRect (0 : Fin 2) j).emb x : S64x128.Idx)) 1).val = (x (1 : Fin 2)).val := by
    show 0 + 1 * (x (1 : Fin 2)).val = _; omega
  exact ⟨⟨h.1, h.2.1.trans h0⟩, h.2.2.trans h1⟩

/-- A row's elements, as a set. -/
theorem rowV_set (q : Fin 2) (k : Fin 7) (j : Fin 64) : (rowV q k j).set = rowSet q k j := by
  ext i
  unfold rowSet
  constructor
  · intro hi
    obtain ⟨x, -, rfl⟩ := Finset.mem_map.mp hi
    have h := rowV_emb q k j x
    exact Finset.mem_filter.mpr ⟨Finset.mem_univ _, h.1.1.1, h.1.1.2, h.1.2⟩
  · intro hi
    obtain ⟨-, h0, h1, h2⟩ := Finset.mem_filter.mp hi
    have h3 : ((i : S2x7x64x128.Idx) 3).val < 128 := ((i : S2x7x64x128.Idx) 3).isLt
    let x : (S64x128.rowShape (0 : Fin 2)).Idx := fun a : Fin 2 => match a with
      | 0 => (⟨0, Nat.one_pos⟩ : Fin 1)
      | 1 => (⟨((i : S2x7x64x128.Idx) 3).val, h3⟩ : Fin 128)
    refine Finset.mem_map.mpr ⟨x, Finset.mem_univ _, ?_⟩
    have h := rowV_emb q k j x
    funext a
    refine Fin.ext ?_
    have ha : a.val < 4 := a.isLt
    rcases (show a.val = 0 ∨ a.val = 1 ∨ a.val = 2 ∨ a.val = 3 by omega) with e | e | e | e
    · obtain rfl : a = (0 : Fin 4) := Fin.ext e
      exact h.1.1.1.trans h0.symm
    · obtain rfl : a = (1 : Fin 4) := Fin.ext e
      exact h.1.1.2.trans h1.symm
    · obtain rfl : a = (2 : Fin 4) := Fin.ext e
      exact h.1.2.trans h2.symm
    · obtain rfl : a = (3 : Fin 4) := Fin.ext e
      exact h.2

variable {Ix : Type} [DecidableEq Ix] {Name : Type} [DecidableEq Name] {U : Type} [URA U] {Lvl : Type} [Preorder Lvl]

local notation "𝕄" => MT nD τ sig Ix (Elt F) Name U Lvl

variable (EC : UEmb Counters (MT nD τ sig Ix (Elt F) Name U Lvl))
variable {defs : Defs nD τ sig (Elt F) Λ₀} (𝒱 : Variants) (d : Dev nD) {cv : Fin τ.nSC} {jv : Fin τ.nSub} (bd : Option 𝒱.V)

/-- A separating product over pairs, split. -/
theorem bsep {ι : Type} [DecidableEq ι] (s : Finset ι) (Φ Ψ : ι → sProp 𝕄) :
    bigSep s (fun a => iprop(Φ a ∗ Ψ a)) = iprop(bigSep s Φ ∗ bigSep s Ψ) := BI.bigSep_sep s Φ Ψ

/-- The rows a chunk's products are over, as the row memory holds them. -/
def rowsOf (T : ℕ → ℕ → ℕ → F .f32) : Buf (Elt F) (rowsM.view.loc (thr d cv jv)) :=
  fun i : S2x7x64x128.Idx => T (i 1).val (i 2).val (i 3).val

/-- A slab is its 448 rows. -/
theorem slab_rows (q : Fin 2) (sh : PosShare TreeShare) (f : Buf (Elt F) (rowsM.view.loc (thr d cv jv))) :
    (rowsM.view.loc (thr d cv jv) ↦[slab q.val]{sh} f : sProp 𝕄)
      = bigSep Finset.univ fun k : Fin 7 => bigSep Finset.univ fun j : Fin 64 => rowsM.view.loc (thr d cv jv) ↦[rowSet q k j]{sh} f := by
  have e : slab q.val = Finset.univ.biUnion fun p : Fin 7 × Fin 64 => rowSet q p.1 p.2 := by
    ext i
    simp only [mem_slab, Finset.mem_biUnion, Finset.mem_univ, true_and, rowSet, Finset.mem_filter]
    constructor
    · intro h
      exact ⟨(⟨(i 1).val, (i 1).isLt⟩, ⟨(i 2).val, (i 2).isLt⟩), h, rfl, rfl⟩
    · rintro ⟨_, h, -⟩; exact h
  have hd : ∀ p ∈ (Finset.univ : Finset (Fin 7 × Fin 64)), ∀ p' ∈ Finset.univ, p ≠ p' → Disjoint (rowSet q p.1 p.2) (rowSet q p'.1 p'.2) := by
    rintro ⟨k, j⟩ - ⟨k', j'⟩ - hne
    refine Finset.disjoint_left.mpr fun i hi hi' => hne ?_
    obtain ⟨-, -, h1, h2⟩ := Finset.mem_filter.mp hi
    obtain ⟨-, -, h1', h2'⟩ := Finset.mem_filter.mp hi'
    exact Prod.ext (Fin.ext (h1.symm.trans h1')) (Fin.ext (h2.symm.trans h2'))
  rw [e, pointsTo_biUnion Finset.univ _ hd, BI.bigSep_univ_prod]

/-- The units one row credits. -/
abbrev rowN : ℕ := (rowV 0 0 0).dmaCredit

/-- A row, once in. -/
def landed (cv : Fin τ.nSC) (jv : Fin τ.nSub) (T : ℕ → ℕ → ℕ → F .f32) (γ : Fin 2 × Fin 7 × Fin 64 → ℕ) (q : Fin 2) (k : Fin 7) (j : Fin 64) : sProp 𝕄 :=
  iprop((rowsM.view.loc (thr d cv jv) ↦[rowSet q k j]{rhalf} rowsOf d T) ∗ tok EC (γ (q, k, j)))

/-- A chunk has 64 lookups. -/
theorem numel64 : S64.numel = 64 := rfl

/-- The index a row was fetched by. -/
def entry (cv : Fin τ.nSC) (jv : Fin τ.nSub) (X : ℕ → ℕ → BitVec 32) (k : Fin 7) (c : Fin 8) (j : Fin 64) : sProp 𝕄 :=
  iprop((winI k c).view.loc (thr d cv jv) ↦[{entryAt (thr d cv jv) (winI k c) numel64 j}]{fullShare} idxs (F := F) d X)

instance [EC.LandsIn (upEmb : UEmb _ 𝕄)] (T : ℕ → ℕ → ℕ → F .f32) (γ : Fin 2 × Fin 7 × Fin 64 → ℕ) (q : Fin 2) (k : Fin 7) (j : Fin 64) :
    Storable (upEmb : UEmb _ 𝕄) (landed EC d cv jv T γ q k j : sProp 𝕄) := by
  unfold landed; infer_instance
instance (X : ℕ → ℕ → BitVec 32) (k : Fin 7) (c : Fin 8) (j : Fin 64) : Storable (upEmb : UEmb _ 𝕄) (entry (F := F) d cv jv X k c j : sProp 𝕄) := by
  unfold entry; infer_instance

/-- Which of a window's elements is entry `j`. -/
abbrev nth (j : Fin 64) : S64.Idx := S64.rowMajor.symm (Fin.cast numel64.symm j)

/-- A chunk's indices, one by one. -/
theorem entries (X : ℕ → ℕ → BitVec 32) (k : Fin 7) (c : Fin 8) :
    ((winI k c).view.loc (thr d cv jv) ↦[(winI k c).view.set]{fullShare} idxs (F := F) d X : sProp 𝕄)
      = bigSep Finset.univ fun j : Fin 64 => entry (F := F) d cv jv X k c j :=
  pointsTo_entries (thr d cv jv) (winI k c).view nth
    (S64.rowMajor.symm.bijective.comp (finCongr numel64.symm).bijective) fullShare (idxs (F := F) d X)

/-- An index, read in the tile's memory. -/
theorem read_idx (X : ℕ → ℕ → BitVec 32) (k : Fin 7) (c : Fin 8) (x : S64.Idx) :
    (winI k c).view.read (Elt F) (idxs (F := F) (cv := cv) (jv := jv) d X) x = X k.val (64 * c.val + (x 0).val) := by
  have h := idxW_emb rfl (inbIdx k c) x
  show X _ (64 * _ + _) = _
  rw [h.1, h.2.1, h.2.2]

/-- The place of an index in its chunk. -/
theorem nth_val (j : Fin 64) : (nth j 0).val = j.val := by
  have h := Shape.rowMajor_val_one (nth j)
  rw [Equiv.apply_symm_apply] at h
  exact h.symm

variable (fR : S1000x128.Idx → F .f32) (fE : S100000x128.Idx → F .f32)

/-- The table of relations in the memory it lies in. -/
abbrev bufR : Buf (Elt F) (relM.view.loc (thr d cv jv)) := fun i : S1000x128.Idx => fR i
/-- The table of entities in the memory it lies in. -/
abbrev bufE : Buf (Elt F) (entM.view.loc (thr d cv jv)) := fun i : S100000x128.Idx => fE i

/-- The relations' table is taken whole. -/
theorem inbRel : InbRel := by decide
/-- The entities' table is taken whole. -/
theorem inbEnt : InbEnt := by decide

/-- A share of the table a gather reads. -/
def srcAt (cv : Fin τ.nSC) (jv : Fin τ.nSub) (k : Fin 7) (s : PosShare TreeShare) : sProp 𝕄 :=
  if k = 0 then iprop((relW inbRel).view.loc (thr d cv jv) ↦[(relW inbRel).view.set]{s} bufR d fR)
  else iprop((entW inbEnt).view.loc (thr d cv jv) ↦[(entW inbEnt).view.set]{s} bufE d fE)

instance (k : Fin 7) (s : PosShare TreeShare) : Storable (upEmb : UEmb _ 𝕄) (srcAt d fR fE cv jv k s : sProp 𝕄) := by
  unfold srcAt; split <;> infer_instance

/-- A table's share, cut into one piece per row of a gather. -/
theorem srcAt_pieces (k : Fin 7) (s : PosShare TreeShare) :
    (srcAt d fR fE cv jv k s : sProp 𝕄) = bigSep Finset.univ fun j : Fin 64 => srcAt d fR fE cv jv k (pieceOf s 64 (by decide) j) := by
  unfold srcAt
  split
  · exact pointsTo_piecesOf _ _ _ _
  · exact pointsTo_piecesOf _ _ _ _

/-- What a chunk's row is, by its table, its place in the chunk and its column: the row its index names. -/
def tabOf (X : ℕ → ℕ → BitVec 32) (c : ℕ) (k j l : ℕ) : F .f32 :=
  if k = 0 then fR (ix2 ⟨(X 0 (64 * c + j)).toNat % 1000, Nat.mod_lt _ (by decide)⟩ ⟨l % 128, Nat.mod_lt _ (by decide)⟩)
  else fE (ix2 ⟨(X k (64 * c + j)).toNat % 100000, Nat.mod_lt _ (by decide)⟩ ⟨l % 128, Nat.mod_lt _ (by decide)⟩)

/-- The first row of a lookup is the relations'. -/
theorem tabOf_zero (X : ℕ → ℕ → BitVec 32) (c j l : ℕ) : tabOf fR fE X c 0 j l
    = fR (ix2 ⟨(X 0 (64 * c + j)).toNat % 1000, Nat.mod_lt _ (by decide)⟩ ⟨l % 128, Nat.mod_lt _ (by decide)⟩) := rfl

/-- The other rows are the entities'. -/
theorem tabOf_ne (X : ℕ → ℕ → BitVec 32) (c : ℕ) {k : ℕ} (hk : k ≠ 0) (j l : ℕ) : tabOf fR fE X c k j l
    = fE (ix2 ⟨(X k (64 * c + j)).toNat % 100000, Nat.mod_lt _ (by decide)⟩ ⟨l % 128, Nat.mod_lt _ (by decide)⟩) := if_neg hk

variable (X : ℕ → ℕ → BitVec 32) (γ : Fin 2 × Fin 7 × Fin 64 → ℕ) (σ : Fin 7 → PosShare TreeShare)

/-- The indices are in their tables' ranges. -/
def Bound : Prop := ∀ (k : Fin 7) (n : ℕ), n < 512 → (X k.val n).toNat < if k = 0 then 1000 else 100000

abbrev kR (t : Fin (7 * 64)) : Fin 7 := ⟨t.val / 64, by omega⟩
abbrev jR (t : Fin (7 * 64)) : Fin 64 := ⟨t.val % 64, by omega⟩

/-- What a gather's row delivers. -/
def member (cv : Fin τ.nSC) (jv : Fin τ.nSub) (q : Fin 2) (c : Fin 8) (k : Fin 7) (j : Fin 64) : sProp 𝕄 :=
  iprop((landed EC d cv jv (tabOf fR fE X c.val) γ q k j ∗ entry (F := F) d cv jv X k c j) ∗ srcAt d fR fE cv jv k (pieceOf (σ k) 64 (by decide) j))

instance [EC.LandsIn (upEmb : UEmb _ 𝕄)] (q : Fin 2) (c : Fin 8) (k : Fin 7) (j : Fin 64) :
    Storable (upEmb : UEmb _ 𝕄) (member EC d fR fE X γ σ cv jv q c k j : sProp 𝕄) := by
  unfold member; infer_instance

/-- What a gather starts from, its slab's rows holding what they may. -/
def room (cv : Fin τ.nSC) (jv : Fin τ.nSub) (f : Buf (Elt F) (rowsM.view.loc (thr d cv jv))) (q : Fin 2) (c : Fin 8) (k : Fin 7) : sProp 𝕄 :=
  iprop((bigSep Finset.univ fun j : Fin 64 => iprop((rowsM.view.loc (thr d cv jv) ↦[rowSet q k j]{rhalf} f) ∗ tok EC (γ (q, k, j))))
    ∗ ((winI k c).view.loc (thr d cv jv) ↦[(winI k c).view.set]{fullShare} idxs (F := F) d X) ∗ srcAt d fR fE cv jv k (σ k))

/-- `m` of a chunk's gathers started. -/
def Going (cv : Fin τ.nSC) (jv : Fin τ.nSub) (δ : ℕ) (ιn : Name) (ι : Ix) (q : Fin 2) (c : Fin 8) (sem : DmaSem sig) (m : ℕ) : sProp 𝕄 :=
  iprop(inv ιn (heldBody (Val := Elt F) EC (rowsM.view.loc (thr d cv jv)) δ γ)
    ∗ (∃ f, bigSep (pending m) (room EC d fR fE X γ σ cv jv f q c))
    ∗ Batch EC (thr d cv jv) (.dma sem) ι rowN (fun t => member EC d fR fE X γ σ cv jv q c (kR t) (jR t)) (m * 64) 0)

variable {fR fE X γ σ}

/-- One gather is started: its rows are the next members of the batch. -/
theorem gather_step [Infinite Name] [EC.LandsIn (upEmb : UEmb _ 𝕄)] {δ : ℕ} {ιn : Name} (ι : Ix) (q : Fin 2) (c : Fin 8) (k : Fin 7) (sem : DmaSem sig)
    {s₀ : Shape} (src : Memref sig .scVector .hbm s₀ .f32) (hg : s₀.Gathers 0 S64x128) (fs : Buf (Elt F) (src.view.loc (thr d cv jv)))
    (hs : ∀ s, (srcAt d fR fE cv jv k s : sProp 𝕄) = iprop(src.view.loc (thr d cv jv) ↦[src.view.set]{s} fs))
    (hin : ∀ x, ((winI k c).view.read (Elt F) (idxs (F := F) (cv := cv) (jv := jv) d X) x).toNat < s₀.size hg.axis)
    (hv : ∀ (j : Fin 64) (x : (S64x128.rowShape (0 : Fin 2)).Idx),
      src.view.read (Elt F) fs (hg.rowIdx (rows ((winI k c).view.read (Elt F) (idxs (F := F) (cv := cv) (jv := jv) d X)) rfl hin j) x)
        = tabOf fR fE X c.val k.val j.val (x (1 : Fin 2)).val)
    {so io hsrc he hsp hr} {α : Type} (K : PUnit → TP F cv jv α) (Q : α → sProp 𝕄) :
    Going EC d fR fE X γ σ cv jv δ ιn ι q c sem k.val
      ⊢ iprop((Going EC d fR fE X γ σ cv jv δ ιn ι q c sem (k.val + 1) -∗ wp frame (wpE defs 𝒱 (thr d cv jv) bd) Set.univ (K ⟨⟩) Q)
        -∗ wp frame (wpE defs 𝒱 (thr d cv jv) bd) Set.univ
          (enqueueIndirectGather rfl src (slabW ![q.val, k.val, 0, 0] so) hg (idxW ![k.val, c.val, 0] io) rfl sem hsrc he hsp hr >>= K) Q) := by
  unfold Going
  iintro ⟨#Hinv, ⟨%f, Hp⟩, HB⟩ Hk
  ihave Hp := (Entails.of_eq (bigSep_pending_step (room EC d fR fE X γ σ cv jv f q c) k.val k.isLt)) $$ Hp
  icases Hp with ⟨Ht, Hp⟩
  unfold room
  icases Ht with ⟨Hr, Hi, Hs⟩
  ihave Hs := (Entails.of_eq (hs (σ k))) $$ Hs
  have hk : ∀ j : Fin 64, kR ⟨k.val * 64 + j.val, by omega⟩ = k := fun j => Fin.ext (by show (k.val * 64 + j.val) / 64 = _; omega)
  have hj : ∀ j : Fin 64, jR ⟨k.val * 64 + j.val, by omega⟩ = j := fun j => Fin.ext (by show (k.val * 64 + j.val) % 64 = _; omega)
  ihave Hr := (bigSep_mono_pers Finset.univ iprop(inv ιn (heldBody (Val := Elt F) EC (rowsM.view.loc (thr d cv jv)) δ γ)) _
    (fun j : Fin 64 => iprop(inv ιn (heldBody (Val := Elt F) EC (rowsM.view.loc (thr d cv jv)) δ γ)
      ∗ (rowsM.view.loc (thr d cv jv) ↦[rowSet q k j]{rhalf} f) ∗ tok EC (γ (q, k, j)))) (fun j _ => Entails.rfl)) $$ [Hr]
  · isplitr
    · iexact Hinv
    · iexact Hr
  have hset : ∀ j : Fin 64, (rowV q k j).set = rowSet q k j := rowV_set q k
  let w : (j : Fin 64) → (S64x128.rowShape (0 : Fin 2)).Idx → F .f32 := fun j x =>
    src.view.read (Elt F) fs (hg.rowIdx (rows ((winI k c).view.read (Elt F) (idxs (F := F) (cv := cv) (jv := jv) d X)) rfl hin j) x)
  have hW : ∀ j : Fin 64, iprop(inv ιn (heldBody (Val := Elt F) EC (rowsM.view.loc (thr d cv jv)) δ γ)
      ∗ (rowsM.view.loc (thr d cv jv) ↦[rowSet q k j]{rhalf} f) ∗ tok EC (γ (q, k, j)))
      ⊢ (writeUpdate (thr d cv jv) (rowV q k j) (w j)
        iprop(((rowV q k j).loc (thr d cv jv) ↦[(rowV q k j).set]{rhalf} ((rowV q k j).write (Elt F) f (w j) Finset.univ)) ∗ tok EC (γ (q, k, j))) : sProp 𝕄) := fun j => by
    have h := held_writeUpdate (Ix := Ix) (Name := Name) (U := U) (Lvl := Lvl) EC (thr d cv jv) (v := rowV q k j) (w := w j) (fd := f) (δ := δ) (γ := γ) (ι := ιn) (q, k, j)
    rw [hset] at h
    rw [hset]
    exact h
  have hD : ∀ j : Fin 64, iprop(((((rowV q k j).loc (thr d cv jv) ↦[(rowV q k j).set]{rhalf} ((rowV q k j).write (Elt F) f (w j) Finset.univ)) ∗ tok EC (γ (q, k, j)))
        ∗ (winI k c).view.loc (thr d cv jv) ↦[{entryAt (thr d cv jv) (winI k c) numel64 j}]{fullShare} idxs (F := F) d X)
        ∗ src.view.loc (thr d cv jv) ↦[src.view.set]{pieceOf (σ k) 64 (by decide) j} fs)
      ⊢ (member EC d fR fE X γ σ cv jv q c (kR ⟨k.val * 64 + j.val, by omega⟩) (jR ⟨k.val * 64 + j.val, by omega⟩) : sProp 𝕄) := fun j => by
    rw [hk, hj]
    unfold member landed entry
    rw [hs]
    refine sep_mono (sep_mono (sep_mono (Entails.of_eq ?_) .rfl) .rfl) .rfl
    rw [← hset]
    refine pointsTo_congr fun i hi => ?_
    obtain ⟨x, -, rfl⟩ := Finset.mem_map.mp hi
    have h := rowV_emb q k j x
    refine ((View.write_emb_of_mem (v := rowV q k j) (f := f) (w := w j) (Finset.mem_univ x)).trans (hv j x)).trans ?_
    show _ = tabOf _ _ _ _ _ _ _
    rw [h.1.1.2, h.1.2, h.2]
  iapply (wp_gatherBatch EC 𝒱 (thr d cv jv) bd (src := src) (dst := slabW ![q.val, k.val, 0, 0] so) (hg := hg) (offs := winI k c) (hn := rfl) (sem := sem)
    ι rowN (q := σ k) (qo := fullShare) (fs := fs) (fo := idxs (F := F) d X) (fun j => rfl)
    (show 0 < S64x128.size hg.axis' from (by decide : 0 < 64)) hin
    (n := 7 * 64) (j₀ := k.val * 64) (u := 0) (by show k.val * 64 + 64 ≤ 7 * 64; omega) (Nat.zero_le _)
    (D := fun t => member EC d fR fE X γ σ cv jv q c (kR t) (jR t))
    (fun j : Fin 64 => iprop(inv ιn (heldBody (Val := Elt F) EC (rowsM.view.loc (thr d cv jv)) δ γ)
      ∗ (rowsM.view.loc (thr d cv jv) ↦[rowSet q k j]{rhalf} f) ∗ tok EC (γ (q, k, j))))
    (fun j : Fin 64 => iprop(((rowV q k j).loc (thr d cv jv) ↦[(rowV q k j).set]{rhalf} ((rowV q k j).write (Elt F) f (w j) Finset.univ))
      ∗ tok EC (γ (q, k, j))))
    (fun j => hW j) (fun j => hD j)) $$ [Hr Hi Hs HB]
  · isplitl [Hs]
    · iexact Hs
    isplitl [Hr]
    · iexact Hr
    isplitl [Hi]
    · iexact Hi
    · iexact HB
  iintro HB
  iapply Hk
  isplitr
  · iexact Hinv
  isplitl [Hp]
  · iexists f; iexact Hp
  · rw [Nat.add_mul]; iexact HB

/-- The gather from the relations' table is started. -/
theorem gatherR_run [Infinite Name] [EC.LandsIn (upEmb : UEmb _ 𝕄)] {δ : ℕ} {ιn : Name} (ι : Ix) (q : Fin 2) (c : Fin 8) (sem : DmaSem sig)
    (hX : Bound X) {gR so io} {α : Type} (K : PUnit → TP F cv jv α) (Q : α → sProp 𝕄) :
    Going EC d fR fE X γ σ cv jv δ ιn ι q c sem 0
      ⊢ iprop((Going EC d fR fE X γ σ cv jv δ ιn ι q c sem 1 -∗ wp frame (wpE defs 𝒱 (thr d cv jv) bd) Set.univ (K ⟨⟩) Q)
        -∗ wp frame (wpE defs 𝒱 (thr d cv jv) bd) Set.univ (gatherR gR ![q.val, 0, 0, 0] so ![0, c.val, 0] io sem >>= K) Q) := by
  have hin : ∀ x : S64.Idx, ((winI 0 c).view.read (Elt F) (idxs (F := F) (cv := cv) (jv := jv) d X) x).toNat < 1000 := fun x => by
    have hx : (x 0).val < 64 := (x 0).isLt
    rw [read_idx]; exact hX 0 _ (by have := c.isLt; omega)
  refine gather_step EC 𝒱 d bd ι q c 0 sem (relW inbRel) gathers_S1000x128_S64x128 (bufR d fR) (fun s => if_pos rfl) hin (fun j x => ?_) K Q
  refine Eq.trans ?_ (tabOf_zero fR fE X c.val j.val (x (1 : Fin 2)).val).symm
  refine congrArg fR (funext fun a => Fin.ext ?_)
  obtain rfl | rfl : a = (0 : Fin 2) ∨ a = (1 : Fin 2) := by fin_cases a <;> simp
  · show 0 + 1 * ((winI 0 c).view.read (Elt F) (idxs (F := F) (cv := cv) (jv := jv) d X) (nth j)).toNat = (X 0 (64 * c.val + j.val)).toNat % 1000
    have h := hin (nth j)
    rw [read_idx, nth_val] at h ⊢
    exact ((Nat.zero_add _).trans (Nat.one_mul _)).trans (Nat.mod_eq_of_lt h).symm
  · show 0 + 1 * (x (1 : Fin 2)).val = (x (1 : Fin 2)).val % 128
    have hx : (x (1 : Fin 2)).val < 128 := (x (1 : Fin 2)).isLt
    omega

/-- A gather from the entities' table is started. -/
theorem gatherE_run [Infinite Name] [EC.LandsIn (upEmb : UEmb _ 𝕄)] {δ : ℕ} {ιn : Name} (ι : Ix) (q : Fin 2) (c : Fin 8) (k : Fin 7) (hk : k ≠ 0) (sem : DmaSem sig)
    (hX : Bound X) {gE so io} {α : Type} (K : PUnit → TP F cv jv α) (Q : α → sProp 𝕄) :
    Going EC d fR fE X γ σ cv jv δ ιn ι q c sem k.val
      ⊢ iprop((Going EC d fR fE X γ σ cv jv δ ιn ι q c sem (k.val + 1) -∗ wp frame (wpE defs 𝒱 (thr d cv jv) bd) Set.univ (K ⟨⟩) Q)
        -∗ wp frame (wpE defs 𝒱 (thr d cv jv) bd) Set.univ (gatherE gE ![q.val, k.val, 0, 0] so ![k.val, c.val, 0] io sem >>= K) Q) := by
  have hin : ∀ x : S64.Idx, ((winI k c).view.read (Elt F) (idxs (F := F) (cv := cv) (jv := jv) d X) x).toNat < 100000 := fun x => by
    have hx : (x 0).val < 64 := (x 0).isLt
    have h := hX k (64 * c.val + (x 0).val) (by have := c.isLt; omega)
    rw [if_neg hk] at h
    rw [read_idx]; exact h
  refine gather_step EC 𝒱 d bd ι q c k sem (entW inbEnt) gathers_S100000x128_S64x128 (bufE d fE) (fun s => if_neg hk) hin (fun j x => ?_) K Q
  refine Eq.trans ?_ (tabOf_ne fR fE X c.val (fun h => hk (Fin.ext h)) j.val (x (1 : Fin 2)).val).symm
  refine congrArg fE (funext fun a => Fin.ext ?_)
  obtain rfl | rfl : a = (0 : Fin 2) ∨ a = (1 : Fin 2) := by fin_cases a <;> simp
  · show 0 + 1 * ((winI k c).view.read (Elt F) (idxs (F := F) (cv := cv) (jv := jv) d X) (nth j)).toNat = (X k.val (64 * c.val + j.val)).toNat % 100000
    have h := hin (nth j)
    rw [read_idx, nth_val] at h ⊢
    exact ((Nat.zero_add _).trans (Nat.one_mul _)).trans (Nat.mod_eq_of_lt h).symm
  · show 0 + 1 * (x (1 : Fin 2)).val = (x (1 : Fin 2)).val % 128
    have hx : (x (1 : Fin 2)).val < 128 := (x (1 : Fin 2)).isLt
    omega

/-- The tile's hold on a slab between gathers. -/
def Slab (cv : Fin τ.nSC) (jv : Fin τ.nSub) (γ : Fin 2 × Fin 7 × Fin 64 → ℕ) (q : Fin 2) (f : Buf (Elt F) (rowsM.view.loc (thr d cv jv))) : sProp 𝕄 :=
  iprop((rowsM.view.loc (thr d cv jv) ↦[slab q.val]{rhalf} f) ∗ bigSep Finset.univ fun k : Fin 7 => bigSep Finset.univ fun j : Fin 64 => tok EC (γ (q, k, j)))

/-- What a chunk's gathers read: their indices and their tables. -/
def Reading (cv : Fin τ.nSC) (jv : Fin τ.nSub) (fR : S1000x128.Idx → F .f32) (fE : S100000x128.Idx → F .f32) (X : ℕ → ℕ → BitVec 32) (σ : Fin 7 → PosShare TreeShare) (c : Fin 8) : sProp 𝕄 :=
  iprop((bigSep Finset.univ fun k : Fin 7 => (winI k c).view.loc (thr d cv jv) ↦[(winI k c).view.set]{fullShare} idxs (F := F) d X)
    ∗ bigSep Finset.univ fun k : Fin 7 => srcAt d fR fE cv jv k (σ k))

/-- A batch with no member yet. -/
theorem going_start [Infinite Name] [EC.LandsIn (upEmb : UEmb _ 𝕄)] {δ : ℕ} {ιn : Name} (ι : Ix) (q : Fin 2) (c : Fin 8) (sem : DmaSem sig)
    (f : Buf (Elt F) (rowsM.view.loc (thr d cv jv))) :
    iprop(inv ιn (heldBody (Val := Elt F) EC (rowsM.view.loc (thr d cv jv)) δ γ) ∗ Slab EC d cv jv γ q f ∗ Reading d cv jv fR fE X σ c
        ∗ semVal (thr d cv jv, .dma sem) 0)
      ⊢ (|={Set.univ}=> Going EC d fR fE X γ σ cv jv δ ιn ι q c sem 0 : sProp 𝕄) := by
  unfold Slab Reading Going
  iintro ⟨Hinv, ⟨Hf, Ht⟩, ⟨Hi, Hs⟩, Hv⟩
  imod (batch_alloc' EC (thr d cv jv) ι rowN (fun t => member EC d fR fE X γ σ cv jv q c (kR t) (jR t))) $$ Hv with HB
  imodintro
  isplitl [Hinv]
  · iexact Hinv
  isplitl [Hf Ht Hi Hs]
  · iexists f
    ihave Hf := (Entails.of_eq (slab_rows d q rhalf f)) $$ Hf
    rw [← bigSep_pending_zero]
    unfold room
    rw [bsep, bsep]
    isplitl [Hf Ht]
    · rw [BI.bigSep_congr (fun k _ => bsep _ _ _), bsep]
      isplitl [Hf] <;> iassumption
    · isplitl [Hi] <;> iassumption
  · iexact HB

/-- `m` of a chunk's gathers waited for. -/
def Coming (cv : Fin τ.nSC) (jv : Fin τ.nSub) (fR : S1000x128.Idx → F .f32) (fE : S100000x128.Idx → F .f32) (X : ℕ → ℕ → BitVec 32)
    (γ : Fin 2 × Fin 7 × Fin 64 → ℕ) (σ : Fin 7 → PosShare TreeShare) (ι : Ix) (O : CellTallies nD τ sig Ix) (W : Waits sig Ix)
    (q : Fin 2) (c : Fin 8) (sem : DmaSem sig) (m : ℕ) : sProp 𝕄 :=
  iprop(Batch EC (thr d cv jv) (.dma sem) ι rowN (fun t => member EC d fR fE X γ σ cv jv q c (kR t) (jR t)) (7 * 64) (m * (64 * rowN))
    ∗ Owed (thr d cv jv) ι O W ∗ MayWaits (thr d cv jv) ι O)

/-- One wait: a gather's amount is taken out of the batch. -/
theorem coming_step [EC.LandsIn (upEmb : UEmb _ 𝕄)] (ι : Ix) (O : CellTallies nD τ sig Ix) (W : Waits sig Ix) (q : Fin 2) (c : Fin 8) (sem : DmaSem sig)
    (m : ℕ) (hm : m < 7) {s₀ : Shape} (src : Memref sig .scVector .hbm s₀ .f32) (hsrc : src.view.WordExact) {o : Fin 4 → ℕ} {ho hdst}
    {α : Type} (K : PUnit → TP F cv jv α) (Q : α → sProp 𝕄) :
    Coming EC d cv jv fR fE X γ σ ι O W q c sem m
      ⊢ iprop((Coming EC d cv jv fR fE X γ σ ι O W q c sem (m + 1) -∗ wp frame (wpE defs 𝒱 (thr d cv jv) bd) Set.univ (K ⟨⟩) Q)
        -∗ wp frame (wpE defs 𝒱 (thr d cv jv) bd) Set.univ (SparseCore.waitIndirectGather sem src (slabW o ho) hsrc hdst >>= K) Q) := by
  unfold Coming Owed
  iintro ⟨HB, ⟨%W', %hW, HO⟩, #Hmw⟩ Hk
  unfold SparseCore.waitIndirectGather
  iapply (wp_waitBatchMulO EC 𝒱 (thr d cv jv) bd (srcw := src) (dstw := slabW o ho) (hsrc := hsrc)
    (hdst := hdst) ι (N := rowN) 64 (show (slabW o ho).view.dmaCredit = 64 * rowN from rfl) (j := 7 * 64)
    (show m * (64 * rowN) + 64 * rowN ≤ rowN * (7 * 64) by
      have h := Nat.mul_le_mul_right (64 * rowN) hm
      rw [Nat.succ_mul] at h
      generalize rowN = N at h ⊢
      omega)) $$ [HB HO]
  · isplitl [HB]
    · iexact HB
    isplitl [HO]
    · iexact HO
    · iapply (MayWaits.elim (SemLoc.dma sem)) $$ Hmw
  iintro ⟨HB, HO⟩
  iapply Hk
  isplitl [HB]
  · rw [Nat.add_mul, Nat.one_mul]; iexact HB
  isplitl [HO]
  · iexists _
    isplitr
    swap
    · iexact HO
    ipureintro
    intro p hp
    rcases Finset.mem_insert.mp hp with hp | hp
    · exact .inr (hp ▸ rfl)
    · exact hW p hp
  · iexact Hmw

/-- After the seventh wait every row of the slab is in place. -/
theorem coming_done [EC.LandsIn (upEmb : UEmb _ 𝕄)] (ι : Ix) (q : Fin 2) (c : Fin 8) (sem : DmaSem sig) :
    Batch EC (thr d cv jv) (.dma sem) ι rowN (fun t => member EC d fR fE X γ σ cv jv q c (kR t) (jR t)) (7 * 64) (7 * (64 * rowN))
      ⊢ (|={Set.univ}=> iprop(Slab EC d cv jv γ q (rowsOf d (tabOf fR fE X c.val)) ∗ Reading d cv jv fR fE X σ c ∗ semVal (thr d cv jv, .dma sem) 0) : sProp 𝕄) := by
  rw [show 7 * (64 * rowN) = rowN * (7 * 64) by generalize rowN = N; omega]
  iintro HB
  imod (batch_collect' EC (thr d cv jv) (show 0 < rowN by decide)) $$ HB with ⟨HD, Hv⟩
  imodintro
  have e : (bigSep Finset.univ (fun t => member EC d fR fE X γ σ cv jv q c (kR t) (jR t)) : sProp 𝕄)
      = bigSep Finset.univ fun k : Fin 7 => bigSep Finset.univ fun j : Fin 64 => member EC d fR fE X γ σ cv jv q c k j := by
    rw [BI.bigSep_univ_equiv finProdFinEquiv, BI.bigSep_univ_prod]
    refine BI.bigSep_congr fun k _ => BI.bigSep_congr fun j _ => ?_
    have h1 : kR (finProdFinEquiv (k, j)) = k := Fin.ext (by show (j.val + 64 * k.val) / 64 = k.val; omega)
    have h2 : jR (finProdFinEquiv (k, j)) = j := Fin.ext (by show (j.val + 64 * k.val) % 64 = j.val; omega)
    rw [h1, h2]
  ihave HD := (Entails.of_eq e) $$ HD
  unfold member landed
  ihave HD := (Entails.of_eq ((BI.bigSep_congr fun k _ => (bsep _ _ _).trans (congrArg₂ _ ((bsep _ _ _).trans (congrArg₂ _ (bsep _ _ _) rfl)) rfl)).trans
    ((bsep _ _ _).trans (congrArg₂ _ ((bsep _ _ _).trans (congrArg₂ _ (bsep _ _ _) rfl)) rfl)))) $$ HD
  icases HD with ⟨⟨⟨Hf, Ht⟩, Hi⟩, Hs⟩
  unfold Slab Reading
  isplitl [Hf Ht]
  · rw [slab_rows]
    isplitl [Hf] <;> iassumption
  isplitl [Hi Hs]
  · isplitl [Hi]
    · rw [BI.bigSep_congr fun k _ => entries d X k c]; iexact Hi
    · rw [BI.bigSep_congr fun k _ => srcAt_pieces d fR fE k (σ k)]; iexact Hs
  · iexact Hv

end Cert.Proof.Fetch
-- ==== Proof.Chunk.lean ====
/-
  A chunk's transfers as whole segments of the kernel.

  A segment's rule takes what the segment needs and hands back what it leaves: the copies and their waits, the gathers
  and theirs.
-/
module

public import proofs.«01_k».proof.Proof.Fetch

@[expose] public section

set_option maxHeartbeats 1000000

noncomputable section

namespace Cert.Proof.Chunk

open Cert.KernelIdeal Cert.KernelIdeal.Gen
open Idealize.ShloMosaic Idealize.ShloMosaic.Transfers Idealize.ShloMosaic.SparseCore Idealize.SL.Sem Cert.Proof.Geo Cert.Proof.Rows Cert.Proof.Segs
open Cert.Proof.Held Cert.Proof.GatherBatch Cert.Proof.Stage Cert.Proof.Fetch
open Idealize.SL
open Idealize.SL.BI (sProp Storable bigSep bigSep_insert)
open scoped Idealize.SL.BI
open Idealize.SL.BI.BIBase Idealize.SL.BI.Laws Idealize.SL.ProofMode
open Idealize.SL.RA

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (EC : UEmb Counters (MT nD τ sig Ix (Elt F) Name U Lvl))
variable {b : ℕ} (hb : b + 512 ≤ 16384)
variable {defs : Defs nD τ sig (Elt F) Λ₀} (𝒱 : Variants) (d : Dev nD) {cv : Fin τ.nSC} {jv : Fin τ.nSub} (bd : Option 𝒱.V)

/-- A program that takes `R` and leaves `R'`, whatever comes after it. -/
abbrev Seg (defs : Defs nD τ sig (Elt F) Λ₀) (𝒱 : Variants) (d : Dev nD) (bd : Option 𝒱.V) {cv : Fin τ.nSC} {jv : Fin τ.nSub} (R R' : sProp 𝕄)
    (p : TP F cv jv PUnit) : Prop :=
  ∀ (α : Type) (k : PUnit → TP F cv jv α) (Q : α → sProp 𝕄),
    R ⊢ iprop((R' -∗ wp frame (wpE defs 𝒱 (thr d cv jv) bd) Set.univ (k ⟨⟩) Q) -∗ wp frame (wpE defs 𝒱 (thr d cv jv) bd) Set.univ (p >>= k) Q)

/-- Two segments, one after the other, are a segment. -/
theorem Seg.then {defs : Defs nD τ sig (Elt F) Λ₀} {𝒱 : Variants} {d : Dev nD} {bd : Option 𝒱.V} {R R' R'' : sProp 𝕄} {p p' : TP F cv jv PUnit}
    (h : Seg defs 𝒱 d bd R R' p) (h' : Seg defs 𝒱 d bd R' R'' p') : Seg defs 𝒱 d bd R R'' (p >>= fun _ => p') := by
  intro α k Q
  rw [Prog.bind_assoc]
  iintro H Hk
  iapply (h α _ Q) $$ H
  iintro H
  iapply (h' α _ Q) $$ H
  iexact Hk

variable {A : (k : Fin 7) → Buf (Elt F) ((argM k).view.loc (thr d cv jv))} {X : ℕ → ℕ → BitVec 32}

/-- The seven copies that bring a chunk's indices in are started. -/
theorem copies_seg [Infinite Name] [EC.LandsIn (upEmb : UEmb _ 𝕄)] (hA : Holds hb d A X) (ι : Ix) {n c₀ : ℕ} (hn : 7 * c₀ + n ≤ 56)
    (r : ℕ) (hr : 7 * r + 7 ≤ n) {off : Fin 1 → ℕ} (hoff : off = ![b + 64 * (c₀ + r)]) (hh : InbArg off) (o0 o1 o2 o3 o4 o5 o6) :
    Seg (cv := cv) (jv := jv) defs 𝒱 d bd (Started EC hb d A X ι hn (7 * r)) (Started EC hb d A X ι hn (7 * r + 7)) (copies off hh (c₀ + r) o0 o1 o2 o3 o4 o5 o6) := by
  have h := fun (k : Fin 7) ok (α : Type) (K : PUnit → TP F cv jv α) Q => copy_run (defs := defs) EC hb 𝒱 d bd hA ι hn r k (by have := k.isLt; omega) hoff (hh := hh) (ok := ok) K Q
  exact Seg.then (fun α => h 0 o0 α) (Seg.then (fun α => h 1 o1 α) (Seg.then (fun α => h 2 o2 α) (Seg.then (fun α => h 3 o3 α)
    (Seg.then (fun α => h 4 o4 α) (Seg.then (fun α => h 5 o5 α) (fun α => h 6 o6 α))))))

/-- Seven waits take a chunk's copies out of the batch. -/
theorem copieds_seg [EC.LandsIn (upEmb : UEmb _ 𝕄)] (ι : Ix) (O : CellTallies nD τ sig Ix) (W : Waits sig Ix) {n c₀ : ℕ} (hn : 7 * c₀ + n ≤ 56)
    (r : ℕ) (hr : 7 * r + 7 ≤ n) {off : Fin 1 → ℕ} (hh : InbArg off) (c : ℕ) (o0 o1 o2 o3 o4 o5 o6) :
    Seg (cv := cv) (jv := jv) defs 𝒱 d bd (Waited EC hb d A X ι O W hn (7 * r)) (Waited EC hb d A X ι O W hn (7 * r + 7)) (copieds off hh c o0 o1 o2 o3 o4 o5 o6) := by
  have h := fun (k : Fin 7) o ok (α : Type) (K : PUnit → TP F cv jv α) Q => copied_run (defs := defs) EC hb 𝒱 d bd (A := A) (X := X) ι O W hn (7 * r + k.val) (by have := k.isLt; omega) (argM k)
    (off := off) (hh := hh) (o := o) (ok := ok) K Q
  exact Seg.then (fun α => h 0 _ o0 α) (Seg.then (fun α => h 1 _ o1 α) (Seg.then (fun α => h 2 _ o2 α) (Seg.then (fun α => h 3 _ o3 α)
    (Seg.then (fun α => h 4 _ o4 α) (Seg.then (fun α => h 5 _ o5 α) (fun α => h 6 _ o6 α))))))

/-- A batch of copies, none started. -/
theorem started_start [Infinite Name] [EC.LandsIn (upEmb : UEmb _ 𝕄)] (ι : Ix) {n c₀ : ℕ} (hn : 7 * c₀ + n ≤ 56) :
    iprop((bigSep Finset.univ fun t : Fin n => toGo hb d A (kOf t) (cOf hn t)) ∗ semVal (thr d cv jv, .dma cc0_scratch6.sem) 0)
      ⊢ (|={Set.univ}=> Started EC hb d A X ι hn 0 : sProp 𝕄) := by
  unfold Started
  iintro ⟨Hp, Hv⟩
  imod (batch_alloc' EC (thr d cv jv) ι copyN (fun t : Fin n => gone hb d A X (kOf t) (cOf hn t))) $$ Hv with HB
  imodintro
  isplitl [Hp]
  · rw [← bigSep_pending_zero]; iexact Hp
  · iexact HB

/-- All of a batch's copies started: the waits come next. -/
theorem started_waited (ι : Ix) (O : CellTallies nD τ sig Ix) (W : Waits sig Ix) {n c₀ : ℕ} (hn : 7 * c₀ + n ≤ 56) :
    iprop(Started EC hb d A X ι hn n ∗ Owed (thr d cv jv) ι O W ∗ MayWaits (thr d cv jv) ι O) ⊢ (Waited EC hb d A X ι O W hn 0 : sProp 𝕄) := by
  unfold Started Waited
  iintro ⟨⟨-, HB⟩, HO, Hmw⟩
  isplitl [HB]
  · rw [Nat.zero_mul]; iexact HB
  isplitl [HO] <;> iassumption

/-- All of a batch's copies waited for: the indices are in. -/
theorem waited_done [EC.LandsIn (upEmb : UEmb _ 𝕄)] (ι : Ix) (O : CellTallies nD τ sig Ix) (W : Waits sig Ix) {n c₀ : ℕ} (hn : 7 * c₀ + n ≤ 56) :
    Waited EC hb d A X ι O W hn n
      ⊢ (|={Set.univ}=> iprop((bigSep Finset.univ fun t : Fin n => gone hb d A X (kOf t) (cOf hn t)) ∗ semVal (thr d cv jv, .dma cc0_scratch6.sem) 0
        ∗ Owed (thr d cv jv) ι O W) : sProp 𝕄) := by
  unfold Waited
  rw [Nat.mul_comm n]
  iintro ⟨HB, HO, -⟩
  imod (batch_collect' EC (thr d cv jv) (show 0 < copyN by decide)) $$ HB with ⟨HD, Hv⟩
  imodintro
  isplitl [HD]
  · iexact HD
  isplitl [Hv] <;> iassumption

variable {fR : S1000x128.Idx → F .f32} {fE : S100000x128.Idx → F .f32} {γ : Fin 2 × Fin 7 × Fin 64 → ℕ} {σ : Fin 7 → PosShare TreeShare}

/-- A chunk's gathers all started, none waited for. -/
def Flying (cv : Fin τ.nSC) (jv : Fin τ.nSub) (fR : S1000x128.Idx → F .f32) (fE : S100000x128.Idx → F .f32) (X : ℕ → ℕ → BitVec 32)
    (γ : Fin 2 × Fin 7 × Fin 64 → ℕ) (σ : Fin 7 → PosShare TreeShare) (ι : Ix) (q : Fin 2) (c : Fin 8) (sem : DmaSem sig) : sProp 𝕄 :=
  Batch EC (thr d cv jv) (.dma sem) ι rowN (fun t => member EC d fR fE X γ σ cv jv q c (kR t) (jR t)) (7 * 64) 0

/-- The seven gathers of a chunk's rows are started: the slab, the indices and the tables' shares go with them. -/
theorem gathers_seg [Infinite Name] [EC.LandsIn (upEmb : UEmb _ 𝕄)] {δ : ℕ} {ιn : Name} (ι : Ix) (q : Fin 2) (c : Fin 8) (sem : DmaSem sig)
    (hX : Bound X) (f : Buf (Elt F) (rowsM.view.loc (thr d cv jv))) (gR gE s0 s1 s2 s3 s4 s5 s6 o0 o1 o2 o3 o4 o5 o6) :
    Seg (cv := cv) (jv := jv) defs 𝒱 d bd
      iprop(inv ιn (heldBody (Val := Elt F) EC (rowsM.view.loc (thr d cv jv)) δ γ) ∗ Slab EC d cv jv γ q f ∗ Reading d cv jv fR fE X σ c
        ∗ semVal (thr d cv jv, .dma sem) 0)
      (Flying EC d cv jv fR fE X γ σ ι q c sem)
      (gathers q.val c.val gR gE s0 s1 s2 s3 s4 s5 s6 o0 o1 o2 o3 o4 o5 o6 sem) := by
  have h0 := fun (α : Type) (K : PUnit → TP F cv jv α) Q => gatherR_run (defs := defs) EC 𝒱 d bd (fR := fR) (fE := fE) (γ := γ) (σ := σ) (δ := δ) (ιn := ιn) ι q c sem hX (gR := gR) (so := s0) (io := o0) K Q
  have h := fun (k : Fin 7) hk so io (α : Type) (K : PUnit → TP F cv jv α) Q => gatherE_run (defs := defs) EC 𝒱 d bd (fR := fR) (fE := fE) (γ := γ) (σ := σ) (δ := δ) (ιn := ιn) ι q c k hk sem hX (gE := gE) (so := so) (io := io) K Q
  have hall : Seg (cv := cv) (jv := jv) defs 𝒱 d bd (Going EC d fR fE X γ σ cv jv δ ιn ι q c sem 0) (Going EC d fR fE X γ σ cv jv δ ιn ι q c sem 7)
      (gathers q.val c.val gR gE s0 s1 s2 s3 s4 s5 s6 o0 o1 o2 o3 o4 o5 o6 sem) :=
    Seg.then (fun α => h0 α) (Seg.then (fun α => h 1 (by decide) s1 o1 α) (Seg.then (fun α => h 2 (by decide) s2 o2 α) (Seg.then (fun α => h 3 (by decide) s3 o3 α)
      (Seg.then (fun α => h 4 (by decide) s4 o4 α) (Seg.then (fun α => h 5 (by decide) s5 o5 α) (fun α => h 6 (by decide) s6 o6 α))))))
  intro α K Q
  iintro H Hk
  imod (going_start EC d ι q c sem f) $$ H with H
  iapply (hall α K Q) $$ H
  iintro H
  iapply Hk
  unfold Going Flying
  icases H with ⟨-, -, HB⟩
  iexact HB

/-- After the seven waits the slab holds the rows that the chunk's indices name, and all that the gathers took is back. -/
theorem gathereds_seg [EC.LandsIn (upEmb : UEmb _ 𝕄)] (ι : Ix) (O : CellTallies nD τ sig Ix) (W : Waits sig Ix) (q : Fin 2) (c : Fin 8) (sem : DmaSem sig)
    (gR gE s0 s1 s2 s3 s4 s5 s6) :
    Seg (cv := cv) (jv := jv) defs 𝒱 d bd
      iprop(Flying EC d cv jv fR fE X γ σ ι q c sem ∗ Owed (thr d cv jv) ι O W ∗ MayWaits (thr d cv jv) ι O)
      iprop(Slab EC d cv jv γ q (rowsOf d (tabOf fR fE X c.val)) ∗ Reading d cv jv fR fE X σ c ∗ semVal (thr d cv jv, .dma sem) 0
        ∗ Owed (thr d cv jv) ι O W)
      (gathereds q.val gR gE s0 s1 s2 s3 s4 s5 s6 sem) := by
  have h := fun (m : ℕ) hm {s₀ : Shape} (src : Memref sig .scVector .hbm s₀ .f32) hsrc o ho hdst (α : Type) (K : PUnit → TP F cv jv α) Q =>
    coming_step (defs := defs) EC 𝒱 d bd (fR := fR) (fE := fE) (X := X) (γ := γ) (σ := σ) ι O W q c sem m hm src hsrc (o := o) (ho := ho) (hdst := hdst) K Q
  have hall : Seg (cv := cv) (jv := jv) defs 𝒱 d bd (Coming EC d cv jv fR fE X γ σ ι O W q c sem 0) (Coming EC d cv jv fR fE X γ σ ι O W q c sem 7)
      (gathereds q.val gR gE s0 s1 s2 s3 s4 s5 s6 sem) :=
    Seg.then (fun α => h 0 (by decide) _ _ _ s0 _ α) (Seg.then (fun α => h 1 (by decide) _ _ _ s1 _ α) (Seg.then (fun α => h 2 (by decide) _ _ _ s2 _ α)
      (Seg.then (fun α => h 3 (by decide) _ _ _ s3 _ α) (Seg.then (fun α => h 4 (by decide) _ _ _ s4 _ α) (Seg.then (fun α => h 5 (by decide) _ _ _ s5 _ α)
      (fun α => h 6 (by decide) _ _ _ s6 _ α))))))
  intro α K Q
  iintro ⟨HB, HO, Hmw⟩ Hk
  iapply (hall α K Q) $$ [HB HO Hmw]
  · unfold Flying Coming
    isplitl [HB]
    · rw [Nat.zero_mul]; iexact HB
    isplitl [HO] <;> iassumption
  unfold Coming
  iintro ⟨HB, HO, -⟩
  imod (coming_done EC d ι q c sem) $$ HB with ⟨Hs, Hr, Hv⟩
  iapply Hk
  isplitl [Hs]
  · iexact Hs
  isplitl [Hr]
  · iexact Hr
  isplitl [Hv] <;> iassumption

end Cert.Proof.Chunk
-- ==== Proof.Whole.lean ====
/-
  The pieces around a tile's chunks.

  The results go out by one transfer at the end; a batch's copies are the chunks' copies, chunk by chunk.
-/
module

public import proofs.«01_k».proof.Proof.Chunk

@[expose] public section

set_option maxHeartbeats 1000000

noncomputable section

namespace Cert.Proof.Whole

open Cert.KernelIdeal Cert.KernelIdeal.Gen
open Idealize.ShloMosaic Idealize.ShloMosaic.Transfers Idealize.ShloMosaic.SparseCore Idealize.SL.Sem Cert.Proof.Geo Cert.Proof.Rows Cert.Proof.Segs
open Cert.Proof.Held Cert.Proof.GatherBatch Cert.Proof.Stage Cert.Proof.Fetch Cert.Proof.Chunk Cert.Proof.Loop
open Idealize.SL
open Idealize.SL.BI (sProp Storable bigSep bigSep_insert)
open scoped Idealize.SL.BI
open Idealize.SL.BI.BIBase Idealize.SL.BI.Laws Idealize.SL.ProofMode
open Idealize.SL.RA

variable {F : FTy → Type} [FloatOps F]

abbrev InbRes (off : Fin 1 → ℕ) : Prop := ∀ a, off a + S512.size a ≤ S16384.size a

/-- The results' place in the kernel's output. -/
abbrev resW (off : Fin 1 → ℕ) (h : InbRes off) : Memref sig .scVector .hbm S512 .f32 :=
  resM.slice (Rect.unit (s := S16384) off S512.size h) (fun _ => rfl)

/-- The results sent out. -/
def send {cv : Fin τ.nSC} {jv : Fin τ.nSub} (off : Fin 1 → ℕ) (h : InbRes off) : TP F cv jv PUnit :=
  Prog.lift (.enqueueDma outM (.here (resW off h)) (.dma cc0_scoped0.sem) (Memref.isWhole_whole cc0_scratch3).wordExact (View.wordExact_bits rfl) ⟨Or.inl rfl, trivial⟩)

/-- The wait for them. -/
def sent {cv : Fin τ.nSC} {jv : Fin τ.nSub} (off : Fin 1 → ℕ) (h : InbRes off) : TP F cv jv PUnit :=
  Prog.lift (.waitDma2 cc0_scoped0.sem outM (resW off h) (Memref.isWhole_whole cc0_scratch3).wordExact (View.wordExact_bits rfl))

/-- The chunk a batch's `r`th is. -/
abbrev chunkOf {m c₀ : ℕ} (hn : 7 * c₀ + 7 * m ≤ 56) (r : Fin m) : Fin 8 := ⟨c₀ + r.val, by have := r.isLt; omega⟩

/-- A result's place in the result array. -/
theorem resW_emb {b : ℕ} {off : Fin 1 → ℕ} (e : off = ![b]) (h : InbRes off) (x : S512.Idx) :
    (((resW off h).view.emb x : S16384.Idx) 0).val = b + (x 0).val := by
  subst e
  show b + 1 * (x 0).val = _
  omega

variable {Ix : Type} [DecidableEq Ix] {Name : Type} [DecidableEq Name] {U : Type} [URA U] {Lvl : Type} [Preorder Lvl]

local notation "𝕄" => MT nD τ sig Ix (Elt F) Name U Lvl

variable (EC : UEmb Counters (MT nD τ sig Ix (Elt F) Name U Lvl))
variable {b : ℕ} (hb : b + 512 ≤ 16384)
variable {defs : Defs nD τ sig (Elt F) Λ₀} (𝒱 : Variants) (d : Dev nD) {cv : Fin τ.nSC} {jv : Fin τ.nSub} (bd : Option 𝒱.V)

/-- The results are sent out and waited for. -/
theorem send_seg [Infinite Name] [EC.LandsIn (upEmb : UEmb _ 𝕄)] (ι : Ix) (O : CellTallies nD τ sig Ix) (W : Waits sig Ix) {Z : ℕ → F .f32}
    (V : Buf (Elt F) (resM.view.loc (thr d cv jv))) (hV : ∀ (r : S16384.Idx) (x : ℕ), x < 512 → (r 0).val = b + x → V r = Z x)
    {off : Fin 1 → ℕ} (e : off = ![b]) (h h' : InbRes off) :
    Seg (cv := cv) (jv := jv) defs 𝒱 d bd
      (iprop(Outs Z d cv jv 512 ∗ (∃ f, (resW off h).view.loc (thr d cv jv) ↦[(resW off h).view.set]{fullShare} f) ∗ semVal (thr d cv jv, .dma cc0_scoped0.sem) 0
        ∗ Owed (thr d cv jv) ι O W ∗ MayWaits (thr d cv jv) ι O) : sProp 𝕄)
      iprop(Outs Z d cv jv 512 ∗ ((resW off h).view.loc (thr d cv jv) ↦[(resW off h).view.set]{fullShare} V) ∗ semVal (thr d cv jv, .dma cc0_scoped0.sem) 0
        ∗ Owed (thr d cv jv) ι O W)
      (send off h >>= fun _ => sent off h') := by
  intro α K Q
  rw [Prog.bind_assoc]
  unfold Outs Owed
  iintro ⟨⟨%f, %hf, Hf⟩, ⟨%g, Hg⟩, Hv, ⟨%W', %hW, HO⟩, #Hmw⟩ Hk
  let D : Fin 1 → sProp 𝕄 := fun _ => iprop(((resW off h).view.loc (thr d cv jv) ↦[(resW off h).view.set]{fullShare} V)
    ∗ outM.view.loc (thr d cv jv) ↦[outM.view.set]{fullShare} f)
  haveI : ∀ t, Storable (upEmb : UEmb _ 𝕄) (D t) := fun t => by
    show Storable _ iprop(_ ∗ _); infer_instance
  have hset : outM.view.set = Finset.univ := View.set_whole _
  imod (batch_alloc' EC (thr d cv jv) ι (resW off h).view.dmaCredit D) $$ Hv with HB
  unfold send sent
  iapply (wp_dmaBatch EC 𝒱 (thr d cv jv) bd (src := outM) (dst := resW off h) (fs := f) (q := fullShare) ι (resW off h).view.dmaCredit rfl (Finset.Subset.refl _) (show 0 < 1 by decide) (Nat.zero_le _) (D := D) (by
    refine sep_mono (Entails.of_eq (pointsTo_congr fun i hi => ?_)) .rfl
    obtain ⟨x, -, rfl⟩ := Finset.mem_map.mp hi
    refine (View.write_emb_of_mem (v := (resW off h).view) (Val := Elt F) g f (Finset.mem_univ x)).trans ?_
    have hx : (x 0).val < 512 := (x 0).isLt
    rw [hV _ _ hx (resW_emb e h x)]
    exact hf x hx)) $$ [Hf Hg HB]
  · isplitl [Hf]
    · rw [hset]; iexact Hf
    isplitl [Hg]
    · iexact Hg
    · iexact HB
  iintro HB
  iapply (wp_waitBatchMulO EC 𝒱 (thr d cv jv) bd (srcw := outM) (dstw := resW off h') (hsrc := (Memref.isWhole_whole cc0_scratch3).wordExact)
    (hdst := View.wordExact_bits rfl) ι (N := (resW off h).view.dmaCredit) 1 (Nat.one_mul _).symm (j := 1) (u := 0)
    (show 0 + 1 * (resW off h).view.dmaCredit ≤ (resW off h).view.dmaCredit * 1 by rw [Nat.zero_add, Nat.mul_comm])) $$ [HB HO]
  · isplitl [HB]
    · iexact HB
    isplitl [HO]
    · iexact HO
    · iapply (MayWaits.elim (SemLoc.dma cc0_scoped0.sem)) $$ Hmw
  rw [show 0 + 1 * (resW off h).view.dmaCredit = (resW off h).view.dmaCredit * 1 by rw [Nat.zero_add, Nat.mul_comm]]
  iintro ⟨HB, HO⟩
  imod (batch_collect' EC (thr d cv jv) (show 0 < (resW off h).view.dmaCredit from (show 0 < (resW ![0] (by decide)).view.dmaCredit by decide))) $$ HB with ⟨HD, Hv⟩
  ihave HD := (Entails.of_eq (show bigSep Finset.univ D = D 0 by rw [show (Finset.univ : Finset (Fin 1)) = {0} by decide, BI.bigSep_singleton])) $$ HD
  icases HD with ⟨Hg, Hf⟩
  iapply Hk
  isplitl [Hf]
  · iexists f
    isplitr
    · ipureintro; exact hf
    · rw [hset]; iexact Hf
  isplitl [Hg]
  · iexact Hg
  isplitl [Hv]
  · iexact Hv
  iexists _
  isplitr
  swap
  · iexact HO
  ipureintro
  intro p hp
  rcases Finset.mem_insert.mp hp with hp | hp
  · exact .inr (hp ▸ rfl)
  · exact hW p hp

/-- A family over a batch's copies, by chunk. -/
theorem bigSep_copies {m c₀ : ℕ} (hn : 7 * c₀ + 7 * m ≤ 56) (Φ : Fin 7 → Fin 8 → sProp 𝕄) :
    (bigSep Finset.univ fun t : Fin (7 * m) => Φ (kOf t) (cOf hn t))
      = bigSep Finset.univ fun r : Fin m => bigSep Finset.univ fun k : Fin 7 => Φ k (chunkOf hn r) := by
  let e : Fin m × Fin 7 ≃ Fin (7 * m) := finProdFinEquiv.trans (finCongr (Nat.mul_comm m 7))
  rw [BI.bigSep_univ_equiv e, BI.bigSep_univ_prod]
  refine BI.bigSep_congr fun r _ => BI.bigSep_congr fun k _ => ?_
  have h1 : kOf (e (r, k)) = k := Fin.ext (by show (k.val + 7 * r.val) % 7 = k.val; omega)
  have h2 : cOf hn (e (r, k)) = (chunkOf hn r) := Fin.ext (by show c₀ + (k.val + 7 * r.val) / 7 = c₀ + r.val; omega)
  rw [h1, h2]

/-- Seven conjuncts. -/
theorem bigSep_seven (Φ : Fin 7 → sProp 𝕄) :
    bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide, bigSep_insert (by decide), bigSep_insert (by decide), bigSep_insert (by decide),
    bigSep_insert (by decide), bigSep_insert (by decide), bigSep_insert (by decide), BI.bigSep_singleton]
  rfl

variable (A : (k : Fin 7) → Buf (Elt F) ((argM k).view.loc (thr d cv jv))) (X : ℕ → ℕ → BitVec 32)

/-- The chunk's indices' places in the index arrays. -/
def Args (c : Fin 8) : sProp 𝕄 :=
  bigSep Finset.univ fun k : Fin 7 => iprop((winA hb k c).view.loc (thr d cv jv) ↦[(winA hb k c).view.set]{fullShare} A k)

/-- The chunk's indices in place. -/
def Idx (cv : Fin τ.nSC) (jv : Fin τ.nSub) (c : Fin 8) : sProp 𝕄 :=
  bigSep Finset.univ fun k : Fin 7 => iprop((winI k c).view.loc (thr d cv jv) ↦[(winI k c).view.set]{fullShare} idxs (F := F) d X)

/-- What the index copies leave, chunk by chunk. -/
theorem gone_chunks {m c₀ : ℕ} (hn : 7 * c₀ + 7 * m ≤ 56) :
    (bigSep Finset.univ fun t : Fin (7 * m) => gone hb d A X (kOf t) (cOf hn t) : sProp 𝕄)
      = iprop((bigSep Finset.univ fun r : Fin m => Args hb d A (chunkOf hn r))
        ∗ bigSep Finset.univ fun r : Fin m => Idx d X cv jv (chunkOf hn r)) := by
  rw [bigSep_copies hn (fun k c => gone hb d A X k c)]
  unfold gone Args Idx
  exact (BI.bigSep_congr fun r _ => bsep _ _ _).trans (bsep _ _ _)

end Cert.Proof.Whole
-- ==== Proof.Ends.lean ====
/-
  What a tile's run of the kernel starts from and what it leaves, and the small steps between its segments.
-/
module

public import proofs.«01_k».proof.Proof.Whole

@[expose] public section

set_option maxHeartbeats 1000000
noncomputable section

namespace Cert.Proof.Ends

open Cert.KernelIdeal Cert.KernelIdeal.Gen
open Idealize.ShloMosaic Idealize.ShloMosaic.Transfers Idealize.ShloMosaic.SparseCore Idealize.SL.Sem Cert.Proof.Geo Cert.Proof.Rows Cert.Proof.Segs
open Cert.Proof.Held Cert.Proof.GatherBatch Cert.Proof.Stage Cert.Proof.Fetch Cert.Proof.Chunk Cert.Proof.Loop Cert.Proof.Whole
open Idealize.SL
open Idealize.SL.BI (sProp Storable bigSep bigSep_insert)
open scoped Idealize.SL.BI
open Idealize.SL.BI.BIBase Idealize.SL.BI.Laws Idealize.SL.ProofMode
open Idealize.SL.RA

variable {F : FTy → Type} [FloatOps F]

/-- The first of a tile's results. -/
abbrev base (i : grid0.Coords) : ℕ := 1024 * (i 1).val + 512 * (i 0).val

/-- A tile's block of 512 lookups lies in the arrays. -/
theorem hbase (i : grid0.Coords) : base i + 512 ≤ 16384 := by
  have h0 : (i 0).val < 2 := (i 0).isLt
  have h1 : (i 1).val < 16 := (i 1).isLt
  show 1024 * (i 1).val + 512 * (i 0).val + 512 ≤ 16384
  omega

/-- The SparseCore a tile is on. -/
abbrev cV (i : grid0.Coords) : Fin τ.nSC := (i 0).castLE hcore0
/-- The tile's place on it. -/
abbrev jV (i : grid0.Coords) : Fin τ.nSub := (i 1).castLE hsub0

variable {Ix : Type} [DecidableEq Ix] {Name : Type} [DecidableEq Name] {U : Type} [URA U] {Lvl : Type} [Preorder Lvl]

local notation "𝕄" => MT nD τ sig Ix (Elt F) Name U Lvl

variable (EC : UEmb Counters (MT nD τ sig Ix (Elt F) Name U Lvl))
variable {defs : Defs nD τ sig (Elt F) Λ₀} (𝒱 : Variants) (d : Dev nD) (bd : Option 𝒱.V) (i : grid0.Coords)
variable (fR : S1000x128.Idx → F .f32) (fE : S100000x128.Idx → F .f32) (X : ℕ → ℕ → BitVec 32)
variable (A : (k : Fin 7) → Buf (Elt F) ((argM k).view.loc (thr d (cV i) (jV i))))
variable (σ0 σ1 : Fin 7 → PosShare TreeShare)

/-- A tile's results, by their place in the tile's 512. -/
def outs (n : ℕ) : F .f32 := total (tabOf fR fE X (n / 64)) (n % 64)

/-- A group of sixteen results, read in a chunk's row sums. -/
theorem outs_at {c g m x : ℕ} (hg : g < 4) (hm : m = 64 * c + 16 * g) (hx : x < 16) :
    outs fR fE X (m + x) = total (tabOf fR fE X c) (16 * g + x) := by
  unfold outs
  rw [show (m + x) / 64 = c by omega, show (m + x) % 64 = 16 * g + x by omega]

/-- The tables a slab's gathers read. -/
abbrev Tabs (σ : Fin 7 → PosShare TreeShare) : sProp 𝕄 := bigSep Finset.univ fun k : Fin 7 => srcAt d fR fE (cV i) (jV i) k (σ k)

/-- What a tile's run starts from. -/
def Before (δ : ℕ) (γ : Fin 2 × Fin 7 × Fin 64 → ℕ) (ιn : Name) (ι : Ix) (O : CellTallies nD τ sig Ix) (W : Waits sig Ix) (T₀ : ℕ → ℕ → ℕ → F .f32) : sProp 𝕄 :=
  iprop(inv ιn (heldBody (Val := Elt F) EC (rowsM.view.loc (thr d (cV i) (jV i))) δ γ) ∗ MayWaits (thr d (cV i) (jV i)) ι O ∗ tok EC δ ∗ Owed (thr d (cV i) (jV i)) ι O W
    ∗ (bigSep Finset.univ fun t : Fin (7 * 1) => toGo (hbase i) d A (kOf t) (cOf (show 7 * 0 + 7 * 1 ≤ 56 by decide) t))
    ∗ (bigSep Finset.univ fun t : Fin (7 * 7) => toGo (hbase i) d A (kOf t) (cOf (show 7 * 1 + 7 * 7 ≤ 56 by decide) t))
    ∗ (∃ f, Slab EC d (cV i) (jV i) γ 0 f) ∗ (∃ f, Slab EC d (cV i) (jV i) γ 1 f)
    ∗ Tabs d i fR fE σ0 ∗ Tabs d i fR fE σ1
    ∗ semVal (thr d (cV i) (jV i), .dma cc0_scratch4.sem) 0 ∗ semVal (thr d (cV i) (jV i), .dma cc0_scratch5.sem) 0
    ∗ semVal (thr d (cV i) (jV i), .dma cc0_scratch6.sem) 0 ∗ semVal (thr d (cV i) (jV i), .dma cc0_scoped0.sem) 0
    ∗ Sums T₀ d (cV i) (jV i) 0 ∗ Outs (outs fR fE X) d (cV i) (jV i) 0
    ∗ ∃ f, (resW (k0_off171 i) (k0_off171_inb i)).view.loc (thr d (cV i) (jV i)) ↦[(resW (k0_off171 i) (k0_off171_inb i)).view.set]{fullShare} f)

/-- What it leaves. -/
def After (δ : ℕ) (γ : Fin 2 × Fin 7 × Fin 64 → ℕ) (ι : Ix) (O : CellTallies nD τ sig Ix) (W : Waits sig Ix)
    (V : Buf (Elt F) (resM.view.loc (thr d (cV i) (jV i)))) : sProp 𝕄 :=
  iprop(tok EC δ ∗ Owed (thr d (cV i) (jV i)) ι O W
    ∗ (bigSep Finset.univ fun r : Fin 1 => Args (hbase i) d A (chunkOf (show 7 * 0 + 7 * 1 ≤ 56 by decide) r))
    ∗ (bigSep Finset.univ fun r : Fin 7 => Args (hbase i) d A (chunkOf (show 7 * 1 + 7 * 7 ≤ 56 by decide) r))
    ∗ (bigSep Finset.univ fun r : Fin 1 => Whole.Idx d X (cV i) (jV i) (chunkOf (show 7 * 0 + 7 * 1 ≤ 56 by decide) r))
    ∗ (bigSep Finset.univ fun r : Fin 7 => Whole.Idx d X (cV i) (jV i) (chunkOf (show 7 * 1 + 7 * 7 ≤ 56 by decide) r))
    ∗ (∃ f, Slab EC d (cV i) (jV i) γ 0 f) ∗ (∃ f, Slab EC d (cV i) (jV i) γ 1 f)
    ∗ Tabs d i fR fE σ0 ∗ Tabs d i fR fE σ1
    ∗ semVal (thr d (cV i) (jV i), .dma cc0_scratch4.sem) 0 ∗ semVal (thr d (cV i) (jV i), .dma cc0_scratch5.sem) 0
    ∗ semVal (thr d (cV i) (jV i), .dma cc0_scratch6.sem) 0 ∗ semVal (thr d (cV i) (jV i), .dma cc0_scoped0.sem) 0
    ∗ (∃ T, Sums T d (cV i) (jV i) 64) ∗ Outs (outs fR fE X) d (cV i) (jV i) 512
    ∗ (resW (k0_off171 i) (k0_off171_inb i)).view.loc (thr d (cV i) (jV i)) ↦[(resW (k0_off171 i) (k0_off171_inb i)).view.set]{fullShare} V)

variable {fR fE X A σ0 σ1}

/-- One conjunct. -/
theorem bigSep_one (Φ : Fin 1 → sProp 𝕄) : bigSep Finset.univ Φ = Φ 0 := by
  rw [show (Finset.univ : Finset (Fin 1)) = {0} by decide, BI.bigSep_singleton]

/-- Two resources taken as one. -/
theorem pair_intro (P Q : sProp 𝕄) : iprop(P ∗ Q) ⊢ iprop(P ∗ Q) := Entails.rfl

/-- What a chunk's gathers start from. -/
theorem reading_intro {δ : ℕ} {γ : Fin 2 × Fin 7 × Fin 64 → ℕ} {ιn : Name} {f : Buf (Elt F) (rowsM.view.loc (thr d (cV i) (jV i)))} {sem : DmaSem sig}
    {σ : Fin 7 → PosShare TreeShare} (q : Fin 2) (c : Fin 8) :
    iprop(inv ιn (heldBody (Val := Elt F) EC (rowsM.view.loc (thr d (cV i) (jV i))) δ γ) ∗ Slab EC d (cV i) (jV i) γ q f ∗ Whole.Idx d X (cV i) (jV i) c
        ∗ Tabs d i fR fE σ ∗ semVal (thr d (cV i) (jV i), .dma sem) 0)
      ⊢ (iprop(inv ιn (heldBody (Val := Elt F) EC (rowsM.view.loc (thr d (cV i) (jV i))) δ γ) ∗ Slab EC d (cV i) (jV i) γ q f
        ∗ Reading d (cV i) (jV i) fR fE X σ c ∗ semVal (thr d (cV i) (jV i), .dma sem) 0) : sProp 𝕄) := by
  unfold Reading Whole.Idx
  iintro ⟨Hinv, HS, HI, HT, Hv⟩
  isplitl [Hinv]
  · iexact Hinv
  isplitl [HS]
  · iexact HS
  isplitl [HI HT]
  · isplitl [HI] <;> iassumption
  · iexact Hv

/-- A chunk's indices in place, under another name of the chunk. -/
theorem idx_back (c c' : Fin 8) (h : c = c') :
    (bigSep Finset.univ fun k : Fin 7 => iprop((winI k c).view.loc (thr d (cV i) (jV i)) ↦[(winI k c).view.set]{fullShare} idxs (F := F) d X))
      ⊢ (Whole.Idx d X (cV i) (jV i) c' : sProp 𝕄) := by
  subst h
  exact Entails.rfl

/-- A slab's tokens. -/
abbrev Toks (γ : Fin 2 × Fin 7 × Fin 64 → ℕ) (q : Fin 2) : sProp 𝕄 :=
  bigSep Finset.univ fun k : Fin 7 => bigSep Finset.univ fun j : Fin 64 => tok EC (γ (q, k, j))

/-- What a chunk's loop starts from, the tokens of the slab's rows aside. -/
theorem hold_intro {δ : ℕ} {γ : Fin 2 × Fin 7 × Fin 64 → ℕ} {ιn : Name} (q : Fin 2) (c : Fin 8) :
    iprop(inv ιn (heldBody (Val := Elt F) EC (rowsM.view.loc (thr d (cV i) (jV i))) δ γ) ∗ tok EC δ
        ∗ Slab EC d (cV i) (jV i) γ q (rowsOf d (tabOf fR fE X c.val)) ∗ Sums (tabOf fR fE X c.val) d (cV i) (jV i) 0)
      ⊢ (iprop((HoldRows EC d (cV i) (jV i) δ γ ιn q.val (rowsOf d (tabOf fR fE X c.val)) ∗ Sums (tabOf fR fE X c.val) d (cV i) (jV i) 0)
        ∗ Toks EC γ q) : sProp 𝕄) := by
  unfold Slab HoldRows
  iintro ⟨Hinv, Hδ, ⟨HS, Ht⟩, Hsum⟩
  isplitl [Hinv Hδ HS Hsum]
  · isplitl [Hinv Hδ HS]
    · isplitl [Hinv]
      · iexact Hinv
      isplitl [Hδ] <;> iassumption
    · iexact Hsum
  · iexact Ht

/-- And what it hands back. -/
theorem hold_elim {δ : ℕ} {γ : Fin 2 × Fin 7 × Fin 64 → ℕ} {ιn : Name} (q : Fin 2) (c : Fin 8) :
    iprop((HoldRows EC d (cV i) (jV i) δ γ ιn q.val (rowsOf d (tabOf fR fE X c.val)) ∗ Sums (tabOf fR fE X c.val) d (cV i) (jV i) 64) ∗ Toks EC γ q)
      ⊢ (iprop(tok EC δ ∗ Slab EC d (cV i) (jV i) γ q (rowsOf d (tabOf fR fE X c.val)) ∗ Sums (tabOf fR fE X c.val) d (cV i) (jV i) 64) : sProp 𝕄) := by
  unfold Slab HoldRows
  iintro ⟨⟨⟨-, Hδ, HS⟩, Hsum⟩, Ht⟩
  isplitl [Hδ]
  · iexact Hδ
  isplitl [HS Ht]
  · isplitl [HS] <;> iassumption
  · iexact Hsum

end Cert.Proof.Ends
-- ==== Proof.Shares.lean ====
/-
  A tile's own memory and its operands, cut into the run's pieces and put together again.

  The index arrays come as windows of 64; the memory of indices is cut into its rows, the memory of rows into its two
  slabs, and a read share of each table into one piece for each gather of each slab.
-/
module

public import proofs.«01_k».proof.Proof.Ends

@[expose] public section

set_option maxHeartbeats 1000000

noncomputable section

namespace Cert.Proof.Shares

open Cert.KernelIdeal Cert.KernelIdeal.Gen
open Idealize.ShloMosaic Idealize.ShloMosaic.Transfers Idealize.ShloMosaic.SparseCore Idealize.SL.Sem Cert.Proof.Geo Cert.Proof.Rows Cert.Proof.Segs
open Cert.Proof.Held Cert.Proof.GatherBatch Cert.Proof.Stage Cert.Proof.Fetch Cert.Proof.Chunk Cert.Proof.Loop Cert.Proof.Whole Cert.Proof.Ends
open Idealize.SL
open Idealize.SL.BI (sProp Storable bigSep bigSep_insert)
open scoped Idealize.SL.BI
open Idealize.SL.BI.BIBase Idealize.SL.BI.Laws Idealize.SL.ProofMode
open Idealize.SL.RA

variable {F : FTy → Type} [FloatOps F]

/-- The pieces of a tile's shares of the tables that a slab's gathers read by. -/
def shares (sR sE : PosShare TreeShare) (q : Fin 2) : Fin 7 → PosShare TreeShare :=
  Fin.cases (pieceOf sR 2 (by decide) q) fun k => pieceOf (pieceOf sE 2 (by decide) q) 6 (by decide) k

omit [FloatOps F] in
/-- All of the relations' table. -/
theorem set_rel : (relW inbRel).view.set = Finset.univ := by
  refine Finset.eq_univ_of_forall fun (x : S1000x128.Idx) => Finset.mem_map.mpr ⟨x, Finset.mem_univ _, ?_⟩
  funext a
  apply Fin.ext
  show (![0, 0] : Fin 2 → ℕ) a + 1 * (x a).val = (x a).val
  match a with
  | 0 => show 0 + 1 * (x 0).val = (x 0).val; omega
  | 1 => show 0 + 1 * (x 1).val = (x 1).val; omega

omit [FloatOps F] in
/-- All of the entities' table. -/
theorem set_ent : (entW inbEnt).view.set = Finset.univ := by
  refine Finset.eq_univ_of_forall fun (x : S100000x128.Idx) => Finset.mem_map.mpr ⟨x, Finset.mem_univ _, ?_⟩
  funext a
  apply Fin.ext
  show (![0, 0] : Fin 2 → ℕ) a + 1 * (x a).val = (x a).val
  match a with
  | 0 => show 0 + 1 * (x 0).val = (x 0).val; omega
  | 1 => show 0 + 1 * (x 1).val = (x 1).val; omega

omit [FloatOps F] in
/-- A chunk's indices in the tile's memory. -/
theorem mem_winI {k : Fin 7} {c : Fin 8} {i : S7x8x64.Idx} : i ∈ (winI k c).view.set ↔ (i 0).val = k.val ∧ (i 1).val = c.val := by
  constructor
  · intro hi
    obtain ⟨x, -, rfl⟩ := Finset.mem_map.mp hi
    have h := idxW_emb (k := k.val) (c := c.val) rfl (inbIdx k c) x
    exact ⟨h.1, h.2.1⟩
  · rintro ⟨h0, h1⟩
    let x : S64.Idx := ix1 (i 2)
    refine Finset.mem_map.mpr ⟨x, Finset.mem_univ _, ?_⟩
    obtain ⟨e0, e1, e2⟩ := idxW_emb (k := k.val) (c := c.val) rfl (inbIdx k c) x
    funext a
    apply Fin.ext
    match a with
    | 0 => exact e0.trans h0.symm
    | 1 => exact e1.trans h1.symm
    | 2 => exact e2

variable {Ix : Type} [DecidableEq Ix] {Name : Type} [DecidableEq Name] {U : Type} [URA U] {Lvl : Type} [Preorder Lvl]

local notation "𝕄" => MT nD τ sig Ix (Elt F) Name U Lvl

variable (EC : UEmb Counters (MT nD τ sig Ix (Elt F) Name U Lvl))
variable (d : Dev nD) (i : grid0.Coords)
variable (fR : S1000x128.Idx → F .f32) (fE : S100000x128.Idx → F .f32) (X : ℕ → ℕ → BitVec 32)
variable (A : (k : Fin 7) → Buf (Elt F) ((argM k).view.loc (thr d (cV i) (jV i))))
variable (sR sE : PosShare TreeShare)

/-- The first of a separating product, taken out. -/
theorem bigSep_succ {n : ℕ} (Φ : Fin (n + 1) → sProp 𝕄) : bigSep Finset.univ Φ = iprop(Φ 0 ∗ bigSep Finset.univ fun k : Fin n => Φ k.succ) := by
  rw [Fin.univ_succ, Finset.cons_eq_insert, bigSep_insert (by simp), BI.bigSep_map]
  rfl

/-- Two conjuncts. -/
theorem bigSep_two (Φ : Fin 2 → sProp 𝕄) : bigSep Finset.univ Φ = iprop(Φ 0 ∗ Φ 1) := by
  rw [bigSep_succ (n := 1), bigSep_one]
  rfl

/-- A slab's tables, from the halves of the tile's shares. -/
theorem tabs_one (q : Fin 2) : (Tabs d i fR fE (shares sR sE q) : sProp 𝕄)
    = iprop((relM.view.loc (thr d (cV i) (jV i)) ↦[Finset.univ]{pieceOf sR 2 (by decide) q} bufR d fR)
      ∗ entM.view.loc (thr d (cV i) (jV i)) ↦[Finset.univ]{pieceOf sE 2 (by decide) q} bufE d fE) := by
  have h0 : (srcAt d fR fE (cV i) (jV i) 0 (shares sR sE q 0) : sProp 𝕄)
      = (relM.view.loc (thr d (cV i) (jV i)) ↦[Finset.univ]{pieceOf sR 2 (by decide) q} bufR d fR) := by
    unfold srcAt
    rw [if_pos rfl, set_rel]
    rfl
  have hk : ∀ k : Fin 6, (srcAt d fR fE (cV i) (jV i) k.succ (shares sR sE q k.succ) : sProp 𝕄)
      = (entM.view.loc (thr d (cV i) (jV i)) ↦[Finset.univ]{pieceOf (pieceOf sE 2 (by decide) q) 6 (by decide) k} bufE d fE) := fun k => by
    unfold srcAt
    rw [if_neg (Fin.succ_ne_zero k), set_ent]
    rfl
  unfold Tabs
  rw [bigSep_succ (n := 6), h0, BI.bigSep_congr fun k _ => hk k, ← pointsTo_piecesOf]

/-- Four resources, paired another way. -/
theorem swap (P Q R S : sProp 𝕄) : iprop((P ∗ Q) ∗ R ∗ S) ⊢ iprop((P ∗ R) ∗ Q ∗ S) := by
  iintro ⟨⟨H0, H1⟩, H2, H3⟩
  isplitl [H0 H2]
  · isplitl [H0] <;> iassumption
  · isplitl [H1] <;> iassumption

/-- The tables' shares, halved for the two slabs. -/
theorem tabs_all : iprop((relM.view.loc (thr d (cV i) (jV i)) ↦[Finset.univ]{sR} bufR d fR) ∗ entM.view.loc (thr d (cV i) (jV i)) ↦[Finset.univ]{sE} bufE d fE)
    = (iprop(Tabs d i fR fE (shares sR sE 0) ∗ Tabs d i fR fE (shares sR sE 1)) : sProp 𝕄) := by
  rw [tabs_one, tabs_one, pointsTo_piecesOf Finset.univ (bufR d fR) (o := 2) (by decide) sR, pointsTo_piecesOf Finset.univ (bufE d fE) (o := 2) (by decide) sE,
    bigSep_two, bigSep_two]
  exact BI.Entails.antisymm (swap _ _ _ _) (swap _ _ _ _)

/-- The memory of indices, cut into the chunks' rows. -/
theorem idx_all (f : Buf (Elt F) (idxM.view.loc (thr d (cV i) (jV i)))) :
    (idxM.view.loc (thr d (cV i) (jV i)) ↦[Finset.univ]{fullShare} f : sProp 𝕄)
      = bigSep Finset.univ fun c : Fin 8 => bigSep Finset.univ fun k : Fin 7 =>
        (winI k c).view.loc (thr d (cV i) (jV i)) ↦[(winI k c).view.set]{fullShare} f := by
  rw [← BI.bigSep_univ_prod fun p : Fin 8 × Fin 7 => (idxM.view.loc (thr d (cV i) (jV i)) ↦[(winI p.2 p.1).view.set]{fullShare} f : sProp 𝕄)]
  refine Eq.trans ?_ (pointsTo_biUnion (ℓ := idxM.view.loc (thr d (cV i) (jV i))) (q := fullShare) (f := f) Finset.univ
    (fun p : Fin 8 × Fin 7 => (winI p.2 p.1).view.set) fun p _ p' _ h => ?_)
  · refine congrArg (fun s : Finset S7x8x64.Idx => (idxM.view.loc (thr d (cV i) (jV i)) ↦[s]{fullShare} f : sProp 𝕄))
      (Finset.eq_univ_of_forall fun (x : S7x8x64.Idx) => ?_).symm
    exact Finset.mem_biUnion.mpr ⟨(x 1, x 0), Finset.mem_univ _, mem_winI.mpr ⟨rfl, rfl⟩⟩
  · refine Finset.disjoint_left.mpr fun (x : S7x8x64.Idx) h1 h2 => h ?_
    have e1 := mem_winI.mp h1
    have e2 := mem_winI.mp h2
    exact Prod.ext (Fin.ext (e1.2.symm.trans e2.2)) (Fin.ext (e1.1.symm.trans e2.1))

/-- The first chunk and the rest. -/
theorem bigSep_chunks (Φ : Fin 8 → sProp 𝕄) :
    bigSep Finset.univ Φ = iprop((bigSep Finset.univ fun r : Fin 1 => Φ (chunkOf (show 7 * 0 + 7 * 1 ≤ 56 by decide) r))
      ∗ bigSep Finset.univ fun r : Fin 7 => Φ (chunkOf (show 7 * 1 + 7 * 7 ≤ 56 by decide) r)) := by
  rw [bigSep_succ Φ, bigSep_one]
  have h : (fun k : Fin 7 => Φ k.succ) = fun r : Fin 7 => Φ (chunkOf (show 7 * 1 + 7 * 7 ≤ 56 by decide) r) :=
    funext fun k => congrArg Φ (Fin.ext (Nat.add_comm _ _))
  rw [h]
  rfl

/-- The places of a chunk's indices in the memory of indices. -/
abbrev Room (c : Fin 8) : sProp 𝕄 :=
  bigSep Finset.univ fun k : Fin 7 => iprop(∃ f, (winI k c).view.loc (thr d (cV i) (jV i)) ↦[(winI k c).view.set]{fullShare} f)

/-- What the index copies start from, chunk by chunk. -/
theorem go_chunks {m c₀ : ℕ} (hn : 7 * c₀ + 7 * m ≤ 56) :
    (bigSep Finset.univ fun t : Fin (7 * m) => toGo (hbase i) d A (kOf t) (cOf hn t) : sProp 𝕄)
      = iprop((bigSep Finset.univ fun r : Fin m => Args (hbase i) d A (chunkOf hn r))
        ∗ bigSep Finset.univ fun r : Fin m => Room d i (chunkOf hn r)) := by
  rw [bigSep_copies hn (fun k c => toGo (hbase i) d A k c)]
  unfold toGo Args Room
  exact (BI.bigSep_congr fun r _ => bsep _ _ _).trans (bsep _ _ _)

/-- Memory of some contents. -/
theorem some_at {ℓ : Loc nD τ sig} (S : Finset (Idealize.ShloMosaic.Idx ℓ)) (f : Buf (Elt F) ℓ) : (ℓ ↦[S]{fullShare} f : sProp 𝕄) ⊢ iprop(∃ f, ℓ ↦[S]{fullShare} f) := by
  iintro H
  iexists f
  iexact H

/-- The indices' memory, cut into the chunks' places. -/
theorem room_all (f : Buf (Elt F) (idxM.view.loc (thr d (cV i) (jV i)))) :
    (bigSep Finset.univ fun c : Fin 8 => bigSep Finset.univ fun k : Fin 7 =>
        (winI k c).view.loc (thr d (cV i) (jV i)) ↦[(winI k c).view.set]{fullShare} f : sProp 𝕄)
      ⊢ bigSep Finset.univ fun c : Fin 8 => Room d i c :=
  BI.bigSep_mono fun c _ => BI.bigSep_mono fun k _ => some_at _ f

/-- The memory of rows, cut into its two slabs. -/
theorem slabs_all (q : PosShare TreeShare) (f : Buf (Elt F) (rowsM.view.loc (thr d (cV i) (jV i)))) :
    (rowsM.view.loc (thr d (cV i) (jV i)) ↦[Finset.univ]{q} f : sProp 𝕄)
      = iprop((rowsM.view.loc (thr d (cV i) (jV i)) ↦[slab 0]{q} f) ∗ rowsM.view.loc (thr d (cV i) (jV i)) ↦[slab 1]{q} f) := by
  have h : (Finset.univ \ slab 0 : Finset S2x7x64x128.Idx) = slab 1 := by
    ext x
    have h2 : (x 0).val < 2 := (x 0).isLt
    rw [Finset.mem_sdiff, mem_slab, mem_slab]
    exact ⟨fun h => by have := h.2; omega, fun h => ⟨Finset.mem_univ _, by omega⟩⟩
  rw [split_univ (slab 0) q f]
  exact congrArg (fun s : Finset S2x7x64x128.Idx => (iprop((rowsM.view.loc (thr d (cV i) (jV i)) ↦[slab 0]{q} f) ∗ rowsM.view.loc (thr d (cV i) (jV i)) ↦[s]{q} f) : sProp 𝕄)) h

/-- The row memory's two slabs, put together. -/
theorem slabs_join (f g : Buf (Elt F) (rowsM.view.loc (thr d (cV i) (jV i)))) :
    iprop((rowsM.view.loc (thr d (cV i) (jV i)) ↦[slab 0]{rhalf} f) ∗ rowsM.view.loc (thr d (cV i) (jV i)) ↦[slab 1]{rhalf} g)
      ⊢ (∃ h, rowsM.view.loc (thr d (cV i) (jV i)) ↦[Finset.univ]{rhalf} h : sProp 𝕄) := by
  classical
  let h : S2x7x64x128.Idx → Elt F .f32 := fun x => if (x 0).val = 0 then (f : S2x7x64x128.Idx → Elt F .f32) x else (g : S2x7x64x128.Idx → Elt F .f32) x
  have h0 : (rowsM.view.loc (thr d (cV i) (jV i)) ↦[slab 0]{rhalf} f : sProp 𝕄) = rowsM.view.loc (thr d (cV i) (jV i)) ↦[slab 0]{rhalf} h :=
    pointsTo_congr fun (x : S2x7x64x128.Idx) hx => (if_pos (mem_slab.mp hx)).symm
  have h1 : (rowsM.view.loc (thr d (cV i) (jV i)) ↦[slab 1]{rhalf} g : sProp 𝕄) = rowsM.view.loc (thr d (cV i) (jV i)) ↦[slab 1]{rhalf} h :=
    pointsTo_congr fun (x : S2x7x64x128.Idx) hx => (if_neg (by rw [mem_slab.mp hx]; decide)).symm
  rw [h0, h1, ← slabs_all]
  iintro H
  iexists h
  iexact H

/-- The rows' tokens, slab by slab. -/
theorem toks_all (γ : Fin 2 × Fin 7 × Fin 64 → ℕ) :
    (bigSep Finset.univ fun p => tok EC (γ p) : sProp 𝕄) = iprop(Toks EC γ 0 ∗ Toks EC γ 1) := by
  rw [BI.bigSep_univ_prod, bigSep_two, BI.bigSep_univ_prod, BI.bigSep_univ_prod]

/-- A tile's own memory and semaphores. -/
def Own : sProp 𝕄 :=
  iprop((∃ f, idxM.view.loc (thr d (cV i) (jV i)) ↦[Finset.univ]{fullShare} f) ∗ (∃ f, rowsM.view.loc (thr d (cV i) (jV i)) ↦[Finset.univ]{fullShare} f)
    ∗ (∃ f, sumsM.view.loc (thr d (cV i) (jV i)) ↦[Finset.univ]{fullShare} f) ∗ (∃ f, outM.view.loc (thr d (cV i) (jV i)) ↦[Finset.univ]{fullShare} f)
    ∗ semVal (thr d (cV i) (jV i), .dma cc0_scratch4.sem) 0 ∗ semVal (thr d (cV i) (jV i), .dma cc0_scratch5.sem) 0
    ∗ semVal (thr d (cV i) (jV i), .dma cc0_scratch6.sem) 0 ∗ semVal (thr d (cV i) (jV i), .dma cc0_scoped0.sem) 0)

/-- A tile's share of the kernel's operands, its results' place with it. -/
def Operands (P : sProp 𝕄) : sProp 𝕄 :=
  iprop((bigSep Finset.univ fun c : Fin 8 => Args (hbase i) d A c)
    ∗ ((relM.view.loc (thr d (cV i) (jV i)) ↦[Finset.univ]{sR} bufR d fR) ∗ entM.view.loc (thr d (cV i) (jV i)) ↦[Finset.univ]{sE} bufE d fE) ∗ P)

/-- The results' place, at some contents. -/
abbrev Place : sProp 𝕄 :=
  iprop(∃ f, (resW (k0_off171 i) (k0_off171_inb i)).view.loc (thr d (cV i) (jV i)) ↦[(resW (k0_off171 i) (k0_off171_inb i)).view.set]{fullShare} f)

/-- The results in place. -/
abbrev Placed (V : Buf (Elt F) (resM.view.loc (thr d (cV i) (jV i)))) : sProp 𝕄 :=
  iprop((resW (k0_off171 i) (k0_off171_inb i)).view.loc (thr d (cV i) (jV i)) ↦[(resW (k0_off171 i) (k0_off171_inb i)).view.set]{fullShare} V)

/-- What a tile owns and is handed is what its run starts from. -/
theorem enter [Infinite Name] [EC.LandsIn (upEmb : UEmb _ 𝕄)] (ι : Ix) (O : CellTallies nD τ sig Ix) (W : Waits sig Ix) :
    iprop(MayWaits (thr d (cV i) (jV i)) ι O ∗ Own d i ∗ Operands d i fR fE A sR sE (Place d i) ∗ owes (thr d (cV i) (jV i)) O W)
      ⊢ (|={Set.univ}=> ∃ δ, ∃ γ : Fin 2 × Fin 7 × Fin 64 → ℕ, ∃ ιn, inv ιn (heldBody (Val := Elt F) EC (rowsM.view.loc (thr d (cV i) (jV i))) δ γ)
        ∗ Before EC d i fR fE X A (shares sR sE 0) (shares sR sE 1) δ γ ιn ι O W (tabOf fR fE X 0) : sProp 𝕄) := by
  unfold Own Operands Before
  iintro ⟨#Hmw, ⟨⟨%fi, Hi⟩, ⟨%fr, Hr⟩, ⟨%fs, Hs⟩, ⟨%fo, Ho⟩, Hv4, Hv5, Hv6, Hv0⟩, ⟨HA, HT, HP⟩, HO⟩
  imod (held_alloc (K := Fin 2 × Fin 7 × Fin 64) EC fr) $$ Hr with ⟨%δ, %γ, %ιn, #Hinv, Hδ, Htk, Hr⟩
  ihave Hi := (Entails.of_eq (idx_all d i fi)) $$ Hi
  ihave Hi := (room_all d i fi) $$ Hi
  ihave Hi := (Entails.of_eq (bigSep_chunks fun c => Room d i c)) $$ Hi
  ihave HA := (Entails.of_eq (bigSep_chunks fun c => Args (hbase i) d A c)) $$ HA
  ihave HT := (Entails.of_eq (tabs_all d i fR fE sR sE)) $$ HT
  ihave Hr := (Entails.of_eq (slabs_all d i rhalf fr)) $$ Hr
  ihave Htk := (Entails.of_eq (toks_all EC γ)) $$ Htk
  icases Hi with ⟨Hi0, Hi1⟩
  icases HA with ⟨HA0, HA1⟩
  icases HT with ⟨HT0, HT1⟩
  icases Hr with ⟨Hr0, Hr1⟩
  icases Htk with ⟨Htk0, Htk1⟩
  imodintro
  iexists δ, γ, ιn
  isplitr
  · iexact Hinv
  isplitr
  · iexact Hinv
  isplitr
  · iexact Hmw
  isplitl [Hδ]
  · iexact Hδ
  isplitl [HO]
  · unfold Owed
    iexists W
    isplitr
    · ipureintro; exact fun p hp => .inl hp
    · iexact HO
  isplitl [Hi0 HA0]
  · rw [go_chunks d i A (m := 1) (c₀ := 0)]
    isplitl [HA0] <;> iassumption
  isplitl [Hi1 HA1]
  · rw [go_chunks d i A (m := 7) (c₀ := 1)]
    isplitl [HA1] <;> iassumption
  isplitl [Hr0 Htk0]
  · iexists fr
    unfold Slab
    isplitl [Hr0]
    · iexact Hr0
    · iexact Htk0
  isplitl [Hr1 Htk1]
  · iexists fr
    unfold Slab
    isplitl [Hr1]
    · iexact Hr1
    · iexact Htk1
  isplitl [HT0]
  · iexact HT0
  isplitl [HT1]
  · iexact HT1
  isplitl [Hv4]
  · iexact Hv4
  isplitl [Hv5]
  · iexact Hv5
  isplitl [Hv6]
  · iexact Hv6
  isplitl [Hv0]
  · iexact Hv0
  isplitl [Hs]
  · unfold Sums
    iexists fs
    isplitr
    · ipureintro; intro i x j hj; exact absurd hj (Nat.not_lt_zero j)
    · iexact Hs
  isplitl [Ho]
  · unfold Outs
    iexists fo
    isplitr
    · ipureintro; intro x hx; exact absurd hx (Nat.not_lt_zero _)
    · iexact Ho
  · iexact HP

/-- What its run leaves is what it owns and hands back. -/
theorem leave [Infinite Name] [EC.LandsIn (upEmb : UEmb _ 𝕄)] {δ : ℕ} {γ : Fin 2 × Fin 7 × Fin 64 → ℕ} {ιn : Name} (ι : Ix) (O : CellTallies nD τ sig Ix) (W : Waits sig Ix)
    (V : Buf (Elt F) (resM.view.loc (thr d (cV i) (jV i)))) :
    iprop(inv ιn (heldBody (Val := Elt F) EC (rowsM.view.loc (thr d (cV i) (jV i))) δ γ)
        ∗ After EC d i fR fE X A (shares sR sE 0) (shares sR sE 1) δ γ ι O W V)
      ⊢ (|={Set.univ}=> iprop(Own d i ∗ Operands d i fR fE A sR sE (Placed d i V) ∗ Owed (thr d (cV i) (jV i)) ι O W) : sProp 𝕄) := by
  unfold Own Operands After Slab
  iintro ⟨#Hinv, Hδ, HO, HA0, HA1, Hi0, Hi1, ⟨%f0, Hr0, Htk0⟩, ⟨%f1, Hr1, Htk1⟩, HT0, HT1, Hv4, Hv5, Hv6, Hv0, ⟨%T, Hs⟩, Ho, HP⟩
  ihave Hi := (Entails.of_eq (bigSep_chunks fun c => Whole.Idx d X (cV i) (jV i) c).symm) $$ [Hi0 Hi1]
  · isplitl [Hi0] <;> iassumption
  ihave HA := (Entails.of_eq (bigSep_chunks fun c => Args (hbase i) d A c).symm) $$ [HA0 HA1]
  · isplitl [HA0] <;> iassumption
  ihave HT := (Entails.of_eq (tabs_all d i fR fE sR sE).symm) $$ [HT0 HT1]
  · isplitl [HT0] <;> iassumption
  ihave Htk := (Entails.of_eq (toks_all EC γ).symm) $$ [Htk0 Htk1]
  · isplitl [Htk0]
    · iexact Htk0
    · iexact Htk1
  ihave Hr := (slabs_join d i f0 f1) $$ [Hr0 Hr1]
  · isplitl [Hr0]
    · iexact Hr0
    · iexact Hr1
  icases Hr with ⟨%fr, Hr⟩
  imod (held_close EC fr) $$ [Hδ Htk Hr] with Hr
  · isplitr
    · iexact Hinv
    isplitl [Hδ]
    · iexact Hδ
    isplitl [Htk] <;> iassumption
  unfold Sums Outs
  icases Hs with ⟨%fs, -, Hs⟩
  icases Ho with ⟨%fo, -, Ho⟩
  ihave Hi := (show (bigSep Finset.univ fun c : Fin 8 => Whole.Idx d X (cV i) (jV i) c : sProp 𝕄)
    ⊢ (idxM.view.loc (thr d (cV i) (jV i)) ↦[Finset.univ]{fullShare} idxs d X) from Entails.of_eq (idx_all d i (idxs d X)).symm) $$ Hi
  imodintro
  isplitr [HA HT HP HO]
  · isplitl [Hi]
    · iexists _; iexact Hi
    isplitl [Hr]
    · iexists _; iexact Hr
    isplitl [Hs]
    · iexists _; iexact Hs
    isplitl [Ho]
    · iexists _; iexact Ho
    isplitl [Hv4]
    · iexact Hv4
    isplitl [Hv5]
    · iexact Hv5
    isplitl [Hv6] <;> iassumption
  isplitr [HO]
  · isplitl [HA]
    · iexact HA
    isplitl [HT] <;> iassumption
  · iexact HO

end Cert.Proof.Shares
-- ==== Proof.Operands.lean ====
/-
  The kernel's operands, cut among the tiles.

  The result of 16384 is 32 tiles' blocks of 512, and each index array is the tiles' blocks again, each in eight
  windows of 64. The tables go to every tile, by a read share each.
-/
module

public import proofs.«01_k».proof.Proof.Shares

@[expose] public section

set_option maxHeartbeats 1000000

noncomputable section

namespace Cert.Proof.Operands

open Cert.KernelIdeal Cert.KernelIdeal.Gen
open Idealize.ShloMosaic Idealize.ShloMosaic.Transfers Idealize.ShloMosaic.SparseCore Idealize.SL.Sem Cert.Proof.Geo Cert.Proof.Rows Cert.Proof.Segs
open Cert.Proof.Held Cert.Proof.GatherBatch Cert.Proof.Stage Cert.Proof.Fetch Cert.Proof.Chunk Cert.Proof.Loop Cert.Proof.Whole Cert.Proof.Ends
open Cert.Proof.Shares
open Idealize.SL
open Idealize.SL.BI (sProp Storable bigSep bigSep_insert)
open scoped Idealize.SL.BI
open Idealize.SL.BI.BIBase Idealize.SL.BI.Laws Idealize.SL.ProofMode
open Idealize.SL.RA

variable {F : FTy → Type} [FloatOps F]

/-- The tile at a SparseCore and a place on it. -/
def coordsV (c : Fin (grid0.bound 0)) (s : Fin (grid0.bound 1)) : grid0.Coords :=
  fun | 0 => c | 1 => s | ⟨_ + 2, h⟩ => absurd h (Nat.not_lt.2 (Nat.le_add_left _ _))

/-- The tile at a SparseCore and a place on it, by number. -/
abbrev tileAt (c : Fin 2) (s : Fin 16) : grid0.Coords := coordsV c s

/-- Where a tile's block starts. -/
theorem base_at (c : Fin 2) (s : Fin 16) : base (tileAt c s) = 1024 * s.val + 512 * c.val := rfl

variable {Ix : Type} [DecidableEq Ix] {Name : Type} [DecidableEq Name] {U : Type} [URA U] {Lvl : Type} [Preorder Lvl]

local notation "𝕄" => MT nD τ sig Ix (Elt F) Name U Lvl

variable (m : (ℓ : Loc nD τ sig) → Buf (Elt F) ℓ) (d : Dev nD)

/-- The first tile's thread, at which the operands are named. -/
abbrev thr0 (d : Dev nD) : Thread nD τ := thr d ⟨0, by decide⟩ ⟨0, by decide⟩

/-- The operands of a tile, as the launch memory has them. -/
abbrev argsOf (i : grid0.Coords) (k : Fin 7) : Buf (Elt F) ((argM k).view.loc (thr d (cV i) (jV i))) := m ((argM k).view.loc (thr d (cV i) (jV i)))

/-- An index array is taken whole. -/
theorem emb_surj (k : Fin 7) : (argM k).view.set = Finset.univ :=
  match k with
  | 0 => View.set_whole _
  | 1 => View.set_whole _
  | 2 => View.set_whole _
  | 3 => View.set_whole _
  | 4 => View.set_whole _
  | 5 => View.set_whole _
  | 6 => View.set_whole _

/-- A chunk of an index array, seen from a tile and from the launch. -/
theorem place_at (i : grid0.Coords) (k : Fin 7) (c : Fin 8) :
    ((winA (hbase i) k c).view.loc (thr d (cV i) (jV i)) ↦[(winA (hbase i) k c).view.set]{fullShare} argsOf m d i k : sProp 𝕄)
      = ((argM k).view.loc (thr0 d) ↦[(winA (hbase i) k c).view.set]{fullShare} m ((argM k).view.loc (thr0 d))) :=
  match k with
  | 0 => rfl
  | 1 => rfl
  | 2 => rfl
  | 3 => rfl
  | 4 => rfl
  | 5 => rfl
  | 6 => rfl

/-- A window's elements, by their place in the index array. -/
theorem mem_winA {b : ℕ} (hb : b + 512 ≤ 16384) (k : Fin 7) (c : Fin 8) (r : S16384.Idx) :
    (argM k).view.emb r ∈ (winA hb k c).view.set ↔ b + 64 * c.val ≤ (r 0).val ∧ (r 0).val < b + 64 * c.val + 64 := by
  have hr : (r 0).val < 16384 := (r 0).isLt
  constructor
  · intro h
    obtain ⟨x, -, hx⟩ := Finset.mem_map.mp h
    have e := (argM k).view.emb.injective hx
    have e0 : b + 64 * c.val + 1 * (x 0).val = (r 0).val := congrArg (fun y : S16384.Idx => (y 0).val) e
    have hx : (x 0).val < 64 := (x 0).isLt
    omega
  · rintro ⟨h0, h1⟩
    let x : S64.Idx := ix1 ⟨(r 0).val - (b + 64 * c.val), by omega⟩
    refine Finset.mem_map.mpr ⟨x, Finset.mem_univ _, congrArg (argM k).view.emb ?_⟩
    funext a
    obtain rfl : a = 0 := Subsingleton.elim _ _
    apply Fin.ext
    show b + 64 * c.val + 1 * ((r 0).val - (b + 64 * c.val)) = (r 0).val
    omega

/-- An index array is the tiles' windows. -/
theorem arg_all (k : Fin 7) :
    ((argM k).view.loc (thr0 d) ↦[Finset.univ]{fullShare} m ((argM k).view.loc (thr0 d)) : sProp 𝕄)
      = bigSep Finset.univ fun c : Fin 2 => bigSep Finset.univ fun s : Fin 16 => bigSep Finset.univ fun n : Fin 8 =>
        (winA (hbase (tileAt c s)) k n).view.loc (thr d (cV (tileAt c s)) (jV (tileAt c s))) ↦[(winA (hbase (tileAt c s)) k n).view.set]{fullShare} argsOf m d (tileAt c s) k := by
  rw [BI.bigSep_congr fun c _ => BI.bigSep_congr fun s _ => BI.bigSep_congr fun n _ => place_at m d (tileAt c s) k n]
  rw [BI.bigSep_congr fun c _ => (BI.bigSep_univ_prod fun p : Fin 16 × Fin 8 =>
      ((argM k).view.loc (thr0 d) ↦[(winA (hbase (tileAt c p.1)) k p.2).view.set]{fullShare} m ((argM k).view.loc (thr0 d)) : sProp 𝕄)).symm,
    ← BI.bigSep_univ_prod fun p : Fin 2 × Fin 16 × Fin 8 =>
      ((argM k).view.loc (thr0 d) ↦[(winA (hbase (tileAt p.1 p.2.1)) k p.2.2).view.set]{fullShare} m ((argM k).view.loc (thr0 d)) : sProp 𝕄)]
  have hmem : ∀ y : Idealize.ShloMosaic.Idx ((argM k).view.loc (thr0 d)), ∃ r : S16384.Idx, (argM k).view.emb r = y := fun y => by
    have h : y ∈ (argM k).view.set := emb_surj k ▸ Finset.mem_univ y
    obtain ⟨r, -, hr⟩ := Finset.mem_map.mp h
    exact ⟨r, hr⟩
  refine Eq.trans ?_ (pointsTo_biUnion (ℓ := (argM k).view.loc (thr0 d)) (q := fullShare) (f := m ((argM k).view.loc (thr0 d))) Finset.univ
    (fun p : Fin 2 × Fin 16 × Fin 8 => (winA (hbase (tileAt p.1 p.2.1)) k p.2.2).view.set) fun p _ p' _ h => ?_)
  · refine congrArg (fun s => ((argM k).view.loc (thr0 d) ↦[s]{fullShare} m ((argM k).view.loc (thr0 d)) : sProp 𝕄))
      (Finset.eq_univ_of_forall fun y => ?_).symm
    obtain ⟨r, rfl⟩ := hmem y
    have hr : (r 0).val < 16384 := (r 0).isLt
    refine Finset.mem_biUnion.mpr ⟨(⟨(r 0).val / 512 % 2, by omega⟩, ⟨(r 0).val / 1024, by omega⟩, ⟨(r 0).val % 512 / 64, by omega⟩), Finset.mem_univ _, (mem_winA _ k _ r).mpr ?_⟩
    rw [base_at]
    show 1024 * ((r 0).val / 1024) + 512 * ((r 0).val / 512 % 2) + 64 * ((r 0).val % 512 / 64) ≤ (r 0).val
      ∧ (r 0).val < 1024 * ((r 0).val / 1024) + 512 * ((r 0).val / 512 % 2) + 64 * ((r 0).val % 512 / 64) + 64
    omega
  · refine Finset.disjoint_left.mpr fun y h1 h2 => h ?_
    obtain ⟨r, rfl⟩ := hmem y
    have e1 := (mem_winA _ k _ r).mp h1
    have e2 := (mem_winA _ k _ r).mp h2
    rw [base_at] at e1 e2
    have a1 := p.1.isLt
    have a2 := p'.1.isLt
    have b1 := p.2.1.isLt
    have b2 := p'.2.1.isLt
    have c1 := p.2.2.isLt
    have c2 := p'.2.2.isLt
    exact Prod.ext (Fin.ext (by omega)) (Prod.ext (Fin.ext (by omega)) (Fin.ext (by omega)))

/-- A tile's block of the result. -/
theorem mem_resW (i : grid0.Coords) (r : S16384.Idx) :
    r ∈ (resW (k0_off171 i) (k0_off171_inb i)).view.set ↔ base i ≤ (r 0).val ∧ (r 0).val < base i + 512 := by
  have hr : (r 0).val < 16384 := (r 0).isLt
  constructor
  · intro h
    obtain ⟨x, -, e⟩ := Finset.mem_map.mp h
    have e0 : (r 0).val = base i + (x 0).val :=
      (congrArg (fun y : S16384.Idx => (y 0).val) e).symm.trans (resW_emb (b := base i) (k0_off171_eq i) (k0_off171_inb i) x)
    have hx : (x 0).val < 512 := (x 0).isLt
    omega
  · rintro ⟨h0, h1⟩
    let x : S512.Idx := ix1 ⟨(r 0).val - base i, by omega⟩
    refine Finset.mem_map.mpr ⟨x, Finset.mem_univ _, ?_⟩
    funext a
    obtain rfl : a = 0 := Subsingleton.elim _ _
    apply Fin.ext
    refine (resW_emb (k0_off171_eq i) _ x).trans ?_
    show base i + ((r 0).val - base i) = (r 0).val
    omega

/-- The result is the tiles' blocks. -/
theorem res_all (f : Buf (Elt F) (resM.view.loc (thr0 d))) :
    (resM.view.loc (thr0 d) ↦[Finset.univ]{fullShare} f : sProp 𝕄)
      = bigSep Finset.univ fun c : Fin 2 => bigSep Finset.univ fun s : Fin 16 => Placed d (tileAt c s) f := by
  rw [← BI.bigSep_univ_prod fun p : Fin 2 × Fin 16 => (Placed d (tileAt p.1 p.2) f : sProp 𝕄)]
  refine Eq.trans ?_ (pointsTo_biUnion (ℓ := resM.view.loc (thr0 d)) (q := fullShare) (f := f) Finset.univ
    (fun p : Fin 2 × Fin 16 => (resW (k0_off171 (tileAt p.1 p.2)) (k0_off171_inb (tileAt p.1 p.2))).view.set) fun p _ p' _ h => ?_)
  · refine congrArg (fun s : Finset S16384.Idx => (resM.view.loc (thr0 d) ↦[s]{fullShare} f : sProp 𝕄))
      (Finset.eq_univ_of_forall fun (r : S16384.Idx) => ?_).symm
    have hr : (r 0).val < 16384 := (r 0).isLt
    refine Finset.mem_biUnion.mpr ⟨(⟨(r 0).val / 512 % 2, by omega⟩, ⟨(r 0).val / 1024, by omega⟩), Finset.mem_univ _, (mem_resW _ r).mpr ?_⟩
    rw [base_at]
    show 1024 * ((r 0).val / 1024) + 512 * ((r 0).val / 512 % 2) ≤ (r 0).val ∧ (r 0).val < 1024 * ((r 0).val / 1024) + 512 * ((r 0).val / 512 % 2) + 512
    omega
  · refine Finset.disjoint_left.mpr fun (r : S16384.Idx) h1 h2 => h ?_
    have e1 := (mem_resW _ r).mp h1
    have e2 := (mem_resW _ r).mp h2
    rw [base_at] at e1 e2
    have a1 := p.1.isLt
    have a2 := p'.1.isLt
    exact Prod.ext (Fin.ext (by omega)) (Fin.ext (by omega))

/-- The tile's read share of a table. -/
def shareAt (c : Fin 2) (s : Fin 16) : PosShare TreeShare := pieceOf (pieceOf fullShare 2 (by decide) c) 16 (by decide) s

/-- A table, shared among the tiles. -/
theorem shares_all {ℓ : Loc nD τ sig} (f : Buf (Elt F) ℓ) :
    (ℓ ↦[Finset.univ]{fullShare} f : sProp 𝕄)
      = bigSep Finset.univ fun c : Fin 2 => bigSep Finset.univ fun s : Fin 16 => ℓ ↦[Finset.univ]{shareAt c s} f := by
  rw [pointsTo_piecesOf Finset.univ f (o := 2) (by decide) fullShare]
  exact BI.bigSep_congr fun c _ => pointsTo_piecesOf Finset.univ f (o := 16) (by decide) _

/-- The relations' table, as the launch memory has it. -/
abbrev relOf : S1000x128.Idx → F .f32 := m (relM.view.loc (thr0 d))
/-- The entities' table, as the launch memory has it. -/
abbrev entOf : S100000x128.Idx → F .f32 := m (entM.view.loc (thr0 d))

/-- A tile's operands, as the launch memory has them. -/
def Part (c : Fin 2) (s : Fin 16) (P : sProp 𝕄) : sProp 𝕄 :=
  Operands d (tileAt c s) (relOf m d) (entOf m d) (argsOf m d (tileAt c s)) (shareAt c s) (shareAt c s) P

/-- The operands whole. -/
def Inputs : sProp 𝕄 :=
  iprop((bigSep Finset.univ fun k : Fin 7 => (argM k).view.loc (thr0 d) ↦[Finset.univ]{fullShare} m ((argM k).view.loc (thr0 d)))
    ∗ (relM.view.loc (thr0 d) ↦[Finset.univ]{fullShare} m (relM.view.loc (thr0 d))) ∗ entM.view.loc (thr0 d) ↦[Finset.univ]{fullShare} m (entM.view.loc (thr0 d)))

/-- Two separating products change places. -/
theorem bigSep_comm {α β : Type} [Fintype α] [Fintype β] [DecidableEq α] [DecidableEq β] (Φ : α → β → sProp 𝕄) :
    (bigSep Finset.univ fun a => bigSep Finset.univ fun b => Φ a b) = bigSep Finset.univ fun b => bigSep Finset.univ fun a => Φ a b := by
  rw [← BI.bigSep_univ_prod fun p : α × β => Φ p.1 p.2, BI.bigSep_univ_equiv (Equiv.prodComm β α) (fun p : α × β => Φ p.1 p.2), BI.bigSep_univ_prod]
  rfl

/-- Four resources, grouped another way. -/
theorem regroup (P Q R S : sProp 𝕄) : iprop(P ∗ (Q ∗ R) ∗ S) ⊢ iprop((P ∗ Q ∗ R) ∗ S) := by
  iintro ⟨HP, HQ, HS⟩
  isplitl [HP HQ]
  · isplitl [HP] <;> iassumption
  · iexact HS

/-- And back. -/
theorem ungroup (P Q R S : sProp 𝕄) : iprop((P ∗ Q ∗ R) ∗ S) ⊢ iprop(P ∗ (Q ∗ R) ∗ S) := by
  iintro ⟨⟨HP, HQ⟩, HS⟩
  isplitl [HP]
  · iexact HP
  · isplitl [HQ] <;> iassumption

/-- A separating product over the tiles, split. -/
theorem bsep2 (Φ Ψ : Fin 2 → Fin 16 → sProp 𝕄) :
    (bigSep Finset.univ fun c => bigSep Finset.univ fun s => iprop(Φ c s ∗ Ψ c s))
      = iprop((bigSep Finset.univ fun c => bigSep Finset.univ fun s => Φ c s) ∗ bigSep Finset.univ fun c => bigSep Finset.univ fun s => Ψ c s) :=
  (BI.bigSep_congr fun c _ => bsep _ (Φ c) (Ψ c)).trans (bsep _ _ _)

/-- The tiles' windows of the index arrays are the index arrays. -/
theorem args_all :
    (bigSep Finset.univ fun c : Fin 2 => bigSep Finset.univ fun s : Fin 16 => bigSep Finset.univ fun n : Fin 8 =>
        Args (hbase (tileAt c s)) d (argsOf m d (tileAt c s)) n : sProp 𝕄)
      = bigSep Finset.univ fun k : Fin 7 => (argM k).view.loc (thr0 d) ↦[Finset.univ]{fullShare} m ((argM k).view.loc (thr0 d)) := by
  have e : ∀ Φ : Fin 2 → Fin 16 → Fin 8 → Fin 7 → sProp 𝕄,
      (bigSep Finset.univ fun c => bigSep Finset.univ fun s => bigSep Finset.univ fun n => bigSep Finset.univ fun k => Φ c s n k)
        = bigSep Finset.univ fun k => bigSep Finset.univ fun c => bigSep Finset.univ fun s => bigSep Finset.univ fun n => Φ c s n k := fun Φ => by
    rw [bigSep_comm fun (k : Fin 7) (c : Fin 2) => bigSep Finset.univ fun s => bigSep Finset.univ fun n => Φ c s n k]
    refine BI.bigSep_congr fun c _ => ?_
    rw [bigSep_comm fun (k : Fin 7) (s : Fin 16) => bigSep Finset.univ fun n => Φ c s n k]
    refine BI.bigSep_congr fun s _ => ?_
    exact bigSep_comm fun n k => Φ c s n k
  refine Eq.trans ?_ (BI.bigSep_congr fun k _ => arg_all m d k).symm
  exact e fun c s n k => (winA (hbase (tileAt c s)) k n).view.loc (thr d (cV (tileAt c s)) (jV (tileAt c s))) ↦[(winA (hbase (tileAt c s)) k n).view.set]{fullShare} argsOf m d (tileAt c s) k

/-- The operands and a part of each tile's own are the tiles' parts. -/
theorem parts_all (P : Fin 2 → Fin 16 → sProp 𝕄) :
    (bigSep Finset.univ fun c : Fin 2 => bigSep Finset.univ fun s : Fin 16 => Part m d c s (P c s))
      = iprop(Inputs m d ∗ bigSep Finset.univ fun c : Fin 2 => bigSep Finset.univ fun s : Fin 16 => P c s) := by
  unfold Part Operands Inputs
  rw [bsep2, bsep2, bsep2, args_all, shares_all (m (relM.view.loc (thr0 d))), shares_all (m (entM.view.loc (thr0 d)))]
  exact BI.Entails.antisymm (regroup _ _ _ _) (ungroup _ _ _ _)

end Cert.Proof.Operands
-- ==== Proof.Tile.lean ====
/-
  A tile's run of the kernel.

  The segments' rules are put together in the order of the text: the indices in, the rows of two chunks ahead in, a
  chunk's products and their sums, and the results out at the end.
-/
module

public import proofs.«01_k».proof.Proof.Ends

@[expose] public section

set_option maxHeartbeats 40000000
set_option maxRecDepth 10000
set_option cleanup.letToHave false

noncomputable section

namespace Cert.Proof.Tile

open Cert.KernelIdeal Cert.KernelIdeal.Gen
open Idealize.ShloMosaic Idealize.ShloMosaic.Transfers Idealize.ShloMosaic.SparseCore Idealize.SL.Sem Cert.Proof.Geo Cert.Proof.Rows Cert.Proof.Segs
open Cert.Proof.Held Cert.Proof.GatherBatch Cert.Proof.Stage Cert.Proof.Fetch Cert.Proof.Chunk Cert.Proof.Loop Cert.Proof.Whole Cert.Proof.Ends
open Idealize.SL
open Idealize.SL.BI (sProp Storable bigSep bigSep_insert)
open scoped Idealize.SL.BI
open Idealize.SL.BI.BIBase Idealize.SL.BI.Laws Idealize.SL.ProofMode
open Idealize.SL.RA

variable {F : FTy → Type} [FloatOps F]

variable {Ix : Type} [DecidableEq Ix] {Name : Type} [DecidableEq Name] {U : Type} [URA U] {Lvl : Type} [Preorder Lvl]

local notation "𝕄" => MT nD τ sig Ix (Elt F) Name U Lvl

variable (EC : UEmb Counters (MT nD τ sig Ix (Elt F) Name U Lvl))
variable {defs : Defs nD τ sig (Elt F) Λ₀} (𝒱 : Variants) (d : Dev nD) (bd : Option 𝒱.V) (i : grid0.Coords)
variable {fR : S1000x128.Idx → F .f32} {fE : S100000x128.Idx → F .f32} {X : ℕ → ℕ → BitVec 32}
variable {A : (k : Fin 7) → Buf (Elt F) ((argM k).view.loc (thr d (cV i) (jV i)))} {σ0 σ1 : Fin 7 → PosShare TreeShare}

/-- The last column's read, with the check's own answer for its side condition: the kernel's text has for it a proof
that mentions the earlier sums. -/
theorem last_col {cv : Fin τ.nSC} {jv : Fin τ.nSub} (w : IVec S16 32) (dec : Decidable (k0_chk528 w))
    (p : PLift (k0_chk528 w) → ∀ a x, ((![w] : Fin 1 → IVec S16 32) a x).toNat < S1088.size a) (k : Vec F S16 .f32 → TP F cv jv PUnit) :
    ((Prog.lift (TpuEff.assume (k0_chk528 w) dec) : TP F cv jv (PLift (k0_chk528 w))) >>= fun h => SparseCore.vectorLoadIdx sumsM ![w] (p h) (View.loads_vmem h_S1088) >>= k)
      = (col w dec >>= k) := rfl

/-- A tile's run leaves the results of its 512 lookups in its block of the result, and all it was handed as it was. -/
theorem tile_run [Infinite Name] [EC.LandsIn (upEmb : UEmb _ 𝕄)] {δ : ℕ} {γ : Fin 2 × Fin 7 × Fin 64 → ℕ} {ιn : Name} (ι : Ix) (O : CellTallies nD τ sig Ix) (W : Waits sig Ix)
    (hX : Bound X) (hA : Holds (hbase i) d A X) (V : Buf (Elt F) (resM.view.loc (thr d (cV i) (jV i))))
    (hV : ∀ (r : S16384.Idx) (x : ℕ), x < 512 → (r 0).val = base i + x → V r = outs fR fE X x) {T₀ : ℕ → ℕ → ℕ → F .f32} :
    Before EC d i fR fE X A σ0 σ1 δ γ ιn ι O W T₀
      ⊢ wp frame (wpE defs 𝒱 (thr d (cV i) (jV i)) bd) Set.univ
          (cc0_sc_kernel (F := F) i (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_arg8_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scoped0)
          (fun _ => After EC d i fR fE X A σ0 σ1 δ γ ι O W V) := by

  have hoff : ∀ r : Fin 7, k0_off2 i (BitVec.ofNat 32 (64 + 64 * r.val)) = ![base i + 64 * (1 + r.val)] := fun r => by
    rw [k0_off2_eq]
    exact congrArg (fun n : ℕ => (![n] : Fin 1 → ℕ)) (by show 1024 * (i 1).val + 512 * (i 0).val + 64 * r.val + 64 = 1024 * (i 1).val + 512 * (i 0).val + 64 * (1 + r.val); omega)
  have hc := fun o0 o1 o2 o3 o4 o5 o6 => copies_seg (defs := defs) EC (hbase i) 𝒱 d bd hA ι (c₀ := 0) (n := 7 * 1) (by decide) 0 (by decide) (k0_off1_eq i) (k0_off1_inb i) o0 o1 o2 o3 o4 o5 o6
  have hcd := fun o0 o1 o2 o3 o4 o5 o6 => copieds_seg (defs := defs) EC (hbase i) 𝒱 d bd (A := A) (X := X) ι O W (c₀ := 0) (n := 7 * 1) (by decide) 0 (by decide) (k0_off1_inb i) 0 o0 o1 o2 o3 o4 o5 o6
  have hcs := fun (r : Fin 7) o0 o1 o2 o3 o4 o5 o6 => copies_seg (defs := defs) EC (hbase i) 𝒱 d bd hA ι (c₀ := 1) (n := 7 * 7) (by decide) r.val (by have := r.isLt; omega) (hoff r) (k0_off2_inb i r) o0 o1 o2 o3 o4 o5 o6
  have hcds := fun (r : Fin 7) o0 o1 o2 o3 o4 o5 o6 => copieds_seg (defs := defs) EC (hbase i) 𝒱 d bd (A := A) (X := X) ι O W (c₀ := 1) (n := 7 * 7) (by decide) r.val (by have := r.isLt; omega) (k0_off2_inb i r) (1 + r.val) o0 o1 o2 o3 o4 o5 o6
  have hgs := fun (q : Fin 2) (c : Fin 8) (sem : DmaSem sig) (σ : Fin 7 → PosShare TreeShare) f gR gE s0 s1 s2 s3 s4 s5 s6 o0 o1 o2 o3 o4 o5 o6 =>
    gathers_seg (defs := defs) EC 𝒱 d (cv := cV i) (jv := jV i) bd (fR := fR) (fE := fE) (γ := γ) (σ := σ) (δ := δ) (ιn := ιn) ι q c sem hX f gR gE s0 s1 s2 s3 s4 s5 s6 o0 o1 o2 o3 o4 o5 o6
  have hgd := fun (q : Fin 2) (c : Fin 8) (sem : DmaSem sig) (σ : Fin 7 → PosShare TreeShare) gR gE s0 s1 s2 s3 s4 s5 s6 =>
    gathereds_seg (defs := defs) EC 𝒱 d (cv := cV i) (jv := jV i) bd (fR := fR) (fE := fE) (X := X) (γ := γ) (σ := σ) ι O W q c sem gR gE s0 s1 s2 s3 s4 s5 s6
  unfold Seg copies at hc hcs
  unfold Seg copieds at hcd hcds
  unfold Seg gathers gatherR gatherE at hgs
  unfold Seg gathereds gatheredR gatheredE at hgd
  have hgroup := fun (c : Fin 8) (g : ℕ) (hg : g < 4) (m : ℕ) (hm : m = 64 * c.val + 16 * g) (n0 n1 n2 n3 n4 n5 n6 n7 n8 n9 n10 n11 n12 n13 n14 n15 : BitVec 32) hn d0 d1 d2 d3 d4 d5 d6 d7 d8 d9 d10 d11 d12 d13 d14 d15 ho =>
    @group_run (F := F) (Ix := Ix) (Name := Name) (U := U) (Lvl := Lvl) (defs := defs) (𝒱 := 𝒱) (d := d) (cv := cV i) (jv := jV i) (bd := bd) (T := tabOf fR fE X c.val) (Z := outs fR fE X) (g := g) (hg := hg) (m := m)
      (hZ := fun x hx => outs_at fR fE X hg hm hx) (n0 := n0) (n1 := n1) (n2 := n2) (n3 := n3) (n4 := n4) (n5 := n5) (n6 := n6) (n7 := n7) (n8 := n8) (n9 := n9) (n10 := n10) (n11 := n11) (n12 := n12) (n13 := n13) (n14 := n14) (n15 := n15) (hn := hn)
      (d0 := d0) (d1 := d1) (d2 := d2) (d3 := d3) (d4 := d4) (d5 := d5) (d6 := d6) (d7 := d7) (d8 := d8) (d9 := d9) (d10 := d10) (d11 := d11) (d12 := d12) (d13 := d13) (d14 := d14) (d15 := d15) (ho := ho)
  unfold group col inTurn at hgroup
  have hsend := send_seg (defs := defs) EC 𝒱 d bd ι O W V hV (k0_off171_eq i) (k0_off171_inb i) (k0_off171_inb i)
  unfold Seg send sent at hsend
  simp only [Prog.bind_assoc] at hc hcd hcs hcds hgs hgd hgroup hsend
  have hpair := fun (q : Fin 2) (c : Fin 8) (n : ℕ) => @pair_run (F := F) (Ix := Ix) (Name := Name) (U := U) (Lvl := Lvl) (K := Fin 2 × Fin 7 × Fin 64) (T := tabOf fR fE X c.val) (cv := cV i) (jv := jV i) (δ := δ) (γ := γ) (ι := ιn)
    (g := rowsOf d (tabOf fR fE X c.val)) (defs := defs) (EC := EC) (𝒱 := 𝒱) (d := d) (bd := bd) (q := q.val) (hg := fun _ _ => rfl) (n := n)
  simp (config := {maxSteps := 10000000}) only [row, rowVals, mulFirst, mulRow, ld, gat, putRow, tree, Prog.bind_assoc, Prog.bind_ret, pure_bind, Matrix.cons_val] at hpair
  unfold Before After
  iintro ⟨#Hinv, #Hmw, Hδ, HO, Hg0, Hg1, ⟨%f0, HS0⟩, ⟨%f1, HS1⟩, HT0, HT1, Hv4, Hv5, Hv6, Hv0, Hsum, Hout, Hres⟩
  unfold cc0_sc_kernel k0_part224
  unfold k0_part113 k0_part114 k0_part115 k0_part116 k0_part117 k0_part118 k0_part119 k0_part120 k0_part121 k0_part122 k0_part123 k0_part124 k0_part125 k0_part126 k0_part127 k0_part128 k0_part129 k0_part130 k0_part131 k0_part132 k0_part133 k0_part134 k0_part135 k0_part136 k0_part137 k0_part138 k0_part139 k0_part140 k0_part141 k0_part142 k0_part143 k0_part144 k0_part145 k0_part146
  simp only [Prog.bind_assoc, Prog.bind_ret, pure_bind, last_col]
  imod (started_start EC (hbase i) d (X := X) ι (c₀ := 0) (n := 7 * 1) _) $$ [Hg0 Hv6] with HC
  · isplitl [Hg0] <;> iassumption
  iapply (hc _ _ _ _ _ _ _ _ _ _) $$ HC
  iintro HC
  ihave HC := (started_waited EC (hbase i) d (X := X) ι O W (c₀ := 0) (n := 7 * 1) _) $$ [HC HO]
  · isplitl [HC]
    · iexact HC
    isplitl [HO]
    · iexact HO
    · iexact Hmw
  iapply (hcd _ _ _ _ _ _ _ _ _ _) $$ HC
  iintro HC
  imod (waited_done EC (hbase i) d ι O W (c₀ := 0) (n := 7 * 1) _) $$ HC with ⟨HC, Hv6, HO⟩
  ihave HC := (Entails.of_eq (gone_chunks (hbase i) d A X (m := 1) (c₀ := 0) _)) $$ HC
  icases HC with ⟨HA0, HI0⟩
  ihave HI0 := (Entails.of_eq (bigSep_one fun r : Fin 1 => Whole.Idx d X (cV i) (jV i) (chunkOf (show 7 * 0 + 7 * 1 ≤ 56 by decide) r))) $$ HI0
  iapply (hgs 0 0 cc0_scratch4.sem σ0 f0 _ _ _ _ _ _ _ _ _ _ _ _ _ _ _ _ _ _ _) $$ [HS0 HI0 HT0 Hv4]
  · iapply (reading_intro EC d i (γ := γ) 0 0) $$ [HS0 HI0 HT0 Hv4]
    isplitr
    · iexact Hinv
    isplitl [HS0]
    · iexact HS0
    isplitl [HI0]
    · iexact HI0
    isplitl [HT0] <;> iassumption
  iintro HF0
  imod (started_start EC (hbase i) d (X := X) ι (c₀ := 1) (n := 7 * 7) _) $$ [Hg1 Hv6] with HC
  · isplitl [Hg1] <;> iassumption
  iapply (hcs 0 _ _ _ _ _ _ _ _ _ _) $$ HC
  iintro HC
  iapply (hcs 1 _ _ _ _ _ _ _ _ _ _) $$ HC
  iintro HC
  iapply (hcs 2 _ _ _ _ _ _ _ _ _ _) $$ HC
  iintro HC
  iapply (hcs 3 _ _ _ _ _ _ _ _ _ _) $$ HC
  iintro HC
  iapply (hcs 4 _ _ _ _ _ _ _ _ _ _) $$ HC
  iintro HC
  iapply (hcs 5 _ _ _ _ _ _ _ _ _ _) $$ HC
  iintro HC
  iapply (hcs 6 _ _ _ _ _ _ _ _ _ _) $$ HC
  iintro HC
  iapply (hgd 0 0 cc0_scratch4.sem σ0 _ _ _ _ _ _ _ _ _ _ _ _) $$ [HF0 HO]
  · isplitl [HF0]
    · iexact HF0
    isplitl [HO]
    · iexact HO
    · iexact Hmw
  unfold Reading
  iintro ⟨HS0, ⟨HI0, HT0⟩, Hv4, HO⟩
  ihave HC := (started_waited EC (hbase i) d (X := X) ι O W (c₀ := 1) (n := 7 * 7) _) $$ [HC HO]
  · isplitl [HC]
    · iexact HC
    isplitl [HO]
    · iexact HO
    · iexact Hmw
  iapply (hcds 0 _ _ _ _ _ _ _ _ _ _) $$ HC
  iintro HC
  iapply (hcds 1 _ _ _ _ _ _ _ _ _ _) $$ HC
  iintro HC
  iapply (hcds 2 _ _ _ _ _ _ _ _ _ _) $$ HC
  iintro HC
  iapply (hcds 3 _ _ _ _ _ _ _ _ _ _) $$ HC
  iintro HC
  iapply (hcds 4 _ _ _ _ _ _ _ _ _ _) $$ HC
  iintro HC
  iapply (hcds 5 _ _ _ _ _ _ _ _ _ _) $$ HC
  iintro HC
  iapply (hcds 6 _ _ _ _ _ _ _ _ _ _) $$ HC
  iintro HC
  imod (waited_done EC (hbase i) d ι O W (c₀ := 1) (n := 7 * 7) _) $$ HC with ⟨HC, Hv6, HO⟩
  ihave HC := (Entails.of_eq (gone_chunks (hbase i) d A X (m := 7) (c₀ := 1) _)) $$ HC
  icases HC with ⟨HA1, HI⟩
  ihave HI := (Entails.of_eq (bigSep_seven fun r : Fin 7 => Whole.Idx d X (cV i) (jV i) (chunkOf (show 7 * 1 + 7 * 7 ≤ 56 by decide) r))) $$ HI
  icases HI with ⟨HI1, HI2, HI3, HI4, HI5, HI6, HI7⟩
  iapply (hgs 1 1 cc0_scratch5.sem σ1 f1 _ _ _ _ _ _ _ _ _ _ _ _ _ _ _ _ _ _ _) $$ [HS1 HI1 HT1 Hv5]
  · iapply (reading_intro EC d i (γ := γ) 1 1) $$ [HS1 HI1 HT1 Hv5]
    isplitr
    · iexact Hinv
    isplitl [HS1]
    · iexact HS1
    isplitl [HI1]
    · iexact HI1
    isplitl [HT1] <;> iassumption
  iintro HF1
  ihave Hsum := (Sums.restart (T' := tabOf fR fE X (0 : Fin 8).val)) $$ Hsum
  ihave HH := (hold_intro EC d i (ιn := ιn) (γ := γ) (δ := δ) (X := X) (fR := fR) (fE := fE) 0 0) $$ [Hδ HS0 Hsum]
  · isplitr
    · iexact Hinv
    isplitl [Hδ]
    · iexact Hδ
    isplitl [HS0] <;> iassumption
  icases HH with ⟨HH, Htk⟩
  iapply (loop_run EC 𝒱 d bd (T := tabOf fR fE X (0 : Fin 8).val) (q := (0 : Fin 2).val) (g := rowsOf d (tabOf fR fE X (0 : Fin 8).val)) k0_t1_ok (by decide) _ ?_ _ _) $$ HH
  · intro t
    unfold k0_part1 k0_part2 k0_part3 k0_part4 k0_part5 k0_part6 k0_part7 k0_part8 k0_part9 k0_part10 k0_part11 k0_part12 k0_part13 k0_part14
    simp only [Prog.bind_assoc, Prog.bind_ret, pure_bind]
    apply hpair 0 0 t.val
    all_goals first | exact Fin.isLt _ | rfl | exact t.isLt | exact fun _ => rfl | exact fun x => wrap_toNat rfl (by decide) x
  iintro HH
  ihave HH := (hold_elim EC d i (ιn := ιn) (γ := γ) (δ := δ) (X := X) (fR := fR) (fE := fE) 0 0) $$ [HH Htk]
  · isplitl [HH] <;> iassumption
  icases HH with ⟨Hδ, HS0, Hsum⟩
  unfold k0_part147 k0_part148 k0_part149 k0_part150 k0_part151 k0_part152 k0_part153 k0_part154 k0_part155 k0_part156
  simp only [Prog.bind_assoc, Prog.bind_ret, pure_bind]
  ihave HG := (pair_intro (Sums (tabOf fR fE X (0 : Fin 8).val) d (cV i) (jV i) 64) (Outs (outs fR fE X) d (cV i) (jV i) 0)) $$ [Hsum Hout]
  · isplitl [Hsum] <;> iassumption
  iapply (hgroup 0 0 (by decide) 0 (by decide) 0#32 1#32 2#32 3#32 4#32 5#32 6#32 7#32 8#32 9#32 10#32 11#32 12#32 13#32 14#32 15#32 (by decide) _ _ _ _ _ _ _ _ _ _ _ _ _ _ _ _ _ _ _ _) $$ HG
  iintro HG
  iapply (hgroup 0 1 (by decide) 16 (by decide) 272#32 273#32 274#32 275#32 276#32 277#32 278#32 279#32 280#32 281#32 282#32 283#32 284#32 285#32 286#32 287#32 (by decide) _ _ _ _ _ _ _ _ _ _ _ _ _ _ _ _ _ _ _ _) $$ HG
  iintro HG
  iapply (hgroup 0 2 (by decide) 32 (by decide) 544#32 545#32 546#32 547#32 548#32 549#32 550#32 551#32 552#32 553#32 554#32 555#32 556#32 557#32 558#32 559#32 (by decide) _ _ _ _ _ _ _ _ _ _ _ _ _ _ _ _ _ _ _ _) $$ HG
  iintro HG
  iapply (hgroup 0 3 (by decide) 48 (by decide) 816#32 817#32 818#32 819#32 820#32 821#32 822#32 823#32 824#32 825#32 826#32 827#32 828#32 829#32 830#32 831#32 (by decide) _ _ _ _ _ _ _ _ _ _ _ _ _ _ _ _ _ _ _ _) $$ HG
  iintro HG
  icases HG with ⟨Hsum, Hout⟩
  iapply (hgd 1 1 cc0_scratch5.sem σ1 _ _ _ _ _ _ _ _ _ _ _ _) $$ [HF1 HO]
  · isplitl [HF1]
    · iexact HF1
    isplitl [HO]
    · iexact HO
    · iexact Hmw
  unfold Reading
  iintro ⟨HS1, ⟨HI1, HT1⟩, Hv5, HO⟩
  iapply (hgs 0 2 cc0_scratch4.sem σ0 _ _ _ _ _ _ _ _ _ _ _ _ _ _ _ _ _ _ _ _) $$ [HS0 HI2 HT0 Hv4]
  · iapply (reading_intro EC d i (γ := γ) 0 2) $$ [HS0 HI2 HT0 Hv4]
    isplitr
    · iexact Hinv
    isplitl [HS0]
    · iexact HS0
    isplitl [HI2]
    · iexact HI2
    isplitl [HT0] <;> iassumption
  iintro HF0
  ihave Hsum := (Sums.restart (T' := tabOf fR fE X (1 : Fin 8).val)) $$ Hsum
  ihave HH := (hold_intro EC d i (ιn := ιn) (γ := γ) (δ := δ) (X := X) (fR := fR) (fE := fE) 1 1) $$ [Hδ HS1 Hsum]
  · isplitr
    · iexact Hinv
    isplitl [Hδ]
    · iexact Hδ
    isplitl [HS1] <;> iassumption
  icases HH with ⟨HH, Htk⟩
  iapply (loop_run EC 𝒱 d bd (T := tabOf fR fE X (1 : Fin 8).val) (q := (1 : Fin 2).val) (g := rowsOf d (tabOf fR fE X (1 : Fin 8).val)) k0_t2_ok (by decide) _ ?_ _ _) $$ HH
  · intro t
    unfold k0_part15 k0_part16 k0_part17 k0_part18 k0_part19 k0_part20 k0_part21 k0_part22 k0_part23 k0_part24 k0_part25 k0_part26 k0_part27 k0_part28
    simp only [Prog.bind_assoc, Prog.bind_ret, pure_bind]
    apply hpair 1 1 t.val
    all_goals first | exact Fin.isLt _ | rfl | exact t.isLt | exact fun _ => rfl | exact fun x => wrap_toNat rfl (by decide) x
  iintro HH
  ihave HH := (hold_elim EC d i (ιn := ιn) (γ := γ) (δ := δ) (X := X) (fR := fR) (fE := fE) 1 1) $$ [HH Htk]
  · isplitl [HH] <;> iassumption
  icases HH with ⟨Hδ, HS1, Hsum⟩
  unfold k0_part157 k0_part158 k0_part159 k0_part160 k0_part161 k0_part162 k0_part163 k0_part164 k0_part165 k0_part166 k0_part167
  simp only [Prog.bind_assoc, Prog.bind_ret, pure_bind]
  ihave HG := (pair_intro (Sums (tabOf fR fE X (1 : Fin 8).val) d (cV i) (jV i) 64) (Outs (outs fR fE X) d (cV i) (jV i) 64)) $$ [Hsum Hout]
  · isplitl [Hsum] <;> iassumption
  iapply (hgroup 1 0 (by decide) 64 (by decide) 0#32 1#32 2#32 3#32 4#32 5#32 6#32 7#32 8#32 9#32 10#32 11#32 12#32 13#32 14#32 15#32 (by decide) _ _ _ _ _ _ _ _ _ _ _ _ _ _ _ _ _ _ _ _) $$ HG
  iintro HG
  iapply (hgroup 1 1 (by decide) 80 (by decide) 272#32 273#32 274#32 275#32 276#32 277#32 278#32 279#32 280#32 281#32 282#32 283#32 284#32 285#32 286#32 287#32 (by decide) _ _ _ _ _ _ _ _ _ _ _ _ _ _ _ _ _ _ _ _) $$ HG
  iintro HG
  iapply (hgroup 1 2 (by decide) 96 (by decide) 544#32 545#32 546#32 547#32 548#32 549#32 550#32 551#32 552#32 553#32 554#32 555#32 556#32 557#32 558#32 559#32 (by decide) _ _ _ _ _ _ _ _ _ _ _ _ _ _ _ _ _ _ _ _) $$ HG
  iintro HG
  iapply (hgroup 1 3 (by decide) 112 (by decide) 816#32 817#32 818#32 819#32 820#32 821#32 822#32 823#32 824#32 825#32 826#32 827#32 828#32 829#32 830#32 831#32 (by decide) _ _ _ _ _ _ _ _ _ _ _ _ _ _ _ _ _ _ _ _) $$ HG
  iintro HG
  icases HG with ⟨Hsum, Hout⟩
  iapply (hgd 0 2 cc0_scratch4.sem σ0 _ _ _ _ _ _ _ _ _ _ _ _) $$ [HF0 HO]
  · isplitl [HF0]
    · iexact HF0
    isplitl [HO]
    · iexact HO
    · iexact Hmw
  unfold Reading
  iintro ⟨HS0, ⟨HI2, HT0⟩, Hv4, HO⟩
  iapply (hgs 1 3 cc0_scratch5.sem σ1 _ _ _ _ _ _ _ _ _ _ _ _ _ _ _ _ _ _ _ _) $$ [HS1 HI3 HT1 Hv5]
  · iapply (reading_intro EC d i (γ := γ) 1 3) $$ [HS1 HI3 HT1 Hv5]
    isplitr
    · iexact Hinv
    isplitl [HS1]
    · iexact HS1
    isplitl [HI3]
    · iexact HI3
    isplitl [HT1] <;> iassumption
  iintro HF1
  ihave Hsum := (Sums.restart (T' := tabOf fR fE X (2 : Fin 8).val)) $$ Hsum
  ihave HH := (hold_intro EC d i (ιn := ιn) (γ := γ) (δ := δ) (X := X) (fR := fR) (fE := fE) 0 2) $$ [Hδ HS0 Hsum]
  · isplitr
    · iexact Hinv
    isplitl [Hδ]
    · iexact Hδ
    isplitl [HS0] <;> iassumption
  icases HH with ⟨HH, Htk⟩
  iapply (loop_run EC 𝒱 d bd (T := tabOf fR fE X (2 : Fin 8).val) (q := (0 : Fin 2).val) (g := rowsOf d (tabOf fR fE X (2 : Fin 8).val)) k0_t3_ok (by decide) _ ?_ _ _) $$ HH
  · intro t
    unfold k0_part29 k0_part30 k0_part31 k0_part32 k0_part33 k0_part34 k0_part35 k0_part36 k0_part37 k0_part38 k0_part39 k0_part40 k0_part41 k0_part42
    simp only [Prog.bind_assoc, Prog.bind_ret, pure_bind]
    apply hpair 0 2 t.val
    all_goals first | exact Fin.isLt _ | rfl | exact t.isLt | exact fun _ => rfl | exact fun x => wrap_toNat rfl (by decide) x
  iintro HH
  ihave HH := (hold_elim EC d i (ιn := ιn) (γ := γ) (δ := δ) (X := X) (fR := fR) (fE := fE) 0 2) $$ [HH Htk]
  · isplitl [HH] <;> iassumption
  icases HH with ⟨Hδ, HS0, Hsum⟩
  unfold k0_part168 k0_part169 k0_part170 k0_part171 k0_part172 k0_part225 k0_part173 k0_part174 k0_part175 k0_part176 k0_part177
  simp only [Prog.bind_assoc, Prog.bind_ret, pure_bind]
  ihave HG := (pair_intro (Sums (tabOf fR fE X (2 : Fin 8).val) d (cV i) (jV i) 64) (Outs (outs fR fE X) d (cV i) (jV i) 128)) $$ [Hsum Hout]
  · isplitl [Hsum] <;> iassumption
  iapply (hgroup 2 0 (by decide) 128 (by decide) 0#32 1#32 2#32 3#32 4#32 5#32 6#32 7#32 8#32 9#32 10#32 11#32 12#32 13#32 14#32 15#32 (by decide) _ _ _ _ _ _ _ _ _ _ _ _ _ _ _ _ _ _ _ _) $$ HG
  iintro HG
  iapply (hgroup 2 1 (by decide) 144 (by decide) 272#32 273#32 274#32 275#32 276#32 277#32 278#32 279#32 280#32 281#32 282#32 283#32 284#32 285#32 286#32 287#32 (by decide) _ _ _ _ _ _ _ _ _ _ _ _ _ _ _ _ _ _ _ _) $$ HG
  iintro HG
  iapply (hgroup 2 2 (by decide) 160 (by decide) 544#32 545#32 546#32 547#32 548#32 549#32 550#32 551#32 552#32 553#32 554#32 555#32 556#32 557#32 558#32 559#32 (by decide) _ _ _ _ _ _ _ _ _ _ _ _ _ _ _ _ _ _ _ _) $$ HG
  iintro HG
  iapply (hgroup 2 3 (by decide) 176 (by decide) 816#32 817#32 818#32 819#32 820#32 821#32 822#32 823#32 824#32 825#32 826#32 827#32 828#32 829#32 830#32 831#32 (by decide) _ _ _ _ _ _ _ _ _ _ _ _ _ _ _ _ _ _ _ _) $$ HG
  iintro HG
  icases HG with ⟨Hsum, Hout⟩
  iapply (hgd 1 3 cc0_scratch5.sem σ1 _ _ _ _ _ _ _ _ _ _ _ _) $$ [HF1 HO]
  · isplitl [HF1]
    · iexact HF1
    isplitl [HO]
    · iexact HO
    · iexact Hmw
  unfold Reading
  iintro ⟨HS1, ⟨HI3, HT1⟩, Hv5, HO⟩
  iapply (hgs 0 4 cc0_scratch4.sem σ0 _ _ _ _ _ _ _ _ _ _ _ _ _ _ _ _ _ _ _ _) $$ [HS0 HI4 HT0 Hv4]
  · iapply (reading_intro EC d i (γ := γ) 0 4) $$ [HS0 HI4 HT0 Hv4]
    isplitr
    · iexact Hinv
    isplitl [HS0]
    · iexact HS0
    isplitl [HI4]
    · iexact HI4
    isplitl [HT0] <;> iassumption
  iintro HF0
  ihave Hsum := (Sums.restart (T' := tabOf fR fE X (3 : Fin 8).val)) $$ Hsum
  ihave HH := (hold_intro EC d i (ιn := ιn) (γ := γ) (δ := δ) (X := X) (fR := fR) (fE := fE) 1 3) $$ [Hδ HS1 Hsum]
  · isplitr
    · iexact Hinv
    isplitl [Hδ]
    · iexact Hδ
    isplitl [HS1] <;> iassumption
  icases HH with ⟨HH, Htk⟩
  iapply (loop_run EC 𝒱 d bd (T := tabOf fR fE X (3 : Fin 8).val) (q := (1 : Fin 2).val) (g := rowsOf d (tabOf fR fE X (3 : Fin 8).val)) k0_t4_ok (by decide) _ ?_ _ _) $$ HH
  · intro t
    unfold k0_part43 k0_part44 k0_part45 k0_part46 k0_part47 k0_part48 k0_part49 k0_part50 k0_part51 k0_part52 k0_part53 k0_part54 k0_part55 k0_part56
    simp only [Prog.bind_assoc, Prog.bind_ret, pure_bind]
    apply hpair 1 3 t.val
    all_goals first | exact Fin.isLt _ | rfl | exact t.isLt | exact fun _ => rfl | exact fun x => wrap_toNat rfl (by decide) x
  iintro HH
  ihave HH := (hold_elim EC d i (ιn := ιn) (γ := γ) (δ := δ) (X := X) (fR := fR) (fE := fE) 1 3) $$ [HH Htk]
  · isplitl [HH] <;> iassumption
  icases HH with ⟨Hδ, HS1, Hsum⟩
  unfold k0_part178 k0_part179 k0_part180 k0_part181 k0_part182 k0_part183 k0_part184 k0_part185 k0_part186 k0_part187 k0_part188
  simp only [Prog.bind_assoc, Prog.bind_ret, pure_bind]
  ihave HG := (pair_intro (Sums (tabOf fR fE X (3 : Fin 8).val) d (cV i) (jV i) 64) (Outs (outs fR fE X) d (cV i) (jV i) 192)) $$ [Hsum Hout]
  · isplitl [Hsum] <;> iassumption
  iapply (hgroup 3 0 (by decide) 192 (by decide) 0#32 1#32 2#32 3#32 4#32 5#32 6#32 7#32 8#32 9#32 10#32 11#32 12#32 13#32 14#32 15#32 (by decide) _ _ _ _ _ _ _ _ _ _ _ _ _ _ _ _ _ _ _ _) $$ HG
  iintro HG
  iapply (hgroup 3 1 (by decide) 208 (by decide) 272#32 273#32 274#32 275#32 276#32 277#32 278#32 279#32 280#32 281#32 282#32 283#32 284#32 285#32 286#32 287#32 (by decide) _ _ _ _ _ _ _ _ _ _ _ _ _ _ _ _ _ _ _ _) $$ HG
  iintro HG
  iapply (hgroup 3 2 (by decide) 224 (by decide) 544#32 545#32 546#32 547#32 548#32 549#32 550#32 551#32 552#32 553#32 554#32 555#32 556#32 557#32 558#32 559#32 (by decide) _ _ _ _ _ _ _ _ _ _ _ _ _ _ _ _ _ _ _ _) $$ HG
  iintro HG
  iapply (hgroup 3 3 (by decide) 240 (by decide) 816#32 817#32 818#32 819#32 820#32 821#32 822#32 823#32 824#32 825#32 826#32 827#32 828#32 829#32 830#32 831#32 (by decide) _ _ _ _ _ _ _ _ _ _ _ _ _ _ _ _ _ _ _ _) $$ HG
  iintro HG
  icases HG with ⟨Hsum, Hout⟩
  iapply (hgd 0 4 cc0_scratch4.sem σ0 _ _ _ _ _ _ _ _ _ _ _ _) $$ [HF0 HO]
  · isplitl [HF0]
    · iexact HF0
    isplitl [HO]
    · iexact HO
    · iexact Hmw
  unfold Reading
  iintro ⟨HS0, ⟨HI4, HT0⟩, Hv4, HO⟩
  iapply (hgs 1 5 cc0_scratch5.sem σ1 _ _ _ _ _ _ _ _ _ _ _ _ _ _ _ _ _ _ _ _) $$ [HS1 HI5 HT1 Hv5]
  · iapply (reading_intro EC d i (γ := γ) 1 5) $$ [HS1 HI5 HT1 Hv5]
    isplitr
    · iexact Hinv
    isplitl [HS1]
    · iexact HS1
    isplitl [HI5]
    · iexact HI5
    isplitl [HT1] <;> iassumption
  iintro HF1
  ihave Hsum := (Sums.restart (T' := tabOf fR fE X (4 : Fin 8).val)) $$ Hsum
  ihave HH := (hold_intro EC d i (ιn := ιn) (γ := γ) (δ := δ) (X := X) (fR := fR) (fE := fE) 0 4) $$ [Hδ HS0 Hsum]
  · isplitr
    · iexact Hinv
    isplitl [Hδ]
    · iexact Hδ
    isplitl [HS0] <;> iassumption
  icases HH with ⟨HH, Htk⟩
  iapply (loop_run EC 𝒱 d bd (T := tabOf fR fE X (4 : Fin 8).val) (q := (0 : Fin 2).val) (g := rowsOf d (tabOf fR fE X (4 : Fin 8).val)) k0_t5_ok (by decide) _ ?_ _ _) $$ HH
  · intro t
    unfold k0_part57 k0_part58 k0_part59 k0_part60 k0_part61 k0_part62 k0_part63 k0_part64 k0_part65 k0_part66 k0_part67 k0_part68 k0_part69 k0_part70
    simp only [Prog.bind_assoc, Prog.bind_ret, pure_bind]
    apply hpair 0 4 t.val
    all_goals first | exact Fin.isLt _ | rfl | exact t.isLt | exact fun _ => rfl | exact fun x => wrap_toNat rfl (by decide) x
  iintro HH
  ihave HH := (hold_elim EC d i (ιn := ιn) (γ := γ) (δ := δ) (X := X) (fR := fR) (fE := fE) 0 4) $$ [HH Htk]
  · isplitl [HH] <;> iassumption
  icases HH with ⟨Hδ, HS0, Hsum⟩
  unfold k0_part189 k0_part190 k0_part191 k0_part192 k0_part193 k0_part194 k0_part195 k0_part196 k0_part197 k0_part198
  simp only [Prog.bind_assoc, Prog.bind_ret, pure_bind]
  ihave HG := (pair_intro (Sums (tabOf fR fE X (4 : Fin 8).val) d (cV i) (jV i) 64) (Outs (outs fR fE X) d (cV i) (jV i) 256)) $$ [Hsum Hout]
  · isplitl [Hsum] <;> iassumption
  iapply (hgroup 4 0 (by decide) 256 (by decide) 0#32 1#32 2#32 3#32 4#32 5#32 6#32 7#32 8#32 9#32 10#32 11#32 12#32 13#32 14#32 15#32 (by decide) _ _ _ _ _ _ _ _ _ _ _ _ _ _ _ _ _ _ _ _) $$ HG
  iintro HG
  iapply (hgroup 4 1 (by decide) 272 (by decide) 272#32 273#32 274#32 275#32 276#32 277#32 278#32 279#32 280#32 281#32 282#32 283#32 284#32 285#32 286#32 287#32 (by decide) _ _ _ _ _ _ _ _ _ _ _ _ _ _ _ _ _ _ _ _) $$ HG
  iintro HG
  iapply (hgroup 4 2 (by decide) 288 (by decide) 544#32 545#32 546#32 547#32 548#32 549#32 550#32 551#32 552#32 553#32 554#32 555#32 556#32 557#32 558#32 559#32 (by decide) _ _ _ _ _ _ _ _ _ _ _ _ _ _ _ _ _ _ _ _) $$ HG
  iintro HG
  iapply (hgroup 4 3 (by decide) 304 (by decide) 816#32 817#32 818#32 819#32 820#32 821#32 822#32 823#32 824#32 825#32 826#32 827#32 828#32 829#32 830#32 831#32 (by decide) _ _ _ _ _ _ _ _ _ _ _ _ _ _ _ _ _ _ _ _) $$ HG
  iintro HG
  icases HG with ⟨Hsum, Hout⟩
  iapply (hgd 1 5 cc0_scratch5.sem σ1 _ _ _ _ _ _ _ _ _ _ _ _) $$ [HF1 HO]
  · isplitl [HF1]
    · iexact HF1
    isplitl [HO]
    · iexact HO
    · iexact Hmw
  unfold Reading
  iintro ⟨HS1, ⟨HI5, HT1⟩, Hv5, HO⟩
  iapply (hgs 0 6 cc0_scratch4.sem σ0 _ _ _ _ _ _ _ _ _ _ _ _ _ _ _ _ _ _ _ _) $$ [HS0 HI6 HT0 Hv4]
  · iapply (reading_intro EC d i (γ := γ) 0 6) $$ [HS0 HI6 HT0 Hv4]
    isplitr
    · iexact Hinv
    isplitl [HS0]
    · iexact HS0
    isplitl [HI6]
    · iexact HI6
    isplitl [HT0] <;> iassumption
  iintro HF0
  ihave Hsum := (Sums.restart (T' := tabOf fR fE X (5 : Fin 8).val)) $$ Hsum
  ihave HH := (hold_intro EC d i (ιn := ιn) (γ := γ) (δ := δ) (X := X) (fR := fR) (fE := fE) 1 5) $$ [Hδ HS1 Hsum]
  · isplitr
    · iexact Hinv
    isplitl [Hδ]
    · iexact Hδ
    isplitl [HS1] <;> iassumption
  icases HH with ⟨HH, Htk⟩
  iapply (loop_run EC 𝒱 d bd (T := tabOf fR fE X (5 : Fin 8).val) (q := (1 : Fin 2).val) (g := rowsOf d (tabOf fR fE X (5 : Fin 8).val)) k0_t6_ok (by decide) _ ?_ _ _) $$ HH
  · intro t
    unfold k0_part71 k0_part72 k0_part73 k0_part74 k0_part75 k0_part76 k0_part77 k0_part78 k0_part79 k0_part80 k0_part81 k0_part82 k0_part83 k0_part84
    simp only [Prog.bind_assoc, Prog.bind_ret, pure_bind]
    apply hpair 1 5 t.val
    all_goals first | exact Fin.isLt _ | rfl | exact t.isLt | exact fun _ => rfl | exact fun x => wrap_toNat rfl (by decide) x
  iintro HH
  ihave HH := (hold_elim EC d i (ιn := ιn) (γ := γ) (δ := δ) (X := X) (fR := fR) (fE := fE) 1 5) $$ [HH Htk]
  · isplitl [HH] <;> iassumption
  icases HH with ⟨Hδ, HS1, Hsum⟩
  unfold k0_part199 k0_part200 k0_part201 k0_part202 k0_part203 k0_part204 k0_part205 k0_part206 k0_part207 k0_part208 k0_part209
  simp only [Prog.bind_assoc, Prog.bind_ret, pure_bind]
  ihave HG := (pair_intro (Sums (tabOf fR fE X (5 : Fin 8).val) d (cV i) (jV i) 64) (Outs (outs fR fE X) d (cV i) (jV i) 320)) $$ [Hsum Hout]
  · isplitl [Hsum] <;> iassumption
  iapply (hgroup 5 0 (by decide) 320 (by decide) 0#32 1#32 2#32 3#32 4#32 5#32 6#32 7#32 8#32 9#32 10#32 11#32 12#32 13#32 14#32 15#32 (by decide) _ _ _ _ _ _ _ _ _ _ _ _ _ _ _ _ _ _ _ _) $$ HG
  iintro HG
  iapply (hgroup 5 1 (by decide) 336 (by decide) 272#32 273#32 274#32 275#32 276#32 277#32 278#32 279#32 280#32 281#32 282#32 283#32 284#32 285#32 286#32 287#32 (by decide) _ _ _ _ _ _ _ _ _ _ _ _ _ _ _ _ _ _ _ _) $$ HG
  iintro HG
  iapply (hgroup 5 2 (by decide) 352 (by decide) 544#32 545#32 546#32 547#32 548#32 549#32 550#32 551#32 552#32 553#32 554#32 555#32 556#32 557#32 558#32 559#32 (by decide) _ _ _ _ _ _ _ _ _ _ _ _ _ _ _ _ _ _ _ _) $$ HG
  iintro HG
  iapply (hgroup 5 3 (by decide) 368 (by decide) 816#32 817#32 818#32 819#32 820#32 821#32 822#32 823#32 824#32 825#32 826#32 827#32 828#32 829#32 830#32 831#32 (by decide) _ _ _ _ _ _ _ _ _ _ _ _ _ _ _ _ _ _ _ _) $$ HG
  iintro HG
  icases HG with ⟨Hsum, Hout⟩
  iapply (hgd 0 6 cc0_scratch4.sem σ0 _ _ _ _ _ _ _ _ _ _ _ _) $$ [HF0 HO]
  · isplitl [HF0]
    · iexact HF0
    isplitl [HO]
    · iexact HO
    · iexact Hmw
  unfold Reading
  iintro ⟨HS0, ⟨HI6, HT0⟩, Hv4, HO⟩
  iapply (hgs 1 7 cc0_scratch5.sem σ1 _ _ _ _ _ _ _ _ _ _ _ _ _ _ _ _ _ _ _ _) $$ [HS1 HI7 HT1 Hv5]
  · iapply (reading_intro EC d i (γ := γ) 1 7) $$ [HS1 HI7 HT1 Hv5]
    isplitr
    · iexact Hinv
    isplitl [HS1]
    · iexact HS1
    isplitl [HI7]
    · iexact HI7
    isplitl [HT1] <;> iassumption
  iintro HF1
  ihave Hsum := (Sums.restart (T' := tabOf fR fE X (6 : Fin 8).val)) $$ Hsum
  ihave HH := (hold_intro EC d i (ιn := ιn) (γ := γ) (δ := δ) (X := X) (fR := fR) (fE := fE) 0 6) $$ [Hδ HS0 Hsum]
  · isplitr
    · iexact Hinv
    isplitl [Hδ]
    · iexact Hδ
    isplitl [HS0] <;> iassumption
  icases HH with ⟨HH, Htk⟩
  iapply (loop_run EC 𝒱 d bd (T := tabOf fR fE X (6 : Fin 8).val) (q := (0 : Fin 2).val) (g := rowsOf d (tabOf fR fE X (6 : Fin 8).val)) k0_t7_ok (by decide) _ ?_ _ _) $$ HH
  · intro t
    unfold k0_part85 k0_part86 k0_part87 k0_part88 k0_part89 k0_part90 k0_part91 k0_part92 k0_part93 k0_part94 k0_part95 k0_part96 k0_part97 k0_part98
    simp only [Prog.bind_assoc, Prog.bind_ret, pure_bind]
    apply hpair 0 6 t.val
    all_goals first | exact Fin.isLt _ | rfl | exact t.isLt | exact fun _ => rfl | exact fun x => wrap_toNat rfl (by decide) x
  iintro HH
  ihave HH := (hold_elim EC d i (ιn := ιn) (γ := γ) (δ := δ) (X := X) (fR := fR) (fE := fE) 0 6) $$ [HH Htk]
  · isplitl [HH] <;> iassumption
  icases HH with ⟨Hδ, HS0, Hsum⟩
  unfold k0_part210 k0_part211 k0_part212 k0_part213 k0_part214 k0_part215 k0_part216 k0_part217
  simp only [Prog.bind_assoc, Prog.bind_ret, pure_bind]
  ihave HG := (pair_intro (Sums (tabOf fR fE X (6 : Fin 8).val) d (cV i) (jV i) 64) (Outs (outs fR fE X) d (cV i) (jV i) 384)) $$ [Hsum Hout]
  · isplitl [Hsum] <;> iassumption
  iapply (hgroup 6 0 (by decide) 384 (by decide) 0#32 1#32 2#32 3#32 4#32 5#32 6#32 7#32 8#32 9#32 10#32 11#32 12#32 13#32 14#32 15#32 (by decide) _ _ _ _ _ _ _ _ _ _ _ _ _ _ _ _ _ _ _ _) $$ HG
  iintro HG
  iapply (hgroup 6 1 (by decide) 400 (by decide) 272#32 273#32 274#32 275#32 276#32 277#32 278#32 279#32 280#32 281#32 282#32 283#32 284#32 285#32 286#32 287#32 (by decide) _ _ _ _ _ _ _ _ _ _ _ _ _ _ _ _ _ _ _ _) $$ HG
  iintro HG
  iapply (hgroup 6 2 (by decide) 416 (by decide) 544#32 545#32 546#32 547#32 548#32 549#32 550#32 551#32 552#32 553#32 554#32 555#32 556#32 557#32 558#32 559#32 (by decide) _ _ _ _ _ _ _ _ _ _ _ _ _ _ _ _ _ _ _ _) $$ HG
  iintro HG
  iapply (hgroup 6 3 (by decide) 432 (by decide) 816#32 817#32 818#32 819#32 820#32 821#32 822#32 823#32 824#32 825#32 826#32 827#32 828#32 829#32 830#32 831#32 (by decide) _ _ _ _ _ _ _ _ _ _ _ _ _ _ _ _ _ _ _ _) $$ HG
  iintro HG
  icases HG with ⟨Hsum, Hout⟩
  iapply (hgd 1 7 cc0_scratch5.sem σ1 _ _ _ _ _ _ _ _ _ _ _ _) $$ [HF1 HO]
  · isplitl [HF1]
    · iexact HF1
    isplitl [HO]
    · iexact HO
    · iexact Hmw
  unfold Reading
  iintro ⟨HS1, ⟨HI7, HT1⟩, Hv5, HO⟩
  ihave Hsum := (Sums.restart (T' := tabOf fR fE X (7 : Fin 8).val)) $$ Hsum
  ihave HH := (hold_intro EC d i (ιn := ιn) (γ := γ) (δ := δ) (X := X) (fR := fR) (fE := fE) 1 7) $$ [Hδ HS1 Hsum]
  · isplitr
    · iexact Hinv
    isplitl [Hδ]
    · iexact Hδ
    isplitl [HS1] <;> iassumption
  icases HH with ⟨HH, Htk⟩
  iapply (loop_run EC 𝒱 d bd (T := tabOf fR fE X (7 : Fin 8).val) (q := (1 : Fin 2).val) (g := rowsOf d (tabOf fR fE X (7 : Fin 8).val)) k0_t8_ok (by decide) _ ?_ _ _) $$ HH
  · intro t
    unfold k0_part99 k0_part100 k0_part101 k0_part102 k0_part103 k0_part104 k0_part105 k0_part106 k0_part107 k0_part108 k0_part109 k0_part110 k0_part111 k0_part112
    simp only [Prog.bind_assoc, Prog.bind_ret, pure_bind]
    apply hpair 1 7 t.val
    all_goals first | exact Fin.isLt _ | rfl | exact t.isLt | exact fun _ => rfl | exact fun x => wrap_toNat rfl (by decide) x
  iintro HH
  ihave HH := (hold_elim EC d i (ιn := ιn) (γ := γ) (δ := δ) (X := X) (fR := fR) (fE := fE) 1 7) $$ [HH Htk]
  · isplitl [HH] <;> iassumption
  icases HH with ⟨Hδ, HS1, Hsum⟩
  unfold k0_part218 k0_part219 k0_part220 k0_part221 k0_part222 k0_part223
  unfold col
  simp only [Prog.bind_assoc, Prog.bind_ret, pure_bind]
  ihave HG := (pair_intro (Sums (tabOf fR fE X (7 : Fin 8).val) d (cV i) (jV i) 64) (Outs (outs fR fE X) d (cV i) (jV i) 448)) $$ [Hsum Hout]
  · isplitl [Hsum] <;> iassumption
  iapply (hgroup 7 0 (by decide) 448 (by decide) 0#32 1#32 2#32 3#32 4#32 5#32 6#32 7#32 8#32 9#32 10#32 11#32 12#32 13#32 14#32 15#32 (by decide) _ _ _ _ _ _ _ _ _ _ _ _ _ _ _ _ _ _ _ _) $$ HG
  iintro HG
  iapply (hgroup 7 1 (by decide) 464 (by decide) 272#32 273#32 274#32 275#32 276#32 277#32 278#32 279#32 280#32 281#32 282#32 283#32 284#32 285#32 286#32 287#32 (by decide) _ _ _ _ _ _ _ _ _ _ _ _ _ _ _ _ _ _ _ _) $$ HG
  iintro HG
  iapply (hgroup 7 2 (by decide) 480 (by decide) 544#32 545#32 546#32 547#32 548#32 549#32 550#32 551#32 552#32 553#32 554#32 555#32 556#32 557#32 558#32 559#32 (by decide) _ _ _ _ _ _ _ _ _ _ _ _ _ _ _ _ _ _ _ _) $$ HG
  iintro HG
  iapply (hgroup 7 3 (by decide) 496 (by decide) 816#32 817#32 818#32 819#32 820#32 821#32 822#32 823#32 824#32 825#32 826#32 827#32 828#32 829#32 830#32 831#32 (by decide) _ _ _ _ _ _ _ _ _ _ _ _ _ _ _ _ _ _ _ _) $$ HG
  iintro HG
  icases HG with ⟨Hsum, Hout⟩
  iapply (hsend _ _ _) $$ [Hout Hres Hv0 HO]
  · isplitl [Hout]
    · iexact Hout
    isplitl [Hres]
    · iexact Hres
    isplitl [Hv0]
    · iexact Hv0
    isplitl [HO]
    · iexact HO
    · iexact Hmw
  iintro ⟨Hout, Hres, Hv0, HO⟩
  iapply (le_wp_ret frame (wpE defs 𝒱 (thr d (cV i) (jV i)) bd) Set.univ)
  rw [bigSep_one fun r : Fin 1 => Whole.Idx d X (cV i) (jV i) (chunkOf (show 7 * 0 + 7 * 1 ≤ 56 by decide) r), bigSep_seven fun r : Fin 7 => Whole.Idx d X (cV i) (jV i) (chunkOf (show 7 * 1 + 7 * 7 ≤ 56 by decide) r)]
  ihave HI0 := (idx_back d i (X := X) 0 (chunkOf (show 7 * 0 + 7 * 1 ≤ 56 by decide) 0) rfl) $$ HI0
  ihave HI1 := (idx_back d i (X := X) 1 (chunkOf (show 7 * 1 + 7 * 7 ≤ 56 by decide) 0) rfl) $$ HI1
  ihave HI2 := (idx_back d i (X := X) 2 (chunkOf (show 7 * 1 + 7 * 7 ≤ 56 by decide) 1) rfl) $$ HI2
  ihave HI3 := (idx_back d i (X := X) 3 (chunkOf (show 7 * 1 + 7 * 7 ≤ 56 by decide) 2) rfl) $$ HI3
  ihave HI4 := (idx_back d i (X := X) 4 (chunkOf (show 7 * 1 + 7 * 7 ≤ 56 by decide) 3) rfl) $$ HI4
  ihave HI5 := (idx_back d i (X := X) 5 (chunkOf (show 7 * 1 + 7 * 7 ≤ 56 by decide) 4) rfl) $$ HI5
  ihave HI6 := (idx_back d i (X := X) 6 (chunkOf (show 7 * 1 + 7 * 7 ≤ 56 by decide) 5) rfl) $$ HI6
  ihave HI7 := (idx_back d i (X := X) 7 (chunkOf (show 7 * 1 + 7 * 7 ≤ 56 by decide) 6) rfl) $$ HI7
  isplitl [Hδ]
  · iexact Hδ
  isplitl [HO]
  · iexact HO
  isplitl [HA0]
  · iexact HA0
  isplitl [HA1]
  · iexact HA1
  isplitl [HI0]
  · iexact HI0
  isplitl [HI1 HI2 HI3 HI4 HI5 HI6 HI7]
  · isplitl [HI1]
    · iexact HI1
    isplitl [HI2]
    · iexact HI2
    isplitl [HI3]
    · iexact HI3
    isplitl [HI4]
    · iexact HI4
    isplitl [HI5]
    · iexact HI5
    isplitl [HI6] <;> iassumption
  isplitl [HS0]
  · iexists _; iexact HS0
  isplitl [HS1]
  · iexists _; iexact HS1
  isplitl [HT0]
  · iexact HT0
  isplitl [HT1]
  · iexact HT1
  isplitl [Hv4]
  · iexact Hv4
  isplitl [Hv5]
  · iexact Hv5
  isplitl [Hv6]
  · iexact Hv6
  isplitl [Hv0]
  · iexact Hv0
  isplitl [Hsum]
  · iexists _; iexact Hsum
  isplitl [Hout] <;> iassumption

end Cert.Proof.Tile
-- ==== Proof.Launch.lean ====
/-
  The launch of the kernel on the SparseCores' tiles, and what the whole program leaves.

  Every tile runs the kernel once on its own part of the operands. The program ends with every semaphore back at zero,
  the operands as they were and the result in place, from any launch memory whose indices are in range.
-/
module

public import proofs.«01_k».proof.Defs
public import proofs.«01_k».proof.Proof.Operands
public import proofs.«01_k».proof.Proof.Tile
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.Pre_in_range

@[expose] public section

set_option maxHeartbeats 1000000

noncomputable section

namespace Cert.Proof.Launch

open Cert.KernelIdeal Cert.KernelIdeal.Gen
open Idealize.ShloMosaic
open Idealize.ShloMosaic.SparseCore (V T)
open Idealize.ShloMosaic.SparseCore.Cfg (HIx Pay ownBufs ownSems0 ownCells ownRefs mem_ownCells mem_ownRefs)
open Idealize.SL Idealize.SL.RA
open Idealize.SL.BI (sProp Storable bigSep bigSep_insert)
open scoped Idealize.SL.BI
open Idealize.SL.BI.BIBase Idealize.SL.BI.Laws Idealize.SL.ProofMode Idealize.SL.Sem
open Idealize.ShloMosaic.Rounds Idealize.ShloMosaic.Transfers
open Cert.Proof.Geo Cert.Proof.Rows Cert.Proof.Segs Cert.Proof.Stage Cert.Proof.Fetch Cert.Proof.Loop Cert.Proof.Whole Cert.Proof.Ends Cert.Proof.Shares
open Cert.Proof.Operands

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' semaphores are distinct and outlast the calls. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds and the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

variable [FloatOps F]

/-! ## What a tile's indices are, and its results -/

/-- An index array, by the result's place. -/
def ixAt (d : Dev nD) (k : ℕ) (r : Fin 16384) : BitVec 32 :=
  if h : k < 7 then (argM ⟨k, h⟩).view.read (Elt F) (m ((argM ⟨k, h⟩).view.loc (thr0 d))) (ix1 r) else 0#32

/-- What the proof asks of the launch memory: every index is in its table's range. -/
def PreOK : Prop := ∀ (d : Dev nD) (k : ℕ) (r : Fin 16384), (ixAt m d k r).toNat < if k = 0 then 1000 else 100000

/-- The indices of the tile whose block starts at `b`. -/
def tileIx (d : Dev nD) (b : ℕ) (k n : ℕ) : BitVec 32 := ixAt m d k ⟨(b + n) % 16384, Nat.mod_lt _ (by decide)⟩

omit [FloatOps F] in
/-- A tile's indices are in range. -/
theorem tile_bound (h : PreOK m) (d : Dev nD) (b : ℕ) : Bound (tileIx m d b) := fun k n _ => (h d k.val ⟨(b + n) % 16384, Nat.mod_lt _ (by decide)⟩).trans_eq (by
  have e : (k = 0) = (k.val = 0) := propext Fin.ext_iff
  simp only [e])

omit [FloatOps F] in
/-- A tile reads the index arrays as the launch memory has them. -/
theorem read_args (d : Dev nD) (i : grid0.Coords) (k : Fin 7) (r : S16384.Idx) :
    (argM k).view.read (Elt F) (argsOf m d i k) r = (argM k).view.read (Elt F) (m ((argM k).view.loc (thr0 d))) r :=
  match k with
  | 0 => rfl
  | 1 => rfl
  | 2 => rfl
  | 3 => rfl
  | 4 => rfl
  | 5 => rfl
  | 6 => rfl

omit [FloatOps F] in
/-- The tile's block of an index array holds the tile's indices. -/
theorem tile_holds (d : Dev nD) (i : grid0.Coords) : Holds (hbase i) d (argsOf m d i) (tileIx m d (base i)) := fun k c x => by
  have hb := hbase i
  have hc : c.val < 8 := c.isLt
  have hx : (x 0).val < 64 := (x 0).isLt
  unfold tileIx ixAt
  rw [dif_pos k.isLt]
  refine Eq.trans ?_ (read_args m d i k _)
  refine congrArg ((argM k).view.read (Elt F) (argsOf m d i k)) ?_
  funext a
  obtain rfl : a = 0 := Subsingleton.elim _ _
  apply Fin.ext
  show base i + 64 * c.val + 1 * (x 0).val = (base i + (64 * c.val + (x 0).val)) % 16384
  rw [Nat.mod_eq_of_lt (by omega)]
  omega

/-- The rows a result is made of: the relation's, and the entities'. -/
def rowOf (d : Dev nD) (r : Fin 16384) (k l : ℕ) : F .f32 :=
  if k = 0 then relOf m d (ix2 ⟨(ixAt m d 0 r).toNat % 1000, Nat.mod_lt _ (by decide)⟩ ⟨l % 128, Nat.mod_lt _ (by decide)⟩)
  else entOf m d (ix2 ⟨(ixAt m d k r).toNat % 100000, Nat.mod_lt _ (by decide)⟩ ⟨l % 128, Nat.mod_lt _ (by decide)⟩)

/-- The program's result. -/
def res (d : Dev nD) : Buf (Elt F) (resM.view.loc (thr0 d)) := fun r : S16384.Idx => total (fun k _ l => rowOf m d (r 0) k l) 0

/-- A row's sum, the row's number put aside. -/
theorem total_at (T : ℕ → ℕ → ℕ → F .f32) (j : ℕ) : total T j = total (fun k _ l => T k j l) 0 := rfl

/-- A tile's results are its block of the program's result. -/
theorem res_at (d : Dev nD) (i : grid0.Coords) (r : S16384.Idx) (x : ℕ) (hx : x < 512) (hr : (r 0).val = base i + x) :
    res m d r = outs (relOf m d) (entOf m d) (tileIx m d (base i)) x := by
  unfold outs res
  rw [total_at (tabOf _ _ _ _)]
  refine congrArg (fun T => total T 0) ?_
  funext k _ l
  have e : ∀ k, tileIx m d (base i) k (64 * (x / 64) + x % 64) = ixAt m d k (r 0) := fun k => by
    have h : (r 0).val < 16384 := (r 0).isLt
    unfold tileIx
    refine congrArg (ixAt m d k) (Fin.ext ?_)
    show (base i + (64 * (x / 64) + x % 64)) % 16384 = (r 0).val
    rw [Nat.div_add_mod, ← hr, Nat.mod_eq_of_lt h]
  unfold rowOf tabOf
  simp only [e]

/-! ## What the handshakes carry -/

/-- A tile's part of the operands at the run's start. -/
abbrev goP (d : Dev nD) (c : Fin 2) (s : Fin 16) : sProp 𝕄 := Operands.Part m d c s (Place d (tileAt c s))
/-- And at its end. -/
abbrev tdP (d : Dev nD) (c : Fin 2) (s : Fin 16) : sProp 𝕄 := Operands.Part m d c s (Placed d (tileAt c s) (res m d))

instance goP_storable (d : Dev nD) (c : Fin 2) (s : Fin 16) : Storable (upEmb : UEmb _ 𝕄) (goP m d c s) := by
  unfold goP Operands.Part Shares.Operands Args
  infer_instance
instance tdP_storable (d : Dev nD) (c : Fin 2) (s : Fin 16) : Storable (upEmb : UEmb _ 𝕄) (tdP m d c s) := by
  unfold tdP Operands.Part Shares.Operands Args
  infer_instance

/-- Two SparseCores. -/
theorem nCore_zero : (K (F := F)).nCore 0 = 2 := rfl
/-- Sixteen tiles on each. -/
theorem nSub_zero : (K (F := F)).nSub 0 = 16 := rfl

/-- Each SparseCore is handed its sixteen tiles' parts, and each tile its own. -/
def P : (K (F := F)).Pay (nD := nD) (Val := Elt F) (Name := ℕ) (U := UU) where
  st := fun q d c => match q with | 0 => bigSep Finset.univ fun s : Fin 16 => goP m d (Fin.cast nCore_zero c) s
  dn := fun q d c => match q with | 0 => bigSep Finset.univ fun s : Fin 16 => tdP m d (Fin.cast nCore_zero c) s
  go := fun q d c i => match q with | 0 => goP m d (Fin.cast nCore_zero c) (Fin.cast nSub_zero i)
  td := fun q d c i => match q with | 0 => tdP m d (Fin.cast nCore_zero c) (Fin.cast nSub_zero i)
  x := fun _ _ => iprop(emp)

instance P_storable : (P (F := F) m).IsStorable where
  st q d c := match q with
    | 0 => by
      haveI : ∀ s, Storable (upEmb : UEmb _ 𝕄) (goP m d (Fin.cast nCore_zero c) s) := fun s => goP_storable m d (Fin.cast nCore_zero c) s
      exact BI.Storable.bigSep _ Finset.univ fun s : Fin 16 => goP m d (Fin.cast nCore_zero c) s
  dn q d c := match q with
    | 0 => by
      haveI : ∀ s, Storable (upEmb : UEmb _ 𝕄) (tdP m d (Fin.cast nCore_zero c) s) := fun s => tdP_storable m d (Fin.cast nCore_zero c) s
      exact BI.Storable.bigSep _ Finset.univ fun s : Fin 16 => tdP m d (Fin.cast nCore_zero c) s
  go q d c i := match q with
    | 0 => goP_storable m d (Fin.cast nCore_zero c) (Fin.cast nSub_zero i)
  td q d c i := match q with
    | 0 => tdP_storable m d (Fin.cast nCore_zero c) (Fin.cast nSub_zero i)

/-! ## A tile's task -/

section Task

variable (d : Dev nD) (L : grid0.Coords)

omit [FloatOps F] in
/-- A tile's own semaphores. -/
theorem ownSems0_V :
    (ownSems0 (V d (cV L) (jV L)) : sProp 𝕄)
      = iprop(semVal (V d (cV L) (jV L), .dma cc0_scratch4.sem) 0 ∗ semVal (V d (cV L) (jV L), .dma cc0_scratch5.sem) 0
          ∗ semVal (V d (cV L) (jV L), .dma cc0_scratch6.sem) 0 ∗ semVal (V d (cV L) (jV L), .dma cc0_scoped0.sem) 0
          ∗ bigSep (((((ownCells (V d (cV L) (jV L))).erase (V d (cV L) (jV L), .dma cc0_scratch4.sem)).erase (V d (cV L) (jV L), .dma cc0_scratch5.sem)).erase
              (V d (cV L) (jV L), .dma cc0_scratch6.sem)).erase (V d (cV L) (jV L), .dma cc0_scoped0.sem)) fun g => semVal g 0) := by
  have hs : ∀ sem : DmaSem sig, (SemLoc.dma sem : SemLoc sig).isScoped .scVector = true → ((V d (cV L) (jV L), .dma sem) : GSem nD τ sig) ∈ ownCells (V d (cV L) (jV L)) :=
    fun sem h => mem_ownCells.mpr ⟨rfl, h⟩
  have hne : ∀ a b : DmaSem sig, a ≠ b → ((V d (cV L) (jV L), .dma a) : GSem nD τ sig) ≠ (V d (cV L) (jV L), .dma b) :=
    fun a b h e => h (SemLoc.dma.inj (Prod.ext_iff.mp e).2)
  unfold SparseCore.Cfg.ownSems0
  rw [SparseCore.bigSep_erase' (hs cc0_scratch4.sem (by decide)),
    SparseCore.bigSep_erase' (Finset.mem_erase.mpr ⟨hne cc0_scratch5.sem cc0_scratch4.sem (by decide), hs cc0_scratch5.sem (by decide)⟩),
    SparseCore.bigSep_erase' (Finset.mem_erase.mpr ⟨hne cc0_scratch6.sem cc0_scratch5.sem (by decide),
      Finset.mem_erase.mpr ⟨hne cc0_scratch6.sem cc0_scratch4.sem (by decide), hs cc0_scratch6.sem (by decide)⟩⟩),
    SparseCore.bigSep_erase' (Finset.mem_erase.mpr ⟨hne cc0_scoped0.sem cc0_scratch6.sem (by decide),
      Finset.mem_erase.mpr ⟨hne cc0_scoped0.sem cc0_scratch5.sem (by decide), Finset.mem_erase.mpr ⟨hne cc0_scoped0.sem cc0_scratch4.sem (by decide), hs cc0_scoped0.sem (by decide)⟩⟩⟩)]

/-- A tile's buffer, as the device names it. -/
abbrev refV (b : Ref sig .scVector) : DevRef τ sig := (Proc.scVector (cV L) (jV L)).devRef b

omit [FloatOps F] in
/-- A tile's own memory. -/
theorem ownBufs_V :
    (ownBufs (V d (cV L) (jV L)) : sProp 𝕄)
      = iprop((∃ f, idxM.view.loc (V d (cV L) (jV L)) ↦[Finset.univ]{fullShare} f) ∗ (∃ f, rowsM.view.loc (V d (cV L) (jV L)) ↦[Finset.univ]{fullShare} f)
          ∗ (∃ f, sumsM.view.loc (V d (cV L) (jV L)) ↦[Finset.univ]{fullShare} f) ∗ (∃ f, outM.view.loc (V d (cV L) (jV L)) ↦[Finset.univ]{fullShare} f)
          ∗ bigSep (((((ownRefs (τ := τ) (.scVector (cV L) (jV L))).erase (refV L cc0_scratch0)).erase (refV L cc0_scratch1)).erase (refV L cc0_scratch2)).erase (refV L cc0_scratch3))
              fun b => iprop(∃ f, ((d, b) : Loc nD τ sig) ↦{fullShare} f)) := by
  have hne : ∀ a b : Ref sig .scVector, a ≠ b → refV L a ≠ refV L b := fun a b h e => h (Proc.devRef_injective _ e)
  have h0 : refV L cc0_scratch0 ∈ ownRefs (τ := τ) (.scVector (cV L) (jV L)) := SparseCore.Cfg.mem_ownRefs_of_owner rfl
  have h1 : refV L cc0_scratch1 ∈ ownRefs (τ := τ) (.scVector (cV L) (jV L)) := SparseCore.Cfg.mem_ownRefs_of_owner rfl
  have h2 : refV L cc0_scratch2 ∈ ownRefs (τ := τ) (.scVector (cV L) (jV L)) := SparseCore.Cfg.mem_ownRefs_of_owner rfl
  have h3 : refV L cc0_scratch3 ∈ ownRefs (τ := τ) (.scVector (cV L) (jV L)) := SparseCore.Cfg.mem_ownRefs_of_owner rfl
  unfold SparseCore.Cfg.ownBufs
  refine (SparseCore.bigSep_erase' h0).trans ?_
  rw [SparseCore.bigSep_erase' (Finset.mem_erase.mpr ⟨hne cc0_scratch1 cc0_scratch0 (by decide), h1⟩),
    SparseCore.bigSep_erase' (Finset.mem_erase.mpr ⟨hne cc0_scratch2 cc0_scratch1 (by decide), Finset.mem_erase.mpr ⟨hne cc0_scratch2 cc0_scratch0 (by decide), h2⟩⟩),
    SparseCore.bigSep_erase' (Finset.mem_erase.mpr ⟨hne cc0_scratch3 cc0_scratch2 (by decide), Finset.mem_erase.mpr ⟨hne cc0_scratch3 cc0_scratch1 (by decide),
      Finset.mem_erase.mpr ⟨hne cc0_scratch3 cc0_scratch0 (by decide), h3⟩⟩⟩)]

/-- A tile's run, from its own memory and its part of the operands. -/
theorem tile_task (hpre : PreOK m) (c : Fin 2) (s : Fin 16) (O : CellTallies nD τ sig (HIx 1)) (W : Waits sig (HIx 1)) :
    iprop(MayWaits (V d (cV (tileAt c s)) (jV (tileAt c s))) (none : HIx 1) O ∗ Own d (tileAt c s) ∗ goP m d c s ∗ owes (V d (cV (tileAt c s)) (jV (tileAt c s))) O W)
      ⊢ wp frame (wpE (defs₀ (F := F)) 𝒱₀ (V d (cV (tileAt c s)) (jV (tileAt c s))) none) Set.univ
          (cc0_sc_kernel (F := F) (tileAt c s) (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_arg8_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scoped0)
          (fun _ => (iprop(Own d (tileAt c s) ∗ tdP m d c s ∗ Owed (V d (cV (tileAt c s)) (jV (tileAt c s))) (none : HIx 1) O W) : sProp 𝕄)) := by
  unfold goP tdP Operands.Part
  iintro H
  imod (enter countersEmb d (tileAt c s) (relOf m d) (entOf m d) (tileIx m d (base (tileAt c s))) (argsOf m d (tileAt c s)) (shareAt c s) (shareAt c s) (none : HIx 1) O W) $$ H
    with ⟨%δ, %γ, %ιn, #Hinv, HB⟩
  ihave HB := (Tile.tile_run countersEmb (defs := defs₀ (F := F)) 𝒱₀ d none (tileAt c s) (none : HIx 1) O W (tile_bound m hpre d _) (tile_holds m d (tileAt c s)) (res m d)
    (fun r x hx hr => res_at m d (tileAt c s) r x hx hr)) $$ HB
  iapply (wp_fupd frame (wpE (defs₀ (F := F)) 𝒱₀ (V d (cV (tileAt c s)) (jV (tileAt c s))) none) Set.univ _ _)
  ihave HB := (wp_frame_l frame (wpE (defs₀ (F := F)) 𝒱₀ (V d (cV (tileAt c s)) (jV (tileAt c s))) none) Set.univ
    (R := inv ιn (Cert.Proof.Held.heldBody (Val := Elt F) countersEmb (rowsM.view.loc (thr d (cV (tileAt c s)) (jV (tileAt c s)))) δ γ))) $$ [HB]
  · isplitr
    · iexact Hinv
    · iexact HB
  iapply (wp_mono frame (wpE (defs₀ (F := F)) 𝒱₀ (V d (cV (tileAt c s)) (jV (tileAt c s))) none) Set.univ fun _ =>
    leave countersEmb d (tileAt c s) (relOf m d) (entOf m d) (tileIx m d (base (tileAt c s))) (argsOf m d (tileAt c s)) (shareAt c s) (shareAt c s) (none : HIx 1) O W (res m d))
  iexact HB

/-- What a tile is handed is enough for its run, and its run leaves its results. -/
theorem tile_body (hpre : PreOK m) (c : Fin 2) (s : Fin 16) (O : CellTallies nD τ sig (HIx 1)) (W : Waits sig (HIx 1)) (hO : ∀ g, O g none = 0) :
    iprop(levAts (K (F := F)).L (K (F := F)).lev ∗ emp ∗ goP m d c s
        ∗ scopedBufs (V d (cV (tileAt c s)) (jV (tileAt c s))) ∗ scopedSems0 (V d (cV (tileAt c s)) (jV (tileAt c s))) ∗ owes (V d (cV (tileAt c s)) (jV (tileAt c s))) O W)
      ⊢ wp frame (wpE (defs₀ (F := F)) 𝒱₀ (V d (cV (tileAt c s)) (jV (tileAt c s))) none) Set.univ
          (cc0_sc_kernel (F := F) (tileAt c s) (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_arg8_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scoped0)
          fun _ => (iprop(tdP m d c s ∗ scopedBufs (V d (cV (tileAt c s)) (jV (tileAt c s))) ∗ scopedSems0 (V d (cV (tileAt c s)) (jV (tileAt c s)))
            ∗ ∃ W', ⌜∀ p ∈ W', p ∈ W ∨ p.2 = none⌝ ∗ owes (V d (cV (tileAt c s)) (jV (tileAt c s))) O W') : sProp 𝕄) := by
  rw [(K (F := F)).scopedBufs_V facts d (cV (tileAt c s)) (jV (tileAt c s)), SparseCore.Cfg.scopedSems0_V (Val := Elt F) d (cV (tileAt c s)) (jV (tileAt c s)), ownSems0_V, ownBufs_V]
  iintro ⟨#Hlv, -, Hgo, ⟨Hi, Hr, Hs, Ho, Hbufs⟩, ⟨Hv4, Hv5, Hv6, Hv0, Hsems⟩, HO⟩
  ihave Hmw := (show levAts (K (F := F)).L (K (F := F)).lev ⊢ Transfers.MayWaits (V d (cV (tileAt c s)) (jV (tileAt c s))) (none : HIx 1) O from
    (K (F := F)).mayWaits_none (thr := V d (cV (tileAt c s)) (jV (tileAt c s))) hO) $$ Hlv
  ihave H := (tile_task m d hpre c s O W) $$ [Hmw Hgo Hi Hr Hs Ho Hv4 Hv5 Hv6 Hv0 HO]
  · isplitl [Hmw]
    · iexact Hmw
    isplitr [Hgo HO]
    · unfold Own
      isplitl [Hi]
      · iexact Hi
      isplitl [Hr]
      · iexact Hr
      isplitl [Hs]
      · iexact Hs
      isplitl [Ho]
      · iexact Ho
      isplitl [Hv4]
      · iexact Hv4
      isplitl [Hv5]
      · iexact Hv5
      isplitl [Hv6]
      · iexact Hv6
      · iexact Hv0
    isplitl [Hgo]
    · iexact Hgo
    · iexact HO
  ihave H := (wp_frame_l frame (wpE (defs₀ (F := F)) 𝒱₀ (V d (cV (tileAt c s)) (jV (tileAt c s))) none) Set.univ) $$ [Hbufs Hsems H]
  · isplitl [Hbufs Hsems]
    · iapply (pair_intro _ _) $$ [Hbufs Hsems]
      isplitl [Hbufs]
      · iexact Hbufs
      · iexact Hsems
    · iexact H
  iapply (wp_mono frame (wpE (defs₀ (F := F)) 𝒱₀ (V d (cV (tileAt c s)) (jV (tileAt c s))) none) Set.univ fun _ => ?_) $$ H
  unfold Own Owed
  iintro ⟨⟨Hbufs, Hsems⟩, ⟨Hi, Hr, Hs, Ho, Hv4, Hv5, Hv6, Hv0⟩, Htd, HO⟩
  isplitl [Htd]
  · iexact Htd
  isplitl [Hi Hr Hs Ho Hbufs]
  · isplitl [Hi]
    · iexact Hi
    isplitl [Hr]
    · iexact Hr
    isplitl [Hs]
    · iexact Hs
    isplitl [Ho]
    · iexact Ho
    · iexact Hbufs
  isplitl [Hv4 Hv5 Hv6 Hv0 Hsems]
  · isplitl [Hv4]
    · iexact Hv4
    isplitl [Hv5]
    · iexact Hv5
    isplitl [Hv6]
    · iexact Hv6
    isplitl [Hv0]
    · iexact Hv0
    · iexact Hsems
  · iexact HO

/-- A tile's program is the kernel. -/
theorem defs₀_vector (c : Fin τ.nSC) (s : Fin τ.nSub) :
    defs₀ (F := F) (.scVector c s) 0 ()
      = SparseCore.onTile hcore0 hsub0 (fun c s => cc0_sc_kernel (F := F) (coordsV c s) (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_arg8_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scoped0) ⟨⟩ c s := rfl

omit [FloatOps F] in
/-- A wait of no call's counts for any call. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ (iprop(A ∗ B ∗ C ∗ ∃ W', ⌜∀ p ∈ W', p ∈ W ∨ p.2 = none ∨ p.2 = some q⌝ ∗ owes thr O W') : sProp 𝕄) := by
  iintro ⟨HA, HB, HC, %W', %hW', HO⟩
  isplitl [HA]
  · iexact HA
  isplitl [HB]
  · iexact HB
  isplitl [HC]
  · iexact HC
  iexists W'
  isplitr
  · ipureintro; exact fun p hp => (hW' p hp).imp_right Or.inl
  · iexact HO

set_option maxRecDepth 16384 in
/-- Every tile does what the launch asks of it. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  have h := (tile_body m d hpre (Fin.cast nCore_zero c) (Fin.cast nSub_zero i) O W hO).trans (wp_mono frame _ _ fun _ => obl_post (q := 0))
  exact h

end Task

/-- A SparseCore passes its tiles' parts on, and takes them back. -/
theorem vecSplit : (K (F := F)).VecSplit' (P m) 0 := by
  intro d c
  show (bigSep Finset.univ fun s : Fin 16 => goP m d (Fin.cast nCore_zero c) s) ⊢ |={Set.univ}=> iprop(
      (bigSep Finset.univ fun s : Fin 16 => goP m d (Fin.cast nCore_zero c) s)
      ∗ ((bigSep Finset.univ fun s : Fin 16 => tdP m d (Fin.cast nCore_zero c) s) -∗ (bigSep Finset.univ fun s : Fin 16 => tdP m d (Fin.cast nCore_zero c) s)))
  iintro H
  imodintro
  isplitl [H]
  · iexact H
  · iintro H
    iexact H

/-! ## The launch element -/

def u₀ : UU := (initOf (K (F := F)).hsCells (K (F := F)).hsToks, 1)

/-- The ghost state at the launch. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]
  · iexact HH
  have he : (bigSep Finset.univ fun thr : Thread nD τ => bigSep Finset.univ fun q : Fin 1 => (P (F := F) m).x q thr) = (iprop(emp) : sProp 𝕄) := by
    rw [BI.bigSep_congr fun (thr : Thread nD τ) _ => bigSep_one (F := F) fun q : Fin 1 => (P (F := F) m).x q thr]
    exact BI.bigSep_emp_const _
  have hd : (bigSep Finset.univ fun _ : Dev nD => iprop(emp)) = (iprop(emp) : sProp 𝕄) := BI.bigSep_emp_const _
  rw [he, hd]
  isplitr <;> iempintro

/-! ## @main on the TensorCore -/

/-- The operands and the result's place. -/
abbrev Mem (d : Dev nD) (f : Buf (Elt F) (resM.view.loc (thr0 d))) : sProp 𝕄 :=
  iprop(Inputs m d ∗ resM.view.loc (thr0 d) ↦[Finset.univ]{fullShare} f)

/-- The memory at the launch. -/
theorem unscoped (d : Dev nD) :
    (unscopedBufs d (fun b => m ((d.tc : Thread nD τ).loc b)) : sProp 𝕄) ⊢ Mem m d (m (resM.view.loc (thr0 d))) := by
  unfold unscopedBufs Mem Inputs
  rw [show (Finset.univ.filter fun b : Ref sig .tc => ¬ b.isScoped)
      = {main_arg0, main_arg1, main_arg2, main_arg3, main_arg4, main_arg5, main_arg6, main_arg7, main_arg8, main_v0} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), BI.bigSep_singleton, bigSep_seven]
  iintro ⟨H0, H1, H2, H3, H4, H5, H6, H7, H8, H9⟩
  isplitr [H9]
  · isplitr [H7 H8]
    · isplitl [H0]
      · iexact H0
      isplitl [H1]
      · iexact H1
      isplitl [H2]
      · iexact H2
      isplitl [H3]
      · iexact H3
      isplitl [H4]
      · iexact H4
      isplitl [H5]
      · iexact H5
      · iexact H6
    · isplitl [H8]
      · iexact H8
      · iexact H7
  · iexact H9

/-- The memory, cut into the tiles' parts. -/
theorem st_intro (d : Dev nD) (f : Buf (Elt F) (resM.view.loc (thr0 d))) :
    Mem m d f ⊢ (bigSep Finset.univ fun c : Fin ((K (F := F)).nCore 0) => (P m).st 0 d c) := by
  have h : Mem m d f ⊢ bigSep Finset.univ fun c : Fin 2 => bigSep Finset.univ fun s : Fin 16 => goP m d c s := by
    unfold Mem goP
    rw [parts_all m d fun c s => Place d (tileAt c s), res_all]
    refine sep_mono .rfl (BI.bigSep_mono fun c _ => BI.bigSep_mono fun s _ => ?_)
    exact some_at _ f
  exact h

/-- The tiles' parts at the end, put together. -/
theorem dn_elim (d : Dev nD) :
    (bigSep Finset.univ fun c : Fin ((K (F := F)).nCore 0) => (P m).dn 0 d c) ⊢ Mem m d (res m d) := by
  have h : (bigSep Finset.univ fun c : Fin 2 => bigSep Finset.univ fun s : Fin 16 => tdP m d c s) ⊢ Mem m d (res m d) := by
    unfold Mem tdP
    rw [parts_all m d fun c s => Placed d (tileAt c s) (res m d), res_all]
  exact h

/-- The program: the call is started and waited for. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ Mem m d (res m d) ∗ (K (F := F)).tcEnd d) := by
  unfold SparseCore.Cfg.tcRes SparseCore.Cfg.tcEnd
  simp only [main, wp_bind, wp_pure]
  iintro ⟨#Hctx, Hst, ⟨Hb, Hm, Hts, -⟩, -⟩
  ihave Hm := (unscoped m d) $$ Hm
  ihave Hm := (st_intro m d _) $$ Hm
  iapply ((K (F := F)).wp_run (D (F := F)) 𝒱 (EH := EH) (P := P m) κ d 0) $$ [Hst Hm Hb Hts]
  isplitr
  · iexact Hctx
  isplitl [Hst]
  · iexact Hst
  isplitl [Hm]
  · iexact Hm
  iintro ⟨Hst, Hdn⟩
  ihave Hm := (dn_elim m d) $$ Hdn
  imodintro
  isplitl [Hst]
  · iexact Hst
  isplitl [Hm]
  · iexact Hm
  isplitl [Hb]
  · iexact Hb
  · iexact Hts

/-- What the program leaves of a device's memory. -/
def left (d : Dev nD) (s' : Phys nD τ sig (Elt F)) : Prop :=
  s'.mem.mem ((d.tc : Thread nD τ).loc main_v0) = res m d
  ∧ s'.mem.mem ((d.tc : Thread nD τ).loc main_arg0) = m ((d.tc : Thread nD τ).loc main_arg0)
  ∧ s'.mem.mem ((d.tc : Thread nD τ).loc main_arg1) = m ((d.tc : Thread nD τ).loc main_arg1)
  ∧ s'.mem.mem ((d.tc : Thread nD τ).loc main_arg2) = m ((d.tc : Thread nD τ).loc main_arg2)
  ∧ s'.mem.mem ((d.tc : Thread nD τ).loc main_arg3) = m ((d.tc : Thread nD τ).loc main_arg3)
  ∧ s'.mem.mem ((d.tc : Thread nD τ).loc main_arg4) = m ((d.tc : Thread nD τ).loc main_arg4)
  ∧ s'.mem.mem ((d.tc : Thread nD τ).loc main_arg5) = m ((d.tc : Thread nD τ).loc main_arg5)
  ∧ s'.mem.mem ((d.tc : Thread nD τ).loc main_arg6) = m ((d.tc : Thread nD τ).loc main_arg6)
  ∧ s'.mem.mem ((d.tc : Thread nD τ).loc main_arg7) = m ((d.tc : Thread nD τ).loc main_arg7)
  ∧ s'.mem.mem ((d.tc : Thread nD τ).loc main_arg8) = m ((d.tc : Thread nD τ).loc main_arg8)

omit [FloatOps F] in
/-- What is owned whole is what the memory holds. -/
theorem agree (s' : Phys nD τ sig (Elt F)) {ℓ : Loc nD τ sig} (f : Buf (Elt F) ℓ) :
    iprop(SI s' ∗ ℓ ↦[Finset.univ]{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  · iexact HSI

/-- The memory at the end. -/
theorem hfin (d : Dev nD) (s' : Phys nD τ sig (Elt F)) : iprop(Mem m d (res m d) ∗ SI s') ⊢ (⌜left m d s'⌝ : sProp 𝕄) := by
  unfold Mem Inputs
  rw [bigSep_seven]
  iintro ⟨⟨⟨⟨H0, H1, H2, H3, H4, H5, H6⟩, H8, H7⟩, H9⟩, HSI⟩
  ihave H := (agree s' _) $$ [HSI H0]
  · isplitl [HSI]
    · iexact HSI
    · iexact H0
  icases H with ⟨%h0, HSI⟩
  ihave H := (agree s' _) $$ [HSI H1]
  · isplitl [HSI]
    · iexact HSI
    · iexact H1
  icases H with ⟨%h1, HSI⟩
  ihave H := (agree s' _) $$ [HSI H2]
  · isplitl [HSI]
    · iexact HSI
    · iexact H2
  icases H with ⟨%h2, HSI⟩
  ihave H := (agree s' _) $$ [HSI H3]
  · isplitl [HSI]
    · iexact HSI
    · iexact H3
  icases H with ⟨%h3, HSI⟩
  ihave H := (agree s' _) $$ [HSI H4]
  · isplitl [HSI]
    · iexact HSI
    · iexact H4
  icases H with ⟨%h4, HSI⟩
  ihave H := (agree s' _) $$ [HSI H5]
  · isplitl [HSI]
    · iexact HSI
    · iexact H5
  icases H with ⟨%h5, HSI⟩
  ihave H := (agree s' _) $$ [HSI H6]
  · isplitl [HSI]
    · iexact HSI
    · iexact H6
  icases H with ⟨%h6, HSI⟩
  ihave H := (agree s' _) $$ [HSI H7]
  · isplitl [HSI]
    · iexact HSI
    · iexact H7
  icases H with ⟨%h7, HSI⟩
  ihave H := (agree s' _) $$ [HSI H8]
  · isplitl [HSI]
    · iexact HSI
    · iexact H8
  icases H with ⟨%h8, HSI⟩
  ihave H := (agree s' _) $$ [HSI H9]
  · isplitl [HSI]
    · iexact HSI
    · iexact H9
  icases H with ⟨%h9, HSI⟩
  ipureintro
  exact ⟨h9, h0, h1, h2, h3, h4, h5, h6, h7, h8⟩

/-- What the program leaves: the result, the operands as they were, every semaphore at zero. -/
def QC : PUnit × MemSt nD τ sig (Elt F) → Prop := fun r =>
  (∀ d : Dev nD, r.2.mem ((d.tc : Thread nD τ).loc main_v0) = res m d
    ∧ r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2)
    ∧ r.2.mem ((d.tc : Thread nD τ).loc main_arg3) = m ((d.tc : Thread nD τ).loc main_arg3)
    ∧ r.2.mem ((d.tc : Thread nD τ).loc main_arg4) = m ((d.tc : Thread nD τ).loc main_arg4)
    ∧ r.2.mem ((d.tc : Thread nD τ).loc main_arg5) = m ((d.tc : Thread nD τ).loc main_arg5)
    ∧ r.2.mem ((d.tc : Thread nD τ).loc main_arg6) = m ((d.tc : Thread nD τ).loc main_arg6)
    ∧ r.2.mem ((d.tc : Thread nD τ).loc main_arg7) = m ((d.tc : Thread nD τ).loc main_arg7)
    ∧ r.2.mem ((d.tc : Thread nD τ).loc main_arg8) = m ((d.tc : Thread nD τ).loc main_arg8))
  ∧ r.2.sem = fun _ => 0

/-- Every run of the kernel ends, with the result in place, the arguments unchanged and the semaphores at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (fun d => Mem m d (res m d)) (u₀ (F := F)) (sep_elim_left.trans (hu₀ m)) (hmain m ρ) (left m) (hfin m) (QC m) (fun _ h hz => ⟨h, hz⟩)

end Cert.Proof.Launch
-- ==== Proof.Range.lean ====
/-
  The precondition, read back: every index is in its table's range.
-/
module

public import proofs.«01_k».proof.Defs
public import proofs.«01_k».proof.Proof.Gen.Pre_in_range
public import Idealize.ShloMosaic.Lib.ReduceAll

@[expose] public section

noncomputable section

namespace Cert.Proof.Range

open Idealize.ShloMosaic Cert.Pre_in_range Cert.Pre_in_range.Facts

variable [Cert.Pre_in_range.Facts]

instance : Subsingleton S_.Idx := ⟨fun _ _ => funext fun a => a.elim0⟩

/-- Both of two checks hold if their conjunction does. -/
theorem andi_one {p q : BitVec 1} (h : IntOp.andi p q = 1#1) : p = 1#1 ∧ q = 1#1 := by
  revert p q
  decide

/-- The two checks of an index array, at the start and at the end of its range. -/
def Within (v : IVec S16384 32) (n : BitVec 32) (j : S_.Idx) : Prop :=
  Host.reduce IntOp.andi (cmpi .sge v (broadcastInDim S16384 ![] bcast_S_S16384 (constantI S_ 32 0#32))) (constantI S_ 1 1#1) reducesTo_S16384_S_d0 h_S_ j = 1#1
  ∧ Host.reduce IntOp.andi (cmpi .slt v (broadcastInDim S16384 ![] bcast_S_S16384 (constantI S_ 32 n))) (constantI S_ 1 1#1) reducesTo_S16384_S_d0 h_S_ j = 1#1

/-- An index between zero and its bound is below the bound, read without a sign. -/
theorem Within.lt {v : IVec S16384 32} {n : BitVec 32} {j : S_.Idx} (h : Within v n j) (hn : n.toNat < 2147483648) (i : S16384.Idx) : (v i).toNat < n.toNat := by
  have h0 : (0 : ℤ) ≤ (v i).toInt := IntOp.cmpi_sge.1 (Host.reduce_andi_all _ _ _ _ j h.1 i)
  have h1 : (v i).toInt < n.toInt := IntOp.cmpi_slt.1 (Host.reduce_andi_all _ _ _ _ j h.2 i)
  have hv := (v i).isLt
  simp only [BitVec.toInt_eq_toNat_cond, Nat.reducePow] at h0 h1
  omega

/-- Every index is below the number of its table's rows. -/
theorem bounds {F : FTy → Type} [FloatOps F] {a0 a1 a2 a3 a4 a5 a6 : IVec S16384 32} {E : FVec F S100000x128 .f32} {R : FVec F S1000x128 .f32}
    (h : Cert.Pre_in_range.fn (F := F) a0 a1 a2 a3 a4 a5 a6 E R = fun _ => 1#1) (i : S16384.Idx) :
    (a0 i).toNat < 1000 ∧ (a1 i).toNat < 100000 ∧ (a2 i).toNat < 100000 ∧ (a3 i).toNat < 100000 ∧ (a4 i).toNat < 100000 ∧ (a5 i).toNat < 100000
      ∧ (a6 i).toNat < 100000 := by
  have j : S_.Idx := fun a => a.elim0
  have e := congrFun h j
  unfold Cert.Pre_in_range.fn fn_part1 fn_part2 fn_part3 at e
  obtain ⟨e, l6⟩ := andi_one e
  obtain ⟨e, g6⟩ := andi_one e
  obtain ⟨e, l5⟩ := andi_one e
  obtain ⟨e, g5⟩ := andi_one e
  obtain ⟨e, l4⟩ := andi_one e
  obtain ⟨e, g4⟩ := andi_one e
  obtain ⟨e, l3⟩ := andi_one e
  obtain ⟨e, g3⟩ := andi_one e
  obtain ⟨e, l2⟩ := andi_one e
  obtain ⟨e, g2⟩ := andi_one e
  obtain ⟨e, l1⟩ := andi_one e
  obtain ⟨e, g1⟩ := andi_one e
  obtain ⟨g0, l0⟩ := andi_one e
  exact ⟨Within.lt ⟨g0, l0⟩ (by decide) i, Within.lt ⟨g1, l1⟩ (by decide) i, Within.lt ⟨g2, l2⟩ (by decide) i, Within.lt ⟨g3, l3⟩ (by decide) i,
    Within.lt ⟨g4, l4⟩ (by decide) i, Within.lt ⟨g5, l5⟩ (by decide) i, Within.lt ⟨g6, l6⟩ (by decide) i⟩

end Cert.Proof.Range
-- ==== Proof.Frames.lean ====
/-
  The frames: the kernel's, at words and at exact numbers, and the reference's.
-/
module

public import proofs.«01_k».proof.Proof.Launch
public import proofs.«01_k».proof.Proof.Range
public import proofs.«01_k».proof.Proof.Gen.Kernel
public import proofs.«01_k».proof.Proof.Gen.ReferenceIdeal.Run

@[expose] public section

set_option maxHeartbeats 1000000

noncomputable section

namespace Cert.Proof.Frames

open Cert.KernelIdeal Cert.KernelIdeal.Gen
open Idealize.ShloMosaic Idealize.SL.Sem
open Cert.Proof.Launch

variable {F : FTy → Type} [FloatOps F]

/-- The precondition is what the proof asks of the launch memory. -/
theorem ok_of_pre (m : (ℓ : Loc nD τ sig) → Buf (Elt F) ℓ)
    (h : ∀ c : Dev nD, Cert.Pre_in_range.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) = fun _ => 1#1) : PreOK m := fun d k r => by
  obtain ⟨h0, h1, h2, h3, h4, h5, h6⟩ := Cert.Proof.Range.bounds (h d) (ix1 r)
  exact match k with
    | 0 => h0
    | 1 => h1
    | 2 => h2
    | 3 => h3
    | 4 => h4
    | 5 => h5
    | 6 => h6
    | n + 7 => by
      unfold ixAt
      rw [dif_neg (by omega), if_neg (by omega)]
      decide

/-- The kernel's frame, at words. -/
theorem frame_kernel : Cert.quiescent_Kernel := fun m ρ hpre =>
  (θ_run Cert.KernelIdeal.defs _ _).mono (fun _ h => ⟨fun c => (h.1 c).2, h.2⟩) (run_main (F := Bits) m ρ (ok_of_pre m hpre))

/-- The kernel's frame, at exact numbers. -/
theorem frame_ideal : Cert.quiescent_KernelIdeal := fun m ρ hpre =>
  (θ_run Cert.KernelIdeal.defs _ _).mono (fun _ h => ⟨fun c => (h.1 c).2, h.2⟩) (run_main (F := Ideal) m ρ (ok_of_pre m hpre))

end Cert.Proof.Frames
-- ==== Proof.RefFrame.lean ====
/-
  The reference's frame: its run read at the arguments; it declares no semaphore.
-/
module

public import proofs.«01_k».proof.Defs
public import proofs.«01_k».proof.Proof.Gen.ReferenceIdeal.Run
public import proofs.«01_k».proof.Proof.Gen.Pre_in_range

@[expose] public section

noncomputable section

namespace Cert.Proof.RefFrame

open Idealize.ShloMosaic Idealize.SL.Sem

/-- The reference's frame. -/
theorem frame_ref : Cert.quiescent_ReferenceIdeal := fun m ρ _ =>
  (θ_run Cert.ReferenceIdeal.defs _ _).mono (fun _ h => ⟨fun c => (h c).2, funext fun s => match s.2 with
    | .reg i => i.elim0
    | .dma i => i.elim0⟩) (Cert.ReferenceIdeal.Value.run (F := Ideal) m ρ)

/-- The same under the precondition. -/
theorem frame_ref_pre : Cert.quiescent_ReferenceIdeal_pre_in_range := fun m ρ _ => frame_ref m ρ trivial

end Cert.Proof.RefFrame
-- ==== Proof.Pick.lean ====
/-
  The reference's look-up of a table's rows, and its shift of a row's entries, at one place.

  With the indices in range, the look-up's own handling of negative and too large indices does nothing.
-/
module

public import proofs.«01_k».proof.Defs
public import proofs.«01_k».proof.Proof.Gen.ReferenceIdeal
public import Idealize.ShloMosaic.Lib.ReduceAll
public import Idealize.ShloMosaic.Lib.Routing.Ops
public import Idealize.ShloMosaic.Lib.Pipeline.Value

@[expose] public section

set_option maxHeartbeats 1000000

noncomputable section

namespace Cert.Proof.Pick

open Idealize.ShloMosaic Cert.ReferenceIdeal Cert.ReferenceIdeal.Gen Idealize.ShloMosaic.ValueIdx

variable {α : Type}

/-- The rows a look-up names, as the reference computes them. -/
abbrev starts (v : IVec S16384 32) (n : BitVec 32) : IVec S16384x1 32 :=
  broadcastInDim S16384x1 ![0] bcast_S16384_S16384x1_0
    (select (cmpi .slt v (broadcastInDim S16384 ![] bcast_S_S16384 (constantI S_ 32 0#32))) (addi v (broadcastInDim S16384 ![] bcast_S_S16384 (constantI S_ 32 n))) v)

/-- An index that is not negative is looked up as it is. -/
theorem starts_at (v : IVec S16384 32) (n : BitVec 32) (x : S16384x1.Idx) (hv : (v (ix1 (x 0))).toNat < 2147483648) : starts v n x = v (ix1 (x 0)) := by
  have e : ∀ w : BitVec 32, w.toNat < 2147483648 → IntOp.cmpi .slt w 0#32 = 0#1 := fun w hw => by
    have h : ¬ w.toInt < (0#32 : BitVec 32).toInt := by
      have := w.isLt
      simp only [BitVec.toInt_eq_toNat_cond, Nat.reducePow, BitVec.toNat_ofNat, Nat.reduceMod]
      omega
    rcases (by decide : ∀ b : BitVec 1, b = 0#1 ∨ b = 1#1) (IntOp.cmpi .slt w 0#32) with h0 | h0
    · exact h0
    · exact absurd (IntOp.cmpi_slt.1 h0) h
  have hx : ∀ f : IVec S16384 32, broadcastInDim S16384x1 ![0] bcast_S16384_S16384x1_0 f x = f (ix1 (x 0)) := fun f => by
    refine congrArg f (funext fun a => ?_)
    obtain rfl : a = 0 := Subsingleton.elim _ _
    rfl
  rw [starts, hx]
  show (if IntOp.cmpi .slt (v (ix1 (x 0))) 0#32 = 1#1 then _ else v (ix1 (x 0))) = _
  rw [e _ hv]
  rfl

/-- The look-up's test of the rows it names. -/
abbrev good (s : IVec S16384x1 32) (n : BitVec 32) : IVec S16384 1 :=
  Host.reduce IntOp.andi (andi (cmpi .sge s (broadcastInDim S16384x1 ![] bcast_S_S16384x1 (constantI S_ 32 0#32)))
    (cmpi .sle s (broadcastInDim S16384x1 ![0, 1] bcast_S1x1_S16384x1_0_1 (broadcastInDim S1x1 ![1] bcast_S1_S1x1_1 (constantI S1 32 n)))))
    (constantI S_ 1 1#1) reducesTo_S16384x1_S16384_d1 h_S_

/-- An index in range passes the reference's check. -/
theorem good_at (s : IVec S16384x1 32) (n : BitVec 32) (hn : n.toNat < 2147483648) (hs : ∀ x, (s x).toNat ≤ n.toNat) (j : S16384.Idx) : good s n j = 1#1 := by
  refine Host.reduce_andi_one _ _ _ _ j rfl fun x => ?_
  have h := hs x
  have e0 : IntOp.cmpi .sge (s x) 0#32 = 1#1 := IntOp.cmpi_sge.2 (by
    simp only [BitVec.toInt_eq_toNat_cond, Nat.reducePow, BitVec.toNat_ofNat, Nat.reduceMod]
    omega)
  have e1 : IntOp.cmpi .sle (s x) n = 1#1 := IntOp.cmpi_sle.2 (by
    simp only [BitVec.toInt_eq_toNat_cond, Nat.reducePow]
    omega)
  show IntOp.andi (IntOp.cmpi .sge (s x) 0#32) (IntOp.cmpi .sle (s x) n) = 1#1
  rw [e0, e1]
  rfl

/-- A look-up. -/
abbrev looked {N : ℕ} (d : GatherDims ⟨2, ![N, 128]⟩ S16384x1 S16384x128) (T : (⟨2, ![N, 128]⟩ : Shape).Idx → α) (v : IVec S16384 32) (n m : BitVec 32) (z : S_.Idx → α) :
    S16384x128.Idx → α :=
  select (broadcastInDim S16384x128 ![0] bcast_S16384_S16384x128_0 (good (starts v n) m)) (Host.gather d T (starts v n)) (broadcastInDim S16384x128 ![] bcast_S_S16384x128 z)

/-- In range, the reference's lookup is the row that the index names. -/
theorem looked_at {N : ℕ} (d : GatherDims ⟨2, ![N, 128]⟩ S16384x1 S16384x128) (hoff : d.offsetDims = [1])
    (hcoll : d.collapsedSliceDims = [0]) (hob : d.operandBatchingDims = []) (hsim : d.startIndexMap = [0]) (hivd : d.indexVectorDim = 1)
    (T : (⟨2, ![N, 128]⟩ : Shape).Idx → α) (v : IVec S16384 32) (n m : BitVec 32) (z : S_.Idx → α) (hN : N ≤ 2147483647) (hm : m.toNat + 1 = N)
    (hv : ∀ i, (v i).toNat < N) (r : Fin 16384) (l : Fin 128) :
    looked d T v n m z (ix2 r l) = T (ix2 ⟨(v (ix1 r)).toNat, hv _⟩ l) := by
  have hs : ∀ x, starts v n x = v (ix1 (x 0)) := fun x => starts_at v n x (by have := hv (ix1 (x 0)); omega)
  have hg : good (starts v n) m (ix1 r) = 1#1 := good_at _ _ (by omega) (fun x => by rw [hs]; have := hv (ix1 (x 0)); omega) _
  have hb : broadcastInDim S16384x128 ![0] bcast_S16384_S16384x128_0 (good (starts v n) m) (ix2 r l) = good (starts v n) m (ix1 r) := by
    refine congrArg (good (starts v n) m) (funext fun a => ?_)
    obtain rfl : a = 0 := Subsingleton.elim _ _
    rfl
  unfold looked
  rw [Idealize.ShloMosaic.select]
  simp only [hb, hg]
  unfold Scalar.select
  rw [if_pos (by rfl)]
  refine Routing.gather_row d hoff hcoll hob hsim hivd T (starts v n) r l ⟨(v (ix1 r)).toNat, hv _⟩ ?_ (by omega)
  rw [hs]
  exact BitVec.eq_of_toNat_eq (by rw [BitVec.toNat_ofNat, Nat.mod_eq_of_lt (v _).isLt])

/-- A row's entries from the `a`-th on, then its first `a`: the entry at `l` is the one at `l + a`, around the row. -/
theorem shifted_at {a b : ℕ} (hab : a + b = 128) (f : S16384x128.Idx → α) (h1 : S16384x128.Slices ![0, a] ⟨2, ![16384, b]⟩) (h0 : S16384x128.Slices ![0, 0] ⟨2, ![16384, a]⟩)
    (hc : Shape.Concatenates [⟨2, ![16384, b]⟩, ⟨2, ![16384, a]⟩] S16384x128 1) (r : Fin 16384) (l : Fin 128) :
    concatenate S16384x128 1 [⟨⟨2, ![16384, b]⟩, extractStridedSlice ⟨2, ![16384, b]⟩ ![0, a] f h1⟩, ⟨⟨2, ![16384, a]⟩, extractStridedSlice ⟨2, ![16384, a]⟩ ![0, 0] f h0⟩] hc (ix2 r l)
      = f (ix2 r ⟨(l.val + a) % 128, Nat.mod_lt _ (by decide)⟩) := by
  have hl : l.val < 128 := l.isLt
  by_cases h : l.val < b
  · have e : concatenate S16384x128 1 [⟨⟨2, ![16384, b]⟩, extractStridedSlice ⟨2, ![16384, b]⟩ ![0, a] f h1⟩, ⟨⟨2, ![16384, a]⟩, extractStridedSlice ⟨2, ![16384, a]⟩ ![0, 0] f h0⟩] hc (ix2 r l)
        = extractStridedSlice ⟨2, ![16384, b]⟩ ![0, a] f h1 (ix2 r ⟨l.val, h⟩) :=
      concatenate_pair_apply_left _ _ _ hc _ rfl _ fun x => match x with
        | ⟨0, _⟩ => rfl
        | ⟨1, _⟩ => rfl
    rw [e]
    refine congrArg f (funext fun x => Fin.ext ?_)
    match x with
    | ⟨0, _⟩ => show 0 + r.val = r.val; omega
    | ⟨1, _⟩ => show a + l.val = (l.val + a) % 128; omega
  · have e : concatenate S16384x128 1 [⟨⟨2, ![16384, b]⟩, extractStridedSlice ⟨2, ![16384, b]⟩ ![0, a] f h1⟩, ⟨⟨2, ![16384, a]⟩, extractStridedSlice ⟨2, ![16384, a]⟩ ![0, 0] f h0⟩] hc (ix2 r l)
        = extractStridedSlice ⟨2, ![16384, a]⟩ ![0, 0] f h0 (ix2 r ⟨l.val - b, by omega⟩) :=
      concatenate_pair_apply_right _ _ _ hc _ rfl rfl _ (fun x hx => match x with
        | ⟨0, _⟩ => rfl
        | ⟨1, _⟩ => absurd rfl hx) (by show l.val - b + b = l.val; omega)
    rw [e]
    refine congrArg f (funext fun x => Fin.ext ?_)
    match x with
    | ⟨0, _⟩ => show 0 + r.val = r.val; omega
    | ⟨1, _⟩ => show 0 + (l.val - b) = (l.val + a) % 128; omega

end Cert.Proof.Pick
-- ==== Proof.RowSum.lean ====
/-
  The kernel's order of summation at exact numbers: sixteen partial sums of eight products each, added up in turn, are
  the sum of a row's 128 products.
-/
module

public import proofs.«01_k».proof.Proof.Loop
public import Idealize.ShloMosaic.Lib.IdealHost

@[expose] public section

set_option maxHeartbeats 1000000

noncomputable section

namespace Cert.Proof.RowSum

open Idealize.ShloMosaic Cert.KernelIdeal Cert.Proof.Geo Cert.Proof.Rows Cert.Proof.Loop

/-- One entry's product: the seven rows' entries, each row turned by its own shift. -/
def prod (T : ℕ → ℕ → EReal) (n : ℕ) : EReal :=
  T 0 (n % 128) * T 1 (n % 128) * T 2 ((n + 21) % 128) * T 3 ((n + 42) % 128) * T 4 ((n + 64) % 128) * T 5 ((n + 85) % 128) * T 6 ((n + 106) % 128)

/-- One of the kernel's products. -/
theorem prods_at (T : ℕ → ℕ → ℕ → Ideal .f32) (j : ℕ) (i : Fin 8) (l : Fin 16) : prods (F := Ideal) T j i (ix1 l) = prod (fun k n => T k j n) (l.val + 16 * i.val) := by
  have e : ∀ (k s : ℕ), around (F := Ideal) T k j (16 * i.val + s) (ix1 l) = T k j ((l.val + 16 * i.val + s) % 128) := fun k s => by
    show T k j ((16 * i.val + s + l.val) % 128) = _
    rw [show 16 * i.val + s + l.val = l.val + 16 * i.val + s by omega]
  have h0 : ∀ k, around (F := Ideal) T k j (16 * i.val) (ix1 l) = T k j ((l.val + 16 * i.val) % 128) := fun k => e k 0
  show around T 0 j (16 * i.val) (ix1 l) * around T 1 j (16 * i.val) (ix1 l) * around T 2 j (16 * i.val + 21) (ix1 l) * around T 3 j (16 * i.val + 42) (ix1 l)
    * around T 4 j (16 * i.val + 64) (ix1 l) * around T 5 j (16 * i.val + 85) (ix1 l) * around T 6 j (16 * i.val + 106) (ix1 l) = _
  rw [h0, h0, e, e, e, e, e]
  rfl

/-- The tree over eight products is their sum. -/
theorem tree_sum (p : Fin 8 → FVec Ideal S16 .f32) (x : S16.Idx) : tree p x = ∑ i : Fin 8, (p i x : EReal) := by
  rw [Fin.sum_univ_eight]
  show (p 0 x + p 1 x + (p 2 x + p 3 x) + (p 4 x + p 5 x + (p 6 x + p 7 x)) : EReal) = _
  simp only [add_assoc]

/-- Sixteen lanes added in turn are their sum. -/
theorem inTurn_sum (v : Fin 16 → FVec Ideal S16 .f32) (x : S16.Idx) : inTurn v x = ∑ l : Fin 16, (v l x : EReal) := by
  have e : ∀ f : Fin 16 → EReal, f 0 + f 1 + f 2 + f 3 + f 4 + f 5 + f 6 + f 7 + f 8 + f 9 + f 10 + f 11 + f 12 + f 13 + f 14 + f 15 = ∑ l : Fin 16, f l := fun f => by
    simp only [Fin.sum_univ_castSucc, Fin.sum_univ_zero, zero_add]
    rfl
  exact e fun l => v l x

/-- The kernel's sum over a row is the sum of the row's 128 products. -/
theorem total_sum (T : ℕ → ℕ → ℕ → Ideal .f32) (j : ℕ) : total T j = ∑ n : Fin 128, prod (fun k n => T k j n) n.val := by
  have e : ∀ f : ℕ → EReal, (∑ l : Fin 16, ∑ i : Fin 8, f (l.val + 16 * i.val)) = ∑ n : Fin 128, f n.val := fun f => by
    rw [Finset.sum_comm, ← Fintype.sum_prod_type' (fun (i : Fin 8) (l : Fin 16) => f (l.val + 16 * i.val))]
    exact Fintype.sum_equiv (finProdFinEquiv (m := 8) (n := 16)) _ (fun n : Fin 128 => f n.val) fun _ => rfl
  rw [← e]
  unfold total
  rw [inTurn_sum]
  refine Finset.sum_congr rfl fun l _ => ?_
  unfold rowVec
  rw [tree_sum]
  exact Finset.sum_congr rfl fun i _ => prods_at T j i l

end Cert.Proof.RowSum
-- ==== Proof.Reference.lean ====
/-
  The reference's result at one place, at exact numbers: the sum of the row's 128 products.
-/
module

public import proofs.«01_k».proof.Proof.Pick
public import proofs.«01_k».proof.Proof.RowSum
public import proofs.«01_k».proof.Proof.Gen.ReferenceIdeal.Run
public import Idealize.ShloMosaic.Lib.IdealHost
public import Idealize.ShloMosaic.Lib.Pointwise.Reduce

@[expose] public section

set_option maxHeartbeats 1000000

noncomputable section

namespace Cert.Proof.Reference

open Idealize.ShloMosaic Cert.ReferenceIdeal Cert.ReferenceIdeal.Gen Cert.ReferenceIdeal.Value Cert.Proof.Pick Cert.Proof.RowSum

/-- A product at one place. -/
theorem mulf_at {s : Shape} {f g : FVec Ideal s .f32} {x : s.Idx} {a b : EReal} (hf : f x = a) (hg : g x = b) : mulf f g x = a * b := by
  subst hf hg
  rfl

/-- The two ways the library writes a two-axis index agree. -/
theorem ix2_same {n0 n1 : ℕ} (a : Fin n0) (b : Fin n1) : (Idealize.ShloMosaic.ix2 a b : (⟨2, ![n0, n1]⟩ : Shape).Idx) = ValueIdx.ix2 a b :=
  funext fun x => match x with
    | ⟨0, _⟩ => rfl
    | ⟨1, _⟩ => rfl

variable (V0 : Valuation τ sig (Elt Ideal))

/-- The index arrays. -/
abbrev v0 : IVec S16384 32 := V0 (Proc.devRef .tc main_arg0)
abbrev v1 : IVec S16384 32 := V0 (Proc.devRef .tc main_arg1)
abbrev v2 : IVec S16384 32 := V0 (Proc.devRef .tc main_arg2)
abbrev v3 : IVec S16384 32 := V0 (Proc.devRef .tc main_arg3)
abbrev v4 : IVec S16384 32 := V0 (Proc.devRef .tc main_arg4)
abbrev v5 : IVec S16384 32 := V0 (Proc.devRef .tc main_arg5)
abbrev v6 : IVec S16384 32 := V0 (Proc.devRef .tc main_arg6)
/-- The entities' table, and the relations'. -/
abbrev tE : S100000x128.Idx → EReal := V0 (Proc.devRef .tc main_arg7)
abbrev tR : S1000x128.Idx → EReal := V0 (Proc.devRef .tc main_arg8)

/-- The reference's result. -/
abbrev out : S16384.Idx → EReal := val1 V0 (Proc.devRef .tc main_v28)

/-- An entity's row at one place. -/
theorem entity_at {v : IVec S16384 32} (h : ∀ i, (v i).toNat < 100000) (z : S_.Idx → EReal) (r : Fin 16384) (l : Fin 128) :
    looked gather_S100000x128_S16384x1_S16384x128_1_0_n_n_0_1_1128 (tE V0) v 100000#32 99999#32 z (ValueIdx.ix2 r l) = tE V0 (ValueIdx.ix2 ⟨(v (ValueIdx.ix1 r)).toNat, h _⟩ l) :=
  looked_at (N := 100000) gather_S100000x128_S16384x1_S16384x128_1_0_n_n_0_1_1128 rfl rfl rfl rfl rfl (tE V0) v 100000#32 99999#32 z (by decide) (by decide) h r l

/-- The reference's result at one place, from the seven rows it is made of. -/
theorem out_at (r : Fin 16384) (T : ℕ → ℕ → EReal)
    (h0 : ∀ i, (v0 V0 i).toNat < 1000) (h1 : ∀ i, (v1 V0 i).toNat < 100000) (h2 : ∀ i, (v2 V0 i).toNat < 100000) (h3 : ∀ i, (v3 V0 i).toNat < 100000)
    (h4 : ∀ i, (v4 V0 i).toNat < 100000) (h5 : ∀ i, (v5 V0 i).toNat < 100000) (h6 : ∀ i, (v6 V0 i).toNat < 100000)
    (t0 : ∀ l : Fin 128, tR V0 (ValueIdx.ix2 ⟨(v0 V0 (ValueIdx.ix1 r)).toNat, h0 _⟩ l) = T 0 l.val)
    (t1 : ∀ l : Fin 128, tE V0 (ValueIdx.ix2 ⟨(v1 V0 (ValueIdx.ix1 r)).toNat, h1 _⟩ l) = T 1 l.val)
    (t2 : ∀ l : Fin 128, tE V0 (ValueIdx.ix2 ⟨(v2 V0 (ValueIdx.ix1 r)).toNat, h2 _⟩ l) = T 2 l.val)
    (t3 : ∀ l : Fin 128, tE V0 (ValueIdx.ix2 ⟨(v3 V0 (ValueIdx.ix1 r)).toNat, h3 _⟩ l) = T 3 l.val)
    (t4 : ∀ l : Fin 128, tE V0 (ValueIdx.ix2 ⟨(v4 V0 (ValueIdx.ix1 r)).toNat, h4 _⟩ l) = T 4 l.val)
    (t5 : ∀ l : Fin 128, tE V0 (ValueIdx.ix2 ⟨(v5 V0 (ValueIdx.ix1 r)).toNat, h5 _⟩ l) = T 5 l.val)
    (t6 : ∀ l : Fin 128, tE V0 (ValueIdx.ix2 ⟨(v6 V0 (ValueIdx.ix1 r)).toNat, h6 _⟩ l) = T 6 l.val) :
    out V0 (ValueIdx.ix1 r) = ∑ n : Fin 128, prod T n.val := by
  unfold out
  rw [val1_main_v28, ValueIdx.hostReduceAdd_apply, Ideal.hostReduceAdd_r2_a1]
  have hz : (constant (F := Ideal) S_ .f32 0x00000000#32 (Shape.Idx.first h_S_) : EReal) = 0 := Ideal.ofBits_zero_f32
  rw [hz, zero_add]
  refine Finset.sum_congr rfl fun n _ => ?_
  rw [ix2_same]
  have hn : n.val % 128 = n.val := Nat.mod_eq_of_lt n.isLt
  unfold prod
  rw [hn]
  exact mulf_at (mulf_at (mulf_at (mulf_at (mulf_at (mulf_at
      ((looked_at (N := 1000) gather_S1000x128_S16384x1_S16384x128_1_0_n_n_0_1_1128 rfl rfl rfl rfl rfl (tR V0) (v0 V0) 1000#32 999#32 _ (by decide) (by decide) h0 r n).trans (t0 n))
      ((entity_at V0 h1 _ r n).trans (t1 n)))
      ((shifted_at rfl (res_main_v2 V0) _ _ _ r n).trans ((entity_at V0 h2 _ r _).trans (t2 _))))
      ((shifted_at rfl (res_main_v6 V0) _ _ _ r n).trans ((entity_at V0 h3 _ r _).trans (t3 _))))
      ((shifted_at rfl (res_main_v10 V0) _ _ _ r n).trans ((entity_at V0 h4 _ r _).trans (t4 _))))
      ((shifted_at rfl (res_main_v14 V0) _ _ _ r n).trans ((entity_at V0 h5 _ r _).trans (t5 _))))
      ((shifted_at rfl (res_main_v18 V0) _ _ _ r n).trans ((entity_at V0 h6 _ r _).trans (t6 _)))

end Cert.Proof.Reference
-- ==== Proof.Value.lean ====
/-
  The kernel's result is the reference's, at exact numbers.
-/
module

public import proofs.«01_k».proof.Proof.Frames
public import proofs.«01_k».proof.Proof.Reference

@[expose] public section

set_option maxHeartbeats 1000000

noncomputable section

namespace Cert.Proof.Value

open Cert.KernelIdeal Cert.KernelIdeal.Gen
open Idealize.ShloMosaic Idealize.SL.Sem
open Cert.Proof.Launch Cert.Proof.Operands

variable (m : (ℓ : Loc nD τ sig) → Buf (Elt Ideal) ℓ)

/-- A table's row, at an index below the number of rows, is the row that the kernel reads. -/
theorem row_at {N : ℕ} (t : (⟨2, ![N, 128]⟩ : Shape).Idx → EReal) (w : BitVec 32) (h : w.toNat < N) (l : Fin 128) (h1 : w.toNat % N < N) (h2 : l.val % 128 < 128) :
    t (ValueIdx.ix2 ⟨w.toNat, h⟩ l) = t (Idealize.ShloMosaic.ix2 ⟨w.toNat % N, h1⟩ ⟨l.val % 128, h2⟩) := by
  have e1 : (⟨w.toNat % N, h1⟩ : Fin N) = ⟨w.toNat, h⟩ := Fin.ext (Nat.mod_eq_of_lt h)
  have e2 : (⟨l.val % 128, h2⟩ : Fin 128) = l := Fin.ext (Nat.mod_eq_of_lt l.isLt)
  rw [e1, e2, Cert.Proof.Reference.ix2_same]

/-- The two ways the library writes a one-axis index agree. -/
theorem ix1_same {n : ℕ} (a : Fin n) : (Idealize.ShloMosaic.ix1 a : (⟨1, ![n]⟩ : Shape).Idx) = ValueIdx.ix1 a :=
  funext fun x => match x with
    | ⟨0, _⟩ => rfl

/-- The row of the relations' table, as the kernel's result reads it. -/
theorem rel_row (d : Dev nD) (r : Fin 16384) (v : IVec S16384 32) (e : v = m ((d.tc : Thread nD τ).loc main_arg0)) (t : S1000x128.Idx → EReal)
    (et : t = m ((d.tc : Thread nD τ).loc main_arg8)) (h : ∀ i, (v i).toNat < 1000) (l : Fin 128) :
    t (ValueIdx.ix2 ⟨(v (ValueIdx.ix1 r)).toNat, h _⟩ l) = rowOf m d r 0 l.val := by
  subst e et
  have hi : ixAt m d 0 r = m ((d.tc : Thread nD τ).loc main_arg0) (ValueIdx.ix1 r) := congrArg (m ((d.tc : Thread nD τ).loc main_arg0)) (ix1_same r)
  unfold rowOf
  rw [if_pos rfl]
  simp only [hi]
  exact row_at (N := 1000) (relOf m d) _ _ l _ _

/-- A row of the entities' table, as the kernel's result reads it. -/
theorem ent_row (d : Dev nD) (r : Fin 16384) (k : ℕ) (hk : k ≠ 0) (v : IVec S16384 32) (e : v (ValueIdx.ix1 r) = ixAt m d k r) (t : S100000x128.Idx → EReal)
    (et : t = m ((d.tc : Thread nD τ).loc main_arg7)) (h : ∀ i, (v i).toNat < 100000) (l : Fin 128) :
    t (ValueIdx.ix2 ⟨(v (ValueIdx.ix1 r)).toNat, h _⟩ l) = rowOf m d r k l.val := by
  subst et
  unfold rowOf
  rw [if_neg hk]
  simp only [← e]
  exact row_at (N := 100000) (entOf m d) _ _ l _ _

/-- From memories that agree on the arguments, the two results are equal. -/
theorem same (m' : (ℓ : Loc Cert.ReferenceIdeal.nD Cert.ReferenceIdeal.τ Cert.ReferenceIdeal.sig) → Buf (Elt Ideal) ℓ) (d : Dev nD)
    (hp : Cert.Pre_in_range.fn (F := Ideal) (m ((d.tc : Thread nD τ).loc main_arg0)) (m ((d.tc : Thread nD τ).loc main_arg1)) (m ((d.tc : Thread nD τ).loc main_arg2))
      (m ((d.tc : Thread nD τ).loc main_arg3)) (m ((d.tc : Thread nD τ).loc main_arg4)) (m ((d.tc : Thread nD τ).loc main_arg5)) (m ((d.tc : Thread nD τ).loc main_arg6))
      (m ((d.tc : Thread nD τ).loc main_arg7)) (m ((d.tc : Thread nD τ).loc main_arg8)) = fun _ => 1#1)
    (a0 : Cert.Proof.Reference.v0 (StableHlo.launchContents m' d) = m ((d.tc : Thread nD τ).loc main_arg0))
    (a1 : Cert.Proof.Reference.v1 (StableHlo.launchContents m' d) = m ((d.tc : Thread nD τ).loc main_arg1))
    (a2 : Cert.Proof.Reference.v2 (StableHlo.launchContents m' d) = m ((d.tc : Thread nD τ).loc main_arg2))
    (a3 : Cert.Proof.Reference.v3 (StableHlo.launchContents m' d) = m ((d.tc : Thread nD τ).loc main_arg3))
    (a4 : Cert.Proof.Reference.v4 (StableHlo.launchContents m' d) = m ((d.tc : Thread nD τ).loc main_arg4))
    (a5 : Cert.Proof.Reference.v5 (StableHlo.launchContents m' d) = m ((d.tc : Thread nD τ).loc main_arg5))
    (a6 : Cert.Proof.Reference.v6 (StableHlo.launchContents m' d) = m ((d.tc : Thread nD τ).loc main_arg6))
    (a7 : Cert.Proof.Reference.tE (StableHlo.launchContents m' d) = m ((d.tc : Thread nD τ).loc main_arg7))
    (a8 : Cert.Proof.Reference.tR (StableHlo.launchContents m' d) = m ((d.tc : Thread nD τ).loc main_arg8)) :
    Cert.Proof.Reference.out (StableHlo.launchContents m' d) = res m d := by
  funext i
  obtain ⟨r, rfl⟩ : ∃ r : Fin 16384, i = ValueIdx.ix1 r := ⟨i 0, funext fun x => match x with | ⟨0, _⟩ => rfl⟩
  have hb := Cert.Proof.Range.bounds hp
  have at1 {v : IVec S16384 32} {k : ℕ} {w : IVec S16384 32} (a : v = w) (h : w (Idealize.ShloMosaic.ix1 r) = ixAt m d k r) : v (ValueIdx.ix1 r) = ixAt m d k r :=
    (congrFun a _).trans ((congrArg w (ix1_same r).symm).trans h)
  have b0 : ∀ i, (Cert.Proof.Reference.v0 (StableHlo.launchContents m' d) i).toNat < 1000 := fun i => (congrArg BitVec.toNat (congrFun a0 i)).trans_lt (hb i).1
  have b1 : ∀ i, (Cert.Proof.Reference.v1 (StableHlo.launchContents m' d) i).toNat < 100000 := fun i => (congrArg BitVec.toNat (congrFun a1 i)).trans_lt (hb i).2.1
  have b2 : ∀ i, (Cert.Proof.Reference.v2 (StableHlo.launchContents m' d) i).toNat < 100000 := fun i => (congrArg BitVec.toNat (congrFun a2 i)).trans_lt (hb i).2.2.1
  have b3 : ∀ i, (Cert.Proof.Reference.v3 (StableHlo.launchContents m' d) i).toNat < 100000 := fun i => (congrArg BitVec.toNat (congrFun a3 i)).trans_lt (hb i).2.2.2.1
  have b4 : ∀ i, (Cert.Proof.Reference.v4 (StableHlo.launchContents m' d) i).toNat < 100000 := fun i => (congrArg BitVec.toNat (congrFun a4 i)).trans_lt (hb i).2.2.2.2.1
  have b5 : ∀ i, (Cert.Proof.Reference.v5 (StableHlo.launchContents m' d) i).toNat < 100000 := fun i => (congrArg BitVec.toNat (congrFun a5 i)).trans_lt (hb i).2.2.2.2.2.1
  have b6 : ∀ i, (Cert.Proof.Reference.v6 (StableHlo.launchContents m' d) i).toNat < 100000 := fun i => (congrArg BitVec.toNat (congrFun a6 i)).trans_lt (hb i).2.2.2.2.2.2
  refine (Cert.Proof.Reference.out_at (StableHlo.launchContents m' d) r (fun k l => rowOf m d r k l) b0 b1 b2 b3 b4 b5 b6
    (rel_row m d r _ a0 _ a8 b0)
    (ent_row m d r 1 (by decide) _ (at1 a1 rfl) _ a7 b1)
    (ent_row m d r 2 (by decide) _ (at1 a2 rfl) _ a7 b2)
    (ent_row m d r 3 (by decide) _ (at1 a3 rfl) _ a7 b3)
    (ent_row m d r 4 (by decide) _ (at1 a4 rfl) _ a7 b4)
    (ent_row m d r 5 (by decide) _ (at1 a5 rfl) _ a7 b5)
    (ent_row m d r 6 (by decide) _ (at1 a6 rfl) _ a7 b6)).trans ?_
  exact (Cert.Proof.RowSum.total_sum (fun k _ l => rowOf m d r k l) 0).symm

/-- The kernel and the reference end with equal results. -/
theorem algebraic : Cert.algebraic_KernelIdeal_ReferenceIdeal := fun m g m' g' hpre ha =>
  ⟨fun c => res m c,
    (θ_run Cert.KernelIdeal.defs _ _).mono (fun _ h c => h.1 c) (run_main (F := Ideal) m g (Cert.Proof.Frames.ok_of_pre m hpre)),
    (θ_run Cert.ReferenceIdeal.defs _ _).mono (fun _ h c =>
      ⟨((h c).1.trans (Cert.ReferenceIdeal.Value.val1_main_v28 (StableHlo.launchContents m' c)).symm).trans
          (same m m' c (hpre c) (ha c).1 (ha c).2.1 (ha c).2.2.1 (ha c).2.2.2.1 (ha c).2.2.2.2.1 (ha c).2.2.2.2.2.1 (ha c).2.2.2.2.2.2.1
            (ha c).2.2.2.2.2.2.2.1 (ha c).2.2.2.2.2.2.2.2),
        (h c).2⟩) (Cert.ReferenceIdeal.Value.run (F := Ideal) m' g')⟩

end Cert.Proof.Value
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.RefFrame
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_in_range.Gen.facts,
    Frames.frame_kernel, Frames.frame_ideal, RefFrame.frame_ref, RefFrame.frame_ref_pre, trivial, Value.algebraic⟩

end Cert.Proof

end
